-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2)
      ∧ r.2.mem ((c.tc : Thread Cert.Kernel23.nD Cert.Kernel23.τ).loc Cert.Kernel23.main_arg3) = m ((c.tc : Thread Cert.Kernel23.nD Cert.Kernel23.τ).loc Cert.Kernel23.main_arg3))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
      ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2)
      ∧ r.2.mem ((c.tc : Thread Cert.Reference23Ideal.nD Cert.Reference23Ideal.τ).loc Cert.Reference23Ideal.main_arg3) = m ((c.tc : Thread Cert.Reference23Ideal.nD Cert.Reference23Ideal.τ).loc Cert.Reference23Ideal.main_arg3))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2)
      ∧ r.2.mem ((c.tc : Thread Cert.Kernel24.nD Cert.Kernel24.τ).loc Cert.Kernel24.main_arg3) = m ((c.tc : Thread Cert.Kernel24.nD Cert.Kernel24.τ).loc Cert.Kernel24.main_arg3)
      ∧ r.2.mem ((c.tc : Thread Cert.Kernel24.nD Cert.Kernel24.τ).loc Cert.Kernel24.main_arg4) = m ((c.tc : Thread Cert.Kernel24.nD Cert.Kernel24.τ).loc Cert.Kernel24.main_arg4)
      ∧ r.2.mem ((c.tc : Thread Cert.Kernel24.nD Cert.Kernel24.τ).loc Cert.Kernel24.main_arg5) = m ((c.tc : Thread Cert.Kernel24.nD Cert.Kernel24.τ).loc Cert.Kernel24.main_arg5))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
      ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3)
      ∧ r.2.mem ((c.tc : Thread Cert.Kernel24Ideal.nD Cert.Kernel24Ideal.τ).loc Cert.Kernel24Ideal.main_arg4) = m ((c.tc : Thread Cert.Kernel24Ideal.nD Cert.Kernel24Ideal.τ).loc Cert.Kernel24Ideal.main_arg4)
      ∧ r.2.mem ((c.tc : Thread Cert.Kernel24Ideal.nD Cert.Kernel24Ideal.τ).loc Cert.Kernel24Ideal.main_arg5) = m ((c.tc : Thread Cert.Kernel24Ideal.nD Cert.Kernel24Ideal.τ).loc Cert.Kernel24Ideal.main_arg5))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2)
      ∧ r.2.mem ((c.tc : Thread Cert.Reference24Ideal.nD Cert.Reference24Ideal.τ).loc Cert.Reference24Ideal.main_arg3) = m ((c.tc : Thread Cert.Reference24Ideal.nD Cert.Reference24Ideal.τ).loc Cert.Reference24Ideal.main_arg3)
      ∧ r.2.mem ((c.tc : Thread Cert.Reference24Ideal.nD Cert.Reference24Ideal.τ).loc Cert.Reference24Ideal.main_arg4) = m ((c.tc : Thread Cert.Reference24Ideal.nD Cert.Reference24Ideal.τ).loc Cert.Reference24Ideal.main_arg4)
      ∧ r.2.mem ((c.tc : Thread Cert.Reference24Ideal.nD Cert.Reference24Ideal.τ).loc Cert.Reference24Ideal.main_arg5) = m ((c.tc : Thread Cert.Reference24Ideal.nD Cert.Reference24Ideal.τ).loc Cert.Reference24Ideal.main_arg5))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2)
      ∧ r.2.mem ((c.tc : Thread Cert.Kernel25.nD Cert.Kernel25.τ).loc Cert.Kernel25.main_arg3) = m ((c.tc : Thread Cert.Kernel25.nD Cert.Kernel25.τ).loc Cert.Kernel25.main_arg3)
      ∧ r.2.mem ((c.tc : Thread Cert.Kernel25.nD Cert.Kernel25.τ).loc Cert.Kernel25.main_arg4) = m ((c.tc : Thread Cert.Kernel25.nD Cert.Kernel25.τ).loc Cert.Kernel25.main_arg4)
      ∧ r.2.mem ((c.tc : Thread Cert.Kernel25.nD Cert.Kernel25.τ).loc Cert.Kernel25.main_arg5) = m ((c.tc : Thread Cert.Kernel25.nD Cert.Kernel25.τ).loc Cert.Kernel25.main_arg5))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
      ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3)
      ∧ r.2.mem ((c.tc : Thread Cert.Kernel25Ideal.nD Cert.Kernel25Ideal.τ).loc Cert.Kernel25Ideal.main_arg4) = m ((c.tc : Thread Cert.Kernel25Ideal.nD Cert.Kernel25Ideal.τ).loc Cert.Kernel25Ideal.main_arg4)
      ∧ r.2.mem ((c.tc : Thread Cert.Kernel25Ideal.nD Cert.Kernel25Ideal.τ).loc Cert.Kernel25Ideal.main_arg5) = m ((c.tc : Thread Cert.Kernel25Ideal.nD Cert.Kernel25Ideal.τ).loc Cert.Kernel25Ideal.main_arg5))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2)
      ∧ r.2.mem ((c.tc : Thread Cert.Reference25Ideal.nD Cert.Reference25Ideal.τ).loc Cert.Reference25Ideal.main_arg3) = m ((c.tc : Thread Cert.Reference25Ideal.nD Cert.Reference25Ideal.τ).loc Cert.Reference25Ideal.main_arg3)
      ∧ r.2.mem ((c.tc : Thread Cert.Reference25Ideal.nD Cert.Reference25Ideal.τ).loc Cert.Reference25Ideal.main_arg4) = m ((c.tc : Thread Cert.Reference25Ideal.nD Cert.Reference25Ideal.τ).loc Cert.Reference25Ideal.main_arg4)
      ∧ r.2.mem ((c.tc : Thread Cert.Reference25Ideal.nD Cert.Reference25Ideal.τ).loc Cert.Reference25Ideal.main_arg5) = m ((c.tc : Thread Cert.Reference25Ideal.nD Cert.Reference25Ideal.τ).loc Cert.Reference25Ideal.main_arg5))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1)
      ∧ r.2.mem ((c.tc : Thread Cert.Kernel26.nD Cert.Kernel26.τ).loc Cert.Kernel26.main_arg2) = m ((c.tc : Thread Cert.Kernel26.nD Cert.Kernel26.τ).loc Cert.Kernel26.main_arg2)
      ∧ r.2.mem ((c.tc : Thread Cert.Kernel26.nD Cert.Kernel26.τ).loc Cert.Kernel26.main_arg3) = m ((c.tc : Thread Cert.Kernel26.nD Cert.Kernel26.τ).loc Cert.Kernel26.main_arg3)
      ∧ r.2.mem ((c.tc : Thread Cert.Kernel26.nD Cert.Kernel26.τ).loc Cert.Kernel26.main_arg4) = m ((c.tc : Thread Cert.Kernel26.nD Cert.Kernel26.τ).loc Cert.Kernel26.main_arg4)
      ∧ r.2.mem ((c.tc : Thread Cert.Kernel26.nD Cert.Kernel26.τ).loc Cert.Kernel26.main_arg5) = m ((c.tc : Thread Cert.Kernel26.nD Cert.Kernel26.τ).loc Cert.Kernel26.main_arg5))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
      ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
      ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3)
      ∧ r.2.mem ((c.tc : Thread Cert.Kernel26Ideal.nD Cert.Kernel26Ideal.τ).loc Cert.Kernel26Ideal.main_arg4) = m ((c.tc : Thread Cert.Kernel26Ideal.nD Cert.Kernel26Ideal.τ).loc Cert.Kernel26Ideal.main_arg4)
      ∧ r.2.mem ((c.tc : Thread Cert.Kernel26Ideal.nD Cert.Kernel26Ideal.τ).loc Cert.Kernel26Ideal.main_arg5) = m ((c.tc : Thread Cert.Kernel26Ideal.nD Cert.Kernel26Ideal.τ).loc Cert.Kernel26Ideal.main_arg5))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1)
      ∧ r.2.mem ((c.tc : Thread Cert.Reference26Ideal.nD Cert.Reference26Ideal.τ).loc Cert.Reference26Ideal.main_arg2) = m ((c.tc : Thread Cert.Reference26Ideal.nD Cert.Reference26Ideal.τ).loc Cert.Reference26Ideal.main_arg2)
      ∧ r.2.mem ((c.tc : Thread Cert.Reference26Ideal.nD Cert.Reference26Ideal.τ).loc Cert.Reference26Ideal.main_arg3) = m ((c.tc : Thread Cert.Reference26Ideal.nD Cert.Reference26Ideal.τ).loc Cert.Reference26Ideal.main_arg3)
      ∧ r.2.mem ((c.tc : Thread Cert.Reference26Ideal.nD Cert.Reference26Ideal.τ).loc Cert.Reference26Ideal.main_arg4) = m ((c.tc : Thread Cert.Reference26Ideal.nD Cert.Reference26Ideal.τ).loc Cert.Reference26Ideal.main_arg4)
      ∧ r.2.mem ((c.tc : Thread Cert.Reference26Ideal.nD Cert.Reference26Ideal.τ).loc Cert.Reference26Ideal.main_arg5) = m ((c.tc : Thread Cert.Reference26Ideal.nD Cert.Reference26Ideal.τ).loc Cert.Reference26Ideal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v243_0)) (v1 : (c : Dev Cert.KernelIdeal.nD) → Buf (Elt Ideal) ((c.tc : Thread Cert.KernelIdeal.nD Cert.KernelIdeal.τ).loc Cert.KernelIdeal.main_v243_1)) (v2 : (c : Dev Cert.KernelIdeal.nD) → Buf (Elt Ideal) ((c.tc : Thread Cert.KernelIdeal.nD Cert.KernelIdeal.τ).loc Cert.KernelIdeal.main_v243_2)) (v3 : (c : Dev Cert.KernelIdeal.nD) → Buf (Elt Ideal) ((c.tc : Thread Cert.KernelIdeal.nD Cert.KernelIdeal.τ).loc Cert.KernelIdeal.main_v243_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v243_0) = v0 c
          ∧ r.2.mem ((c.tc : Thread Cert.KernelIdeal.nD Cert.KernelIdeal.τ).loc Cert.KernelIdeal.main_v243_1) = v1 c
          ∧ r.2.mem ((c.tc : Thread Cert.KernelIdeal.nD Cert.KernelIdeal.τ).loc Cert.KernelIdeal.main_v243_2) = v2 c
          ∧ r.2.mem ((c.tc : Thread Cert.KernelIdeal.nD Cert.KernelIdeal.τ).loc Cert.KernelIdeal.main_v243_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v450) = v0 c
          ∧ r.2.mem ((c.tc : Thread Cert.ReferenceIdeal.nD Cert.ReferenceIdeal.τ).loc Cert.ReferenceIdeal.main_v452) = v1 c
          ∧ r.2.mem ((c.tc : Thread Cert.ReferenceIdeal.nD Cert.ReferenceIdeal.τ).loc Cert.ReferenceIdeal.main_v454) = v2 c
          ∧ r.2.mem ((c.tc : Thread Cert.ReferenceIdeal.nD Cert.ReferenceIdeal.τ).loc Cert.ReferenceIdeal.main_v456) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v2) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v5) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v2) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v5) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v2) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v1) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v5) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v1) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v2) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v2) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v5) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v5)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v5) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v4) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal_on_rows_written [hKernel11Ideal : Cert.Kernel11Ideal.Facts] [hReference11Ideal : Cert.Reference11Ideal.Facts] [hOn_rows_written : Cert.On_rows_written.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v2)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          (∀ i : (⟨3, ![2, 4104, 512]⟩ : Shape).Idx, (Cert.On_rows_written.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1))) i = 1#1 → r.2.mem ((c.tc : Thread Cert.Kernel11Ideal.nD Cert.Kernel11Ideal.τ).loc Cert.Kernel11Ideal.main_v2) i = v0 c i)
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          (∀ i : (⟨3, ![2, 4104, 512]⟩ : Shape).Idx, (Cert.On_rows_written.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1))) i = 1#1 → r.2.mem ((c.tc : Thread Cert.Reference11Ideal.nD Cert.Reference11Ideal.τ).loc Cert.Reference11Ideal.main_v7) i = v0 c i)
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)) →
    ∃ (v0 : (c : Dev Cert.Kernel12Ideal.nD) → Buf (Elt Ideal) ((c.tc : Thread Cert.Kernel12Ideal.nD Cert.Kernel12Ideal.τ).loc Cert.Kernel12Ideal.main_v1)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v1) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v1) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)) →
    ∃ (v0 : (c : Dev Cert.Kernel13Ideal.nD) → Buf (Elt Ideal) ((c.tc : Thread Cert.Kernel13Ideal.nD Cert.Kernel13Ideal.τ).loc Cert.Kernel13Ideal.main_v1)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v1) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v1) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)) →
    ∃ (v0 : (c : Dev Cert.Kernel14Ideal.nD) → Buf (Elt Ideal) ((c.tc : Thread Cert.Kernel14Ideal.nD Cert.Kernel14Ideal.τ).loc Cert.Kernel14Ideal.main_v0_0)) (v1 : (c : Dev Cert.Kernel14Ideal.nD) → Buf (Elt Ideal) ((c.tc : Thread Cert.Kernel14Ideal.nD Cert.Kernel14Ideal.τ).loc Cert.Kernel14Ideal.main_v0_1)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0_0) = v0 c
          ∧ r.2.mem ((c.tc : Thread Cert.Kernel14Ideal.nD Cert.Kernel14Ideal.τ).loc Cert.Kernel14Ideal.main_v0_1) = v1 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v12) = v0 c
          ∧ r.2.mem ((c.tc : Thread Cert.Reference14Ideal.nD Cert.Reference14Ideal.τ).loc Cert.Reference14Ideal.main_v13) = v1 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_1) = v1 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v12) = v0 c
          ∧ r.2.mem ((c.tc : Thread Cert.Reference15Ideal.nD Cert.Reference15Ideal.τ).loc Cert.Reference15Ideal.main_v13) = v1 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)) →
    ∃ (v0 : (c : Dev Cert.Kernel16Ideal.nD) → Buf (Elt Ideal) ((c.tc : Thread Cert.Kernel16Ideal.nD Cert.Kernel16Ideal.τ).loc Cert.Kernel16Ideal.main_v2_0)) (v1 : (c : Dev Cert.Kernel16Ideal.nD) → Buf (Elt Ideal) ((c.tc : Thread Cert.Kernel16Ideal.nD Cert.Kernel16Ideal.τ).loc Cert.Kernel16Ideal.main_v2_1)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v2_0) = v0 c
          ∧ r.2.mem ((c.tc : Thread Cert.Kernel16Ideal.nD Cert.Kernel16Ideal.τ).loc Cert.Kernel16Ideal.main_v2_1) = v1 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v13) = v0 c
          ∧ r.2.mem ((c.tc : Thread Cert.Reference16Ideal.nD Cert.Reference16Ideal.τ).loc Cert.Reference16Ideal.main_v14) = v1 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)
      ∧ m' ((c.tc : Thread Cert.Reference23Ideal.nD Cert.Reference23Ideal.τ).loc Cert.Reference23Ideal.main_arg3) = m ((c.tc : Thread Cert.Kernel23Ideal.nD Cert.Kernel23Ideal.τ).loc Cert.Kernel23Ideal.main_arg3)) →
    ∃ (v0 : (c : Dev Cert.Kernel23Ideal.nD) → Buf (Elt Ideal) ((c.tc : Thread Cert.Kernel23Ideal.nD Cert.Kernel23Ideal.τ).loc Cert.Kernel23Ideal.main_v0_0)) (v1 : (c : Dev Cert.Kernel23Ideal.nD) → Buf (Elt Ideal) ((c.tc : Thread Cert.Kernel23Ideal.nD Cert.Kernel23Ideal.τ).loc Cert.Kernel23Ideal.main_v0_1)) (v2 : (c : Dev Cert.Kernel23Ideal.nD) → Buf (Elt Ideal) ((c.tc : Thread Cert.Kernel23Ideal.nD Cert.Kernel23Ideal.τ).loc Cert.Kernel23Ideal.main_v0_2)) (v3 : (c : Dev Cert.Kernel23Ideal.nD) → Buf (Elt Ideal) ((c.tc : Thread Cert.Kernel23Ideal.nD Cert.Kernel23Ideal.τ).loc Cert.Kernel23Ideal.main_v0_3)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0_0) = v0 c
          ∧ r.2.mem ((c.tc : Thread Cert.Kernel23Ideal.nD Cert.Kernel23Ideal.τ).loc Cert.Kernel23Ideal.main_v0_1) = v1 c
          ∧ r.2.mem ((c.tc : Thread Cert.Kernel23Ideal.nD Cert.Kernel23Ideal.τ).loc Cert.Kernel23Ideal.main_v0_2) = v2 c
          ∧ r.2.mem ((c.tc : Thread Cert.Kernel23Ideal.nD Cert.Kernel23Ideal.τ).loc Cert.Kernel23Ideal.main_v0_3) = v3 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
          ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_arg1) = v0 c
          ∧ r.2.mem ((c.tc : Thread Cert.Reference23Ideal.nD Cert.Reference23Ideal.τ).loc Cert.Reference23Ideal.main_v23) = v1 c
          ∧ r.2.mem ((c.tc : Thread Cert.Reference23Ideal.nD Cert.Reference23Ideal.τ).loc Cert.Reference23Ideal.main_v4) = v2 c
          ∧ r.2.mem ((c.tc : Thread Cert.Reference23Ideal.nD Cert.Reference23Ideal.τ).loc Cert.Reference23Ideal.main_v10) = v3 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2)
          ∧ r.2.mem ((c.tc : Thread Cert.Reference23Ideal.nD Cert.Reference23Ideal.τ).loc Cert.Reference23Ideal.main_arg3) = m' ((c.tc : Thread Cert.Reference23Ideal.nD Cert.Reference23Ideal.τ).loc Cert.Reference23Ideal.main_arg3))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)
      ∧ m' ((c.tc : Thread Cert.Reference24Ideal.nD Cert.Reference24Ideal.τ).loc Cert.Reference24Ideal.main_arg3) = m ((c.tc : Thread Cert.Kernel24Ideal.nD Cert.Kernel24Ideal.τ).loc Cert.Kernel24Ideal.main_arg3)
      ∧ m' ((c.tc : Thread Cert.Reference24Ideal.nD Cert.Reference24Ideal.τ).loc Cert.Reference24Ideal.main_arg4) = m ((c.tc : Thread Cert.Kernel24Ideal.nD Cert.Kernel24Ideal.τ).loc Cert.Kernel24Ideal.main_arg4)
      ∧ m' ((c.tc : Thread Cert.Reference24Ideal.nD Cert.Reference24Ideal.τ).loc Cert.Reference24Ideal.main_arg5) = m ((c.tc : Thread Cert.Kernel24Ideal.nD Cert.Kernel24Ideal.τ).loc Cert.Kernel24Ideal.main_arg5)) →
    ∃ (v0 : (c : Dev Cert.Kernel24Ideal.nD) → Buf (Elt Ideal) ((c.tc : Thread Cert.Kernel24Ideal.nD Cert.Kernel24Ideal.τ).loc Cert.Kernel24Ideal.main_v0_0)) (v1 : (c : Dev Cert.Kernel24Ideal.nD) → Buf (Elt Ideal) ((c.tc : Thread Cert.Kernel24Ideal.nD Cert.Kernel24Ideal.τ).loc Cert.Kernel24Ideal.main_v0_1)) (v2 : (c : Dev Cert.Kernel24Ideal.nD) → Buf (Elt Ideal) ((c.tc : Thread Cert.Kernel24Ideal.nD Cert.Kernel24Ideal.τ).loc Cert.Kernel24Ideal.main_v0_2)) (v3 : (c : Dev Cert.Kernel24Ideal.nD) → Buf (Elt Ideal) ((c.tc : Thread Cert.Kernel24Ideal.nD Cert.Kernel24Ideal.τ).loc Cert.Kernel24Ideal.main_v0_3)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0_0) = v0 c
          ∧ r.2.mem ((c.tc : Thread Cert.Kernel24Ideal.nD Cert.Kernel24Ideal.τ).loc Cert.Kernel24Ideal.main_v0_1) = v1 c
          ∧ r.2.mem ((c.tc : Thread Cert.Kernel24Ideal.nD Cert.Kernel24Ideal.τ).loc Cert.Kernel24Ideal.main_v0_2) = v2 c
          ∧ r.2.mem ((c.tc : Thread Cert.Kernel24Ideal.nD Cert.Kernel24Ideal.τ).loc Cert.Kernel24Ideal.main_v0_3) = v3 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
          ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3)
          ∧ r.2.mem ((c.tc : Thread Cert.Kernel24Ideal.nD Cert.Kernel24Ideal.τ).loc Cert.Kernel24Ideal.main_arg4) = m ((c.tc : Thread Cert.Kernel24Ideal.nD Cert.Kernel24Ideal.τ).loc Cert.Kernel24Ideal.main_arg4)
          ∧ r.2.mem ((c.tc : Thread Cert.Kernel24Ideal.nD Cert.Kernel24Ideal.τ).loc Cert.Kernel24Ideal.main_arg5) = m ((c.tc : Thread Cert.Kernel24Ideal.nD Cert.Kernel24Ideal.τ).loc Cert.Kernel24Ideal.main_arg5))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v7) = v0 c
          ∧ r.2.mem ((c.tc : Thread Cert.Reference24Ideal.nD Cert.Reference24Ideal.τ).loc Cert.Reference24Ideal.main_v31) = v1 c
          ∧ r.2.mem ((c.tc : Thread Cert.Reference24Ideal.nD Cert.Reference24Ideal.τ).loc Cert.Reference24Ideal.main_v12) = v2 c
          ∧ r.2.mem ((c.tc : Thread Cert.Reference24Ideal.nD Cert.Reference24Ideal.τ).loc Cert.Reference24Ideal.main_v18) = v3 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2)
          ∧ r.2.mem ((c.tc : Thread Cert.Reference24Ideal.nD Cert.Reference24Ideal.τ).loc Cert.Reference24Ideal.main_arg3) = m' ((c.tc : Thread Cert.Reference24Ideal.nD Cert.Reference24Ideal.τ).loc Cert.Reference24Ideal.main_arg3)
          ∧ r.2.mem ((c.tc : Thread Cert.Reference24Ideal.nD Cert.Reference24Ideal.τ).loc Cert.Reference24Ideal.main_arg4) = m' ((c.tc : Thread Cert.Reference24Ideal.nD Cert.Reference24Ideal.τ).loc Cert.Reference24Ideal.main_arg4)
          ∧ r.2.mem ((c.tc : Thread Cert.Reference24Ideal.nD Cert.Reference24Ideal.τ).loc Cert.Reference24Ideal.main_arg5) = m' ((c.tc : Thread Cert.Reference24Ideal.nD Cert.Reference24Ideal.τ).loc Cert.Reference24Ideal.main_arg5))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)
      ∧ m' ((c.tc : Thread Cert.Reference25Ideal.nD Cert.Reference25Ideal.τ).loc Cert.Reference25Ideal.main_arg3) = m ((c.tc : Thread Cert.Kernel25Ideal.nD Cert.Kernel25Ideal.τ).loc Cert.Kernel25Ideal.main_arg3)
      ∧ m' ((c.tc : Thread Cert.Reference25Ideal.nD Cert.Reference25Ideal.τ).loc Cert.Reference25Ideal.main_arg4) = m ((c.tc : Thread Cert.Kernel25Ideal.nD Cert.Kernel25Ideal.τ).loc Cert.Kernel25Ideal.main_arg4)
      ∧ m' ((c.tc : Thread Cert.Reference25Ideal.nD Cert.Reference25Ideal.τ).loc Cert.Reference25Ideal.main_arg5) = m ((c.tc : Thread Cert.Kernel25Ideal.nD Cert.Kernel25Ideal.τ).loc Cert.Kernel25Ideal.main_arg5)) →
    ∃ (v0 : (c : Dev Cert.Kernel25Ideal.nD) → Buf (Elt Ideal) ((c.tc : Thread Cert.Kernel25Ideal.nD Cert.Kernel25Ideal.τ).loc Cert.Kernel25Ideal.main_v0_0)) (v1 : (c : Dev Cert.Kernel25Ideal.nD) → Buf (Elt Ideal) ((c.tc : Thread Cert.Kernel25Ideal.nD Cert.Kernel25Ideal.τ).loc Cert.Kernel25Ideal.main_v0_1)) (v2 : (c : Dev Cert.Kernel25Ideal.nD) → Buf (Elt Ideal) ((c.tc : Thread Cert.Kernel25Ideal.nD Cert.Kernel25Ideal.τ).loc Cert.Kernel25Ideal.main_v0_2)) (v3 : (c : Dev Cert.Kernel25Ideal.nD) → Buf (Elt Ideal) ((c.tc : Thread Cert.Kernel25Ideal.nD Cert.Kernel25Ideal.τ).loc Cert.Kernel25Ideal.main_v0_3)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0_0) = v0 c
          ∧ r.2.mem ((c.tc : Thread Cert.Kernel25Ideal.nD Cert.Kernel25Ideal.τ).loc Cert.Kernel25Ideal.main_v0_1) = v1 c
          ∧ r.2.mem ((c.tc : Thread Cert.Kernel25Ideal.nD Cert.Kernel25Ideal.τ).loc Cert.Kernel25Ideal.main_v0_2) = v2 c
          ∧ r.2.mem ((c.tc : Thread Cert.Kernel25Ideal.nD Cert.Kernel25Ideal.τ).loc Cert.Kernel25Ideal.main_v0_3) = v3 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
          ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3)
          ∧ r.2.mem ((c.tc : Thread Cert.Kernel25Ideal.nD Cert.Kernel25Ideal.τ).loc Cert.Kernel25Ideal.main_arg4) = m ((c.tc : Thread Cert.Kernel25Ideal.nD Cert.Kernel25Ideal.τ).loc Cert.Kernel25Ideal.main_arg4)
          ∧ r.2.mem ((c.tc : Thread Cert.Kernel25Ideal.nD Cert.Kernel25Ideal.τ).loc Cert.Kernel25Ideal.main_arg5) = m ((c.tc : Thread Cert.Kernel25Ideal.nD Cert.Kernel25Ideal.τ).loc Cert.Kernel25Ideal.main_arg5))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v7) = v0 c
          ∧ r.2.mem ((c.tc : Thread Cert.Reference25Ideal.nD Cert.Reference25Ideal.τ).loc Cert.Reference25Ideal.main_v31) = v1 c
          ∧ r.2.mem ((c.tc : Thread Cert.Reference25Ideal.nD Cert.Reference25Ideal.τ).loc Cert.Reference25Ideal.main_v12) = v2 c
          ∧ r.2.mem ((c.tc : Thread Cert.Reference25Ideal.nD Cert.Reference25Ideal.τ).loc Cert.Reference25Ideal.main_v18) = v3 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2)
          ∧ r.2.mem ((c.tc : Thread Cert.Reference25Ideal.nD Cert.Reference25Ideal.τ).loc Cert.Reference25Ideal.main_arg3) = m' ((c.tc : Thread Cert.Reference25Ideal.nD Cert.Reference25Ideal.τ).loc Cert.Reference25Ideal.main_arg3)
          ∧ r.2.mem ((c.tc : Thread Cert.Reference25Ideal.nD Cert.Reference25Ideal.τ).loc Cert.Reference25Ideal.main_arg4) = m' ((c.tc : Thread Cert.Reference25Ideal.nD Cert.Reference25Ideal.τ).loc Cert.Reference25Ideal.main_arg4)
          ∧ r.2.mem ((c.tc : Thread Cert.Reference25Ideal.nD Cert.Reference25Ideal.τ).loc Cert.Reference25Ideal.main_arg5) = m' ((c.tc : Thread Cert.Reference25Ideal.nD Cert.Reference25Ideal.τ).loc Cert.Reference25Ideal.main_arg5))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)
      ∧ m' ((c.tc : Thread Cert.Reference26Ideal.nD Cert.Reference26Ideal.τ).loc Cert.Reference26Ideal.main_arg2) = m ((c.tc : Thread Cert.Kernel26Ideal.nD Cert.Kernel26Ideal.τ).loc Cert.Kernel26Ideal.main_arg2)
      ∧ m' ((c.tc : Thread Cert.Reference26Ideal.nD Cert.Reference26Ideal.τ).loc Cert.Reference26Ideal.main_arg3) = m ((c.tc : Thread Cert.Kernel26Ideal.nD Cert.Kernel26Ideal.τ).loc Cert.Kernel26Ideal.main_arg3)
      ∧ m' ((c.tc : Thread Cert.Reference26Ideal.nD Cert.Reference26Ideal.τ).loc Cert.Reference26Ideal.main_arg4) = m ((c.tc : Thread Cert.Kernel26Ideal.nD Cert.Kernel26Ideal.τ).loc Cert.Kernel26Ideal.main_arg4)
      ∧ m' ((c.tc : Thread Cert.Reference26Ideal.nD Cert.Reference26Ideal.τ).loc Cert.Reference26Ideal.main_arg5) = m ((c.tc : Thread Cert.Kernel26Ideal.nD Cert.Kernel26Ideal.τ).loc Cert.Kernel26Ideal.main_arg5)) →
    ∃ (v0 : (c : Dev Cert.Kernel26Ideal.nD) → Buf (Elt Ideal) ((c.tc : Thread Cert.Kernel26Ideal.nD Cert.Kernel26Ideal.τ).loc Cert.Kernel26Ideal.main_v0_0)) (v1 : (c : Dev Cert.Kernel26Ideal.nD) → Buf (Elt Ideal) ((c.tc : Thread Cert.Kernel26Ideal.nD Cert.Kernel26Ideal.τ).loc Cert.Kernel26Ideal.main_v0_1)) (v2 : (c : Dev Cert.Kernel26Ideal.nD) → Buf (Elt Ideal) ((c.tc : Thread Cert.Kernel26Ideal.nD Cert.Kernel26Ideal.τ).loc Cert.Kernel26Ideal.main_v0_2)) (v3 : (c : Dev Cert.Kernel26Ideal.nD) → Buf (Elt Ideal) ((c.tc : Thread Cert.Kernel26Ideal.nD Cert.Kernel26Ideal.τ).loc Cert.Kernel26Ideal.main_v0_3)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v0_0) = v0 c
          ∧ r.2.mem ((c.tc : Thread Cert.Kernel26Ideal.nD Cert.Kernel26Ideal.τ).loc Cert.Kernel26Ideal.main_v0_1) = v1 c
          ∧ r.2.mem ((c.tc : Thread Cert.Kernel26Ideal.nD Cert.Kernel26Ideal.τ).loc Cert.Kernel26Ideal.main_v0_2) = v2 c
          ∧ r.2.mem ((c.tc : Thread Cert.Kernel26Ideal.nD Cert.Kernel26Ideal.τ).loc Cert.Kernel26Ideal.main_v0_3) = v3 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
          ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
          ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3)
          ∧ r.2.mem ((c.tc : Thread Cert.Kernel26Ideal.nD Cert.Kernel26Ideal.τ).loc Cert.Kernel26Ideal.main_arg4) = m ((c.tc : Thread Cert.Kernel26Ideal.nD Cert.Kernel26Ideal.τ).loc Cert.Kernel26Ideal.main_arg4)
          ∧ r.2.mem ((c.tc : Thread Cert.Kernel26Ideal.nD Cert.Kernel26Ideal.τ).loc Cert.Kernel26Ideal.main_arg5) = m ((c.tc : Thread Cert.Kernel26Ideal.nD Cert.Kernel26Ideal.τ).loc Cert.Kernel26Ideal.main_arg5))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v7) = v0 c
          ∧ r.2.mem ((c.tc : Thread Cert.Reference26Ideal.nD Cert.Reference26Ideal.τ).loc Cert.Reference26Ideal.main_v31) = v1 c
          ∧ r.2.mem ((c.tc : Thread Cert.Reference26Ideal.nD Cert.Reference26Ideal.τ).loc Cert.Reference26Ideal.main_v12) = v2 c
          ∧ r.2.mem ((c.tc : Thread Cert.Reference26Ideal.nD Cert.Reference26Ideal.τ).loc Cert.Reference26Ideal.main_v18) = v3 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1)
          ∧ r.2.mem ((c.tc : Thread Cert.Reference26Ideal.nD Cert.Reference26Ideal.τ).loc Cert.Reference26Ideal.main_arg2) = m' ((c.tc : Thread Cert.Reference26Ideal.nD Cert.Reference26Ideal.τ).loc Cert.Reference26Ideal.main_arg2)
          ∧ r.2.mem ((c.tc : Thread Cert.Reference26Ideal.nD Cert.Reference26Ideal.τ).loc Cert.Reference26Ideal.main_arg3) = m' ((c.tc : Thread Cert.Reference26Ideal.nD Cert.Reference26Ideal.τ).loc Cert.Reference26Ideal.main_arg3)
          ∧ r.2.mem ((c.tc : Thread Cert.Reference26Ideal.nD Cert.Reference26Ideal.τ).loc Cert.Reference26Ideal.main_arg4) = m' ((c.tc : Thread Cert.Reference26Ideal.nD Cert.Reference26Ideal.τ).loc Cert.Reference26Ideal.main_arg4)
          ∧ r.2.mem ((c.tc : Thread Cert.Reference26Ideal.nD Cert.Reference26Ideal.τ).loc Cert.Reference26Ideal.main_arg5) = m' ((c.tc : Thread Cert.Reference26Ideal.nD Cert.Reference26Ideal.τ).loc Cert.Reference26Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hOn_rows_written : Cert.On_rows_written.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal_on_rows_written (hKernel11Ideal := hKernel11Ideal) (hReference11Ideal := hReference11Ideal) (hOn_rows_written := hOn_rows_written)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
-- ==== On_rows_written.lean ====
abbrev S2048x4096 : Shape := ⟨2, ![2048, 4096]⟩
abbrev S2048x1024 : Shape := ⟨2, ![2048, 1024]⟩
abbrev S2x4104x512 : Shape := ⟨3, ![2, 4104, 512]⟩
abbrev S_ : Shape := ⟨0, ![]⟩

class Facts : Prop where
  bcast_S_S2x4104x512 : S_.BroadcastsInDim S2x4104x512 (![] : Fin 0 → Fin S2x4104x512.rank)

variable [Facts]

def fn {F : FTy → Type} [FloatOps F] (main_arg0 : FVec F S2048x4096 .f32) (main_arg1 : FVec F S2048x1024 .f32) : IVec S2x4104x512 1 :=
  let main_v0 : IVec S2x4104x512 32 := iotaInDim S2x4104x512 32 1
  let main_c : IVec S_ 32 := constantI S_ 32 4096#32
  let main_v1 : IVec S2x4104x512 32 := broadcastInDim S2x4104x512 ![] bcast_S_S2x4104x512 main_c
  let main_v2 : IVec S2x4104x512 1 := cmpi .slt main_v0 main_v1
  main_v2
-- ==== Kernel.lean ====
abbrev S2048x4096 : Shape := ⟨2, ![2048, 4096]⟩
abbrev S2048x1024 : Shape := ⟨2, ![2048, 1024]⟩
abbrev S64 : Shape := ⟨1, ![64]⟩
abbrev S_ : Shape := ⟨0, ![]⟩
abbrev S2048 : Shape := ⟨1, ![2048]⟩
abbrev S2048x1 : Shape := ⟨2, ![2048, 1]⟩
abbrev S1x64 : Shape := ⟨2, ![1, 64]⟩
abbrev S2048x64 : Shape := ⟨2, ![2048, 64]⟩
abbrev S2048x128 : Shape := ⟨2, ![2048, 128]⟩
abbrev S4 : Shape := ⟨1, ![4]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S4x1x1 : Shape := ⟨3, ![4, 1, 1]⟩
abbrev S1x128x128 : Shape := ⟨3, ![1, 128, 128]⟩
abbrev S4x128x128 : Shape := ⟨3, ![4, 128, 128]⟩
abbrev S4x1 : Shape := ⟨2, ![4, 1]⟩
abbrev S4x128 : Shape := ⟨2, ![4, 128]⟩
abbrev S4x128x1 : Shape := ⟨3, ![4, 128, 1]⟩
abbrev S2048x512 : Shape := ⟨2, ![2048, 512]⟩
abbrev S1x2048x512 : Shape := ⟨3, ![1, 2048, 512]⟩
abbrev S1x2048x4x128 : Shape := ⟨4, ![1, 2048, 4, 128]⟩
abbrev S1x2048x1x64 : Shape := ⟨4, ![1, 2048, 1, 64]⟩
abbrev S1x2048x4x64 : Shape := ⟨4, ![1, 2048, 4, 64]⟩
abbrev S1x16x128x4x128 : Shape := ⟨5, ![1, 16, 128, 4, 128]⟩
abbrev S1x4x16x128x128 : Shape := ⟨5, ![1, 4, 16, 128, 128]⟩
abbrev S1x1x128 : Shape := ⟨3, ![1, 1, 128]⟩
abbrev S4x1x128 : Shape := ⟨3, ![4, 1, 128]⟩
abbrev S4x1x128x1 : Shape := ⟨4, ![4, 1, 128, 1]⟩
abbrev S1x4x1x128x1 : Shape := ⟨5, ![1, 4, 1, 128, 1]⟩
abbrev S16x1x4x128x128 : Shape := ⟨5, ![16, 1, 4, 128, 128]⟩
abbrev S1x4x1x1 : Shape := ⟨4, ![1, 4, 1, 1]⟩
abbrev S1x4x128x128 : Shape := ⟨4, ![1, 4, 128, 128]⟩
abbrev S0x1x4x128x128 : Shape := ⟨5, ![0, 1, 4, 128, 128]⟩
abbrev S1x1x4x128x128 : Shape := ⟨5, ![1, 1, 4, 128, 128]⟩
abbrev S8x1x4x128x128 : Shape := ⟨5, ![8, 1, 4, 128, 128]⟩
abbrev S8x4x128x128 : Shape := ⟨4, ![8, 4, 128, 128]⟩
abbrev S4x8x128x128 : Shape := ⟨4, ![4, 8, 128, 128]⟩
abbrev S256x512 : Shape := ⟨2, ![256, 512]⟩
abbrev S256x128 : Shape := ⟨2, ![256, 128]⟩
abbrev S4x1x128x128 : Shape := ⟨4, ![4, 1, 128, 128]⟩
abbrev S1x1x128x128 : Shape := ⟨4, ![1, 1, 128, 128]⟩
abbrev S256 : Shape := ⟨1, ![256]⟩
abbrev S256x1 : Shape := ⟨2, ![256, 1]⟩

abbrev nBuf : Space → Nat
  | .hbm => 271
  | .vmem => 29
  | .smem => 0
  | _ => 0

abbrev hbmTy0_0 (i : Nat) : BufTy := match i % 128 with
  | 0 => ⟨S2048x4096, .f32⟩
  | 1 => ⟨S2048x1024, .f32⟩
  | 2 => ⟨S64, .f32⟩
  | 3 => ⟨S64, .f32⟩
  | 4 => ⟨S_, .f32⟩
  | 5 => ⟨S64, .f32⟩
  | 6 => ⟨S64, .f32⟩
  | 7 => ⟨S_, .f32⟩
  | 8 => ⟨S64, .f32⟩
  | 9 => ⟨S64, .f32⟩
  | 10 => ⟨S2048, .i32⟩
  | 11 => ⟨S2048, .f32⟩
  | 12 => ⟨S2048x1, .f32⟩
  | 13 => ⟨S1x64, .f32⟩
  | 14 => ⟨S2048x64, .f32⟩
  | 15 => ⟨S2048x64, .f32⟩
  | 16 => ⟨S2048x64, .f32⟩
  | 17 => ⟨S2048x64, .f32⟩
  | 18 => ⟨S2048x64, .f32⟩
  | 19 => ⟨S2048x128, .f32⟩
  | 20 => ⟨S2048x64, .f32⟩
  | 21 => ⟨S2048x64, .f32⟩
  | 22 => ⟨S2048x64, .f32⟩
  | 23 => ⟨S2048x128, .f32⟩
  | 24 => ⟨S4, .f32⟩
  | 25 => ⟨S_, .f32⟩
  | 26 => ⟨S4, .f32⟩
  | 27 => ⟨S4, .f32⟩
  | 28 => ⟨S_, .f32⟩
  | 29 => ⟨S4, .f32⟩
  | 30 => ⟨S4, .f32⟩
  | 31 => ⟨S4, .f32⟩
  | 32 => ⟨S4, .f32⟩
  | 33 => ⟨S4, .f32⟩
  | 34 => ⟨S128, .f32⟩
  | 35 => ⟨S128x1, .f32⟩
  | 36 => ⟨S1x128, .f32⟩
  | 37 => ⟨S128x128, .f32⟩
  | 38 => ⟨S128x128, .f32⟩
  | 39 => ⟨S128x128, .f32⟩
  | 40 => ⟨S_, .f32⟩
  | 41 => ⟨S128x128, .f32⟩
  | 42 => ⟨S128x128, .i1⟩
  | 43 => ⟨S4x1x1, .f32⟩
  | 44 => ⟨S_, .f32⟩
  | 45 => ⟨S128x128, .f32⟩
  | 46 => ⟨S128x128, .f32⟩
  | 47 => ⟨S1x128x128, .f32⟩
  | 48 => ⟨S4x128x128, .f32⟩
  | 49 => ⟨S4x128x128, .f32⟩
  | 50 => ⟨S4x128x128, .f32⟩
  | 51 => ⟨S4x128x128, .f32⟩
  | 52 => ⟨S_, .f32⟩
  | 53 => ⟨S_, .f32⟩
  | 54 => ⟨S4x128x128, .i1⟩
  | 55 => ⟨S4x128x128, .f32⟩
  | 56 => ⟨S4x128x128, .f32⟩
  | 57 => ⟨S4x1, .f32⟩
  | 58 => ⟨S_, .f32⟩
  | 59 => ⟨S128, .f32⟩
  | 60 => ⟨S128, .f32⟩
  | 61 => ⟨S1x128, .f32⟩
  | 62 => ⟨S4x128, .f32⟩
  | 63 => ⟨S4x128, .f32⟩
  | 64 => ⟨S4x128, .f32⟩
  | 65 => ⟨S4x128, .f32⟩
  | 66 => ⟨S4x128x1, .f32⟩
  | 67 => ⟨S4x128x128, .f32⟩
  | 68 => ⟨S4x1, .f32⟩
  | 69 => ⟨S_, .f32⟩
  | 70 => ⟨S128, .f32⟩
  | 71 => ⟨S128, .f32⟩
  | 72 => ⟨S1x128, .f32⟩
  | 73 => ⟨S4x128, .f32⟩
  | 74 => ⟨S4x128, .f32⟩
  | 75 => ⟨S4x128, .f32⟩
  | 76 => ⟨S4x128, .f32⟩
  | 77 => ⟨S4x128x1, .f32⟩
  | 78 => ⟨S4x128x128, .f32⟩
  | 79 => ⟨S_, .f32⟩
  | 80 => ⟨S4, .f32⟩
  | 81 => ⟨S4, .f32⟩
  | 82 => ⟨S4, .f32⟩
  | 83 => ⟨S4x1x1, .f32⟩
  | 84 => ⟨S4x128x128, .f32⟩
  | 85 => ⟨S2048x512, .f32⟩
  | 86 => ⟨S1x2048x512, .f32⟩
  | 87 => ⟨S1x2048x4x128, .f32⟩
  | 88 => ⟨S2048, .i32⟩
  | 89 => ⟨S64, .f32⟩
  | 90 => ⟨S64, .f32⟩
  | 91 => ⟨S_, .f32⟩
  | 92 => ⟨S64, .f32⟩
  | 93 => ⟨S64, .f32⟩
  | 94 => ⟨S_, .f32⟩
  | 95 => ⟨S64, .f32⟩
  | 96 => ⟨S64, .f32⟩
  | 97 => ⟨S2048, .f32⟩
  | 98 => ⟨S2048x1, .f32⟩
  | 99 => ⟨S1x64, .f32⟩
  | 100 => ⟨S2048x64, .f32⟩
  | 101 => ⟨S2048x64, .f32⟩
  | 102 => ⟨S2048x64, .f32⟩
  | 103 => ⟨S2048x64, .f32⟩
  | 104 => ⟨S1x2048x1x64, .f32⟩
  | 105 => ⟨S2048x64, .f32⟩
  | 106 => ⟨S1x2048x1x64, .f32⟩
  | 107 => ⟨S1x2048x4x64, .f32⟩
  | 108 => ⟨S1x2048x4x64, .f32⟩
  | 109 => ⟨S1x2048x4x64, .f32⟩
  | 110 => ⟨S1x2048x4x64, .f32⟩
  | 111 => ⟨S1x2048x4x64, .f32⟩
  | 112 => ⟨S1x2048x4x64, .f32⟩
  | 113 => ⟨S1x2048x4x64, .f32⟩
  | 114 => ⟨S1x2048x4x64, .f32⟩
  | 115 => ⟨S1x2048x4x64, .f32⟩
  | 116 => ⟨S1x2048x4x64, .f32⟩
  | 117 => ⟨S1x2048x4x64, .f32⟩
  | 118 => ⟨S1x2048x4x64, .f32⟩
  | 119 => ⟨S1x2048x4x128, .f32⟩
  | 120 => ⟨S2048x512, .f32⟩
  | 121 => ⟨S1x2048x512, .f32⟩
  | 122 => ⟨S1x2048x4x128, .f32⟩
  | 123 => ⟨S4, .f32⟩
  | 124 => ⟨S_, .f32⟩
  | 125 => ⟨S4, .f32⟩
  | 126 => ⟨S4, .f32⟩
  | 127 => ⟨S_, .f32⟩
  | _ => ⟨S2048x4096, .f32⟩

abbrev hbmTy0_1 (i : Nat) : BufTy := match i % 128 with
  | 0 => ⟨S4, .f32⟩
  | 1 => ⟨S4, .f32⟩
  | 2 => ⟨S4, .f32⟩
  | 3 => ⟨S4, .f32⟩
  | 4 => ⟨S4, .f32⟩
  | 5 => ⟨S_, .f32⟩
  | 6 => ⟨S1x2048x4x128, .f32⟩
  | 7 => ⟨S1x2048x4x128, .f32⟩
  | 8 => ⟨S1x16x128x4x128, .f32⟩
  | 9 => ⟨S1x4x16x128x128, .f32⟩
  | 10 => ⟨S1x16x128x4x128, .f32⟩
  | 11 => ⟨S1x4x16x128x128, .f32⟩
  | 12 => ⟨S128, .f32⟩
  | 13 => ⟨S4x1x1, .f32⟩
  | 14 => ⟨S_, .f32⟩
  | 15 => ⟨S128, .f32⟩
  | 16 => ⟨S128, .f32⟩
  | 17 => ⟨S1x1x128, .f32⟩
  | 18 => ⟨S4x1x128, .f32⟩
  | 19 => ⟨S4x1x128, .f32⟩
  | 20 => ⟨S4x1x128, .f32⟩
  | 21 => ⟨S4x1x128, .f32⟩
  | 22 => ⟨S4x1x128x1, .f32⟩
  | 23 => ⟨S1x4x1x128x1, .f32⟩
  | 24 => ⟨S1x4x16x128x128, .f32⟩
  | 25 => ⟨S1x4x16x128x128, .f32⟩
  | 26 => ⟨S16x1x4x128x128, .f32⟩
  | 27 => ⟨S_, .f32⟩
  | 28 => ⟨S4, .f32⟩
  | 29 => ⟨S4, .f32⟩
  | 30 => ⟨S4, .f32⟩
  | 31 => ⟨S1x4x1x1, .f32⟩
  | 32 => ⟨S_, .f32⟩
  | 33 => ⟨S1x4x128x128, .f32⟩
  | 34 => ⟨S0x1x4x128x128, .f32⟩
  | 35 => ⟨S16x1x4x128x128, .f32⟩
  | 36 => ⟨S_, .f32⟩
  | 37 => ⟨S0x1x4x128x128, .f32⟩
  | 38 => ⟨S1x1x4x128x128, .f32⟩
  | 39 => ⟨S1x4x128x128, .f32⟩
  | 40 => ⟨S1x4x128x128, .f32⟩
  | 41 => ⟨S1x4x128x128, .f32⟩
  | 42 => ⟨S1x4x128x128, .f32⟩
  | 43 => ⟨S1x1x4x128x128, .f32⟩
  | 44 => ⟨S1x4x128x128, .f32⟩
  | 45 => ⟨S1x4x128x128, .f32⟩
  | 46 => ⟨S1x4x128x128, .f32⟩
  | 47 => ⟨S1x4x128x128, .f32⟩
  | 48 => ⟨S1x1x4x128x128, .f32⟩
  | 49 => ⟨S1x4x128x128, .f32⟩
  | 50 => ⟨S1x4x128x128, .f32⟩
  | 51 => ⟨S1x4x128x128, .f32⟩
  | 52 => ⟨S1x4x128x128, .f32⟩
  | 53 => ⟨S1x1x4x128x128, .f32⟩
  | 54 => ⟨S1x4x128x128, .f32⟩
  | 55 => ⟨S1x4x128x128, .f32⟩
  | 56 => ⟨S1x4x128x128, .f32⟩
  | 57 => ⟨S1x4x128x128, .f32⟩
  | 58 => ⟨S1x1x4x128x128, .f32⟩
  | 59 => ⟨S1x4x128x128, .f32⟩
  | 60 => ⟨S1x4x128x128, .f32⟩
  | 61 => ⟨S1x4x128x128, .f32⟩
  | 62 => ⟨S1x4x128x128, .f32⟩
  | 63 => ⟨S1x1x4x128x128, .f32⟩
  | 64 => ⟨S1x4x128x128, .f32⟩
  | 65 => ⟨S1x4x128x128, .f32⟩
  | 66 => ⟨S1x4x128x128, .f32⟩
  | 67 => ⟨S1x4x128x128, .f32⟩
  | 68 => ⟨S1x1x4x128x128, .f32⟩
  | 69 => ⟨S1x4x128x128, .f32⟩
  | 70 => ⟨S1x4x128x128, .f32⟩
  | 71 => ⟨S1x4x128x128, .f32⟩
  | 72 => ⟨S1x4x128x128, .f32⟩
  | 73 => ⟨S1x1x4x128x128, .f32⟩
  | 74 => ⟨S1x4x128x128, .f32⟩
  | 75 => ⟨S1x4x128x128, .f32⟩
  | 76 => ⟨S1x4x128x128, .f32⟩
  | 77 => ⟨S1x4x128x128, .f32⟩
  | 78 => ⟨S1x1x4x128x128, .f32⟩
  | 79 => ⟨S1x4x128x128, .f32⟩
  | 80 => ⟨S1x4x128x128, .f32⟩
  | 81 => ⟨S1x4x128x128, .f32⟩
  | 82 => ⟨S1x4x128x128, .f32⟩
  | 83 => ⟨S1x1x4x128x128, .f32⟩
  | 84 => ⟨S1x4x128x128, .f32⟩
  | 85 => ⟨S1x4x128x128, .f32⟩
  | 86 => ⟨S1x4x128x128, .f32⟩
  | 87 => ⟨S1x4x128x128, .f32⟩
  | 88 => ⟨S1x1x4x128x128, .f32⟩
  | 89 => ⟨S1x4x128x128, .f32⟩
  | 90 => ⟨S1x4x128x128, .f32⟩
  | 91 => ⟨S1x4x128x128, .f32⟩
  | 92 => ⟨S1x4x128x128, .f32⟩
  | 93 => ⟨S1x1x4x128x128, .f32⟩
  | 94 => ⟨S1x4x128x128, .f32⟩
  | 95 => ⟨S1x4x128x128, .f32⟩
  | 96 => ⟨S1x4x128x128, .f32⟩
  | 97 => ⟨S1x4x128x128, .f32⟩
  | 98 => ⟨S1x1x4x128x128, .f32⟩
  | 99 => ⟨S1x4x128x128, .f32⟩
  | 100 => ⟨S1x4x128x128, .f32⟩
  | 101 => ⟨S1x4x128x128, .f32⟩
  | 102 => ⟨S1x4x128x128, .f32⟩
  | 103 => ⟨S1x1x4x128x128, .f32⟩
  | 104 => ⟨S1x4x128x128, .f32⟩
  | 105 => ⟨S1x4x128x128, .f32⟩
  | 106 => ⟨S1x4x128x128, .f32⟩
  | 107 => ⟨S1x4x128x128, .f32⟩
  | 108 => ⟨S1x1x4x128x128, .f32⟩
  | 109 => ⟨S1x4x128x128, .f32⟩
  | 110 => ⟨S1x4x128x128, .f32⟩
  | 111 => ⟨S1x4x128x128, .f32⟩
  | 112 => ⟨S1x4x128x128, .f32⟩
  | 113 => ⟨S1x1x4x128x128, .f32⟩
  | 114 => ⟨S1x4x128x128, .f32⟩
  | 115 => ⟨S1x4x128x128, .f32⟩
  | 116 => ⟨S1x4x128x128, .f32⟩
  | 117 => ⟨S1x4x128x128, .f32⟩
  | 118 => ⟨S1x1x4x128x128, .f32⟩
  | 119 => ⟨S1x1x4x128x128, .f32⟩
  | 120 => ⟨S1x1x4x128x128, .f32⟩
  | 121 => ⟨S1x1x4x128x128, .f32⟩
  | 122 => ⟨S1x1x4x128x128, .f32⟩
  | 123 => ⟨S1x1x4x128x128, .f32⟩
  | 124 => ⟨S1x1x4x128x128, .f32⟩
  | 125 => ⟨S1x1x4x128x128, .f32⟩
  | 126 => ⟨S1x1x4x128x128, .f32⟩
  | 127 => ⟨S1x1x4x128x128, .f32⟩
  | _ => ⟨S2048x4096, .f32⟩

abbrev hbmTy0_2 (i : Nat) : BufTy := match i % 128 with
  | 0 => ⟨S1x1x4x128x128, .f32⟩
  | 1 => ⟨S1x1x4x128x128, .f32⟩
  | 2 => ⟨S1x1x4x128x128, .f32⟩
  | 3 => ⟨S1x1x4x128x128, .f32⟩
  | 4 => ⟨S1x1x4x128x128, .f32⟩
  | 5 => ⟨S1x1x4x128x128, .f32⟩
  | 6 => ⟨S16x1x4x128x128, .f32⟩
  | 7 => ⟨S16x1x4x128x128, .f32⟩
  | 8 => ⟨S8x1x4x128x128, .f32⟩
  | 9 => ⟨S8x4x128x128, .f32⟩
  | 10 => ⟨S4x8x128x128, .f32⟩
  | 11 => ⟨S2048x512, .bf16⟩
  | 12 => ⟨S2048x512, .bf16⟩
  | 13 => ⟨S2048x512, .bf16⟩
  | 14 => ⟨S2048x512, .bf16⟩
  | _ => ⟨S2048x4096, .f32⟩

abbrev hbmTy (i : Nat) : BufTy := match i / 128 with
  | 0 => hbmTy0_0 i
  | 1 => hbmTy0_1 i
  | 2 => hbmTy0_2 i
  | _ => ⟨S2048x4096, .f32⟩

abbrev bufTy : (tb : Table) → Fin (tcTables nBuf tb) → BufTy
  | .hbm, ⟨i, _⟩ => hbmTy i
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S4x128x128, .f32⟩
  | .local _ .vmem, ⟨13, _⟩ => ⟨S4x128x128, .f32⟩
  | .local _ .vmem, ⟨14, _⟩ => ⟨S4x128x128, .f32⟩
  | .local _ .vmem, ⟨15, _⟩ => ⟨S4x128x128, .f32⟩
  | .local _ .vmem, ⟨16, _⟩ => ⟨S4x1x128x128, .f32⟩
  | .local _ .vmem, ⟨17, _⟩ => ⟨S4x1x128x128, .f32⟩
  | .local _ .vmem, ⟨18, _⟩ => ⟨S256x512, .f32⟩
  | .local _ .vmem, ⟨19, _⟩ => ⟨S256x512, .f32⟩
  | .local _ .vmem, ⟨20, _⟩ => ⟨S256x512, .bf16⟩
  | .local _ .vmem, ⟨21, _⟩ => ⟨S256x512, .bf16⟩
  | .local _ .vmem, ⟨22, _⟩ => ⟨S256x512, .bf16⟩
  | .local _ .vmem, ⟨23, _⟩ => ⟨S256x512, .bf16⟩
  | .local _ .vmem, ⟨24, _⟩ => ⟨S256x512, .bf16⟩
  | .local _ .vmem, ⟨25, _⟩ => ⟨S256x512, .bf16⟩
  | .local _ .vmem, ⟨26, _⟩ => ⟨S256x512, .bf16⟩
  | .local _ .vmem, ⟨27, _⟩ => ⟨S256x512, .bf16⟩
  | .local _ .vmem, ⟨28, _⟩ => ⟨S4x128x128, .f32⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_cst_1 : Ref sig .tc := ⟨.hbm, 25, rfl⟩
abbrev main_v21 : Ref sig .tc := ⟨.hbm, 26, rfl⟩
abbrev main_v22 : Ref sig .tc := ⟨.hbm, 27, rfl⟩
abbrev main_cst_2 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_cst_3 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_cst_4 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_cst_5 : Ref sig .tc := ⟨.hbm, 52, rfl⟩
abbrev main_call0_v0 : Ref sig .tc := ⟨.hbm, 53, rfl⟩
abbrev main_call0_v1 : Ref sig .tc := ⟨.hbm, 54, rfl⟩
abbrev main_call0_v2 : Ref sig .tc := ⟨.hbm, 55, rfl⟩
abbrev main_v44 : Ref sig .tc := ⟨.hbm, 56, rfl⟩
abbrev main_v45 : Ref sig .tc := ⟨.hbm, 57, rfl⟩
abbrev main_cst_6 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_cst_7 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_cst_8 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_cst_9 : Ref sig .tc := ⟨.hbm, 91, rfl⟩
abbrev main_v76 : Ref sig .tc := ⟨.hbm, 92, rfl⟩
abbrev main_v77 : Ref sig .tc := ⟨.hbm, 93, rfl⟩
abbrev main_cst_10 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_v92 : Ref sig .tc := ⟨.hbm, 109, rfl⟩
abbrev main_v93 : Ref sig .tc := ⟨.hbm, 110, rfl⟩
abbrev main_v94 : Ref sig .tc := ⟨.hbm, 111, rfl⟩
abbrev main_v95 : Ref sig .tc := ⟨.hbm, 112, rfl⟩
abbrev main_v96 : Ref sig .tc := ⟨.hbm, 113, rfl⟩
abbrev main_v97 : Ref sig .tc := ⟨.hbm, 114, rfl⟩
abbrev main_v98 : Ref sig .tc := ⟨.hbm, 115, rfl⟩
abbrev main_v99 : Ref sig .tc := ⟨.hbm, 116, rfl⟩
abbrev main_v100 : Ref sig .tc := ⟨.hbm, 117, rfl⟩
abbrev main_v101 : Ref sig .tc := ⟨.hbm, 118, rfl⟩
abbrev main_v102 : Ref sig .tc := ⟨.hbm, 119, rfl⟩
abbrev main_v103 : Ref sig .tc := ⟨.hbm, 120, rfl⟩
abbrev main_v104 : Ref sig .tc := ⟨.hbm, 121, rfl⟩
abbrev main_v105 : Ref sig .tc := ⟨.hbm, 122, rfl⟩
abbrev main_v106 : Ref sig .tc := ⟨.hbm, 123, rfl⟩
abbrev main_cst_11 : Ref sig .tc := ⟨.hbm, 124, rfl⟩
abbrev main_v107 : Ref sig .tc := ⟨.hbm, 125, rfl⟩
abbrev main_v108 : Ref sig .tc := ⟨.hbm, 126, rfl⟩
abbrev main_cst_12 : Ref sig .tc := ⟨.hbm, 127, rfl⟩
abbrev main_v109 : Ref sig .tc := ⟨.hbm, 128, rfl⟩
abbrev main_v110 : Ref sig .tc := ⟨.hbm, 129, rfl⟩
abbrev main_v111 : Ref sig .tc := ⟨.hbm, 130, rfl⟩
abbrev main_v112 : Ref sig .tc := ⟨.hbm, 131, rfl⟩
abbrev main_v113 : Ref sig .tc := ⟨.hbm, 132, rfl⟩
abbrev main_cst_13 : Ref sig .tc := ⟨.hbm, 133, rfl⟩
abbrev main_v114 : Ref sig .tc := ⟨.hbm, 134, rfl⟩
abbrev main_v115 : Ref sig .tc := ⟨.hbm, 135, rfl⟩
abbrev main_v116 : Ref sig .tc := ⟨.hbm, 136, rfl⟩
abbrev main_v117 : Ref sig .tc := ⟨.hbm, 137, rfl⟩
abbrev main_v118 : Ref sig .tc := ⟨.hbm, 138, rfl⟩
abbrev main_v119 : Ref sig .tc := ⟨.hbm, 139, rfl⟩
abbrev main_v120 : Ref sig .tc := ⟨.hbm, 140, rfl⟩
abbrev main_v121 : Ref sig .tc := ⟨.hbm, 141, rfl⟩
abbrev main_cst_14 : Ref sig .tc := ⟨.hbm, 142, rfl⟩
abbrev main_v122 : Ref sig .tc := ⟨.hbm, 143, rfl⟩
abbrev main_v123 : Ref sig .tc := ⟨.hbm, 144, rfl⟩
abbrev main_v124 : Ref sig .tc := ⟨.hbm, 145, rfl⟩
abbrev main_v125 : Ref sig .tc := ⟨.hbm, 146, rfl⟩
abbrev main_v126 : Ref sig .tc := ⟨.hbm, 147, rfl⟩
abbrev main_v127 : Ref sig .tc := ⟨.hbm, 148, rfl⟩
abbrev main_v128 : Ref sig .tc := ⟨.hbm, 149, rfl⟩
abbrev main_v129 : Ref sig .tc := ⟨.hbm, 150, rfl⟩
abbrev main_v130 : Ref sig .tc := ⟨.hbm, 151, rfl⟩
abbrev main_v131 : Ref sig .tc := ⟨.hbm, 152, rfl⟩
abbrev main_v132 : Ref sig .tc := ⟨.hbm, 153, rfl⟩
abbrev main_v133 : Ref sig .tc := ⟨.hbm, 154, rfl⟩
abbrev main_cst_15 : Ref sig .tc := ⟨.hbm, 155, rfl⟩
abbrev main_v134 : Ref sig .tc := ⟨.hbm, 156, rfl⟩
abbrev main_v135 : Ref sig .tc := ⟨.hbm, 157, rfl⟩
abbrev main_v136 : Ref sig .tc := ⟨.hbm, 158, rfl⟩
abbrev main_v137 : Ref sig .tc := ⟨.hbm, 159, rfl⟩
abbrev main_cst_16 : Ref sig .tc := ⟨.hbm, 160, rfl⟩
abbrev main_v138 : Ref sig .tc := ⟨.hbm, 161, rfl⟩
abbrev main_v139 : Ref sig .tc := ⟨.hbm, 162, rfl⟩
abbrev main_v140 : Ref sig .tc := ⟨.hbm, 163, rfl⟩
abbrev main_cst_17 : Ref sig .tc := ⟨.hbm, 164, rfl⟩
abbrev main_v141 : Ref sig .tc := ⟨.hbm, 165, rfl⟩
abbrev main_v142 : Ref sig .tc := ⟨.hbm, 166, rfl⟩
abbrev main_v143 : Ref sig .tc := ⟨.hbm, 167, rfl⟩
abbrev main_v144 : Ref sig .tc := ⟨.hbm, 168, rfl⟩
abbrev main_v145 : Ref sig .tc := ⟨.hbm, 169, rfl⟩
abbrev main_v146 : Ref sig .tc := ⟨.hbm, 170, rfl⟩
abbrev main_v147 : Ref sig .tc := ⟨.hbm, 171, rfl⟩
abbrev main_v148 : Ref sig .tc := ⟨.hbm, 172, rfl⟩
abbrev main_v149 : Ref sig .tc := ⟨.hbm, 173, rfl⟩
abbrev main_v150 : Ref sig .tc := ⟨.hbm, 174, rfl⟩
abbrev main_v151 : Ref sig .tc := ⟨.hbm, 175, rfl⟩
abbrev main_v152 : Ref sig .tc := ⟨.hbm, 176, rfl⟩
abbrev main_v153 : Ref sig .tc := ⟨.hbm, 177, rfl⟩
abbrev main_v154 : Ref sig .tc := ⟨.hbm, 178, rfl⟩
abbrev main_v155 : Ref sig .tc := ⟨.hbm, 179, rfl⟩
abbrev main_v156 : Ref sig .tc := ⟨.hbm, 180, rfl⟩
abbrev main_v157 : Ref sig .tc := ⟨.hbm, 181, rfl⟩
abbrev main_v158 : Ref sig .tc := ⟨.hbm, 182, rfl⟩
abbrev main_v159 : Ref sig .tc := ⟨.hbm, 183, rfl⟩
abbrev main_v160 : Ref sig .tc := ⟨.hbm, 184, rfl⟩
abbrev main_v161 : Ref sig .tc := ⟨.hbm, 185, rfl⟩
abbrev main_v162 : Ref sig .tc := ⟨.hbm, 186, rfl⟩
abbrev main_v163 : Ref sig .tc := ⟨.hbm, 187, rfl⟩
abbrev main_v164 : Ref sig .tc := ⟨.hbm, 188, rfl⟩
abbrev main_v165 : Ref sig .tc := ⟨.hbm, 189, rfl⟩
abbrev main_v166 : Ref sig .tc := ⟨.hbm, 190, rfl⟩
abbrev main_v167 : Ref sig .tc := ⟨.hbm, 191, rfl⟩
abbrev main_v168 : Ref sig .tc := ⟨.hbm, 192, rfl⟩
abbrev main_v169 : Ref sig .tc := ⟨.hbm, 193, rfl⟩
abbrev main_v170 : Ref sig .tc := ⟨.hbm, 194, rfl⟩
abbrev main_v171 : Ref sig .tc := ⟨.hbm, 195, rfl⟩
abbrev main_v172 : Ref sig .tc := ⟨.hbm, 196, rfl⟩
abbrev main_v173 : Ref sig .tc := ⟨.hbm, 197, rfl⟩
abbrev main_v174 : Ref sig .tc := ⟨.hbm, 198, rfl⟩
abbrev main_v175 : Ref sig .tc := ⟨.hbm, 199, rfl⟩
abbrev main_v176 : Ref sig .tc := ⟨.hbm, 200, rfl⟩
abbrev main_v177 : Ref sig .tc := ⟨.hbm, 201, rfl⟩
abbrev main_v178 : Ref sig .tc := ⟨.hbm, 202, rfl⟩
abbrev main_v179 : Ref sig .tc := ⟨.hbm, 203, rfl⟩
abbrev main_v180 : Ref sig .tc := ⟨.hbm, 204, rfl⟩
abbrev main_v181 : Ref sig .tc := ⟨.hbm, 205, rfl⟩
abbrev main_v182 : Ref sig .tc := ⟨.hbm, 206, rfl⟩
abbrev main_v183 : Ref sig .tc := ⟨.hbm, 207, rfl⟩
abbrev main_v184 : Ref sig .tc := ⟨.hbm, 208, rfl⟩
abbrev main_v185 : Ref sig .tc := ⟨.hbm, 209, rfl⟩
abbrev main_v186 : Ref sig .tc := ⟨.hbm, 210, rfl⟩
abbrev main_v187 : Ref sig .tc := ⟨.hbm, 211, rfl⟩
abbrev main_v188 : Ref sig .tc := ⟨.hbm, 212, rfl⟩
abbrev main_v189 : Ref sig .tc := ⟨.hbm, 213, rfl⟩
abbrev main_v190 : Ref sig .tc := ⟨.hbm, 214, rfl⟩
abbrev main_v191 : Ref sig .tc := ⟨.hbm, 215, rfl⟩
abbrev main_v192 : Ref sig .tc := ⟨.hbm, 216, rfl⟩
abbrev main_v193 : Ref sig .tc := ⟨.hbm, 217, rfl⟩
abbrev main_v194 : Ref sig .tc := ⟨.hbm, 218, rfl⟩
abbrev main_v195 : Ref sig .tc := ⟨.hbm, 219, rfl⟩
abbrev main_v196 : Ref sig .tc := ⟨.hbm, 220, rfl⟩
abbrev main_v197 : Ref sig .tc := ⟨.hbm, 221, rfl⟩
abbrev main_v198 : Ref sig .tc := ⟨.hbm, 222, rfl⟩
abbrev main_v199 : Ref sig .tc := ⟨.hbm, 223, rfl⟩
abbrev main_v200 : Ref sig .tc := ⟨.hbm, 224, rfl⟩
abbrev main_v201 : Ref sig .tc := ⟨.hbm, 225, rfl⟩
abbrev main_v202 : Ref sig .tc := ⟨.hbm, 226, rfl⟩
abbrev main_v203 : Ref sig .tc := ⟨.hbm, 227, rfl⟩
abbrev main_v204 : Ref sig .tc := ⟨.hbm, 228, rfl⟩
abbrev main_v205 : Ref sig .tc := ⟨.hbm, 229, rfl⟩
abbrev main_v206 : Ref sig .tc := ⟨.hbm, 230, rfl⟩
abbrev main_v207 : Ref sig .tc := ⟨.hbm, 231, rfl⟩
abbrev main_v208 : Ref sig .tc := ⟨.hbm, 232, rfl⟩
abbrev main_v209 : Ref sig .tc := ⟨.hbm, 233, rfl⟩
abbrev main_v210 : Ref sig .tc := ⟨.hbm, 234, rfl⟩
abbrev main_v211 : Ref sig .tc := ⟨.hbm, 235, rfl⟩
abbrev main_v212 : Ref sig .tc := ⟨.hbm, 236, rfl⟩
abbrev main_v213 : Ref sig .tc := ⟨.hbm, 237, rfl⟩
abbrev main_v214 : Ref sig .tc := ⟨.hbm, 238, rfl⟩
abbrev main_v215 : Ref sig .tc := ⟨.hbm, 239, rfl⟩
abbrev main_v216 : Ref sig .tc := ⟨.hbm, 240, rfl⟩
abbrev main_v217 : Ref sig .tc := ⟨.hbm, 241, rfl⟩
abbrev main_v218 : Ref sig .tc := ⟨.hbm, 242, rfl⟩
abbrev main_v219 : Ref sig .tc := ⟨.hbm, 243, rfl⟩
abbrev main_v220 : Ref sig .tc := ⟨.hbm, 244, rfl⟩
abbrev main_v221 : Ref sig .tc := ⟨.hbm, 245, rfl⟩
abbrev main_v222 : Ref sig .tc := ⟨.hbm, 246, rfl⟩
abbrev main_v223 : Ref sig .tc := ⟨.hbm, 247, rfl⟩
abbrev main_v224 : Ref sig .tc := ⟨.hbm, 248, rfl⟩
abbrev main_v225 : Ref sig .tc := ⟨.hbm, 249, rfl⟩
abbrev main_v226 : Ref sig .tc := ⟨.hbm, 250, rfl⟩
abbrev main_v227 : Ref sig .tc := ⟨.hbm, 251, rfl⟩
abbrev main_v228 : Ref sig .tc := ⟨.hbm, 252, rfl⟩
abbrev main_v229 : Ref sig .tc := ⟨.hbm, 253, rfl⟩
abbrev main_v230 : Ref sig .tc := ⟨.hbm, 254, rfl⟩
abbrev main_v231 : Ref sig .tc := ⟨.hbm, 255, rfl⟩
abbrev main_v232 : Ref sig .tc := ⟨.hbm, 256, rfl⟩
abbrev main_v233 : Ref sig .tc := ⟨.hbm, 257, rfl⟩
abbrev main_v234 : Ref sig .tc := ⟨.hbm, 258, rfl⟩
abbrev main_v235 : Ref sig .tc := ⟨.hbm, 259, rfl⟩
abbrev main_v236 : Ref sig .tc := ⟨.hbm, 260, rfl⟩
abbrev main_v237 : Ref sig .tc := ⟨.hbm, 261, rfl⟩
abbrev main_v238 : Ref sig .tc := ⟨.hbm, 262, rfl⟩
abbrev main_v239 : Ref sig .tc := ⟨.hbm, 263, rfl⟩
abbrev main_v240 : Ref sig .tc := ⟨.hbm, 264, rfl⟩
abbrev main_v241 : Ref sig .tc := ⟨.hbm, 265, rfl⟩
abbrev main_v242 : Ref sig .tc := ⟨.hbm, 266, rfl⟩
abbrev main_v243_0 : Ref sig .tc := ⟨.hbm, 267, rfl⟩
abbrev main_v243_1 : Ref sig .tc := ⟨.hbm, 268, rfl⟩
abbrev main_v243_2 : Ref sig .tc := ⟨.hbm, 269, rfl⟩
abbrev main_v243_3 : Ref sig .tc := ⟨.hbm, 270, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_scratch0 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c7_i32 : BitVec 32 := 7#32
  let v0 : BitVec 32 := Scalar.subi c7_i32 arg0
  let c1_i32 : BitVec 32 := 1#32
  let c0_i32 : BitVec 32 := 0#32
  ![v0.toNat, c1_i32.toNat]

def cc0_transform_2 (i : grid0.Coords) : Fin 2 → Nat :=
  let arg0 : BitVec 32 := BitVec.ofNat 32 (i 0).val
  let c7_i32 : BitVec 32 := 7#32
  let v0 : BitVec 32 := Scalar.subi c7_i32 arg0
  let c2_i32 : BitVec 32 := 2#32
  let c0_i32 : BitVec 32 := 0#32
  ![v0.toNat, c2_i32.toNat]

def cc0_transform_3 (i : grid0.Coords) : Fin 2 → Nat :=
  let arg0 : BitVec 32 := BitVec.ofNat 32 (i 0).val
  let c7_i32 : BitVec 32 := 7#32
  let v0 : BitVec 32 := Scalar.subi c7_i32 arg0
  let c3_i32 : BitVec 32 := 3#32
  let c0_i32 : BitVec 32 := 0#32
  ![v0.toNat, c3_i32.toNat]

def cc0_transform_4 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 4 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  let c0_i32_1 : BitVec 32 := 0#32
  let c0_i32_2 : BitVec 32 := 0#32
  ![c0_i32.toNat, v0.toNat, c0_i32_0.toNat, c0_i32_1.toNat]

def cc0_transform_11 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_12 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_13 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_14 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_15 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S4x128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4x128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S4x128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S4x1x128x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== ReferenceIdeal.lean ====
abbrev S2048x4096 : Shape := ⟨2, ![2048, 4096]⟩
abbrev S2048x1024 : Shape := ⟨2, ![2048, 1024]⟩
abbrev S2048x512 : Shape := ⟨2, ![2048, 512]⟩
abbrev S1x2048x512 : Shape := ⟨3, ![1, 2048, 512]⟩
abbrev S2048 : Shape := ⟨1, ![2048]⟩
abbrev S1x2048x4x128 : Shape := ⟨4, ![1, 2048, 4, 128]⟩
abbrev S64 : Shape := ⟨1, ![64]⟩
abbrev S_ : Shape := ⟨0, ![]⟩
abbrev S2048x1 : Shape := ⟨2, ![2048, 1]⟩
abbrev S1x64 : Shape := ⟨2, ![1, 64]⟩
abbrev S2048x64 : Shape := ⟨2, ![2048, 64]⟩
abbrev S1x2048x1x64 : Shape := ⟨4, ![1, 2048, 1, 64]⟩
abbrev S1x2048x4x64 : Shape := ⟨4, ![1, 2048, 4, 64]⟩
abbrev S4 : Shape := ⟨1, ![4]⟩
abbrev S1x16x128x4x128 : Shape := ⟨5, ![1, 16, 128, 4, 128]⟩
abbrev S1x4x16x128x128 : Shape := ⟨5, ![1, 4, 16, 128, 128]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S4x1x1 : Shape := ⟨3, ![4, 1, 1]⟩
abbrev S1x128x128 : Shape := ⟨3, ![1, 128, 128]⟩
abbrev S4x128x128 : Shape := ⟨3, ![4, 128, 128]⟩
abbrev S4x1x128x128 : Shape := ⟨4, ![4, 1, 128, 128]⟩
abbrev S1x4x1x128x128 : Shape := ⟨5, ![1, 4, 1, 128, 128]⟩
abbrev S1x1x128 : Shape := ⟨3, ![1, 1, 128]⟩
abbrev S4x1x128 : Shape := ⟨3, ![4, 1, 128]⟩
abbrev S4x1x128x1 : Shape := ⟨4, ![4, 1, 128, 1]⟩
abbrev S1x4x1x128x1 : Shape := ⟨5, ![1, 4, 1, 128, 1]⟩
abbrev S16x1x4x128x128 : Shape := ⟨5, ![16, 1, 4, 128, 128]⟩
abbrev S1x4x1x1 : Shape := ⟨4, ![1, 4, 1, 1]⟩
abbrev S1x4x128x128 : Shape := ⟨4, ![1, 4, 128, 128]⟩
abbrev S0x1x4x128x128 : Shape := ⟨5, ![0, 1, 4, 128, 128]⟩
abbrev S1x1x4x128x128 : Shape := ⟨5, ![1, 1, 4, 128, 128]⟩
abbrev S1x2048x4 : Shape := ⟨3, ![1, 2048, 4]⟩
abbrev S1x2048x4x1 : Shape := ⟨4, ![1, 2048, 4, 1]⟩
abbrev S2048x4 : Shape := ⟨2, ![2048, 4]⟩

abbrev nBuf : Space → Nat
  | .hbm => 509
  | .vmem => 0
  | .smem => 0
  | _ => 0

abbrev hbmTy0_0 (i : Nat) : BufTy := match i % 128 with
  | 0 => ⟨S2048x4096, .f32⟩
  | 1 => ⟨S2048x1024, .f32⟩
  | 2 => ⟨S2048x512, .f32⟩
  | 3 => ⟨S1x2048x512, .f32⟩
  | 4 => ⟨S2048x512, .f32⟩
  | 5 => ⟨S1x2048x512, .f32⟩
  | 6 => ⟨S2048x512, .f32⟩
  | 7 => ⟨S1x2048x512, .f32⟩
  | 8 => ⟨S2048x512, .f32⟩
  | 9 => ⟨S1x2048x512, .f32⟩
  | 10 => ⟨S2048, .i32⟩
  | 11 => ⟨S1x2048x4x128, .f32⟩
  | 12 => ⟨S64, .f32⟩
  | 13 => ⟨S64, .f32⟩
  | 14 => ⟨S_, .f32⟩
  | 15 => ⟨S64, .f32⟩
  | 16 => ⟨S64, .f32⟩
  | 17 => ⟨S_, .f32⟩
  | 18 => ⟨S64, .f32⟩
  | 19 => ⟨S64, .f32⟩
  | 20 => ⟨S2048, .f32⟩
  | 21 => ⟨S2048x1, .f32⟩
  | 22 => ⟨S1x64, .f32⟩
  | 23 => ⟨S2048x64, .f32⟩
  | 24 => ⟨S2048x64, .f32⟩
  | 25 => ⟨S2048x64, .f32⟩
  | 26 => ⟨S2048x64, .f32⟩
  | 27 => ⟨S1x2048x1x64, .f32⟩
  | 28 => ⟨S2048x64, .f32⟩
  | 29 => ⟨S1x2048x1x64, .f32⟩
  | 30 => ⟨S1x2048x4x64, .f32⟩
  | 31 => ⟨S1x2048x4x64, .f32⟩
  | 32 => ⟨S1x2048x4x64, .f32⟩
  | 33 => ⟨S1x2048x4x64, .f32⟩
  | 34 => ⟨S1x2048x4x64, .f32⟩
  | 35 => ⟨S1x2048x4x64, .f32⟩
  | 36 => ⟨S1x2048x4x64, .f32⟩
  | 37 => ⟨S1x2048x4x64, .f32⟩
  | 38 => ⟨S1x2048x4x64, .f32⟩
  | 39 => ⟨S1x2048x4x64, .f32⟩
  | 40 => ⟨S1x2048x4x64, .f32⟩
  | 41 => ⟨S1x2048x4x64, .f32⟩
  | 42 => ⟨S1x2048x4x128, .f32⟩
  | 43 => ⟨S1x2048x4x128, .f32⟩
  | 44 => ⟨S64, .f32⟩
  | 45 => ⟨S64, .f32⟩
  | 46 => ⟨S_, .f32⟩
  | 47 => ⟨S64, .f32⟩
  | 48 => ⟨S64, .f32⟩
  | 49 => ⟨S_, .f32⟩
  | 50 => ⟨S64, .f32⟩
  | 51 => ⟨S64, .f32⟩
  | 52 => ⟨S2048, .f32⟩
  | 53 => ⟨S2048x1, .f32⟩
  | 54 => ⟨S1x64, .f32⟩
  | 55 => ⟨S2048x64, .f32⟩
  | 56 => ⟨S2048x64, .f32⟩
  | 57 => ⟨S2048x64, .f32⟩
  | 58 => ⟨S2048x64, .f32⟩
  | 59 => ⟨S1x2048x1x64, .f32⟩
  | 60 => ⟨S2048x64, .f32⟩
  | 61 => ⟨S1x2048x1x64, .f32⟩
  | 62 => ⟨S1x2048x4x64, .f32⟩
  | 63 => ⟨S1x2048x4x64, .f32⟩
  | 64 => ⟨S1x2048x4x64, .f32⟩
  | 65 => ⟨S1x2048x4x64, .f32⟩
  | 66 => ⟨S1x2048x4x64, .f32⟩
  | 67 => ⟨S1x2048x4x64, .f32⟩
  | 68 => ⟨S1x2048x4x64, .f32⟩
  | 69 => ⟨S1x2048x4x64, .f32⟩
  | 70 => ⟨S1x2048x4x64, .f32⟩
  | 71 => ⟨S1x2048x4x64, .f32⟩
  | 72 => ⟨S1x2048x4x64, .f32⟩
  | 73 => ⟨S1x2048x4x64, .f32⟩
  | 74 => ⟨S1x2048x4x128, .f32⟩
  | 75 => ⟨S1x2048x4x128, .f32⟩
  | 76 => ⟨S4, .f32⟩
  | 77 => ⟨S_, .f32⟩
  | 78 => ⟨S4, .f32⟩
  | 79 => ⟨S4, .f32⟩
  | 80 => ⟨S_, .f32⟩
  | 81 => ⟨S4, .f32⟩
  | 82 => ⟨S4, .f32⟩
  | 83 => ⟨S4, .f32⟩
  | 84 => ⟨S4, .f32⟩
  | 85 => ⟨S4, .f32⟩
  | 86 => ⟨S1x16x128x4x128, .f32⟩
  | 87 => ⟨S1x4x16x128x128, .f32⟩
  | 88 => ⟨S_, .f32⟩
  | 89 => ⟨S1x2048x4x128, .f32⟩
  | 90 => ⟨S1x2048x4x128, .f32⟩
  | 91 => ⟨S1x16x128x4x128, .f32⟩
  | 92 => ⟨S1x4x16x128x128, .f32⟩
  | 93 => ⟨S1x16x128x4x128, .f32⟩
  | 94 => ⟨S1x4x16x128x128, .f32⟩
  | 95 => ⟨S128, .f32⟩
  | 96 => ⟨S128x1, .f32⟩
  | 97 => ⟨S1x128, .f32⟩
  | 98 => ⟨S128x128, .f32⟩
  | 99 => ⟨S128x128, .f32⟩
  | 100 => ⟨S128x128, .f32⟩
  | 101 => ⟨S_, .f32⟩
  | 102 => ⟨S128x128, .f32⟩
  | 103 => ⟨S128x128, .i1⟩
  | 104 => ⟨S4x1x1, .f32⟩
  | 105 => ⟨S_, .f32⟩
  | 106 => ⟨S_, .f32⟩
  | 107 => ⟨S128x128, .f32⟩
  | 108 => ⟨S128x128, .f32⟩
  | 109 => ⟨S1x128x128, .f32⟩
  | 110 => ⟨S4x128x128, .f32⟩
  | 111 => ⟨S4x128x128, .f32⟩
  | 112 => ⟨S4x128x128, .f32⟩
  | 113 => ⟨S4x128x128, .f32⟩
  | 114 => ⟨S_, .f32⟩
  | 115 => ⟨S_, .f32⟩
  | 116 => ⟨S4x128x128, .i1⟩
  | 117 => ⟨S4x128x128, .f32⟩
  | 118 => ⟨S4x128x128, .f32⟩
  | 119 => ⟨S1x4x16x128x128, .f32⟩
  | 120 => ⟨S4x1x128x128, .f32⟩
  | 121 => ⟨S1x4x1x128x128, .f32⟩
  | 122 => ⟨S1x4x16x128x128, .f32⟩
  | 123 => ⟨S1x4x16x128x128, .f32⟩
  | 124 => ⟨S1x4x16x128x128, .f32⟩
  | 125 => ⟨S4x1x1, .f32⟩
  | 126 => ⟨S_, .f32⟩
  | 127 => ⟨S128, .f32⟩
  | _ => ⟨S2048x4096, .f32⟩

abbrev hbmTy0_1 (i : Nat) : BufTy := match i % 128 with
  | 0 => ⟨S128, .f32⟩
  | 1 => ⟨S1x1x128, .f32⟩
  | 2 => ⟨S4x1x128, .f32⟩
  | 3 => ⟨S4x1x128, .f32⟩
  | 4 => ⟨S4x1x128, .f32⟩
  | 5 => ⟨S4x1x128, .f32⟩
  | 6 => ⟨S4x1x128x1, .f32⟩
  | 7 => ⟨S1x4x1x128x1, .f32⟩
  | 8 => ⟨S1x4x16x128x128, .f32⟩
  | 9 => ⟨S1x4x16x128x128, .f32⟩
  | 10 => ⟨S16x1x4x128x128, .f32⟩
  | 11 => ⟨S_, .f32⟩
  | 12 => ⟨S4, .f32⟩
  | 13 => ⟨S4, .f32⟩
  | 14 => ⟨S4, .f32⟩
  | 15 => ⟨S1x4x1x1, .f32⟩
  | 16 => ⟨S_, .f32⟩
  | 17 => ⟨S1x4x128x128, .f32⟩
  | 18 => ⟨S0x1x4x128x128, .f32⟩
  | 19 => ⟨S16x1x4x128x128, .f32⟩
  | 20 => ⟨S_, .f32⟩
  | 21 => ⟨S0x1x4x128x128, .f32⟩
  | 22 => ⟨S1x1x4x128x128, .f32⟩
  | 23 => ⟨S1x4x128x128, .f32⟩
  | 24 => ⟨S1x4x128x128, .f32⟩
  | 25 => ⟨S1x4x128x128, .f32⟩
  | 26 => ⟨S1x4x128x128, .f32⟩
  | 27 => ⟨S1x1x4x128x128, .f32⟩
  | 28 => ⟨S1x4x128x128, .f32⟩
  | 29 => ⟨S1x4x128x128, .f32⟩
  | 30 => ⟨S1x4x128x128, .f32⟩
  | 31 => ⟨S1x4x128x128, .f32⟩
  | 32 => ⟨S1x1x4x128x128, .f32⟩
  | 33 => ⟨S1x4x128x128, .f32⟩
  | 34 => ⟨S1x4x128x128, .f32⟩
  | 35 => ⟨S1x4x128x128, .f32⟩
  | 36 => ⟨S1x4x128x128, .f32⟩
  | 37 => ⟨S1x1x4x128x128, .f32⟩
  | 38 => ⟨S1x4x128x128, .f32⟩
  | 39 => ⟨S1x4x128x128, .f32⟩
  | 40 => ⟨S1x4x128x128, .f32⟩
  | 41 => ⟨S1x4x128x128, .f32⟩
  | 42 => ⟨S1x1x4x128x128, .f32⟩
  | 43 => ⟨S1x4x128x128, .f32⟩
  | 44 => ⟨S1x4x128x128, .f32⟩
  | 45 => ⟨S1x4x128x128, .f32⟩
  | 46 => ⟨S1x4x128x128, .f32⟩
  | 47 => ⟨S1x1x4x128x128, .f32⟩
  | 48 => ⟨S1x4x128x128, .f32⟩
  | 49 => ⟨S1x4x128x128, .f32⟩
  | 50 => ⟨S1x4x128x128, .f32⟩
  | 51 => ⟨S1x4x128x128, .f32⟩
  | 52 => ⟨S1x1x4x128x128, .f32⟩
  | 53 => ⟨S1x4x128x128, .f32⟩
  | 54 => ⟨S1x4x128x128, .f32⟩
  | 55 => ⟨S1x4x128x128, .f32⟩
  | 56 => ⟨S1x4x128x128, .f32⟩
  | 57 => ⟨S1x1x4x128x128, .f32⟩
  | 58 => ⟨S1x4x128x128, .f32⟩
  | 59 => ⟨S1x4x128x128, .f32⟩
  | 60 => ⟨S1x4x128x128, .f32⟩
  | 61 => ⟨S1x4x128x128, .f32⟩
  | 62 => ⟨S1x1x4x128x128, .f32⟩
  | 63 => ⟨S1x4x128x128, .f32⟩
  | 64 => ⟨S1x4x128x128, .f32⟩
  | 65 => ⟨S1x4x128x128, .f32⟩
  | 66 => ⟨S1x4x128x128, .f32⟩
  | 67 => ⟨S1x1x4x128x128, .f32⟩
  | 68 => ⟨S1x4x128x128, .f32⟩
  | 69 => ⟨S1x4x128x128, .f32⟩
  | 70 => ⟨S1x4x128x128, .f32⟩
  | 71 => ⟨S1x4x128x128, .f32⟩
  | 72 => ⟨S1x1x4x128x128, .f32⟩
  | 73 => ⟨S1x4x128x128, .f32⟩
  | 74 => ⟨S1x4x128x128, .f32⟩
  | 75 => ⟨S1x4x128x128, .f32⟩
  | 76 => ⟨S1x4x128x128, .f32⟩
  | 77 => ⟨S1x1x4x128x128, .f32⟩
  | 78 => ⟨S1x4x128x128, .f32⟩
  | 79 => ⟨S1x4x128x128, .f32⟩
  | 80 => ⟨S1x4x128x128, .f32⟩
  | 81 => ⟨S1x4x128x128, .f32⟩
  | 82 => ⟨S1x1x4x128x128, .f32⟩
  | 83 => ⟨S1x4x128x128, .f32⟩
  | 84 => ⟨S1x4x128x128, .f32⟩
  | 85 => ⟨S1x4x128x128, .f32⟩
  | 86 => ⟨S1x4x128x128, .f32⟩
  | 87 => ⟨S1x1x4x128x128, .f32⟩
  | 88 => ⟨S1x4x128x128, .f32⟩
  | 89 => ⟨S1x4x128x128, .f32⟩
  | 90 => ⟨S1x4x128x128, .f32⟩
  | 91 => ⟨S1x4x128x128, .f32⟩
  | 92 => ⟨S1x1x4x128x128, .f32⟩
  | 93 => ⟨S1x4x128x128, .f32⟩
  | 94 => ⟨S1x4x128x128, .f32⟩
  | 95 => ⟨S1x4x128x128, .f32⟩
  | 96 => ⟨S1x4x128x128, .f32⟩
  | 97 => ⟨S1x1x4x128x128, .f32⟩
  | 98 => ⟨S1x4x128x128, .f32⟩
  | 99 => ⟨S1x4x128x128, .f32⟩
  | 100 => ⟨S1x4x128x128, .f32⟩
  | 101 => ⟨S1x4x128x128, .f32⟩
  | 102 => ⟨S1x1x4x128x128, .f32⟩
  | 103 => ⟨S1x1x4x128x128, .f32⟩
  | 104 => ⟨S1x1x4x128x128, .f32⟩
  | 105 => ⟨S1x1x4x128x128, .f32⟩
  | 106 => ⟨S1x1x4x128x128, .f32⟩
  | 107 => ⟨S1x1x4x128x128, .f32⟩
  | 108 => ⟨S1x1x4x128x128, .f32⟩
  | 109 => ⟨S1x1x4x128x128, .f32⟩
  | 110 => ⟨S1x1x4x128x128, .f32⟩
  | 111 => ⟨S1x1x4x128x128, .f32⟩
  | 112 => ⟨S1x1x4x128x128, .f32⟩
  | 113 => ⟨S1x1x4x128x128, .f32⟩
  | 114 => ⟨S1x1x4x128x128, .f32⟩
  | 115 => ⟨S1x1x4x128x128, .f32⟩
  | 116 => ⟨S1x1x4x128x128, .f32⟩
  | 117 => ⟨S1x1x4x128x128, .f32⟩
  | 118 => ⟨S16x1x4x128x128, .f32⟩
  | 119 => ⟨S16x1x4x128x128, .f32⟩
  | 120 => ⟨S4x1x1, .f32⟩
  | 121 => ⟨S_, .f32⟩
  | 122 => ⟨S128, .f32⟩
  | 123 => ⟨S128, .f32⟩
  | 124 => ⟨S1x1x128, .f32⟩
  | 125 => ⟨S4x1x128, .f32⟩
  | 126 => ⟨S4x1x128, .f32⟩
  | 127 => ⟨S4x1x128, .f32⟩
  | _ => ⟨S2048x4096, .f32⟩

abbrev hbmTy0_2 (i : Nat) : BufTy := match i % 128 with
  | 0 => ⟨S4x1x128, .f32⟩
  | 1 => ⟨S4x1x128x1, .f32⟩
  | 2 => ⟨S1x4x1x128x1, .f32⟩
  | 3 => ⟨S1x4x16x128x128, .f32⟩
  | 4 => ⟨S1x4x16x128x128, .f32⟩
  | 5 => ⟨S1x4x16x128x128, .f32⟩
  | 6 => ⟨S1x4x16x128x128, .f32⟩
  | 7 => ⟨S1x16x128x4x128, .f32⟩
  | 8 => ⟨S1x2048x4x128, .f32⟩
  | 9 => ⟨S1x2048x4x128, .f32⟩
  | 10 => ⟨S_, .f32⟩
  | 11 => ⟨S1x2048x4, .f32⟩
  | 12 => ⟨S1x2048x4x1, .f32⟩
  | 13 => ⟨S_, .f32⟩
  | 14 => ⟨S1x2048x4x1, .f32⟩
  | 15 => ⟨S1x2048x4x1, .f32⟩
  | 16 => ⟨S_, .f32⟩
  | 17 => ⟨S1x2048x4x1, .f32⟩
  | 18 => ⟨S1x2048x4x1, .f32⟩
  | 19 => ⟨S1x2048x4x1, .f32⟩
  | 20 => ⟨S1x2048x4x1, .f32⟩
  | 21 => ⟨S_, .f32⟩
  | 22 => ⟨S1x2048x4x1, .f32⟩
  | 23 => ⟨S1x2048x4x1, .f32⟩
  | 24 => ⟨S1x2048x4x128, .f32⟩
  | 25 => ⟨S1x2048x4x128, .f32⟩
  | 26 => ⟨S1x2048x512, .f32⟩
  | 27 => ⟨S1x2048x512, .f32⟩
  | 28 => ⟨S1x2048x512, .f32⟩
  | 29 => ⟨S_, .f32⟩
  | 30 => ⟨S1x2048x512, .f32⟩
  | 31 => ⟨S1x2048x512, .f32⟩
  | 32 => ⟨S_, .f32⟩
  | 33 => ⟨S1x2048x512, .f32⟩
  | 34 => ⟨S1x2048x512, .f32⟩
  | 35 => ⟨S_, .f32⟩
  | 36 => ⟨S1x2048x512, .f32⟩
  | 37 => ⟨S1x2048x512, .f32⟩
  | 38 => ⟨S1x2048x512, .f32⟩
  | 39 => ⟨S1x2048x512, .f32⟩
  | 40 => ⟨S1x2048x512, .f32⟩
  | 41 => ⟨S2048x512, .f32⟩
  | 42 => ⟨S1x2048x512, .f32⟩
  | 43 => ⟨S_, .f32⟩
  | 44 => ⟨S1x4x128x128, .f32⟩
  | 45 => ⟨S1x2048x512, .f32⟩
  | 46 => ⟨S1x2048x512, .f32⟩
  | 47 => ⟨S1x2048x512, .f32⟩
  | 48 => ⟨S1x2048x512, .f32⟩
  | 49 => ⟨S1x2048x512, .f32⟩
  | 50 => ⟨S1x2048x512, .f32⟩
  | 51 => ⟨S1x2048x4x128, .f32⟩
  | 52 => ⟨S1x2048x4x128, .f32⟩
  | 53 => ⟨S_, .f32⟩
  | 54 => ⟨S1x2048x4, .f32⟩
  | 55 => ⟨S1x2048x4x1, .f32⟩
  | 56 => ⟨S1x2048x4x128, .f32⟩
  | 57 => ⟨S1x2048x4x128, .f32⟩
  | 58 => ⟨S1x2048x4x1, .f32⟩
  | 59 => ⟨S_, .f32⟩
  | 60 => ⟨S1x2048x4x1, .f32⟩
  | 61 => ⟨S1x2048x4x1, .f32⟩
  | 62 => ⟨S_, .f32⟩
  | 63 => ⟨S2048x4, .f32⟩
  | 64 => ⟨S1x2048x4, .f32⟩
  | 65 => ⟨S1x2048x4x128, .f32⟩
  | 66 => ⟨S1x2048x4x128, .f32⟩
  | 67 => ⟨S1x2048x4x128, .f32⟩
  | 68 => ⟨S1x2048x4x128, .f32⟩
  | 69 => ⟨S1x2048x4x128, .f32⟩
  | 70 => ⟨S1x16x128x4x128, .f32⟩
  | 71 => ⟨S1x4x16x128x128, .f32⟩
  | 72 => ⟨S1x4x16x128x128, .f32⟩
  | 73 => ⟨S16x1x4x128x128, .f32⟩
  | 74 => ⟨S1x4x16x128x128, .f32⟩
  | 75 => ⟨S1x4x16x128x128, .f32⟩
  | 76 => ⟨S1x4x16x128x128, .f32⟩
  | 77 => ⟨S_, .f32⟩
  | 78 => ⟨S1x4x128x128, .f32⟩
  | 79 => ⟨S16x1x4x128x128, .f32⟩
  | 80 => ⟨S0x1x4x128x128, .f32⟩
  | 81 => ⟨S_, .f32⟩
  | 82 => ⟨S0x1x4x128x128, .f32⟩
  | 83 => ⟨S1x1x4x128x128, .f32⟩
  | 84 => ⟨S1x4x128x128, .f32⟩
  | 85 => ⟨S1x4x128x128, .f32⟩
  | 86 => ⟨S1x4x128x128, .f32⟩
  | 87 => ⟨S1x4x128x128, .f32⟩
  | 88 => ⟨S1x1x4x128x128, .f32⟩
  | 89 => ⟨S1x4x128x128, .f32⟩
  | 90 => ⟨S1x4x128x128, .f32⟩
  | 91 => ⟨S1x4x128x128, .f32⟩
  | 92 => ⟨S1x4x128x128, .f32⟩
  | 93 => ⟨S1x1x4x128x128, .f32⟩
  | 94 => ⟨S1x4x128x128, .f32⟩
  | 95 => ⟨S1x4x128x128, .f32⟩
  | 96 => ⟨S1x4x128x128, .f32⟩
  | 97 => ⟨S1x4x128x128, .f32⟩
  | 98 => ⟨S1x1x4x128x128, .f32⟩
  | 99 => ⟨S1x4x128x128, .f32⟩
  | 100 => ⟨S1x4x128x128, .f32⟩
  | 101 => ⟨S1x4x128x128, .f32⟩
  | 102 => ⟨S1x4x128x128, .f32⟩
  | 103 => ⟨S1x1x4x128x128, .f32⟩
  | 104 => ⟨S1x4x128x128, .f32⟩
  | 105 => ⟨S1x4x128x128, .f32⟩
  | 106 => ⟨S1x4x128x128, .f32⟩
  | 107 => ⟨S1x4x128x128, .f32⟩
  | 108 => ⟨S1x1x4x128x128, .f32⟩
  | 109 => ⟨S1x4x128x128, .f32⟩
  | 110 => ⟨S1x4x128x128, .f32⟩
  | 111 => ⟨S1x4x128x128, .f32⟩
  | 112 => ⟨S1x4x128x128, .f32⟩
  | 113 => ⟨S1x1x4x128x128, .f32⟩
  | 114 => ⟨S1x4x128x128, .f32⟩
  | 115 => ⟨S1x4x128x128, .f32⟩
  | 116 => ⟨S1x4x128x128, .f32⟩
  | 117 => ⟨S1x4x128x128, .f32⟩
  | 118 => ⟨S1x1x4x128x128, .f32⟩
  | 119 => ⟨S1x4x128x128, .f32⟩
  | 120 => ⟨S1x4x128x128, .f32⟩
  | 121 => ⟨S1x4x128x128, .f32⟩
  | 122 => ⟨S1x4x128x128, .f32⟩
  | 123 => ⟨S1x1x4x128x128, .f32⟩
  | 124 => ⟨S1x4x128x128, .f32⟩
  | 125 => ⟨S1x4x128x128, .f32⟩
  | 126 => ⟨S1x4x128x128, .f32⟩
  | 127 => ⟨S1x4x128x128, .f32⟩
  | _ => ⟨S2048x4096, .f32⟩

abbrev hbmTy0_3 (i : Nat) : BufTy := match i % 128 with
  | 0 => ⟨S1x1x4x128x128, .f32⟩
  | 1 => ⟨S1x4x128x128, .f32⟩
  | 2 => ⟨S1x4x128x128, .f32⟩
  | 3 => ⟨S1x4x128x128, .f32⟩
  | 4 => ⟨S1x4x128x128, .f32⟩
  | 5 => ⟨S1x1x4x128x128, .f32⟩
  | 6 => ⟨S1x4x128x128, .f32⟩
  | 7 => ⟨S1x4x128x128, .f32⟩
  | 8 => ⟨S1x4x128x128, .f32⟩
  | 9 => ⟨S1x4x128x128, .f32⟩
  | 10 => ⟨S1x1x4x128x128, .f32⟩
  | 11 => ⟨S1x4x128x128, .f32⟩
  | 12 => ⟨S1x4x128x128, .f32⟩
  | 13 => ⟨S1x4x128x128, .f32⟩
  | 14 => ⟨S1x4x128x128, .f32⟩
  | 15 => ⟨S1x1x4x128x128, .f32⟩
  | 16 => ⟨S1x4x128x128, .f32⟩
  | 17 => ⟨S1x4x128x128, .f32⟩
  | 18 => ⟨S1x4x128x128, .f32⟩
  | 19 => ⟨S1x4x128x128, .f32⟩
  | 20 => ⟨S1x1x4x128x128, .f32⟩
  | 21 => ⟨S1x4x128x128, .f32⟩
  | 22 => ⟨S1x4x128x128, .f32⟩
  | 23 => ⟨S1x4x128x128, .f32⟩
  | 24 => ⟨S1x4x128x128, .f32⟩
  | 25 => ⟨S1x1x4x128x128, .f32⟩
  | 26 => ⟨S1x4x128x128, .f32⟩
  | 27 => ⟨S1x4x128x128, .f32⟩
  | 28 => ⟨S1x4x128x128, .f32⟩
  | 29 => ⟨S1x4x128x128, .f32⟩
  | 30 => ⟨S1x1x4x128x128, .f32⟩
  | 31 => ⟨S1x4x128x128, .f32⟩
  | 32 => ⟨S1x4x128x128, .f32⟩
  | 33 => ⟨S1x4x128x128, .f32⟩
  | 34 => ⟨S1x4x128x128, .f32⟩
  | 35 => ⟨S1x1x4x128x128, .f32⟩
  | 36 => ⟨S1x1x4x128x128, .f32⟩
  | 37 => ⟨S1x1x4x128x128, .f32⟩
  | 38 => ⟨S1x1x4x128x128, .f32⟩
  | 39 => ⟨S1x1x4x128x128, .f32⟩
  | 40 => ⟨S1x1x4x128x128, .f32⟩
  | 41 => ⟨S1x1x4x128x128, .f32⟩
  | 42 => ⟨S1x1x4x128x128, .f32⟩
  | 43 => ⟨S1x1x4x128x128, .f32⟩
  | 44 => ⟨S1x1x4x128x128, .f32⟩
  | 45 => ⟨S1x1x4x128x128, .f32⟩
  | 46 => ⟨S1x1x4x128x128, .f32⟩
  | 47 => ⟨S1x1x4x128x128, .f32⟩
  | 48 => ⟨S1x1x4x128x128, .f32⟩
  | 49 => ⟨S1x1x4x128x128, .f32⟩
  | 50 => ⟨S1x1x4x128x128, .f32⟩
  | 51 => ⟨S16x1x4x128x128, .f32⟩
  | 52 => ⟨S16x1x4x128x128, .f32⟩
  | 53 => ⟨S16x1x4x128x128, .f32⟩
  | 54 => ⟨S1x4x16x128x128, .f32⟩
  | 55 => ⟨S16x1x4x128x128, .f32⟩
  | 56 => ⟨S1x4x16x128x128, .f32⟩
  | 57 => ⟨S1x4x16x128x128, .f32⟩
  | 58 => ⟨S1x4x16x128x128, .f32⟩
  | 59 => ⟨S1x4x16x128x128, .f32⟩
  | 60 => ⟨S1x4x16x128x128, .f32⟩
  | 61 => ⟨S1x4x16x128x128, .f32⟩
  | 62 => ⟨S1x4x16x128x128, .f32⟩
  | 63 => ⟨S1x4x16x128x128, .f32⟩
  | 64 => ⟨S1x4x16x128x128, .f32⟩
  | 65 => ⟨S1x4x16x128x128, .f32⟩
  | 66 => ⟨S1x4x16x128x128, .f32⟩
  | 67 => ⟨S1x4x16x128x128, .f32⟩
  | 68 => ⟨S1x4x16x128x128, .f32⟩
  | 69 => ⟨S1x16x128x4x128, .f32⟩
  | 70 => ⟨S1x2048x4x128, .f32⟩
  | 71 => ⟨S1x16x128x4x128, .f32⟩
  | 72 => ⟨S1x2048x4x128, .f32⟩
  | 73 => ⟨S_, .f32⟩
  | 74 => ⟨S1x2048x4x128, .f32⟩
  | 75 => ⟨S1x2048x4x128, .f32⟩
  | 76 => ⟨S1x16x128x4x128, .f32⟩
  | 77 => ⟨S1x2048x4x128, .f32⟩
  | 78 => ⟨S1x2048x512, .f32⟩
  | 79 => ⟨S1x2048x4x64, .f32⟩
  | 80 => ⟨S1x2048x4x64, .f32⟩
  | 81 => ⟨S1x2048x4x64, .f32⟩
  | 82 => ⟨S1x2048x4x64, .f32⟩
  | 83 => ⟨S1x2048x4x64, .f32⟩
  | 84 => ⟨S1x2048x4x64, .f32⟩
  | 85 => ⟨S1x2048x4x64, .f32⟩
  | 86 => ⟨S1x2048x4x64, .f32⟩
  | 87 => ⟨S1x2048x4x64, .f32⟩
  | 88 => ⟨S1x2048x4x64, .f32⟩
  | 89 => ⟨S1x2048x4x64, .f32⟩
  | 90 => ⟨S1x2048x4x64, .f32⟩
  | 91 => ⟨S1x2048x4x64, .f32⟩
  | 92 => ⟨S_, .f32⟩
  | 93 => ⟨S1x2048x4x128, .f32⟩
  | 94 => ⟨S_, .f32⟩
  | 95 => ⟨S1x2048x4x128, .f32⟩
  | 96 => ⟨S1x2048x4x128, .f32⟩
  | 97 => ⟨S1x2048x512, .f32⟩
  | 98 => ⟨S1x2048x4x64, .f32⟩
  | 99 => ⟨S1x2048x4x64, .f32⟩
  | 100 => ⟨S1x2048x4x64, .f32⟩
  | 101 => ⟨S1x2048x4x64, .f32⟩
  | 102 => ⟨S1x2048x4x64, .f32⟩
  | 103 => ⟨S1x2048x4x64, .f32⟩
  | 104 => ⟨S1x2048x4x64, .f32⟩
  | 105 => ⟨S1x2048x4x64, .f32⟩
  | 106 => ⟨S1x2048x4x64, .f32⟩
  | 107 => ⟨S1x2048x4x64, .f32⟩
  | 108 => ⟨S1x2048x4x64, .f32⟩
  | 109 => ⟨S1x2048x4x64, .f32⟩
  | 110 => ⟨S1x2048x4x64, .f32⟩
  | 111 => ⟨S_, .f32⟩
  | 112 => ⟨S1x2048x4x128, .f32⟩
  | 113 => ⟨S_, .f32⟩
  | 114 => ⟨S1x2048x4x128, .f32⟩
  | 115 => ⟨S1x2048x4x128, .f32⟩
  | 116 => ⟨S1x2048x512, .f32⟩
  | 117 => ⟨S2048x512, .f32⟩
  | 118 => ⟨S2048x512, .bf16⟩
  | 119 => ⟨S2048x512, .f32⟩
  | 120 => ⟨S2048x512, .bf16⟩
  | 121 => ⟨S2048x512, .f32⟩
  | 122 => ⟨S2048x512, .bf16⟩
  | 123 => ⟨S2048x512, .f32⟩
  | 124 => ⟨S2048x512, .bf16⟩
  | _ => ⟨S2048x4096, .f32⟩

abbrev hbmTy (i : Nat) : BufTy := match i / 128 with
  | 0 => hbmTy0_0 i
  | 1 => hbmTy0_1 i
  | 2 => hbmTy0_2 i
  | 3 => hbmTy0_3 i
  | _ => ⟨S2048x4096, .f32⟩

abbrev bufTy : (tb : Table) → Fin (tcTables nBuf tb) → BufTy
  | .hbm, ⟨i, _⟩ => hbmTy i
  | _, _ => ⟨S2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_cst : Ref sig .tc := ⟨.hbm, 14, rfl⟩
abbrev main_v12 : Ref sig .tc := ⟨.hbm, 15, rfl⟩
abbrev main_v13 : Ref sig .tc := ⟨.hbm, 16, rfl⟩
abbrev main_cst_0 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_cst_1 : Ref sig .tc := ⟨.hbm, 46, rfl⟩
abbrev main_v42 : Ref sig .tc := ⟨.hbm, 47, rfl⟩
abbrev main_v43 : Ref sig .tc := ⟨.hbm, 48, rfl⟩
abbrev main_cst_2 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩
abbrev main_v54 : Ref sig .tc := ⟨.hbm, 60, rfl⟩
abbrev main_v55 : Ref sig .tc := ⟨.hbm, 61, rfl⟩
abbrev main_v56 : Ref sig .tc := ⟨.hbm, 62, rfl⟩
abbrev main_v57 : Ref sig .tc := ⟨.hbm, 63, rfl⟩
abbrev main_v58 : Ref sig .tc := ⟨.hbm, 64, rfl⟩
abbrev main_v59 : Ref sig .tc := ⟨.hbm, 65, rfl⟩
abbrev main_v60 : Ref sig .tc := ⟨.hbm, 66, rfl⟩
abbrev main_v61 : Ref sig .tc := ⟨.hbm, 67, rfl⟩
abbrev main_v62 : Ref sig .tc := ⟨.hbm, 68, rfl⟩
abbrev main_v63 : Ref sig .tc := ⟨.hbm, 69, rfl⟩
abbrev main_v64 : Ref sig .tc := ⟨.hbm, 70, rfl⟩
abbrev main_v65 : Ref sig .tc := ⟨.hbm, 71, rfl⟩
abbrev main_v66 : Ref sig .tc := ⟨.hbm, 72, rfl⟩
abbrev main_v67 : Ref sig .tc := ⟨.hbm, 73, rfl⟩
abbrev main_v68 : Ref sig .tc := ⟨.hbm, 74, rfl⟩
abbrev main_v69 : Ref sig .tc := ⟨.hbm, 75, rfl⟩
abbrev main_v70 : Ref sig .tc := ⟨.hbm, 76, rfl⟩
abbrev main_cst_3 : Ref sig .tc := ⟨.hbm, 77, rfl⟩
abbrev main_v71 : Ref sig .tc := ⟨.hbm, 78, rfl⟩
abbrev main_v72 : Ref sig .tc := ⟨.hbm, 79, rfl⟩
abbrev main_cst_4 : Ref sig .tc := ⟨.hbm, 80, rfl⟩
abbrev main_v73 : Ref sig .tc := ⟨.hbm, 81, rfl⟩
abbrev main_v74 : Ref sig .tc := ⟨.hbm, 82, rfl⟩
abbrev main_v75 : Ref sig .tc := ⟨.hbm, 83, rfl⟩
abbrev main_v76 : Ref sig .tc := ⟨.hbm, 84, rfl⟩
abbrev main_v77 : Ref sig .tc := ⟨.hbm, 85, rfl⟩
abbrev main_v78 : Ref sig .tc := ⟨.hbm, 86, rfl⟩
abbrev main_v79 : Ref sig .tc := ⟨.hbm, 87, rfl⟩
abbrev main_cst_5 : Ref sig .tc := ⟨.hbm, 88, rfl⟩
abbrev main_v80 : Ref sig .tc := ⟨.hbm, 89, rfl⟩
abbrev main_v81 : Ref sig .tc := ⟨.hbm, 90, rfl⟩
abbrev main_v82 : Ref sig .tc := ⟨.hbm, 91, rfl⟩
abbrev main_v83 : Ref sig .tc := ⟨.hbm, 92, rfl⟩
abbrev main_v84 : Ref sig .tc := ⟨.hbm, 93, rfl⟩
abbrev main_v85 : Ref sig .tc := ⟨.hbm, 94, rfl⟩
abbrev main_v86 : Ref sig .tc := ⟨.hbm, 95, rfl⟩
abbrev main_v87 : Ref sig .tc := ⟨.hbm, 96, rfl⟩
abbrev main_v88 : Ref sig .tc := ⟨.hbm, 97, rfl⟩
abbrev main_v89 : Ref sig .tc := ⟨.hbm, 98, rfl⟩
abbrev main_v90 : Ref sig .tc := ⟨.hbm, 99, rfl⟩
abbrev main_v91 : Ref sig .tc := ⟨.hbm, 100, rfl⟩
abbrev main_cst_6 : Ref sig .tc := ⟨.hbm, 101, rfl⟩
abbrev main_v92 : Ref sig .tc := ⟨.hbm, 102, rfl⟩
abbrev main_v93 : Ref sig .tc := ⟨.hbm, 103, rfl⟩
abbrev main_v94 : Ref sig .tc := ⟨.hbm, 104, rfl⟩
abbrev main_cst_7 : Ref sig .tc := ⟨.hbm, 105, rfl⟩
abbrev main_call0_v0 : Ref sig .tc := ⟨.hbm, 106, rfl⟩
abbrev main_call0_v1 : Ref sig .tc := ⟨.hbm, 107, rfl⟩
abbrev main_v95 : Ref sig .tc := ⟨.hbm, 108, rfl⟩
abbrev main_v96 : Ref sig .tc := ⟨.hbm, 109, rfl⟩
abbrev main_v97 : Ref sig .tc := ⟨.hbm, 110, rfl⟩
abbrev main_v98 : Ref sig .tc := ⟨.hbm, 111, rfl⟩
abbrev main_v99 : Ref sig .tc := ⟨.hbm, 112, rfl⟩
abbrev main_v100 : Ref sig .tc := ⟨.hbm, 113, rfl⟩
abbrev main_cst_8 : Ref sig .tc := ⟨.hbm, 114, rfl⟩
abbrev main_call1_v0 : Ref sig .tc := ⟨.hbm, 115, rfl⟩
abbrev main_call1_v1 : Ref sig .tc := ⟨.hbm, 116, rfl⟩
abbrev main_call1_v2 : Ref sig .tc := ⟨.hbm, 117, rfl⟩
abbrev main_v101 : Ref sig .tc := ⟨.hbm, 118, rfl⟩
abbrev main_v102 : Ref sig .tc := ⟨.hbm, 119, rfl⟩
abbrev main_v103 : Ref sig .tc := ⟨.hbm, 120, rfl⟩
abbrev main_v104 : Ref sig .tc := ⟨.hbm, 121, rfl⟩
abbrev main_v105 : Ref sig .tc := ⟨.hbm, 122, rfl⟩
abbrev main_v106 : Ref sig .tc := ⟨.hbm, 123, rfl⟩
abbrev main_v107 : Ref sig .tc := ⟨.hbm, 124, rfl⟩
abbrev main_v108 : Ref sig .tc := ⟨.hbm, 125, rfl⟩
abbrev main_cst_9 : Ref sig .tc := ⟨.hbm, 126, rfl⟩
abbrev main_v109 : Ref sig .tc := ⟨.hbm, 127, rfl⟩
abbrev main_v110 : Ref sig .tc := ⟨.hbm, 128, rfl⟩
abbrev main_v111 : Ref sig .tc := ⟨.hbm, 129, rfl⟩
abbrev main_v112 : Ref sig .tc := ⟨.hbm, 130, rfl⟩
abbrev main_v113 : Ref sig .tc := ⟨.hbm, 131, rfl⟩
abbrev main_v114 : Ref sig .tc := ⟨.hbm, 132, rfl⟩
abbrev main_v115 : Ref sig .tc := ⟨.hbm, 133, rfl⟩
abbrev main_v116 : Ref sig .tc := ⟨.hbm, 134, rfl⟩
abbrev main_v117 : Ref sig .tc := ⟨.hbm, 135, rfl⟩
abbrev main_v118 : Ref sig .tc := ⟨.hbm, 136, rfl⟩
abbrev main_v119 : Ref sig .tc := ⟨.hbm, 137, rfl⟩
abbrev main_v120 : Ref sig .tc := ⟨.hbm, 138, rfl⟩
abbrev main_cst_10 : Ref sig .tc := ⟨.hbm, 139, rfl⟩
abbrev main_v121 : Ref sig .tc := ⟨.hbm, 140, rfl⟩
abbrev main_v122 : Ref sig .tc := ⟨.hbm, 141, rfl⟩
abbrev main_v123 : Ref sig .tc := ⟨.hbm, 142, rfl⟩
abbrev main_v124 : Ref sig .tc := ⟨.hbm, 143, rfl⟩
abbrev main_cst_11 : Ref sig .tc := ⟨.hbm, 144, rfl⟩
abbrev main_v125 : Ref sig .tc := ⟨.hbm, 145, rfl⟩
abbrev main_v126 : Ref sig .tc := ⟨.hbm, 146, rfl⟩
abbrev main_v127 : Ref sig .tc := ⟨.hbm, 147, rfl⟩
abbrev main_cst_12 : Ref sig .tc := ⟨.hbm, 148, rfl⟩
abbrev main_v128 : Ref sig .tc := ⟨.hbm, 149, rfl⟩
abbrev main_v129 : Ref sig .tc := ⟨.hbm, 150, rfl⟩
abbrev main_v130 : Ref sig .tc := ⟨.hbm, 151, rfl⟩
abbrev main_v131 : Ref sig .tc := ⟨.hbm, 152, rfl⟩
abbrev main_v132 : Ref sig .tc := ⟨.hbm, 153, rfl⟩
abbrev main_v133 : Ref sig .tc := ⟨.hbm, 154, rfl⟩
abbrev main_v134 : Ref sig .tc := ⟨.hbm, 155, rfl⟩
abbrev main_v135 : Ref sig .tc := ⟨.hbm, 156, rfl⟩
abbrev main_v136 : Ref sig .tc := ⟨.hbm, 157, rfl⟩
abbrev main_v137 : Ref sig .tc := ⟨.hbm, 158, rfl⟩
abbrev main_v138 : Ref sig .tc := ⟨.hbm, 159, rfl⟩
abbrev main_v139 : Ref sig .tc := ⟨.hbm, 160, rfl⟩
abbrev main_v140 : Ref sig .tc := ⟨.hbm, 161, rfl⟩
abbrev main_v141 : Ref sig .tc := ⟨.hbm, 162, rfl⟩
abbrev main_v142 : Ref sig .tc := ⟨.hbm, 163, rfl⟩
abbrev main_v143 : Ref sig .tc := ⟨.hbm, 164, rfl⟩
abbrev main_v144 : Ref sig .tc := ⟨.hbm, 165, rfl⟩
abbrev main_v145 : Ref sig .tc := ⟨.hbm, 166, rfl⟩
abbrev main_v146 : Ref sig .tc := ⟨.hbm, 167, rfl⟩
abbrev main_v147 : Ref sig .tc := ⟨.hbm, 168, rfl⟩
abbrev main_v148 : Ref sig .tc := ⟨.hbm, 169, rfl⟩
abbrev main_v149 : Ref sig .tc := ⟨.hbm, 170, rfl⟩
abbrev main_v150 : Ref sig .tc := ⟨.hbm, 171, rfl⟩
abbrev main_v151 : Ref sig .tc := ⟨.hbm, 172, rfl⟩
abbrev main_v152 : Ref sig .tc := ⟨.hbm, 173, rfl⟩
abbrev main_v153 : Ref sig .tc := ⟨.hbm, 174, rfl⟩
abbrev main_v154 : Ref sig .tc := ⟨.hbm, 175, rfl⟩
abbrev main_v155 : Ref sig .tc := ⟨.hbm, 176, rfl⟩
abbrev main_v156 : Ref sig .tc := ⟨.hbm, 177, rfl⟩
abbrev main_v157 : Ref sig .tc := ⟨.hbm, 178, rfl⟩
abbrev main_v158 : Ref sig .tc := ⟨.hbm, 179, rfl⟩
abbrev main_v159 : Ref sig .tc := ⟨.hbm, 180, rfl⟩
abbrev main_v160 : Ref sig .tc := ⟨.hbm, 181, rfl⟩
abbrev main_v161 : Ref sig .tc := ⟨.hbm, 182, rfl⟩
abbrev main_v162 : Ref sig .tc := ⟨.hbm, 183, rfl⟩
abbrev main_v163 : Ref sig .tc := ⟨.hbm, 184, rfl⟩
abbrev main_v164 : Ref sig .tc := ⟨.hbm, 185, rfl⟩
abbrev main_v165 : Ref sig .tc := ⟨.hbm, 186, rfl⟩
abbrev main_v166 : Ref sig .tc := ⟨.hbm, 187, rfl⟩
abbrev main_v167 : Ref sig .tc := ⟨.hbm, 188, rfl⟩
abbrev main_v168 : Ref sig .tc := ⟨.hbm, 189, rfl⟩
abbrev main_v169 : Ref sig .tc := ⟨.hbm, 190, rfl⟩
abbrev main_v170 : Ref sig .tc := ⟨.hbm, 191, rfl⟩
abbrev main_v171 : Ref sig .tc := ⟨.hbm, 192, rfl⟩
abbrev main_v172 : Ref sig .tc := ⟨.hbm, 193, rfl⟩
abbrev main_v173 : Ref sig .tc := ⟨.hbm, 194, rfl⟩
abbrev main_v174 : Ref sig .tc := ⟨.hbm, 195, rfl⟩
abbrev main_v175 : Ref sig .tc := ⟨.hbm, 196, rfl⟩
abbrev main_v176 : Ref sig .tc := ⟨.hbm, 197, rfl⟩
abbrev main_v177 : Ref sig .tc := ⟨.hbm, 198, rfl⟩
abbrev main_v178 : Ref sig .tc := ⟨.hbm, 199, rfl⟩
abbrev main_v179 : Ref sig .tc := ⟨.hbm, 200, rfl⟩
abbrev main_v180 : Ref sig .tc := ⟨.hbm, 201, rfl⟩
abbrev main_v181 : Ref sig .tc := ⟨.hbm, 202, rfl⟩
abbrev main_v182 : Ref sig .tc := ⟨.hbm, 203, rfl⟩
abbrev main_v183 : Ref sig .tc := ⟨.hbm, 204, rfl⟩
abbrev main_v184 : Ref sig .tc := ⟨.hbm, 205, rfl⟩
abbrev main_v185 : Ref sig .tc := ⟨.hbm, 206, rfl⟩
abbrev main_v186 : Ref sig .tc := ⟨.hbm, 207, rfl⟩
abbrev main_v187 : Ref sig .tc := ⟨.hbm, 208, rfl⟩
abbrev main_v188 : Ref sig .tc := ⟨.hbm, 209, rfl⟩
abbrev main_v189 : Ref sig .tc := ⟨.hbm, 210, rfl⟩
abbrev main_v190 : Ref sig .tc := ⟨.hbm, 211, rfl⟩
abbrev main_v191 : Ref sig .tc := ⟨.hbm, 212, rfl⟩
abbrev main_v192 : Ref sig .tc := ⟨.hbm, 213, rfl⟩
abbrev main_v193 : Ref sig .tc := ⟨.hbm, 214, rfl⟩
abbrev main_v194 : Ref sig .tc := ⟨.hbm, 215, rfl⟩
abbrev main_v195 : Ref sig .tc := ⟨.hbm, 216, rfl⟩
abbrev main_v196 : Ref sig .tc := ⟨.hbm, 217, rfl⟩
abbrev main_v197 : Ref sig .tc := ⟨.hbm, 218, rfl⟩
abbrev main_v198 : Ref sig .tc := ⟨.hbm, 219, rfl⟩
abbrev main_v199 : Ref sig .tc := ⟨.hbm, 220, rfl⟩
abbrev main_v200 : Ref sig .tc := ⟨.hbm, 221, rfl⟩
abbrev main_v201 : Ref sig .tc := ⟨.hbm, 222, rfl⟩
abbrev main_v202 : Ref sig .tc := ⟨.hbm, 223, rfl⟩
abbrev main_v203 : Ref sig .tc := ⟨.hbm, 224, rfl⟩
abbrev main_v204 : Ref sig .tc := ⟨.hbm, 225, rfl⟩
abbrev main_v205 : Ref sig .tc := ⟨.hbm, 226, rfl⟩
abbrev main_v206 : Ref sig .tc := ⟨.hbm, 227, rfl⟩
abbrev main_v207 : Ref sig .tc := ⟨.hbm, 228, rfl⟩
abbrev main_v208 : Ref sig .tc := ⟨.hbm, 229, rfl⟩
abbrev main_v209 : Ref sig .tc := ⟨.hbm, 230, rfl⟩
abbrev main_v210 : Ref sig .tc := ⟨.hbm, 231, rfl⟩
abbrev main_v211 : Ref sig .tc := ⟨.hbm, 232, rfl⟩
abbrev main_v212 : Ref sig .tc := ⟨.hbm, 233, rfl⟩
abbrev main_v213 : Ref sig .tc := ⟨.hbm, 234, rfl⟩
abbrev main_v214 : Ref sig .tc := ⟨.hbm, 235, rfl⟩
abbrev main_v215 : Ref sig .tc := ⟨.hbm, 236, rfl⟩
abbrev main_v216 : Ref sig .tc := ⟨.hbm, 237, rfl⟩
abbrev main_v217 : Ref sig .tc := ⟨.hbm, 238, rfl⟩
abbrev main_v218 : Ref sig .tc := ⟨.hbm, 239, rfl⟩
abbrev main_v219 : Ref sig .tc := ⟨.hbm, 240, rfl⟩
abbrev main_v220 : Ref sig .tc := ⟨.hbm, 241, rfl⟩
abbrev main_v221 : Ref sig .tc := ⟨.hbm, 242, rfl⟩
abbrev main_v222 : Ref sig .tc := ⟨.hbm, 243, rfl⟩
abbrev main_v223 : Ref sig .tc := ⟨.hbm, 244, rfl⟩
abbrev main_v224 : Ref sig .tc := ⟨.hbm, 245, rfl⟩
abbrev main_v225 : Ref sig .tc := ⟨.hbm, 246, rfl⟩
abbrev main_v226 : Ref sig .tc := ⟨.hbm, 247, rfl⟩
abbrev main_v227 : Ref sig .tc := ⟨.hbm, 248, rfl⟩
abbrev main_cst_13 : Ref sig .tc := ⟨.hbm, 249, rfl⟩
abbrev main_v228 : Ref sig .tc := ⟨.hbm, 250, rfl⟩
abbrev main_v229 : Ref sig .tc := ⟨.hbm, 251, rfl⟩
abbrev main_v230 : Ref sig .tc := ⟨.hbm, 252, rfl⟩
abbrev main_v231 : Ref sig .tc := ⟨.hbm, 253, rfl⟩
abbrev main_v232 : Ref sig .tc := ⟨.hbm, 254, rfl⟩
abbrev main_v233 : Ref sig .tc := ⟨.hbm, 255, rfl⟩
abbrev main_v234 : Ref sig .tc := ⟨.hbm, 256, rfl⟩
abbrev main_v235 : Ref sig .tc := ⟨.hbm, 257, rfl⟩
abbrev main_v236 : Ref sig .tc := ⟨.hbm, 258, rfl⟩
abbrev main_v237 : Ref sig .tc := ⟨.hbm, 259, rfl⟩
abbrev main_v238 : Ref sig .tc := ⟨.hbm, 260, rfl⟩
abbrev main_v239 : Ref sig .tc := ⟨.hbm, 261, rfl⟩
abbrev main_v240 : Ref sig .tc := ⟨.hbm, 262, rfl⟩
abbrev main_v241 : Ref sig .tc := ⟨.hbm, 263, rfl⟩
abbrev main_v242 : Ref sig .tc := ⟨.hbm, 264, rfl⟩
abbrev main_v243 : Ref sig .tc := ⟨.hbm, 265, rfl⟩
abbrev main_cst_14 : Ref sig .tc := ⟨.hbm, 266, rfl⟩
abbrev main_v244 : Ref sig .tc := ⟨.hbm, 267, rfl⟩
abbrev main_v245 : Ref sig .tc := ⟨.hbm, 268, rfl⟩
abbrev main_cst_15 : Ref sig .tc := ⟨.hbm, 269, rfl⟩
abbrev main_v246 : Ref sig .tc := ⟨.hbm, 270, rfl⟩
abbrev main_v247 : Ref sig .tc := ⟨.hbm, 271, rfl⟩
abbrev main_cst_16 : Ref sig .tc := ⟨.hbm, 272, rfl⟩
abbrev main_v248 : Ref sig .tc := ⟨.hbm, 273, rfl⟩
abbrev main_v249 : Ref sig .tc := ⟨.hbm, 274, rfl⟩
abbrev main_v250 : Ref sig .tc := ⟨.hbm, 275, rfl⟩
abbrev main_v251 : Ref sig .tc := ⟨.hbm, 276, rfl⟩
abbrev main_cst_17 : Ref sig .tc := ⟨.hbm, 277, rfl⟩
abbrev main_v252 : Ref sig .tc := ⟨.hbm, 278, rfl⟩
abbrev main_v253 : Ref sig .tc := ⟨.hbm, 279, rfl⟩
abbrev main_v254 : Ref sig .tc := ⟨.hbm, 280, rfl⟩
abbrev main_v255 : Ref sig .tc := ⟨.hbm, 281, rfl⟩
abbrev main_v256 : Ref sig .tc := ⟨.hbm, 282, rfl⟩
abbrev main_call2_v0 : Ref sig .tc := ⟨.hbm, 283, rfl⟩
abbrev main_call2_v1 : Ref sig .tc := ⟨.hbm, 284, rfl⟩
abbrev main_call2_cst : Ref sig .tc := ⟨.hbm, 285, rfl⟩
abbrev main_call2_v2 : Ref sig .tc := ⟨.hbm, 286, rfl⟩
abbrev main_call2_v3 : Ref sig .tc := ⟨.hbm, 287, rfl⟩
abbrev main_call2_cst_0 : Ref sig .tc := ⟨.hbm, 288, rfl⟩
abbrev main_call2_v4 : Ref sig .tc := ⟨.hbm, 289, rfl⟩
abbrev main_v257_2 : Ref sig .tc := ⟨.hbm, 290, rfl⟩
abbrev main_call2_cst_1 : Ref sig .tc := ⟨.hbm, 291, rfl⟩
abbrev main_call2_v6 : Ref sig .tc := ⟨.hbm, 292, rfl⟩
abbrev main_call2_v7 : Ref sig .tc := ⟨.hbm, 293, rfl⟩
abbrev main_v257_1 : Ref sig .tc := ⟨.hbm, 294, rfl⟩
abbrev main_v257_0 : Ref sig .tc := ⟨.hbm, 295, rfl⟩
abbrev main_v258 : Ref sig .tc := ⟨.hbm, 296, rfl⟩
abbrev main_v259 : Ref sig .tc := ⟨.hbm, 297, rfl⟩
abbrev main_v260 : Ref sig .tc := ⟨.hbm, 298, rfl⟩
abbrev main_cst_18 : Ref sig .tc := ⟨.hbm, 299, rfl⟩
abbrev main_v261 : Ref sig .tc := ⟨.hbm, 300, rfl⟩
abbrev main_v262 : Ref sig .tc := ⟨.hbm, 301, rfl⟩
abbrev main_v263 : Ref sig .tc := ⟨.hbm, 302, rfl⟩
abbrev main_call3_v0 : Ref sig .tc := ⟨.hbm, 303, rfl⟩
abbrev main_call3_v1 : Ref sig .tc := ⟨.hbm, 304, rfl⟩
abbrev main_call3_v2 : Ref sig .tc := ⟨.hbm, 305, rfl⟩
abbrev main_v264 : Ref sig .tc := ⟨.hbm, 306, rfl⟩
abbrev main_v265 : Ref sig .tc := ⟨.hbm, 307, rfl⟩
abbrev main_v266 : Ref sig .tc := ⟨.hbm, 308, rfl⟩
abbrev main_cst_19 : Ref sig .tc := ⟨.hbm, 309, rfl⟩
abbrev main_v267 : Ref sig .tc := ⟨.hbm, 310, rfl⟩
abbrev main_v268 : Ref sig .tc := ⟨.hbm, 311, rfl⟩
abbrev main_v269 : Ref sig .tc := ⟨.hbm, 312, rfl⟩
abbrev main_v270 : Ref sig .tc := ⟨.hbm, 313, rfl⟩
abbrev main_v271 : Ref sig .tc := ⟨.hbm, 314, rfl⟩
abbrev main_cst_20 : Ref sig .tc := ⟨.hbm, 315, rfl⟩
abbrev main_v272 : Ref sig .tc := ⟨.hbm, 316, rfl⟩
abbrev main_v273 : Ref sig .tc := ⟨.hbm, 317, rfl⟩
abbrev main_cst_21 : Ref sig .tc := ⟨.hbm, 318, rfl⟩
abbrev main_v274 : Ref sig .tc := ⟨.hbm, 319, rfl⟩
abbrev main_v275 : Ref sig .tc := ⟨.hbm, 320, rfl⟩
abbrev main_v276 : Ref sig .tc := ⟨.hbm, 321, rfl⟩
abbrev main_v277 : Ref sig .tc := ⟨.hbm, 322, rfl⟩
abbrev main_v278 : Ref sig .tc := ⟨.hbm, 323, rfl⟩
abbrev main_v279 : Ref sig .tc := ⟨.hbm, 324, rfl⟩
abbrev main_v280 : Ref sig .tc := ⟨.hbm, 325, rfl⟩
abbrev main_v281 : Ref sig .tc := ⟨.hbm, 326, rfl⟩
abbrev main_v282 : Ref sig .tc := ⟨.hbm, 327, rfl⟩
abbrev main_v283 : Ref sig .tc := ⟨.hbm, 328, rfl⟩
abbrev main_v284 : Ref sig .tc := ⟨.hbm, 329, rfl⟩
abbrev main_v285 : Ref sig .tc := ⟨.hbm, 330, rfl⟩
abbrev main_v286 : Ref sig .tc := ⟨.hbm, 331, rfl⟩
abbrev main_v287 : Ref sig .tc := ⟨.hbm, 332, rfl⟩
abbrev main_cst_22 : Ref sig .tc := ⟨.hbm, 333, rfl⟩
abbrev main_v288 : Ref sig .tc := ⟨.hbm, 334, rfl⟩
abbrev main_v289 : Ref sig .tc := ⟨.hbm, 335, rfl⟩
abbrev main_v290 : Ref sig .tc := ⟨.hbm, 336, rfl⟩
abbrev main_cst_23 : Ref sig .tc := ⟨.hbm, 337, rfl⟩
abbrev main_v291 : Ref sig .tc := ⟨.hbm, 338, rfl⟩
abbrev main_v292 : Ref sig .tc := ⟨.hbm, 339, rfl⟩
abbrev main_v293 : Ref sig .tc := ⟨.hbm, 340, rfl⟩
abbrev main_v294 : Ref sig .tc := ⟨.hbm, 341, rfl⟩
abbrev main_v295 : Ref sig .tc := ⟨.hbm, 342, rfl⟩
abbrev main_v296 : Ref sig .tc := ⟨.hbm, 343, rfl⟩
abbrev main_v297 : Ref sig .tc := ⟨.hbm, 344, rfl⟩
abbrev main_v298 : Ref sig .tc := ⟨.hbm, 345, rfl⟩
abbrev main_v299 : Ref sig .tc := ⟨.hbm, 346, rfl⟩
abbrev main_v300 : Ref sig .tc := ⟨.hbm, 347, rfl⟩
abbrev main_v301 : Ref sig .tc := ⟨.hbm, 348, rfl⟩
abbrev main_v302 : Ref sig .tc := ⟨.hbm, 349, rfl⟩
abbrev main_v303 : Ref sig .tc := ⟨.hbm, 350, rfl⟩
abbrev main_v304 : Ref sig .tc := ⟨.hbm, 351, rfl⟩
abbrev main_v305 : Ref sig .tc := ⟨.hbm, 352, rfl⟩
abbrev main_v306 : Ref sig .tc := ⟨.hbm, 353, rfl⟩
abbrev main_v307 : Ref sig .tc := ⟨.hbm, 354, rfl⟩
abbrev main_v308 : Ref sig .tc := ⟨.hbm, 355, rfl⟩
abbrev main_v309 : Ref sig .tc := ⟨.hbm, 356, rfl⟩
abbrev main_v310 : Ref sig .tc := ⟨.hbm, 357, rfl⟩
abbrev main_v311 : Ref sig .tc := ⟨.hbm, 358, rfl⟩
abbrev main_v312 : Ref sig .tc := ⟨.hbm, 359, rfl⟩
abbrev main_v313 : Ref sig .tc := ⟨.hbm, 360, rfl⟩
abbrev main_v314 : Ref sig .tc := ⟨.hbm, 361, rfl⟩
abbrev main_v315 : Ref sig .tc := ⟨.hbm, 362, rfl⟩
abbrev main_v316 : Ref sig .tc := ⟨.hbm, 363, rfl⟩
abbrev main_v317 : Ref sig .tc := ⟨.hbm, 364, rfl⟩
abbrev main_v318 : Ref sig .tc := ⟨.hbm, 365, rfl⟩
abbrev main_v319 : Ref sig .tc := ⟨.hbm, 366, rfl⟩
abbrev main_v320 : Ref sig .tc := ⟨.hbm, 367, rfl⟩
abbrev main_v321 : Ref sig .tc := ⟨.hbm, 368, rfl⟩
abbrev main_v322 : Ref sig .tc := ⟨.hbm, 369, rfl⟩
abbrev main_v323 : Ref sig .tc := ⟨.hbm, 370, rfl⟩
abbrev main_v324 : Ref sig .tc := ⟨.hbm, 371, rfl⟩
abbrev main_v325 : Ref sig .tc := ⟨.hbm, 372, rfl⟩
abbrev main_v326 : Ref sig .tc := ⟨.hbm, 373, rfl⟩
abbrev main_v327 : Ref sig .tc := ⟨.hbm, 374, rfl⟩
abbrev main_v328 : Ref sig .tc := ⟨.hbm, 375, rfl⟩
abbrev main_v329 : Ref sig .tc := ⟨.hbm, 376, rfl⟩
abbrev main_v330 : Ref sig .tc := ⟨.hbm, 377, rfl⟩
abbrev main_v331 : Ref sig .tc := ⟨.hbm, 378, rfl⟩
abbrev main_v332 : Ref sig .tc := ⟨.hbm, 379, rfl⟩
abbrev main_v333 : Ref sig .tc := ⟨.hbm, 380, rfl⟩
abbrev main_v334 : Ref sig .tc := ⟨.hbm, 381, rfl⟩
abbrev main_v335 : Ref sig .tc := ⟨.hbm, 382, rfl⟩
abbrev main_v336 : Ref sig .tc := ⟨.hbm, 383, rfl⟩
abbrev main_v337 : Ref sig .tc := ⟨.hbm, 384, rfl⟩
abbrev main_v338 : Ref sig .tc := ⟨.hbm, 385, rfl⟩
abbrev main_v339 : Ref sig .tc := ⟨.hbm, 386, rfl⟩
abbrev main_v340 : Ref sig .tc := ⟨.hbm, 387, rfl⟩
abbrev main_v341 : Ref sig .tc := ⟨.hbm, 388, rfl⟩
abbrev main_v342 : Ref sig .tc := ⟨.hbm, 389, rfl⟩
abbrev main_v343 : Ref sig .tc := ⟨.hbm, 390, rfl⟩
abbrev main_v344 : Ref sig .tc := ⟨.hbm, 391, rfl⟩
abbrev main_v345 : Ref sig .tc := ⟨.hbm, 392, rfl⟩
abbrev main_v346 : Ref sig .tc := ⟨.hbm, 393, rfl⟩
abbrev main_v347 : Ref sig .tc := ⟨.hbm, 394, rfl⟩
abbrev main_v348 : Ref sig .tc := ⟨.hbm, 395, rfl⟩
abbrev main_v349 : Ref sig .tc := ⟨.hbm, 396, rfl⟩
abbrev main_v350 : Ref sig .tc := ⟨.hbm, 397, rfl⟩
abbrev main_v351 : Ref sig .tc := ⟨.hbm, 398, rfl⟩
abbrev main_v352 : Ref sig .tc := ⟨.hbm, 399, rfl⟩
abbrev main_v353 : Ref sig .tc := ⟨.hbm, 400, rfl⟩
abbrev main_v354 : Ref sig .tc := ⟨.hbm, 401, rfl⟩
abbrev main_v355 : Ref sig .tc := ⟨.hbm, 402, rfl⟩
abbrev main_v356 : Ref sig .tc := ⟨.hbm, 403, rfl⟩
abbrev main_v357 : Ref sig .tc := ⟨.hbm, 404, rfl⟩
abbrev main_v358 : Ref sig .tc := ⟨.hbm, 405, rfl⟩
abbrev main_v359 : Ref sig .tc := ⟨.hbm, 406, rfl⟩
abbrev main_v360 : Ref sig .tc := ⟨.hbm, 407, rfl⟩
abbrev main_v361 : Ref sig .tc := ⟨.hbm, 408, rfl⟩
abbrev main_v362 : Ref sig .tc := ⟨.hbm, 409, rfl⟩
abbrev main_v363 : Ref sig .tc := ⟨.hbm, 410, rfl⟩
abbrev main_v364 : Ref sig .tc := ⟨.hbm, 411, rfl⟩
abbrev main_v365 : Ref sig .tc := ⟨.hbm, 412, rfl⟩
abbrev main_v366 : Ref sig .tc := ⟨.hbm, 413, rfl⟩
abbrev main_v367 : Ref sig .tc := ⟨.hbm, 414, rfl⟩
abbrev main_v368 : Ref sig .tc := ⟨.hbm, 415, rfl⟩
abbrev main_v369 : Ref sig .tc := ⟨.hbm, 416, rfl⟩
abbrev main_v370 : Ref sig .tc := ⟨.hbm, 417, rfl⟩
abbrev main_v371 : Ref sig .tc := ⟨.hbm, 418, rfl⟩
abbrev main_v372 : Ref sig .tc := ⟨.hbm, 419, rfl⟩
abbrev main_v373 : Ref sig .tc := ⟨.hbm, 420, rfl⟩
abbrev main_v374 : Ref sig .tc := ⟨.hbm, 421, rfl⟩
abbrev main_v375 : Ref sig .tc := ⟨.hbm, 422, rfl⟩
abbrev main_v376 : Ref sig .tc := ⟨.hbm, 423, rfl⟩
abbrev main_v377 : Ref sig .tc := ⟨.hbm, 424, rfl⟩
abbrev main_v378 : Ref sig .tc := ⟨.hbm, 425, rfl⟩
abbrev main_v379 : Ref sig .tc := ⟨.hbm, 426, rfl⟩
abbrev main_v380 : Ref sig .tc := ⟨.hbm, 427, rfl⟩
abbrev main_v381 : Ref sig .tc := ⟨.hbm, 428, rfl⟩
abbrev main_v382 : Ref sig .tc := ⟨.hbm, 429, rfl⟩
abbrev main_v383 : Ref sig .tc := ⟨.hbm, 430, rfl⟩
abbrev main_v384 : Ref sig .tc := ⟨.hbm, 431, rfl⟩
abbrev main_v385 : Ref sig .tc := ⟨.hbm, 432, rfl⟩
abbrev main_v386 : Ref sig .tc := ⟨.hbm, 433, rfl⟩
abbrev main_v387 : Ref sig .tc := ⟨.hbm, 434, rfl⟩
abbrev main_v388 : Ref sig .tc := ⟨.hbm, 435, rfl⟩
abbrev main_v389 : Ref sig .tc := ⟨.hbm, 436, rfl⟩
abbrev main_v390 : Ref sig .tc := ⟨.hbm, 437, rfl⟩
abbrev main_v391 : Ref sig .tc := ⟨.hbm, 438, rfl⟩
abbrev main_v392 : Ref sig .tc := ⟨.hbm, 439, rfl⟩
abbrev main_v393 : Ref sig .tc := ⟨.hbm, 440, rfl⟩
abbrev main_v394 : Ref sig .tc := ⟨.hbm, 441, rfl⟩
abbrev main_v395 : Ref sig .tc := ⟨.hbm, 442, rfl⟩
abbrev main_v396 : Ref sig .tc := ⟨.hbm, 443, rfl⟩
abbrev main_v397 : Ref sig .tc := ⟨.hbm, 444, rfl⟩
abbrev main_v398 : Ref sig .tc := ⟨.hbm, 445, rfl⟩
abbrev main_v399 : Ref sig .tc := ⟨.hbm, 446, rfl⟩
abbrev main_v400 : Ref sig .tc := ⟨.hbm, 447, rfl⟩
abbrev main_v401 : Ref sig .tc := ⟨.hbm, 448, rfl⟩
abbrev main_v402 : Ref sig .tc := ⟨.hbm, 449, rfl⟩
abbrev main_v403 : Ref sig .tc := ⟨.hbm, 450, rfl⟩
abbrev main_v404 : Ref sig .tc := ⟨.hbm, 451, rfl⟩
abbrev main_v405 : Ref sig .tc := ⟨.hbm, 452, rfl⟩
abbrev main_v406 : Ref sig .tc := ⟨.hbm, 453, rfl⟩
abbrev main_v407 : Ref sig .tc := ⟨.hbm, 454, rfl⟩
abbrev main_v408 : Ref sig .tc := ⟨.hbm, 455, rfl⟩
abbrev main_v409 : Ref sig .tc := ⟨.hbm, 456, rfl⟩
abbrev main_cst_24 : Ref sig .tc := ⟨.hbm, 457, rfl⟩
abbrev main_v410 : Ref sig .tc := ⟨.hbm, 458, rfl⟩
abbrev main_v411 : Ref sig .tc := ⟨.hbm, 459, rfl⟩
abbrev main_v412 : Ref sig .tc := ⟨.hbm, 460, rfl⟩
abbrev main_v413 : Ref sig .tc := ⟨.hbm, 461, rfl⟩
abbrev main_v414 : Ref sig .tc := ⟨.hbm, 462, rfl⟩
abbrev main_v415 : Ref sig .tc := ⟨.hbm, 463, rfl⟩
abbrev main_v416 : Ref sig .tc := ⟨.hbm, 464, rfl⟩
abbrev main_v417 : Ref sig .tc := ⟨.hbm, 465, rfl⟩
abbrev main_v418 : Ref sig .tc := ⟨.hbm, 466, rfl⟩
abbrev main_v419 : Ref sig .tc := ⟨.hbm, 467, rfl⟩
abbrev main_v420 : Ref sig .tc := ⟨.hbm, 468, rfl⟩
abbrev main_v421 : Ref sig .tc := ⟨.hbm, 469, rfl⟩
abbrev main_v422 : Ref sig .tc := ⟨.hbm, 470, rfl⟩
abbrev main_v423 : Ref sig .tc := ⟨.hbm, 471, rfl⟩
abbrev main_v424 : Ref sig .tc := ⟨.hbm, 472, rfl⟩
abbrev main_v425 : Ref sig .tc := ⟨.hbm, 473, rfl⟩
abbrev main_v426 : Ref sig .tc := ⟨.hbm, 474, rfl⟩
abbrev main_v427 : Ref sig .tc := ⟨.hbm, 475, rfl⟩
abbrev main_cst_25 : Ref sig .tc := ⟨.hbm, 476, rfl⟩
abbrev main_v428 : Ref sig .tc := ⟨.hbm, 477, rfl⟩
abbrev main_cst_26 : Ref sig .tc := ⟨.hbm, 478, rfl⟩
abbrev main_v429 : Ref sig .tc := ⟨.hbm, 479, rfl⟩
abbrev main_v430 : Ref sig .tc := ⟨.hbm, 480, rfl⟩
abbrev main_v431 : Ref sig .tc := ⟨.hbm, 481, rfl⟩
abbrev main_v432 : Ref sig .tc := ⟨.hbm, 482, rfl⟩
abbrev main_v433 : Ref sig .tc := ⟨.hbm, 483, rfl⟩
abbrev main_v434 : Ref sig .tc := ⟨.hbm, 484, rfl⟩
abbrev main_v435 : Ref sig .tc := ⟨.hbm, 485, rfl⟩
abbrev main_v436 : Ref sig .tc := ⟨.hbm, 486, rfl⟩
abbrev main_v437 : Ref sig .tc := ⟨.hbm, 487, rfl⟩
abbrev main_v438 : Ref sig .tc := ⟨.hbm, 488, rfl⟩
abbrev main_v439 : Ref sig .tc := ⟨.hbm, 489, rfl⟩
abbrev main_v440 : Ref sig .tc := ⟨.hbm, 490, rfl⟩
abbrev main_v441 : Ref sig .tc := ⟨.hbm, 491, rfl⟩
abbrev main_v442 : Ref sig .tc := ⟨.hbm, 492, rfl⟩
abbrev main_v443 : Ref sig .tc := ⟨.hbm, 493, rfl⟩
abbrev main_v444 : Ref sig .tc := ⟨.hbm, 494, rfl⟩
abbrev main_cst_27 : Ref sig .tc := ⟨.hbm, 495, rfl⟩
abbrev main_v445 : Ref sig .tc := ⟨.hbm, 496, rfl⟩
abbrev main_cst_28 : Ref sig .tc := ⟨.hbm, 497, rfl⟩
abbrev main_v446 : Ref sig .tc := ⟨.hbm, 498, rfl⟩
abbrev main_v447 : Ref sig .tc := ⟨.hbm, 499, rfl⟩
abbrev main_v448 : Ref sig .tc := ⟨.hbm, 500, rfl⟩
abbrev main_v449 : Ref sig .tc := ⟨.hbm, 501, rfl⟩
abbrev main_v450 : Ref sig .tc := ⟨.hbm, 502, rfl⟩
abbrev main_v451 : Ref sig .tc := ⟨.hbm, 503, rfl⟩
abbrev main_v452 : Ref sig .tc := ⟨.hbm, 504, rfl⟩
abbrev main_v453 : Ref sig .tc := ⟨.hbm, 505, rfl⟩
abbrev main_v454 : Ref sig .tc := ⟨.hbm, 506, rfl⟩
abbrev main_v455 : Ref sig .tc := ⟨.hbm, 507, rfl⟩
abbrev main_v456 : Ref sig .tc := ⟨.hbm, 508, rfl⟩

abbrev nD : Nat := 1
abbrev τ : Topo := Topo.v7x

variable {F : FTy → Type} [FloatOps F]
-- ==== Kernel2.lean ====
abbrev S2048x1024 : Shape := ⟨2, ![2048, 1024]⟩
abbrev S2816x1024 : Shape := ⟨2, ![2816, 1024]⟩
abbrev S2048x2816 : Shape := ⟨2, ![2048, 2816]⟩
abbrev S1408x1024 : Shape := ⟨2, ![1408, 1024]⟩
abbrev S2048x1408 : Shape := ⟨2, ![2048, 1408]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S2816x1024, .f32⟩
  | .hbm, ⟨2, _⟩ => ⟨S2048x2816, .f32⟩
  | .local _ .vmem, ⟨0, _⟩ => ⟨S2048x1024, .f32⟩
  | .local _ .vmem, ⟨1, _⟩ => ⟨S1408x1024, .f32⟩
  | .local _ .vmem, ⟨2, _⟩ => ⟨S1408x1024, .f32⟩
  | .local _ .vmem, ⟨3, _⟩ => ⟨S2048x1408, .f32⟩
  | .local _ .vmem, ⟨4, _⟩ => ⟨S2048x1408, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1408x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference2Ideal.lean ====
abbrev S2048x1024 : Shape := ⟨2, ![2048, 1024]⟩
abbrev S2816x1024 : Shape := ⟨2, ![2816, 1024]⟩
abbrev S_ : Shape := ⟨0, ![]⟩
abbrev S2048x2816 : Shape := ⟨2, ![2048, 2816]⟩

abbrev nBuf : Space → Nat
  | .hbm => 6
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2816x1024, .f32⟩
  | .hbm, ⟨2, _⟩ => ⟨S_, .f32⟩
  | .hbm, ⟨3, _⟩ => ⟨S2048x2816, .f32⟩
  | .hbm, ⟨4, _⟩ => ⟨S2048x1024, .f32⟩
  | .hbm, ⟨5, _⟩ => ⟨S2048x2816, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel3.lean ====
abbrev S2048x2816 : Shape := ⟨2, ![2048, 2816]⟩
abbrev S2048x1024 : Shape := ⟨2, ![2048, 1024]⟩
abbrev S2x4x352x1024 : Shape := ⟨4, ![2, 4, 352, 1024]⟩
abbrev S2048x512 : Shape := ⟨2, ![2048, 512]⟩
abbrev S2x4x352x512 : Shape := ⟨4, ![2, 4, 352, 512]⟩
abbrev S2816x512 : Shape := ⟨2, ![2816, 512]⟩
abbrev S352x512 : Shape := ⟨2, ![352, 512]⟩
abbrev S1x1x352x512 : Shape := ⟨4, ![1, 1, 352, 512]⟩

abbrev nBuf : Space → Nat
  | .hbm => 4
  | .vmem => 5
  | .smem => 0
  | _ => 0

abbrev bufTy : (tb : Table) → Fin (tcTables nBuf tb) → BufTy
  | .hbm, ⟨0, _⟩ => ⟨S2048x2816, .f32⟩
  | .hbm, ⟨1, _⟩ => ⟨S2048x1024, .f32⟩
  | .hbm, ⟨2, _⟩ => ⟨S2048x2816, .bf16⟩
  | .hbm, ⟨3, _⟩ => ⟨S2x4x352x1024, .f32⟩
  | .local _ .vmem, ⟨0, _⟩ => ⟨S2048x2816, .bf16⟩
  | .local _ .vmem, ⟨1, _⟩ => ⟨S2048x512, .f32⟩
  | .local _ .vmem, ⟨2, _⟩ => ⟨S2048x512, .f32⟩
  | .local _ .vmem, ⟨3, _⟩ => ⟨S2x4x352x512, .f32⟩
  | .local _ .vmem, ⟨4, _⟩ => ⟨S2x4x352x512, .f32⟩
  | _, _ => ⟨S2048x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat, arg1.toNat]

abbrev stage0_0 : Fin 1 → Memref sig .tc .vmem S2048x2816 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2x4x352x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]
-- ==== Reference3Ideal.lean ====
abbrev S2048x2816 : Shape := ⟨2, ![2048, 2816]⟩
abbrev S2048x1024 : Shape := ⟨2, ![2048, 1024]⟩
abbrev S_ : Shape := ⟨0, ![]⟩
abbrev S2816x1024 : Shape := ⟨2, ![2816, 1024]⟩
abbrev S1024x2816 : Shape := ⟨2, ![1024, 2816]⟩
abbrev S4x2x352x1024 : Shape := ⟨4, ![4, 2, 352, 1024]⟩
abbrev S2x4x352x1024 : Shape := ⟨4, ![2, 4, 352, 1024]⟩

abbrev nBuf : Space → Nat
  | .hbm => 9
  | .vmem => 0
  | .smem => 0
  | _ => 0

abbrev bufTy : (tb : Table) → Fin (tcTables nBuf tb) → BufTy
  | .hbm, ⟨0, _⟩ => ⟨S2048x2816, .f32⟩
  | .hbm, ⟨1, _⟩ => ⟨S2048x1024, .f32⟩
  | .hbm, ⟨2, _⟩ => ⟨S_, .f32⟩
  | .hbm, ⟨3, _⟩ => ⟨S2816x1024, .f32⟩
  | .hbm, ⟨4, _⟩ => ⟨S2048x1024, .f32⟩
  | .hbm, ⟨5, _⟩ => ⟨S1024x2816, .f32⟩
  | .hbm, ⟨6, _⟩ => ⟨S2816x1024, .f32⟩
  | .hbm, ⟨7, _⟩ => ⟨S4x2x352x1024, .f32⟩
  | .hbm, ⟨8, _⟩ => ⟨S2x4x352x1024, .f32⟩
  | _, _ => ⟨S2048x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel4.lean ====
abbrev S2048x5632 : Shape := ⟨2, ![2048, 5632]⟩
abbrev S1024x5632 : Shape := ⟨2, ![1024, 5632]⟩
abbrev S2048x1024 : Shape := ⟨2, ![2048, 1024]⟩
abbrev S512x5632 : Shape := ⟨2, ![512, 5632]⟩
abbrev S1024x512 : Shape := ⟨2, ![1024, 512]⟩

abbrev nBuf : Space → Nat
  | .hbm => 4
  | .vmem => 6
  | .smem => 0
  | _ => 0

abbrev bufTy : (tb : Table) → Fin (tcTables nBuf tb) → BufTy
  | .hbm, ⟨0, _⟩ => ⟨S2048x5632, .f32⟩
  | .hbm, ⟨1, _⟩ => ⟨S1024x5632, .f32⟩
  | .hbm, ⟨2, _⟩ => ⟨S2048x5632, .bf16⟩
  | .hbm, ⟨3, _⟩ => ⟨S2048x1024, .f32⟩
  | .local _ .vmem, ⟨0, _⟩ => ⟨S1024x5632, .bf16⟩
  | .local _ .vmem, ⟨1, _⟩ => ⟨S1024x5632, .bf16⟩
  | .local _ .vmem, ⟨2, _⟩ => ⟨S512x5632, .f32⟩
  | .local _ .vmem, ⟨3, _⟩ => ⟨S512x5632, .f32⟩
  | .local _ .vmem, ⟨4, _⟩ => ⟨S1024x512, .f32⟩
  | .local _ .vmem, ⟨5, _⟩ => ⟨S1024x512, .f32⟩
  | _, _ => ⟨S2048x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x5632 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference4Ideal.lean ====
abbrev S2048x5632 : Shape := ⟨2, ![2048, 5632]⟩
abbrev S1024x5632 : Shape := ⟨2, ![1024, 5632]⟩
abbrev S_ : Shape := ⟨0, ![]⟩
abbrev S2048x1024 : Shape := ⟨2, ![2048, 1024]⟩

abbrev nBuf : Space → Nat
  | .hbm => 6
  | .vmem => 0
  | .smem => 0
  | _ => 0

abbrev bufTy : (tb : Table) → Fin (tcTables nBuf tb) → BufTy
  | .hbm, ⟨0, _⟩ => ⟨S2048x5632, .f32⟩
  | .hbm, ⟨1, _⟩ => ⟨S1024x5632, .f32⟩
  | .hbm, ⟨2, _⟩ => ⟨S_, .f32⟩
  | .hbm, ⟨3, _⟩ => ⟨S2048x1024, .f32⟩
  | .hbm, ⟨4, _⟩ => ⟨S2048x5632, .f32⟩
  | .hbm, ⟨5, _⟩ => ⟨S2048x1024, .f32⟩
  | _, _ => ⟨S2048x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel5.lean ====
abbrev S2048x1024 : Shape := ⟨2, ![2048, 1024]⟩
abbrev S2048x5632 : Shape := ⟨2, ![2048, 5632]⟩
abbrev S2x4x512x1408 : Shape := ⟨4, ![2, 4, 512, 1408]⟩
abbrev S2048x1408 : Shape := ⟨2, ![2048, 1408]⟩
abbrev S2x1x512x1408 : Shape := ⟨4, ![2, 1, 512, 1408]⟩
abbrev S1024x1408 : Shape := ⟨2, ![1024, 1408]⟩
abbrev S2x512x1408 : Shape := ⟨3, ![2, 512, 1408]⟩

abbrev nBuf : Space → Nat
  | .hbm => 5
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S2048x5632, .f32⟩
  | .hbm, ⟨2, _⟩ => ⟨S2048x1024, .bf16⟩
  | .hbm, ⟨3, _⟩ => ⟨S2048x5632, .bf16⟩
  | .hbm, ⟨4, _⟩ => ⟨S2x4x512x1408, .f32⟩
  | .local _ .vmem, ⟨0, _⟩ => ⟨S2048x1024, .bf16⟩
  | .local _ .vmem, ⟨1, _⟩ => ⟨S2048x1408, .bf16⟩
  | .local _ .vmem, ⟨2, _⟩ => ⟨S2048x1408, .bf16⟩
  | .local _ .vmem, ⟨3, _⟩ => ⟨S2x1x512x1408, .f32⟩
  | .local _ .vmem, ⟨4, _⟩ => ⟨S2x1x512x1408, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  let c0_i32_13 : BitVec 32 := 0#32
  ![c0_i32_11.toNat, v16.toNat, c0_i32_12.toNat, v26.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2x1x512x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]
-- ==== Reference5Ideal.lean ====
abbrev S2048x1024 : Shape := ⟨2, ![2048, 1024]⟩
abbrev S2048x5632 : Shape := ⟨2, ![2048, 5632]⟩
abbrev S_ : Shape := ⟨0, ![]⟩
abbrev S1024x5632 : Shape := ⟨2, ![1024, 5632]⟩
abbrev S5632x1024 : Shape := ⟨2, ![5632, 1024]⟩
abbrev S2x512x4x1408 : Shape := ⟨4, ![2, 512, 4, 1408]⟩
abbrev S2x4x512x1408 : Shape := ⟨4, ![2, 4, 512, 1408]⟩

abbrev nBuf : Space → Nat
  | .hbm => 9
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x5632, .f32⟩
  | .hbm, ⟨2, _⟩ => ⟨S_, .f32⟩
  | .hbm, ⟨3, _⟩ => ⟨S1024x5632, .f32⟩
  | .hbm, ⟨4, _⟩ => ⟨S2048x5632, .f32⟩
  | .hbm, ⟨5, _⟩ => ⟨S5632x1024, .f32⟩
  | .hbm, ⟨6, _⟩ => ⟨S1024x5632, .f32⟩
  | .hbm, ⟨7, _⟩ => ⟨S2x512x4x1408, .f32⟩
  | .hbm, ⟨8, _⟩ => ⟨S2x4x512x1408, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel6.lean ====
abbrev S2048x1024 : Shape := ⟨2, ![2048, 1024]⟩
abbrev S1024x1024 : Shape := ⟨2, ![1024, 1024]⟩
abbrev S512x1024 : Shape := ⟨2, ![512, 1024]⟩
abbrev S2048x512 : Shape := ⟨2, ![2048, 512]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S1024x1024, .f32⟩
  | .hbm, ⟨2, _⟩ => ⟨S2048x1024, .f32⟩
  | .local _ .vmem, ⟨0, _⟩ => ⟨S2048x1024, .f32⟩
  | .local _ .vmem, ⟨1, _⟩ => ⟨S512x1024, .f32⟩
  | .local _ .vmem, ⟨2, _⟩ => ⟨S512x1024, .f32⟩
  | .local _ .vmem, ⟨3, _⟩ => ⟨S2048x512, .f32⟩
  | .local _ .vmem, ⟨4, _⟩ => ⟨S2048x512, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference6Ideal.lean ====
abbrev S2048x1024 : Shape := ⟨2, ![2048, 1024]⟩
abbrev S1024x1024 : Shape := ⟨2, ![1024, 1024]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x1024, .f32⟩
  | .hbm, ⟨2, _⟩ => ⟨S_, .f32⟩
  | .hbm, ⟨3, _⟩ => ⟨S2048x1024, .f32⟩
  | .hbm, ⟨4, _⟩ => ⟨S2048x1024, .f32⟩
  | .hbm, ⟨5, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel7.lean ====
abbrev S2048x1024 : Shape := ⟨2, ![2048, 1024]⟩
abbrev S2x4x128x1024 : Shape := ⟨4, ![2, 4, 128, 1024]⟩
abbrev S2048x512 : Shape := ⟨2, ![2048, 512]⟩
abbrev S2x4x128x512 : Shape := ⟨4, ![2, 4, 128, 512]⟩
abbrev S1024x512 : Shape := ⟨2, ![1024, 512]⟩
abbrev S128x512 : Shape := ⟨2, ![128, 512]⟩
abbrev S1x1x128x512 : Shape := ⟨4, ![1, 1, 128, 512]⟩

abbrev nBuf : Space → Nat
  | .hbm => 4
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .bf16⟩
  | .hbm, ⟨3, _⟩ => ⟨S2x4x128x1024, .f32⟩
  | .local _ .vmem, ⟨0, _⟩ => ⟨S2048x1024, .bf16⟩
  | .local _ .vmem, ⟨1, _⟩ => ⟨S2048x512, .f32⟩
  | .local _ .vmem, ⟨2, _⟩ => ⟨S2048x512, .f32⟩
  | .local _ .vmem, ⟨3, _⟩ => ⟨S2x4x128x512, .f32⟩
  | .local _ .vmem, ⟨4, _⟩ => ⟨S2x4x128x512, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2x4x128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]
-- ==== Reference7Ideal.lean ====
abbrev S2048x1024 : Shape := ⟨2, ![2048, 1024]⟩
abbrev S_ : Shape := ⟨0, ![]⟩
abbrev S1024x1024 : Shape := ⟨2, ![1024, 1024]⟩
abbrev S4x2x128x1024 : Shape := ⟨4, ![4, 2, 128, 1024]⟩
abbrev S2x4x128x1024 : Shape := ⟨4, ![2, 4, 128, 1024]⟩

abbrev nBuf : Space → Nat
  | .hbm => 9
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S_, .f32⟩
  | .hbm, ⟨3, _⟩ => ⟨S1024x1024, .f32⟩
  | .hbm, ⟨4, _⟩ => ⟨S2048x1024, .f32⟩
  | .hbm, ⟨5, _⟩ => ⟨S1024x1024, .f32⟩
  | .hbm, ⟨6, _⟩ => ⟨S1024x1024, .f32⟩
  | .hbm, ⟨7, _⟩ => ⟨S4x2x128x1024, .f32⟩
  | .hbm, ⟨8, _⟩ => ⟨S2x4x128x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel8.lean ====
abbrev S2048x2048 : Shape := ⟨2, ![2048, 2048]⟩
abbrev S1024x2048 : Shape := ⟨2, ![1024, 2048]⟩
abbrev S2048x1024 : Shape := ⟨2, ![2048, 1024]⟩
abbrev S512x2048 : Shape := ⟨2, ![512, 2048]⟩
abbrev S2048x512 : Shape := ⟨2, ![2048, 512]⟩

abbrev nBuf : Space → Nat
  | .hbm => 4
  | .vmem => 5
  | .smem => 0
  | _ => 0

abbrev bufTy : (tb : Table) → Fin (tcTables nBuf tb) → BufTy
  | .hbm, ⟨0, _⟩ => ⟨S2048x2048, .f32⟩
  | .hbm, ⟨1, _⟩ => ⟨S1024x2048, .f32⟩
  | .hbm, ⟨2, _⟩ => ⟨S2048x2048, .bf16⟩
  | .hbm, ⟨3, _⟩ => ⟨S2048x1024, .f32⟩
  | .local _ .vmem, ⟨0, _⟩ => ⟨S2048x2048, .bf16⟩
  | .local _ .vmem, ⟨1, _⟩ => ⟨S512x2048, .f32⟩
  | .local _ .vmem, ⟨2, _⟩ => ⟨S512x2048, .f32⟩
  | .local _ .vmem, ⟨3, _⟩ => ⟨S2048x512, .f32⟩
  | .local _ .vmem, ⟨4, _⟩ => ⟨S2048x512, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference8Ideal.lean ====
abbrev S2048x2048 : Shape := ⟨2, ![2048, 2048]⟩
abbrev S1024x2048 : Shape := ⟨2, ![1024, 2048]⟩
abbrev S_ : Shape := ⟨0, ![]⟩
abbrev S2048x1024 : Shape := ⟨2, ![2048, 1024]⟩

abbrev nBuf : Space → Nat
  | .hbm => 6
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S1024x2048, .f32⟩
  | .hbm, ⟨2, _⟩ => ⟨S_, .f32⟩
  | .hbm, ⟨3, _⟩ => ⟨S2048x1024, .f32⟩
  | .hbm, ⟨4, _⟩ => ⟨S2048x2048, .f32⟩
  | .hbm, ⟨5, _⟩ => ⟨S2048x1024, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel9.lean ====
abbrev S2048x1024 : Shape := ⟨2, ![2048, 1024]⟩
abbrev S2048x2048 : Shape := ⟨2, ![2048, 2048]⟩
abbrev S2x4x512x512 : Shape := ⟨4, ![2, 4, 512, 512]⟩
abbrev S2048x512 : Shape := ⟨2, ![2048, 512]⟩
abbrev S2x1x512x512 : Shape := ⟨4, ![2, 1, 512, 512]⟩
abbrev S1024x512 : Shape := ⟨2, ![1024, 512]⟩
abbrev S2x512x512 : Shape := ⟨3, ![2, 512, 512]⟩

abbrev nBuf : Space → Nat
  | .hbm => 5
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S2048x2048, .f32⟩
  | .hbm, ⟨2, _⟩ => ⟨S2048x1024, .bf16⟩
  | .hbm, ⟨3, _⟩ => ⟨S2048x2048, .bf16⟩
  | .hbm, ⟨4, _⟩ => ⟨S2x4x512x512, .f32⟩
  | .local _ .vmem, ⟨0, _⟩ => ⟨S2048x1024, .bf16⟩
  | .local _ .vmem, ⟨1, _⟩ => ⟨S2048x512, .bf16⟩
  | .local _ .vmem, ⟨2, _⟩ => ⟨S2048x512, .bf16⟩
  | .local _ .vmem, ⟨3, _⟩ => ⟨S2x1x512x512, .f32⟩
  | .local _ .vmem, ⟨4, _⟩ => ⟨S2x1x512x512, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  let c0_i32_13 : BitVec 32 := 0#32
  ![c0_i32_11.toNat, v16.toNat, c0_i32_12.toNat, v26.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2x1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]
-- ==== Reference9Ideal.lean ====
abbrev S2048x1024 : Shape := ⟨2, ![2048, 1024]⟩
abbrev S2048x2048 : Shape := ⟨2, ![2048, 2048]⟩
abbrev S_ : Shape := ⟨0, ![]⟩
abbrev S1024x2048 : Shape := ⟨2, ![1024, 2048]⟩
abbrev S2x512x4x512 : Shape := ⟨4, ![2, 512, 4, 512]⟩
abbrev S2x4x512x512 : Shape := ⟨4, ![2, 4, 512, 512]⟩

abbrev nBuf : Space → Nat
  | .hbm => 9
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x2048, .f32⟩
  | .hbm, ⟨2, _⟩ => ⟨S_, .f32⟩
  | .hbm, ⟨3, _⟩ => ⟨S1024x2048, .f32⟩
  | .hbm, ⟨4, _⟩ => ⟨S2048x2048, .f32⟩
  | .hbm, ⟨5, _⟩ => ⟨S2048x1024, .f32⟩
  | .hbm, ⟨6, _⟩ => ⟨S1024x2048, .f32⟩
  | .hbm, ⟨7, _⟩ => ⟨S2x512x4x512, .f32⟩
  | .hbm, ⟨8, _⟩ => ⟨S2x4x512x512, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel10.lean ====
abbrev S2048x4096 : Shape := ⟨2, ![2048, 4096]⟩
abbrev S2048x128 : Shape := ⟨2, ![2048, 128]⟩
abbrev S1024x4104 : Shape := ⟨2, ![1024, 4104]⟩
abbrev S4104x1024 : Shape := ⟨2, ![4104, 1024]⟩
abbrev S4096x1024 : Shape := ⟨2, ![4096, 1024]⟩
abbrev S8x1024 : Shape := ⟨2, ![8, 1024]⟩
abbrev S_ : Shape := ⟨0, ![]⟩
abbrev S128x1024 : Shape := ⟨2, ![128, 1024]⟩
abbrev S2048x1024 : Shape := ⟨2, ![2048, 1024]⟩
abbrev S1024x4096 : Shape := ⟨2, ![1024, 4096]⟩
abbrev S4096x512 : Shape := ⟨2, ![4096, 512]⟩
abbrev S1024x128 : Shape := ⟨2, ![1024, 128]⟩
abbrev S128x512 : Shape := ⟨2, ![128, 512]⟩
abbrev S1024x512 : Shape := ⟨2, ![1024, 512]⟩

abbrev nBuf : Space → Nat
  | .hbm => 11
  | .vmem => 10
  | .smem => 0
  | _ => 0

abbrev bufTy : (tb : Table) → Fin (tcTables nBuf tb) → BufTy
  | .hbm, ⟨0, _⟩ => ⟨S2048x4096, .f32⟩
  | .hbm, ⟨1, _⟩ => ⟨S2048x128, .f32⟩
  | .hbm, ⟨2, _⟩ => ⟨S1024x4104, .f32⟩
  | .hbm, ⟨3, _⟩ => ⟨S4104x1024, .f32⟩
  | .hbm, ⟨4, _⟩ => ⟨S4096x1024, .f32⟩
  | .hbm, ⟨5, _⟩ => ⟨S8x1024, .f32⟩
  | .hbm, ⟨6, _⟩ => ⟨S_, .i32⟩
  | .hbm, ⟨7, _⟩ => ⟨S_, .f32⟩
  | .hbm, ⟨8, _⟩ => ⟨S128x1024, .f32⟩
  | .hbm, ⟨9, _⟩ => ⟨S2048x4096, .bf16⟩
  | .hbm, ⟨10, _⟩ => ⟨S2048x1024, .f32⟩
  | .local _ .vmem, ⟨0, _⟩ => ⟨S1024x4096, .bf16⟩
  | .local _ .vmem, ⟨1, _⟩ => ⟨S1024x4096, .bf16⟩
  | .local _ .vmem, ⟨2, _⟩ => ⟨S4096x512, .f32⟩
  | .local _ .vmem, ⟨3, _⟩ => ⟨S4096x512, .f32⟩
  | .local _ .vmem, ⟨4, _⟩ => ⟨S1024x128, .f32⟩
  | .local _ .vmem, ⟨5, _⟩ => ⟨S1024x128, .f32⟩
  | .local _ .vmem, ⟨6, _⟩ => ⟨S128x512, .f32⟩
  | .local _ .vmem, ⟨7, _⟩ => ⟨S128x512, .f32⟩
  | .local _ .vmem, ⟨8, _⟩ => ⟨S1024x512, .f32⟩
  | .local _ .vmem, ⟨9, _⟩ => ⟨S1024x512, .f32⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_call0_v0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference10Ideal.lean ====
abbrev S2048x4096 : Shape := ⟨2, ![2048, 4096]⟩
abbrev S2048x128 : Shape := ⟨2, ![2048, 128]⟩
abbrev S1024x4104 : Shape := ⟨2, ![1024, 4104]⟩
abbrev S2048x8 : Shape := ⟨2, ![2048, 8]⟩
abbrev S2048x4104 : Shape := ⟨2, ![2048, 4104]⟩
abbrev S_ : Shape := ⟨0, ![]⟩
abbrev S2048x1024 : Shape := ⟨2, ![2048, 1024]⟩

abbrev nBuf : Space → Nat
  | .hbm => 9
  | .vmem => 0
  | .smem => 0
  | _ => 0

abbrev bufTy : (tb : Table) → Fin (tcTables nBuf tb) → BufTy
  | .hbm, ⟨0, _⟩ => ⟨S2048x4096, .f32⟩
  | .hbm, ⟨1, _⟩ => ⟨S2048x128, .f32⟩
  | .hbm, ⟨2, _⟩ => ⟨S1024x4104, .f32⟩
  | .hbm, ⟨3, _⟩ => ⟨S2048x8, .f32⟩
  | .hbm, ⟨4, _⟩ => ⟨S2048x4104, .f32⟩
  | .hbm, ⟨5, _⟩ => ⟨S_, .f32⟩
  | .hbm, ⟨6, _⟩ => ⟨S2048x1024, .f32⟩
  | .hbm, ⟨7, _⟩ => ⟨S2048x4104, .f32⟩
  | .hbm, ⟨8, _⟩ => ⟨S2048x1024, .f32⟩
  | _, _ => ⟨S2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Kernel11.lean ====
abbrev S2048x4096 : Shape := ⟨2, ![2048, 4096]⟩
abbrev S2048x1024 : Shape := ⟨2, ![2048, 1024]⟩
abbrev S2x4104x512 : Shape := ⟨3, ![2, 4104, 512]⟩
abbrev S2048x512 : Shape := ⟨2, ![2048, 512]⟩
abbrev S1x1024x512 : Shape := ⟨3, ![1, 1024, 512]⟩
abbrev S1024x512 : Shape := ⟨2, ![1024, 512]⟩

abbrev nBuf : Space → Nat
  | .hbm => 5
  | .vmem => 6
  | .smem => 0
  | _ => 0

abbrev bufTy : (tb : Table) → Fin (tcTables nBuf tb) → BufTy
  | .hbm, ⟨0, _⟩ => ⟨S2048x4096, .f32⟩
  | .hbm, ⟨1, _⟩ => ⟨S2048x1024, .f32⟩
  | .hbm, ⟨2, _⟩ => ⟨S2048x4096, .bf16⟩
  | .hbm, ⟨3, _⟩ => ⟨S2048x1024, .bf16⟩
  | .hbm, ⟨4, _⟩ => ⟨S2x4104x512, .f32⟩
  | .local _ .vmem, ⟨0, _⟩ => ⟨S2048x1024, .bf16⟩
  | .local _ .vmem, ⟨1, _⟩ => ⟨S2048x1024, .bf16⟩
  | .local _ .vmem, ⟨2, _⟩ => ⟨S2048x512, .bf16⟩
  | .local _ .vmem, ⟨3, _⟩ => ⟨S2048x512, .bf16⟩
  | .local _ .vmem, ⟨4, _⟩ => ⟨S1x1024x512, .f32⟩
  | .local _ .vmem, ⟨5, _⟩ => ⟨S1x1024x512, .f32⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![arg1.toNat, v0.toNat, c0_i32_0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference11Ideal.lean ====
abbrev S2048x4096 : Shape := ⟨2, ![2048, 4096]⟩
abbrev S2048x1024 : Shape := ⟨2, ![2048, 1024]⟩
abbrev S_ : Shape := ⟨0, ![]⟩
abbrev S1024x4104 : Shape := ⟨2, ![1024, 4104]⟩
abbrev S2048x4104 : Shape := ⟨2, ![2048, 4104]⟩
abbrev S4104x1024 : Shape := ⟨2, ![4104, 1024]⟩
abbrev S2x512x4104 : Shape := ⟨3, ![2, 512, 4104]⟩
abbrev S2x4104x512 : Shape := ⟨3, ![2, 4104, 512]⟩

abbrev nBuf : Space → Nat
  | .hbm => 12
  | .vmem => 0
  | .smem => 0
  | _ => 0

abbrev bufTy : (tb : Table) → Fin (tcTables nBuf tb) → BufTy
  | .hbm, ⟨0, _⟩ => ⟨S2048x4096, .f32⟩
  | .hbm, ⟨1, _⟩ => ⟨S2048x1024, .f32⟩
  | .hbm, ⟨2, _⟩ => ⟨S_, .f32⟩
  | .hbm, ⟨3, _⟩ => ⟨S1024x4104, .f32⟩
  | .hbm, ⟨4, _⟩ => ⟨S2048x4104, .f32⟩
  | .hbm, ⟨5, _⟩ => ⟨S2048x4096, .f32⟩
  | .hbm, ⟨6, _⟩ => ⟨S_, .f32⟩
  | .hbm, ⟨7, _⟩ => ⟨S2048x4104, .f32⟩
  | .hbm, ⟨8, _⟩ => ⟨S4104x1024, .f32⟩
  | .hbm, ⟨9, _⟩ => ⟨S1024x4104, .f32⟩
  | .hbm, ⟨10, _⟩ => ⟨S2x512x4104, .f32⟩
  | .hbm, ⟨11, _⟩ => ⟨S2x4104x512, .f32⟩
  | _, _ => ⟨S2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Kernel12.lean ====
abbrev S2048x2816 : Shape := ⟨2, ![2048, 2816]⟩
abbrev S2816x1024 : Shape := ⟨2, ![2816, 1024]⟩
abbrev S2048x1024 : Shape := ⟨2, ![2048, 1024]⟩
abbrev S1024x2816 : Shape := ⟨2, ![1024, 2816]⟩
abbrev S2816x512 : Shape := ⟨2, ![2816, 512]⟩
abbrev S1024x512 : Shape := ⟨2, ![1024, 512]⟩

abbrev nBuf : Space → Nat
  | .hbm => 5
  | .vmem => 8
  | .smem => 0
  | _ => 0

abbrev bufTy : (tb : Table) → Fin (tcTables nBuf tb) → BufTy
  | .hbm, ⟨0, _⟩ => ⟨S2048x2816, .f32⟩
  | .hbm, ⟨1, _⟩ => ⟨S2816x1024, .f32⟩
  | .hbm, ⟨2, _⟩ => ⟨S2048x1024, .f32⟩
  | .hbm, ⟨3, _⟩ => ⟨S2048x2816, .bf16⟩
  | .hbm, ⟨4, _⟩ => ⟨S2048x1024, .f32⟩
  | .local _ .vmem, ⟨0, _⟩ => ⟨S1024x2816, .bf16⟩
  | .local _ .vmem, ⟨1, _⟩ => ⟨S1024x2816, .bf16⟩
  | .local _ .vmem, ⟨2, _⟩ => ⟨S2816x512, .f32⟩
  | .local _ .vmem, ⟨3, _⟩ => ⟨S2816x512, .f32⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | _, _ => ⟨S2048x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2816x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference12Ideal.lean ====
abbrev S2048x2816 : Shape := ⟨2, ![2048, 2816]⟩
abbrev S2816x1024 : Shape := ⟨2, ![2816, 1024]⟩
abbrev S2048x1024 : Shape := ⟨2, ![2048, 1024]⟩

abbrev nBuf : Space → Nat
  | .hbm => 5
  | .vmem => 0
  | .smem => 0
  | _ => 0

abbrev bufTy : (tb : Table) → Fin (tcTables nBuf tb) → BufTy
  | .hbm, ⟨0, _⟩ => ⟨S2048x2816, .f32⟩
  | .hbm, ⟨1, _⟩ => ⟨S2816x1024, .f32⟩
  | .hbm, ⟨2, _⟩ => ⟨S2048x1024, .f32⟩
  | .hbm, ⟨3, _⟩ => ⟨S2048x1024, .f32⟩
  | .hbm, ⟨4, _⟩ => ⟨S2048x1024, .f32⟩
  | _, _ => ⟨S2048x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Kernel13.lean ====
abbrev S2048x1024 : Shape := ⟨2, ![2048, 1024]⟩
abbrev S1024x1024 : Shape := ⟨2, ![1024, 1024]⟩
abbrev S1024x512 : Shape := ⟨2, ![1024, 512]⟩
abbrev S2048x512 : Shape := ⟨2, ![2048, 512]⟩

abbrev nBuf : Space → Nat
  | .hbm => 5
  | .vmem => 7
  | .smem => 0
  | _ => 0

abbrev bufTy : (tb : Table) → Fin (tcTables nBuf tb) → BufTy
  | .hbm, ⟨0, _⟩ => ⟨S2048x1024, .f32⟩
  | .hbm, ⟨1, _⟩ => ⟨S1024x1024, .f32⟩
  | .hbm, ⟨2, _⟩ => ⟨S2048x1024, .f32⟩
  | .hbm, ⟨3, _⟩ => ⟨S2048x1024, .bf16⟩
  | .hbm, ⟨4, _⟩ => ⟨S2048x1024, .f32⟩
  | .local _ .vmem, ⟨0, _⟩ => ⟨S2048x1024, .bf16⟩
  | .local _ .vmem, ⟨1, _⟩ => ⟨S1024x512, .f32⟩
  | .local _ .vmem, ⟨2, _⟩ => ⟨S1024x512, .f32⟩
  | .local _ .vmem, ⟨3, _⟩ => ⟨S2048x512, .f32⟩
  | .local _ .vmem, ⟨4, _⟩ => ⟨S2048x512, .f32⟩
  | .local _ .vmem, ⟨5, _⟩ => ⟨S2048x512, .f32⟩
  | .local _ .vmem, ⟨6, _⟩ => ⟨S2048x512, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![1, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference13Ideal.lean ====
abbrev S2048x1024 : Shape := ⟨2, ![2048, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x1024, .f32⟩
  | .hbm, ⟨2, _⟩ => ⟨S2048x1024, .f32⟩
  | .hbm, ⟨3, _⟩ => ⟨S2048x1024, .f32⟩
  | .hbm, ⟨4, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Kernel14.lean ====
abbrev S2048x1024 : Shape := ⟨2, ![2048, 1024]⟩
abbrev S1x1024 : Shape := ⟨2, ![1, 1024]⟩
abbrev S1024x5632 : Shape := ⟨2, ![1024, 5632]⟩
abbrev S2048x5632 : Shape := ⟨2, ![2048, 5632]⟩
abbrev S1024x512 : Shape := ⟨2, ![1024, 512]⟩
abbrev S2048x512 : Shape := ⟨2, ![2048, 512]⟩
abbrev S2048 : Shape := ⟨1, ![2048]⟩
abbrev S2048x1 : Shape := ⟨2, ![2048, 1]⟩

abbrev nBuf : Space → Nat
  | .hbm => 5
  | .vmem => 7
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1024x5632, .f32⟩
  | .hbm, ⟨3, _⟩ => ⟨S2048x5632, .f32⟩
  | .hbm, ⟨4, _⟩ => ⟨S2048x1024, .bf16⟩
  | .local _ .vmem, ⟨0, _⟩ => ⟨S2048x1024, .f32⟩
  | .local _ .vmem, ⟨1, _⟩ => ⟨S1x1024, .f32⟩
  | .local _ .vmem, ⟨2, _⟩ => ⟨S1024x512, .f32⟩
  | .local _ .vmem, ⟨3, _⟩ => ⟨S1024x512, .f32⟩
  | .local _ .vmem, ⟨4, _⟩ => ⟨S2048x512, .f32⟩
  | .local _ .vmem, ⟨5, _⟩ => ⟨S2048x512, .f32⟩
  | .local _ .vmem, ⟨6, _⟩ => ⟨S2048x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6

abbrev nD : Nat := 1
abbrev τ : Topo := Topo.v7x

variable {F : FTy → Type} [FloatOps F]

abbrev grid0 : Pipeline.Grid := ⟨1, ![11], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2048x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== Reference14Ideal.lean ====
abbrev S2048x1024 : Shape := ⟨2, ![2048, 1024]⟩
abbrev S1x1024 : Shape := ⟨2, ![1, 1024]⟩
abbrev S1024x5632 : Shape := ⟨2, ![1024, 5632]⟩
abbrev S_ : Shape := ⟨0, ![]⟩
abbrev S2048 : Shape := ⟨1, ![2048]⟩
abbrev S2048x1 : Shape := ⟨2, ![2048, 1]⟩
abbrev S2048x5632 : Shape := ⟨2, ![2048, 5632]⟩

abbrev nBuf : Space → Nat
  | .hbm => 20
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1024x5632, .f32⟩
  | .hbm, ⟨3, _⟩ => ⟨S2048x1024, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S2048x1, .f32⟩
  | .hbm, ⟨14, _⟩ => ⟨S2048x1024, .f32⟩
  | .hbm, ⟨15, _⟩ => ⟨S2048x1024, .f32⟩
  | .hbm, ⟨16, _⟩ => ⟨S2048x1024, .f32⟩
  | .hbm, ⟨17, _⟩ => ⟨S2048x1024, .f32⟩
  | .hbm, ⟨18, _⟩ => ⟨S2048x5632, .f32⟩
  | .hbm, ⟨19, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Kernel15.lean ====
abbrev S2048x1024 : Shape := ⟨2, ![2048, 1024]⟩
abbrev S1x1024 : Shape := ⟨2, ![1, 1024]⟩
abbrev S1024x2048 : Shape := ⟨2, ![1024, 2048]⟩
abbrev S2048x2048 : Shape := ⟨2, ![2048, 2048]⟩
abbrev S1024x512 : Shape := ⟨2, ![1024, 512]⟩
abbrev S2048x512 : Shape := ⟨2, ![2048, 512]⟩
abbrev S2048 : Shape := ⟨1, ![2048]⟩
abbrev S2048x1 : Shape := ⟨2, ![2048, 1]⟩

abbrev nBuf : Space → Nat
  | .hbm => 5
  | .vmem => 7
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1024x2048, .f32⟩
  | .hbm, ⟨3, _⟩ => ⟨S2048x2048, .f32⟩
  | .hbm, ⟨4, _⟩ => ⟨S2048x1024, .bf16⟩
  | .local _ .vmem, ⟨0, _⟩ => ⟨S2048x1024, .f32⟩
  | .local _ .vmem, ⟨1, _⟩ => ⟨S1x1024, .f32⟩
  | .local _ .vmem, ⟨2, _⟩ => ⟨S1024x512, .f32⟩
  | .local _ .vmem, ⟨3, _⟩ => ⟨S1024x512, .f32⟩
  | .local _ .vmem, ⟨4, _⟩ => ⟨S2048x512, .f32⟩
  | .local _ .vmem, ⟨5, _⟩ => ⟨S2048x512, .f32⟩
  | .local _ .vmem, ⟨6, _⟩ => ⟨S2048x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6

abbrev nD : Nat := 1
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2048x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== Reference15Ideal.lean ====
abbrev S2048x1024 : Shape := ⟨2, ![2048, 1024]⟩
abbrev S1x1024 : Shape := ⟨2, ![1, 1024]⟩
abbrev S1024x2048 : Shape := ⟨2, ![1024, 2048]⟩
abbrev S_ : Shape := ⟨0, ![]⟩
abbrev S2048 : Shape := ⟨1, ![2048]⟩
abbrev S2048x1 : Shape := ⟨2, ![2048, 1]⟩
abbrev S2048x2048 : Shape := ⟨2, ![2048, 2048]⟩

abbrev nBuf : Space → Nat
  | .hbm => 20
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1024x2048, .f32⟩
  | .hbm, ⟨3, _⟩ => ⟨S2048x1024, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S2048x1, .f32⟩
  | .hbm, ⟨14, _⟩ => ⟨S2048x1024, .f32⟩
  | .hbm, ⟨15, _⟩ => ⟨S2048x1024, .f32⟩
  | .hbm, ⟨16, _⟩ => ⟨S2048x1024, .f32⟩
  | .hbm, ⟨17, _⟩ => ⟨S2048x1024, .f32⟩
  | .hbm, ⟨18, _⟩ => ⟨S2048x2048, .f32⟩
  | .hbm, ⟨19, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Kernel16.lean ====
abbrev S2048x1024 : Shape := ⟨2, ![2048, 1024]⟩
abbrev S1x1024 : Shape := ⟨2, ![1, 1024]⟩
abbrev S1024x4104 : Shape := ⟨2, ![1024, 4104]⟩
abbrev S4104x1024 : Shape := ⟨2, ![4104, 1024]⟩
abbrev S4096x1024 : Shape := ⟨2, ![4096, 1024]⟩
abbrev S2048x4096 : Shape := ⟨2, ![2048, 4096]⟩
abbrev S512x1024 : Shape := ⟨2, ![512, 1024]⟩
abbrev S2048x512 : Shape := ⟨2, ![2048, 512]⟩
abbrev S2048 : Shape := ⟨1, ![2048]⟩
abbrev S2048x1 : Shape := ⟨2, ![2048, 1]⟩

abbrev nBuf : Space → Nat
  | .hbm => 7
  | .vmem => 7
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1024x4104, .f32⟩
  | .hbm, ⟨3, _⟩ => ⟨S4104x1024, .f32⟩
  | .hbm, ⟨4, _⟩ => ⟨S4096x1024, .f32⟩
  | .hbm, ⟨5, _⟩ => ⟨S2048x4096, .f32⟩
  | .hbm, ⟨6, _⟩ => ⟨S2048x1024, .bf16⟩
  | .local _ .vmem, ⟨0, _⟩ => ⟨S2048x1024, .f32⟩
  | .local _ .vmem, ⟨1, _⟩ => ⟨S1x1024, .f32⟩
  | .local _ .vmem, ⟨2, _⟩ => ⟨S512x1024, .f32⟩
  | .local _ .vmem, ⟨3, _⟩ => ⟨S512x1024, .f32⟩
  | .local _ .vmem, ⟨4, _⟩ => ⟨S2048x512, .f32⟩
  | .local _ .vmem, ⟨5, _⟩ => ⟨S2048x512, .f32⟩
  | .local _ .vmem, ⟨6, _⟩ => ⟨S2048x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2048x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== Reference16Ideal.lean ====
abbrev S2048x1024 : Shape := ⟨2, ![2048, 1024]⟩
abbrev S1x1024 : Shape := ⟨2, ![1, 1024]⟩
abbrev S1024x4104 : Shape := ⟨2, ![1024, 4104]⟩
abbrev S_ : Shape := ⟨0, ![]⟩
abbrev S2048 : Shape := ⟨1, ![2048]⟩
abbrev S2048x1 : Shape := ⟨2, ![2048, 1]⟩
abbrev S2048x4104 : Shape := ⟨2, ![2048, 4104]⟩
abbrev S2048x4096 : Shape := ⟨2, ![2048, 4096]⟩

abbrev nBuf : Space → Nat
  | .hbm => 21
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1024x4104, .f32⟩
  | .hbm, ⟨3, _⟩ => ⟨S2048x1024, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S2048x1, .f32⟩
  | .hbm, ⟨14, _⟩ => ⟨S2048x1024, .f32⟩
  | .hbm, ⟨15, _⟩ => ⟨S2048x1024, .f32⟩
  | .hbm, ⟨16, _⟩ => ⟨S2048x1024, .f32⟩
  | .hbm, ⟨17, _⟩ => ⟨S2048x1024, .f32⟩
  | .hbm, ⟨18, _⟩ => ⟨S2048x4104, .f32⟩
  | .hbm, ⟨19, _⟩ => ⟨S2048x4096, .f32⟩
  | .hbm, ⟨20, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Kernel23.lean ====
abbrev S1026x1x1024 : Shape := ⟨3, ![1026, 1, 1024]⟩
abbrev S171x1x1024 : Shape := ⟨3, ![171, 1, 1024]⟩

abbrev nBuf : Space → Nat
  | .hbm => 8
  | .vmem => 16
  | .smem => 0
  | _ => 0

abbrev bufTy : (tb : Table) → Fin (tcTables nBuf tb) → BufTy
  | .hbm, ⟨0, _⟩ => ⟨S1026x1x1024, .f32⟩
  | .hbm, ⟨1, _⟩ => ⟨S1026x1x1024, .f32⟩
  | .hbm, ⟨2, _⟩ => ⟨S1026x1x1024, .f32⟩
  | .hbm, ⟨3, _⟩ => ⟨S1026x1x1024, .f32⟩
  | .hbm, ⟨4, _⟩ => ⟨S1026x1x1024, .f32⟩
  | .hbm, ⟨5, _⟩ => ⟨S1026x1x1024, .f32⟩
  | .hbm, ⟨6, _⟩ => ⟨S1026x1x1024, .f32⟩
  | .hbm, ⟨7, _⟩ => ⟨S1026x1x1024, .f32⟩
  | .local _ .vmem, ⟨0, _⟩ => ⟨S171x1x1024, .f32⟩
  | .local _ .vmem, ⟨1, _⟩ => ⟨S171x1x1024, .f32⟩
  | .local _ .vmem, ⟨2, _⟩ => ⟨S171x1x1024, .f32⟩
  | .local _ .vmem, ⟨3, _⟩ => ⟨S171x1x1024, .f32⟩
  | .local _ .vmem, ⟨4, _⟩ => ⟨S171x1x1024, .f32⟩
  | .local _ .vmem, ⟨5, _⟩ => ⟨S171x1x1024, .f32⟩
  | .local _ .vmem, ⟨6, _⟩ => ⟨S171x1x1024, .f32⟩
  | .local _ .vmem, ⟨7, _⟩ => ⟨S171x1x1024, .f32⟩
  | .local _ .vmem, ⟨8, _⟩ => ⟨S171x1x1024, .f32⟩
  | .local _ .vmem, ⟨9, _⟩ => ⟨S171x1x1024, .f32⟩
  | .local _ .vmem, ⟨10, _⟩ => ⟨S171x1x1024, .f32⟩
  | .local _ .vmem, ⟨11, _⟩ => ⟨S171x1x1024, .f32⟩
  | .local _ .vmem, ⟨12, _⟩ => ⟨S171x1x1024, .f32⟩
  | .local _ .vmem, ⟨13, _⟩ => ⟨S171x1x1024, .f32⟩
  | .local _ .vmem, ⟨14, _⟩ => ⟨S171x1x1024, .f32⟩
  | .local _ .vmem, ⟨15, _⟩ => ⟨S171x1x1024, .f32⟩
  | _, _ => ⟨S1026x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![6], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S171x1x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S171x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S171x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S171x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S171x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S171x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S171x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S171x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference23Ideal.lean ====
abbrev S1026x1x1024 : Shape := ⟨3, ![1026, 1, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1026x1x1024, .f32⟩
  | .hbm, ⟨1, _⟩ => ⟨S1026x1x1024, .f32⟩
  | .hbm, ⟨2, _⟩ => ⟨S1026x1x1024, .f32⟩
  | .hbm, ⟨3, _⟩ => ⟨S1026x1x1024, .f32⟩
  | .hbm, ⟨4, _⟩ => ⟨S_, .f32⟩
  | .hbm, ⟨5, _⟩ => ⟨S1026x1x1024, .f32⟩
  | .hbm, ⟨6, _⟩ => ⟨S1026x1x1024, .f32⟩
  | .hbm, ⟨7, _⟩ => ⟨S_, .f32⟩
  | .hbm, ⟨8, _⟩ => ⟨S1026x1x1024, .f32⟩
  | .hbm, ⟨9, _⟩ => ⟨S1026x1x1024, .f32⟩
  | .hbm, ⟨10, _⟩ => ⟨S1026x1x1024, .f32⟩
  | .hbm, ⟨11, _⟩ => ⟨S_, .f32⟩
  | .hbm, ⟨12, _⟩ => ⟨S1026x1x1024, .f32⟩
  | .hbm, ⟨13, _⟩ => ⟨S1026x1x1024, .f32⟩
  | .hbm, ⟨14, _⟩ => ⟨S1026x1x1024, .f32⟩
  | .hbm, ⟨15, _⟩ => ⟨S_, .f32⟩
  | .hbm, ⟨16, _⟩ => ⟨S1026x1x1024, .f32⟩
  | .hbm, ⟨17, _⟩ => ⟨S1026x1x1024, .f32⟩
  | .hbm, ⟨18, _⟩ => ⟨S1026x1x1024, .f32⟩
  | .hbm, ⟨19, _⟩ => ⟨S_, .f32⟩
  | .hbm, ⟨20, _⟩ => ⟨S1026x1x1024, .f32⟩
  | .hbm, ⟨21, _⟩ => ⟨S1026x1x1024, .f32⟩
  | .hbm, ⟨22, _⟩ => ⟨S_, .f32⟩
  | .hbm, ⟨23, _⟩ => ⟨S1026x1x1024, .f32⟩
  | .hbm, ⟨24, _⟩ => ⟨S1026x1x1024, .f32⟩
  | .hbm, ⟨25, _⟩ => ⟨S1026x1x1024, .f32⟩
  | .hbm, ⟨26, _⟩ => ⟨S_, .f32⟩
  | .hbm, ⟨27, _⟩ => ⟨S1026x1x1024, .f32⟩
  | .hbm, ⟨28, _⟩ => ⟨S1026x1x1024, .f32⟩
  | .hbm, ⟨29, _⟩ => ⟨S1026x1x1024, .f32⟩
  | .hbm, ⟨30, _⟩ => ⟨S_, .f32⟩
  | .hbm, ⟨31, _⟩ => ⟨S1026x1x1024, .f32⟩
  | .hbm, ⟨32, _⟩ => ⟨S1026x1x1024, .f32⟩
  | .hbm, ⟨33, _⟩ => ⟨S1026x1x1024, .f32⟩
  | .hbm, ⟨34, _⟩ => ⟨S_, .f32⟩
  | .hbm, ⟨35, _⟩ => ⟨S1026x1x1024, .f32⟩
  | .hbm, ⟨36, _⟩ => ⟨S1026x1x1024, .f32⟩
  | _, _ => ⟨S1026x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel24.lean ====
abbrev S1 : Shape := ⟨1, ![1]⟩
abbrev S1x1024x128 : Shape := ⟨3, ![1, 1024, 128]⟩
abbrev S512x128 : Shape := ⟨2, ![512, 128]⟩
abbrev S1x512x128 : Shape := ⟨3, ![1, 512, 128]⟩

abbrev nBuf : Space → Nat
  | .hbm => 9
  | .vmem => 16
  | .smem => 1
  | _ => 0

abbrev bufTy : (tb : Table) → Fin (tcTables nBuf tb) → BufTy
  | .hbm, ⟨0, _⟩ => ⟨S1x1024x128, .f32⟩
  | .hbm, ⟨1, _⟩ => ⟨S1x1024x128, .f32⟩
  | .hbm, ⟨2, _⟩ => ⟨S1x1024x128, .f32⟩
  | .hbm, ⟨3, _⟩ => ⟨S512x128, .f32⟩
  | .hbm, ⟨4, _⟩ => ⟨S512x128, .f32⟩
  | .hbm, ⟨5, _⟩ => ⟨S1x1024x128, .f32⟩
  | .hbm, ⟨6, _⟩ => ⟨S1x1024x128, .f32⟩
  | .hbm, ⟨7, _⟩ => ⟨S1x1024x128, .f32⟩
  | .hbm, ⟨8, _⟩ => ⟨S1x1024x128, .f32⟩
  | .local _ .vmem, ⟨0, _⟩ => ⟨S1x512x128, .f32⟩
  | .local _ .vmem, ⟨1, _⟩ => ⟨S1x512x128, .f32⟩
  | .local _ .vmem, ⟨2, _⟩ => ⟨S1x512x128, .f32⟩
  | .local _ .vmem, ⟨3, _⟩ => ⟨S1x512x128, .f32⟩
  | .local _ .vmem, ⟨4, _⟩ => ⟨S1x512x128, .f32⟩
  | .local _ .vmem, ⟨5, _⟩ => ⟨S1x512x128, .f32⟩
  | .local _ .vmem, ⟨6, _⟩ => ⟨S512x128, .f32⟩
  | .local _ .vmem, ⟨7, _⟩ => ⟨S512x128, .f32⟩
  | .local _ .vmem, ⟨8, _⟩ => ⟨S1x512x128, .f32⟩
  | .local _ .vmem, ⟨9, _⟩ => ⟨S1x512x128, .f32⟩
  | .local _ .vmem, ⟨10, _⟩ => ⟨S1x512x128, .f32⟩
  | .local _ .vmem, ⟨11, _⟩ => ⟨S1x512x128, .f32⟩
  | .local _ .vmem, ⟨12, _⟩ => ⟨S1x512x128, .f32⟩
  | .local _ .vmem, ⟨13, _⟩ => ⟨S1x512x128, .f32⟩
  | .local _ .vmem, ⟨14, _⟩ => ⟨S1x512x128, .f32⟩
  | .local _ .vmem, ⟨15, _⟩ => ⟨S1x512x128, .f32⟩
  | .local _ .smem, ⟨0, _⟩ => ⟨S1, .i32⟩
  | _, _ => ⟨S1x1024x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![2, 1], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_7 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_8 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

abbrev stage0_0 : Fin 2 → Memref sig .tc .vmem S1x512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S512x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 1 → Memref sig .tc .vmem S512x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true]

abbrev stage0_5 : Fin 2 → Memref sig .tc .vmem S1x512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference24Ideal.lean ====
abbrev S1 : Shape := ⟨1, ![1]⟩
abbrev S1x1024x128 : Shape := ⟨3, ![1, 1024, 128]⟩
abbrev S512x128 : Shape := ⟨2, ![512, 128]⟩
abbrev S_ : Shape := ⟨0, ![]⟩
abbrev S1024x128 : Shape := ⟨2, ![1024, 128]⟩

abbrev nBuf : Space → Nat
  | .hbm => 49
  | .vmem => 0
  | .smem => 0
  | _ => 0

abbrev bufTy : (tb : Table) → Fin (tcTables nBuf tb) → BufTy
  | .hbm, ⟨0, _⟩ => ⟨S1, .i32⟩
  | .hbm, ⟨1, _⟩ => ⟨S1x1024x128, .f32⟩
  | .hbm, ⟨2, _⟩ => ⟨S1x1024x128, .f32⟩
  | .hbm, ⟨3, _⟩ => ⟨S1x1024x128, .f32⟩
  | .hbm, ⟨4, _⟩ => ⟨S512x128, .f32⟩
  | .hbm, ⟨5, _⟩ => ⟨S512x128, .f32⟩
  | .hbm, ⟨6, _⟩ => ⟨S_, .i32⟩
  | .hbm, ⟨7, _⟩ => ⟨S_, .i32⟩
  | .hbm, ⟨8, _⟩ => ⟨S_, .i1⟩
  | .hbm, ⟨9, _⟩ => ⟨S512x128, .f32⟩
  | .hbm, ⟨10, _⟩ => ⟨S_, .i32⟩
  | .hbm, ⟨11, _⟩ => ⟨S_, .i32⟩
  | .hbm, ⟨12, _⟩ => ⟨S_, .i1⟩
  | .hbm, ⟨13, _⟩ => ⟨S512x128, .f32⟩
  | .hbm, ⟨14, _⟩ => ⟨S1024x128, .f32⟩
  | .hbm, ⟨15, _⟩ => ⟨S1x1024x128, .f32⟩
  | .hbm, ⟨16, _⟩ => ⟨S_, .f32⟩
  | .hbm, ⟨17, _⟩ => ⟨S1x1024x128, .f32⟩
  | .hbm, ⟨18, _⟩ => ⟨S1x1024x128, .f32⟩
  | .hbm, ⟨19, _⟩ => ⟨S_, .f32⟩
  | .hbm, ⟨20, _⟩ => ⟨S1x1024x128, .f32⟩
  | .hbm, ⟨21, _⟩ => ⟨S1x1024x128, .f32⟩
  | .hbm, ⟨22, _⟩ => ⟨S1x1024x128, .f32⟩
  | .hbm, ⟨23, _⟩ => ⟨S_, .f32⟩
  | .hbm, ⟨24, _⟩ => ⟨S1x1024x128, .f32⟩
  | .hbm, ⟨25, _⟩ => ⟨S1x1024x128, .f32⟩
  | .hbm, ⟨26, _⟩ => ⟨S1x1024x128, .f32⟩
  | .hbm, ⟨27, _⟩ => ⟨S_, .f32⟩
  | .hbm, ⟨28, _⟩ => ⟨S1x1024x128, .f32⟩
  | .hbm, ⟨29, _⟩ => ⟨S1x1024x128, .f32⟩
  | .hbm, ⟨30, _⟩ => ⟨S1x1024x128, .f32⟩
  | .hbm, ⟨31, _⟩ => ⟨S_, .f32⟩
  | .hbm, ⟨32, _⟩ => ⟨S1x1024x128, .f32⟩
  | .hbm, ⟨33, _⟩ => ⟨S1x1024x128, .f32⟩
  | .hbm, ⟨34, _⟩ => ⟨S_, .f32⟩
  | .hbm, ⟨35, _⟩ => ⟨S1x1024x128, .f32⟩
  | .hbm, ⟨36, _⟩ => ⟨S1x1024x128, .f32⟩
  | .hbm, ⟨37, _⟩ => ⟨S1x1024x128, .f32⟩
  | .hbm, ⟨38, _⟩ => ⟨S_, .f32⟩
  | .hbm, ⟨39, _⟩ => ⟨S1x1024x128, .f32⟩
  | .hbm, ⟨40, _⟩ => ⟨S1x1024x128, .f32⟩
  | .hbm, ⟨41, _⟩ => ⟨S1x1024x128, .f32⟩
  | .hbm, ⟨42, _⟩ => ⟨S_, .f32⟩
  | .hbm, ⟨43, _⟩ => ⟨S1x1024x128, .f32⟩
  | .hbm, ⟨44, _⟩ => ⟨S1x1024x128, .f32⟩
  | .hbm, ⟨45, _⟩ => ⟨S1x1024x128, .f32⟩
  | .hbm, ⟨46, _⟩ => ⟨S_, .f32⟩
  | .hbm, ⟨47, _⟩ => ⟨S1x1024x128, .f32⟩
  | .hbm, ⟨48, _⟩ => ⟨S1x1024x128, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_v20 : Ref sig .tc := ⟨.hbm, 33, rfl⟩
abbrev main_cst_5 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_6 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_7 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_8 : Ref sig .tc := ⟨.hbm, 46, rfl⟩
abbrev main_v30 : Ref sig .tc := ⟨.hbm, 47, rfl⟩
abbrev main_v31 : Ref sig .tc := ⟨.hbm, 48, rfl⟩

abbrev nD : Nat := 1
abbrev τ : Topo := Topo.v7x

variable {F : FTy → Type} [FloatOps F]
-- ==== Kernel25.lean ====
abbrev S1 : Shape := ⟨1, ![1]⟩
abbrev S1x1024x512 : Shape := ⟨3, ![1, 1024, 512]⟩
abbrev S512x512 : Shape := ⟨2, ![512, 512]⟩
abbrev S1x512x512 : Shape := ⟨3, ![1, 512, 512]⟩

abbrev nBuf : Space → Nat
  | .hbm => 9
  | .vmem => 16
  | .smem => 1
  | _ => 0

abbrev bufTy : (tb : Table) → Fin (tcTables nBuf tb) → BufTy
  | .hbm, ⟨0, _⟩ => ⟨S1x1024x512, .f32⟩
  | .hbm, ⟨1, _⟩ => ⟨S1x1024x512, .f32⟩
  | .hbm, ⟨2, _⟩ => ⟨S1x1024x512, .f32⟩
  | .hbm, ⟨3, _⟩ => ⟨S512x512, .f32⟩
  | .hbm, ⟨4, _⟩ => ⟨S512x512, .f32⟩
  | .hbm, ⟨5, _⟩ => ⟨S1x1024x512, .f32⟩
  | .hbm, ⟨6, _⟩ => ⟨S1x1024x512, .f32⟩
  | .hbm, ⟨7, _⟩ => ⟨S1x1024x512, .f32⟩
  | .hbm, ⟨8, _⟩ => ⟨S1x1024x512, .f32⟩
  | .local _ .vmem, ⟨0, _⟩ => ⟨S1x512x512, .f32⟩
  | .local _ .vmem, ⟨1, _⟩ => ⟨S1x512x512, .f32⟩
  | .local _ .vmem, ⟨2, _⟩ => ⟨S1x512x512, .f32⟩
  | .local _ .vmem, ⟨3, _⟩ => ⟨S1x512x512, .f32⟩
  | .local _ .vmem, ⟨4, _⟩ => ⟨S1x512x512, .f32⟩
  | .local _ .vmem, ⟨5, _⟩ => ⟨S1x512x512, .f32⟩
  | .local _ .vmem, ⟨6, _⟩ => ⟨S512x512, .f32⟩
  | .local _ .vmem, ⟨7, _⟩ => ⟨S512x512, .f32⟩
  | .local _ .vmem, ⟨8, _⟩ => ⟨S1x512x512, .f32⟩
  | .local _ .vmem, ⟨9, _⟩ => ⟨S1x512x512, .f32⟩
  | .local _ .vmem, ⟨10, _⟩ => ⟨S1x512x512, .f32⟩
  | .local _ .vmem, ⟨11, _⟩ => ⟨S1x512x512, .f32⟩
  | .local _ .vmem, ⟨12, _⟩ => ⟨S1x512x512, .f32⟩
  | .local _ .vmem, ⟨13, _⟩ => ⟨S1x512x512, .f32⟩
  | .local _ .vmem, ⟨14, _⟩ => ⟨S1x512x512, .f32⟩
  | .local _ .vmem, ⟨15, _⟩ => ⟨S1x512x512, .f32⟩
  | .local _ .smem, ⟨0, _⟩ => ⟨S1, .i32⟩
  | _, _ => ⟨S1x1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![2, 1], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_7 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_8 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

abbrev stage0_0 : Fin 2 → Memref sig .tc .vmem S1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 1 → Memref sig .tc .vmem S512x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true]

abbrev stage0_5 : Fin 2 → Memref sig .tc .vmem S1x512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference25Ideal.lean ====
abbrev S1 : Shape := ⟨1, ![1]⟩
abbrev S1x1024x512 : Shape := ⟨3, ![1, 1024, 512]⟩
abbrev S512x512 : Shape := ⟨2, ![512, 512]⟩
abbrev S_ : Shape := ⟨0, ![]⟩
abbrev S1024x512 : Shape := ⟨2, ![1024, 512]⟩

abbrev nBuf : Space → Nat
  | .hbm => 49
  | .vmem => 0
  | .smem => 0
  | _ => 0

abbrev bufTy : (tb : Table) → Fin (tcTables nBuf tb) → BufTy
  | .hbm, ⟨0, _⟩ => ⟨S1, .i32⟩
  | .hbm, ⟨1, _⟩ => ⟨S1x1024x512, .f32⟩
  | .hbm, ⟨2, _⟩ => ⟨S1x1024x512, .f32⟩
  | .hbm, ⟨3, _⟩ => ⟨S1x1024x512, .f32⟩
  | .hbm, ⟨4, _⟩ => ⟨S512x512, .f32⟩
  | .hbm, ⟨5, _⟩ => ⟨S512x512, .f32⟩
  | .hbm, ⟨6, _⟩ => ⟨S_, .i32⟩
  | .hbm, ⟨7, _⟩ => ⟨S_, .i32⟩
  | .hbm, ⟨8, _⟩ => ⟨S_, .i1⟩
  | .hbm, ⟨9, _⟩ => ⟨S512x512, .f32⟩
  | .hbm, ⟨10, _⟩ => ⟨S_, .i32⟩
  | .hbm, ⟨11, _⟩ => ⟨S_, .i32⟩
  | .hbm, ⟨12, _⟩ => ⟨S_, .i1⟩
  | .hbm, ⟨13, _⟩ => ⟨S512x512, .f32⟩
  | .hbm, ⟨14, _⟩ => ⟨S1024x512, .f32⟩
  | .hbm, ⟨15, _⟩ => ⟨S1x1024x512, .f32⟩
  | .hbm, ⟨16, _⟩ => ⟨S_, .f32⟩
  | .hbm, ⟨17, _⟩ => ⟨S1x1024x512, .f32⟩
  | .hbm, ⟨18, _⟩ => ⟨S1x1024x512, .f32⟩
  | .hbm, ⟨19, _⟩ => ⟨S_, .f32⟩
  | .hbm, ⟨20, _⟩ => ⟨S1x1024x512, .f32⟩
  | .hbm, ⟨21, _⟩ => ⟨S1x1024x512, .f32⟩
  | .hbm, ⟨22, _⟩ => ⟨S1x1024x512, .f32⟩
  | .hbm, ⟨23, _⟩ => ⟨S_, .f32⟩
  | .hbm, ⟨24, _⟩ => ⟨S1x1024x512, .f32⟩
  | .hbm, ⟨25, _⟩ => ⟨S1x1024x512, .f32⟩
  | .hbm, ⟨26, _⟩ => ⟨S1x1024x512, .f32⟩
  | .hbm, ⟨27, _⟩ => ⟨S_, .f32⟩
  | .hbm, ⟨28, _⟩ => ⟨S1x1024x512, .f32⟩
  | .hbm, ⟨29, _⟩ => ⟨S1x1024x512, .f32⟩
  | .hbm, ⟨30, _⟩ => ⟨S1x1024x512, .f32⟩
  | .hbm, ⟨31, _⟩ => ⟨S_, .f32⟩
  | .hbm, ⟨32, _⟩ => ⟨S1x1024x512, .f32⟩
  | .hbm, ⟨33, _⟩ => ⟨S1x1024x512, .f32⟩
  | .hbm, ⟨34, _⟩ => ⟨S_, .f32⟩
  | .hbm, ⟨35, _⟩ => ⟨S1x1024x512, .f32⟩
  | .hbm, ⟨36, _⟩ => ⟨S1x1024x512, .f32⟩
  | .hbm, ⟨37, _⟩ => ⟨S1x1024x512, .f32⟩
  | .hbm, ⟨38, _⟩ => ⟨S_, .f32⟩
  | .hbm, ⟨39, _⟩ => ⟨S1x1024x512, .f32⟩
  | .hbm, ⟨40, _⟩ => ⟨S1x1024x512, .f32⟩
  | .hbm, ⟨41, _⟩ => ⟨S1x1024x512, .f32⟩
  | .hbm, ⟨42, _⟩ => ⟨S_, .f32⟩
  | .hbm, ⟨43, _⟩ => ⟨S1x1024x512, .f32⟩
  | .hbm, ⟨44, _⟩ => ⟨S1x1024x512, .f32⟩
  | .hbm, ⟨45, _⟩ => ⟨S1x1024x512, .f32⟩
  | .hbm, ⟨46, _⟩ => ⟨S_, .f32⟩
  | .hbm, ⟨47, _⟩ => ⟨S1x1024x512, .f32⟩
  | .hbm, ⟨48, _⟩ => ⟨S1x1024x512, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_v20 : Ref sig .tc := ⟨.hbm, 33, rfl⟩
abbrev main_cst_5 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_6 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_7 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_8 : Ref sig .tc := ⟨.hbm, 46, rfl⟩
abbrev main_v30 : Ref sig .tc := ⟨.hbm, 47, rfl⟩
abbrev main_v31 : Ref sig .tc := ⟨.hbm, 48, rfl⟩

abbrev nD : Nat := 1
abbrev τ : Topo := Topo.v7x

variable {F : FTy → Type} [FloatOps F]
-- ==== Kernel26.lean ====
abbrev S1 : Shape := ⟨1, ![1]⟩
abbrev S1x256x1024 : Shape := ⟨3, ![1, 256, 1024]⟩
abbrev S128x1024 : Shape := ⟨2, ![128, 1024]⟩
abbrev S1x128x1024 : Shape := ⟨3, ![1, 128, 1024]⟩

abbrev nBuf : Space → Nat
  | .hbm => 9
  | .vmem => 16
  | .smem => 1
  | _ => 0

abbrev bufTy : (tb : Table) → Fin (tcTables nBuf tb) → BufTy
  | .hbm, ⟨0, _⟩ => ⟨S1x256x1024, .f32⟩
  | .hbm, ⟨1, _⟩ => ⟨S1x256x1024, .f32⟩
  | .hbm, ⟨2, _⟩ => ⟨S1x256x1024, .f32⟩
  | .hbm, ⟨3, _⟩ => ⟨S128x1024, .f32⟩
  | .hbm, ⟨4, _⟩ => ⟨S128x1024, .f32⟩
  | .hbm, ⟨5, _⟩ => ⟨S1x256x1024, .f32⟩
  | .hbm, ⟨6, _⟩ => ⟨S1x256x1024, .f32⟩
  | .hbm, ⟨7, _⟩ => ⟨S1x256x1024, .f32⟩
  | .hbm, ⟨8, _⟩ => ⟨S1x256x1024, .f32⟩
  | .local _ .vmem, ⟨0, _⟩ => ⟨S1x128x1024, .f32⟩
  | .local _ .vmem, ⟨1, _⟩ => ⟨S1x128x1024, .f32⟩
  | .local _ .vmem, ⟨2, _⟩ => ⟨S1x128x1024, .f32⟩
  | .local _ .vmem, ⟨3, _⟩ => ⟨S1x128x1024, .f32⟩
  | .local _ .vmem, ⟨4, _⟩ => ⟨S1x128x1024, .f32⟩
  | .local _ .vmem, ⟨5, _⟩ => ⟨S1x128x1024, .f32⟩
  | .local _ .vmem, ⟨6, _⟩ => ⟨S128x1024, .f32⟩
  | .local _ .vmem, ⟨7, _⟩ => ⟨S128x1024, .f32⟩
  | .local _ .vmem, ⟨8, _⟩ => ⟨S1x128x1024, .f32⟩
  | .local _ .vmem, ⟨9, _⟩ => ⟨S1x128x1024, .f32⟩
  | .local _ .vmem, ⟨10, _⟩ => ⟨S1x128x1024, .f32⟩
  | .local _ .vmem, ⟨11, _⟩ => ⟨S1x128x1024, .f32⟩
  | .local _ .vmem, ⟨12, _⟩ => ⟨S1x128x1024, .f32⟩
  | .local _ .vmem, ⟨13, _⟩ => ⟨S1x128x1024, .f32⟩
  | .local _ .vmem, ⟨14, _⟩ => ⟨S1x128x1024, .f32⟩
  | .local _ .vmem, ⟨15, _⟩ => ⟨S1x128x1024, .f32⟩
  | .local _ .smem, ⟨0, _⟩ => ⟨S1, .i32⟩
  | _, _ => ⟨S1x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![2, 1], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_7 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_8 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

abbrev stage0_0 : Fin 2 → Memref sig .tc .vmem S1x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true]

abbrev stage0_5 : Fin 2 → Memref sig .tc .vmem S1x128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference26Ideal.lean ====
abbrev S1 : Shape := ⟨1, ![1]⟩
abbrev S1x256x1024 : Shape := ⟨3, ![1, 256, 1024]⟩
abbrev S128x1024 : Shape := ⟨2, ![128, 1024]⟩
abbrev S_ : Shape := ⟨0, ![]⟩
abbrev S256x1024 : Shape := ⟨2, ![256, 1024]⟩

abbrev nBuf : Space → Nat
  | .hbm => 49
  | .vmem => 0
  | .smem => 0
  | _ => 0

abbrev bufTy : (tb : Table) → Fin (tcTables nBuf tb) → BufTy
  | .hbm, ⟨0, _⟩ => ⟨S1, .i32⟩
  | .hbm, ⟨1, _⟩ => ⟨S1x256x1024, .f32⟩
  | .hbm, ⟨2, _⟩ => ⟨S1x256x1024, .f32⟩
  | .hbm, ⟨3, _⟩ => ⟨S1x256x1024, .f32⟩
  | .hbm, ⟨4, _⟩ => ⟨S128x1024, .f32⟩
  | .hbm, ⟨5, _⟩ => ⟨S128x1024, .f32⟩
  | .hbm, ⟨6, _⟩ => ⟨S_, .i32⟩
  | .hbm, ⟨7, _⟩ => ⟨S_, .i32⟩
  | .hbm, ⟨8, _⟩ => ⟨S_, .i1⟩
  | .hbm, ⟨9, _⟩ => ⟨S128x1024, .f32⟩
  | .hbm, ⟨10, _⟩ => ⟨S_, .i32⟩
  | .hbm, ⟨11, _⟩ => ⟨S_, .i32⟩
  | .hbm, ⟨12, _⟩ => ⟨S_, .i1⟩
  | .hbm, ⟨13, _⟩ => ⟨S128x1024, .f32⟩
  | .hbm, ⟨14, _⟩ => ⟨S256x1024, .f32⟩
  | .hbm, ⟨15, _⟩ => ⟨S1x256x1024, .f32⟩
  | .hbm, ⟨16, _⟩ => ⟨S_, .f32⟩
  | .hbm, ⟨17, _⟩ => ⟨S1x256x1024, .f32⟩
  | .hbm, ⟨18, _⟩ => ⟨S1x256x1024, .f32⟩
  | .hbm, ⟨19, _⟩ => ⟨S_, .f32⟩
  | .hbm, ⟨20, _⟩ => ⟨S1x256x1024, .f32⟩
  | .hbm, ⟨21, _⟩ => ⟨S1x256x1024, .f32⟩
  | .hbm, ⟨22, _⟩ => ⟨S1x256x1024, .f32⟩
  | .hbm, ⟨23, _⟩ => ⟨S_, .f32⟩
  | .hbm, ⟨24, _⟩ => ⟨S1x256x1024, .f32⟩
  | .hbm, ⟨25, _⟩ => ⟨S1x256x1024, .f32⟩
  | .hbm, ⟨26, _⟩ => ⟨S1x256x1024, .f32⟩
  | .hbm, ⟨27, _⟩ => ⟨S_, .f32⟩
  | .hbm, ⟨28, _⟩ => ⟨S1x256x1024, .f32⟩
  | .hbm, ⟨29, _⟩ => ⟨S1x256x1024, .f32⟩
  | .hbm, ⟨30, _⟩ => ⟨S1x256x1024, .f32⟩
  | .hbm, ⟨31, _⟩ => ⟨S_, .f32⟩
  | .hbm, ⟨32, _⟩ => ⟨S1x256x1024, .f32⟩
  | .hbm, ⟨33, _⟩ => ⟨S1x256x1024, .f32⟩
  | .hbm, ⟨34, _⟩ => ⟨S_, .f32⟩
  | .hbm, ⟨35, _⟩ => ⟨S1x256x1024, .f32⟩
  | .hbm, ⟨36, _⟩ => ⟨S1x256x1024, .f32⟩
  | .hbm, ⟨37, _⟩ => ⟨S1x256x1024, .f32⟩
  | .hbm, ⟨38, _⟩ => ⟨S_, .f32⟩
  | .hbm, ⟨39, _⟩ => ⟨S1x256x1024, .f32⟩
  | .hbm, ⟨40, _⟩ => ⟨S1x256x1024, .f32⟩
  | .hbm, ⟨41, _⟩ => ⟨S1x256x1024, .f32⟩
  | .hbm, ⟨42, _⟩ => ⟨S_, .f32⟩
  | .hbm, ⟨43, _⟩ => ⟨S1x256x1024, .f32⟩
  | .hbm, ⟨44, _⟩ => ⟨S1x256x1024, .f32⟩
  | .hbm, ⟨45, _⟩ => ⟨S1x256x1024, .f32⟩
  | .hbm, ⟨46, _⟩ => ⟨S_, .f32⟩
  | .hbm, ⟨47, _⟩ => ⟨S1x256x1024, .f32⟩
  | .hbm, ⟨48, _⟩ => ⟨S1x256x1024, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_v20 : Ref sig .tc := ⟨.hbm, 33, rfl⟩
abbrev main_cst_5 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_6 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_7 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_8 : Ref sig .tc := ⟨.hbm, 46, rfl⟩
abbrev main_v30 : Ref sig .tc := ⟨.hbm, 47, rfl⟩
abbrev main_v31 : Ref sig .tc := ⟨.hbm, 48, rfl⟩

abbrev nD : Nat := 1
abbrev τ : Topo := Topo.v7x

variable {F : FTy → Type} [FloatOps F]
-- ==== Proof.Spec.lean ====
module

public import Idealize.ShloMosaic.Lib.Pointwise
@[expose] public section

/-! The formulas of one chunk of retention and of its gradient, over the extended reals: 128 rows, one head. -/

noncomputable section
namespace Cert.Ret
open Idealize.ShloMosaic

/-- The rows and columns of one chunk of one head. -/
abbrev M := Fin 128 → Fin 128 → EReal

/-- The column that the rotary embedding pairs with column `d`. -/
def sw (d : Fin 128) : Fin 128 := ⟨(d.val + 64) % 128, Nat.mod_lt _ (by norm_num)⟩

/-- The rotary embedding of one chunk, from its cosines and its signed sines. -/
def rot (q c s : M) : M := fun i d => q i d * c i d + q i (sw d) * s i d

/-- The transpose of the rotary embedding. -/
def rotT (g c s : M) : M := fun i d => g i (sw d) * s i (sw d) + g i d * c i d

/-- The scale of the keys: the float word nearest to `128 ^ (-1/2)`. -/
def sc : EReal := Ideal.ofBits .f32 0x3DB504F3#32

/-- The scaled rotary embedding of the keys. -/
def key (k c s : M) : M := fun i d => rot k c s i d * sc

/-- The masked scores. -/
def scores (qr kr dm : M) : M := fun i j => (∑ d, qr i d * kr j d) * dm i j

/-- A chunk's output before the norm: what it attends to in the chunk, and the state before the chunk. -/
def out (scr v qr qd S : M) : M := fun i d => (∑ j, scr i j * v j d) + ∑ e, (qr i e * qd i e) * S e d

/-- The state after a chunk. -/
def stateStep (S cd kr kt v : M) : M := fun e d => S e d * cd e d + ∑ i, (kr i e * kt i e) * v i d

/-- The variance of a row, with the epsilon. -/
def vare (o : M) (i : Fin 128) : EReal :=
  Ideal.div (∑ d, o i d * o i d) (Ideal.ofBits .f32 0x43000000#32) + Ideal.ofBits .f32 0x358637BD#32

/-- The gate's logistic function. -/
def sg (g : M) : M := fun i d => Ideal.logistic (g i d)

/-- The cotangent of the normalised output. -/
def dz (g y : M) : M := fun i d => y i d * (g i d * sg g i d)

/-- The cotangent of a row's mean square. -/
def dvar (o g y : M) (i : Fin 128) : EReal :=
  Ideal.div ((∑ d, o i d * dz g y i d) * (Ideal.ofBits .f32 0xBF000000#32 * Ideal.div (Ideal.rsqrt (vare o i)) (vare o i)))
    (Ideal.ofBits .f32 0x43000000#32)

/-- The cotangent of the output before the norm. -/
def dout (o g y : M) : M := fun i d =>
  dz g y i d * Ideal.rsqrt (vare o i) + o i d * dvar o g y i + dvar o g y i * o i d

/-- The cotangent of the gate. -/
def dgate (o g y : M) : M := fun i d =>
  let z := o i d * Ideal.rsqrt (vare o i) * y i d
  z * sg g i d + g i d * z * (sg g i d * (Ideal.ofBits .f32 0x3F800000#32 - sg g i d))

/-- The cotangent of the scores before the mask. -/
def dscores (dO v dm : M) : M := fun i j => (∑ d, dO i d * v j d) * dm i j

/-- The cotangent of the rotated query. -/
def dqr (dO S qd ds kr : M) : M := fun i e => (∑ d, dO i d * S e d) * qd i e + ∑ j, ds i j * kr j e

/-- The cotangent of the rotated key before its scale. -/
def dkr (D v kt ds qr : M) : M := fun j e => ((∑ d, D e d * v j d) * kt j e + ∑ i, ds i j * qr i e) * sc

/-- The cotangent of the value. -/
def dval (D kr kt dO scr : M) : M := fun j d => (∑ e, D e d * (kr j e * kt j e)) + ∑ i, dO i d * scr i j

/-- The cotangent of the state before a chunk, from the one after it. -/
def dstate (D cd dO qr qd : M) : M := fun e d => D e d * cd e d + ∑ i, dO i d * (qr i e * qd i e)

/-- What the gradient of retention takes, chunk by chunk: head, chunk, row, column; the cosines and signed sines of the
    chunk's rows, and the tables of each head. -/
structure Data where
  q : Fin 4 → ℕ → M
  k : Fin 4 → ℕ → M
  v : Fin 4 → ℕ → M
  g : Fin 4 → ℕ → M
  y : Fin 4 → ℕ → M
  c : ℕ → M
  s : ℕ → M
  dm : Fin 4 → M
  kt : Fin 4 → M
  qd : Fin 4 → M
  cd : Fin 4 → M

namespace Data
variable (I : Data) (h : Fin 4)

/-- The rotated query of chunk `n`. -/
def qr (n : ℕ) : M := rot (I.q h n) (I.c n) (I.s n)
/-- The rotated and scaled key of chunk `n`. -/
def kr (n : ℕ) : M := key (I.k h n) (I.c n) (I.s n)
/-- The masked scores of chunk `n`. -/
def scr (n : ℕ) : M := scores (I.qr h n) (I.kr h n) (I.dm h)
/-- The state before chunk `n`. -/
def S : ℕ → M
  | 0 => fun _ _ => 0
  | n + 1 => stateStep (S n) (I.cd h) (I.kr h n) (I.kt h) (I.v h n)
/-- The output of chunk `n` before the norm. -/
def o (n : ℕ) : M := out (I.scr h n) (I.v h n) (I.qr h n) (I.qd h) (I.S h n)
/-- The cotangent of the output of chunk `n` before the norm. -/
def dO (n : ℕ) : M := dout (I.o h n) (I.g h n) (I.y h n)
/-- The cotangent of the scores of chunk `n` before the mask. -/
def ds (n : ℕ) : M := dscores (I.dO h n) (I.v h n) (I.dm h)
/-- The cotangent of the state after chunk `15 - j`. -/
def D : ℕ → M
  | 0 => fun _ _ => 0
  | j + 1 => dstate (D j) (I.cd h) (I.dO h (15 - j)) (I.qr h (15 - j)) (I.qd h)
/-- The cotangent of the query of chunk `n`. -/
def dq (n : ℕ) : M := rotT (dqr (I.dO h n) (I.S h n) (I.qd h) (I.ds h n) (I.kr h n)) (I.c n) (I.s n)
/-- The cotangent of the key of chunk `n`. -/
def dk (n : ℕ) : M := rotT (dkr (I.D h (15 - n)) (I.v h n) (I.kt h) (I.ds h n) (I.qr h n)) (I.c n) (I.s n)
/-- The cotangent of the value of chunk `n`. -/
def dv (n : ℕ) : M := dval (I.D h (15 - n)) (I.kr h n) (I.kt h) (I.dO h n) (I.scr h n)
/-- The cotangent of the gate of chunk `n`. -/
def dg (n : ℕ) : M := dgate (I.o h n) (I.g h n) (I.y h n)
end Data

end Cert.Ret
end
-- ==== Proof.Tables.lean ====
module

public import proofs.«01_k».proof.Proof.Spec
public import Idealize.ShloMosaic.Lib.Pipeline.ValueKit
@[expose] public section

/-! The tables of the retention and its data, from the projected columns and the cotangent of the output. -/

noncomputable section
namespace Cert.Ret
open Idealize.ShloMosaic Idealize.ShloMosaic.TcCoe

/-- A natural number as a float. -/
def fl (n : ℕ) : EReal := FloatOps.sitofp (F := Ideal) .f32 (BitVec.ofNat 32 n)

/-- The angle of position `t` at frequency `j`. -/
def angle (t j : ℕ) : EReal :=
  fl t * Ideal.pow (Ideal.ofBits .f32 0x461C4000#32) (Ideal.div (-fl j) (Ideal.ofBits .f32 0x42800000#32))

/-- The logarithm of the decay of head `h`. -/
def lg (h : ℕ) : EReal :=
  Ideal.log1p (-Ideal.exp (Ideal.ofBits .f32 0x3F317218#32 * (Ideal.ofBits .f32 0xC0A00000#32 - fl h)))

/-- The cosines of chunk `n`, each twice. -/
def cosT (n : ℕ) : M := fun i d => Ideal.cos (angle (128 * n + i.val) (d.val % 64))

/-- The sines of chunk `n`, negative in the lower half of the columns. -/
def sinT (n : ℕ) : M := fun i d =>
  if d.val < 64 then -Ideal.sin (angle (128 * n + i.val) (d.val % 64)) else Ideal.sin (angle (128 * n + i.val) (d.val % 64))

/-- The bit that says that row `i` sees column `j`. -/
def sees (i j : ℕ) : BitVec 1 := Ideal.cmp .oge (fl i - fl j) 0

/-- The decays of head `h` between the rows of one chunk. -/
def dmT (h : Fin 4) : M := fun i j =>
  Scalar.select (sees i j) (Ideal.exp (lg h * (fl i - fl j))) (Ideal.ofBits .f32 0x00000000#32)

/-- The decays of head `h` from each row to the end of its chunk. -/
def ktT (h : Fin 4) : M := fun i _ => Ideal.exp (lg h * (Ideal.ofBits .f32 0x42FE0000#32 - fl i))

/-- The decays of head `h` from the start of a chunk to each row. -/
def qdT (h : Fin 4) : M := fun i _ => Ideal.exp (lg h * (fl i + 1))

/-- The decay of head `h` over one chunk. -/
def cdT (h : Fin 4) : M := fun _ _ => Ideal.exp (lg h * Ideal.ofBits .f32 0x43000000#32)

/-- The entry at row `r` and column `c` of an array of 2048 rows. -/
def ent {C : ℕ} (X : (⟨2, ![2048, C]⟩ : Shape).Idx → EReal) (r c : ℕ) : EReal :=
  if h : r < 2048 ∧ c < C then X (ix2 ⟨r, h.1⟩ ⟨c, h.2⟩) else 0

theorem ent_eq {C : ℕ} (X : (⟨2, ![2048, C]⟩ : Shape).Idx → EReal) (a : Fin 2048) (b : Fin C) (r c : ℕ) (hr : a.val = r) (hc : b.val = c) :
    X (ix2 a b) = ent X r c := by
  subst hr hc
  simp [ent]

/-- The data of the retention: the projections `p` hold the queries, keys, values and gates side by side, and `y` the
    cotangent of the output. -/
def data (p : (⟨2, ![2048, 4096]⟩ : Shape).Idx → EReal) (y : (⟨2, ![2048, 1024]⟩ : Shape).Idx → EReal) : Data where
  q h n i d := ent p (128 * n + i.val) (128 * h.val + d.val)
  k h n i d := ent p (128 * n + i.val) (512 + (128 * h.val + d.val))
  v h n i d := ent p (128 * n + i.val) (1024 + (128 * h.val + d.val))
  g h n i d := ent p (128 * n + i.val) (1536 + (128 * h.val + d.val))
  y h n i d := ent y (128 * n + i.val) (128 * h.val + d.val)
  c := cosT
  s := sinT
  dm := dmT
  kt := ktT
  qd := qdT
  cd := cdT

end Cert.Ret
end
-- ==== Proof.HostK.lean ====
module

public import proofs.«01_k».proof.Proof.Gen.KernelIdeal.Frame
public import proofs.«01_k».proof.Proof.Tables
public import Idealize.ShloMosaic.Lib.Pipeline.ValueKit
public import Idealize.ShloMosaic.Lib.StableHlo.ReadAt
@[expose] public section
set_option maxRecDepth 16384

/-! The host lines of the kernel: each buffer needed later, over the buffers it is made from. -/

noncomputable section
namespace Cert.KernelIdeal.Gen
open Idealize.ShloMosaic Idealize.ShloMosaic.TcCoe Idealize.ShloMosaic.Tactic Cert.KernelIdeal Cert.Ret

/-- The host lines before the call. -/
noncomputable def ops : List (HloOp τ sig (Elt Ideal)) := List.flatten [hostOps0, hostOps0_1, hostOps0_2]

/-- The buffers the host lines write, in order. -/
noncomputable def outs : List (Ref sig .tc) :=
  [main_v0, main_v1, main_cst, main_v2, main_v3, main_cst_0, main_v4, main_v5,
   main_v6, main_v7, main_v8, main_v9, main_v10, main_v11, main_v12, main_v13,
   main_v14, main_v15, main_v16, main_v17, main_v18, main_v19, main_v20, main_cst_1,
   main_v21, main_v22, main_cst_2, main_v23, main_v24, main_v25, main_v26, main_v27,
   main_v28, main_v29, main_v30, main_v31, main_v32, main_v33, main_cst_3, main_v34,
   main_v35, main_v36, main_cst_4, main_v37, main_v38, main_v39, main_v40, main_v41,
   main_v42, main_v43, main_cst_5, main_call0_v0, main_call0_v1, main_call0_v2, main_v44, main_v45,
   main_cst_6, main_v46, main_v47, main_v48, main_v49, main_v50, main_v51, main_v52,
   main_v53, main_v54, main_v55, main_cst_7, main_v56, main_v57, main_v58, main_v59,
   main_v60, main_v61, main_v62, main_v63, main_v64, main_cst_8, main_v65, main_v66,
   main_v67, main_v68, main_v69, main_v70, main_v71, main_v72, main_v73, main_v74,
   main_v75, main_cst_9, main_v76, main_v77, main_cst_10, main_v78, main_v79, main_v80,
   main_v81, main_v82, main_v83, main_v84, main_v85, main_v86, main_v87, main_v88,
   main_v89, main_v90, main_v91, main_v92, main_v93, main_v94, main_v95, main_v96,
   main_v97, main_v98, main_v99, main_v100, main_v101, main_v102, main_v103, main_v104,
   main_v105, main_v106, main_cst_11, main_v107, main_v108, main_cst_12, main_v109, main_v110,
   main_v111, main_v112, main_v113, main_cst_13, main_v114, main_v115, main_v116, main_v117,
   main_v118, main_v119, main_v120, main_v121, main_cst_14, main_v122, main_v123, main_v124,
   main_v125, main_v126, main_v127, main_v128, main_v129, main_v130, main_v131, main_v132,
   main_v133, main_cst_15, main_v134, main_v135, main_v136, main_v137, main_cst_16, main_v138,
   main_v139, main_v140, main_cst_17, main_v141, main_v142, main_v143, main_v144, main_v145,
   main_v146, main_v147, main_v148, main_v149, main_v150, main_v151, main_v152, main_v153,
   main_v154, main_v155, main_v156, main_v157, main_v158, main_v159, main_v160, main_v161,
   main_v162, main_v163, main_v164, main_v165, main_v166, main_v167, main_v168, main_v169,
   main_v170, main_v171, main_v172, main_v173, main_v174, main_v175, main_v176, main_v177,
   main_v178, main_v179, main_v180, main_v181, main_v182, main_v183, main_v184, main_v185,
   main_v186, main_v187, main_v188, main_v189, main_v190, main_v191, main_v192, main_v193,
   main_v194, main_v195, main_v196, main_v197, main_v198, main_v199, main_v200, main_v201,
   main_v202, main_v203, main_v204, main_v205, main_v206, main_v207, main_v208, main_v209,
   main_v210, main_v211, main_v212, main_v213, main_v214, main_v215, main_v216, main_v217,
   main_v218, main_v219, main_v220, main_v221, main_v222, main_v223, main_v224, main_v225,
   main_v226, main_v227, main_v228, main_v229, main_v230, main_v231, main_v232, main_v233,
   main_v234, main_v235, main_v236, main_v237, main_v238, main_v239, main_v240, main_v241,
   main_v242]

theorem ops_outs : ops.map HloOp.writes = outs.map fun w => {Proc.devRef (τ := τ) .tc w} := rfl

variable (m : (ℓ : Loc nD τ sig) → Buf (Elt Ideal) ℓ) (c : Dev nD)

/-- The contents of a buffer after the host lines. -/
def E (r : Ref sig .tc) : Buf (Elt Ideal) ((c : Thread nD τ).loc r) :=
  StableHlo.after ops (fun b => m (c, b)) (Proc.devRef .tc r)

theorem V_eq (r : Ref sig .tc) : V m c r = E m c r := rfl

/-- A buffer that no line from the `n`-th on writes holds its final contents there. -/
theorem upto_E (n : ℕ) (r : Ref sig .tc) (hr : r ∉ outs.drop n) :
    StableHlo.upto ops (fun b => m (c, b)) n (Proc.devRef .tc r) = E m c r := by
  have h := StableHlo.after_append (ops.take n) (ops.drop n) (fun b => m (c, b))
  rw [List.take_append_drop] at h
  unfold E
  rw [h, StableHlo.after_of_writes_sub (W := outs.drop n) (ops.drop n) _ (StableHlo.forall_writes_sub_of_map (by rw [List.map_drop, List.map_drop, ops_outs])) hr]
  rfl
-- ==== Proof.RefA.lean ====
module

public import proofs.«01_k».proof.Proof.Gen.ReferenceIdeal.Run
public import proofs.«01_k».proof.Proof.Tables
@[expose] public section
set_option maxRecDepth 16384

/-! The reference's intermediate values, chunk by chunk: the forward pass. -/

noncomputable section
namespace Cert.ReferenceIdeal.Value
open Idealize.ShloMosaic Idealize.ShloMosaic.TcCoe Idealize.ShloMosaic.Tactic Cert.ReferenceIdeal Cert.Ret

variable (V0 : Valuation τ sig (Elt Ideal))

/-- The data of the reference. -/
abbrev I : Data := data (V0 (Proc.devRef .tc main_arg0)) (V0 (Proc.devRef .tc main_arg1))

/-- Row `i` of chunk `n`. -/
abbrev row (n : Fin 16) (i : Fin 128) : Fin 2048 := ⟨n.val * 128 + i.val, by omega⟩

theorem r_ang (t : Fin 2048) (j : Fin 64) : res_main_v21 V0 (ix2 t j) = angle t j := by
  pointwise [res_main_v21, res_main_v8]
  rfl
theorem r_angk (t : Fin 2048) (j : Fin 64) : res_main_v51 V0 (ix2 t j) = angle t j := by
  pointwise [res_main_v51, res_main_v8]
  rfl
theorem r_cos (t : Fin 2048) (j : Fin 64) : res_main_v23 V0 (ix4 0 t 0 j) = Ideal.cos (angle t j) := by
  pointwise [res_main_v23]
  rw [r_ang]
theorem r_sin (t : Fin 2048) (j : Fin 64) : res_main_v25 V0 (ix4 0 t 0 j) = Ideal.sin (angle t j) := by
  pointwise [res_main_v25]
  rw [r_ang]
theorem r_cosk (t : Fin 2048) (j : Fin 64) : res_main_v53 V0 (ix4 0 t 0 j) = Ideal.cos (angle t j) := by
  pointwise [res_main_v53]
  rw [r_angk]
theorem r_sink (t : Fin 2048) (j : Fin 64) : res_main_v55 V0 (ix4 0 t 0 j) = Ideal.sin (angle t j) := by
  pointwise [res_main_v55]
  rw [r_angk]

theorem r_v85 (h : Fin 4) (n : Fin 16) (i d : Fin 128) : res_main_v85 V0 (ix5 0 h n i d) = (I V0).v h n i d := by
  pointwise [res_main_v85]
  exact ent_eq _ _ _ _ _ (by simp; omega) (by simp; omega)

theorem r_q1 (t : Fin 2048) (h : Fin 4) (d : Fin 64) : res_main_v26 V0 (ix4 0 t h d) = ent (V0 (Proc.devRef .tc main_arg0)) t (128 * h.val + d.val) := by
  pointwise [res_main_v26, res_main_v9]
  exact ent_eq _ _ _ _ _ (by simp) (by simp; omega)
theorem r_q2 (t : Fin 2048) (h : Fin 4) (d : Fin 64) : res_main_v27 V0 (ix4 0 t h d) = ent (V0 (Proc.devRef .tc main_arg0)) t (128 * h.val + 64 + d.val) := by
  pointwise [res_main_v27, res_main_v9]
  exact ent_eq _ _ _ _ _ (by simp) (by simp; omega)
theorem r_k1 (t : Fin 2048) (h : Fin 4) (d : Fin 64) : res_main_v56 V0 (ix4 0 t h d) = ent (V0 (Proc.devRef .tc main_arg0)) t (512 + (128 * h.val + d.val)) := by
  pointwise [res_main_v56, res_main_v39]
  exact ent_eq _ _ _ _ _ (by simp) (by simp; omega)
theorem r_k2 (t : Fin 2048) (h : Fin 4) (d : Fin 64) : res_main_v57 V0 (ix4 0 t h d) = ent (V0 (Proc.devRef .tc main_arg0)) t (512 + (128 * h.val + 64 + d.val)) := by
  pointwise [res_main_v57, res_main_v39]
  exact ent_eq _ _ _ _ _ (by simp) (by simp; omega)

/-- The rotary embedding of a chunk whose entries are those of an array, in halves of the columns. -/
theorem rot_ent (X : (⟨2, ![2048, 4096]⟩ : Shape).Idx → EReal) (n off : ℕ) (i d : Fin 128) :
    rot (fun i d => ent X (128 * n + i.val) (off + d.val)) (cosT n) (sinT n) i d =
    if d.val < 64 then ent X (128 * n + i.val) (off + d.val) * Ideal.cos (angle (128 * n + i.val) d.val) -
        ent X (128 * n + i.val) (off + 64 + d.val) * Ideal.sin (angle (128 * n + i.val) d.val)
      else ent X (128 * n + i.val) (off + (d.val - 64)) * Ideal.sin (angle (128 * n + i.val) (d.val - 64)) +
        ent X (128 * n + i.val) (off + 64 + (d.val - 64)) * Ideal.cos (angle (128 * n + i.val) (d.val - 64)) := by
  have hd := d.isLt
  unfold rot cosT sinT sw
  split
  · rename_i hlt
    dsimp only
    simp only [Nat.mod_eq_of_lt hlt, Nat.mod_eq_of_lt (show d.val + 64 < 128 by omega)]
    rw [sub_eq_add_neg, mul_neg,
      show off + (d.val + 64) = off + 64 + d.val by omega]
  · rename_i hge
    dsimp only
    simp only [show d.val % 64 = d.val - 64 by omega, show (d.val + 64) % 128 = d.val - 64 by omega]
    rw [add_comm,
      show off + 64 + (d.val - 64) = off + d.val by omega]

theorem r_v79 (h : Fin 4) (n : Fin 16) (i d : Fin 128) : res_main_v79 V0 (ix5 0 h n i d) = (I V0).qr h n i d := by
  pointwise [res_main_v79]
  simp only [r_cos, r_sin, r_q1, r_q2, Nat.mul_comm n.val 128]
  exact (rot_ent _ n (128 * h.val) i d).symm

theorem r_v83 (h : Fin 4) (n : Fin 16) (i d : Fin 128) : res_main_v83 V0 (ix5 0 h n i d) = (I V0).kr h n i d := by
  pointwise [res_main_v83]
  simp only [r_cosk, r_sink, r_k1, r_k2, Nat.mul_comm n.val 128]
  have e := rot_ent (V0 (Proc.devRef .tc main_arg0)) n (512 + 128 * h.val) i d
  simp only [Nat.add_assoc] at e ⊢
  exact congrArg (· * sc) e.symm

theorem r_v77 (h : Fin 4) : res_main_v77 V0 (ix1 h) = lg h := by
  pointwise [res_main_v77]
  rfl
theorem r_v86 (i : Fin 128) : res_main_v86 V0 (ix1 i) = fl i := by
  pointwise [res_main_v86]
  rfl
theorem r_v91 (i j : Fin 128) : res_main_v91 V0 (ix2 i j) = fl i - fl j := by
  pointwise [res_main_v91]
  rw [r_v86, r_v86]
theorem r_v93 (i j : Fin 128) : res_main_v93 V0 (ix2 i j) = sees i j := by
  pointwise [res_main_v93]
  rw [r_v91]
  rfl

/-- A choice between two choices of the same bit. -/
theorem select_twice (b : BitVec 1) (f : EReal → EReal) (x y z : EReal) :
    Scalar.select b (f (Scalar.select b x y)) z = Scalar.select b (f x) z := by
  unfold Scalar.select
  split <;> rfl

theorem r_v104 (h : Fin 4) (i j : Fin 128) : res_main_v104 V0 (ix5 0 h 0 i j) = (I V0).dm h i j := by
  pointwise [res_main_v104]
  rw [r_v93, r_v91, r_v77]
  exact select_twice _ (fun x => Ideal.exp (lg h * x)) _ _ _
theorem r_v106 (h : Fin 4) (n : Fin 16) (i j : Fin 128) : res_main_v106 V0 (ix5 0 h n i j) = (I V0).scr h n i j := by
  pointwise [res_main_v106]
  simp only [r_v79, r_v83, r_v104]
  rfl
theorem r_v117 (h : Fin 4) (i d : Fin 128) : res_main_v117 V0 (ix5 0 h 0 i 0) = (I V0).kt h i d := by
  pointwise [res_main_v117]
  rw [r_v77, r_v86]
  rfl
theorem r_v236 (h : Fin 4) (i d : Fin 128) : res_main_v236 V0 (ix5 0 h 0 i 0) = (I V0).qd h i d := by
  pointwise [res_main_v236]
  rw [r_v77, r_v86]
  rfl
theorem r_v119 (h : Fin 4) (n : Fin 16) (i d : Fin 128) : res_main_v119 V0 (ix5 0 h n i d) = (I V0).kr h n i d * (I V0).kt h i d := by
  pointwise [res_main_v119]
  rw [r_v83, r_v117 V0 h i d]
theorem r_v238 (h : Fin 4) (n : Fin 16) (i d : Fin 128) : res_main_v238 V0 (ix5 0 h n i d) = (I V0).qr h n i d * (I V0).qd h i d := by
  pointwise [res_main_v238]
  rw [r_v79, r_v236 V0 h i d]
theorem r_v120 (h : Fin 4) (n : Fin 16) (e d : Fin 128) : res_main_v120 V0 (ix5 n 0 h e d) =
    ∑ i, ((I V0).kr h n i e * (I V0).kt h i e) * (I V0).v h n i d := by
  pointwise [res_main_v120]
  simp only [r_v119, r_v85]
theorem r_v124 (h : Fin 4) (e d : Fin 128) : res_main_v124 V0 (ix4 0 h 0 0) = (I V0).cd h e d := by
  pointwise [res_main_v124]
  rw [r_v77]
  rfl
theorem r_v127 (h : Fin 4) (n : Fin 16) (e d : Fin 128) : res_main_v127 V0 (ix5 n 0 h e d) =
    ∑ i, ((I V0).kr h n i e * (I V0).kt h i e) * (I V0).v h n i d := by
  pointwise [res_main_v127]
  exact r_v120 V0 h n e d

theorem r_S0 (h : Fin 4) (e d : Fin 128) : res_main_v125 V0 (ix4 0 h e d) = (I V0).S h 0 e d := by
  pointwise [res_main_v125]
  rfl
theorem r_S1 (h : Fin 4) (e d : Fin 128) : res_main_v133 V0 (ix4 0 h e d) = (I V0).S h 1 e d := by
  pointwise [res_main_v133]
  rw [r_S0, r_v124 V0 h e d, r_v127]
  rfl
theorem r_S2 (h : Fin 4) (e d : Fin 128) : res_main_v138 V0 (ix4 0 h e d) = (I V0).S h 2 e d := by
  pointwise [res_main_v138]
  rw [r_S1, r_v124 V0 h e d, r_v127]
  rfl
theorem r_S3 (h : Fin 4) (e d : Fin 128) : res_main_v143 V0 (ix4 0 h e d) = (I V0).S h 3 e d := by
  pointwise [res_main_v143]
  rw [r_S2, r_v124 V0 h e d, r_v127]
  rfl
theorem r_S4 (h : Fin 4) (e d : Fin 128) : res_main_v148 V0 (ix4 0 h e d) = (I V0).S h 4 e d := by
  pointwise [res_main_v148]
  rw [r_S3, r_v124 V0 h e d, r_v127]
  rfl
theorem r_S5 (h : Fin 4) (e d : Fin 128) : res_main_v153 V0 (ix4 0 h e d) = (I V0).S h 5 e d := by
  pointwise [res_main_v153]
  rw [r_S4, r_v124 V0 h e d, r_v127]
  rfl
theorem r_S6 (h : Fin 4) (e d : Fin 128) : res_main_v158 V0 (ix4 0 h e d) = (I V0).S h 6 e d := by
  pointwise [res_main_v158]
  rw [r_S5, r_v124 V0 h e d, r_v127]
  rfl
theorem r_S7 (h : Fin 4) (e d : Fin 128) : res_main_v163 V0 (ix4 0 h e d) = (I V0).S h 7 e d := by
  pointwise [res_main_v163]
  rw [r_S6, r_v124 V0 h e d, r_v127]
  rfl
theorem r_S8 (h : Fin 4) (e d : Fin 128) : res_main_v168 V0 (ix4 0 h e d) = (I V0).S h 8 e d := by
  pointwise [res_main_v168]
  rw [r_S7, r_v124 V0 h e d, r_v127]
  rfl
theorem r_S9 (h : Fin 4) (e d : Fin 128) : res_main_v173 V0 (ix4 0 h e d) = (I V0).S h 9 e d := by
  pointwise [res_main_v173]
  rw [r_S8, r_v124 V0 h e d, r_v127]
  rfl
theorem r_S10 (h : Fin 4) (e d : Fin 128) : res_main_v178 V0 (ix4 0 h e d) = (I V0).S h 10 e d := by
  pointwise [res_main_v178]
  rw [r_S9, r_v124 V0 h e d, r_v127]
  rfl
theorem r_S11 (h : Fin 4) (e d : Fin 128) : res_main_v183 V0 (ix4 0 h e d) = (I V0).S h 11 e d := by
  pointwise [res_main_v183]
  rw [r_S10, r_v124 V0 h e d, r_v127]
  rfl
theorem r_S12 (h : Fin 4) (e d : Fin 128) : res_main_v188 V0 (ix4 0 h e d) = (I V0).S h 12 e d := by
  pointwise [res_main_v188]
  rw [r_S11, r_v124 V0 h e d, r_v127]
  rfl
theorem r_S13 (h : Fin 4) (e d : Fin 128) : res_main_v193 V0 (ix4 0 h e d) = (I V0).S h 13 e d := by
  pointwise [res_main_v193]
  rw [r_S12, r_v124 V0 h e d, r_v127]
  rfl
theorem r_S14 (h : Fin 4) (e d : Fin 128) : res_main_v198 V0 (ix4 0 h e d) = (I V0).S h 14 e d := by
  pointwise [res_main_v198]
  rw [r_S13, r_v124 V0 h e d, r_v127]
  rfl
theorem r_S15 (h : Fin 4) (e d : Fin 128) : res_main_v203 V0 (ix4 0 h e d) = (I V0).S h 15 e d := by
  pointwise [res_main_v203]
  rw [r_S14, r_v124 V0 h e d, r_v127]
  rfl

theorem r_S (h : Fin 4) (n : Fin 16) (e d : Fin 128) : res_main_v226 V0 (ix5 n 0 h e d) = (I V0).S h n e d := by
  fin_cases n
  · exact (by pointwise [res_main_v226] : res_main_v226 V0 (ix5 0 0 h e d) = res_main_v125 V0 (ix4 0 h e d)).trans (r_S0 V0 h e d)
  · exact (by pointwise [res_main_v226] : res_main_v226 V0 (ix5 1 0 h e d) = res_main_v133 V0 (ix4 0 h e d)).trans (r_S1 V0 h e d)
  · exact (by pointwise [res_main_v226] : res_main_v226 V0 (ix5 2 0 h e d) = res_main_v138 V0 (ix4 0 h e d)).trans (r_S2 V0 h e d)
  · exact (by pointwise [res_main_v226] : res_main_v226 V0 (ix5 3 0 h e d) = res_main_v143 V0 (ix4 0 h e d)).trans (r_S3 V0 h e d)
  · exact (by pointwise [res_main_v226] : res_main_v226 V0 (ix5 4 0 h e d) = res_main_v148 V0 (ix4 0 h e d)).trans (r_S4 V0 h e d)
  · exact (by pointwise [res_main_v226] : res_main_v226 V0 (ix5 5 0 h e d) = res_main_v153 V0 (ix4 0 h e d)).trans (r_S5 V0 h e d)
  · exact (by pointwise [res_main_v226] : res_main_v226 V0 (ix5 6 0 h e d) = res_main_v158 V0 (ix4 0 h e d)).trans (r_S6 V0 h e d)
  · exact (by pointwise [res_main_v226] : res_main_v226 V0 (ix5 7 0 h e d) = res_main_v163 V0 (ix4 0 h e d)).trans (r_S7 V0 h e d)
  · exact (by pointwise [res_main_v226] : res_main_v226 V0 (ix5 8 0 h e d) = res_main_v168 V0 (ix4 0 h e d)).trans (r_S8 V0 h e d)
  · exact (by pointwise [res_main_v226] : res_main_v226 V0 (ix5 9 0 h e d) = res_main_v173 V0 (ix4 0 h e d)).trans (r_S9 V0 h e d)
  · exact (by pointwise [res_main_v226] : res_main_v226 V0 (ix5 10 0 h e d) = res_main_v178 V0 (ix4 0 h e d)).trans (r_S10 V0 h e d)
  · exact (by pointwise [res_main_v226] : res_main_v226 V0 (ix5 11 0 h e d) = res_main_v183 V0 (ix4 0 h e d)).trans (r_S11 V0 h e d)
  · exact (by pointwise [res_main_v226] : res_main_v226 V0 (ix5 12 0 h e d) = res_main_v188 V0 (ix4 0 h e d)).trans (r_S12 V0 h e d)
  · exact (by pointwise [res_main_v226] : res_main_v226 V0 (ix5 13 0 h e d) = res_main_v193 V0 (ix4 0 h e d)).trans (r_S13 V0 h e d)
  · exact (by pointwise [res_main_v226] : res_main_v226 V0 (ix5 14 0 h e d) = res_main_v198 V0 (ix4 0 h e d)).trans (r_S14 V0 h e d)
  · exact (by pointwise [res_main_v226] : res_main_v226 V0 (ix5 15 0 h e d) = res_main_v203 V0 (ix4 0 h e d)).trans (r_S15 V0 h e d)

end Cert.ReferenceIdeal.Value
end
-- ==== Proof.HostA.lean ====
module

public import proofs.«01_k».proof.Proof.HostK
public import proofs.«01_k».proof.Proof.RefA
@[expose] public section
set_option maxRecDepth 16384

/-! The kernel's host buffers at an index. -/

noncomputable section
namespace Cert.KernelIdeal.Gen
open Idealize.ShloMosaic Idealize.ShloMosaic.TcCoe Idealize.ShloMosaic.Tactic Cert.KernelIdeal Cert.Ret

variable (m : (ℓ : Loc nD τ sig) → Buf (Elt Ideal) ℓ) (c : Dev nD)

/-- A decay matrix's entry: the cut at zero of the exponent does nothing where the mask is set. -/
theorem mask_eq (g x : EReal) : (if 0 ≤ x then Ideal.exp (g * max x 0) else Ideal.ofBits .f32 0#32) =
    Scalar.select (Ideal.cmp .oge x 0) (Ideal.exp (g * x)) (Ideal.ofBits .f32 0#32) := by
  show _ = Scalar.select (BitVec.ofBool (decide (0 ≤ x))) _ _
  by_cases hc : 0 ≤ x
  · rw [if_pos hc, max_eq_left hc, decide_eq_true hc]; rfl
  · rw [if_neg hc, decide_eq_false hc]; rfl

/-- Two stacks of sixteen equal pieces are equal. -/
theorem conc16 (a0 a1 a2 a3 a4 a5 a6 a7 a8 a9 a10 a11 a12 a13 a14 a15 c0 c1 c2 c3 c4 c5 c6 c7 c8 c9 c10 c11 c12 c13 c14 c15 : FVec Ideal S1x1x4x128x128 .f32) (h0 : a0 = c0) (h1 : a1 = c1) (h2 : a2 = c2) (h3 : a3 = c3) (h4 : a4 = c4) (h5 : a5 = c5) (h6 : a6 = c6) (h7 : a7 = c7) (h8 : a8 = c8) (h9 : a9 = c9) (h10 : a10 = c10) (h11 : a11 = c11) (h12 : a12 = c12) (h13 : a13 = c13) (h14 : a14 = c14) (h15 : a15 = c15) :
    (concatenate S16x1x4x128x128 0 [⟨S1x1x4x128x128, a0⟩, ⟨S1x1x4x128x128, a1⟩, ⟨S1x1x4x128x128, a2⟩, ⟨S1x1x4x128x128, a3⟩, ⟨S1x1x4x128x128, a4⟩, ⟨S1x1x4x128x128, a5⟩, ⟨S1x1x4x128x128, a6⟩, ⟨S1x1x4x128x128, a7⟩, ⟨S1x1x4x128x128, a8⟩, ⟨S1x1x4x128x128, a9⟩, ⟨S1x1x4x128x128, a10⟩, ⟨S1x1x4x128x128, a11⟩, ⟨S1x1x4x128x128, a12⟩, ⟨S1x1x4x128x128, a13⟩, ⟨S1x1x4x128x128, a14⟩, ⟨S1x1x4x128x128, a15⟩] concatenates_S1x1x4x128x128_S1x1x4x128x128_S1x1x4x128x128_S1x1x4x128x128_S1x1x4x128x128_S1x1x4x128x128_S1x1x4x128x128_S1x1x4x128x128_S1x1x4x128x128_S1x1x4x128x128_S1x1x4x128x128_S1x1x4x128x128_S1x1x4x128x128_S1x1x4x128x128_S1x1x4x128x128_S1x1x4x128x128_S16x1x4x128x128_d0 : FVec Ideal S16x1x4x128x128 .f32) =
    concatenate S16x1x4x128x128 0 [⟨S1x1x4x128x128, c0⟩, ⟨S1x1x4x128x128, c1⟩, ⟨S1x1x4x128x128, c2⟩, ⟨S1x1x4x128x128, c3⟩, ⟨S1x1x4x128x128, c4⟩, ⟨S1x1x4x128x128, c5⟩, ⟨S1x1x4x128x128, c6⟩, ⟨S1x1x4x128x128, c7⟩, ⟨S1x1x4x128x128, c8⟩, ⟨S1x1x4x128x128, c9⟩, ⟨S1x1x4x128x128, c10⟩, ⟨S1x1x4x128x128, c11⟩, ⟨S1x1x4x128x128, c12⟩, ⟨S1x1x4x128x128, c13⟩, ⟨S1x1x4x128x128, c14⟩, ⟨S1x1x4x128x128, c15⟩] concatenates_S1x1x4x128x128_S1x1x4x128x128_S1x1x4x128x128_S1x1x4x128x128_S1x1x4x128x128_S1x1x4x128x128_S1x1x4x128x128_S1x1x4x128x128_S1x1x4x128x128_S1x1x4x128x128_S1x1x4x128x128_S1x1x4x128x128_S1x1x4x128x128_S1x1x4x128x128_S1x1x4x128x128_S1x1x4x128x128_S16x1x4x128x128_d0 := by
  subst h0 h1 h2 h3 h4 h5 h6 h7 h8 h9 h10 h11 h12 h13 h14 h15
  rfl

/-- Buffer 12 of the host lines, at its shape. -/
abbrev b12 : FVec Ideal S2048x64 .f32 := E m c main_v12

/-- Buffer 13 of the host lines, at its shape. -/
abbrev b13 : FVec Ideal S2048x64 .f32 := E m c main_v13

/-- Buffer 14 of the host lines, at its shape. -/
abbrev b14 : FVec Ideal S2048x64 .f32 := E m c main_v14

/-- Buffer 15 of the host lines, at its shape. -/
abbrev b15 : FVec Ideal S2048x128 .f32 := E m c main_v15

/-- Buffer 16 of the host lines, at its shape. -/
abbrev b16 : FVec Ideal S2048x64 .f32 := E m c main_v16

/-- Buffer 17 of the host lines, at its shape. -/
abbrev b17 : FVec Ideal S2048x64 .f32 := E m c main_v17

/-- Buffer 18 of the host lines, at its shape. -/
abbrev b18 : FVec Ideal S2048x64 .f32 := E m c main_v18

/-- Buffer 19 of the host lines, at its shape. -/
abbrev b19 : FVec Ideal S2048x128 .f32 := E m c main_v19

/-- Buffer 27 of the host lines, at its shape. -/
abbrev b27 : FVec Ideal S4 .f32 := E m c main_v27

/-- Buffer 28 of the host lines, at its shape. -/
abbrev b28 : FVec Ideal S128 .f32 := E m c main_v28

/-- Buffer 33 of the host lines, at its shape. -/
abbrev b33 : FVec Ideal S128x128 .f32 := E m c main_v33

/-- Buffer 44 of the host lines, at its shape. -/
abbrev b44 : FVec Ideal S4x128x128 .f32 := E m c main_v44

/-- Buffer 54 of the host lines, at its shape. -/
abbrev b54 : FVec Ideal S4x128x128 .f32 := E m c main_v54

/-- Buffer 64 of the host lines, at its shape. -/
abbrev b64 : FVec Ideal S4x128x128 .f32 := E m c main_v64

/-- Buffer 69 of the host lines, at its shape. -/
abbrev b69 : FVec Ideal S4x128x128 .f32 := E m c main_v69

/-- Buffer 85 of the host lines, at its shape. -/
abbrev b85 : FVec Ideal S2048x64 .f32 := E m c main_v85

/-- Buffer 87 of the host lines, at its shape. -/
abbrev b87 : FVec Ideal S1x2048x1x64 .f32 := E m c main_v87

/-- Buffer 89 of the host lines, at its shape. -/
abbrev b89 : FVec Ideal S1x2048x1x64 .f32 := E m c main_v89

/-- Buffer 90 of the host lines, at its shape. -/
abbrev b90 : FVec Ideal S1x2048x4x64 .f32 := E m c main_v90

/-- Buffer 91 of the host lines, at its shape. -/
abbrev b91 : FVec Ideal S1x2048x4x64 .f32 := E m c main_v91

/-- Buffer 96 of the host lines, at its shape. -/
abbrev b96 : FVec Ideal S1x2048x4x64 .f32 := E m c main_v96

/-- Buffer 101 of the host lines, at its shape. -/
abbrev b101 : FVec Ideal S1x2048x4x64 .f32 := E m c main_v101

/-- Buffer 102 of the host lines, at its shape. -/
abbrev b102 : FVec Ideal S1x2048x4x128 .f32 := E m c main_v102

/-- Buffer 113 of the host lines, at its shape. -/
abbrev b113 : FVec Ideal S4 .f32 := E m c main_v113

/-- Buffer 117 of the host lines, at its shape. -/
abbrev b117 : FVec Ideal S1x4x16x128x128 .f32 := E m c main_v117

/-- Buffer 119 of the host lines, at its shape. -/
abbrev b119 : FVec Ideal S1x4x16x128x128 .f32 := E m c main_v119

/-- Buffer 120 of the host lines, at its shape. -/
abbrev b120 : FVec Ideal S128 .f32 := E m c main_v120

/-- Buffer 131 of the host lines, at its shape. -/
abbrev b131 : FVec Ideal S1x4x16x128x128 .f32 := E m c main_v131

/-- Buffer 133 of the host lines, at its shape. -/
abbrev b133 : FVec Ideal S16x1x4x128x128 .f32 := E m c main_v133

/-- Buffer 137 of the host lines, at its shape. -/
abbrev b137 : FVec Ideal S1x4x1x1 .f32 := E m c main_v137

/-- Buffer 138 of the host lines, at its shape. -/
abbrev b138 : FVec Ideal S1x4x128x128 .f32 := E m c main_v138

/-- Buffer 140 of the host lines, at its shape. -/
abbrev b140 : FVec Ideal S16x1x4x128x128 .f32 := E m c main_v140

/-- Buffer 141 of the host lines, at its shape. -/
abbrev b141 : FVec Ideal S0x1x4x128x128 .f32 := E m c main_v141

/-- Buffer 146 of the host lines, at its shape. -/
abbrev b146 : FVec Ideal S1x4x128x128 .f32 := E m c main_v146

/-- Buffer 151 of the host lines, at its shape. -/
abbrev b151 : FVec Ideal S1x4x128x128 .f32 := E m c main_v151

/-- Buffer 156 of the host lines, at its shape. -/
abbrev b156 : FVec Ideal S1x4x128x128 .f32 := E m c main_v156

/-- Buffer 161 of the host lines, at its shape. -/
abbrev b161 : FVec Ideal S1x4x128x128 .f32 := E m c main_v161

/-- Buffer 166 of the host lines, at its shape. -/
abbrev b166 : FVec Ideal S1x4x128x128 .f32 := E m c main_v166

/-- Buffer 171 of the host lines, at its shape. -/
abbrev b171 : FVec Ideal S1x4x128x128 .f32 := E m c main_v171

/-- Buffer 176 of the host lines, at its shape. -/
abbrev b176 : FVec Ideal S1x4x128x128 .f32 := E m c main_v176

/-- Buffer 181 of the host lines, at its shape. -/
abbrev b181 : FVec Ideal S1x4x128x128 .f32 := E m c main_v181

/-- Buffer 186 of the host lines, at its shape. -/
abbrev b186 : FVec Ideal S1x4x128x128 .f32 := E m c main_v186

/-- Buffer 191 of the host lines, at its shape. -/
abbrev b191 : FVec Ideal S1x4x128x128 .f32 := E m c main_v191

/-- Buffer 196 of the host lines, at its shape. -/
abbrev b196 : FVec Ideal S1x4x128x128 .f32 := E m c main_v196

/-- Buffer 201 of the host lines, at its shape. -/
abbrev b201 : FVec Ideal S1x4x128x128 .f32 := E m c main_v201

/-- Buffer 206 of the host lines, at its shape. -/
abbrev b206 : FVec Ideal S1x4x128x128 .f32 := E m c main_v206

/-- Buffer 211 of the host lines, at its shape. -/
abbrev b211 : FVec Ideal S1x4x128x128 .f32 := E m c main_v211

/-- Buffer 216 of the host lines, at its shape. -/
abbrev b216 : FVec Ideal S1x4x128x128 .f32 := E m c main_v216

/-- Buffer 221 of the host lines, at its shape. -/
abbrev b221 : FVec Ideal S1x4x128x128 .f32 := E m c main_v221

/-- Buffer 222 of the host lines, at its shape. -/
abbrev b222 : FVec Ideal S1x1x4x128x128 .f32 := E m c main_v222

/-- Buffer 223 of the host lines, at its shape. -/
abbrev b223 : FVec Ideal S1x1x4x128x128 .f32 := E m c main_v223

/-- Buffer 224 of the host lines, at its shape. -/
abbrev b224 : FVec Ideal S1x1x4x128x128 .f32 := E m c main_v224

/-- Buffer 225 of the host lines, at its shape. -/
abbrev b225 : FVec Ideal S1x1x4x128x128 .f32 := E m c main_v225

/-- Buffer 226 of the host lines, at its shape. -/
abbrev b226 : FVec Ideal S1x1x4x128x128 .f32 := E m c main_v226

/-- Buffer 227 of the host lines, at its shape. -/
abbrev b227 : FVec Ideal S1x1x4x128x128 .f32 := E m c main_v227

/-- Buffer 228 of the host lines, at its shape. -/
abbrev b228 : FVec Ideal S1x1x4x128x128 .f32 := E m c main_v228

/-- Buffer 229 of the host lines, at its shape. -/
abbrev b229 : FVec Ideal S1x1x4x128x128 .f32 := E m c main_v229

/-- Buffer 230 of the host lines, at its shape. -/
abbrev b230 : FVec Ideal S1x1x4x128x128 .f32 := E m c main_v230

/-- Buffer 231 of the host lines, at its shape. -/
abbrev b231 : FVec Ideal S1x1x4x128x128 .f32 := E m c main_v231

/-- Buffer 232 of the host lines, at its shape. -/
abbrev b232 : FVec Ideal S1x1x4x128x128 .f32 := E m c main_v232

/-- Buffer 233 of the host lines, at its shape. -/
abbrev b233 : FVec Ideal S1x1x4x128x128 .f32 := E m c main_v233

/-- Buffer 234 of the host lines, at its shape. -/
abbrev b234 : FVec Ideal S1x1x4x128x128 .f32 := E m c main_v234

/-- Buffer 235 of the host lines, at its shape. -/
abbrev b235 : FVec Ideal S1x1x4x128x128 .f32 := E m c main_v235

/-- Buffer 236 of the host lines, at its shape. -/
abbrev b236 : FVec Ideal S1x1x4x128x128 .f32 := E m c main_v236

/-- Buffer 237 of the host lines, at its shape. -/
abbrev b237 : FVec Ideal S1x1x4x128x128 .f32 := E m c main_v237

/-- Buffer 238 of the host lines, at its shape. -/
abbrev b238 : FVec Ideal S16x1x4x128x128 .f32 := E m c main_v238

/-- Buffer 239 of the host lines, at its shape. -/
abbrev b239 : FVec Ideal S16x1x4x128x128 .f32 := E m c main_v239

/-- Buffer 242 of the host lines, at its shape. -/
abbrev b242 : FVec Ideal S4x8x128x128 .f32 := E m c main_v242

/-- The arguments' contents. -/
abbrev J : Data := data (m (c, Proc.devRef .tc main_arg0)) (m (c, Proc.devRef .tc main_arg1))

theorem e12 (t : Fin 2048) (j : Fin 64) : b12 m c (ix2 t j) = angle t j := by
  unfold b12
  conv_lhs => unfold E
  after_reads_simp
  pointwise
  rfl

theorem e13 (t : Fin 2048) (j : Fin 64) : b13 m c (ix2 t j) = Ideal.cos (angle t j) := by
  have h0 := upto_E m c 15 main_v12 (by decide)
  unfold b13
  conv_lhs => unfold E
  after_reads_simp [h0]
  pointwise
  exact congrArg _ (e12 m c t j)

theorem e14 (t : Fin 2048) (j : Fin 64) : b14 m c (ix2 t j) = Ideal.cos (angle t j) := by
  have h0 := upto_E m c 15 main_v12 (by decide)
  have h1 := upto_E m c 16 main_v12 (by decide)
  unfold b14
  conv_lhs => unfold E
  after_reads_simp [h0, h1]
  pointwise
  exact congrArg _ (e12 m c t j)

theorem e17 (t : Fin 2048) (j : Fin 64) : b17 m c (ix2 t j) = -Ideal.sin (angle t j) := by
  have h0 := upto_E m c 15 main_v12 (by decide)
  have h1 := upto_E m c 16 main_v12 (by decide)
  have h2 := upto_E m c 18 main_v12 (by decide)
  unfold b17
  conv_lhs => unfold E
  after_reads_simp [h0, h1, h2]
  pointwise
  exact congrArg (fun x => -Ideal.sin x) (e12 m c t j)

theorem e18 (t : Fin 2048) (j : Fin 64) : b18 m c (ix2 t j) = Ideal.sin (angle t j) := by
  have h0 := upto_E m c 15 main_v12 (by decide)
  have h1 := upto_E m c 16 main_v12 (by decide)
  have h2 := upto_E m c 18 main_v12 (by decide)
  have h3 := upto_E m c 20 main_v12 (by decide)
  unfold b18
  conv_lhs => unfold E
  after_reads_simp [h0, h1, h2, h3]
  pointwise
  exact congrArg _ (e12 m c t j)

theorem e15 (t : Fin 2048) (d : Fin 128) : b15 m c (ix2 t d) = cosT (t.val / 128) ⟨t.val % 128, by omega⟩ d := by
  have h0 := upto_E m c 17 main_v13 (by decide)
  have h1 := upto_E m c 17 main_v14 (by decide)
  unfold b15
  conv_lhs => unfold E
  after_reads_simp [h0, h1]
  pointwise
  unfold cosT
  simp only [Nat.div_add_mod]
  split
  · rename_i hd
    rw [show E m c main_v13 (ix2 t ⟨d.val, hd⟩) = Ideal.cos (angle t d.val) from e13 m c t ⟨d.val, hd⟩, Nat.mod_eq_of_lt hd]
  · rename_i hd
    rw [show E m c main_v14 (ix2 t ⟨d.val - 64, by omega⟩) = Ideal.cos (angle t (d.val - 64)) from e14 m c t ⟨d.val - 64, by omega⟩,
      show d.val % 64 = d.val - 64 by omega]

theorem e19 (t : Fin 2048) (d : Fin 128) : b19 m c (ix2 t d) = sinT (t.val / 128) ⟨t.val % 128, by omega⟩ d := by
  have h0 := upto_E m c 21 main_v17 (by decide)
  have h1 := upto_E m c 21 main_v18 (by decide)
  unfold b19
  conv_lhs => unfold E
  after_reads_simp [h0, h1]
  pointwise
  unfold sinT
  simp only [Nat.div_add_mod]
  split
  · rename_i hd
    rw [show E m c main_v17 (ix2 t ⟨d.val, hd⟩) = -Ideal.sin (angle t d.val) from e17 m c t ⟨d.val, hd⟩, Nat.mod_eq_of_lt hd]
  · rename_i hd
    rw [show E m c main_v18 (ix2 t ⟨d.val - 64, by omega⟩) = Ideal.sin (angle t (d.val - 64)) from e18 m c t ⟨d.val - 64, by omega⟩,
      show d.val % 64 = d.val - 64 by omega]

theorem e27 (h : Fin 4) : b27 m c (ix1 h) = lg h := by
  unfold b27
  conv_lhs => unfold E
  after_reads_simp
  pointwise
  rfl

theorem e44 (h : Fin 4) (i j : Fin 128) : b44 m c (ix3 h i j) = (J m c).dm h i j := by
  have h0 := upto_E m c 41 main_v27 (by decide)
  unfold b44
  conv_lhs => unfold E
  after_reads_simp [h0]
  simp -implicitDefEqProofs only [StableHlo.TRef.toBuf, StableHlo.TRef.ofBuf, cast_cast, cast_eq]
  pointwise
  rw [show E m c main_v27 (ix1 h) = lg h from e27 m c h]
  exact mask_eq _ _

theorem e54 (h : Fin 4) (i d : Fin 128) : b54 m c (ix3 h i d) = (J m c).kt h i d := by
  have h0 := upto_E m c 41 main_v27 (by decide)
  have h1 := upto_E m c 55 main_v27 (by decide)
  unfold b54
  conv_lhs => unfold E
  after_reads_simp [h0, h1]
  pointwise
  rw [show E m c main_v27 (ix1 h) = lg h from e27 m c h]
  rfl

theorem e64 (h : Fin 4) (i d : Fin 128) : b64 m c (ix3 h i d) = (J m c).qd h i d := by
  have h0 := upto_E m c 41 main_v27 (by decide)
  have h1 := upto_E m c 55 main_v27 (by decide)
  have h2 := upto_E m c 66 main_v27 (by decide)
  unfold b64
  conv_lhs => unfold E
  after_reads_simp [h0, h1, h2]
  pointwise
  rw [show E m c main_v27 (ix1 h) = lg h from e27 m c h]
  rfl

theorem e69 (h : Fin 4) (i d : Fin 128) : b69 m c (ix3 h i d) = (J m c).cd h i d := by
  have h0 := upto_E m c 41 main_v27 (by decide)
  have h1 := upto_E m c 55 main_v27 (by decide)
  have h2 := upto_E m c 66 main_v27 (by decide)
  have h3 := upto_E m c 79 main_v27 (by decide)
  unfold b69
  conv_lhs => unfold E
  after_reads_simp [h0, h1, h2, h3]
  pointwise
  rw [show E m c main_v27 (ix1 h) = lg h from e27 m c h]
  rfl

theorem e85 (t : Fin 2048) (j : Fin 64) : b85 m c (ix2 t j) = angle t j := by
  unfold b85
  conv_lhs => unfold E
  after_reads_simp
  pointwise
  rfl

theorem e87 (t : Fin 2048) (j : Fin 64) : b87 m c (ix4 0 t 0 j) = Ideal.cos (angle t j) := by
  have h0 := upto_E m c 101 main_v85 (by decide)
  unfold b87
  conv_lhs => unfold E
  after_reads_simp [h0]
  pointwise
  exact congrArg _ (e85 m c t j)

theorem e89 (t : Fin 2048) (j : Fin 64) : b89 m c (ix4 0 t 0 j) = Ideal.sin (angle t j) := by
  have h0 := upto_E m c 101 main_v85 (by decide)
  have h1 := upto_E m c 103 main_v85 (by decide)
  unfold b89
  conv_lhs => unfold E
  after_reads_simp [h0, h1]
  pointwise
  exact congrArg _ (e85 m c t j)

theorem e90 (t : Fin 2048) (h : Fin 4) (d : Fin 64) : b90 m c (ix4 0 t h d) = ent (m (c, Proc.devRef .tc main_arg0)) t (512 + (128 * h.val + d.val)) := by
  unfold b90
  conv_lhs => unfold E
  after_reads_simp
  pointwise
  exact ent_eq _ _ _ _ _ (by simp) (by simp; omega)

theorem e91 (t : Fin 2048) (h : Fin 4) (d : Fin 64) : b91 m c (ix4 0 t h d) = ent (m (c, Proc.devRef .tc main_arg0)) t (512 + (128 * h.val + 64 + d.val)) := by
  unfold b91
  conv_lhs => unfold E
  after_reads_simp
  pointwise
  exact ent_eq _ _ _ _ _ (by simp) (by simp; omega)

theorem e96 (t : Fin 2048) (h : Fin 4) (d : Fin 64) : b96 m c (ix4 0 t h d) = b90 m c (ix4 0 t h d) * b87 m c (ix4 0 t 0 d) - b91 m c (ix4 0 t h d) * b89 m c (ix4 0 t 0 d) := by
  have h0 := upto_E m c 108 main_v90 (by decide)
  have h1 := upto_E m c 110 main_v91 (by decide)
  have h2 := upto_E m c 107 main_v87 (by decide)
  have h3 := upto_E m c 109 main_v89 (by decide)
  unfold b96
  conv_lhs => unfold E
  after_reads_simp [h0, h1, h2, h3]
  pointwise

theorem e101 (t : Fin 2048) (h : Fin 4) (d : Fin 64) : b101 m c (ix4 0 t h d) = b90 m c (ix4 0 t h d) * b89 m c (ix4 0 t 0 d) + b91 m c (ix4 0 t h d) * b87 m c (ix4 0 t 0 d) := by
  have h0 := upto_E m c 108 main_v90 (by decide)
  have h1 := upto_E m c 113 main_v90 (by decide)
  have h2 := upto_E m c 110 main_v91 (by decide)
  have h3 := upto_E m c 115 main_v91 (by decide)
  have h4 := upto_E m c 107 main_v87 (by decide)
  have h5 := upto_E m c 114 main_v87 (by decide)
  have h6 := upto_E m c 109 main_v89 (by decide)
  have h7 := upto_E m c 112 main_v89 (by decide)
  unfold b101
  conv_lhs => unfold E
  after_reads_simp [h0, h1, h2, h3, h4, h5, h6, h7]
  pointwise

theorem e102 (t : Fin 2048) (h : Fin 4) (d : Fin 128) : b102 m c (ix4 0 t h d) = if hd : d.val < 64 then b96 m c (ix4 0 t h ⟨d.val, hd⟩) else b101 m c (ix4 0 t h ⟨d.val - 64, by omega⟩) := by
  have h0 := upto_E m c 117 main_v96 (by decide)
  have h1 := upto_E m c 117 main_v101 (by decide)
  unfold b102
  conv_lhs => unfold E
  after_reads_simp [h0, h1]
  pointwise

theorem e117 (h : Fin 4) (n : Fin 16) (i d : Fin 128) : b117 m c (ix5 0 h n i d) = (J m c).kr h n i d := by
  have h0 := upto_E m c 133 main_v102 (by decide)
  unfold b117
  conv_lhs => unfold E
  after_reads_simp [h0]
  pointwise
  refine (congrArg (· * Ideal.ofBits FTy.f32 0x3DB504F3#32) (e102 m c ⟨n.val * 128 + i.val, by omega⟩ h d)).trans ?_
  simp only [e96, e101, e90, e91, e87, e89, dite_eq_ite, Nat.mul_comm n.val 128]
  have e := Cert.ReferenceIdeal.Value.rot_ent (m (c, Proc.devRef .tc main_arg0)) n (512 + 128 * h.val) i d
  simp only [Nat.add_assoc] at e ⊢
  exact congrArg (· * sc) e.symm

theorem e119 (h : Fin 4) (n : Fin 16) (i d : Fin 128) : b119 m c (ix5 0 h n i d) = (J m c).v h n i d := by
  unfold b119
  conv_lhs => unfold E
  after_reads_simp
  pointwise
  exact ent_eq _ _ _ _ _ (by simp; omega) (by simp; omega)

theorem e113 (h : Fin 4) : b113 m c (ix1 h) = lg h := by
  unfold b113
  conv_lhs => unfold E
  after_reads_simp
  pointwise
  rfl

theorem e131 (h : Fin 4) (n : Fin 16) (i d : Fin 128) : b131 m c (ix5 0 h n i d) = (J m c).kt h i d := by
  have h0 := upto_E m c 139 main_v113 (by decide)
  unfold b131
  conv_lhs => unfold E
  after_reads_simp [h0]
  pointwise
  rw [show E m c main_v113 (ix1 h) = lg h from e113 m c h]
  rfl

theorem e133 (h : Fin 4) (n : Fin 16) (e d : Fin 128) : b133 m c (ix5 n 0 h e d) = ∑ i, ((J m c).kr h n i e * (J m c).kt h i e) * (J m c).v h n i d := by
  have h0 := upto_E m c 151 main_v117 (by decide)
  have h1 := upto_E m c 152 main_v119 (by decide)
  have h2 := upto_E m c 151 main_v131 (by decide)
  unfold b133
  conv_lhs => unfold E
  after_reads_simp [h0, h1, h2]
  pointwise
  exact Finset.sum_congr rfl fun x _ => congrArg₂ (· * ·) (congrArg₂ (· * ·) (e117 m c h n x e) (e131 m c h n x e)) (e119 m c h n x d)

theorem e137 (h : Fin 4) (e d : Fin 128) : b137 m c (ix4 0 h 0 0) = (J m c).cd h e d := by
  have h0 := upto_E m c 139 main_v113 (by decide)
  have h1 := upto_E m c 155 main_v113 (by decide)
  unfold b137
  conv_lhs => unfold E
  after_reads_simp [h0, h1]
  pointwise
  rw [show E m c main_v113 (ix1 h) = lg h from e113 m c h]
  rfl

theorem e138 (h : Fin 4) (e d : Fin 128) : b138 m c (ix4 0 h e d) = 0 := by
  unfold b138
  conv_lhs => unfold E
  after_reads_simp
  pointwise

theorem e140 (n : Fin 16) (h : Fin 4) (e d : Fin 128) : b140 m c (ix5 n 0 h e d) = b133 m c (ix5 n 0 h e d) := by
  have h0 := upto_E m c 160 main_v133 (by decide)
  have h1 := upto_E m c 161 main_v133 (by decide)
  unfold b140
  conv_lhs => unfold E
  after_reads_simp [h0, h1]
  pointwise

theorem eS1 (h : Fin 4) (e d : Fin 128) : b146 m c (ix4 0 h e d) = b138 m c (ix4 0 h e d) * b137 m c (ix4 0 h 0 0) + b140 m c (ix5 0 0 h e d) := by
  have h0 := upto_E m c 167 main_v138 (by decide)
  have h1 := upto_E m c 166 main_v137 (by decide)
  have h2 := upto_E m c 164 main_v140 (by decide)
  unfold b146
  conv_lhs => unfold E
  after_reads_simp [h0, h1, h2]
  pointwise

theorem eS2 (h : Fin 4) (e d : Fin 128) : b151 m c (ix4 0 h e d) = b146 m c (ix4 0 h e d) * b137 m c (ix4 0 h 0 0) + b140 m c (ix5 1 0 h e d) := by
  have h0 := upto_E m c 172 main_v146 (by decide)
  have h1 := upto_E m c 171 main_v137 (by decide)
  have h2 := upto_E m c 169 main_v140 (by decide)
  unfold b151
  conv_lhs => unfold E
  after_reads_simp [h0, h1, h2]
  pointwise

theorem eS3 (h : Fin 4) (e d : Fin 128) : b156 m c (ix4 0 h e d) = b151 m c (ix4 0 h e d) * b137 m c (ix4 0 h 0 0) + b140 m c (ix5 2 0 h e d) := by
  have h0 := upto_E m c 177 main_v151 (by decide)
  have h1 := upto_E m c 176 main_v137 (by decide)
  have h2 := upto_E m c 174 main_v140 (by decide)
  unfold b156
  conv_lhs => unfold E
  after_reads_simp [h0, h1, h2]
  pointwise

theorem eS4 (h : Fin 4) (e d : Fin 128) : b161 m c (ix4 0 h e d) = b156 m c (ix4 0 h e d) * b137 m c (ix4 0 h 0 0) + b140 m c (ix5 3 0 h e d) := by
  have h0 := upto_E m c 182 main_v156 (by decide)
  have h1 := upto_E m c 181 main_v137 (by decide)
  have h2 := upto_E m c 179 main_v140 (by decide)
  unfold b161
  conv_lhs => unfold E
  after_reads_simp [h0, h1, h2]
  pointwise

theorem eS5 (h : Fin 4) (e d : Fin 128) : b166 m c (ix4 0 h e d) = b161 m c (ix4 0 h e d) * b137 m c (ix4 0 h 0 0) + b140 m c (ix5 4 0 h e d) := by
  have h0 := upto_E m c 187 main_v161 (by decide)
  have h1 := upto_E m c 186 main_v137 (by decide)
  have h2 := upto_E m c 184 main_v140 (by decide)
  unfold b166
  conv_lhs => unfold E
  after_reads_simp [h0, h1, h2]
  pointwise

theorem eS6 (h : Fin 4) (e d : Fin 128) : b171 m c (ix4 0 h e d) = b166 m c (ix4 0 h e d) * b137 m c (ix4 0 h 0 0) + b140 m c (ix5 5 0 h e d) := by
  have h0 := upto_E m c 192 main_v166 (by decide)
  have h1 := upto_E m c 191 main_v137 (by decide)
  have h2 := upto_E m c 189 main_v140 (by decide)
  unfold b171
  conv_lhs => unfold E
  after_reads_simp [h0, h1, h2]
  pointwise

theorem eS7 (h : Fin 4) (e d : Fin 128) : b176 m c (ix4 0 h e d) = b171 m c (ix4 0 h e d) * b137 m c (ix4 0 h 0 0) + b140 m c (ix5 6 0 h e d) := by
  have h0 := upto_E m c 197 main_v171 (by decide)
  have h1 := upto_E m c 196 main_v137 (by decide)
  have h2 := upto_E m c 194 main_v140 (by decide)
  unfold b176
  conv_lhs => unfold E
  after_reads_simp [h0, h1, h2]
  pointwise

theorem eS8 (h : Fin 4) (e d : Fin 128) : b181 m c (ix4 0 h e d) = b176 m c (ix4 0 h e d) * b137 m c (ix4 0 h 0 0) + b140 m c (ix5 7 0 h e d) := by
  have h0 := upto_E m c 202 main_v176 (by decide)
  have h1 := upto_E m c 201 main_v137 (by decide)
  have h2 := upto_E m c 199 main_v140 (by decide)
  unfold b181
  conv_lhs => unfold E
  after_reads_simp [h0, h1, h2]
  pointwise

theorem eS9 (h : Fin 4) (e d : Fin 128) : b186 m c (ix4 0 h e d) = b181 m c (ix4 0 h e d) * b137 m c (ix4 0 h 0 0) + b140 m c (ix5 8 0 h e d) := by
  have h0 := upto_E m c 207 main_v181 (by decide)
  have h1 := upto_E m c 206 main_v137 (by decide)
  have h2 := upto_E m c 204 main_v140 (by decide)
  unfold b186
  conv_lhs => unfold E
  after_reads_simp [h0, h1, h2]
  pointwise

theorem eS10 (h : Fin 4) (e d : Fin 128) : b191 m c (ix4 0 h e d) = b186 m c (ix4 0 h e d) * b137 m c (ix4 0 h 0 0) + b140 m c (ix5 9 0 h e d) := by
  have h0 := upto_E m c 212 main_v186 (by decide)
  have h1 := upto_E m c 211 main_v137 (by decide)
  have h2 := upto_E m c 209 main_v140 (by decide)
  unfold b191
  conv_lhs => unfold E
  after_reads_simp [h0, h1, h2]
  pointwise

theorem eS11 (h : Fin 4) (e d : Fin 128) : b196 m c (ix4 0 h e d) = b191 m c (ix4 0 h e d) * b137 m c (ix4 0 h 0 0) + b140 m c (ix5 10 0 h e d) := by
  have h0 := upto_E m c 217 main_v191 (by decide)
  have h1 := upto_E m c 216 main_v137 (by decide)
  have h2 := upto_E m c 214 main_v140 (by decide)
  unfold b196
  conv_lhs => unfold E
  after_reads_simp [h0, h1, h2]
  pointwise

theorem eS12 (h : Fin 4) (e d : Fin 128) : b201 m c (ix4 0 h e d) = b196 m c (ix4 0 h e d) * b137 m c (ix4 0 h 0 0) + b140 m c (ix5 11 0 h e d) := by
  have h0 := upto_E m c 222 main_v196 (by decide)
  have h1 := upto_E m c 221 main_v137 (by decide)
  have h2 := upto_E m c 219 main_v140 (by decide)
  unfold b201
  conv_lhs => unfold E
  after_reads_simp [h0, h1, h2]
  pointwise

theorem eS13 (h : Fin 4) (e d : Fin 128) : b206 m c (ix4 0 h e d) = b201 m c (ix4 0 h e d) * b137 m c (ix4 0 h 0 0) + b140 m c (ix5 12 0 h e d) := by
  have h0 := upto_E m c 227 main_v201 (by decide)
  have h1 := upto_E m c 226 main_v137 (by decide)
  have h2 := upto_E m c 224 main_v140 (by decide)
  unfold b206
  conv_lhs => unfold E
  after_reads_simp [h0, h1, h2]
  pointwise

theorem eS14 (h : Fin 4) (e d : Fin 128) : b211 m c (ix4 0 h e d) = b206 m c (ix4 0 h e d) * b137 m c (ix4 0 h 0 0) + b140 m c (ix5 13 0 h e d) := by
  have h0 := upto_E m c 232 main_v206 (by decide)
  have h1 := upto_E m c 231 main_v137 (by decide)
  have h2 := upto_E m c 229 main_v140 (by decide)
  unfold b211
  conv_lhs => unfold E
  after_reads_simp [h0, h1, h2]
  pointwise

theorem eS15 (h : Fin 4) (e d : Fin 128) : b216 m c (ix4 0 h e d) = b211 m c (ix4 0 h e d) * b137 m c (ix4 0 h 0 0) + b140 m c (ix5 14 0 h e d) := by
  have h0 := upto_E m c 237 main_v211 (by decide)
  have h1 := upto_E m c 236 main_v137 (by decide)
  have h2 := upto_E m c 234 main_v140 (by decide)
  unfold b216
  conv_lhs => unfold E
  after_reads_simp [h0, h1, h2]
  pointwise

theorem eS16 (h : Fin 4) (e d : Fin 128) : b221 m c (ix4 0 h e d) = b216 m c (ix4 0 h e d) * b137 m c (ix4 0 h 0 0) + b140 m c (ix5 15 0 h e d) := by
  have h0 := upto_E m c 242 main_v216 (by decide)
  have h1 := upto_E m c 241 main_v137 (by decide)
  have h2 := upto_E m c 239 main_v140 (by decide)
  unfold b221
  conv_lhs => unfold E
  after_reads_simp [h0, h1, h2]
  pointwise

theorem eB0 (h : Fin 4) (e d : Fin 128) : b222 m c (ix5 0 0 h e d) = b138 m c (ix4 0 h e d) := by
  have h0 := upto_E m c 244 main_v138 (by decide)
  unfold b222
  conv_lhs => unfold E
  after_reads_simp [h0]
  pointwise

theorem eB1 (h : Fin 4) (e d : Fin 128) : b223 m c (ix5 0 0 h e d) = b146 m c (ix4 0 h e d) := by
  have h0 := upto_E m c 245 main_v146 (by decide)
  unfold b223
  conv_lhs => unfold E
  after_reads_simp [h0]
  pointwise

theorem eB2 (h : Fin 4) (e d : Fin 128) : b224 m c (ix5 0 0 h e d) = b151 m c (ix4 0 h e d) := by
  have h0 := upto_E m c 246 main_v151 (by decide)
  unfold b224
  conv_lhs => unfold E
  after_reads_simp [h0]
  pointwise

theorem eB3 (h : Fin 4) (e d : Fin 128) : b225 m c (ix5 0 0 h e d) = b156 m c (ix4 0 h e d) := by
  have h0 := upto_E m c 247 main_v156 (by decide)
  unfold b225
  conv_lhs => unfold E
  after_reads_simp [h0]
  pointwise

theorem eB4 (h : Fin 4) (e d : Fin 128) : b226 m c (ix5 0 0 h e d) = b161 m c (ix4 0 h e d) := by
  have h0 := upto_E m c 248 main_v161 (by decide)
  unfold b226
  conv_lhs => unfold E
  after_reads_simp [h0]
  pointwise

theorem eB5 (h : Fin 4) (e d : Fin 128) : b227 m c (ix5 0 0 h e d) = b166 m c (ix4 0 h e d) := by
  have h0 := upto_E m c 249 main_v166 (by decide)
  unfold b227
  conv_lhs => unfold E
  after_reads_simp [h0]
  pointwise

theorem eB6 (h : Fin 4) (e d : Fin 128) : b228 m c (ix5 0 0 h e d) = b171 m c (ix4 0 h e d) := by
  have h0 := upto_E m c 250 main_v171 (by decide)
  unfold b228
  conv_lhs => unfold E
  after_reads_simp [h0]
  pointwise

theorem eB7 (h : Fin 4) (e d : Fin 128) : b229 m c (ix5 0 0 h e d) = b176 m c (ix4 0 h e d) := by
  have h0 := upto_E m c 251 main_v176 (by decide)
  unfold b229
  conv_lhs => unfold E
  after_reads_simp [h0]
  pointwise

theorem eB8 (h : Fin 4) (e d : Fin 128) : b230 m c (ix5 0 0 h e d) = b181 m c (ix4 0 h e d) := by
  have h0 := upto_E m c 252 main_v181 (by decide)
  unfold b230
  conv_lhs => unfold E
  after_reads_simp [h0]
  pointwise

theorem eB9 (h : Fin 4) (e d : Fin 128) : b231 m c (ix5 0 0 h e d) = b186 m c (ix4 0 h e d) := by
  have h0 := upto_E m c 253 main_v186 (by decide)
  unfold b231
  conv_lhs => unfold E
  after_reads_simp [h0]
  pointwise

theorem eB10 (h : Fin 4) (e d : Fin 128) : b232 m c (ix5 0 0 h e d) = b191 m c (ix4 0 h e d) := by
  have h0 := upto_E m c 254 main_v191 (by decide)
  unfold b232
  conv_lhs => unfold E
  after_reads_simp [h0]
  pointwise

theorem eB11 (h : Fin 4) (e d : Fin 128) : b233 m c (ix5 0 0 h e d) = b196 m c (ix4 0 h e d) := by
  have h0 := upto_E m c 255 main_v196 (by decide)
  unfold b233
  conv_lhs => unfold E
  after_reads_simp [h0]
  pointwise

theorem eB12 (h : Fin 4) (e d : Fin 128) : b234 m c (ix5 0 0 h e d) = b201 m c (ix4 0 h e d) := by
  have h0 := upto_E m c 256 main_v201 (by decide)
  unfold b234
  conv_lhs => unfold E
  after_reads_simp [h0]
  pointwise

theorem eB13 (h : Fin 4) (e d : Fin 128) : b235 m c (ix5 0 0 h e d) = b206 m c (ix4 0 h e d) := by
  have h0 := upto_E m c 257 main_v206 (by decide)
  unfold b235
  conv_lhs => unfold E
  after_reads_simp [h0]
  pointwise

theorem eB14 (h : Fin 4) (e d : Fin 128) : b236 m c (ix5 0 0 h e d) = b211 m c (ix4 0 h e d) := by
  have h0 := upto_E m c 258 main_v211 (by decide)
  unfold b236
  conv_lhs => unfold E
  after_reads_simp [h0]
  pointwise

theorem eB15 (h : Fin 4) (e d : Fin 128) : b237 m c (ix5 0 0 h e d) = b216 m c (ix4 0 h e d) := by
  have h0 := upto_E m c 259 main_v216 (by decide)
  unfold b237
  conv_lhs => unfold E
  after_reads_simp [h0]
  pointwise

/-- The sixteen states put together. -/
theorem e238c : b238 m c = concatenate S16x1x4x128x128 0 [⟨S1x1x4x128x128, b222 m c⟩, ⟨S1x1x4x128x128, b223 m c⟩, ⟨S1x1x4x128x128, b224 m c⟩, ⟨S1x1x4x128x128, b225 m c⟩, ⟨S1x1x4x128x128, b226 m c⟩, ⟨S1x1x4x128x128, b227 m c⟩, ⟨S1x1x4x128x128, b228 m c⟩, ⟨S1x1x4x128x128, b229 m c⟩, ⟨S1x1x4x128x128, b230 m c⟩, ⟨S1x1x4x128x128, b231 m c⟩, ⟨S1x1x4x128x128, b232 m c⟩, ⟨S1x1x4x128x128, b233 m c⟩, ⟨S1x1x4x128x128, b234 m c⟩, ⟨S1x1x4x128x128, b235 m c⟩, ⟨S1x1x4x128x128, b236 m c⟩, ⟨S1x1x4x128x128, b237 m c⟩] concatenates_S1x1x4x128x128_S1x1x4x128x128_S1x1x4x128x128_S1x1x4x128x128_S1x1x4x128x128_S1x1x4x128x128_S1x1x4x128x128_S1x1x4x128x128_S1x1x4x128x128_S1x1x4x128x128_S1x1x4x128x128_S1x1x4x128x128_S1x1x4x128x128_S1x1x4x128x128_S1x1x4x128x128_S1x1x4x128x128_S16x1x4x128x128_d0 := by
  unfold b238 E
  rw [StableHlo.after_last_write (i := 260) (outs.drop 261) (rest := ops.drop 261) rfl (by rw [List.map_drop, List.map_drop, ops_outs]) (by decide)]
  rw [StableHlo.nary_result']
  exact conc16 _ _ _ _ _ _ _ _ _ _ _ _ _ _ _ _ _ _ _ _ _ _ _ _ _ _ _ _ _ _ _ _ (upto_E m c 260 main_v222 (by decide)) (upto_E m c 260 main_v223 (by decide)) (upto_E m c 260 main_v224 (by decide)) (upto_E m c 260 main_v225 (by decide)) (upto_E m c 260 main_v226 (by decide)) (upto_E m c 260 main_v227 (by decide)) (upto_E m c 260 main_v228 (by decide)) (upto_E m c 260 main_v229 (by decide)) (upto_E m c 260 main_v230 (by decide)) (upto_E m c 260 main_v231 (by decide)) (upto_E m c 260 main_v232 (by decide)) (upto_E m c 260 main_v233 (by decide)) (upto_E m c 260 main_v234 (by decide)) (upto_E m c 260 main_v235 (by decide)) (upto_E m c 260 main_v236 (by decide)) (upto_E m c 260 main_v237 (by decide))

theorem eC0 (h : Fin 4) (e d : Fin 128) : b238 m c (ix5 0 0 h e d) = b222 m c (ix5 0 0 h e d) := by
  rw [e238c]
  pointwise

theorem eC1 (h : Fin 4) (e d : Fin 128) : b238 m c (ix5 1 0 h e d) = b223 m c (ix5 0 0 h e d) := by
  rw [e238c]
  pointwise

theorem eC2 (h : Fin 4) (e d : Fin 128) : b238 m c (ix5 2 0 h e d) = b224 m c (ix5 0 0 h e d) := by
  rw [e238c]
  pointwise

theorem eC3 (h : Fin 4) (e d : Fin 128) : b238 m c (ix5 3 0 h e d) = b225 m c (ix5 0 0 h e d) := by
  rw [e238c]
  pointwise

theorem eC4 (h : Fin 4) (e d : Fin 128) : b238 m c (ix5 4 0 h e d) = b226 m c (ix5 0 0 h e d) := by
  rw [e238c]
  pointwise

theorem eC5 (h : Fin 4) (e d : Fin 128) : b238 m c (ix5 5 0 h e d) = b227 m c (ix5 0 0 h e d) := by
  rw [e238c]
  pointwise

theorem eC6 (h : Fin 4) (e d : Fin 128) : b238 m c (ix5 6 0 h e d) = b228 m c (ix5 0 0 h e d) := by
  rw [e238c]
  pointwise

theorem eC7 (h : Fin 4) (e d : Fin 128) : b238 m c (ix5 7 0 h e d) = b229 m c (ix5 0 0 h e d) := by
  rw [e238c]
  pointwise

theorem eC8 (h : Fin 4) (e d : Fin 128) : b238 m c (ix5 8 0 h e d) = b230 m c (ix5 0 0 h e d) := by
  rw [e238c]
  pointwise

theorem eC9 (h : Fin 4) (e d : Fin 128) : b238 m c (ix5 9 0 h e d) = b231 m c (ix5 0 0 h e d) := by
  rw [e238c]
  pointwise

theorem eC10 (h : Fin 4) (e d : Fin 128) : b238 m c (ix5 10 0 h e d) = b232 m c (ix5 0 0 h e d) := by
  rw [e238c]
  pointwise

theorem eC11 (h : Fin 4) (e d : Fin 128) : b238 m c (ix5 11 0 h e d) = b233 m c (ix5 0 0 h e d) := by
  rw [e238c]
  pointwise

theorem eC12 (h : Fin 4) (e d : Fin 128) : b238 m c (ix5 12 0 h e d) = b234 m c (ix5 0 0 h e d) := by
  rw [e238c]
  pointwise

theorem eC13 (h : Fin 4) (e d : Fin 128) : b238 m c (ix5 13 0 h e d) = b235 m c (ix5 0 0 h e d) := by
  rw [e238c]
  pointwise

theorem eC14 (h : Fin 4) (e d : Fin 128) : b238 m c (ix5 14 0 h e d) = b236 m c (ix5 0 0 h e d) := by
  rw [e238c]
  pointwise

theorem eC15 (h : Fin 4) (e d : Fin 128) : b238 m c (ix5 15 0 h e d) = b237 m c (ix5 0 0 h e d) := by
  rw [e238c]
  pointwise

theorem e239 (n : Fin 16) (h : Fin 4) (e d : Fin 128) : b239 m c (ix5 n 0 h e d) = b238 m c (ix5 n 0 h e d) := by
  have h0 := upto_E m c 261 main_v238 (by decide)
  have h1 := upto_E m c 261 main_v141 (by decide)
  unfold b239
  conv_lhs => unfold E
  after_reads_simp [h0, h1]
  pointwise
  exact dif_neg (by omega)

theorem e242 (n : Fin 8) (h : Fin 4) (e d : Fin 128) : b242 m c (ix4 h n e d) = b239 m c (ix5 ⟨2 * n.val, by omega⟩ 0 h e d) := by
  have h0 := upto_E m c 262 main_v239 (by decide)
  unfold b242
  conv_lhs => unfold E
  after_reads_simp [h0]
  pointwise
-- ==== Proof.Chunk.lean ====
module

public import proofs.«01_k».proof.Proof.Gen.KernelIdeal.Skeleton
public import proofs.«01_k».proof.Proof.Spec
@[expose] public section
set_option maxRecDepth 16384

/-! The vector operations of one head in the kernel's body, chunk by chunk, and what each is at an index. -/

noncomputable section
namespace Cert.Ret
open Idealize.ShloMosaic Idealize.ShloMosaic.TcCoe
open Cert.KernelIdeal Cert.KernelIdeal.Gen

variable {F : FTy → Type} [FloatOps F]

/-- The zero array. -/
def z0 : FVec F S128x128 .f32 := constant S128x128 .f32 0x00000000#32
/-- The zero block. -/
def zb : FVec F S128x128 .f32 := broadcast S128x128 (Scalar.ofBits .f32 0x00000000#32)
/-- The scale of the keys, as a block. -/
def scb : FVec F S128x128 .f32 := broadcast S128x128 (Scalar.ofBits .f32 0x3DB504F3#32)
/-- The rounding of a block. -/
def lo (x : FVec F S128x128 .f32) : FVec F S128x128 .bf16 := truncf .bf16 x bitsLt_bf16_f32
/-- The rounding of a block, widened again. -/
def wlo (x : FVec F S128x128 .f32) : FVec F S128x128 .f32 := extf .f32 (truncf .bf16 x bitsLt_bf16_f32) bitsLt_bf16_f32
/-- The upper chunk of a step. -/
def up (x : FVec F S256x128 .f32) : FVec F S128x128 .f32 := extractStridedSlice S128x128 ![0, 0] x slices_S256x128_o0_0_S128x128
/-- The lower chunk of a step. -/
def dn (x : FVec F S256x128 .f32) : FVec F S128x128 .f32 := extractStridedSlice S128x128 ![128, 0] x slices_S256x128_o128_0_S128x128
/-- Two chunks, one on top of the other. -/
def cat (x y : FVec F S128x128 .f32) : FVec F S256x128 .f32 :=
  concatenate S256x128 0 [⟨S128x128, x⟩, ⟨S128x128, y⟩] concatenates_S128x128_S128x128_S256x128_d0
/-- A block's halves of columns swapped. -/
def rl (x : FVec F S128x128 .f32) : FVec F S128x128 .f32 := dynamicRotate 1 64#32 none x rotates_S128x128_d1
/-- A block transposed. -/
def tp (x : FVec F S128x128 .f32) : FVec F S128x128 .f32 := transpose S128x128 [1, 0] x transposes_S128x128_p1_0_S128x128
def cRot (q c s : FVec F S128x128 .f32) : FVec F S128x128 .f32 := addf (mulf q c) (mulf (rl q) s)
def cKey (k c s : FVec F S128x128 .f32) : FVec F S128x128 .f32 := mulf (cRot k c s) scb
def cScores (qr kr dm : FVec F S128x128 .f32) : FVec F S128x128 .f32 :=
  mulf (matmul dot_S128x128_S128x128_S128x128_1_1_0_0_n_n none (lo qr) (lo kr) z0) dm
def cOut (scr v qr qd S : FVec F S128x128 .f32) : FVec F S128x128 .f32 :=
  addf (matmul dot_S128x128_S128x128_S128x128_1_0_0_1_n_n none (lo scr) (lo v) z0)
    (matmul dot_S128x128_S128x128_S128x128_1_0_0_1_n_n none (lo (mulf qr qd)) (lo S) z0)
def cState (S cd kr kt v : FVec F S128x128 .f32) : FVec F S128x128 .f32 :=
  addf (mulf S cd) (matmul dot_S128x128_S128x128_S128x128_0_0_1_1_n_n none (lo (mulf kr kt)) (lo v) z0)
def cDscores (dO v dm : FVec F S128x128 .f32) : FVec F S128x128 .f32 :=
  mulf (wlo (matmul dot_S128x128_S128x128_S128x128_1_1_0_0_n_n none dO (lo v) z0)) dm
def cDqr (dO S qd ds kr : FVec F S128x128 .f32) : FVec F S128x128 .f32 :=
  addf (mulf (wlo (matmul dot_S128x128_S128x128_S128x128_1_1_0_0_n_n none dO (lo S) z0)) qd)
    (wlo (matmul dot_S128x128_S128x128_S128x128_1_0_0_1_n_n none ds (lo kr) z0))
def cDkr (D v kt ds qr : FVec F S128x128 .f32) : FVec F S128x128 .f32 :=
  mulf (addf (mulf (wlo (tp (matmul dot_S128x128_S128x128_S128x128_1_1_0_0_n_n none D (lo v) z0))) kt)
    (wlo (matmul dot_S128x128_S128x128_S128x128_0_0_1_1_n_n none ds (lo qr) z0))) scb
def cDval (D kr kt dO scr : FVec F S128x128 .f32) : FVec F S128x128 .f32 :=
  addf (wlo (tp (matmul dot_S128x128_S128x128_S128x128_0_1_1_0_n_n none D (lo (mulf kr kt)) z0)))
    (wlo (tp (matmul dot_S128x128_S128x128_S128x128_0_0_1_1_n_n none dO (lo scr) z0)))
def cDstate (D cd dO qr qd : FVec F S128x128 .f32) : FVec F S128x128 .f32 :=
  addf (mulf D cd) (wlo (tp (matmul dot_S128x128_S128x128_S128x128_0_0_1_1_n_n none dO (lo (mulf qr qd)) z0)))
/-- Two chunks' cotangents through the rotary embedding, assembled. -/
def hRotT (gu gd cu cd su sd : FVec F S128x128 .f32) : FVec F S256x128 .bf16 :=
  truncf .bf16 (addf (addf (addf (cat zb (rl (mulf gd sd))) (cat zb (mulf gd cd))) (cat (rl (mulf gu su)) zb)) (cat (mulf gu cu) zb))
    bitsLt_bf16_f32
/-- The gate's cotangent product. -/
def hDz (g y : FVec F S256x128 .f32) : FVec F S256x128 .f32 := mulf y (mulf g (logistic g))
def hVar (o : FVec F S256x128 .f32) : FVec F S256x1 .f32 :=
  addf (divf (shapeCast S256x1 (multiReduction .add [1] S256 (mulf o o) 0x00000000#32 reduces_S256x128_S256 (.inl rfl) rfl) shapeCasts_S256_S256x1)
    (broadcast S256x1 (Scalar.ofBits .f32 0x43000000#32))) (broadcast S256x1 (Scalar.ofBits .f32 0x358637BD#32))
def hDvar (o g y : FVec F S256x128 .f32) : FVec F S256x128 .f32 :=
  broadcastTo S256x128 (shapeCast S256x1 (multiReduction .add [1] S256
    (divf (mulf (shapeCast S256x1 (multiReduction .add [1] S256 (mulf o (hDz g y)) 0x00000000#32 reduces_S256x128_S256 (.inl rfl) rfl) shapeCasts_S256_S256x1)
      (mulf (broadcast S256x1 (Scalar.ofBits .f32 0xBF000000#32)) (divf (rsqrt (hVar o)) (hVar o))))
      (broadcast S256x1 (Scalar.ofBits .f32 0x43000000#32))) 0x00000000#32 reduces_S256x1_S256 (.inl rfl) rfl) shapeCasts_S256_S256x1) broadcasts_S256x1_S256x128
def hDout (o g y : FVec F S256x128 .f32) : FVec F S256x128 .f32 :=
  addf (addf (mulf (hDz g y) (broadcastTo S256x128 (rsqrt (hVar o)) broadcasts_S256x1_S256x128)) (mulf o (hDvar o g y))) (mulf (hDvar o g y) o)
def hZ (o y : FVec F S256x128 .f32) : FVec F S256x128 .f32 :=
  mulf (mulf o (broadcastTo S256x128 (rsqrt (hVar o)) broadcasts_S256x1_S256x128)) y
def hDgate (o g y : FVec F S256x128 .f32) : FVec F S256x128 .bf16 :=
  truncf .bf16 (addf (mulf (hZ o y) (logistic g))
    (mulf (mulf g (hZ o y)) (mulf (logistic g) (subf (broadcast S256x128 (Scalar.ofBits .f32 0x3F800000#32)) (logistic g))))) bitsLt_bf16_f32

/-- One chunk of a step's rows of a head as a matrix. -/
abbrev mat {φ : FTy} (x : FVec Ideal S128x128 φ) : M := fun i d => x (ix2 i d)

theorem mat_cRot (q c s : FVec Ideal S128x128 .f32) : mat (cRot q c s) = rot (mat q) (mat c) (mat s) := by
  funext i d
  pointwise! [mat, cRot, rl, rot, sw]
theorem mat_cKey (q c s : FVec Ideal S128x128 .f32) : mat (cKey q c s) = key (mat q) (mat c) (mat s) := by
  funext i d
  pointwise! [mat, cKey, cRot, rl, rot, sw, key, scb, sc]
theorem mat_cScores (a b c : FVec Ideal S128x128 .f32) : mat (cScores a b c) = scores (mat a) (mat b) (mat c) := by
  funext i d
  pointwise! [mat, cScores, scores, lo, z0]
theorem mat_cOut (a b c d e : FVec Ideal S128x128 .f32) : mat (cOut a b c d e) = out (mat a) (mat b) (mat c) (mat d) (mat e) := by
  funext i d
  pointwise! [mat, cOut, out, lo, z0]
theorem mat_cState (a b c d e : FVec Ideal S128x128 .f32) : mat (cState a b c d e) = stateStep (mat a) (mat b) (mat c) (mat d) (mat e) := by
  funext i d
  pointwise! [mat, cState, stateStep, lo, z0]
theorem mat_cDscores (a b c : FVec Ideal S128x128 .f32) : mat (cDscores a b c) = dscores (mat a) (mat b) (mat c) := by
  funext i d
  pointwise! [mat, cDscores, dscores, lo, wlo, z0]
theorem mat_cDqr (a b c d e : FVec Ideal S128x128 .f32) : mat (cDqr a b c d e) = dqr (mat a) (mat b) (mat c) (mat d) (mat e) := by
  funext i d
  pointwise! [mat, cDqr, dqr, lo, wlo, z0]
theorem mat_cDkr (a b c d e : FVec Ideal S128x128 .f32) : mat (cDkr a b c d e) = dkr (mat a) (mat b) (mat c) (mat d) (mat e) := by
  funext i d
  pointwise! [mat, cDkr, dkr, lo, wlo, z0, scb, sc, tp]
theorem mat_cDval (a b c d e : FVec Ideal S128x128 .f32) : mat (cDval a b c d e) = dval (mat a) (mat b) (mat c) (mat d) (mat e) := by
  funext i d
  pointwise! [mat, cDval, dval, lo, wlo, z0, tp]
theorem mat_cDstate (a b c d e : FVec Ideal S128x128 .f32) : mat (cDstate a b c d e) = dstate (mat a) (mat b) (mat c) (mat d) (mat e) := by
  funext i d
  pointwise! [mat, cDstate, dstate, lo, wlo, z0, tp]

/-- Chunk `b` of a step's rows of one head. -/
abbrev blk {φ : FTy} (b : Fin 2) (x : FVec Ideal S256x128 φ) : M := fun i d => x (ix2 ⟨128 * b.val + i.val, by omega⟩ d)

theorem mat_up (x : FVec Ideal S256x128 .f32) : mat (up x) = blk 0 x := by
  funext i d
  pointwise! [mat, up, blk]
theorem mat_dn (x : FVec Ideal S256x128 .f32) : mat (dn x) = blk 1 x := by
  funext i d
  pointwise! [mat, dn, blk]
theorem blk_cat0 (x y : FVec Ideal S128x128 .f32) : blk 0 (cat x y) = mat x := by
  funext i d
  pointwise! [mat, cat, blk]
theorem blk_cat1 (x y : FVec Ideal S128x128 .f32) : blk 1 (cat x y) = mat y := by
  funext i d
  pointwise! [mat, cat, blk]
theorem blk_hDout (b : Fin 2) (o g y : FVec Ideal S256x128 .f32) : blk b (hDout o g y) = dout (blk b o) (blk b g) (blk b y) := by
  funext i d
  pointwise [hDout, hDz, hVar, hDvar, dout, dz, vare, dvar, sg, blk]
  simp only [Finset.sum_const, Finset.card_univ, Fintype.card_fin, one_nsmul]
theorem blk_hDgate (b : Fin 2) (o g y : FVec Ideal S256x128 .f32) : blk b (hDgate o g y) = dgate (blk b o) (blk b g) (blk b y) := by
  funext i d
  pointwise! [hDgate, hZ, hVar, dgate, vare, sg, blk]
theorem blk_hRotT0 (gu gd cu cd su sd : FVec Ideal S128x128 .f32) : blk 0 (hRotT gu gd cu cd su sd) = rotT (mat gu) (mat cu) (mat su) := by
  funext i d
  pointwise! [hRotT, cat, rl, zb, rotT, blk, mat, sw]
theorem blk_hRotT1 (gu gd cu cd su sd : FVec Ideal S128x128 .f32) : blk 1 (hRotT gu gd cu cd su sd) = rotT (mat gd) (mat cd) (mat sd) := by
  funext i d
  pointwise! [hRotT, cat, rl, zb, rotT, blk, mat, sw]

end Cert.Ret
end
-- ==== Proof.Head.lean ====
module

public import proofs.«01_k».proof.Proof.Chunk
@[expose] public section
set_option maxRecDepth 16384

/-! One head's results in a grid point: the operations of the kernel's body on its loads, and their formulas. -/

noncomputable section
namespace Cert.Ret
open Idealize.ShloMosaic Idealize.ShloMosaic.TcCoe
open Cert.KernelIdeal Cert.KernelIdeal.Gen

/-- What one head reads in a grid point: two chunks of rows, the tables, the later state's cotangent and the saved state. -/
structure In (F : FTy → Type) where
  q : FVec F S256x128 .f32
  k : FVec F S256x128 .f32
  v : FVec F S256x128 .f32
  g : FVec F S256x128 .f32
  y : FVec F S256x128 .f32
  c : FVec F S256x128 .f32
  s : FVec F S256x128 .f32
  dm : FVec F S1x128x128 .f32
  kt : FVec F S1x128x128 .f32
  qd : FVec F S1x128x128 .f32
  cd : FVec F S1x128x128 .f32
  D : FVec F S1x128x128 .f32
  S : FVec F S1x1x128x128 .f32

namespace In
variable {F : FTy → Type} [FloatOps F] (a : In F)

/-- A table's plane. -/
def sq (x : FVec F S1x128x128 .f32) : FVec F S128x128 .f32 := shapeCast S128x128 x shapeCasts_S1x128x128_S128x128
def c' : FVec F S256x128 .f32 := shapeCast S256x128 a.c shapeCasts_S256x128_S256x128
def s' : FVec F S256x128 .f32 := shapeCast S256x128 a.s shapeCasts_S256x128_S256x128
def D1 : FVec F S128x128 .f32 := shapeCast S128x128 (sq a.D) shapeCasts_S128x128_S128x128
def S0 : FVec F S128x128 .f32 := shapeCast S128x128 a.S shapeCasts_S1x1x128x128_S128x128
def qr0 : FVec F S128x128 .f32 := cRot (up a.q) (up a.c') (up a.s')
def qr1 : FVec F S128x128 .f32 := cRot (dn a.q) (dn a.c') (dn a.s')
def kr0 : FVec F S128x128 .f32 := cKey (up a.k) (up a.c') (up a.s')
def kr1 : FVec F S128x128 .f32 := cKey (dn a.k) (dn a.c') (dn a.s')
def sc0 : FVec F S128x128 .f32 := cScores a.qr0 a.kr0 (sq a.dm)
def sc1 : FVec F S128x128 .f32 := cScores a.qr1 a.kr1 (sq a.dm)
def S1 : FVec F S128x128 .f32 := cState a.S0 (sq a.cd) a.kr0 (sq a.kt) (up a.v)
def o : FVec F S256x128 .f32 := cat (cOut a.sc0 (up a.v) a.qr0 (sq a.qd) a.S0) (cOut a.sc1 (dn a.v) a.qr1 (sq a.qd) a.S1)
def dO : FVec F S256x128 .f32 := hDout a.o a.g a.y
def dsc0 : FVec F S128x128 .f32 := cDscores (up a.dO) (up a.v) (sq a.dm)
def dsc1 : FVec F S128x128 .f32 := cDscores (dn a.dO) (dn a.v) (sq a.dm)
def D0 : FVec F S128x128 .f32 := cDstate a.D1 (sq a.cd) (dn a.dO) a.qr1 (sq a.qd)
/-- The query's cotangent. -/
def dq : FVec F S256x128 .bf16 :=
  hRotT (cDqr (up a.dO) a.S0 (sq a.qd) a.dsc0 a.kr0) (cDqr (dn a.dO) a.S1 (sq a.qd) a.dsc1 a.kr1) (up a.c') (dn a.c') (up a.s') (dn a.s')
/-- The key's cotangent. -/
def dk : FVec F S256x128 .bf16 :=
  hRotT (cDkr a.D0 (up a.v) (sq a.kt) a.dsc0 a.qr0) (cDkr a.D1 (dn a.v) (sq a.kt) a.dsc1 a.qr1) (up a.c') (dn a.c') (up a.s') (dn a.s')
/-- The value's cotangent. -/
def dv : FVec F S256x128 .bf16 :=
  truncf .bf16 (addf (cat zb (cDval a.D1 a.kr1 (sq a.kt) (dn a.dO) a.sc1)) (cat (cDval a.D0 a.kr0 (sq a.kt) (up a.dO) a.sc0) zb)) bitsLt_bf16_f32
/-- The gate's cotangent. -/
def dg : FVec F S256x128 .bf16 := hDgate a.o a.g a.y
/-- The cotangent of the state before the two chunks. -/
def ds : FVec F S1x128x128 .f32 :=
  shapeCast S1x128x128 (cDstate a.D0 (sq a.cd) (up a.dO) a.qr0 (sq a.qd)) shapeCasts_S128x128_S1x128x128
end In

/-- What a head's loads hold at the grid point of chunks `n` and `n + 1`. -/
structure Reads (a : In Ideal) (I : Data) (h : Fin 4) (n : ℕ) : Prop where
  q0 : blk 0 a.q = I.q h n
  q1 : blk 1 a.q = I.q h (n + 1)
  k0 : blk 0 a.k = I.k h n
  k1 : blk 1 a.k = I.k h (n + 1)
  v0 : blk 0 a.v = I.v h n
  v1 : blk 1 a.v = I.v h (n + 1)
  g : ∀ b : Fin 2, blk b a.g = I.g h (n + b)
  y : ∀ b : Fin 2, blk b a.y = I.y h (n + b)
  c0 : blk 0 a.c = I.c n
  c1 : blk 1 a.c = I.c (n + 1)
  s0 : blk 0 a.s = I.s n
  s1 : blk 1 a.s = I.s (n + 1)
  dm : (fun i d => a.dm (ix3 0 i d)) = I.dm h
  kt : (fun i d => a.kt (ix3 0 i d)) = I.kt h
  qd : (fun i d => a.qd (ix3 0 i d)) = I.qd h
  cd : (fun i d => a.cd (ix3 0 i d)) = I.cd h
  D : (fun i d => a.D (ix3 0 i d)) = I.D h (14 - n)
  S : (fun i d => a.S (ix4 0 0 i d)) = I.S h n

theorem mat_sq (x : FVec Ideal S1x128x128 .f32) : mat (In.sq x) = fun i d => x (ix3 0 i d) := by
  funext i d
  pointwise! [mat, In.sq]

namespace Reads
variable {a : In Ideal} {I : Data} {h : Fin 4} {n : ℕ} (r : Reads a I h n)
include r

theorem e_c0 : mat (up a.c') = I.c n := by
  rw [← r.c0]; funext i d; pointwise! [up, In.c', blk]
theorem e_c1 : mat (dn a.c') = I.c (n + 1) := by
  rw [← r.c1]; funext i d; pointwise! [dn, In.c', blk]
theorem e_s0 : mat (up a.s') = I.s n := by
  rw [← r.s0]; funext i d; pointwise! [up, In.s', blk]
theorem e_s1 : mat (dn a.s') = I.s (n + 1) := by
  rw [← r.s1]; funext i d; pointwise! [dn, In.s', blk]
theorem e_D1 : mat a.D1 = I.D h (14 - n) := by
  rw [← r.D]; funext i d; pointwise! [In.D1, In.sq]
theorem e_S0 : mat a.S0 = I.S h n := by
  rw [← r.S]; funext i d; pointwise! [In.S0]
theorem e_qr0 : mat a.qr0 = I.qr h n := by
  rw [In.qr0, mat_cRot, mat_up, r.q0, r.e_c0, r.e_s0, Data.qr]
theorem e_qr1 : mat a.qr1 = I.qr h (n + 1) := by
  rw [In.qr1, mat_cRot, mat_dn, r.q1, r.e_c1, r.e_s1, Data.qr]
theorem e_kr0 : mat a.kr0 = I.kr h n := by
  rw [In.kr0, mat_cKey, mat_up, r.k0, r.e_c0, r.e_s0, Data.kr]
theorem e_kr1 : mat a.kr1 = I.kr h (n + 1) := by
  rw [In.kr1, mat_cKey, mat_dn, r.k1, r.e_c1, r.e_s1, Data.kr]
theorem e_sc0 : mat a.sc0 = I.scr h n := by
  rw [In.sc0, mat_cScores, r.e_qr0, r.e_kr0, mat_sq, r.dm, Data.scr]
theorem e_sc1 : mat a.sc1 = I.scr h (n + 1) := by
  rw [In.sc1, mat_cScores, r.e_qr1, r.e_kr1, mat_sq, r.dm, Data.scr]
theorem e_S1 : mat a.S1 = I.S h (n + 1) := by
  rw [In.S1, mat_cState, r.e_S0, mat_sq, r.cd, r.e_kr0, mat_sq, r.kt, mat_up, r.v0, Data.S]
theorem e_o (b : Fin 2) : blk b a.o = I.o h (n + b) := by
  match b with
  | 0 => rw [In.o, blk_cat0, mat_cOut, r.e_sc0, mat_up, r.v0, r.e_qr0, mat_sq, r.qd, r.e_S0]; rfl
  | 1 => rw [In.o, blk_cat1, mat_cOut, r.e_sc1, mat_dn, r.v1, r.e_qr1, mat_sq, r.qd, r.e_S1]; rfl
theorem e_dO (b : Fin 2) : blk b a.dO = I.dO h (n + b) := by
  rw [In.dO, blk_hDout, r.e_o, r.g, r.y, Data.dO]
theorem e_dO0 : mat (up a.dO) = I.dO h n := by rw [mat_up, r.e_dO]; rfl
theorem e_dO1 : mat (dn a.dO) = I.dO h (n + 1) := by rw [mat_dn, r.e_dO]; rfl
theorem e_dsc0 : mat a.dsc0 = I.ds h n := by
  rw [In.dsc0, mat_cDscores, r.e_dO0, mat_up, r.v0, mat_sq, r.dm, Data.ds]
theorem e_dsc1 : mat a.dsc1 = I.ds h (n + 1) := by
  rw [In.dsc1, mat_cDscores, r.e_dO1, mat_dn, r.v1, mat_sq, r.dm, Data.ds]
theorem e_D0 (hn : n ≤ 14) : mat a.D0 = I.D h (15 - n) := by
  rw [In.D0, mat_cDstate, r.e_D1, mat_sq, r.cd, r.e_dO1, r.e_qr1, mat_sq, r.qd,
    show 15 - n = (14 - n) + 1 by omega, Data.D, show 15 - (14 - n) = n + 1 by omega]

/-- The query's cotangent of a grid point. -/
theorem e_dq (b : Fin 2) : blk b a.dq = I.dq h (n + b) := by
  match b with
  | 0 => rw [In.dq, blk_hRotT0, mat_cDqr, r.e_dO0, r.e_S0, mat_sq, r.qd, r.e_dsc0, r.e_kr0, r.e_c0, r.e_s0]; rfl
  | 1 => rw [In.dq, blk_hRotT1, mat_cDqr, r.e_dO1, r.e_S1, mat_sq, r.qd, r.e_dsc1, r.e_kr1, r.e_c1, r.e_s1]; rfl
/-- The key's cotangent of a grid point. -/
theorem e_dk (hn : n ≤ 14) (b : Fin 2) : blk b a.dk = I.dk h (n + b) := by
  match b with
  | 0 => rw [In.dk, blk_hRotT0, mat_cDkr, r.e_D0 hn, mat_up, r.v0, mat_sq, r.kt, r.e_dsc0, r.e_qr0, r.e_c0, r.e_s0]; rfl
  | 1 =>
    rw [In.dk, blk_hRotT1, mat_cDkr, r.e_D1, mat_dn, r.v1, mat_sq, r.kt, r.e_dsc1, r.e_qr1, r.e_c1, r.e_s1,
      show 14 - n = 15 - (n + 1) by omega]; rfl
/-- The value's cotangent of a grid point. -/
theorem e_dv (hn : n ≤ 14) (b : Fin 2) : blk b a.dv = I.dv h (n + b) := by
  match b with
  | 0 =>
    have e : blk 0 a.dv = mat (cDval a.D0 a.kr0 (In.sq a.kt) (up a.dO) a.sc0) := by
      funext i d; pointwise! [In.dv, cat, zb, blk, mat]
    rw [e, mat_cDval, r.e_D0 hn, r.e_kr0, mat_sq, r.kt, r.e_dO0, r.e_sc0]; rfl
  | 1 =>
    have e : blk 1 a.dv = mat (cDval a.D1 a.kr1 (In.sq a.kt) (dn a.dO) a.sc1) := by
      funext i d; pointwise! [In.dv, cat, zb, blk, mat]
    rw [e, mat_cDval, r.e_D1, r.e_kr1, mat_sq, r.kt, r.e_dO1, r.e_sc1, show 14 - n = 15 - (n + 1) by omega]; rfl
/-- The gate's cotangent of a grid point. -/
theorem e_dg (b : Fin 2) : blk b a.dg = I.dg h (n + b) := by
  rw [In.dg, blk_hDgate, r.e_o, r.g, r.y, Data.dg]
/-- The state's cotangent that a grid point leaves for the next. -/
theorem e_ds (hn : n ≤ 14) : (fun i d => a.ds (ix3 0 i d)) = I.D h (16 - n) := by
  have e : (fun i d => a.ds (ix3 0 i d)) = mat (cDstate a.D0 (In.sq a.cd) (up a.dO) a.qr0 (In.sq a.qd)) := by
    funext i d; pointwise! [In.ds]
  rw [e, mat_cDstate, r.e_D0 hn, mat_sq, r.cd, r.e_dO0, r.e_qr0, mat_sq, r.qd,
    show 16 - n = (15 - n) + 1 by omega, Data.D, show 15 - (15 - n) = n by omega]
end Reads

end Cert.Ret
end
-- ==== Proof.Loads.lean ====
module

public import proofs.«01_k».proof.Proof.Head
public import proofs.«01_k».proof.Proof.Gen.KernelIdeal.Value
public import Idealize.ShloMosaic.Lib.Pipeline.ValueKit
@[expose] public section
set_option maxRecDepth 16384

/-! What each head loads in a grid point. -/

noncomputable section
namespace Cert.KernelIdeal.Gen
open Idealize.ShloMosaic Idealize.ShloMosaic.TcCoe Idealize.ShloMosaic.Tactic
open Cert.Ret
variable {F : FTy → Type} [FloatOps F]

/-- What head 0 loads in a grid point. -/
def inB0 (x0 : Vec F S256x512 .f32) (x1 : Vec F S256x512 .f32) (x2 : Vec F S256x512 .f32) (x3 : Vec F S256x512 .f32) (x4 : Vec F S256x128 .f32) (x5 : Vec F S256x128 .f32) (x6 : Vec F S4x128x128 .f32) (x7 : Vec F S4x128x128 .f32) (x8 : Vec F S4x128x128 .f32) (x9 : Vec F S4x128x128 .f32) (x10 : Vec F S4x1x128x128 .f32) (x11 : Vec F S256x512 .f32) (xs0 : Vec F S4x128x128 .f32) : In F :=
  ⟨(View.ld x0 (Rect.unit (s := S256x512) ![0,0] S256x128.size inb_S256x512_S256x128_0_0)), (View.ld x1 (Rect.unit (s := S256x512) ![0,0] S256x128.size inb_S256x512_S256x128_0_0)), (View.ld x2 (Rect.unit (s := S256x512) ![0,0] S256x128.size inb_S256x512_S256x128_0_0)), (View.ld x3 (Rect.unit (s := S256x512) ![0,0] S256x128.size inb_S256x512_S256x128_0_0)), (View.ld x11 (Rect.unit (s := S256x512) ![0,0] S256x128.size inb_S256x512_S256x128_0_0)), x4, x5, (View.ld x6 (Rect.unit (s := S4x128x128) ![0,0,0] S1x128x128.size inb_S4x128x128_S1x128x128_0_0_0)), (View.ld x7 (Rect.unit (s := S4x128x128) ![0,0,0] S1x128x128.size inb_S4x128x128_S1x128x128_0_0_0)), (View.ld x8 (Rect.unit (s := S4x128x128) ![0,0,0] S1x128x128.size inb_S4x128x128_S1x128x128_0_0_0)), (View.ld x9 (Rect.unit (s := S4x128x128) ![0,0,0] S1x128x128.size inb_S4x128x128_S1x128x128_0_0_0)), (View.ld xs0 (Rect.unit (s := S4x128x128) ![0,0,0] S1x128x128.size inb_S4x128x128_S1x128x128_0_0_0)), (View.ld x10 (Rect.unit (s := S4x1x128x128) ![0,0,0,0] S1x1x128x128.size inb_S4x1x128x128_S1x1x128x128_0_0_0_0))⟩
/-- What head 1 loads in a grid point. -/
def inB1 (x0 : Vec F S256x512 .f32) (x1 : Vec F S256x512 .f32) (x2 : Vec F S256x512 .f32) (x3 : Vec F S256x512 .f32) (x4 : Vec F S256x128 .f32) (x5 : Vec F S256x128 .f32) (x6 : Vec F S4x128x128 .f32) (x7 : Vec F S4x128x128 .f32) (x8 : Vec F S4x128x128 .f32) (x9 : Vec F S4x128x128 .f32) (x10 : Vec F S4x1x128x128 .f32) (x11 : Vec F S256x512 .f32) (xs0 : Vec F S4x128x128 .f32) : In F :=
  ⟨(View.ld x0 (Rect.unit (s := S256x512) ![0,128] S256x128.size inb_S256x512_S256x128_0_128)), (View.ld x1 (Rect.unit (s := S256x512) ![0,128] S256x128.size inb_S256x512_S256x128_0_128)), (View.ld x2 (Rect.unit (s := S256x512) ![0,128] S256x128.size inb_S256x512_S256x128_0_128)), (View.ld x3 (Rect.unit (s := S256x512) ![0,128] S256x128.size inb_S256x512_S256x128_0_128)), (View.ld x11 (Rect.unit (s := S256x512) ![0,128] S256x128.size inb_S256x512_S256x128_0_128)), x4, x5, (View.ld x6 (Rect.unit (s := S4x128x128) ![1,0,0] S1x128x128.size inb_S4x128x128_S1x128x128_1_0_0)), (View.ld x7 (Rect.unit (s := S4x128x128) ![1,0,0] S1x128x128.size inb_S4x128x128_S1x128x128_1_0_0)), (View.ld x8 (Rect.unit (s := S4x128x128) ![1,0,0] S1x128x128.size inb_S4x128x128_S1x128x128_1_0_0)), (View.ld x9 (Rect.unit (s := S4x128x128) ![1,0,0] S1x128x128.size inb_S4x128x128_S1x128x128_1_0_0)), (View.ld xs0 (Rect.unit (s := S4x128x128) ![1,0,0] S1x128x128.size inb_S4x128x128_S1x128x128_1_0_0)), (View.ld x10 (Rect.unit (s := S4x1x128x128) ![1,0,0,0] S1x1x128x128.size inb_S4x1x128x128_S1x1x128x128_1_0_0_0))⟩
/-- What head 2 loads in a grid point. -/
def inB2 (x0 : Vec F S256x512 .f32) (x1 : Vec F S256x512 .f32) (x2 : Vec F S256x512 .f32) (x3 : Vec F S256x512 .f32) (x4 : Vec F S256x128 .f32) (x5 : Vec F S256x128 .f32) (x6 : Vec F S4x128x128 .f32) (x7 : Vec F S4x128x128 .f32) (x8 : Vec F S4x128x128 .f32) (x9 : Vec F S4x128x128 .f32) (x10 : Vec F S4x1x128x128 .f32) (x11 : Vec F S256x512 .f32) (xs0 : Vec F S4x128x128 .f32) : In F :=
  ⟨(View.ld x0 (Rect.unit (s := S256x512) ![0,256] S256x128.size inb_S256x512_S256x128_0_256)), (View.ld x1 (Rect.unit (s := S256x512) ![0,256] S256x128.size inb_S256x512_S256x128_0_256)), (View.ld x2 (Rect.unit (s := S256x512) ![0,256] S256x128.size inb_S256x512_S256x128_0_256)), (View.ld x3 (Rect.unit (s := S256x512) ![0,256] S256x128.size inb_S256x512_S256x128_0_256)), (View.ld x11 (Rect.unit (s := S256x512) ![0,256] S256x128.size inb_S256x512_S256x128_0_256)), x4, x5, (View.ld x6 (Rect.unit (s := S4x128x128) ![2,0,0] S1x128x128.size inb_S4x128x128_S1x128x128_2_0_0)), (View.ld x7 (Rect.unit (s := S4x128x128) ![2,0,0] S1x128x128.size inb_S4x128x128_S1x128x128_2_0_0)), (View.ld x8 (Rect.unit (s := S4x128x128) ![2,0,0] S1x128x128.size inb_S4x128x128_S1x128x128_2_0_0)), (View.ld x9 (Rect.unit (s := S4x128x128) ![2,0,0] S1x128x128.size inb_S4x128x128_S1x128x128_2_0_0)), (View.ld xs0 (Rect.unit (s := S4x128x128) ![2,0,0] S1x128x128.size inb_S4x128x128_S1x128x128_2_0_0)), (View.ld x10 (Rect.unit (s := S4x1x128x128) ![2,0,0,0] S1x1x128x128.size inb_S4x1x128x128_S1x1x128x128_2_0_0_0))⟩
/-- What head 3 loads in a grid point. -/
def inB3 (x0 : Vec F S256x512 .f32) (x1 : Vec F S256x512 .f32) (x2 : Vec F S256x512 .f32) (x3 : Vec F S256x512 .f32) (x4 : Vec F S256x128 .f32) (x5 : Vec F S256x128 .f32) (x6 : Vec F S4x128x128 .f32) (x7 : Vec F S4x128x128 .f32) (x8 : Vec F S4x128x128 .f32) (x9 : Vec F S4x128x128 .f32) (x10 : Vec F S4x1x128x128 .f32) (x11 : Vec F S256x512 .f32) (xs0 : Vec F S4x128x128 .f32) : In F :=
  ⟨(View.ld x0 (Rect.unit (s := S256x512) ![0,384] S256x128.size inb_S256x512_S256x128_0_384)), (View.ld x1 (Rect.unit (s := S256x512) ![0,384] S256x128.size inb_S256x512_S256x128_0_384)), (View.ld x2 (Rect.unit (s := S256x512) ![0,384] S256x128.size inb_S256x512_S256x128_0_384)), (View.ld x3 (Rect.unit (s := S256x512) ![0,384] S256x128.size inb_S256x512_S256x128_0_384)), (View.ld x11 (Rect.unit (s := S256x512) ![0,384] S256x128.size inb_S256x512_S256x128_0_384)), x4, x5, (View.ld x6 (Rect.unit (s := S4x128x128) ![3,0,0] S1x128x128.size inb_S4x128x128_S1x128x128_3_0_0)), (View.ld x7 (Rect.unit (s := S4x128x128) ![3,0,0] S1x128x128.size inb_S4x128x128_S1x128x128_3_0_0)), (View.ld x8 (Rect.unit (s := S4x128x128) ![3,0,0] S1x128x128.size inb_S4x128x128_S1x128x128_3_0_0)), (View.ld x9 (Rect.unit (s := S4x128x128) ![3,0,0] S1x128x128.size inb_S4x128x128_S1x128x128_3_0_0)), (View.ld xs0 (Rect.unit (s := S4x128x128) ![3,0,0] S1x128x128.size inb_S4x128x128_S1x128x128_3_0_0)), (View.ld x10 (Rect.unit (s := S4x1x128x128) ![3,0,0,0] S1x1x128x128.size inb_S4x1x128x128_S1x1x128x128_3_0_0_0))⟩

/-- A load of what stores left, through a rectangle. -/
theorem readCov_ld {S : Shape} {e : EltTy} {Val : EltTy → Type} [∀ e, Nonempty (Val e)] {sig : RefSig} {κ : Kind} {sp : Space}
    (v : View sig κ sp S e) (L : List (View.Piece Val S e)) (r : Rect S) : v.readCov L r.toLoadRect = View.ld (View.canon L) r :=
  View.readCov_eq_canon' v L _

end Cert.KernelIdeal.Gen
end
-- ==== Proof.StoresA.lean ====
module

public import proofs.«01_k».proof.Proof.Loads
public import proofs.«01_k».proof.Proof.Gen.KernelIdeal.Value
public import Idealize.ShloMosaic.Lib.Pipeline.ValueKit
@[expose] public section
set_option maxRecDepth 16384

/-! What a grid point stores, head by head: the first point. -/

noncomputable section
namespace Cert.KernelIdeal.Gen
open Idealize.ShloMosaic Idealize.ShloMosaic.TcCoe Idealize.ShloMosaic.Tactic
open Cert.Ret
variable {F : FTy → Type} [FloatOps F]

set_option maxHeartbeats 1000000 in
/-- The stores of the query's cotangent, head by head. -/
theorem out0_A_12_eq (c : Dev nD) (i : grid0.Coords) (arg1 : Memref sig .tc .vmem S256x512 .f32) (harg1 : arg1.IsWhole) (arg2 : Memref sig .tc .vmem S256x512 .f32) (harg2 : arg2.IsWhole) (arg3 : Memref sig .tc .vmem S256x512 .f32) (harg3 : arg3.IsWhole) (arg4 : Memref sig .tc .vmem S256x512 .f32) (harg4 : arg4.IsWhole) (arg5 : Memref sig .tc .vmem S256x128 .f32) (harg5 : arg5.IsWhole) (arg6 : Memref sig .tc .vmem S256x128 .f32) (harg6 : arg6.IsWhole) (arg7 : Memref sig .tc .vmem S4x128x128 .f32) (harg7 : arg7.IsWhole) (arg8 : Memref sig .tc .vmem S4x128x128 .f32) (harg8 : arg8.IsWhole) (arg9 : Memref sig .tc .vmem S4x128x128 .f32) (harg9 : arg9.IsWhole) (arg10 : Memref sig .tc .vmem S4x128x128 .f32) (harg10 : arg10.IsWhole) (arg11 : Memref sig .tc .vmem S4x1x128x128 .f32) (harg11 : arg11.IsWhole) (arg12 : Memref sig .tc .vmem S256x512 .f32) (harg12 : arg12.IsWhole) (arg13 : Memref sig .tc .vmem S256x512 .bf16) (harg13 : arg13.IsWhole) (arg14 : Memref sig .tc .vmem S256x512 .bf16) (harg14 : arg14.IsWhole) (arg15 : Memref sig .tc .vmem S256x512 .bf16) (harg15 : arg15.IsWhole) (arg16 : Memref sig .tc .vmem S256x512 .bf16) (harg16 : arg16.IsWhole) (arg17 : Memref sig .tc .vmem S4x128x128 .f32) (harg17 : arg17.IsWhole) (hc0 : cond0_0 i)
    (x0 : Vec F S256x512 .f32) (x1 : Vec F S256x512 .f32) (x2 : Vec F S256x512 .f32) (x3 : Vec F S256x512 .f32) (x4 : Vec F S256x128 .f32) (x5 : Vec F S256x128 .f32) (x6 : Vec F S4x128x128 .f32) (x7 : Vec F S4x128x128 .f32) (x8 : Vec F S4x128x128 .f32) (x9 : Vec F S4x128x128 .f32) (x10 : Vec F S4x1x128x128 .f32) (x11 : Vec F S256x512 .f32)  :
    out0_A_12 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 = View.canon [⟨Rect.unit ![0,384] ![256,128] inb_S256x512_S256x128_0_384, (inB3 x0 x1 x2 x3 x4 x5 x6 x7 x8 x9 x10 x11 k0_pay5).dq⟩,
      ⟨Rect.unit ![0,256] ![256,128] inb_S256x512_S256x128_0_256, (inB2 x0 x1 x2 x3 x4 x5 x6 x7 x8 x9 x10 x11 k0_pay5).dq⟩,
      ⟨Rect.unit ![0,128] ![256,128] inb_S256x512_S256x128_0_128, (inB1 x0 x1 x2 x3 x4 x5 x6 x7 x8 x9 x10 x11 k0_pay5).dq⟩,
      ⟨Rect.unit ![0,0] ![256,128] inb_S256x512_S256x128_0_0, (inB0 x0 x1 x2 x3 x4 x5 x6 x7 x8 x9 x10 x11 k0_pay5).dq⟩] := by
  frame_out
  refine congrArg View.canon (congrArg₂ List.cons (congrArg (Sigma.mk _) ?_) (congrArg₂ List.cons (congrArg (Sigma.mk _) ?_) (congrArg₂ List.cons (congrArg (Sigma.mk _) ?_) (congrArg₂ List.cons (congrArg (Sigma.mk _) ?_) (rfl)))))
  · unfold_payloads; simp only [inB3, In.sq, In.c', In.s', In.D1, In.S0, In.qr0, In.qr1, In.kr0, In.kr1, In.sc0, In.sc1, In.S1, In.o, In.dO, In.dsc0, In.dsc1, In.D0, In.dq, In.dk, In.dv, In.dg, In.ds, z0, zb, scb, lo, wlo, up, dn, cat, rl, tp, cRot, cKey, cScores, cOut, cState, cDscores, cDqr, cDkr, cDval, cDstate, hRotT, hDz, hVar, hDvar, hDout, hZ, hDgate]
  · unfold_payloads; simp only [inB2, In.sq, In.c', In.s', In.D1, In.S0, In.qr0, In.qr1, In.kr0, In.kr1, In.sc0, In.sc1, In.S1, In.o, In.dO, In.dsc0, In.dsc1, In.D0, In.dq, In.dk, In.dv, In.dg, In.ds, z0, zb, scb, lo, wlo, up, dn, cat, rl, tp, cRot, cKey, cScores, cOut, cState, cDscores, cDqr, cDkr, cDval, cDstate, hRotT, hDz, hVar, hDvar, hDout, hZ, hDgate]
  · unfold_payloads; simp only [inB1, In.sq, In.c', In.s', In.D1, In.S0, In.qr0, In.qr1, In.kr0, In.kr1, In.sc0, In.sc1, In.S1, In.o, In.dO, In.dsc0, In.dsc1, In.D0, In.dq, In.dk, In.dv, In.dg, In.ds, z0, zb, scb, lo, wlo, up, dn, cat, rl, tp, cRot, cKey, cScores, cOut, cState, cDscores, cDqr, cDkr, cDval, cDstate, hRotT, hDz, hVar, hDvar, hDout, hZ, hDgate]
  · unfold_payloads; simp only [inB0, In.sq, In.c', In.s', In.D1, In.S0, In.qr0, In.qr1, In.kr0, In.kr1, In.sc0, In.sc1, In.S1, In.o, In.dO, In.dsc0, In.dsc1, In.D0, In.dq, In.dk, In.dv, In.dg, In.ds, z0, zb, scb, lo, wlo, up, dn, cat, rl, tp, cRot, cKey, cScores, cOut, cState, cDscores, cDqr, cDkr, cDval, cDstate, hRotT, hDz, hVar, hDvar, hDout, hZ, hDgate]

set_option maxHeartbeats 1000000 in
/-- The stores of the key's cotangent, head by head. -/
theorem out0_A_13_eq (c : Dev nD) (i : grid0.Coords) (arg1 : Memref sig .tc .vmem S256x512 .f32) (harg1 : arg1.IsWhole) (arg2 : Memref sig .tc .vmem S256x512 .f32) (harg2 : arg2.IsWhole) (arg3 : Memref sig .tc .vmem S256x512 .f32) (harg3 : arg3.IsWhole) (arg4 : Memref sig .tc .vmem S256x512 .f32) (harg4 : arg4.IsWhole) (arg5 : Memref sig .tc .vmem S256x128 .f32) (harg5 : arg5.IsWhole) (arg6 : Memref sig .tc .vmem S256x128 .f32) (harg6 : arg6.IsWhole) (arg7 : Memref sig .tc .vmem S4x128x128 .f32) (harg7 : arg7.IsWhole) (arg8 : Memref sig .tc .vmem S4x128x128 .f32) (harg8 : arg8.IsWhole) (arg9 : Memref sig .tc .vmem S4x128x128 .f32) (harg9 : arg9.IsWhole) (arg10 : Memref sig .tc .vmem S4x128x128 .f32) (harg10 : arg10.IsWhole) (arg11 : Memref sig .tc .vmem S4x1x128x128 .f32) (harg11 : arg11.IsWhole) (arg12 : Memref sig .tc .vmem S256x512 .f32) (harg12 : arg12.IsWhole) (arg13 : Memref sig .tc .vmem S256x512 .bf16) (harg13 : arg13.IsWhole) (arg14 : Memref sig .tc .vmem S256x512 .bf16) (harg14 : arg14.IsWhole) (arg15 : Memref sig .tc .vmem S256x512 .bf16) (harg15 : arg15.IsWhole) (arg16 : Memref sig .tc .vmem S256x512 .bf16) (harg16 : arg16.IsWhole) (arg17 : Memref sig .tc .vmem S4x128x128 .f32) (harg17 : arg17.IsWhole) (hc0 : cond0_0 i)
    (x0 : Vec F S256x512 .f32) (x1 : Vec F S256x512 .f32) (x2 : Vec F S256x512 .f32) (x3 : Vec F S256x512 .f32) (x4 : Vec F S256x128 .f32) (x5 : Vec F S256x128 .f32) (x6 : Vec F S4x128x128 .f32) (x7 : Vec F S4x128x128 .f32) (x8 : Vec F S4x128x128 .f32) (x9 : Vec F S4x128x128 .f32) (x10 : Vec F S4x1x128x128 .f32) (x11 : Vec F S256x512 .f32)  :
    out0_A_13 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 = View.canon [⟨Rect.unit ![0,384] ![256,128] inb_S256x512_S256x128_0_384, (inB3 x0 x1 x2 x3 x4 x5 x6 x7 x8 x9 x10 x11 k0_pay5).dk⟩,
      ⟨Rect.unit ![0,256] ![256,128] inb_S256x512_S256x128_0_256, (inB2 x0 x1 x2 x3 x4 x5 x6 x7 x8 x9 x10 x11 k0_pay5).dk⟩,
      ⟨Rect.unit ![0,128] ![256,128] inb_S256x512_S256x128_0_128, (inB1 x0 x1 x2 x3 x4 x5 x6 x7 x8 x9 x10 x11 k0_pay5).dk⟩,
      ⟨Rect.unit ![0,0] ![256,128] inb_S256x512_S256x128_0_0, (inB0 x0 x1 x2 x3 x4 x5 x6 x7 x8 x9 x10 x11 k0_pay5).dk⟩] := by
  frame_out
  simp (disch := decide) only [readCov_ld, View.canon_cons_unit_lit']
  refine congrArg View.canon (congrArg₂ List.cons (congrArg (Sigma.mk _) ?_) (congrArg₂ List.cons (congrArg (Sigma.mk _) ?_) (congrArg₂ List.cons (congrArg (Sigma.mk _) ?_) (congrArg₂ List.cons (congrArg (Sigma.mk _) ?_) (rfl)))))
  · unfold_payloads; simp only [inB3, In.sq, In.c', In.s', In.D1, In.S0, In.qr0, In.qr1, In.kr0, In.kr1, In.sc0, In.sc1, In.S1, In.o, In.dO, In.dsc0, In.dsc1, In.D0, In.dq, In.dk, In.dv, In.dg, In.ds, z0, zb, scb, lo, wlo, up, dn, cat, rl, tp, cRot, cKey, cScores, cOut, cState, cDscores, cDqr, cDkr, cDval, cDstate, hRotT, hDz, hVar, hDvar, hDout, hZ, hDgate]
  · unfold_payloads; simp only [inB2, In.sq, In.c', In.s', In.D1, In.S0, In.qr0, In.qr1, In.kr0, In.kr1, In.sc0, In.sc1, In.S1, In.o, In.dO, In.dsc0, In.dsc1, In.D0, In.dq, In.dk, In.dv, In.dg, In.ds, z0, zb, scb, lo, wlo, up, dn, cat, rl, tp, cRot, cKey, cScores, cOut, cState, cDscores, cDqr, cDkr, cDval, cDstate, hRotT, hDz, hVar, hDvar, hDout, hZ, hDgate]
  · unfold_payloads; simp only [inB1, In.sq, In.c', In.s', In.D1, In.S0, In.qr0, In.qr1, In.kr0, In.kr1, In.sc0, In.sc1, In.S1, In.o, In.dO, In.dsc0, In.dsc1, In.D0, In.dq, In.dk, In.dv, In.dg, In.ds, z0, zb, scb, lo, wlo, up, dn, cat, rl, tp, cRot, cKey, cScores, cOut, cState, cDscores, cDqr, cDkr, cDval, cDstate, hRotT, hDz, hVar, hDvar, hDout, hZ, hDgate]
  · unfold_payloads; simp only [inB0, In.sq, In.c', In.s', In.D1, In.S0, In.qr0, In.qr1, In.kr0, In.kr1, In.sc0, In.sc1, In.S1, In.o, In.dO, In.dsc0, In.dsc1, In.D0, In.dq, In.dk, In.dv, In.dg, In.ds, z0, zb, scb, lo, wlo, up, dn, cat, rl, tp, cRot, cKey, cScores, cOut, cState, cDscores, cDqr, cDkr, cDval, cDstate, hRotT, hDz, hVar, hDvar, hDout, hZ, hDgate]

set_option maxHeartbeats 1000000 in
/-- The stores of the value's cotangent, head by head. -/
theorem out0_A_14_eq (c : Dev nD) (i : grid0.Coords) (arg1 : Memref sig .tc .vmem S256x512 .f32) (harg1 : arg1.IsWhole) (arg2 : Memref sig .tc .vmem S256x512 .f32) (harg2 : arg2.IsWhole) (arg3 : Memref sig .tc .vmem S256x512 .f32) (harg3 : arg3.IsWhole) (arg4 : Memref sig .tc .vmem S256x512 .f32) (harg4 : arg4.IsWhole) (arg5 : Memref sig .tc .vmem S256x128 .f32) (harg5 : arg5.IsWhole) (arg6 : Memref sig .tc .vmem S256x128 .f32) (harg6 : arg6.IsWhole) (arg7 : Memref sig .tc .vmem S4x128x128 .f32) (harg7 : arg7.IsWhole) (arg8 : Memref sig .tc .vmem S4x128x128 .f32) (harg8 : arg8.IsWhole) (arg9 : Memref sig .tc .vmem S4x128x128 .f32) (harg9 : arg9.IsWhole) (arg10 : Memref sig .tc .vmem S4x128x128 .f32) (harg10 : arg10.IsWhole) (arg11 : Memref sig .tc .vmem S4x1x128x128 .f32) (harg11 : arg11.IsWhole) (arg12 : Memref sig .tc .vmem S256x512 .f32) (harg12 : arg12.IsWhole) (arg13 : Memref sig .tc .vmem S256x512 .bf16) (harg13 : arg13.IsWhole) (arg14 : Memref sig .tc .vmem S256x512 .bf16) (harg14 : arg14.IsWhole) (arg15 : Memref sig .tc .vmem S256x512 .bf16) (harg15 : arg15.IsWhole) (arg16 : Memref sig .tc .vmem S256x512 .bf16) (harg16 : arg16.IsWhole) (arg17 : Memref sig .tc .vmem S4x128x128 .f32) (harg17 : arg17.IsWhole) (hc0 : cond0_0 i)
    (x0 : Vec F S256x512 .f32) (x1 : Vec F S256x512 .f32) (x2 : Vec F S256x512 .f32) (x3 : Vec F S256x512 .f32) (x4 : Vec F S256x128 .f32) (x5 : Vec F S256x128 .f32) (x6 : Vec F S4x128x128 .f32) (x7 : Vec F S4x128x128 .f32) (x8 : Vec F S4x128x128 .f32) (x9 : Vec F S4x128x128 .f32) (x10 : Vec F S4x1x128x128 .f32) (x11 : Vec F S256x512 .f32)  :
    out0_A_14 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 = View.canon [⟨Rect.unit ![0,384] ![256,128] inb_S256x512_S256x128_0_384, (inB3 x0 x1 x2 x3 x4 x5 x6 x7 x8 x9 x10 x11 k0_pay5).dv⟩,
      ⟨Rect.unit ![0,256] ![256,128] inb_S256x512_S256x128_0_256, (inB2 x0 x1 x2 x3 x4 x5 x6 x7 x8 x9 x10 x11 k0_pay5).dv⟩,
      ⟨Rect.unit ![0,128] ![256,128] inb_S256x512_S256x128_0_128, (inB1 x0 x1 x2 x3 x4 x5 x6 x7 x8 x9 x10 x11 k0_pay5).dv⟩,
      ⟨Rect.unit ![0,0] ![256,128] inb_S256x512_S256x128_0_0, (inB0 x0 x1 x2 x3 x4 x5 x6 x7 x8 x9 x10 x11 k0_pay5).dv⟩] := by
  frame_out
  simp (disch := decide) only [readCov_ld, View.canon_cons_unit_lit']
  refine congrArg View.canon (congrArg₂ List.cons (congrArg (Sigma.mk _) ?_) (congrArg₂ List.cons (congrArg (Sigma.mk _) ?_) (congrArg₂ List.cons (congrArg (Sigma.mk _) ?_) (congrArg₂ List.cons (congrArg (Sigma.mk _) ?_) (rfl)))))
  · unfold_payloads; simp only [inB3, In.sq, In.c', In.s', In.D1, In.S0, In.qr0, In.qr1, In.kr0, In.kr1, In.sc0, In.sc1, In.S1, In.o, In.dO, In.dsc0, In.dsc1, In.D0, In.dq, In.dk, In.dv, In.dg, In.ds, z0, zb, scb, lo, wlo, up, dn, cat, rl, tp, cRot, cKey, cScores, cOut, cState, cDscores, cDqr, cDkr, cDval, cDstate, hRotT, hDz, hVar, hDvar, hDout, hZ, hDgate]
  · unfold_payloads; simp only [inB2, In.sq, In.c', In.s', In.D1, In.S0, In.qr0, In.qr1, In.kr0, In.kr1, In.sc0, In.sc1, In.S1, In.o, In.dO, In.dsc0, In.dsc1, In.D0, In.dq, In.dk, In.dv, In.dg, In.ds, z0, zb, scb, lo, wlo, up, dn, cat, rl, tp, cRot, cKey, cScores, cOut, cState, cDscores, cDqr, cDkr, cDval, cDstate, hRotT, hDz, hVar, hDvar, hDout, hZ, hDgate]
  · unfold_payloads; simp only [inB1, In.sq, In.c', In.s', In.D1, In.S0, In.qr0, In.qr1, In.kr0, In.kr1, In.sc0, In.sc1, In.S1, In.o, In.dO, In.dsc0, In.dsc1, In.D0, In.dq, In.dk, In.dv, In.dg, In.ds, z0, zb, scb, lo, wlo, up, dn, cat, rl, tp, cRot, cKey, cScores, cOut, cState, cDscores, cDqr, cDkr, cDval, cDstate, hRotT, hDz, hVar, hDvar, hDout, hZ, hDgate]
  · unfold_payloads; simp only [inB0, In.sq, In.c', In.s', In.D1, In.S0, In.qr0, In.qr1, In.kr0, In.kr1, In.sc0, In.sc1, In.S1, In.o, In.dO, In.dsc0, In.dsc1, In.D0, In.dq, In.dk, In.dv, In.dg, In.ds, z0, zb, scb, lo, wlo, up, dn, cat, rl, tp, cRot, cKey, cScores, cOut, cState, cDscores, cDqr, cDkr, cDval, cDstate, hRotT, hDz, hVar, hDvar, hDout, hZ, hDgate]

set_option maxHeartbeats 1000000 in
/-- The stores of the gate's cotangent, head by head. -/
theorem out0_A_15_eq (c : Dev nD) (i : grid0.Coords) (arg1 : Memref sig .tc .vmem S256x512 .f32) (harg1 : arg1.IsWhole) (arg2 : Memref sig .tc .vmem S256x512 .f32) (harg2 : arg2.IsWhole) (arg3 : Memref sig .tc .vmem S256x512 .f32) (harg3 : arg3.IsWhole) (arg4 : Memref sig .tc .vmem S256x512 .f32) (harg4 : arg4.IsWhole) (arg5 : Memref sig .tc .vmem S256x128 .f32) (harg5 : arg5.IsWhole) (arg6 : Memref sig .tc .vmem S256x128 .f32) (harg6 : arg6.IsWhole) (arg7 : Memref sig .tc .vmem S4x128x128 .f32) (harg7 : arg7.IsWhole) (arg8 : Memref sig .tc .vmem S4x128x128 .f32) (harg8 : arg8.IsWhole) (arg9 : Memref sig .tc .vmem S4x128x128 .f32) (harg9 : arg9.IsWhole) (arg10 : Memref sig .tc .vmem S4x128x128 .f32) (harg10 : arg10.IsWhole) (arg11 : Memref sig .tc .vmem S4x1x128x128 .f32) (harg11 : arg11.IsWhole) (arg12 : Memref sig .tc .vmem S256x512 .f32) (harg12 : arg12.IsWhole) (arg13 : Memref sig .tc .vmem S256x512 .bf16) (harg13 : arg13.IsWhole) (arg14 : Memref sig .tc .vmem S256x512 .bf16) (harg14 : arg14.IsWhole) (arg15 : Memref sig .tc .vmem S256x512 .bf16) (harg15 : arg15.IsWhole) (arg16 : Memref sig .tc .vmem S256x512 .bf16) (harg16 : arg16.IsWhole) (arg17 : Memref sig .tc .vmem S4x128x128 .f32) (harg17 : arg17.IsWhole) (hc0 : cond0_0 i)
    (x0 : Vec F S256x512 .f32) (x1 : Vec F S256x512 .f32) (x2 : Vec F S256x512 .f32) (x3 : Vec F S256x512 .f32) (x4 : Vec F S256x128 .f32) (x5 : Vec F S256x128 .f32) (x6 : Vec F S4x128x128 .f32) (x7 : Vec F S4x128x128 .f32) (x8 : Vec F S4x128x128 .f32) (x9 : Vec F S4x128x128 .f32) (x10 : Vec F S4x1x128x128 .f32) (x11 : Vec F S256x512 .f32)  :
    out0_A_15 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 = View.canon [⟨Rect.unit ![0,384] ![256,128] inb_S256x512_S256x128_0_384, (inB3 x0 x1 x2 x3 x4 x5 x6 x7 x8 x9 x10 x11 k0_pay5).dg⟩,
      ⟨Rect.unit ![0,256] ![256,128] inb_S256x512_S256x128_0_256, (inB2 x0 x1 x2 x3 x4 x5 x6 x7 x8 x9 x10 x11 k0_pay5).dg⟩,
      ⟨Rect.unit ![0,128] ![256,128] inb_S256x512_S256x128_0_128, (inB1 x0 x1 x2 x3 x4 x5 x6 x7 x8 x9 x10 x11 k0_pay5).dg⟩,
      ⟨Rect.unit ![0,0] ![256,128] inb_S256x512_S256x128_0_0, (inB0 x0 x1 x2 x3 x4 x5 x6 x7 x8 x9 x10 x11 k0_pay5).dg⟩] := by
  frame_out
  refine congrArg View.canon (congrArg₂ List.cons (congrArg (Sigma.mk _) ?_) (congrArg₂ List.cons (congrArg (Sigma.mk _) ?_) (congrArg₂ List.cons (congrArg (Sigma.mk _) ?_) (congrArg₂ List.cons (congrArg (Sigma.mk _) ?_) (rfl)))))
  · unfold_payloads; simp only [inB3, In.sq, In.c', In.s', In.D1, In.S0, In.qr0, In.qr1, In.kr0, In.kr1, In.sc0, In.sc1, In.S1, In.o, In.dO, In.dsc0, In.dsc1, In.D0, In.dq, In.dk, In.dv, In.dg, In.ds, z0, zb, scb, lo, wlo, up, dn, cat, rl, tp, cRot, cKey, cScores, cOut, cState, cDscores, cDqr, cDkr, cDval, cDstate, hRotT, hDz, hVar, hDvar, hDout, hZ, hDgate]
  · unfold_payloads; simp only [inB2, In.sq, In.c', In.s', In.D1, In.S0, In.qr0, In.qr1, In.kr0, In.kr1, In.sc0, In.sc1, In.S1, In.o, In.dO, In.dsc0, In.dsc1, In.D0, In.dq, In.dk, In.dv, In.dg, In.ds, z0, zb, scb, lo, wlo, up, dn, cat, rl, tp, cRot, cKey, cScores, cOut, cState, cDscores, cDqr, cDkr, cDval, cDstate, hRotT, hDz, hVar, hDvar, hDout, hZ, hDgate]
  · unfold_payloads; simp only [inB1, In.sq, In.c', In.s', In.D1, In.S0, In.qr0, In.qr1, In.kr0, In.kr1, In.sc0, In.sc1, In.S1, In.o, In.dO, In.dsc0, In.dsc1, In.D0, In.dq, In.dk, In.dv, In.dg, In.ds, z0, zb, scb, lo, wlo, up, dn, cat, rl, tp, cRot, cKey, cScores, cOut, cState, cDscores, cDqr, cDkr, cDval, cDstate, hRotT, hDz, hVar, hDvar, hDout, hZ, hDgate]
  · unfold_payloads; simp only [inB0, In.sq, In.c', In.s', In.D1, In.S0, In.qr0, In.qr1, In.kr0, In.kr1, In.sc0, In.sc1, In.S1, In.o, In.dO, In.dsc0, In.dsc1, In.D0, In.dq, In.dk, In.dv, In.dg, In.ds, z0, zb, scb, lo, wlo, up, dn, cat, rl, tp, cRot, cKey, cScores, cOut, cState, cDscores, cDqr, cDkr, cDval, cDstate, hRotT, hDz, hVar, hDvar, hDout, hZ, hDgate]

set_option maxHeartbeats 1000000 in
/-- The stores of the state's cotangent, head by head. -/
theorem sout0_A_0_eq (c : Dev nD) (i : grid0.Coords) (arg1 : Memref sig .tc .vmem S256x512 .f32) (harg1 : arg1.IsWhole) (arg2 : Memref sig .tc .vmem S256x512 .f32) (harg2 : arg2.IsWhole) (arg3 : Memref sig .tc .vmem S256x512 .f32) (harg3 : arg3.IsWhole) (arg4 : Memref sig .tc .vmem S256x512 .f32) (harg4 : arg4.IsWhole) (arg5 : Memref sig .tc .vmem S256x128 .f32) (harg5 : arg5.IsWhole) (arg6 : Memref sig .tc .vmem S256x128 .f32) (harg6 : arg6.IsWhole) (arg7 : Memref sig .tc .vmem S4x128x128 .f32) (harg7 : arg7.IsWhole) (arg8 : Memref sig .tc .vmem S4x128x128 .f32) (harg8 : arg8.IsWhole) (arg9 : Memref sig .tc .vmem S4x128x128 .f32) (harg9 : arg9.IsWhole) (arg10 : Memref sig .tc .vmem S4x128x128 .f32) (harg10 : arg10.IsWhole) (arg11 : Memref sig .tc .vmem S4x1x128x128 .f32) (harg11 : arg11.IsWhole) (arg12 : Memref sig .tc .vmem S256x512 .f32) (harg12 : arg12.IsWhole) (arg13 : Memref sig .tc .vmem S256x512 .bf16) (harg13 : arg13.IsWhole) (arg14 : Memref sig .tc .vmem S256x512 .bf16) (harg14 : arg14.IsWhole) (arg15 : Memref sig .tc .vmem S256x512 .bf16) (harg15 : arg15.IsWhole) (arg16 : Memref sig .tc .vmem S256x512 .bf16) (harg16 : arg16.IsWhole) (arg17 : Memref sig .tc .vmem S4x128x128 .f32) (harg17 : arg17.IsWhole) (hc0 : cond0_0 i)
    (x0 : Vec F S256x512 .f32) (x1 : Vec F S256x512 .f32) (x2 : Vec F S256x512 .f32) (x3 : Vec F S256x512 .f32) (x4 : Vec F S256x128 .f32) (x5 : Vec F S256x128 .f32) (x6 : Vec F S4x128x128 .f32) (x7 : Vec F S4x128x128 .f32) (x8 : Vec F S4x128x128 .f32) (x9 : Vec F S4x128x128 .f32) (x10 : Vec F S4x1x128x128 .f32) (x11 : Vec F S256x512 .f32)  :
    sout0_A_0 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 = View.canon [⟨Rect.unit ![3,0,0] ![1,128,128] inb_S4x128x128_S1x128x128_3_0_0, (inB3 x0 x1 x2 x3 x4 x5 x6 x7 x8 x9 x10 x11 k0_pay5).ds⟩,
      ⟨Rect.unit ![2,0,0] ![1,128,128] inb_S4x128x128_S1x128x128_2_0_0, (inB2 x0 x1 x2 x3 x4 x5 x6 x7 x8 x9 x10 x11 k0_pay5).ds⟩,
      ⟨Rect.unit ![1,0,0] ![1,128,128] inb_S4x128x128_S1x128x128_1_0_0, (inB1 x0 x1 x2 x3 x4 x5 x6 x7 x8 x9 x10 x11 k0_pay5).ds⟩,
      ⟨Rect.unit ![0,0,0] ![1,128,128] inb_S4x128x128_S1x128x128_0_0_0, (inB0 x0 x1 x2 x3 x4 x5 x6 x7 x8 x9 x10 x11 k0_pay5).ds⟩, ⟨Rect.unit ![0,0,0] S4x128x128.size inb_S4x128x128_S4x128x128_0_0_0, k0_pay5⟩] := by
  frame_out
  simp (disch := decide) only [readCov_ld, View.canon_cons_unit_lit']
  refine congrArg View.canon (congrArg₂ List.cons (congrArg (Sigma.mk _) ?_) (congrArg₂ List.cons (congrArg (Sigma.mk _) ?_) (congrArg₂ List.cons (congrArg (Sigma.mk _) ?_) (congrArg₂ List.cons (congrArg (Sigma.mk _) ?_) (rfl)))))
  · unfold_payloads; simp only [inB3, In.sq, In.c', In.s', In.D1, In.S0, In.qr0, In.qr1, In.kr0, In.kr1, In.sc0, In.sc1, In.S1, In.o, In.dO, In.dsc0, In.dsc1, In.D0, In.dq, In.dk, In.dv, In.dg, In.ds, z0, zb, scb, lo, wlo, up, dn, cat, rl, tp, cRot, cKey, cScores, cOut, cState, cDscores, cDqr, cDkr, cDval, cDstate, hRotT, hDz, hVar, hDvar, hDout, hZ, hDgate]
  · unfold_payloads; simp only [inB2, In.sq, In.c', In.s', In.D1, In.S0, In.qr0, In.qr1, In.kr0, In.kr1, In.sc0, In.sc1, In.S1, In.o, In.dO, In.dsc0, In.dsc1, In.D0, In.dq, In.dk, In.dv, In.dg, In.ds, z0, zb, scb, lo, wlo, up, dn, cat, rl, tp, cRot, cKey, cScores, cOut, cState, cDscores, cDqr, cDkr, cDval, cDstate, hRotT, hDz, hVar, hDvar, hDout, hZ, hDgate]
  · unfold_payloads; simp only [inB1, In.sq, In.c', In.s', In.D1, In.S0, In.qr0, In.qr1, In.kr0, In.kr1, In.sc0, In.sc1, In.S1, In.o, In.dO, In.dsc0, In.dsc1, In.D0, In.dq, In.dk, In.dv, In.dg, In.ds, z0, zb, scb, lo, wlo, up, dn, cat, rl, tp, cRot, cKey, cScores, cOut, cState, cDscores, cDqr, cDkr, cDval, cDstate, hRotT, hDz, hVar, hDvar, hDout, hZ, hDgate]
  · unfold_payloads; simp only [inB0, In.sq, In.c', In.s', In.D1, In.S0, In.qr0, In.qr1, In.kr0, In.kr1, In.sc0, In.sc1, In.S1, In.o, In.dO, In.dsc0, In.dsc1, In.D0, In.dq, In.dk, In.dv, In.dg, In.ds, z0, zb, scb, lo, wlo, up, dn, cat, rl, tp, cRot, cKey, cScores, cOut, cState, cDscores, cDqr, cDkr, cDval, cDstate, hRotT, hDz, hVar, hDvar, hDout, hZ, hDgate]

end Cert.KernelIdeal.Gen
end
-- ==== Proof.StoresB.lean ====
module

public import proofs.«01_k».proof.Proof.Loads
public import proofs.«01_k».proof.Proof.Gen.KernelIdeal.Value
public import Idealize.ShloMosaic.Lib.Pipeline.ValueKit
@[expose] public section
set_option maxRecDepth 16384

/-! What a grid point stores, head by head: a later point. -/

noncomputable section
namespace Cert.KernelIdeal.Gen
open Idealize.ShloMosaic Idealize.ShloMosaic.TcCoe Idealize.ShloMosaic.Tactic
open Cert.Ret
variable {F : FTy → Type} [FloatOps F]

set_option maxHeartbeats 1000000 in
/-- The stores of the query's cotangent, head by head. -/
theorem out0_B_12_eq (c : Dev nD) (i : grid0.Coords) (arg1 : Memref sig .tc .vmem S256x512 .f32) (harg1 : arg1.IsWhole) (arg2 : Memref sig .tc .vmem S256x512 .f32) (harg2 : arg2.IsWhole) (arg3 : Memref sig .tc .vmem S256x512 .f32) (harg3 : arg3.IsWhole) (arg4 : Memref sig .tc .vmem S256x512 .f32) (harg4 : arg4.IsWhole) (arg5 : Memref sig .tc .vmem S256x128 .f32) (harg5 : arg5.IsWhole) (arg6 : Memref sig .tc .vmem S256x128 .f32) (harg6 : arg6.IsWhole) (arg7 : Memref sig .tc .vmem S4x128x128 .f32) (harg7 : arg7.IsWhole) (arg8 : Memref sig .tc .vmem S4x128x128 .f32) (harg8 : arg8.IsWhole) (arg9 : Memref sig .tc .vmem S4x128x128 .f32) (harg9 : arg9.IsWhole) (arg10 : Memref sig .tc .vmem S4x128x128 .f32) (harg10 : arg10.IsWhole) (arg11 : Memref sig .tc .vmem S4x1x128x128 .f32) (harg11 : arg11.IsWhole) (arg12 : Memref sig .tc .vmem S256x512 .f32) (harg12 : arg12.IsWhole) (arg13 : Memref sig .tc .vmem S256x512 .bf16) (harg13 : arg13.IsWhole) (arg14 : Memref sig .tc .vmem S256x512 .bf16) (harg14 : arg14.IsWhole) (arg15 : Memref sig .tc .vmem S256x512 .bf16) (harg15 : arg15.IsWhole) (arg16 : Memref sig .tc .vmem S256x512 .bf16) (harg16 : arg16.IsWhole) (arg17 : Memref sig .tc .vmem S4x128x128 .f32) (harg17 : arg17.IsWhole) (hc0 : ¬cond0_0 i)
    (x0 : Vec F S256x512 .f32) (x1 : Vec F S256x512 .f32) (x2 : Vec F S256x512 .f32) (x3 : Vec F S256x512 .f32) (x4 : Vec F S256x128 .f32) (x5 : Vec F S256x128 .f32) (x6 : Vec F S4x128x128 .f32) (x7 : Vec F S4x128x128 .f32) (x8 : Vec F S4x128x128 .f32) (x9 : Vec F S4x128x128 .f32) (x10 : Vec F S4x1x128x128 .f32) (x11 : Vec F S256x512 .f32) (xs0 : Vec F S4x128x128 .f32)  :
    out0_B_12 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 xs0 = View.canon [⟨Rect.unit ![0,384] ![256,128] inb_S256x512_S256x128_0_384, (inB3 x0 x1 x2 x3 x4 x5 x6 x7 x8 x9 x10 x11 xs0).dq⟩,
      ⟨Rect.unit ![0,256] ![256,128] inb_S256x512_S256x128_0_256, (inB2 x0 x1 x2 x3 x4 x5 x6 x7 x8 x9 x10 x11 xs0).dq⟩,
      ⟨Rect.unit ![0,128] ![256,128] inb_S256x512_S256x128_0_128, (inB1 x0 x1 x2 x3 x4 x5 x6 x7 x8 x9 x10 x11 xs0).dq⟩,
      ⟨Rect.unit ![0,0] ![256,128] inb_S256x512_S256x128_0_0, (inB0 x0 x1 x2 x3 x4 x5 x6 x7 x8 x9 x10 x11 xs0).dq⟩] := by
  frame_out
  refine congrArg View.canon (congrArg₂ List.cons (congrArg (Sigma.mk _) ?_) (congrArg₂ List.cons (congrArg (Sigma.mk _) ?_) (congrArg₂ List.cons (congrArg (Sigma.mk _) ?_) (congrArg₂ List.cons (congrArg (Sigma.mk _) ?_) (rfl)))))
  · unfold_payloads; simp only [inB3, In.sq, In.c', In.s', In.D1, In.S0, In.qr0, In.qr1, In.kr0, In.kr1, In.sc0, In.sc1, In.S1, In.o, In.dO, In.dsc0, In.dsc1, In.D0, In.dq, In.dk, In.dv, In.dg, In.ds, z0, zb, scb, lo, wlo, up, dn, cat, rl, tp, cRot, cKey, cScores, cOut, cState, cDscores, cDqr, cDkr, cDval, cDstate, hRotT, hDz, hVar, hDvar, hDout, hZ, hDgate]
  · unfold_payloads; simp only [inB2, In.sq, In.c', In.s', In.D1, In.S0, In.qr0, In.qr1, In.kr0, In.kr1, In.sc0, In.sc1, In.S1, In.o, In.dO, In.dsc0, In.dsc1, In.D0, In.dq, In.dk, In.dv, In.dg, In.ds, z0, zb, scb, lo, wlo, up, dn, cat, rl, tp, cRot, cKey, cScores, cOut, cState, cDscores, cDqr, cDkr, cDval, cDstate, hRotT, hDz, hVar, hDvar, hDout, hZ, hDgate]
  · unfold_payloads; simp only [inB1, In.sq, In.c', In.s', In.D1, In.S0, In.qr0, In.qr1, In.kr0, In.kr1, In.sc0, In.sc1, In.S1, In.o, In.dO, In.dsc0, In.dsc1, In.D0, In.dq, In.dk, In.dv, In.dg, In.ds, z0, zb, scb, lo, wlo, up, dn, cat, rl, tp, cRot, cKey, cScores, cOut, cState, cDscores, cDqr, cDkr, cDval, cDstate, hRotT, hDz, hVar, hDvar, hDout, hZ, hDgate]
  · unfold_payloads; simp only [inB0, In.sq, In.c', In.s', In.D1, In.S0, In.qr0, In.qr1, In.kr0, In.kr1, In.sc0, In.sc1, In.S1, In.o, In.dO, In.dsc0, In.dsc1, In.D0, In.dq, In.dk, In.dv, In.dg, In.ds, z0, zb, scb, lo, wlo, up, dn, cat, rl, tp, cRot, cKey, cScores, cOut, cState, cDscores, cDqr, cDkr, cDval, cDstate, hRotT, hDz, hVar, hDvar, hDout, hZ, hDgate]

set_option maxHeartbeats 1000000 in
/-- The stores of the key's cotangent, head by head. -/
theorem out0_B_13_eq (c : Dev nD) (i : grid0.Coords) (arg1 : Memref sig .tc .vmem S256x512 .f32) (harg1 : arg1.IsWhole) (arg2 : Memref sig .tc .vmem S256x512 .f32) (harg2 : arg2.IsWhole) (arg3 : Memref sig .tc .vmem S256x512 .f32) (harg3 : arg3.IsWhole) (arg4 : Memref sig .tc .vmem S256x512 .f32) (harg4 : arg4.IsWhole) (arg5 : Memref sig .tc .vmem S256x128 .f32) (harg5 : arg5.IsWhole) (arg6 : Memref sig .tc .vmem S256x128 .f32) (harg6 : arg6.IsWhole) (arg7 : Memref sig .tc .vmem S4x128x128 .f32) (harg7 : arg7.IsWhole) (arg8 : Memref sig .tc .vmem S4x128x128 .f32) (harg8 : arg8.IsWhole) (arg9 : Memref sig .tc .vmem S4x128x128 .f32) (harg9 : arg9.IsWhole) (arg10 : Memref sig .tc .vmem S4x128x128 .f32) (harg10 : arg10.IsWhole) (arg11 : Memref sig .tc .vmem S4x1x128x128 .f32) (harg11 : arg11.IsWhole) (arg12 : Memref sig .tc .vmem S256x512 .f32) (harg12 : arg12.IsWhole) (arg13 : Memref sig .tc .vmem S256x512 .bf16) (harg13 : arg13.IsWhole) (arg14 : Memref sig .tc .vmem S256x512 .bf16) (harg14 : arg14.IsWhole) (arg15 : Memref sig .tc .vmem S256x512 .bf16) (harg15 : arg15.IsWhole) (arg16 : Memref sig .tc .vmem S256x512 .bf16) (harg16 : arg16.IsWhole) (arg17 : Memref sig .tc .vmem S4x128x128 .f32) (harg17 : arg17.IsWhole) (hc0 : ¬cond0_0 i)
    (x0 : Vec F S256x512 .f32) (x1 : Vec F S256x512 .f32) (x2 : Vec F S256x512 .f32) (x3 : Vec F S256x512 .f32) (x4 : Vec F S256x128 .f32) (x5 : Vec F S256x128 .f32) (x6 : Vec F S4x128x128 .f32) (x7 : Vec F S4x128x128 .f32) (x8 : Vec F S4x128x128 .f32) (x9 : Vec F S4x128x128 .f32) (x10 : Vec F S4x1x128x128 .f32) (x11 : Vec F S256x512 .f32) (xs0 : Vec F S4x128x128 .f32)  :
    out0_B_13 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 xs0 = View.canon [⟨Rect.unit ![0,384] ![256,128] inb_S256x512_S256x128_0_384, (inB3 x0 x1 x2 x3 x4 x5 x6 x7 x8 x9 x10 x11 xs0).dk⟩,
      ⟨Rect.unit ![0,256] ![256,128] inb_S256x512_S256x128_0_256, (inB2 x0 x1 x2 x3 x4 x5 x6 x7 x8 x9 x10 x11 xs0).dk⟩,
      ⟨Rect.unit ![0,128] ![256,128] inb_S256x512_S256x128_0_128, (inB1 x0 x1 x2 x3 x4 x5 x6 x7 x8 x9 x10 x11 xs0).dk⟩,
      ⟨Rect.unit ![0,0] ![256,128] inb_S256x512_S256x128_0_0, (inB0 x0 x1 x2 x3 x4 x5 x6 x7 x8 x9 x10 x11 xs0).dk⟩] := by
  frame_out
  refine congrArg View.canon (congrArg₂ List.cons (congrArg (Sigma.mk _) ?_) (congrArg₂ List.cons (congrArg (Sigma.mk _) ?_) (congrArg₂ List.cons (congrArg (Sigma.mk _) ?_) (congrArg₂ List.cons (congrArg (Sigma.mk _) ?_) (rfl)))))
  · unfold_payloads; simp only [inB3, In.sq, In.c', In.s', In.D1, In.S0, In.qr0, In.qr1, In.kr0, In.kr1, In.sc0, In.sc1, In.S1, In.o, In.dO, In.dsc0, In.dsc1, In.D0, In.dq, In.dk, In.dv, In.dg, In.ds, z0, zb, scb, lo, wlo, up, dn, cat, rl, tp, cRot, cKey, cScores, cOut, cState, cDscores, cDqr, cDkr, cDval, cDstate, hRotT, hDz, hVar, hDvar, hDout, hZ, hDgate]
  · unfold_payloads; simp only [inB2, In.sq, In.c', In.s', In.D1, In.S0, In.qr0, In.qr1, In.kr0, In.kr1, In.sc0, In.sc1, In.S1, In.o, In.dO, In.dsc0, In.dsc1, In.D0, In.dq, In.dk, In.dv, In.dg, In.ds, z0, zb, scb, lo, wlo, up, dn, cat, rl, tp, cRot, cKey, cScores, cOut, cState, cDscores, cDqr, cDkr, cDval, cDstate, hRotT, hDz, hVar, hDvar, hDout, hZ, hDgate]
  · unfold_payloads; simp only [inB1, In.sq, In.c', In.s', In.D1, In.S0, In.qr0, In.qr1, In.kr0, In.kr1, In.sc0, In.sc1, In.S1, In.o, In.dO, In.dsc0, In.dsc1, In.D0, In.dq, In.dk, In.dv, In.dg, In.ds, z0, zb, scb, lo, wlo, up, dn, cat, rl, tp, cRot, cKey, cScores, cOut, cState, cDscores, cDqr, cDkr, cDval, cDstate, hRotT, hDz, hVar, hDvar, hDout, hZ, hDgate]
  · unfold_payloads; simp only [inB0, In.sq, In.c', In.s', In.D1, In.S0, In.qr0, In.qr1, In.kr0, In.kr1, In.sc0, In.sc1, In.S1, In.o, In.dO, In.dsc0, In.dsc1, In.D0, In.dq, In.dk, In.dv, In.dg, In.ds, z0, zb, scb, lo, wlo, up, dn, cat, rl, tp, cRot, cKey, cScores, cOut, cState, cDscores, cDqr, cDkr, cDval, cDstate, hRotT, hDz, hVar, hDvar, hDout, hZ, hDgate]

set_option maxHeartbeats 1000000 in
/-- The stores of the value's cotangent, head by head. -/
theorem out0_B_14_eq (c : Dev nD) (i : grid0.Coords) (arg1 : Memref sig .tc .vmem S256x512 .f32) (harg1 : arg1.IsWhole) (arg2 : Memref sig .tc .vmem S256x512 .f32) (harg2 : arg2.IsWhole) (arg3 : Memref sig .tc .vmem S256x512 .f32) (harg3 : arg3.IsWhole) (arg4 : Memref sig .tc .vmem S256x512 .f32) (harg4 : arg4.IsWhole) (arg5 : Memref sig .tc .vmem S256x128 .f32) (harg5 : arg5.IsWhole) (arg6 : Memref sig .tc .vmem S256x128 .f32) (harg6 : arg6.IsWhole) (arg7 : Memref sig .tc .vmem S4x128x128 .f32) (harg7 : arg7.IsWhole) (arg8 : Memref sig .tc .vmem S4x128x128 .f32) (harg8 : arg8.IsWhole) (arg9 : Memref sig .tc .vmem S4x128x128 .f32) (harg9 : arg9.IsWhole) (arg10 : Memref sig .tc .vmem S4x128x128 .f32) (harg10 : arg10.IsWhole) (arg11 : Memref sig .tc .vmem S4x1x128x128 .f32) (harg11 : arg11.IsWhole) (arg12 : Memref sig .tc .vmem S256x512 .f32) (harg12 : arg12.IsWhole) (arg13 : Memref sig .tc .vmem S256x512 .bf16) (harg13 : arg13.IsWhole) (arg14 : Memref sig .tc .vmem S256x512 .bf16) (harg14 : arg14.IsWhole) (arg15 : Memref sig .tc .vmem S256x512 .bf16) (harg15 : arg15.IsWhole) (arg16 : Memref sig .tc .vmem S256x512 .bf16) (harg16 : arg16.IsWhole) (arg17 : Memref sig .tc .vmem S4x128x128 .f32) (harg17 : arg17.IsWhole) (hc0 : ¬cond0_0 i)
    (x0 : Vec F S256x512 .f32) (x1 : Vec F S256x512 .f32) (x2 : Vec F S256x512 .f32) (x3 : Vec F S256x512 .f32) (x4 : Vec F S256x128 .f32) (x5 : Vec F S256x128 .f32) (x6 : Vec F S4x128x128 .f32) (x7 : Vec F S4x128x128 .f32) (x8 : Vec F S4x128x128 .f32) (x9 : Vec F S4x128x128 .f32) (x10 : Vec F S4x1x128x128 .f32) (x11 : Vec F S256x512 .f32) (xs0 : Vec F S4x128x128 .f32)  :
    out0_B_14 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 xs0 = View.canon [⟨Rect.unit ![0,384] ![256,128] inb_S256x512_S256x128_0_384, (inB3 x0 x1 x2 x3 x4 x5 x6 x7 x8 x9 x10 x11 xs0).dv⟩,
      ⟨Rect.unit ![0,256] ![256,128] inb_S256x512_S256x128_0_256, (inB2 x0 x1 x2 x3 x4 x5 x6 x7 x8 x9 x10 x11 xs0).dv⟩,
      ⟨Rect.unit ![0,128] ![256,128] inb_S256x512_S256x128_0_128, (inB1 x0 x1 x2 x3 x4 x5 x6 x7 x8 x9 x10 x11 xs0).dv⟩,
      ⟨Rect.unit ![0,0] ![256,128] inb_S256x512_S256x128_0_0, (inB0 x0 x1 x2 x3 x4 x5 x6 x7 x8 x9 x10 x11 xs0).dv⟩] := by
  frame_out
  refine congrArg View.canon (congrArg₂ List.cons (congrArg (Sigma.mk _) ?_) (congrArg₂ List.cons (congrArg (Sigma.mk _) ?_) (congrArg₂ List.cons (congrArg (Sigma.mk _) ?_) (congrArg₂ List.cons (congrArg (Sigma.mk _) ?_) (rfl)))))
  · unfold_payloads; simp only [inB3, In.sq, In.c', In.s', In.D1, In.S0, In.qr0, In.qr1, In.kr0, In.kr1, In.sc0, In.sc1, In.S1, In.o, In.dO, In.dsc0, In.dsc1, In.D0, In.dq, In.dk, In.dv, In.dg, In.ds, z0, zb, scb, lo, wlo, up, dn, cat, rl, tp, cRot, cKey, cScores, cOut, cState, cDscores, cDqr, cDkr, cDval, cDstate, hRotT, hDz, hVar, hDvar, hDout, hZ, hDgate]
  · unfold_payloads; simp only [inB2, In.sq, In.c', In.s', In.D1, In.S0, In.qr0, In.qr1, In.kr0, In.kr1, In.sc0, In.sc1, In.S1, In.o, In.dO, In.dsc0, In.dsc1, In.D0, In.dq, In.dk, In.dv, In.dg, In.ds, z0, zb, scb, lo, wlo, up, dn, cat, rl, tp, cRot, cKey, cScores, cOut, cState, cDscores, cDqr, cDkr, cDval, cDstate, hRotT, hDz, hVar, hDvar, hDout, hZ, hDgate]
  · unfold_payloads; simp only [inB1, In.sq, In.c', In.s', In.D1, In.S0, In.qr0, In.qr1, In.kr0, In.kr1, In.sc0, In.sc1, In.S1, In.o, In.dO, In.dsc0, In.dsc1, In.D0, In.dq, In.dk, In.dv, In.dg, In.ds, z0, zb, scb, lo, wlo, up, dn, cat, rl, tp, cRot, cKey, cScores, cOut, cState, cDscores, cDqr, cDkr, cDval, cDstate, hRotT, hDz, hVar, hDvar, hDout, hZ, hDgate]
  · unfold_payloads; simp only [inB0, In.sq, In.c', In.s', In.D1, In.S0, In.qr0, In.qr1, In.kr0, In.kr1, In.sc0, In.sc1, In.S1, In.o, In.dO, In.dsc0, In.dsc1, In.D0, In.dq, In.dk, In.dv, In.dg, In.ds, z0, zb, scb, lo, wlo, up, dn, cat, rl, tp, cRot, cKey, cScores, cOut, cState, cDscores, cDqr, cDkr, cDval, cDstate, hRotT, hDz, hVar, hDvar, hDout, hZ, hDgate]

set_option maxHeartbeats 1000000 in
/-- The stores of the gate's cotangent, head by head. -/
theorem out0_B_15_eq (c : Dev nD) (i : grid0.Coords) (arg1 : Memref sig .tc .vmem S256x512 .f32) (harg1 : arg1.IsWhole) (arg2 : Memref sig .tc .vmem S256x512 .f32) (harg2 : arg2.IsWhole) (arg3 : Memref sig .tc .vmem S256x512 .f32) (harg3 : arg3.IsWhole) (arg4 : Memref sig .tc .vmem S256x512 .f32) (harg4 : arg4.IsWhole) (arg5 : Memref sig .tc .vmem S256x128 .f32) (harg5 : arg5.IsWhole) (arg6 : Memref sig .tc .vmem S256x128 .f32) (harg6 : arg6.IsWhole) (arg7 : Memref sig .tc .vmem S4x128x128 .f32) (harg7 : arg7.IsWhole) (arg8 : Memref sig .tc .vmem S4x128x128 .f32) (harg8 : arg8.IsWhole) (arg9 : Memref sig .tc .vmem S4x128x128 .f32) (harg9 : arg9.IsWhole) (arg10 : Memref sig .tc .vmem S4x128x128 .f32) (harg10 : arg10.IsWhole) (arg11 : Memref sig .tc .vmem S4x1x128x128 .f32) (harg11 : arg11.IsWhole) (arg12 : Memref sig .tc .vmem S256x512 .f32) (harg12 : arg12.IsWhole) (arg13 : Memref sig .tc .vmem S256x512 .bf16) (harg13 : arg13.IsWhole) (arg14 : Memref sig .tc .vmem S256x512 .bf16) (harg14 : arg14.IsWhole) (arg15 : Memref sig .tc .vmem S256x512 .bf16) (harg15 : arg15.IsWhole) (arg16 : Memref sig .tc .vmem S256x512 .bf16) (harg16 : arg16.IsWhole) (arg17 : Memref sig .tc .vmem S4x128x128 .f32) (harg17 : arg17.IsWhole) (hc0 : ¬cond0_0 i)
    (x0 : Vec F S256x512 .f32) (x1 : Vec F S256x512 .f32) (x2 : Vec F S256x512 .f32) (x3 : Vec F S256x512 .f32) (x4 : Vec F S256x128 .f32) (x5 : Vec F S256x128 .f32) (x6 : Vec F S4x128x128 .f32) (x7 : Vec F S4x128x128 .f32) (x8 : Vec F S4x128x128 .f32) (x9 : Vec F S4x128x128 .f32) (x10 : Vec F S4x1x128x128 .f32) (x11 : Vec F S256x512 .f32) (xs0 : Vec F S4x128x128 .f32)  :
    out0_B_15 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 xs0 = View.canon [⟨Rect.unit ![0,384] ![256,128] inb_S256x512_S256x128_0_384, (inB3 x0 x1 x2 x3 x4 x5 x6 x7 x8 x9 x10 x11 xs0).dg⟩,
      ⟨Rect.unit ![0,256] ![256,128] inb_S256x512_S256x128_0_256, (inB2 x0 x1 x2 x3 x4 x5 x6 x7 x8 x9 x10 x11 xs0).dg⟩,
      ⟨Rect.unit ![0,128] ![256,128] inb_S256x512_S256x128_0_128, (inB1 x0 x1 x2 x3 x4 x5 x6 x7 x8 x9 x10 x11 xs0).dg⟩,
      ⟨Rect.unit ![0,0] ![256,128] inb_S256x512_S256x128_0_0, (inB0 x0 x1 x2 x3 x4 x5 x6 x7 x8 x9 x10 x11 xs0).dg⟩] := by
  frame_out
  refine congrArg View.canon (congrArg₂ List.cons (congrArg (Sigma.mk _) ?_) (congrArg₂ List.cons (congrArg (Sigma.mk _) ?_) (congrArg₂ List.cons (congrArg (Sigma.mk _) ?_) (congrArg₂ List.cons (congrArg (Sigma.mk _) ?_) (rfl)))))
  · unfold_payloads; simp only [inB3, In.sq, In.c', In.s', In.D1, In.S0, In.qr0, In.qr1, In.kr0, In.kr1, In.sc0, In.sc1, In.S1, In.o, In.dO, In.dsc0, In.dsc1, In.D0, In.dq, In.dk, In.dv, In.dg, In.ds, z0, zb, scb, lo, wlo, up, dn, cat, rl, tp, cRot, cKey, cScores, cOut, cState, cDscores, cDqr, cDkr, cDval, cDstate, hRotT, hDz, hVar, hDvar, hDout, hZ, hDgate]
  · unfold_payloads; simp only [inB2, In.sq, In.c', In.s', In.D1, In.S0, In.qr0, In.qr1, In.kr0, In.kr1, In.sc0, In.sc1, In.S1, In.o, In.dO, In.dsc0, In.dsc1, In.D0, In.dq, In.dk, In.dv, In.dg, In.ds, z0, zb, scb, lo, wlo, up, dn, cat, rl, tp, cRot, cKey, cScores, cOut, cState, cDscores, cDqr, cDkr, cDval, cDstate, hRotT, hDz, hVar, hDvar, hDout, hZ, hDgate]
  · unfold_payloads; simp only [inB1, In.sq, In.c', In.s', In.D1, In.S0, In.qr0, In.qr1, In.kr0, In.kr1, In.sc0, In.sc1, In.S1, In.o, In.dO, In.dsc0, In.dsc1, In.D0, In.dq, In.dk, In.dv, In.dg, In.ds, z0, zb, scb, lo, wlo, up, dn, cat, rl, tp, cRot, cKey, cScores, cOut, cState, cDscores, cDqr, cDkr, cDval, cDstate, hRotT, hDz, hVar, hDvar, hDout, hZ, hDgate]
  · unfold_payloads; simp only [inB0, In.sq, In.c', In.s', In.D1, In.S0, In.qr0, In.qr1, In.kr0, In.kr1, In.sc0, In.sc1, In.S1, In.o, In.dO, In.dsc0, In.dsc1, In.D0, In.dq, In.dk, In.dv, In.dg, In.ds, z0, zb, scb, lo, wlo, up, dn, cat, rl, tp, cRot, cKey, cScores, cOut, cState, cDscores, cDqr, cDkr, cDval, cDstate, hRotT, hDz, hVar, hDvar, hDout, hZ, hDgate]

set_option maxHeartbeats 1000000 in
/-- The stores of the state's cotangent, head by head. -/
theorem sout0_B_0_eq (c : Dev nD) (i : grid0.Coords) (arg1 : Memref sig .tc .vmem S256x512 .f32) (harg1 : arg1.IsWhole) (arg2 : Memref sig .tc .vmem S256x512 .f32) (harg2 : arg2.IsWhole) (arg3 : Memref sig .tc .vmem S256x512 .f32) (harg3 : arg3.IsWhole) (arg4 : Memref sig .tc .vmem S256x512 .f32) (harg4 : arg4.IsWhole) (arg5 : Memref sig .tc .vmem S256x128 .f32) (harg5 : arg5.IsWhole) (arg6 : Memref sig .tc .vmem S256x128 .f32) (harg6 : arg6.IsWhole) (arg7 : Memref sig .tc .vmem S4x128x128 .f32) (harg7 : arg7.IsWhole) (arg8 : Memref sig .tc .vmem S4x128x128 .f32) (harg8 : arg8.IsWhole) (arg9 : Memref sig .tc .vmem S4x128x128 .f32) (harg9 : arg9.IsWhole) (arg10 : Memref sig .tc .vmem S4x128x128 .f32) (harg10 : arg10.IsWhole) (arg11 : Memref sig .tc .vmem S4x1x128x128 .f32) (harg11 : arg11.IsWhole) (arg12 : Memref sig .tc .vmem S256x512 .f32) (harg12 : arg12.IsWhole) (arg13 : Memref sig .tc .vmem S256x512 .bf16) (harg13 : arg13.IsWhole) (arg14 : Memref sig .tc .vmem S256x512 .bf16) (harg14 : arg14.IsWhole) (arg15 : Memref sig .tc .vmem S256x512 .bf16) (harg15 : arg15.IsWhole) (arg16 : Memref sig .tc .vmem S256x512 .bf16) (harg16 : arg16.IsWhole) (arg17 : Memref sig .tc .vmem S4x128x128 .f32) (harg17 : arg17.IsWhole) (hc0 : ¬cond0_0 i)
    (x0 : Vec F S256x512 .f32) (x1 : Vec F S256x512 .f32) (x2 : Vec F S256x512 .f32) (x3 : Vec F S256x512 .f32) (x4 : Vec F S256x128 .f32) (x5 : Vec F S256x128 .f32) (x6 : Vec F S4x128x128 .f32) (x7 : Vec F S4x128x128 .f32) (x8 : Vec F S4x128x128 .f32) (x9 : Vec F S4x128x128 .f32) (x10 : Vec F S4x1x128x128 .f32) (x11 : Vec F S256x512 .f32) (xs0 : Vec F S4x128x128 .f32)  :
    sout0_B_0 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 xs0 = View.canon [⟨Rect.unit ![3,0,0] ![1,128,128] inb_S4x128x128_S1x128x128_3_0_0, (inB3 x0 x1 x2 x3 x4 x5 x6 x7 x8 x9 x10 x11 xs0).ds⟩,
      ⟨Rect.unit ![2,0,0] ![1,128,128] inb_S4x128x128_S1x128x128_2_0_0, (inB2 x0 x1 x2 x3 x4 x5 x6 x7 x8 x9 x10 x11 xs0).ds⟩,
      ⟨Rect.unit ![1,0,0] ![1,128,128] inb_S4x128x128_S1x128x128_1_0_0, (inB1 x0 x1 x2 x3 x4 x5 x6 x7 x8 x9 x10 x11 xs0).ds⟩,
      ⟨Rect.unit ![0,0,0] ![1,128,128] inb_S4x128x128_S1x128x128_0_0_0, (inB0 x0 x1 x2 x3 x4 x5 x6 x7 x8 x9 x10 x11 xs0).ds⟩] := by
  frame_out
  refine congrArg View.canon (congrArg₂ List.cons (congrArg (Sigma.mk _) ?_) (congrArg₂ List.cons (congrArg (Sigma.mk _) ?_) (congrArg₂ List.cons (congrArg (Sigma.mk _) ?_) (congrArg₂ List.cons (congrArg (Sigma.mk _) ?_) (rfl)))))
  · unfold_payloads; simp only [inB3, In.sq, In.c', In.s', In.D1, In.S0, In.qr0, In.qr1, In.kr0, In.kr1, In.sc0, In.sc1, In.S1, In.o, In.dO, In.dsc0, In.dsc1, In.D0, In.dq, In.dk, In.dv, In.dg, In.ds, z0, zb, scb, lo, wlo, up, dn, cat, rl, tp, cRot, cKey, cScores, cOut, cState, cDscores, cDqr, cDkr, cDval, cDstate, hRotT, hDz, hVar, hDvar, hDout, hZ, hDgate]
  · unfold_payloads; simp only [inB2, In.sq, In.c', In.s', In.D1, In.S0, In.qr0, In.qr1, In.kr0, In.kr1, In.sc0, In.sc1, In.S1, In.o, In.dO, In.dsc0, In.dsc1, In.D0, In.dq, In.dk, In.dv, In.dg, In.ds, z0, zb, scb, lo, wlo, up, dn, cat, rl, tp, cRot, cKey, cScores, cOut, cState, cDscores, cDqr, cDkr, cDval, cDstate, hRotT, hDz, hVar, hDvar, hDout, hZ, hDgate]
  · unfold_payloads; simp only [inB1, In.sq, In.c', In.s', In.D1, In.S0, In.qr0, In.qr1, In.kr0, In.kr1, In.sc0, In.sc1, In.S1, In.o, In.dO, In.dsc0, In.dsc1, In.D0, In.dq, In.dk, In.dv, In.dg, In.ds, z0, zb, scb, lo, wlo, up, dn, cat, rl, tp, cRot, cKey, cScores, cOut, cState, cDscores, cDqr, cDkr, cDval, cDstate, hRotT, hDz, hVar, hDvar, hDout, hZ, hDgate]
  · unfold_payloads; simp only [inB0, In.sq, In.c', In.s', In.D1, In.S0, In.qr0, In.qr1, In.kr0, In.kr1, In.sc0, In.sc1, In.S1, In.o, In.dO, In.dsc0, In.dsc1, In.D0, In.dq, In.dk, In.dv, In.dg, In.ds, z0, zb, scb, lo, wlo, up, dn, cat, rl, tp, cRot, cKey, cScores, cOut, cState, cDscores, cDqr, cDkr, cDval, cDstate, hRotT, hDz, hVar, hDvar, hDout, hZ, hDgate]

end Cert.KernelIdeal.Gen
end
-- ==== Proof.Point.lean ====
module

public import proofs.«01_k».proof.Proof.StoresA
public import proofs.«01_k».proof.Proof.StoresB
public import Idealize.ShloMosaic.Lib.Pipeline.CanonAppend
@[expose] public section
set_option maxRecDepth 16384

/-! What a grid point leaves, from what its blocks hold. -/

noncomputable section
namespace Cert.KernelIdeal.Gen
open Idealize.ShloMosaic Idealize.ShloMosaic.TcCoe Idealize.ShloMosaic.Tactic
open Cert.Ret

/-- Row `i` of chunk `b` of a step, and column `d` of head `h`. -/
abbrev at2 (b : Fin 2) (i : Fin 128) (h : Fin 4) (d : Fin 128) : S256x512.Idx :=
  ix2 (⟨128 * b.val + i.val, by omega⟩ : Fin 256) (⟨128 * h.val + d.val, by omega⟩ : Fin 512)

/-- What the blocks of the grid point of chunks `n` and `n + 1` hold. -/
structure Blocks (x0 x1 x2 x3 : Vec Ideal S256x512 .f32) (x4 x5 : Vec Ideal S256x128 .f32)
    (x6 x7 x8 x9 : Vec Ideal S4x128x128 .f32) (x10 : Vec Ideal S4x1x128x128 .f32) (x11 : Vec Ideal S256x512 .f32)
    (xs0 : Vec Ideal S4x128x128 .f32) (I : Data) (n : ℕ) : Prop where
  q : ∀ b i h d, x0 (at2 b i h d) = I.q h (n + b) i d
  k : ∀ b i h d, x1 (at2 b i h d) = I.k h (n + b) i d
  v : ∀ b i h d, x2 (at2 b i h d) = I.v h (n + b) i d
  g : ∀ b i h d, x3 (at2 b i h d) = I.g h (n + b) i d
  c : ∀ (b : Fin 2) (i d : Fin 128), x4 (ix2 (⟨128 * b.val + i.val, by omega⟩ : Fin 256) d) = I.c (n + b) i d
  s : ∀ (b : Fin 2) (i d : Fin 128), x5 (ix2 (⟨128 * b.val + i.val, by omega⟩ : Fin 256) d) = I.s (n + b) i d
  dm : ∀ h i d, x6 (ix3 h i d) = I.dm h i d
  kt : ∀ h i d, x7 (ix3 h i d) = I.kt h i d
  qd : ∀ h i d, x8 (ix3 h i d) = I.qd h i d
  cd : ∀ h i d, x9 (ix3 h i d) = I.cd h i d
  S : ∀ h i d, x10 (ix4 h 0 i d) = I.S h n i d
  y : ∀ b i h d, x11 (at2 b i h d) = I.y h (n + b) i d
  D : ∀ h i d, xs0 (ix3 h i d) = I.D h (14 - n) i d

/-- A load of a head's columns, at an index. -/
theorem ld_cols (h : Fin 4) (x : Vec Ideal S256x512 .f32) (inb) (b : Fin 2) (i d : Fin 128) :
    View.ld x (Rect.unit (s := S256x512) ![0, 128 * h.val] S256x128.size inb) (ix2 (⟨128 * b.val + i.val, by omega⟩ : Fin 256) d)
      = x (at2 b i h d) := by
  refine congrArg x (funext fun a => Fin.ext ?_)
  match a with
  | 0 => show 0 + 1 * (128 * b.val + i.val) = _; simp [at2, ix2]
  | 1 => show 128 * h.val + 1 * d.val = _; simp [at2, ix2]
/-- A load of a head's plane, at an index. -/
theorem ld_plane (h : Fin 4) (x : Vec Ideal S4x128x128 .f32) (inb) (i d : Fin 128) :
    View.ld x (Rect.unit (s := S4x128x128) ![h.val, 0, 0] S1x128x128.size inb) (ix3 (0 : Fin 1) i d) = x (ix3 h i d) := by
  refine congrArg x (funext fun a => Fin.ext ?_)
  match a with
  | 0 => show h.val + 1 * 0 = _; simp [ix3]
  | 1 => show 0 + 1 * i.val = _; simp [ix3]
  | 2 => show 0 + 1 * d.val = _; simp [ix3]
/-- A load of a head's saved state, at an index. -/
theorem ld_state (h : Fin 4) (x : Vec Ideal S4x1x128x128 .f32) (inb) (i d : Fin 128) :
    View.ld x (Rect.unit (s := S4x1x128x128) ![h.val, 0, 0, 0] S1x1x128x128.size inb) (ix4 (0 : Fin 1) (0 : Fin 1) i d)
      = x (ix4 h (0 : Fin 1) i d) := by
  refine congrArg x (funext fun a => Fin.ext ?_)
  match a with
  | 0 => show h.val + 1 * 0 = _; simp [ix4]
  | 1 => show 0 + 1 * 0 = _; simp [ix4]
  | 2 => show 0 + 1 * i.val = _; simp [ix4]
  | 3 => show 0 + 1 * d.val = _; simp [ix4]

variable {x0 x1 x2 x3 : Vec Ideal S256x512 .f32} {x4 x5 : Vec Ideal S256x128 .f32}
    {x6 x7 x8 x9 : Vec Ideal S4x128x128 .f32} {x10 : Vec Ideal S4x1x128x128 .f32} {x11 : Vec Ideal S256x512 .f32}
    {xs0 : Vec Ideal S4x128x128 .f32} {I : Data} {n : ℕ}

/-- Head 0's loads hold its chunks. -/
theorem Blocks.reads0 (B : Blocks x0 x1 x2 x3 x4 x5 x6 x7 x8 x9 x10 x11 xs0 I n) :
    Reads (inB0 x0 x1 x2 x3 x4 x5 x6 x7 x8 x9 x10 x11 xs0) I 0 n where
  q0 := by funext i d; exact (ld_cols 0 x0 _ 0 i d).trans (B.q 0 i 0 d)
  q1 := by funext i d; exact (ld_cols 0 x0 _ 1 i d).trans (B.q 1 i 0 d)
  k0 := by funext i d; exact (ld_cols 0 x1 _ 0 i d).trans (B.k 0 i 0 d)
  k1 := by funext i d; exact (ld_cols 0 x1 _ 1 i d).trans (B.k 1 i 0 d)
  v0 := by funext i d; exact (ld_cols 0 x2 _ 0 i d).trans (B.v 0 i 0 d)
  v1 := by funext i d; exact (ld_cols 0 x2 _ 1 i d).trans (B.v 1 i 0 d)
  g := by intro b; funext i d; exact (ld_cols 0 x3 _ b i d).trans (B.g b i 0 d)
  y := by intro b; funext i d; exact (ld_cols 0 x11 _ b i d).trans (B.y b i 0 d)
  c0 := by funext i d; exact B.c 0 i d
  c1 := by funext i d; exact B.c 1 i d
  s0 := by funext i d; exact B.s 0 i d
  s1 := by funext i d; exact B.s 1 i d
  dm := by funext i d; exact (ld_plane 0 x6 _ i d).trans (B.dm 0 i d)
  kt := by funext i d; exact (ld_plane 0 x7 _ i d).trans (B.kt 0 i d)
  qd := by funext i d; exact (ld_plane 0 x8 _ i d).trans (B.qd 0 i d)
  cd := by funext i d; exact (ld_plane 0 x9 _ i d).trans (B.cd 0 i d)
  D := by funext i d; exact (ld_plane 0 xs0 _ i d).trans (B.D 0 i d)
  S := by funext i d; exact (ld_state 0 x10 _ i d).trans (B.S 0 i d)
/-- Head 1's loads hold its chunks. -/
theorem Blocks.reads1 (B : Blocks x0 x1 x2 x3 x4 x5 x6 x7 x8 x9 x10 x11 xs0 I n) :
    Reads (inB1 x0 x1 x2 x3 x4 x5 x6 x7 x8 x9 x10 x11 xs0) I 1 n where
  q0 := by funext i d; exact (ld_cols 1 x0 _ 0 i d).trans (B.q 0 i 1 d)
  q1 := by funext i d; exact (ld_cols 1 x0 _ 1 i d).trans (B.q 1 i 1 d)
  k0 := by funext i d; exact (ld_cols 1 x1 _ 0 i d).trans (B.k 0 i 1 d)
  k1 := by funext i d; exact (ld_cols 1 x1 _ 1 i d).trans (B.k 1 i 1 d)
  v0 := by funext i d; exact (ld_cols 1 x2 _ 0 i d).trans (B.v 0 i 1 d)
  v1 := by funext i d; exact (ld_cols 1 x2 _ 1 i d).trans (B.v 1 i 1 d)
  g := by intro b; funext i d; exact (ld_cols 1 x3 _ b i d).trans (B.g b i 1 d)
  y := by intro b; funext i d; exact (ld_cols 1 x11 _ b i d).trans (B.y b i 1 d)
  c0 := by funext i d; exact B.c 0 i d
  c1 := by funext i d; exact B.c 1 i d
  s0 := by funext i d; exact B.s 0 i d
  s1 := by funext i d; exact B.s 1 i d
  dm := by funext i d; exact (ld_plane 1 x6 _ i d).trans (B.dm 1 i d)
  kt := by funext i d; exact (ld_plane 1 x7 _ i d).trans (B.kt 1 i d)
  qd := by funext i d; exact (ld_plane 1 x8 _ i d).trans (B.qd 1 i d)
  cd := by funext i d; exact (ld_plane 1 x9 _ i d).trans (B.cd 1 i d)
  D := by funext i d; exact (ld_plane 1 xs0 _ i d).trans (B.D 1 i d)
  S := by funext i d; exact (ld_state 1 x10 _ i d).trans (B.S 1 i d)
/-- Head 2's loads hold its chunks. -/
theorem Blocks.reads2 (B : Blocks x0 x1 x2 x3 x4 x5 x6 x7 x8 x9 x10 x11 xs0 I n) :
    Reads (inB2 x0 x1 x2 x3 x4 x5 x6 x7 x8 x9 x10 x11 xs0) I 2 n where
  q0 := by funext i d; exact (ld_cols 2 x0 _ 0 i d).trans (B.q 0 i 2 d)
  q1 := by funext i d; exact (ld_cols 2 x0 _ 1 i d).trans (B.q 1 i 2 d)
  k0 := by funext i d; exact (ld_cols 2 x1 _ 0 i d).trans (B.k 0 i 2 d)
  k1 := by funext i d; exact (ld_cols 2 x1 _ 1 i d).trans (B.k 1 i 2 d)
  v0 := by funext i d; exact (ld_cols 2 x2 _ 0 i d).trans (B.v 0 i 2 d)
  v1 := by funext i d; exact (ld_cols 2 x2 _ 1 i d).trans (B.v 1 i 2 d)
  g := by intro b; funext i d; exact (ld_cols 2 x3 _ b i d).trans (B.g b i 2 d)
  y := by intro b; funext i d; exact (ld_cols 2 x11 _ b i d).trans (B.y b i 2 d)
  c0 := by funext i d; exact B.c 0 i d
  c1 := by funext i d; exact B.c 1 i d
  s0 := by funext i d; exact B.s 0 i d
  s1 := by funext i d; exact B.s 1 i d
  dm := by funext i d; exact (ld_plane 2 x6 _ i d).trans (B.dm 2 i d)
  kt := by funext i d; exact (ld_plane 2 x7 _ i d).trans (B.kt 2 i d)
  qd := by funext i d; exact (ld_plane 2 x8 _ i d).trans (B.qd 2 i d)
  cd := by funext i d; exact (ld_plane 2 x9 _ i d).trans (B.cd 2 i d)
  D := by funext i d; exact (ld_plane 2 xs0 _ i d).trans (B.D 2 i d)
  S := by funext i d; exact (ld_state 2 x10 _ i d).trans (B.S 2 i d)
/-- Head 3's loads hold its chunks. -/
theorem Blocks.reads3 (B : Blocks x0 x1 x2 x3 x4 x5 x6 x7 x8 x9 x10 x11 xs0 I n) :
    Reads (inB3 x0 x1 x2 x3 x4 x5 x6 x7 x8 x9 x10 x11 xs0) I 3 n where
  q0 := by funext i d; exact (ld_cols 3 x0 _ 0 i d).trans (B.q 0 i 3 d)
  q1 := by funext i d; exact (ld_cols 3 x0 _ 1 i d).trans (B.q 1 i 3 d)
  k0 := by funext i d; exact (ld_cols 3 x1 _ 0 i d).trans (B.k 0 i 3 d)
  k1 := by funext i d; exact (ld_cols 3 x1 _ 1 i d).trans (B.k 1 i 3 d)
  v0 := by funext i d; exact (ld_cols 3 x2 _ 0 i d).trans (B.v 0 i 3 d)
  v1 := by funext i d; exact (ld_cols 3 x2 _ 1 i d).trans (B.v 1 i 3 d)
  g := by intro b; funext i d; exact (ld_cols 3 x3 _ b i d).trans (B.g b i 3 d)
  y := by intro b; funext i d; exact (ld_cols 3 x11 _ b i d).trans (B.y b i 3 d)
  c0 := by funext i d; exact B.c 0 i d
  c1 := by funext i d; exact B.c 1 i d
  s0 := by funext i d; exact B.s 0 i d
  s1 := by funext i d; exact B.s 1 i d
  dm := by funext i d; exact (ld_plane 3 x6 _ i d).trans (B.dm 3 i d)
  kt := by funext i d; exact (ld_plane 3 x7 _ i d).trans (B.kt 3 i d)
  qd := by funext i d; exact (ld_plane 3 x8 _ i d).trans (B.qd 3 i d)
  cd := by funext i d; exact (ld_plane 3 x9 _ i d).trans (B.cd 3 i d)
  D := by funext i d; exact (ld_plane 3 xs0 _ i d).trans (B.D 3 i d)
  S := by funext i d; exact (ld_state 3 x10 _ i d).trans (B.S 3 i d)
/-- Four heads' stores into an output block. -/
theorem canon_cols (G0 G1 G2 G3 : FVec Ideal S256x128 .bf16) (f : Fin 4 → ℕ → M) (n : ℕ)
    (h0 : ∀ b : Fin 2, blk b G0 = f 0 (n + b)) (h1 : ∀ b : Fin 2, blk b G1 = f 1 (n + b))
    (h2 : ∀ b : Fin 2, blk b G2 = f 2 (n + b)) (h3 : ∀ b : Fin 2, blk b G3 = f 3 (n + b)) (b i h d) :
    View.canon (Val := Elt Ideal) (e := .bf16) [⟨Rect.unit (s := S256x512) ![0, 384] ![256, 128] inb_S256x512_S256x128_0_384, G3⟩,
      ⟨Rect.unit ![0, 256] ![256, 128] inb_S256x512_S256x128_0_256, G2⟩,
      ⟨Rect.unit ![0, 128] ![256, 128] inb_S256x512_S256x128_0_128, G1⟩,
      ⟨Rect.unit ![0, 0] ![256, 128] inb_S256x512_S256x128_0_0, G0⟩] (at2 b i h d) = f h (n + b) i d := by
  have key : ∀ (G : FVec Ideal S256x128 .bf16) (h' : Fin 4), (∀ b : Fin 2, blk b G = f h' (n + b)) →
      ∀ x : S256x128.Idx, (128 * b.val + i.val = (x 0).val) → (128 * h.val + d.val = 128 * h'.val + (x 1).val) →
      (x 1).val < 128 → G x = f h (n + b) i d := by
    intro G h' hG x e0 e1 e2
    obtain rfl : h = h' := Fin.ext (by omega)
    rw [← hG b]
    refine congrArg G (funext fun a => Fin.ext ?_)
    match a with
    | 0 => exact e0.symm
    | 1 => show (x 1).val = d.val; omega
  canon_tiles x hx
  · exact key G3 3 h3 x (by simpa [at2, ix2] using hx0) (by simpa [at2, ix2] using hx1) x1_lt
  · exact key G2 2 h2 x (by simpa [at2, ix2] using hx0) (by simpa [at2, ix2] using hx1) x1_lt
  · exact key G1 1 h1 x (by simpa [at2, ix2] using hx0) (by simpa [at2, ix2] using hx1) x1_lt
  · exact key G0 0 h0 x (by simpa [at2, ix2] using hx0) (by simpa [at2, ix2] using hx1) x1_lt

/-- Four heads' stores into the carried cotangent, over any earlier stores. -/
theorem canon_planes (G0 G1 G2 G3 : FVec Ideal S1x128x128 .f32) (T : List (View.Piece (Elt Ideal) S4x128x128 .f32)) (f : Fin 4 → M)
    (h0 : (fun i d => G0 (ix3 0 i d)) = f 0) (h1 : (fun i d => G1 (ix3 0 i d)) = f 1)
    (h2 : (fun i d => G2 (ix3 0 i d)) = f 2) (h3 : (fun i d => G3 (ix3 0 i d)) = f 3) (h i d) :
    View.canon (Val := Elt Ideal) (e := .f32) (⟨Rect.unit (s := S4x128x128) ![3, 0, 0] ![1, 128, 128] inb_S4x128x128_S1x128x128_3_0_0, G3⟩
      :: ⟨Rect.unit ![2, 0, 0] ![1, 128, 128] inb_S4x128x128_S1x128x128_2_0_0, G2⟩
      :: ⟨Rect.unit ![1, 0, 0] ![1, 128, 128] inb_S4x128x128_S1x128x128_1_0_0, G1⟩
      :: ⟨Rect.unit ![0, 0, 0] ![1, 128, 128] inb_S4x128x128_S1x128x128_0_0_0, G0⟩ :: T) (ix3 h i d) = f h i d := by
  have key : ∀ (G : FVec Ideal S1x128x128 .f32) (h' : Fin 4), (fun i d => G (ix3 0 i d)) = f h' → ∀ (inb) (x : S1x128x128.Idx),
      G x = (fun y : S4x128x128.Idx => f (y 0) (y 1) (y 2)) ((Rect.unit (s := S4x128x128) ![h'.val, 0, 0] ![1, 128, 128] inb).emb x) := by
    intro G h' e inb x
    idx_vars x
    obtain rfl : x0 = 0 := Subsingleton.elim _ _
    have e' : G (ix3 0 x1 x2) = f h' x1 x2 := congrFun (congrFun e x1) x2
    rw [e']
    have e0 : ((Rect.unit (s := S4x128x128) ![h'.val, 0, 0] ![1, 128, 128] inb).emb (ix3 0 x1 x2)) = ix3 h' x1 x2 := by
      funext a
      refine Fin.ext ?_
      match a with
      | 0 => show h'.val + 1 * 0 = _; simp [ix3]
      | 1 => show 0 + 1 * x1.val = _; simp [ix3]
      | 2 => show 0 + 1 * x2.val = _; simp [ix3]
    exact (congrArg (fun y : S4x128x128.Idx => f (y 0) (y 1) (y 2)) e0).symm
  refine View.canon_append_of_pieces (fun y : S4x128x128.Idx => f (y 0) (y 1) (y 2)) T
    [⟨Rect.unit (s := S4x128x128) ![3, 0, 0] ![1, 128, 128] inb_S4x128x128_S1x128x128_3_0_0, G3⟩,
      ⟨Rect.unit ![2, 0, 0] ![1, 128, 128] inb_S4x128x128_S1x128x128_2_0_0, G2⟩,
      ⟨Rect.unit ![1, 0, 0] ![1, 128, 128] inb_S4x128x128_S1x128x128_1_0_0, G1⟩,
      ⟨Rect.unit ![0, 0, 0] ![1, 128, 128] inb_S4x128x128_S1x128x128_0_0_0, G0⟩] ?_ _ ?_
  · intro p hp
    simp only [List.mem_cons, List.not_mem_nil, or_false] at hp
    rcases hp with rfl | rfl | rfl | rfl
    · exact key G3 3 h3 inb_S4x128x128_S1x128x128_3_0_0
    · exact key G2 2 h2 inb_S4x128x128_S1x128x128_2_0_0
    · exact key G1 1 h1 inb_S4x128x128_S1x128x128_1_0_0
    · exact key G0 0 h0 inb_S4x128x128_S1x128x128_0_0_0
  · exact View.cover_of_tiled_head _ _ _ (by rfl) (ix3 h i d)

end Cert.KernelIdeal.Gen
end
-- ==== Proof.Grid.lean ====
module

public import proofs.«01_k».proof.Proof.Point
@[expose] public section
set_option maxRecDepth 16384

/-! The carried cotangent over the grid, and the four results. -/

noncomputable section
namespace Cert.KernelIdeal.Gen
open Idealize.ShloMosaic Idealize.ShloMosaic.TcCoe Idealize.ShloMosaic.Tactic
open Idealize.ShloMosaic.Pipeline (Dat)
open Cert.Ret

variable (m : (ℓ : Loc nD τ sig) → Buf (Elt Ideal) ℓ) (c : Dev nD) (I : Data)

/-- The blocks of every grid point hold the data's chunks, once the carried cotangent does. -/
def Holds : Prop := ∀ (t : Fin cfg0.N) (xs : Vec Ideal S4x128x128 .f32), (∀ h i d, xs (ix3 h i d) = I.D h (14 - (14 - 2 * t.val)) i d) →
  Blocks (iblk m c 0 t) (iblk m c 1 t) (iblk m c 2 t) (iblk m c 3 t) (iblk m c 4 t) (iblk m c 5 t) (iblk m c 6 t) (iblk m c 7 t)
    (iblk m c 8 t) (iblk m c 9 t) (iblk m c 10 t) (iblk m c 11 t) xs I (14 - 2 * t.val)

variable {m c I}

theorem pay5_at (h i d) : (k0_pay5 (F := Ideal)) (ix3 h i d) = 0 := by
  pointwise! [k0_pay5]

/-- The zero that the first point stores is the cotangent after the last chunk. -/
theorem zero_holds (t : Fin cfg0.N) (h0 : t.val % 8 = 0) (h i d) :
    (k0_pay5 (F := Ideal)) (ix3 h i d) = I.D h (14 - (14 - 2 * t.val)) i d := by
  have hN : t.val < 8 := lt_of_lt_of_eq t.isLt (show cfg0.N = 8 from N_0)
  rw [pay5_at, show 14 - (14 - 2 * t.val) = 0 by omega]; rfl

/-- After grid point `t` the carried cotangent is that of the state before the point's chunks. -/
theorem carried (H : Holds m c I) : ∀ (n : ℕ) (hn : n < cfg0.N) (h i d),
    (outsAt0 m c n hn).2.2.2.2 (ix3 h i d) = I.D h (2 * n + 2) i d := by
  intro n
  induction n with
  | zero =>
    intro hn h i d
    have h0 : (⟨0, hn⟩ : Fin cfg0.N).val % 8 = 0 := rfl
    have B := H ⟨0, hn⟩ (k0_pay5 (F := Ideal)) (zero_holds _ h0)
    rw [show outsAt0 m c 0 hn = outsAt0 m c (⟨0, hn⟩ : Fin cfg0.N).val (⟨0, hn⟩ : Fin cfg0.N).isLt from rfl, outsAt0_A m c _ h0]
    dsimp only
    rw [sout0_A_0_eq]
    exact canon_planes _ _ _ _ _ (fun h => I.D h 2) (B.reads0.e_ds (by omega)) (B.reads1.e_ds (by omega))
      (B.reads2.e_ds (by omega)) (B.reads3.e_ds (by omega)) h i d
  | succ n ih =>
    intro hn h i d
    have hN : n + 1 < 8 := lt_of_lt_of_eq hn (show cfg0.N = 8 from N_0)
    have h0 : ¬(⟨n + 1, hn⟩ : Fin cfg0.N).val % 8 = 0 := by show ¬(n + 1) % 8 = 0; omega
    have B := H ⟨n + 1, hn⟩ (outsAt0 m c n (by omega)).2.2.2.2 (fun h i d => by
      rw [ih, show 14 - (14 - 2 * (n + 1)) = 2 * n + 2 by omega])
    rw [show outsAt0 m c (n + 1) hn = outsAt0 m c (⟨n + 1, hn⟩ : Fin cfg0.N).val (⟨n + 1, hn⟩ : Fin cfg0.N).isLt from rfl,
      outsAt0_B m c _ h0]
    dsimp only
    rw [sout0_B_0_eq]
    have e : 16 - (14 - 2 * (n + 1)) = 2 * (n + 1) + 2 := by omega
    refine canon_planes _ _ _ _ [] (fun h => I.D h (2 * (n + 1) + 2)) ?_ ?_ ?_ ?_ h i d
    · rw [← e]; exact B.reads0.e_ds (by omega)
    · rw [← e]; exact B.reads1.e_ds (by omega)
    · rw [← e]; exact B.reads2.e_ds (by omega)
    · rw [← e]; exact B.reads3.e_ds (by omega)

/-- What a later point finds in the carried cotangent. -/
theorem carried_before (H : Holds m c I) (t : Fin cfg0.N) (h0 : ¬t.val % 8 = 0) (h i d) :
    (outsAt0 m c (t.val - 1) (Nat.lt_of_le_of_lt (Nat.sub_le _ _) t.isLt)).2.2.2.2 (ix3 h i d) = I.D h (14 - (14 - 2 * t.val)) i d := by
  have hN : t.val < 8 := lt_of_lt_of_eq t.isLt (show cfg0.N = 8 from N_0)
  rw [carried H, show 14 - (14 - 2 * t.val) = 2 * (t.val - 1) + 2 by omega]

/-- The array whose head `h`, chunk `n` is `f h n`. -/
def whole (f : Fin 4 → ℕ → M) : FVec Ideal S2048x512 .bf16 := fun y =>
  f ⟨(y 1).val / 128, by have : (y 1).val < 512 := (y 1).isLt; omega⟩ ((y 0).val / 128) ⟨(y 0).val % 128, Nat.mod_lt _ (by norm_num)⟩
    ⟨(y 1).val % 128, Nat.mod_lt _ (by norm_num)⟩

theorem whole_at (f : Fin 4 → ℕ → M) (y : S2048x512.Idx) (h : Fin 4) (n : ℕ) (i d : Fin 128)
    (h0 : (y 0).val = 128 * n + i.val) (h1 : (y 1).val = 128 * h.val + d.val) : whole f y = f h n i d := by
  unfold whole
  have e1 : (⟨(y 1).val / 128, by have : (y 1).val < 512 := (y 1).isLt; omega⟩ : Fin 4) = h := Fin.ext (by show (y 1).val / 128 = h.val; omega)
  have e2 : (y 0).val / 128 = n := by omega
  have e3 : (⟨(y 0).val % 128, Nat.mod_lt _ (by norm_num)⟩ : Fin 128) = i := Fin.ext (by show (y 0).val % 128 = i.val; omega)
  have e4 : (⟨(y 1).val % 128, Nat.mod_lt _ (by norm_num)⟩ : Fin 128) = d := Fin.ext (by show (y 1).val % 128 = d.val; omega)
  rw [e1, e2, e3, e4]

/-- Every index of an output block is a row of a chunk and a column of a head. -/
theorem exists_at2 (y : S256x512.Idx) : ∃ b i h d, y = at2 b i h d := by
  have h0 : (y 0).val < 256 := (y 0).isLt
  have h1 : (y 1).val < 512 := (y 1).isLt
  refine ⟨⟨(y 0).val / 128, by omega⟩, ⟨(y 0).val % 128, by omega⟩, ⟨(y 1).val / 128, by omega⟩, ⟨(y 1).val % 128, by omega⟩, ?_⟩
  funext a
  refine Fin.ext ?_
  match a with
  | 0 => show (y 0).val = 128 * ((y 0).val / 128) + (y 0).val % 128; omega
  | 1 => show (y 1).val = 128 * ((y 1).val / 128) + (y 1).val % 128; omega

/-- What grid point `t` leaves in the query's cotangent block. -/
theorem left12 (H : Holds m c I) (t : Fin cfg0.N) (b i h d) :
    (outsAt0 m c t.val t.isLt).1 (at2 b i h d) = I.dq h (14 - 2 * t.val + b) i d := by
  by_cases h0 : t.val % 8 = 0
  · have B := H t (k0_pay5 (F := Ideal)) (zero_holds t h0)
    rw [outsAt0_A m c t h0]
    dsimp only
    rw [out0_A_12_eq]
    exact canon_cols _ _ _ _ I.dq _ (B.reads0.e_dq) (B.reads1.e_dq) (B.reads2.e_dq) (B.reads3.e_dq) b i h d
  · have B := H t _ (carried_before H t h0)
    rw [outsAt0_B m c t h0]
    dsimp only
    rw [out0_B_12_eq]
    exact canon_cols _ _ _ _ I.dq _ (B.reads0.e_dq) (B.reads1.e_dq) (B.reads2.e_dq) (B.reads3.e_dq) b i h d

theorem idx12 : ∀ t : Fin cfg0.N, win0_12.index t = ![7 - t.val, 0] := (by decide +kernel : ∀ t : Fin grid0.N, _)

/-- The query's cotangent after the run. -/
theorem final12 (H : Holds m c I) : (dats m 0 c).arrAt 12 cfg0.N = whole I.dq := by
  refine (dats m 0 c).arrAt_eq_of_covers 12 _ (by decide +kernel) fun t _ y => ?_
  have hN : t.val < 8 := lt_of_lt_of_eq t.isLt (show cfg0.N = 8 from N_0)
  blk_simp
  rw [after0_12]
  obtain ⟨b, i, h, d, rfl⟩ := exists_at2 y
  rw [left12 H]
  refine (whole_at I.dq _ h _ i d ?_ ?_).symm
  · blk_simp [idx12 t]
    simp [at2, ix2]
    omega
  · blk_simp [idx12 t]
    simp [at2, ix2]

/-- What grid point `t` leaves in the key's cotangent block. -/
theorem left13 (H : Holds m c I) (t : Fin cfg0.N) (b i h d) :
    (outsAt0 m c t.val t.isLt).2.1 (at2 b i h d) = I.dk h (14 - 2 * t.val + b) i d := by
  by_cases h0 : t.val % 8 = 0
  · have B := H t (k0_pay5 (F := Ideal)) (zero_holds t h0)
    rw [outsAt0_A m c t h0]
    dsimp only
    rw [out0_A_13_eq]
    exact canon_cols _ _ _ _ I.dk _ (B.reads0.e_dk (by omega)) (B.reads1.e_dk (by omega)) (B.reads2.e_dk (by omega)) (B.reads3.e_dk (by omega)) b i h d
  · have B := H t _ (carried_before H t h0)
    rw [outsAt0_B m c t h0]
    dsimp only
    rw [out0_B_13_eq]
    exact canon_cols _ _ _ _ I.dk _ (B.reads0.e_dk (by omega)) (B.reads1.e_dk (by omega)) (B.reads2.e_dk (by omega)) (B.reads3.e_dk (by omega)) b i h d

theorem idx13 : ∀ t : Fin cfg0.N, win0_13.index t = ![7 - t.val, 0] := (by decide +kernel : ∀ t : Fin grid0.N, _)

/-- The key's cotangent after the run. -/
theorem final13 (H : Holds m c I) : (dats m 0 c).arrAt 13 cfg0.N = whole I.dk := by
  refine (dats m 0 c).arrAt_eq_of_covers 13 _ (by decide +kernel) fun t _ y => ?_
  have hN : t.val < 8 := lt_of_lt_of_eq t.isLt (show cfg0.N = 8 from N_0)
  blk_simp
  rw [after0_13]
  obtain ⟨b, i, h, d, rfl⟩ := exists_at2 y
  rw [left13 H]
  refine (whole_at I.dk _ h _ i d ?_ ?_).symm
  · blk_simp [idx13 t]
    simp [at2, ix2]
    omega
  · blk_simp [idx13 t]
    simp [at2, ix2]

/-- What grid point `t` leaves in the value's cotangent block. -/
theorem left14 (H : Holds m c I) (t : Fin cfg0.N) (b i h d) :
    (outsAt0 m c t.val t.isLt).2.2.1 (at2 b i h d) = I.dv h (14 - 2 * t.val + b) i d := by
  by_cases h0 : t.val % 8 = 0
  · have B := H t (k0_pay5 (F := Ideal)) (zero_holds t h0)
    rw [outsAt0_A m c t h0]
    dsimp only
    rw [out0_A_14_eq]
    exact canon_cols _ _ _ _ I.dv _ (B.reads0.e_dv (by omega)) (B.reads1.e_dv (by omega)) (B.reads2.e_dv (by omega)) (B.reads3.e_dv (by omega)) b i h d
  · have B := H t _ (carried_before H t h0)
    rw [outsAt0_B m c t h0]
    dsimp only
    rw [out0_B_14_eq]
    exact canon_cols _ _ _ _ I.dv _ (B.reads0.e_dv (by omega)) (B.reads1.e_dv (by omega)) (B.reads2.e_dv (by omega)) (B.reads3.e_dv (by omega)) b i h d

theorem idx14 : ∀ t : Fin cfg0.N, win0_14.index t = ![7 - t.val, 0] := (by decide +kernel : ∀ t : Fin grid0.N, _)

/-- The value's cotangent after the run. -/
theorem final14 (H : Holds m c I) : (dats m 0 c).arrAt 14 cfg0.N = whole I.dv := by
  refine (dats m 0 c).arrAt_eq_of_covers 14 _ (by decide +kernel) fun t _ y => ?_
  have hN : t.val < 8 := lt_of_lt_of_eq t.isLt (show cfg0.N = 8 from N_0)
  blk_simp
  rw [after0_14]
  obtain ⟨b, i, h, d, rfl⟩ := exists_at2 y
  rw [left14 H]
  refine (whole_at I.dv _ h _ i d ?_ ?_).symm
  · blk_simp [idx14 t]
    simp [at2, ix2]
    omega
  · blk_simp [idx14 t]
    simp [at2, ix2]

/-- What grid point `t` leaves in the gate's cotangent block. -/
theorem left15 (H : Holds m c I) (t : Fin cfg0.N) (b i h d) :
    (outsAt0 m c t.val t.isLt).2.2.2.1 (at2 b i h d) = I.dg h (14 - 2 * t.val + b) i d := by
  by_cases h0 : t.val % 8 = 0
  · have B := H t (k0_pay5 (F := Ideal)) (zero_holds t h0)
    rw [outsAt0_A m c t h0]
    dsimp only
    rw [out0_A_15_eq]
    exact canon_cols _ _ _ _ I.dg _ (B.reads0.e_dg) (B.reads1.e_dg) (B.reads2.e_dg) (B.reads3.e_dg) b i h d
  · have B := H t _ (carried_before H t h0)
    rw [outsAt0_B m c t h0]
    dsimp only
    rw [out0_B_15_eq]
    exact canon_cols _ _ _ _ I.dg _ (B.reads0.e_dg) (B.reads1.e_dg) (B.reads2.e_dg) (B.reads3.e_dg) b i h d

theorem idx15 : ∀ t : Fin cfg0.N, win0_15.index t = ![7 - t.val, 0] := (by decide +kernel : ∀ t : Fin grid0.N, _)

/-- The gate's cotangent after the run. -/
theorem final15 (H : Holds m c I) : (dats m 0 c).arrAt 15 cfg0.N = whole I.dg := by
  refine (dats m 0 c).arrAt_eq_of_covers 15 _ (by decide +kernel) fun t _ y => ?_
  have hN : t.val < 8 := lt_of_lt_of_eq t.isLt (show cfg0.N = 8 from N_0)
  blk_simp
  rw [after0_15]
  obtain ⟨b, i, h, d, rfl⟩ := exists_at2 y
  rw [left15 H]
  refine (whole_at I.dg _ h _ i d ?_ ?_).symm
  · blk_simp [idx15 t]
    simp [at2, ix2]
    omega
  · blk_simp [idx15 t]
    simp [at2, ix2]

end Cert.KernelIdeal.Gen
end
-- ==== Proof.Product.lean ====
module

public import Idealize.ShloMosaic.PureOps.Ideal
public import Idealize.ShloMosaic.Lib.Pipeline.ValueKit
@[expose] public section
set_option maxRecDepth 16384

/-! The two gradients of a plain product, at an index, and entries of arrays at a literal index. -/

noncomputable section
namespace Cert.Prod
open Idealize.ShloMosaic Idealize.ShloMosaic.Tactic
open scoped BigOperators

theorem at_ix2 {a b : ℕ} (A : (⟨2, ![a, b]⟩ : Shape).Idx → EReal) (y : (⟨2, ![a, b]⟩ : Shape).Idx) (r : Fin a) (s : Fin b)
    (h0 : (y 0).val = r.val) (h1 : (y 1).val = s.val) : A y = A (ix2 r s) := by
  refine congrArg A (funext fun k => Fin.ext ?_)
  match k with
  | 0 => exact h0
  | 1 => exact h1
theorem at_ix3 {a b d : ℕ} (A : (⟨3, ![a, b, d]⟩ : Shape).Idx → EReal) (y : (⟨3, ![a, b, d]⟩ : Shape).Idx) (r : Fin a) (s : Fin b) (u : Fin d)
    (h0 : (y 0).val = r.val) (h1 : (y 1).val = s.val) (h2 : (y 2).val = u.val) : A y = A (ix3 r s u) := by
  refine congrArg A (funext fun k => Fin.ext ?_)
  match k with
  | 0 => exact h0
  | 1 => exact h1
  | 2 => exact h2
theorem at_ix4 {a b d f : ℕ} (A : (⟨4, ![a, b, d, f]⟩ : Shape).Idx → EReal) (y : (⟨4, ![a, b, d, f]⟩ : Shape).Idx)
    (r : Fin a) (s : Fin b) (u : Fin d) (v : Fin f)
    (h0 : (y 0).val = r.val) (h1 : (y 1).val = s.val) (h2 : (y 2).val = u.val) (h3 : (y 3).val = v.val) : A y = A (ix4 r s u v) := by
  refine congrArg A (funext fun k => Fin.ext ?_)
  match k with
  | 0 => exact h0
  | 1 => exact h1
  | 2 => exact h2
  | 3 => exact h3

/-- A matrix over the extended reals. -/
abbrev Mat (a b : ℕ) := (⟨2, ![a, b]⟩ : Shape).Idx → EReal

/-- Entry `(i, j)` of `A` times the transpose of `B`: the gradient of a product in its left factor. -/
def mulT {a b k : ℕ} (A : Mat a k) (B : Mat b k) (i : Fin a) (j : Fin b) : EReal := ∑ x, A (ix2 i x) * B (ix2 j x)

/-- Entry `(i, j)` of the transpose of `A` times `B`: the gradient of a product in its right factor. -/
def tmul {a b k : ℕ} (A : Mat k a) (B : Mat k b) (i : Fin a) (j : Fin b) : EReal := ∑ x, A (ix2 x i) * B (ix2 x j)

theorem mulT_congr {a b k a' b' : ℕ} {A : Mat a k} {B : Mat b k} {A' : Mat a' k} {B' : Mat b' k} {i : Fin a} {j : Fin b}
    {i' : Fin a'} {j' : Fin b'} (hA : ∀ x, A (ix2 i x) = A' (ix2 i' x)) (hB : ∀ x, B (ix2 j x) = B' (ix2 j' x)) :
    mulT A B i j = mulT A' B' i' j' := Finset.sum_congr rfl fun x _ => by rw [hA, hB]

theorem tmul_congr {a b k a' b' : ℕ} {A : Mat k a} {B : Mat k b} {A' : Mat k a'} {B' : Mat k b'} {i : Fin a} {j : Fin b}
    {i' : Fin a'} {j' : Fin b'} (hA : ∀ x, A (ix2 x i) = A' (ix2 x i')) (hB : ∀ x, B (ix2 x j) = B' (ix2 x j')) :
    tmul A B i j = tmul A' B' i' j' := Finset.sum_congr rfl fun x _ => by rw [hA, hB]

/-- The whole array `A` times the transpose of `B`. -/
def arrT {a b k : ℕ} (A : Mat a k) (B : Mat b k) : Mat a b := fun y => mulT A B (y 0) (y 1)

theorem arrT_at {a b k : ℕ} (A : Mat a k) (B : Mat b k) (y : (⟨2, ![a, b]⟩ : Shape).Idx) (i : Fin a) (j : Fin b)
    (h0 : (y 0).val = i.val) (h1 : (y 1).val = j.val) : arrT A B y = mulT A B i j :=
  at_ix2 (arrT A B) y i j h0 h1

/-- The transpose of `A` times `B`, its eight row blocks laid out as two by four: block `2 * j + i` at `(i, j)`. -/
def arrR {K r n k : ℕ} (hK : K = 8 * r) (A : Mat k K) (B : Mat k n) : (⟨4, ![2, 4, r, n]⟩ : Shape).Idx → EReal := fun y =>
  tmul A B ⟨(2 * (y 1).val + (y 0).val) * r + (y 2).val, by
    have h0 : (y 0).val < 2 := (y 0).isLt
    have h1 : (y 1).val < 4 := (y 1).isLt
    have h2 : (y 2).val < r := (y 2).isLt
    rw [hK]; nlinarith⟩ (y 3)

theorem arrR_at {K r n k : ℕ} (hK : K = 8 * r) (A : Mat k K) (B : Mat k n) (y : (⟨4, ![2, 4, r, n]⟩ : Shape).Idx) (i : Fin K) (j : Fin n)
    (hi : (2 * (y 1).val + (y 0).val) * r + (y 2).val = i.val) (hj : (y 3).val = j.val) : arrR hK A B y = tmul A B i j :=
  congrArg₂ (tmul A B) (Fin.ext hi) (Fin.ext hj)

/-- The transpose of `A` times `B`, its rows in two halves and its columns in four quarters: entry `(i, u)` of rows, `(j, v)` of columns
    at `(i, j, u, v)`. -/
def arrC {K N r n k : ℕ} (hK : K = 2 * r) (hN : N = 4 * n) (A : Mat k K) (B : Mat k N) : (⟨4, ![2, 4, r, n]⟩ : Shape).Idx → EReal := fun y =>
  tmul A B ⟨(y 0).val * r + (y 2).val, by
    have h0 : (y 0).val < 2 := (y 0).isLt
    have h2 : (y 2).val < r := (y 2).isLt
    rw [hK]; nlinarith⟩ ⟨(y 1).val * n + (y 3).val, by
    have h1 : (y 1).val < 4 := (y 1).isLt
    have h3 : (y 3).val < n := (y 3).isLt
    rw [hN]; nlinarith⟩

theorem arrC_at {K N r n k : ℕ} (hK : K = 2 * r) (hN : N = 4 * n) (A : Mat k K) (B : Mat k N) (y : (⟨4, ![2, 4, r, n]⟩ : Shape).Idx)
    (i : Fin K) (j : Fin N) (hi : (y 0).val * r + (y 2).val = i.val) (hj : (y 1).val * n + (y 3).val = j.val) :
    arrC hK hN A B y = tmul A B i j :=
  congrArg₂ (tmul A B) (Fin.ext hi) (Fin.ext hj)

/-- Entry `(i, j)` of `A` times `B`. -/
def mul {a b k : ℕ} (A : Mat a k) (B : Mat k b) (i : Fin a) (j : Fin b) : EReal := ∑ x, A (ix2 i x) * B (ix2 x j)

theorem mul_congr {a b k a' b' : ℕ} {A : Mat a k} {B : Mat k b} {A' : Mat a' k} {B' : Mat k b'} {i : Fin a} {j : Fin b}
    {i' : Fin a'} {j' : Fin b'} (hA : ∀ x, A (ix2 i x) = A' (ix2 i' x)) (hB : ∀ x, B (ix2 x j) = B' (ix2 x j')) :
    mul A B i j = mul A' B' i' j' := Finset.sum_congr rfl fun x _ => by rw [hA, hB]

/-- The array `A` times `B`, plus `H`. -/
def arrA {a b k : ℕ} (H : Mat a b) (A : Mat a k) (B : Mat k b) : Mat a b := fun y => mul A B (y 0) (y 1) + H (ix2 (y 0) (y 1))

theorem arrA_at {a b k : ℕ} (H : Mat a b) (A : Mat a k) (B : Mat k b) (y : (⟨2, ![a, b]⟩ : Shape).Idx) (i : Fin a) (j : Fin b)
    (h0 : (y 0).val = i.val) (h1 : (y 1).val = j.val) : arrA H A B y = mul A B i j + H (ix2 i j) :=
  at_ix2 (arrA H A B) y i j h0 h1

/-- Entry `(i, j)` of the columns of `A` followed by the first columns of `S`, times the transpose of `W`. -/
def catT {a b K p T : ℕ} (hp : T ≤ K + p) (A : Mat a K) (S : Mat a p) (W : Mat b T) (i : Fin a) (j : Fin b) : EReal :=
  ∑ x : Fin T, (if h : x.val < K then A (ix2 i ⟨x.val, h⟩) else S (ix2 i ⟨x.val - K, by omega⟩)) * W (ix2 j x)

/-- The product over `T` is the product over the first `K` plus the one over the rest, filled up with zeros. -/
theorem catT_split {a b K p T a' b' : ℕ} (hp : T ≤ K + p) (hT : K ≤ T) (A : Mat a K) (S : Mat a p) (W : Mat b T) (i : Fin a) (j : Fin b)
    (A' : Mat a' K) (S' : Mat a' p) (W1 : Mat K b') (W2 : Mat p b') (i' : Fin a') (j' : Fin b')
    (hA : ∀ x, A' (ix2 i' x) = A (ix2 i x)) (hS : ∀ x, S' (ix2 i' x) = S (ix2 i x))
    (h1 : ∀ x : Fin K, W1 (ix2 x j') = W (ix2 j ⟨x.val, by omega⟩))
    (h2 : ∀ x : Fin p, W2 (ix2 x j') = if h : K + x.val < T then W (ix2 j ⟨K + x.val, h⟩) else 0) :
    mul A' W1 i' j' + mul S' W2 i' j' = catT hp A S W i j := by
  obtain ⟨r, rfl⟩ := Nat.exists_eq_add_of_le hT
  obtain ⟨q, rfl⟩ := Nat.exists_eq_add_of_le (Nat.le_of_add_le_add_left hp)
  unfold catT mul
  rw [Fin.sum_univ_add (a := K) (b := r), Fin.sum_univ_add (a := r) (b := q)]
  refine congrArg₂ (· + ·) (Finset.sum_congr rfl fun x _ => ?_) ?_
  · rw [hA, h1, dif_pos (show (Fin.castAdd r x).val < K from x.isLt)]
    rfl
  · rw [Finset.sum_eq_zero (s := (Finset.univ : Finset (Fin q))), add_zero]
    · refine Finset.sum_congr rfl fun x _ => ?_
      rw [hS, h2, dif_pos (show K + (Fin.castAdd q x).val < K + r by simp), dif_neg (by simp)]
      refine congrArg₂ (fun s w => S (ix2 i s) * W (ix2 j w)) (Fin.ext ?_) (Fin.ext ?_) <;> simp
    · intro x _
      rw [h2, dif_neg (by simp), mul_zero]

/-- The whole array of those entries. -/
def arrK {a b K p T : ℕ} (hp : T ≤ K + p) (A : Mat a K) (S : Mat a p) (W : Mat b T) : Mat a b := fun y => catT hp A S W (y 0) (y 1)

theorem arrK_at {a b K p T : ℕ} (hp : T ≤ K + p) (A : Mat a K) (S : Mat a p) (W : Mat b T) (y : (⟨2, ![a, b]⟩ : Shape).Idx) (i : Fin a) (j : Fin b)
    (h0 : (y 0).val = i.val) (h1 : (y 1).val = j.val) : arrK hp A S W y = catT hp A S W i j :=
  at_ix2 (arrK hp A S W) y i j h0 h1

/-- The transpose of `A` times `B` with its columns in two halves, the half first; its rows followed by rows of zeros. -/
def arrH {K N T n k : ℕ} (hN : N = 2 * n) (A : Mat k K) (B : Mat k N) : (⟨3, ![2, T, n]⟩ : Shape).Idx → EReal := fun y =>
  if h : (y 1).val < K then tmul A B ⟨(y 1).val, h⟩ ⟨(y 0).val * n + (y 2).val, by
    have h0 : (y 0).val < 2 := (y 0).isLt
    have h2 : (y 2).val < n := (y 2).isLt
    rw [hN]; nlinarith⟩ else 0

theorem arrH_at {K N T n k : ℕ} (hN : N = 2 * n) (A : Mat k K) (B : Mat k N) (y : (⟨3, ![2, T, n]⟩ : Shape).Idx) (i : Fin K) (j : Fin N)
    (hi : (y 1).val = i.val) (hj : (y 0).val * n + (y 2).val = j.val) : arrH hN A B y = tmul A B i j :=
  (dif_pos (hi ▸ i.isLt)).trans (congrArg₂ (tmul A B) (Fin.ext hi) (Fin.ext hj))

end Cert.Prod
end
-- ==== Proof.Blocks.lean ====
module

public import proofs.«01_k».proof.Proof.HostA
public import proofs.«01_k».proof.Proof.Grid
public import proofs.«01_k».proof.Proof.Product
@[expose] public section
set_option maxRecDepth 16384

/-! The saved states of the kernel's host lines, and the blocks of every grid point. -/

noncomputable section
namespace Cert.KernelIdeal.Gen
open Idealize.ShloMosaic Idealize.ShloMosaic.TcCoe Idealize.ShloMosaic.Tactic Cert.KernelIdeal Cert.Ret Cert.Prod

variable (m : (ℓ : Loc nD τ sig) → Buf (Elt Ideal) ℓ) (c : Dev nD)

theorem inc (n : Fin 16) (h : Fin 4) (e d : Fin 128) : b140 m c (ix5 n 0 h e d) =
    ∑ i, ((J m c).kr h n i e * (J m c).kt h i e) * (J m c).v h n i d := (e140 m c n h e d).trans (e133 m c h n e d)

theorem st0 (h : Fin 4) (e d : Fin 128) : b138 m c (ix4 0 h e d) = (J m c).S h 0 e d := (e138 m c h e d).trans rfl
theorem st1 (h : Fin 4) (e d : Fin 128) : b146 m c (ix4 0 h e d) = (J m c).S h 1 e d := by
  rw [eS1, st0, e137 m c h e d, inc]
  rfl
theorem st2 (h : Fin 4) (e d : Fin 128) : b151 m c (ix4 0 h e d) = (J m c).S h 2 e d := by
  rw [eS2, st1, e137 m c h e d, inc]
  rfl
theorem st3 (h : Fin 4) (e d : Fin 128) : b156 m c (ix4 0 h e d) = (J m c).S h 3 e d := by
  rw [eS3, st2, e137 m c h e d, inc]
  rfl
theorem st4 (h : Fin 4) (e d : Fin 128) : b161 m c (ix4 0 h e d) = (J m c).S h 4 e d := by
  rw [eS4, st3, e137 m c h e d, inc]
  rfl
theorem st5 (h : Fin 4) (e d : Fin 128) : b166 m c (ix4 0 h e d) = (J m c).S h 5 e d := by
  rw [eS5, st4, e137 m c h e d, inc]
  rfl
theorem st6 (h : Fin 4) (e d : Fin 128) : b171 m c (ix4 0 h e d) = (J m c).S h 6 e d := by
  rw [eS6, st5, e137 m c h e d, inc]
  rfl
theorem st7 (h : Fin 4) (e d : Fin 128) : b176 m c (ix4 0 h e d) = (J m c).S h 7 e d := by
  rw [eS7, st6, e137 m c h e d, inc]
  rfl
theorem st8 (h : Fin 4) (e d : Fin 128) : b181 m c (ix4 0 h e d) = (J m c).S h 8 e d := by
  rw [eS8, st7, e137 m c h e d, inc]
  rfl
theorem st9 (h : Fin 4) (e d : Fin 128) : b186 m c (ix4 0 h e d) = (J m c).S h 9 e d := by
  rw [eS9, st8, e137 m c h e d, inc]
  rfl
theorem st10 (h : Fin 4) (e d : Fin 128) : b191 m c (ix4 0 h e d) = (J m c).S h 10 e d := by
  rw [eS10, st9, e137 m c h e d, inc]
  rfl
theorem st11 (h : Fin 4) (e d : Fin 128) : b196 m c (ix4 0 h e d) = (J m c).S h 11 e d := by
  rw [eS11, st10, e137 m c h e d, inc]
  rfl
theorem st12 (h : Fin 4) (e d : Fin 128) : b201 m c (ix4 0 h e d) = (J m c).S h 12 e d := by
  rw [eS12, st11, e137 m c h e d, inc]
  rfl
theorem st13 (h : Fin 4) (e d : Fin 128) : b206 m c (ix4 0 h e d) = (J m c).S h 13 e d := by
  rw [eS13, st12, e137 m c h e d, inc]
  rfl
theorem st14 (h : Fin 4) (e d : Fin 128) : b211 m c (ix4 0 h e d) = (J m c).S h 14 e d := by
  rw [eS14, st13, e137 m c h e d, inc]
  rfl
theorem st15 (h : Fin 4) (e d : Fin 128) : b216 m c (ix4 0 h e d) = (J m c).S h 15 e d := by
  rw [eS15, st14, e137 m c h e d, inc]
  rfl
/-- The stacked states are the states before the sixteen chunks. -/
theorem stk (n : Fin 16) (h : Fin 4) (e d : Fin 128) : b238 m c (ix5 n 0 h e d) = (J m c).S h n e d := by
  fin_cases n
  · exact (eC0 m c h e d).trans ((eB0 m c h e d).trans (st0 m c h e d))
  · exact (eC1 m c h e d).trans ((eB1 m c h e d).trans (st1 m c h e d))
  · exact (eC2 m c h e d).trans ((eB2 m c h e d).trans (st2 m c h e d))
  · exact (eC3 m c h e d).trans ((eB3 m c h e d).trans (st3 m c h e d))
  · exact (eC4 m c h e d).trans ((eB4 m c h e d).trans (st4 m c h e d))
  · exact (eC5 m c h e d).trans ((eB5 m c h e d).trans (st5 m c h e d))
  · exact (eC6 m c h e d).trans ((eB6 m c h e d).trans (st6 m c h e d))
  · exact (eC7 m c h e d).trans ((eB7 m c h e d).trans (st7 m c h e d))
  · exact (eC8 m c h e d).trans ((eB8 m c h e d).trans (st8 m c h e d))
  · exact (eC9 m c h e d).trans ((eB9 m c h e d).trans (st9 m c h e d))
  · exact (eC10 m c h e d).trans ((eB10 m c h e d).trans (st10 m c h e d))
  · exact (eC11 m c h e d).trans ((eB11 m c h e d).trans (st11 m c h e d))
  · exact (eC12 m c h e d).trans ((eB12 m c h e d).trans (st12 m c h e d))
  · exact (eC13 m c h e d).trans ((eB13 m c h e d).trans (st13 m c h e d))
  · exact (eC14 m c h e d).trans ((eB14 m c h e d).trans (st14 m c h e d))
  · exact (eC15 m c h e d).trans ((eB15 m c h e d).trans (st15 m c h e d))

/-- The states the call takes, one for each pair of chunks. -/
theorem e_S (n : Fin 8) (h : Fin 4) (e d : Fin 128) : b242 m c (ix4 h n e d) = (J m c).S h (2 * n.val) e d := by
  rw [e242, e239, stk]

theorem ent_at {b : ℕ} (A : (⟨2, ![2048, b]⟩ : Shape).Idx → EReal) (y : (⟨2, ![2048, b]⟩ : Shape).Idx) (r s : ℕ)
    (h0 : (y 0).val = r) (h1 : (y 1).val = s) : A y = ent A r s := by
  have hr : r < 2048 := h0 ▸ (y 0).isLt
  have hs : s < b := h1 ▸ (y 1).isLt
  exact (at_ix2 A y ⟨r, hr⟩ ⟨s, hs⟩ h0 h1).trans (ent_eq A _ _ r s rfl rfl)

theorem idx0 : ∀ t : Fin cfg0.N, win0_0.index t = ![7 - t.val, 0] := (by decide +kernel : ∀ t : Fin grid0.N, _)
theorem idx1 : ∀ t : Fin cfg0.N, win0_1.index t = ![7 - t.val, 1] := (by decide +kernel : ∀ t : Fin grid0.N, _)
theorem idx2 : ∀ t : Fin cfg0.N, win0_2.index t = ![7 - t.val, 2] := (by decide +kernel : ∀ t : Fin grid0.N, _)
theorem idx3 : ∀ t : Fin cfg0.N, win0_3.index t = ![7 - t.val, 3] := (by decide +kernel : ∀ t : Fin grid0.N, _)
theorem idx4 : ∀ t : Fin cfg0.N, win0_4.index t = ![7 - t.val, 0] := (by decide +kernel : ∀ t : Fin grid0.N, _)
theorem idx5 : ∀ t : Fin cfg0.N, win0_5.index t = ![7 - t.val, 0] := (by decide +kernel : ∀ t : Fin grid0.N, _)
theorem idx6 : ∀ t : Fin cfg0.N, win0_6.index t = ![0, 0, 0] := (by decide +kernel : ∀ t : Fin grid0.N, _)
theorem idx7 : ∀ t : Fin cfg0.N, win0_7.index t = ![0, 0, 0] := (by decide +kernel : ∀ t : Fin grid0.N, _)
theorem idx8 : ∀ t : Fin cfg0.N, win0_8.index t = ![0, 0, 0] := (by decide +kernel : ∀ t : Fin grid0.N, _)
theorem idx9 : ∀ t : Fin cfg0.N, win0_9.index t = ![0, 0, 0] := (by decide +kernel : ∀ t : Fin grid0.N, _)
theorem idx10 : ∀ t : Fin cfg0.N, win0_10.index t = ![0, 7 - t.val, 0, 0] := (by decide +kernel : ∀ t : Fin grid0.N, _)
theorem idx11 : ∀ t : Fin cfg0.N, win0_11.index t = ![7 - t.val, 0] := (by decide +kernel : ∀ t : Fin grid0.N, _)

theorem blk0 (t : Fin cfg0.N) (b : Fin 2) (i : Fin 128) (h : Fin 4) (d : Fin 128) :
    (iblk m c 0 t : Vec Ideal S256x512 .f32) (at2 b i h d) = (J m c).q h (14 - 2 * t.val + b) i d := by
  have hN : t.val < 8 := lt_of_lt_of_eq t.isLt (show cfg0.N = 8 from N_0)
  unfold at2
  blk_simp [iblk, V_main_arg0]
  refine ent_at (b := 4096) (m (c, Proc.devRef .tc main_arg0)) _ _ _ ?_ ?_
  · (blk_simp [idx0 t]) <;> (try simp [ix2]) <;> (try omega)
  · (blk_simp [idx0 t]) <;> (try simp [ix2]) <;> (try omega)
theorem blk1 (t : Fin cfg0.N) (b : Fin 2) (i : Fin 128) (h : Fin 4) (d : Fin 128) :
    (iblk m c 1 t : Vec Ideal S256x512 .f32) (at2 b i h d) = (J m c).k h (14 - 2 * t.val + b) i d := by
  have hN : t.val < 8 := lt_of_lt_of_eq t.isLt (show cfg0.N = 8 from N_0)
  unfold at2
  blk_simp [iblk, V_main_arg0]
  refine ent_at (b := 4096) (m (c, Proc.devRef .tc main_arg0)) _ _ _ ?_ ?_
  · (blk_simp [idx1 t]) <;> (try simp [ix2]) <;> (try omega)
  · (blk_simp [idx1 t]) <;> (try simp [ix2]) <;> (try omega)
theorem blk2 (t : Fin cfg0.N) (b : Fin 2) (i : Fin 128) (h : Fin 4) (d : Fin 128) :
    (iblk m c 2 t : Vec Ideal S256x512 .f32) (at2 b i h d) = (J m c).v h (14 - 2 * t.val + b) i d := by
  have hN : t.val < 8 := lt_of_lt_of_eq t.isLt (show cfg0.N = 8 from N_0)
  unfold at2
  blk_simp [iblk, V_main_arg0]
  refine ent_at (b := 4096) (m (c, Proc.devRef .tc main_arg0)) _ _ _ ?_ ?_
  · (blk_simp [idx2 t]) <;> (try simp [ix2]) <;> (try omega)
  · (blk_simp [idx2 t]) <;> (try simp [ix2]) <;> (try omega)
theorem blk3 (t : Fin cfg0.N) (b : Fin 2) (i : Fin 128) (h : Fin 4) (d : Fin 128) :
    (iblk m c 3 t : Vec Ideal S256x512 .f32) (at2 b i h d) = (J m c).g h (14 - 2 * t.val + b) i d := by
  have hN : t.val < 8 := lt_of_lt_of_eq t.isLt (show cfg0.N = 8 from N_0)
  unfold at2
  blk_simp [iblk, V_main_arg0]
  refine ent_at (b := 4096) (m (c, Proc.devRef .tc main_arg0)) _ _ _ ?_ ?_
  · (blk_simp [idx3 t]) <;> (try simp [ix2]) <;> (try omega)
  · (blk_simp [idx3 t]) <;> (try simp [ix2]) <;> (try omega)
theorem blk11 (t : Fin cfg0.N) (b : Fin 2) (i : Fin 128) (h : Fin 4) (d : Fin 128) :
    (iblk m c 11 t : Vec Ideal S256x512 .f32) (at2 b i h d) = (J m c).y h (14 - 2 * t.val + b) i d := by
  have hN : t.val < 8 := lt_of_lt_of_eq t.isLt (show cfg0.N = 8 from N_0)
  unfold at2
  blk_simp [iblk, V_main_arg1]
  refine ent_at (b := 1024) (m (c, Proc.devRef .tc main_arg1)) _ _ _ ?_ ?_
  · (blk_simp [idx11 t]) <;> (try simp [ix2]) <;> (try omega)
  · (blk_simp [idx11 t]) <;> (try simp [ix2]) <;> (try omega)
theorem blk4 (t : Fin cfg0.N) (b : Fin 2) (i d : Fin 128) :
    (iblk m c 4 t : Vec Ideal S256x128 .f32) (ix2 (⟨128 * b.val + i.val, by omega⟩ : Fin 256) d) = (J m c).c (14 - 2 * t.val + b) i d := by
  have hN : t.val < 8 := lt_of_lt_of_eq t.isLt (show cfg0.N = 8 from N_0)
  blk_simp [iblk, V_eq]
  refine (at_ix2 (b15 m c) _ ⟨128 * (14 - 2 * t.val + b) + i.val, by omega⟩ d ?_ ?_).trans ?_
  · (blk_simp [idx4 t]) <;> (try simp [ix2]) <;> (try omega)
  · (blk_simp [idx4 t]) <;> (try simp [ix2])
  · refine (e15 m c _ d).trans ?_
    have e1 : (128 * (14 - 2 * t.val + b.val) + i.val) / 128 = 14 - 2 * t.val + b.val := by omega
    have e2 : (⟨(128 * (14 - 2 * t.val + b.val) + i.val) % 128, by omega⟩ : Fin 128) = i := Fin.ext (by show _ % 128 = _; omega)
    dsimp only
    rw [e1, e2]
    rfl
theorem blk5 (t : Fin cfg0.N) (b : Fin 2) (i d : Fin 128) :
    (iblk m c 5 t : Vec Ideal S256x128 .f32) (ix2 (⟨128 * b.val + i.val, by omega⟩ : Fin 256) d) = (J m c).s (14 - 2 * t.val + b) i d := by
  have hN : t.val < 8 := lt_of_lt_of_eq t.isLt (show cfg0.N = 8 from N_0)
  blk_simp [iblk, V_eq]
  refine (at_ix2 (b19 m c) _ ⟨128 * (14 - 2 * t.val + b) + i.val, by omega⟩ d ?_ ?_).trans ?_
  · (blk_simp [idx5 t]) <;> (try simp [ix2]) <;> (try omega)
  · (blk_simp [idx5 t]) <;> (try simp [ix2])
  · refine (e19 m c _ d).trans ?_
    have e1 : (128 * (14 - 2 * t.val + b.val) + i.val) / 128 = 14 - 2 * t.val + b.val := by omega
    have e2 : (⟨(128 * (14 - 2 * t.val + b.val) + i.val) % 128, by omega⟩ : Fin 128) = i := Fin.ext (by show _ % 128 = _; omega)
    dsimp only
    rw [e1, e2]
    rfl
theorem blk6 (t : Fin cfg0.N) (h : Fin 4) (i d : Fin 128) :
    (iblk m c 6 t : Vec Ideal S4x128x128 .f32) (ix3 h i d) = (J m c).dm h i d := by
  blk_simp [iblk, V_eq]
  refine (at_ix3 (b44 m c) _ h i d ?_ ?_ ?_).trans (e44 m c h i d) <;> ((blk_simp [idx6 t]) <;> (try simp [ix3]))
theorem blk7 (t : Fin cfg0.N) (h : Fin 4) (i d : Fin 128) :
    (iblk m c 7 t : Vec Ideal S4x128x128 .f32) (ix3 h i d) = (J m c).kt h i d := by
  blk_simp [iblk, V_eq]
  refine (at_ix3 (b54 m c) _ h i d ?_ ?_ ?_).trans (e54 m c h i d) <;> ((blk_simp [idx7 t]) <;> (try simp [ix3]))
theorem blk8 (t : Fin cfg0.N) (h : Fin 4) (i d : Fin 128) :
    (iblk m c 8 t : Vec Ideal S4x128x128 .f32) (ix3 h i d) = (J m c).qd h i d := by
  blk_simp [iblk, V_eq]
  refine (at_ix3 (b64 m c) _ h i d ?_ ?_ ?_).trans (e64 m c h i d) <;> ((blk_simp [idx8 t]) <;> (try simp [ix3]))
theorem blk9 (t : Fin cfg0.N) (h : Fin 4) (i d : Fin 128) :
    (iblk m c 9 t : Vec Ideal S4x128x128 .f32) (ix3 h i d) = (J m c).cd h i d := by
  blk_simp [iblk, V_eq]
  refine (at_ix3 (b69 m c) _ h i d ?_ ?_ ?_).trans (e69 m c h i d) <;> ((blk_simp [idx9 t]) <;> (try simp [ix3]))
theorem blk10 (t : Fin cfg0.N) (h : Fin 4) (i d : Fin 128) :
    (iblk m c 10 t : Vec Ideal S4x1x128x128 .f32) (ix4 h 0 i d) = (J m c).S h (14 - 2 * t.val) i d := by
  have hN : t.val < 8 := lt_of_lt_of_eq t.isLt (show cfg0.N = 8 from N_0)
  blk_simp [iblk, V_eq]
  refine (at_ix4 (b242 m c) _ h ⟨7 - t.val, by omega⟩ i d ?_ ?_ ?_ ?_).trans ((e_S m c _ h i d).trans ?_)
  · (blk_simp [idx10 t]) <;> (try simp [ix4])
  · (blk_simp [idx10 t]) <;> (try simp [ix4])
  · (blk_simp [idx10 t]) <;> (try simp [ix4])
  · (blk_simp [idx10 t]) <;> (try simp [ix4])
  · show (J m c).S h (2 * (7 - t.val)) i d = _
    rw [show 2 * (7 - t.val) = 14 - 2 * t.val by omega]

/-- The blocks of every grid point hold the chunks of the arguments' data. -/
theorem holds : Holds m c (J m c) := by
  intro t xs hx
  have hN : t.val < 8 := lt_of_lt_of_eq t.isLt (show cfg0.N = 8 from N_0)
  exact ⟨blk0 m c t, blk1 m c t, blk2 m c t, blk3 m c t, blk4 m c t, blk5 m c t, blk6 m c t, blk7 m c t, blk8 m c t, blk9 m c t,
    blk10 m c t, blk11 m c t, hx⟩
-- ==== Proof.RefB.lean ====
module

public import proofs.«01_k».proof.Proof.RefA
@[expose] public section
set_option maxRecDepth 16384

/-! The reference's intermediate values, chunk by chunk: the norm, the gate and the backward pass. -/

noncomputable section
namespace Cert.ReferenceIdeal.Value
open Idealize.ShloMosaic Idealize.ShloMosaic.TcCoe Idealize.ShloMosaic.Tactic Cert.ReferenceIdeal Cert.Ret

variable (V0 : Valuation τ sig (Elt Ideal))

/-- The chunk of a row. -/
theorem row_div (n : Fin 16) (i : Fin 128) (p) : (⟨(n.val * 128 + i.val) / 128, p⟩ : Fin 16) = n := Fin.ext (by show (n.val * 128 + i.val) / 128 = n.val; omega)
/-- The row in its chunk. -/
theorem row_mod (n : Fin 16) (i : Fin 128) (p) : (⟨(n.val * 128 + i.val) % 128, p⟩ : Fin 128) = i := Fin.ext (by show (n.val * 128 + i.val) % 128 = i.val; omega)
/-- The head of a column. -/
theorem col_div (h : Fin 4) (d : Fin 128) (p) : (⟨(h.val * 128 + d.val) / 128, p⟩ : Fin 4) = h := Fin.ext (by show (h.val * 128 + d.val) / 128 = h.val; omega)
/-- The column in its head. -/
theorem col_mod (h : Fin 4) (d : Fin 128) (p) : (⟨(h.val * 128 + d.val) % 128, p⟩ : Fin 128) = d := Fin.ext (by show (h.val * 128 + d.val) % 128 = d.val; omega)

/-- Column `d` of head `h`. -/
abbrev col (h : Fin 4) (d : Fin 128) : Fin 512 := ⟨h.val * 128 + d.val, by omega⟩

theorem r_o (h : Fin 4) (n : Fin 16) (i d : Fin 128) : res_main_v242 V0 (ix4 0 (row n i) h d) = (I V0).o h n i d := by
  pointwise [res_main_v242]
  simp only [row_div, row_mod, r_v106, r_v85, r_v238, r_S]
  rfl
/-- The variance of a row, at an index. -/
theorem var_at (a : FVec Ideal S1x2048x4x128 .f32) (h : Fin 4) (n : Fin 16) (i : Fin 128) (o : M)
    (ho : ∀ d, a (ix4 0 (row n i) h d) = o i d) :
    (addf (Host.divf (broadcastInDim S1x2048x4x1 ![0, 1, 2] Gen.bcast_S1x2048x4_S1x2048x4x1_0_1_2
        (Host.reduceAdd (mulf a a) (constant S_ .f32 0x00000000#32) Gen.reducesTo_S1x2048x4x128_S1x2048x4_d3 Gen.h_S_))
      (broadcastInDim S1x2048x4x1 ![] Gen.bcast_S_S1x2048x4x1 (constant S_ .f32 0x43000000#32)))
      (broadcastInDim S1x2048x4x1 ![] Gen.bcast_S_S1x2048x4x1 (constant S_ .f32 0x358637BD#32))) (ix4 0 (row n i) h 0) = vare o i := by
  pointwise
  simp only [ho]
  rfl
theorem r_var (h : Fin 4) (n : Fin 16) (i : Fin 128) : res_main_v249 V0 (ix4 0 (row n i) h 0) = vare ((I V0).o h n) i := by
  unfold res_main_v249
  exact var_at _ _ _ _ _ (r_o V0 h n i)
theorem r_rs (h : Fin 4) (n : Fin 16) (i : Fin 128) : res_main_v250 V0 (ix4 0 (row n i) h 0) = Ideal.rsqrt (vare ((I V0).o h n) i) := by
  pointwise [res_main_v250]
  rw [r_var]
theorem r_g (h : Fin 4) (n : Fin 16) (i d : Fin 128) : res_main_v7 V0 (ix3 0 (row n i) (col h d)) = (I V0).g h n i d := by
  pointwise [res_main_v7]
  exact ent_eq _ _ _ _ _ (by simp; omega) (by simp; omega)
theorem r_y (h : Fin 4) (n : Fin 16) (i d : Fin 128) : res_main_v260 V0 (ix3 0 (row n i) (col h d)) = (I V0).y h n i d := by
  pointwise [res_main_v260]
  exact ent_eq _ _ _ _ _ (by simp; omega) (by simp; omega)
theorem r_sg (h : Fin 4) (n : Fin 16) (i d : Fin 128) : res_main_v257_2 V0 (ix3 0 (row n i) (col h d)) = sg ((I V0).g h n) i d := by
  pointwise [res_main_v257_2]
  rw [r_g]
  rfl
theorem r_gs (h : Fin 4) (n : Fin 16) (i d : Fin 128) : res_main_v257_0 V0 (ix3 0 (row n i) (col h d)) = (I V0).g h n i d * sg ((I V0).g h n) i d := by
  pointwise [res_main_v257_0]
  rw [r_g, r_sg]
/-- The normalised output at an index. -/
theorem or_at (a : FVec Ideal S1x2048x4x128 .f32) (b : FVec Ideal S1x2048x4x1 .f32) (h : Fin 4) (n : Fin 16) (i d : Fin 128) (x y : EReal)
    (hx : a (ix4 0 (row n i) h d) = x) (hy : b (ix4 0 (row n i) h 0) = y) :
    (shapeCast S1x2048x512 (mulf a (broadcastInDim S1x2048x4x128 ![0, 1, 2, 3] Gen.bcast_S1x2048x4x1_S1x2048x4x128_0_1_2_3 b))
      Gen.shapeCasts_S1x2048x4x128_S1x2048x512) (ix3 0 (row n i) (col h d)) = x * y := by
  pointwise
  simp only [col_div, col_mod]
  rw [hx, hy]
theorem r_or (h : Fin 4) (n : Fin 16) (i d : Fin 128) : res_main_v256 V0 (ix3 0 (row n i) (col h d)) = (I V0).o h n i d * Ideal.rsqrt (vare ((I V0).o h n) i) := by
  unfold res_main_v256
  exact or_at _ _ _ _ _ _ _ _ (r_o V0 h n i d) (r_rs V0 h n i)
theorem mul3_at (a b : FVec Ideal S1x2048x512 .f32) (j : S1x2048x512.Idx) (x y : EReal) (hx : a j = x) (hy : b j = y) :
    mulf a b j = x * y := by
  subst hx hy
  rfl
theorem r_z (h : Fin 4) (n : Fin 16) (i d : Fin 128) : res_main_v262 V0 (ix3 0 (row n i) (col h d)) = (I V0).o h n i d * Ideal.rsqrt (vare ((I V0).o h n) i) * (I V0).y h n i d := by
  unfold res_main_v262
  exact mul3_at _ _ _ _ _ (r_or V0 h n i d) (r_y V0 h n i d)
theorem r_dz (h : Fin 4) (n : Fin 16) (i d : Fin 128) : res_main_v265 V0 (ix4 0 (row n i) h d) = dz ((I V0).g h n) ((I V0).y h n) i d := by
  pointwise [res_main_v265]
  rw [r_y, r_gs]
  rfl

end Cert.ReferenceIdeal.Value
end
-- ==== Proof.RefC.lean ====
module

public import proofs.«01_k».proof.Proof.RefB
@[expose] public section
set_option maxRecDepth 16384

/-! The reference's intermediate values, chunk by chunk: the backward pass. -/

noncomputable section
namespace Cert.ReferenceIdeal.Value
open Idealize.ShloMosaic Idealize.ShloMosaic.TcCoe Idealize.ShloMosaic.Tactic Cert.ReferenceIdeal Cert.Ret

variable (V0 : Valuation τ sig (Elt Ideal))

/-- A sum over the first and the last axis, both of one element, is the element. -/
theorem reduce_ends (x : FVec Ideal S1x2048x4x1 .f32) (c : EReal) (t : Fin 2048) (h : Fin 4) :
    Ideal.hostReduceAdd Gen.reducesTo_S1x2048x4x1_S2048x4_d0_3 x c (ix2 t h) = c + x (ix4 0 t h 0) := by
  unfold Ideal.hostReduceAdd
  refine congrArg (c + ·) ?_
  have e : (Finset.univ.filter fun i => Gen.reducesTo_S1x2048x4x1_S2048x4_d0_3.drop i = ix2 t h) = {ix4 0 t h 0} := by
    ext i
    have e1 : (Gen.reducesTo_S1x2048x4x1_S2048x4_d0_3.drop i 0).val = (i 1).val := Shape.ReducesTo.drop_apply_val_of_eq _ i 0 1
    have e2 : (Gen.reducesTo_S1x2048x4x1_S2048x4_d0_3.drop i 1).val = (i 2).val := Shape.ReducesTo.drop_apply_val_of_eq _ i 1 2
    simp only [Finset.mem_filter, Finset.mem_univ, true_and, Finset.mem_singleton]
    constructor
    · intro hi
      rw [hi] at e1 e2
      funext a
      fin_cases a
      · exact Fin.ext (by have h0 : (i 0).val < 1 := (i 0).isLt; show (i 0).val = 0; omega)
      · exact Fin.ext e1.symm
      · exact Fin.ext e2.symm
      · exact Fin.ext (by have h0 : (i 3).val < 1 := (i 3).isLt; show (i 3).val = 0; omega)
    · intro hi
      subst hi
      funext a
      fin_cases a
      · exact Fin.ext e1
      · exact Fin.ext e2
  rw [e, Finset.sum_singleton]

/-- The cotangent of a row's mean square, at an index, before it is repeated along the row. -/
theorem dvar_at (a e : FVec Ideal S1x2048x4x128 .f32) (b r : FVec Ideal S1x2048x4x1 .f32) (h : Fin 4) (n : Fin 16) (i : Fin 128) (o g y : M)
    (ho : ∀ d, a (ix4 0 (row n i) h d) = o i d) (he : ∀ d, e (ix4 0 (row n i) h d) = dz g y i d)
    (hb : b (ix4 0 (row n i) h 0) = vare o i) (hr : r (ix4 0 (row n i) h 0) = Ideal.rsqrt (vare o i)) :
    (Host.divf (mulf (shapeCast S1x2048x4x1 (Host.reduceAdd (mulf a e) (constant S_ .f32 0x00000000#32)
        Gen.reducesTo_S1x2048x4x128_S1x2048x4_d3 Gen.h_S_) Gen.shapeCasts_S1x2048x4_S1x2048x4x1)
      (mulf (broadcastInDim S1x2048x4x1 ![] Gen.bcast_S_S1x2048x4x1 (constant S_ .f32 0xBF000000#32)) (Host.divf r b)))
      (broadcastInDim S1x2048x4x1 ![] Gen.bcast_S_S1x2048x4x1 (constant S_ .f32 0x43000000#32))) (ix4 0 (row n i) h 0) = dvar o g y i := by
  pointwise
  simp only [ho, he, hb, hr]
  rfl

/-- A sum over the ends, repeated along the rows. -/
theorem spread_at (x : FVec Ideal S1x2048x4x1 .f32) (t : Fin 2048) (h : Fin 4) (d : Fin 128) (X : EReal) (hx : x (ix4 0 t h 0) = X) :
    (broadcastInDim S1x2048x4x128 ![0, 1, 2] Gen.bcast_S1x2048x4_S1x2048x4x128_0_1_2 (broadcastInDim S1x2048x4 ![1, 2] Gen.bcast_S2048x4_S1x2048x4_1_2
      (Host.reduceAdd x (constant S_ .f32 0x00000000#32) Gen.reducesTo_S1x2048x4x1_S2048x4_d0_3 Gen.h_S_))) (ix4 0 t h d) = X := by
  subst hx
  pointwise
  exact (reduce_ends x 0 t h).trans (zero_add _)

theorem r_dvar (h : Fin 4) (n : Fin 16) (i d : Fin 128) : res_main_v276 V0 (ix4 0 (row n i) h d) = dvar ((I V0).o h n) ((I V0).g h n) ((I V0).y h n) i := by
  unfold res_main_v276
  exact spread_at _ _ _ _ _ (dvar_at _ _ _ _ h n i _ _ _ (r_o V0 h n i) (r_dz V0 h n i) (r_var V0 h n i) (r_rs V0 h n i))
theorem r_dO (h : Fin 4) (n : Fin 16) (i d : Fin 128) : res_main_v282 V0 (ix5 0 h n i d) = (I V0).dO h n i d := by
  pointwise [res_main_v282]
  rw [r_dz, r_rs, r_o, r_dvar]
  rfl
theorem r_v284 (h : Fin 4) (n : Fin 16) (e d : Fin 128) : res_main_v284 V0 (ix5 n 0 h e d) =
    ∑ i, (I V0).dO h n i d * ((I V0).qr h n i e * (I V0).qd h i e) := by
  pointwise [res_main_v284]
  simp only [r_dO, r_v238]
theorem r_v289 (h : Fin 4) (n : Fin 16) (e d : Fin 128) : res_main_v289 V0 (ix5 n 0 h e d) =
    ∑ i, (I V0).dO h n i d * ((I V0).qr h n i e * (I V0).qd h i e) := by
  pointwise [res_main_v289]
  exact r_v284 V0 h n e d

theorem r_D0 (h : Fin 4) (e d : Fin 128) : res_main_v288 V0 (ix4 0 h e d) = (I V0).D h 0 e d := by
  pointwise [res_main_v288]
  rfl
theorem r_D1 (h : Fin 4) (e d : Fin 128) : res_main_v296 V0 (ix4 0 h e d) = (I V0).D h 1 e d := by
  pointwise [res_main_v296]
  rw [r_D0, r_v124 V0 h e d, r_v289, add_comm]
  rfl
theorem r_D2 (h : Fin 4) (e d : Fin 128) : res_main_v301 V0 (ix4 0 h e d) = (I V0).D h 2 e d := by
  pointwise [res_main_v301]
  rw [r_D1, r_v124 V0 h e d, r_v289, add_comm]
  rfl
theorem r_D3 (h : Fin 4) (e d : Fin 128) : res_main_v306 V0 (ix4 0 h e d) = (I V0).D h 3 e d := by
  pointwise [res_main_v306]
  rw [r_D2, r_v124 V0 h e d, r_v289, add_comm]
  rfl
theorem r_D4 (h : Fin 4) (e d : Fin 128) : res_main_v311 V0 (ix4 0 h e d) = (I V0).D h 4 e d := by
  pointwise [res_main_v311]
  rw [r_D3, r_v124 V0 h e d, r_v289, add_comm]
  rfl
theorem r_D5 (h : Fin 4) (e d : Fin 128) : res_main_v316 V0 (ix4 0 h e d) = (I V0).D h 5 e d := by
  pointwise [res_main_v316]
  rw [r_D4, r_v124 V0 h e d, r_v289, add_comm]
  rfl
theorem r_D6 (h : Fin 4) (e d : Fin 128) : res_main_v321 V0 (ix4 0 h e d) = (I V0).D h 6 e d := by
  pointwise [res_main_v321]
  rw [r_D5, r_v124 V0 h e d, r_v289, add_comm]
  rfl
theorem r_D7 (h : Fin 4) (e d : Fin 128) : res_main_v326 V0 (ix4 0 h e d) = (I V0).D h 7 e d := by
  pointwise [res_main_v326]
  rw [r_D6, r_v124 V0 h e d, r_v289, add_comm]
  rfl
theorem r_D8 (h : Fin 4) (e d : Fin 128) : res_main_v331 V0 (ix4 0 h e d) = (I V0).D h 8 e d := by
  pointwise [res_main_v331]
  rw [r_D7, r_v124 V0 h e d, r_v289, add_comm]
  rfl
theorem r_D9 (h : Fin 4) (e d : Fin 128) : res_main_v336 V0 (ix4 0 h e d) = (I V0).D h 9 e d := by
  pointwise [res_main_v336]
  rw [r_D8, r_v124 V0 h e d, r_v289, add_comm]
  rfl
theorem r_D10 (h : Fin 4) (e d : Fin 128) : res_main_v341 V0 (ix4 0 h e d) = (I V0).D h 10 e d := by
  pointwise [res_main_v341]
  rw [r_D9, r_v124 V0 h e d, r_v289, add_comm]
  rfl
theorem r_D11 (h : Fin 4) (e d : Fin 128) : res_main_v346 V0 (ix4 0 h e d) = (I V0).D h 11 e d := by
  pointwise [res_main_v346]
  rw [r_D10, r_v124 V0 h e d, r_v289, add_comm]
  rfl
theorem r_D12 (h : Fin 4) (e d : Fin 128) : res_main_v351 V0 (ix4 0 h e d) = (I V0).D h 12 e d := by
  pointwise [res_main_v351]
  rw [r_D11, r_v124 V0 h e d, r_v289, add_comm]
  rfl
theorem r_D13 (h : Fin 4) (e d : Fin 128) : res_main_v356 V0 (ix4 0 h e d) = (I V0).D h 13 e d := by
  pointwise [res_main_v356]
  rw [r_D12, r_v124 V0 h e d, r_v289, add_comm]
  rfl
theorem r_D14 (h : Fin 4) (e d : Fin 128) : res_main_v361 V0 (ix4 0 h e d) = (I V0).D h 14 e d := by
  pointwise [res_main_v361]
  rw [r_D13, r_v124 V0 h e d, r_v289, add_comm]
  rfl
theorem r_D15 (h : Fin 4) (e d : Fin 128) : res_main_v366 V0 (ix4 0 h e d) = (I V0).D h 15 e d := by
  pointwise [res_main_v366]
  rw [r_D14, r_v124 V0 h e d, r_v289, add_comm]
  rfl

theorem r_D (h : Fin 4) (n : Fin 16) (e d : Fin 128) : res_main_v389 V0 (ix5 n 0 h e d) = (I V0).D h (15 - n) e d := by
  fin_cases n
  · exact (by pointwise [res_main_v389] : res_main_v389 V0 (ix5 0 0 h e d) = res_main_v366 V0 (ix4 0 h e d)).trans (r_D15 V0 h e d)
  · exact (by pointwise [res_main_v389] : res_main_v389 V0 (ix5 1 0 h e d) = res_main_v361 V0 (ix4 0 h e d)).trans (r_D14 V0 h e d)
  · exact (by pointwise [res_main_v389] : res_main_v389 V0 (ix5 2 0 h e d) = res_main_v356 V0 (ix4 0 h e d)).trans (r_D13 V0 h e d)
  · exact (by pointwise [res_main_v389] : res_main_v389 V0 (ix5 3 0 h e d) = res_main_v351 V0 (ix4 0 h e d)).trans (r_D12 V0 h e d)
  · exact (by pointwise [res_main_v389] : res_main_v389 V0 (ix5 4 0 h e d) = res_main_v346 V0 (ix4 0 h e d)).trans (r_D11 V0 h e d)
  · exact (by pointwise [res_main_v389] : res_main_v389 V0 (ix5 5 0 h e d) = res_main_v341 V0 (ix4 0 h e d)).trans (r_D10 V0 h e d)
  · exact (by pointwise [res_main_v389] : res_main_v389 V0 (ix5 6 0 h e d) = res_main_v336 V0 (ix4 0 h e d)).trans (r_D9 V0 h e d)
  · exact (by pointwise [res_main_v389] : res_main_v389 V0 (ix5 7 0 h e d) = res_main_v331 V0 (ix4 0 h e d)).trans (r_D8 V0 h e d)
  · exact (by pointwise [res_main_v389] : res_main_v389 V0 (ix5 8 0 h e d) = res_main_v326 V0 (ix4 0 h e d)).trans (r_D7 V0 h e d)
  · exact (by pointwise [res_main_v389] : res_main_v389 V0 (ix5 9 0 h e d) = res_main_v321 V0 (ix4 0 h e d)).trans (r_D6 V0 h e d)
  · exact (by pointwise [res_main_v389] : res_main_v389 V0 (ix5 10 0 h e d) = res_main_v316 V0 (ix4 0 h e d)).trans (r_D5 V0 h e d)
  · exact (by pointwise [res_main_v389] : res_main_v389 V0 (ix5 11 0 h e d) = res_main_v311 V0 (ix4 0 h e d)).trans (r_D4 V0 h e d)
  · exact (by pointwise [res_main_v389] : res_main_v389 V0 (ix5 12 0 h e d) = res_main_v306 V0 (ix4 0 h e d)).trans (r_D3 V0 h e d)
  · exact (by pointwise [res_main_v389] : res_main_v389 V0 (ix5 13 0 h e d) = res_main_v301 V0 (ix4 0 h e d)).trans (r_D2 V0 h e d)
  · exact (by pointwise [res_main_v389] : res_main_v389 V0 (ix5 14 0 h e d) = res_main_v296 V0 (ix4 0 h e d)).trans (r_D1 V0 h e d)
  · exact (by pointwise [res_main_v389] : res_main_v389 V0 (ix5 15 0 h e d) = res_main_v288 V0 (ix4 0 h e d)).trans (r_D0 V0 h e d)

theorem r_ds (h : Fin 4) (n : Fin 16) (i j : Fin 128) : res_main_v401 V0 (ix5 0 h n i j) = (I V0).ds h n i j := by
  pointwise [res_main_v401]
  simp only [r_dO, r_v85, r_v104]
  rfl
theorem r_dk (h : Fin 4) (n : Fin 16) (i d : Fin 128) : res_main_v411 V0 (ix4 0 (row n i) h d) =
    dkr ((I V0).D h (15 - n)) ((I V0).v h n) ((I V0).kt h) ((I V0).ds h n) ((I V0).qr h n) i d := by
  pointwise [res_main_v411]
  simp only [row_div, row_mod, r_D, r_v85, r_v117 V0 h i d, r_ds, r_v79]
  rfl
theorem r_dq (h : Fin 4) (n : Fin 16) (i d : Fin 128) : res_main_v413 V0 (ix4 0 (row n i) h d) =
    dqr ((I V0).dO h n) ((I V0).S h n) ((I V0).qd h) ((I V0).ds h n) ((I V0).kr h n) i d := by
  pointwise [res_main_v413]
  simp only [row_div, row_mod, r_dO, r_S, r_v236 V0 h i d, r_ds, r_v83]
  rfl

end Cert.ReferenceIdeal.Value
end
-- ==== Proof.RefD.lean ====
module

public import proofs.«01_k».proof.Proof.RefC
@[expose] public section
set_option maxRecDepth 16384

/-! The reference's four results, chunk by chunk. -/

noncomputable section
namespace Cert.ReferenceIdeal.Value
open Idealize.ShloMosaic Idealize.ShloMosaic.TcCoe Idealize.ShloMosaic.Tactic Cert.ReferenceIdeal Cert.ReferenceIdeal.Gen Cert.Ret

variable (V0 : Valuation τ sig (Elt Ideal))

/-- The transpose of the rotary embedding, as the reference computes it. -/
def rotOut (g1 g2 : FVec Ideal S1x2048x4x64 .f32) (c s : FVec Ideal S1x2048x1x64 .f32) : FVec Ideal S2048x512 .bf16 :=
    truncf .bf16 (shapeCast S2048x512 (shapeCast S1x2048x512 (addf
      (pad S1x2048x4x128 ![0, 0, 0, 64] ![0, 0, 0, 0] ![0, 0, 0, 0] (addf (mulf g2 (broadcastInDim S1x2048x4x64 ![0, 1, 2, 3] bcast_S1x2048x1x64_S1x2048x4x64_0_1_2_3 c)) (mulf (Host.negf g1) (broadcastInDim S1x2048x4x64 ![0, 1, 2, 3] bcast_S1x2048x1x64_S1x2048x4x64_0_1_2_3 s))) (constant S_ .f32 0x00000000#32) pads_S1x2048x4x64_S1x2048x4x128_000_000_000_6400 h_S_)
      (pad S1x2048x4x128 ![0, 0, 0, 0] ![0, 0, 0, 64] ![0, 0, 0, 0] (addf (mulf g2 (broadcastInDim S1x2048x4x64 ![0, 1, 2, 3] bcast_S1x2048x1x64_S1x2048x4x64_0_1_2_3 s)) (mulf g1 (broadcastInDim S1x2048x4x64 ![0, 1, 2, 3] bcast_S1x2048x1x64_S1x2048x4x64_0_1_2_3 c))) (constant S_ .f32 0x00000000#32) pads_S1x2048x4x64_S1x2048x4x128_000_000_000_0640 h_S_)) shapeCasts_S1x2048x4x128_S1x2048x512) shapeCasts_S1x2048x512_S2048x512) bitsLt_bf16_f32

/-- The transpose of the rotary embedding, in the lower half of the columns. -/
theorem rotT_lo (G : M) (n : ℕ) (i d : Fin 128) (hlt : d.val < 64) : rotT G (cosT n) (sinT n) i d =
    G i ⟨64 + d.val, by omega⟩ * Ideal.sin (angle (128 * n + i.val) d.val) + G i d * Ideal.cos (angle (128 * n + i.val) d.val) := by
  have e1 : (d.val + 64) % 128 = 64 + d.val := by omega
  have e2 : (64 + d.val) % 64 = d.val := by omega
  have e3 : d.val % 64 = d.val := by omega
  have e4 : ¬64 + d.val < 64 := by omega
  unfold rotT cosT sinT sw
  simp only [e1, e2, e3, e4, if_false]

/-- The transpose of the rotary embedding, in the upper half of the columns. -/
theorem rotT_hi (G : M) (n : ℕ) (i d : Fin 128) (hlt : ¬d.val < 64) : rotT G (cosT n) (sinT n) i d =
    G i ⟨d.val - 64, by omega⟩ * -Ideal.sin (angle (128 * n + i.val) (d.val - 64)) + G i d * Ideal.cos (angle (128 * n + i.val) (d.val - 64)) := by
  have e1 : (d.val + 64) % 128 = d.val - 64 := by omega
  have e2 : (d.val - 64) % 64 = d.val - 64 := by omega
  have e3 : d.val % 64 = d.val - 64 := by omega
  have e4 : d.val - 64 < 64 := by omega
  unfold rotT cosT sinT sw
  simp only [e1, e2, e3, e4, if_true]

/-- The transpose of the rotary embedding, from the halves of the columns. -/
theorem rotT_at (g1 g2 : FVec Ideal S1x2048x4x64 .f32) (c s : FVec Ideal S1x2048x1x64 .f32) (G : M) (h : Fin 4) (n : Fin 16) (i d : Fin 128)
    (h1 : ∀ e : Fin 64, g1 (ix4 0 (row n i) h e) = G i ⟨e.val, by omega⟩) (h2 : ∀ e : Fin 64, g2 (ix4 0 (row n i) h e) = G i ⟨64 + e.val, by omega⟩)
    (hc : ∀ e : Fin 64, c (ix4 0 (row n i) 0 e) = Ideal.cos (angle (128 * n.val + i.val) e))
    (hs : ∀ e : Fin 64, s (ix4 0 (row n i) 0 e) = Ideal.sin (angle (128 * n.val + i.val) e)) :
    rotOut g1 g2 c s (ix2 (row n i) (col h d)) =
      rotT G (cosT n) (sinT n) i d := by
  pointwise [rotOut]
  have hn := n.isLt
  have hi := i.isLt
  have hh := h.isLt
  have hd := d.isLt
  have e1 : (h.val * 128 + d.val) / 128 = h.val := by omega
  have e2 : (h.val * 128 + d.val) % 128 = d.val := by omega
  simp only [e1, e2, Fin.eta]
  by_cases hlt : d.val < 64
  · have c1 : ¬(64 ≤ d.val) := by omega
    have c2 : n.val * 128 + i.val < 2048 := by omega
    simp only [c1, c2, hlt, hh, false_and, and_false, true_and, and_self, dite_false, dite_true, zero_add]
    simp only [h1, h2, hc, hs]
    rw [rotT_lo G n i d hlt]
  · have c1 : 64 ≤ d.val := by omega
    have c2 : n.val * 128 + i.val < 2048 := by omega
    have c3 : d.val - 64 < 64 := by omega
    simp only [c1, c2, c3, hlt, hh, false_and, and_false, true_and, and_self, dite_false, dite_true, add_zero]
    simp only [h1, h2, hc, hs]
    rw [rotT_hi G n i d hlt, add_comm, neg_mul, mul_neg]
    simp only [show 64 + (d.val - 64) = d.val by omega]

theorem r_qa (h : Fin 4) (n : Fin 16) (i : Fin 128) (e : Fin 64) : res_main_v432 V0 (ix4 0 (row n i) h e) = (dqr ((I V0).dO h n) ((I V0).S h n) ((I V0).qd h) ((I V0).ds h n) ((I V0).kr h n)) i ⟨e.val, by omega⟩ := by
  pointwise [res_main_v432]
  exact r_dq V0 h n i ⟨e.val, by omega⟩
theorem r_qb (h : Fin 4) (n : Fin 16) (i : Fin 128) (e : Fin 64) : res_main_v433 V0 (ix4 0 (row n i) h e) = (dqr ((I V0).dO h n) ((I V0).S h n) ((I V0).qd h) ((I V0).ds h n) ((I V0).kr h n)) i ⟨64 + e.val, by omega⟩ := by
  pointwise [res_main_v433]
  exact r_dq V0 h n i ⟨64 + e.val, by omega⟩

/-- The reference's gradient of the queries. -/
theorem res_q (h : Fin 4) (n : Fin 16) (i d : Fin 128) :
    rotOut (res_main_v432 V0) (res_main_v433 V0) (res_main_v23 V0) (res_main_v25 V0) (ix2 (row n i) (col h d)) = (I V0).dq h n i d :=
  rotT_at _ _ _ _ _ h n i d (r_qa V0 h n i) (r_qb V0 h n i)
    (fun e => (r_cos V0 _ e).trans (by rw [Nat.mul_comm 128])) (fun e => (r_sin V0 _ e).trans (by rw [Nat.mul_comm 128]))

theorem r_ka (h : Fin 4) (n : Fin 16) (i : Fin 128) (e : Fin 64) : res_main_v415 V0 (ix4 0 (row n i) h e) = (dkr ((I V0).D h (15 - n)) ((I V0).v h n) ((I V0).kt h) ((I V0).ds h n) ((I V0).qr h n)) i ⟨e.val, by omega⟩ := by
  pointwise [res_main_v415]
  exact r_dk V0 h n i ⟨e.val, by omega⟩
theorem r_kb (h : Fin 4) (n : Fin 16) (i : Fin 128) (e : Fin 64) : res_main_v416 V0 (ix4 0 (row n i) h e) = (dkr ((I V0).D h (15 - n)) ((I V0).v h n) ((I V0).kt h) ((I V0).ds h n) ((I V0).qr h n)) i ⟨64 + e.val, by omega⟩ := by
  pointwise [res_main_v416]
  exact r_dk V0 h n i ⟨64 + e.val, by omega⟩

/-- The reference's gradient of the keys. -/
theorem res_k (h : Fin 4) (n : Fin 16) (i d : Fin 128) :
    rotOut (res_main_v415 V0) (res_main_v416 V0) (res_main_v53 V0) (res_main_v55 V0) (ix2 (row n i) (col h d)) = (I V0).dk h n i d :=
  rotT_at _ _ _ _ _ h n i d (r_ka V0 h n i) (r_kb V0 h n i)
    (fun e => (r_cosk V0 _ e).trans (by rw [Nat.mul_comm 128])) (fun e => (r_sink V0 _ e).trans (by rw [Nat.mul_comm 128]))

/-- The gradient of the values, as the reference computes it. -/
def valOut (a : FVec Ideal S16x1x4x128x128 .f32) (b o s : FVec Ideal S1x4x16x128x128 .f32) : FVec Ideal S2048x512 .bf16 :=
  truncf .bf16 (shapeCast S2048x512 (shapeCast S1x2048x512 (shapeCast S1x2048x4x128 (transpose S1x16x128x4x128 [0, 2, 3, 1, 4] (addf (transpose S1x4x16x128x128 [1, 2, 0, 4, 3] (Host.dotGeneral dot_S16x1x4x128x128_S1x4x16x128x128_S16x1x4x128x128_3_4_4_3_012_201 none a b) transposes_S16x1x4x128x128_S1x4x16x128x128_1_2_0_4_3) (transpose S1x4x16x128x128 [0, 1, 2, 4, 3] (Host.dotGeneral dot_S1x4x16x128x128_S1x4x16x128x128_S1x4x16x128x128_3_3_4_4_012_012 none o s) transposes_S1x4x16x128x128_S1x4x16x128x128_0_1_2_4_3)) transposes_S1x4x16x128x128_S1x16x128x4x128_0_2_3_1_4) shapeCasts_S1x16x128x4x128_S1x2048x4x128) shapeCasts_S1x2048x4x128_S1x2048x512) shapeCasts_S1x2048x512_S2048x512) bitsLt_bf16_f32

/-- The gradient of the gates, as the reference computes it. -/
def gateOut (z l g : FVec Ideal S1x2048x512 .f32) : FVec Ideal S2048x512 .bf16 :=
  truncf .bf16 (shapeCast S2048x512 (addf (mulf z l) (mulf (mulf g z) (mulf l (subf (broadcastInDim S1x2048x512 ![] bcast_S_S1x2048x512 (constant S_ .f32 0x3F800000#32)) l)))) shapeCasts_S1x2048x512_S2048x512) bitsLt_bf16_f32

theorem valOut_at (a : FVec Ideal S16x1x4x128x128 .f32) (b o s : FVec Ideal S1x4x16x128x128 .f32) (D kr kt dO scr : M) (h : Fin 4) (n : Fin 16) (i d : Fin 128)
    (hD : ∀ e d, a (ix5 n 0 h e d) = D e d) (hk : ∀ i d, b (ix5 0 h n i d) = kr i d * kt i d) (ho : ∀ i d, o (ix5 0 h n i d) = dO i d)
    (hs : ∀ i j, s (ix5 0 h n i j) = scr i j) : valOut a b o s (ix2 (row n i) (col h d)) = dval D kr kt dO scr i d := by
  pointwise [valOut]
  simp only [col_div, col_mod, row_div, row_mod, hD, hk, ho, hs]
  rfl

theorem gateOut_at (z l g : FVec Ideal S1x2048x512 .f32) (o G y : M) (h : Fin 4) (n : Fin 16) (i d : Fin 128)
    (hz : z (ix3 0 (row n i) (col h d)) = o i d * Ideal.rsqrt (vare o i) * y i d) (hl : l (ix3 0 (row n i) (col h d)) = sg G i d)
    (hg : g (ix3 0 (row n i) (col h d)) = G i d) : gateOut z l g (ix2 (row n i) (col h d)) = dgate o G y i d := by
  pointwise [gateOut]
  rw [hz, hl, hg]
  unfold dgate
  pointwise

/-- The reference's gradient of the values. -/
theorem res_v (h : Fin 4) (n : Fin 16) (i d : Fin 128) :
    valOut (res_main_v389 V0) (res_main_v119 V0) (res_main_v282 V0) (res_main_v106 V0) (ix2 (row n i) (col h d)) = (I V0).dv h n i d :=
  valOut_at _ _ _ _ _ _ _ _ _ h n i d (r_D V0 h n) (r_v119 V0 h n) (r_dO V0 h n) (r_v106 V0 h n)

/-- The reference's gradient of the gates. -/
theorem res_g (h : Fin 4) (n : Fin 16) (i d : Fin 128) :
    gateOut (res_main_v262 V0) (res_main_v257_2 V0) (res_main_v7 V0) (ix2 (row n i) (col h d)) = (I V0).dg h n i d :=
  gateOut_at _ _ _ _ _ _ h n i d (r_z V0 h n i d) (r_sg V0 h n i d) (r_g V0 h n i d)

end Cert.ReferenceIdeal.Value
end
-- ==== Proof.Values.lean ====
module

public import proofs.«01_k».proof.Proof.Gen.KernelIdeal.Value
public import proofs.«01_k».proof.Proof.Blocks
public import proofs.«01_k».proof.Proof.RefD
@[expose] public section
set_option maxRecDepth 16384

/-! The results of the two programs, as one function of their arguments. -/

noncomputable section
namespace Cert.KernelIdeal.Gen
open Idealize.ShloMosaic Idealize.ShloMosaic.TcCoe Idealize.ShloMosaic.Tactic Idealize.SL.Sem Cert.KernelIdeal Cert.Ret Cert.Prod

/-- An array whose entries are `f`'s is `whole f`. -/
theorem eq_whole (X : (⟨2, ![2048, 512]⟩ : Shape).Idx → EReal) (f : Fin 4 → ℕ → M)
    (H : ∀ (n : Fin 16) (h : Fin 4) (i d : Fin 128),
      X (ix2 (⟨n.val * 128 + i.val, by omega⟩ : Fin 2048) (⟨h.val * 128 + d.val, by omega⟩ : Fin 512)) = f h n.val i d) :
    X = whole f := by
  funext y
  have h0 : (y 0).val < 2048 := (y 0).isLt
  have h1 : (y 1).val < 512 := (y 1).isLt
  have a0 : (y 0).val = (y 0).val / 128 * 128 + (y 0).val % 128 := by omega
  have a1 : (y 1).val = (y 1).val / 128 * 128 + (y 1).val % 128 := by omega
  refine (at_ix2 X y ⟨(y 0).val / 128 * 128 + (y 0).val % 128, by omega⟩ ⟨(y 1).val / 128 * 128 + (y 1).val % 128, by omega⟩ a0 a1).trans ?_
  refine (H ⟨(y 0).val / 128, by omega⟩ ⟨(y 1).val / 128, by omega⟩ ⟨(y 0).val % 128, by omega⟩ ⟨(y 1).val % 128, by omega⟩).trans ?_
  exact (whole_at f y _ _ _ _ (a0.trans (by rw [Nat.mul_comm])) (a1.trans (by rw [Nat.mul_comm]))).symm

/-- What the kernel leaves: the four cotangents of its arguments' data. -/
theorem run_value (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v243_0) = whole (J m c).dq
      ∧ r.2.mem ((c : Thread nD τ).loc main_v243_1) = whole (J m c).dk
      ∧ r.2.mem ((c : Thread nD τ).loc main_v243_2) = whole (J m c).dv
      ∧ r.2.mem ((c : Thread nD τ).loc main_v243_3) = whole (J m c).dg
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final12 (holds m c)), (h c).2.1.trans (final13 (holds m c)),
    (h c).2.2.1.trans (final14 (holds m c)), (h c).2.2.2.1.trans (final15 (holds m c)),
    (h c).2.2.2.2⟩) (Value.run_blocks m ρ)

end Cert.KernelIdeal.Gen

namespace Cert.ReferenceIdeal.Value
open Idealize.ShloMosaic Idealize.ShloMosaic.TcCoe Idealize.ShloMosaic.Tactic Idealize.SL.Sem Idealize.ShloMosaic.StableHlo Cert.ReferenceIdeal Cert.Ret
open Cert.KernelIdeal.Gen (whole eq_whole)

variable (m : (ℓ : Loc nD τ sig) → Buf (Elt Ideal) ℓ) (c : Dev nD)

/-- The data of the reference's arguments. -/
abbrev K : Data := data (m ((c.tc : Thread nD τ).loc main_arg0)) (m ((c.tc : Thread nD τ).loc main_arg1))

/-- What the reference leaves: the same four cotangents of its arguments' data. -/
theorem run_value (ρ : Dev nD → PrngReg) :
    θ_run defs (onTc (τ := τ) (main (F := Ideal))) ⟨m, fun _ => 0, ρ⟩ fun r => ∀ c : Dev nD,
      r.2.mem ((c.tc : Thread nD τ).loc main_v450) = (whole (K m c).dq : FVec Ideal S2048x512 .bf16)
      ∧ r.2.mem ((c.tc : Thread nD τ).loc main_v452) = (whole (K m c).dk : FVec Ideal S2048x512 .bf16)
      ∧ r.2.mem ((c.tc : Thread nD τ).loc main_v454) = (whole (K m c).dv : FVec Ideal S2048x512 .bf16)
      ∧ r.2.mem ((c.tc : Thread nD τ).loc main_v456) = (whole (K m c).dg : FVec Ideal S2048x512 .bf16)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => by
    obtain ⟨h1, h2, h3, h4, h5⟩ := h c
    refine ⟨h1.trans ?_, h2.trans ?_, h3.trans ?_, h4.trans ?_, h5⟩
    · exact eq_whole (rotOut _ _ _ _) _ fun n h i d => res_q (launchContents m c) h n i d
    · exact eq_whole (rotOut _ _ _ _) _ fun n h i d => res_k (launchContents m c) h n i d
    · exact eq_whole (valOut _ _ _ _) _ fun n h i d => res_v (launchContents m c) h n i d
    · exact eq_whole (gateOut _ _ _) _ fun n h i d => res_g (launchContents m c) h n i d) (run m ρ)

end Cert.ReferenceIdeal.Value
-- ==== Proof.RowsWritten.lean ====
module

public import proofs.«01_k».proof.On_rows_written
public import Idealize.ShloMosaic.PureOps.Ideal
public import Idealize.ShloMosaic.Lib.Pipeline.ValueKit
@[expose] public section
set_option maxRecDepth 16384

/-! The rows the claim is about: those below the last, partial block. -/

noncomputable section
namespace Cert.On_rows_written
open Idealize.ShloMosaic Idealize.ShloMosaic.Tactic

instance facts : Facts := { bcast_S_S2x4104x512 := by decide }

theorem row_lt [Facts] {A : FVec Ideal S2048x4096 .f32} {B : FVec Ideal S2048x1024 .f32} {i : S2x4104x512.Idx} (h : fn (F := Ideal) A B i = 1#1) :
    (i 1).val < 4096 := by
  by_contra hi
  refine absurd h ?_
  idx_vars i
  pointwise [fn]
  have hb : i1.val < 4104 := i1.isLt
  have e : (BitVec.ofNat 32 i1.val).toInt = i1.val := by
    rw [BitVec.toInt_eq_toNat_of_lt (by rw [BitVec.toNat_ofNat]; omega), BitVec.toNat_ofNat, Nat.mod_eq_of_lt (by omega)]
  have n : (BitVec.ofNat 32 i1.val).slt 4096#32 = false := by
    rw [BitVec.slt, e]
    exact decide_eq_false (by simp only [BitVec.reduceToInt]; omega)
  unfold IntOp.cmpi
  simp [n]

end Cert.On_rows_written
end
-- ==== Proof.DownDx.lean ====
module

public import proofs.«01_k».proof.Proof.Product
public import proofs.«01_k».proof.Proof.Gen.Kernel2Ideal.Value
public import proofs.«01_k».proof.Proof.Gen.Reference2Ideal.Run
@[expose] public section
set_option maxRecDepth 16384

/-! The gradient of the down projection in its left factor. -/

noncomputable section
namespace Cert.Kernel2Ideal.Gen
open Idealize.ShloMosaic Idealize.ShloMosaic.TcCoe Idealize.ShloMosaic.Tactic Idealize.SL.Sem Cert.Kernel2Ideal Cert.Prod

theorem idx0 : ∀ t : Fin cfg0.N, win0_0.index t = ![0, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![0, t.val] := (by decide +kernel : ∀ t : Fin grid0.N, _)

/-- A block of the result is the product of the blocks. -/
theorem out_at (x0 : Vec Ideal S2048x1024 .f32) (x1 : Vec Ideal S1408x1024 .f32) (i : Fin 2048) (j : Fin 1408) :
    out0_2 x0 x1 (ix2 i j) = mulT x0 x1 i j := by
  unfold out0_2 mulT
  rw [View.canon_cons_unit_lit _ _ _ (by decide), View.ld_unit_lit _ _ (by decide), View.ld_unit_lit _ _ (by decide)]
  pointwise [k0_pay1]

variable (m : (ℓ : Loc nD τ sig) → Buf (Elt Ideal) ℓ) (c : Dev nD)

theorem blk0 (t : Fin cfg0.N) (i : Fin 2048) (j : Fin 1024) :
    (iblk m c 0 t : Vec Ideal S2048x1024 .f32) (ix2 i j) = m (c, Proc.devRef .tc main_arg0) (ix2 i j) := by
  blk_simp [iblk, V_main_arg0]
  refine at_ix2 (a := 2048) (b := 1024) (m (c, Proc.devRef .tc main_arg0)) _ _ _ ?_ ?_ <;>
    ((blk_simp [idx0 t]) <;> (try simp [ix2]) <;> (try omega))

theorem blk1 (t : Fin cfg0.N) (i : Fin 1408) (j : Fin 1024) (i' : Fin 2816) (h : i'.val = 1408 * t.val + i.val) :
    (iblk m c 1 t : Vec Ideal S1408x1024 .f32) (ix2 i j) = m (c, Proc.devRef .tc main_arg1) (ix2 i' j) := by
  blk_simp [iblk, V_main_arg1]
  refine at_ix2 (a := 2816) (b := 1024) (m (c, Proc.devRef .tc main_arg1)) _ _ _ ?_ ?_ <;>
    ((blk_simp [idx1 t]) <;> (try simp [ix2]) <;> (try omega))

/-- The result is `d` times the transpose of `w`. -/
theorem final : (dats m 0 c).arrAt 2 cfg0.N =
    arrT (a := 2048) (b := 2816) (k := 1024) (m (c, Proc.devRef .tc main_arg0)) (m (c, Proc.devRef .tc main_arg1)) := by
  refine (dats m 0 c).arrAt_eq_of_covers 2 _ (by decide +kernel) fun t _ y => ?_
  have hN : t.val < 2 := lt_of_lt_of_eq t.isLt (show cfg0.N = 2 from N_0)
  blk_simp
  rw [after0_2]
  idx_vars y
  rw [out_at]
  refine (mulT_congr (fun x => blk0 m c t y0 x) fun x => blk1 m c t y1 x ⟨1408 * t.val + y1.val, by omega⟩ rfl).trans
    (arrT_at _ _ _ _ _ ?_ ?_).symm <;> ((blk_simp [idx2 t]) <;> (try simp [ix2]) <;> (try omega))

/-- What the kernel leaves. -/
theorem run_value (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v0) = arrT (a := 2048) (b := 2816) (k := 1024) (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (Value.run_blocks m ρ)

end Cert.Kernel2Ideal.Gen

namespace Cert.Reference2Ideal.Value
open Idealize.ShloMosaic Idealize.ShloMosaic.TcCoe Idealize.ShloMosaic.Tactic Idealize.SL.Sem Cert.Reference2Ideal Cert.Reference2Ideal.Gen Cert.Prod

/-- The reference's product, as one array. -/
theorem res (A : FVec Ideal S2048x1024 .f32) (B : FVec Ideal S2816x1024 .f32) :
    (Host.dotGeneral (F := Ideal) dot_S2048x1024_S2816x1024_S2048x2816_1_1_0_0_n_n none A B : FVec Ideal S2048x2816 .f32) = arrT (a := 2048) (b := 2816) (k := 1024) A B := by
  funext y
  idx_vars y
  refine Eq.trans ?_ (arrT_at A B _ y0 y1 rfl rfl).symm
  unfold mulT
  pointwise

/-- What the reference leaves. -/
theorem run_value (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v2) = arrT (a := 2048) (b := 2816) (k := 1024) (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (res _ _), (h c).2⟩) (run m ρ)

end Cert.Reference2Ideal.Value
end
-- ==== Proof.DownDw.lean ====
module

public import proofs.«01_k».proof.Proof.Product
public import proofs.«01_k».proof.Proof.Gen.Kernel3Ideal.Value
public import proofs.«01_k».proof.Proof.Gen.Reference3Ideal.Run
@[expose] public section
set_option maxRecDepth 16384

/-! The gradient of the down projection in its weights. -/

noncomputable section
namespace Cert.Kernel3Ideal.Gen
open Idealize.ShloMosaic Idealize.ShloMosaic.TcCoe Idealize.ShloMosaic.Tactic Idealize.SL.Sem Cert.Kernel3Ideal Cert.Prod

theorem idx0 : ∀ t : Fin cfg0.N, win0_0.index t = ![0, 0] := (by decide +kernel : ∀ t : Fin grid0.N, _)
theorem idx1 : ∀ t : Fin cfg0.N, win0_1.index t = ![0, t.val] := (by decide +kernel : ∀ t : Fin grid0.N, _)
theorem idx2 : ∀ t : Fin cfg0.N, win0_2.index t = ![0, 0, 0, t.val] := (by decide +kernel : ∀ t : Fin grid0.N, _)

/-- A block of the result holds the eight row blocks of the product of the blocks. -/
theorem out_at (x0 : Vec Ideal S2048x2816 .bf16) (x1 : Vec Ideal S2048x512 .f32) (i : Fin 2) (j : Fin 4) (u : Fin 352) (v : Fin 512) :
    out0_2 x0 x1 (ix4 i j u v) = tmul x0 x1 (⟨(2 * j.val + i.val) * 352 + u.val, by omega⟩ : Fin 2816) v := by
  have P : ∀ (p : Fin 2816) (q : Fin 512), k0_pay4 (F := Ideal) (View.ld x0 r0_0) (View.ld x1 r0_1) (ix2 p q) = tmul x0 x1 p q := by
    intro p q
    rw [View.ld_unit_lit _ _ (by decide), View.ld_unit_lit _ _ (by decide)]
    unfold tmul
    pointwise [k0_pay4]
  unfold_out out0_2
  unfold k0_pay5 k0_pay6 k0_pay7 k0_pay8 k0_pay9 k0_pay10
  generalize k0_pay4 (F := Ideal) (View.ld x0 r0_0) (View.ld x1 r0_1) = Q at P
  symm
  rw [← P]
  symm
  canon_tiles x hx <;> pointwise [k0_pay1, k0_pay2, k0_pay3] <;>
    (change i.val = _ at hx0; change j.val = _ at hx1; change u.val = _ at hx2; change v.val = _ at hx3
     refine congrArg₂ (fun p q => Q (ix2 p q)) (Fin.ext ?_) (Fin.ext hx3.symm)
     simp only
     omega)

variable (m : (ℓ : Loc nD τ sig) → Buf (Elt Ideal) ℓ) (c : Dev nD)

/-- The operand cast on the host is the argument. -/
theorem V_cast0 : (V m c main_v0 : Vec Ideal S2048x2816 .bf16) = m (c, Proc.devRef .tc main_arg0) := by
  unfold V hostOps0
  after_results <;> rfl

theorem blk0 (t : Fin cfg0.N) (i : Fin 2048) (j : Fin 2816) :
    (iblk m c 0 t : Vec Ideal S2048x2816 .bf16) (ix2 i j) = m (c, Proc.devRef .tc main_arg0) (ix2 i j) := by
  blk_simp [iblk, V_cast0]
  refine at_ix2 (a := 2048) (b := 2816) (m (c, Proc.devRef .tc main_arg0)) _ _ _ ?_ ?_ <;>
    ((blk_simp [idx0 t]) <;> (try simp [ix2]) <;> (try omega))

theorem blk1 (t : Fin cfg0.N) (i : Fin 2048) (j : Fin 512) (j' : Fin 1024) (h : j'.val = 512 * t.val + j.val) :
    (iblk m c 1 t : Vec Ideal S2048x512 .f32) (ix2 i j) = m (c, Proc.devRef .tc main_arg1) (ix2 i j') := by
  blk_simp [iblk, V_main_arg1]
  refine at_ix2 (a := 2048) (b := 1024) (m (c, Proc.devRef .tc main_arg1)) _ _ _ ?_ ?_ <;>
    ((blk_simp [idx1 t]) <;> (try simp [ix2]) <;> (try omega))

/-- The result is the transpose of `a` times `d`, in the layout it travels in. -/
theorem final : (dats m 0 c).arrAt 2 cfg0.N =
    arrR (r := 352) (n := 1024) (k := 2048) (by decide : 2816 = 8 * 352) (m (c, Proc.devRef .tc main_arg0)) (m (c, Proc.devRef .tc main_arg1)) := by
  refine (dats m 0 c).arrAt_eq_of_covers 2 _ (by decide +kernel) fun t _ y => ?_
  have hN : t.val < 2 := lt_of_lt_of_eq t.isLt (show cfg0.N = 2 from N_0)
  blk_simp
  rw [after0_2]
  idx_vars y
  rw [out_at]
  refine (tmul_congr (fun x => blk0 m c t x _) fun x => blk1 m c t x y3 ⟨512 * t.val + y3.val, by omega⟩ rfl).trans
    (arrR_at _ _ _ _ _ _ ?_ ?_).symm <;> ((blk_simp [idx2 t]) <;> (try simp [ix4]) <;> (try omega))

/-- What the kernel leaves. -/
theorem run_value (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v1) = arrR (r := 352) (n := 1024) (k := 2048) (by decide : 2816 = 8 * 352) (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (Value.run_blocks m ρ)

end Cert.Kernel3Ideal.Gen

namespace Cert.Reference3Ideal.Value
open Idealize.ShloMosaic Idealize.ShloMosaic.TcCoe Idealize.ShloMosaic.Tactic Idealize.SL.Sem Cert.Reference3Ideal Cert.Reference3Ideal.Gen Cert.Prod

/-- The reference's product in its travel layout, as one array. -/
theorem res (A : FVec Ideal S2048x2816 .f32) (B : FVec Ideal S2048x1024 .f32) :
    (transpose S2x4x352x1024 [1, 0, 2, 3] (shapeCast _ (transpose S2816x1024 [1, 0] (Host.dotGeneral (F := Ideal) dot_S2048x1024_S2048x2816_S1024x2816_0_0_1_1_n_n none B A) transposes_S1024x2816_S2816x1024_1_0) shapeCasts_S2816x1024_S4x2x352x1024) transposes_S4x2x352x1024_S2x4x352x1024_1_0_2_3 : FVec Ideal S2x4x352x1024 .f32)
      = arrR (r := 352) (n := 1024) (k := 2048) (by decide : 2816 = 8 * 352) A B := by
  have P : ∀ (p : Fin 1024) (q : Fin 2816), (Host.dotGeneral (F := Ideal) dot_S2048x1024_S2048x2816_S1024x2816_0_0_1_1_n_n none B A : FVec Ideal S1024x2816 .f32) (ix2 p q) = tmul (a := 2816) (b := 1024) (k := 2048) A B q p := by
    intro p q
    unfold tmul
    pointwise
    exact Finset.sum_congr rfl fun _ _ => mul_comm _ _
  generalize (Host.dotGeneral (F := Ideal) dot_S2048x1024_S2048x2816_S1024x2816_0_0_1_1_n_n none B A : FVec Ideal S1024x2816 .f32) = Q at P
  funext y
  idx_vars y
  refine Eq.trans ?_ (arrR_at _ A B _ (⟨(2 * y1.val + y0.val) * 352 + y2.val, by omega⟩ : Fin 2816) y3 rfl rfl).symm
  rw [← P]
  pointwise
  exact congrArg (fun q => Q (ix2 y3 q)) (Fin.ext (by simp only; omega))

/-- What the reference leaves. -/
theorem run_value (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v5) = arrR (r := 352) (n := 1024) (k := 2048) (by decide : 2816 = 8 * 352) (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (res _ _), (h c).2⟩) (run m ρ)

end Cert.Reference3Ideal.Value
end
-- ==== Proof.UpDx.lean ====
module

public import proofs.«01_k».proof.Proof.Product
public import proofs.«01_k».proof.Proof.Gen.Kernel4Ideal.Value
public import proofs.«01_k».proof.Proof.Gen.Reference4Ideal.Run
@[expose] public section
set_option maxRecDepth 16384

/-! The gradient of the up projection in its left factor. -/

noncomputable section
namespace Cert.Kernel4Ideal.Gen
open Idealize.ShloMosaic Idealize.ShloMosaic.TcCoe Idealize.ShloMosaic.Tactic Idealize.SL.Sem Cert.Kernel4Ideal Cert.Prod

theorem idx0 : ∀ t : Fin cfg0.N, win0_0.index t = ![t.val / 2, 0] := (by decide +kernel : ∀ t : Fin grid0.N, _)
theorem idx1 : ∀ t : Fin cfg0.N, win0_1.index t = ![t.val % 2, 0] := (by decide +kernel : ∀ t : Fin grid0.N, _)
theorem idx2 : ∀ t : Fin cfg0.N, win0_2.index t = ![t.val / 2, t.val % 2] := (by decide +kernel : ∀ t : Fin grid0.N, _)

/-- A block of the result is the product of the blocks. -/
theorem out_at (x0 : Vec Ideal S1024x5632 .bf16) (x1 : Vec Ideal S512x5632 .f32) (i : Fin 1024) (j : Fin 512) :
    out0_2 x0 x1 (ix2 i j) = mulT x0 x1 i j := by
  unfold out0_2 mulT
  rw [View.canon_cons_unit_lit _ _ _ (by decide), View.ld_unit_lit _ _ (by decide), View.ld_unit_lit _ _ (by decide)]
  pointwise [k0_pay1]

variable (m : (ℓ : Loc nD τ sig) → Buf (Elt Ideal) ℓ) (c : Dev nD)

/-- The operand cast on the host is the argument. -/
theorem V_cast0 : (V m c main_v0 : Vec Ideal S2048x5632 .bf16) = m (c, Proc.devRef .tc main_arg0) := by
  unfold V hostOps0
  after_results <;> rfl

theorem blk0 (t : Fin cfg0.N) (i : Fin 1024) (j : Fin 5632) (i' : Fin 2048) (h : i'.val = 1024 * (t.val / 2) + i.val) :
    (iblk m c 0 t : Vec Ideal S1024x5632 .bf16) (ix2 i j) = m (c, Proc.devRef .tc main_arg0) (ix2 i' j) := by
  blk_simp [iblk, V_cast0]
  refine at_ix2 (a := 2048) (b := 5632) (m (c, Proc.devRef .tc main_arg0)) _ _ _ ?_ ?_ <;>
    ((blk_simp [idx0 t]) <;> (try simp [ix2]) <;> (try omega))

theorem blk1 (t : Fin cfg0.N) (i : Fin 512) (j : Fin 5632) (i' : Fin 1024) (h : i'.val = 512 * (t.val % 2) + i.val) :
    (iblk m c 1 t : Vec Ideal S512x5632 .f32) (ix2 i j) = m (c, Proc.devRef .tc main_arg1) (ix2 i' j) := by
  blk_simp [iblk, V_main_arg1]
  refine at_ix2 (a := 1024) (b := 5632) (m (c, Proc.devRef .tc main_arg1)) _ _ _ ?_ ?_ <;>
    ((blk_simp [idx1 t]) <;> (try simp [ix2]) <;> (try omega))

/-- The result is `d` times the transpose of `w`. -/
theorem final : (dats m 0 c).arrAt 2 cfg0.N =
    arrT (a := 2048) (b := 1024) (k := 5632) (m (c, Proc.devRef .tc main_arg0)) (m (c, Proc.devRef .tc main_arg1)) := by
  refine (dats m 0 c).arrAt_eq_of_covers 2 _ (by decide +kernel) fun t _ y => ?_
  have hN : t.val < 4 := lt_of_lt_of_eq t.isLt (show cfg0.N = 4 from N_0)
  blk_simp
  rw [after0_2]
  idx_vars y
  rw [out_at]
  refine (mulT_congr (fun x => blk0 m c t y0 x ⟨1024 * (t.val / 2) + y0.val, by omega⟩ rfl) fun x => blk1 m c t y1 x ⟨512 * (t.val % 2) + y1.val, by omega⟩ rfl).trans
    (arrT_at _ _ _ _ _ ?_ ?_).symm <;> ((blk_simp [idx2 t]) <;> (try simp [ix2]) <;> (try omega))

/-- What the kernel leaves. -/
theorem run_value (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v1) = arrT (a := 2048) (b := 1024) (k := 5632) (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (Value.run_blocks m ρ)

end Cert.Kernel4Ideal.Gen

namespace Cert.Reference4Ideal.Value
open Idealize.ShloMosaic Idealize.ShloMosaic.TcCoe Idealize.ShloMosaic.Tactic Idealize.SL.Sem Cert.Reference4Ideal Cert.Reference4Ideal.Gen Cert.Prod

/-- The reference's product, as one array. -/
theorem res (A : FVec Ideal S2048x5632 .f32) (B : FVec Ideal S1024x5632 .f32) :
    (Host.dotGeneral (F := Ideal) dot_S2048x5632_S1024x5632_S2048x1024_1_1_0_0_n_n none A B : FVec Ideal S2048x1024 .f32) = arrT (a := 2048) (b := 1024) (k := 5632) A B := by
  funext y
  idx_vars y
  refine Eq.trans ?_ (arrT_at A B _ y0 y1 rfl rfl).symm
  unfold mulT
  pointwise

/-- What the reference leaves. -/
theorem run_value (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v2) = arrT (a := 2048) (b := 1024) (k := 5632) (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (res _ _), (h c).2⟩) (run m ρ)

end Cert.Reference4Ideal.Value
end
-- ==== Proof.UpDw.lean ====
module

public import proofs.«01_k».proof.Proof.Product
public import proofs.«01_k».proof.Proof.Gen.Kernel5Ideal.Value
public import proofs.«01_k».proof.Proof.Gen.Reference5Ideal.Run
@[expose] public section
set_option maxRecDepth 16384

/-! The gradient of the up projection in its weights. -/

noncomputable section
namespace Cert.Kernel5Ideal.Gen
open Idealize.ShloMosaic Idealize.ShloMosaic.TcCoe Idealize.ShloMosaic.Tactic Idealize.SL.Sem Cert.Kernel5Ideal Cert.Prod

theorem idx0 : ∀ t : Fin cfg0.N, win0_0.index t = ![0, 0] := (by decide +kernel : ∀ t : Fin grid0.N, _)
theorem idx1 : ∀ t : Fin cfg0.N, win0_1.index t = ![0, t.val] := (by decide +kernel : ∀ t : Fin grid0.N, _)
theorem idx2 : ∀ t : Fin cfg0.N, win0_2.index t = ![0, t.val, 0, 0] := (by decide +kernel : ∀ t : Fin grid0.N, _)

/-- A block of the result holds the product of the blocks, its rows in two halves. -/
theorem out_at (x0 : Vec Ideal S2048x1024 .bf16) (x1 : Vec Ideal S2048x1408 .bf16) (i : Fin 2) (j : Fin 1) (u : Fin 512) (v : Fin 1408) :
    out0_2 x0 x1 (ix4 i j u v) = tmul x0 x1 (⟨i.val * 512 + u.val, by omega⟩ : Fin 1024) v := by
  unfold out0_2 tmul
  rw [View.canon_cons_unit_lit _ _ _ (by decide), View.ld_unit_lit _ _ (by decide), View.ld_unit_lit _ _ (by decide)]
  pointwise [k0_pay1]

variable (m : (ℓ : Loc nD τ sig) → Buf (Elt Ideal) ℓ) (c : Dev nD)

/-- The operand cast on the host is the argument. -/
theorem V_cast0 : (V m c main_v0 : Vec Ideal S2048x1024 .bf16) = m (c, Proc.devRef .tc main_arg0) := by
  unfold V hostOps0
  after_results <;> rfl

/-- The operand cast on the host is the argument. -/
theorem V_cast1 : (V m c main_v1 : Vec Ideal S2048x5632 .bf16) = m (c, Proc.devRef .tc main_arg1) := by
  unfold V hostOps0
  after_results <;> rfl

theorem blk0 (t : Fin cfg0.N) (i : Fin 2048) (j : Fin 1024) :
    (iblk m c 0 t : Vec Ideal S2048x1024 .bf16) (ix2 i j) = m (c, Proc.devRef .tc main_arg0) (ix2 i j) := by
  blk_simp [iblk, V_cast0]
  refine at_ix2 (a := 2048) (b := 1024) (m (c, Proc.devRef .tc main_arg0)) _ _ _ ?_ ?_ <;>
    ((blk_simp [idx0 t]) <;> (try simp [ix2]) <;> (try omega))

theorem blk1 (t : Fin cfg0.N) (i : Fin 2048) (j : Fin 1408) (j' : Fin 5632) (h : j'.val = 1408 * t.val + j.val) :
    (iblk m c 1 t : Vec Ideal S2048x1408 .bf16) (ix2 i j) = m (c, Proc.devRef .tc main_arg1) (ix2 i j') := by
  blk_simp [iblk, V_cast1]
  refine at_ix2 (a := 2048) (b := 5632) (m (c, Proc.devRef .tc main_arg1)) _ _ _ ?_ ?_ <;>
    ((blk_simp [idx1 t]) <;> (try simp [ix2]) <;> (try omega))

/-- The result is the transpose of `a` times `d`, in the layout it travels in. -/
theorem final : (dats m 0 c).arrAt 2 cfg0.N =
    arrC (r := 512) (n := 1408) (k := 2048) (by decide : 1024 = 2 * 512) (by decide : 5632 = 4 * 1408) (m (c, Proc.devRef .tc main_arg0)) (m (c, Proc.devRef .tc main_arg1)) := by
  refine (dats m 0 c).arrAt_eq_of_covers 2 _ (by decide +kernel) fun t _ y => ?_
  have hN : t.val < 4 := lt_of_lt_of_eq t.isLt (show cfg0.N = 4 from N_0)
  blk_simp
  rw [after0_2]
  idx_vars y
  rw [out_at]
  refine (tmul_congr (fun x => blk0 m c t x _) fun x => blk1 m c t x y3 ⟨1408 * t.val + y3.val, by omega⟩ rfl).trans
    (arrC_at _ _ _ _ _ _ _ ?_ ?_).symm <;> ((blk_simp [idx2 t]) <;> (try simp [ix4]) <;> (try omega))

/-- What the kernel leaves. -/
theorem run_value (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v2) = arrC (r := 512) (n := 1408) (k := 2048) (by decide : 1024 = 2 * 512) (by decide : 5632 = 4 * 1408) (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (Value.run_blocks m ρ)

end Cert.Kernel5Ideal.Gen

namespace Cert.Reference5Ideal.Value
open Idealize.ShloMosaic Idealize.ShloMosaic.TcCoe Idealize.ShloMosaic.Tactic Idealize.SL.Sem Cert.Reference5Ideal Cert.Reference5Ideal.Gen Cert.Prod

/-- The reference's product in its travel layout, as one array. -/
theorem res (A : FVec Ideal S2048x1024 .f32) (B : FVec Ideal S2048x5632 .f32) :
    (transpose S2x4x512x1408 [0, 2, 1, 3] (shapeCast _ (transpose S1024x5632 [1, 0] (Host.dotGeneral (F := Ideal) dot_S2048x5632_S2048x1024_S5632x1024_0_0_1_1_n_n none B A) transposes_S5632x1024_S1024x5632_1_0) shapeCasts_S1024x5632_S2x512x4x1408) transposes_S2x512x4x1408_S2x4x512x1408_0_2_1_3 : FVec Ideal S2x4x512x1408 .f32)
      = arrC (r := 512) (n := 1408) (k := 2048) (by decide : 1024 = 2 * 512) (by decide : 5632 = 4 * 1408) A B := by
  have P : ∀ (p : Fin 5632) (q : Fin 1024), (Host.dotGeneral (F := Ideal) dot_S2048x5632_S2048x1024_S5632x1024_0_0_1_1_n_n none B A : FVec Ideal S5632x1024 .f32) (ix2 p q) = tmul (a := 1024) (b := 5632) (k := 2048) A B q p := by
    intro p q
    unfold tmul
    pointwise
    exact Finset.sum_congr rfl fun _ _ => mul_comm _ _
  generalize (Host.dotGeneral (F := Ideal) dot_S2048x5632_S2048x1024_S5632x1024_0_0_1_1_n_n none B A : FVec Ideal S5632x1024 .f32) = Q at P
  funext y
  idx_vars y
  refine Eq.trans ?_ (arrC_at _ _ A B _ (⟨y0.val * 512 + y2.val, by omega⟩ : Fin 1024) (⟨y1.val * 1408 + y3.val, by omega⟩ : Fin 5632) rfl rfl).symm
  rw [← P]
  pointwise

/-- What the reference leaves. -/
theorem run_value (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v5) = arrC (r := 512) (n := 1408) (k := 2048) (by decide : 1024 = 2 * 512) (by decide : 5632 = 4 * 1408) (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (res _ _), (h c).2⟩) (run m ρ)

end Cert.Reference5Ideal.Value
end
-- ==== Proof.OutDx.lean ====
module

public import proofs.«01_k».proof.Proof.Product
public import proofs.«01_k».proof.Proof.Gen.Kernel6Ideal.Value
public import proofs.«01_k».proof.Proof.Gen.Reference6Ideal.Run
@[expose] public section
set_option maxRecDepth 16384

/-! The gradient of a mixer's output projection in its left factor. -/

noncomputable section
namespace Cert.Kernel6Ideal.Gen
open Idealize.ShloMosaic Idealize.ShloMosaic.TcCoe Idealize.ShloMosaic.Tactic Idealize.SL.Sem Cert.Kernel6Ideal Cert.Prod

theorem idx0 : ∀ t : Fin cfg0.N, win0_0.index t = ![0, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![0, t.val] := (by decide +kernel : ∀ t : Fin grid0.N, _)

/-- A block of the result is the product of the blocks. -/
theorem out_at (x0 : Vec Ideal S2048x1024 .f32) (x1 : Vec Ideal S512x1024 .f32) (i : Fin 2048) (j : Fin 512) :
    out0_2 x0 x1 (ix2 i j) = mulT x0 x1 i j := by
  unfold out0_2 mulT
  rw [View.canon_cons_unit_lit _ _ _ (by decide), View.ld_unit_lit _ _ (by decide), View.ld_unit_lit _ _ (by decide)]
  pointwise [k0_pay1]

variable (m : (ℓ : Loc nD τ sig) → Buf (Elt Ideal) ℓ) (c : Dev nD)

theorem blk0 (t : Fin cfg0.N) (i : Fin 2048) (j : Fin 1024) :
    (iblk m c 0 t : Vec Ideal S2048x1024 .f32) (ix2 i j) = m (c, Proc.devRef .tc main_arg0) (ix2 i j) := by
  blk_simp [iblk, V_main_arg0]
  refine at_ix2 (a := 2048) (b := 1024) (m (c, Proc.devRef .tc main_arg0)) _ _ _ ?_ ?_ <;>
    ((blk_simp [idx0 t]) <;> (try simp [ix2]) <;> (try omega))

theorem blk1 (t : Fin cfg0.N) (i : Fin 512) (j : Fin 1024) (i' : Fin 1024) (h : i'.val = 512 * t.val + i.val) :
    (iblk m c 1 t : Vec Ideal S512x1024 .f32) (ix2 i j) = m (c, Proc.devRef .tc main_arg1) (ix2 i' j) := by
  blk_simp [iblk, V_main_arg1]
  refine at_ix2 (a := 1024) (b := 1024) (m (c, Proc.devRef .tc main_arg1)) _ _ _ ?_ ?_ <;>
    ((blk_simp [idx1 t]) <;> (try simp [ix2]) <;> (try omega))

/-- The result is `d` times the transpose of `w`. -/
theorem final : (dats m 0 c).arrAt 2 cfg0.N =
    arrT (a := 2048) (b := 1024) (k := 1024) (m (c, Proc.devRef .tc main_arg0)) (m (c, Proc.devRef .tc main_arg1)) := by
  refine (dats m 0 c).arrAt_eq_of_covers 2 _ (by decide +kernel) fun t _ y => ?_
  have hN : t.val < 2 := lt_of_lt_of_eq t.isLt (show cfg0.N = 2 from N_0)
  blk_simp
  rw [after0_2]
  idx_vars y
  rw [out_at]
  refine (mulT_congr (fun x => blk0 m c t y0 x) fun x => blk1 m c t y1 x ⟨512 * t.val + y1.val, by omega⟩ rfl).trans
    (arrT_at _ _ _ _ _ ?_ ?_).symm <;> ((blk_simp [idx2 t]) <;> (try simp [ix2]) <;> (try omega))

/-- What the kernel leaves. -/
theorem run_value (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v0) = arrT (a := 2048) (b := 1024) (k := 1024) (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (Value.run_blocks m ρ)

end Cert.Kernel6Ideal.Gen

namespace Cert.Reference6Ideal.Value
open Idealize.ShloMosaic Idealize.ShloMosaic.TcCoe Idealize.ShloMosaic.Tactic Idealize.SL.Sem Cert.Reference6Ideal Cert.Reference6Ideal.Gen Cert.Prod

/-- The reference's product, as one array. -/
theorem res (A : FVec Ideal S2048x1024 .f32) (B : FVec Ideal S1024x1024 .f32) :
    (Host.dotGeneral (F := Ideal) dot_S2048x1024_S1024x1024_S2048x1024_1_1_0_0_n_n none A B : FVec Ideal S2048x1024 .f32) = arrT (a := 2048) (b := 1024) (k := 1024) A B := by
  funext y
  idx_vars y
  refine Eq.trans ?_ (arrT_at A B _ y0 y1 rfl rfl).symm
  unfold mulT
  pointwise

/-- What the reference leaves. -/
theorem run_value (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v2) = arrT (a := 2048) (b := 1024) (k := 1024) (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (res _ _), (h c).2⟩) (run m ρ)

end Cert.Reference6Ideal.Value
end
-- ==== Proof.OutDw.lean ====
module

public import proofs.«01_k».proof.Proof.Product
public import proofs.«01_k».proof.Proof.Gen.Kernel7Ideal.Value
public import proofs.«01_k».proof.Proof.Gen.Reference7Ideal.Run
@[expose] public section
set_option maxRecDepth 16384

/-! The gradient of a mixer's output projection in its weights. -/

noncomputable section
namespace Cert.Kernel7Ideal.Gen
open Idealize.ShloMosaic Idealize.ShloMosaic.TcCoe Idealize.ShloMosaic.Tactic Idealize.SL.Sem Cert.Kernel7Ideal Cert.Prod

theorem idx0 : ∀ t : Fin cfg0.N, win0_0.index t = ![0, 0] := (by decide +kernel : ∀ t : Fin grid0.N, _)
theorem idx1 : ∀ t : Fin cfg0.N, win0_1.index t = ![0, t.val] := (by decide +kernel : ∀ t : Fin grid0.N, _)
theorem idx2 : ∀ t : Fin cfg0.N, win0_2.index t = ![0, 0, 0, t.val] := (by decide +kernel : ∀ t : Fin grid0.N, _)

/-- A block of the result holds the eight row blocks of the product of the blocks. -/
theorem out_at (x0 : Vec Ideal S2048x1024 .bf16) (x1 : Vec Ideal S2048x512 .f32) (i : Fin 2) (j : Fin 4) (u : Fin 128) (v : Fin 512) :
    out0_2 x0 x1 (ix4 i j u v) = tmul x0 x1 (⟨(2 * j.val + i.val) * 128 + u.val, by omega⟩ : Fin 1024) v := by
  have P : ∀ (p : Fin 1024) (q : Fin 512), k0_pay4 (F := Ideal) (View.ld x0 r0_0) (View.ld x1 r0_1) (ix2 p q) = tmul x0 x1 p q := by
    intro p q
    rw [View.ld_unit_lit _ _ (by decide), View.ld_unit_lit _ _ (by decide)]
    unfold tmul
    pointwise [k0_pay4]
  unfold_out out0_2
  unfold k0_pay5 k0_pay6 k0_pay7 k0_pay8 k0_pay9 k0_pay10
  generalize k0_pay4 (F := Ideal) (View.ld x0 r0_0) (View.ld x1 r0_1) = Q at P
  symm
  rw [← P]
  symm
  canon_tiles x hx <;> pointwise [k0_pay1, k0_pay2, k0_pay3] <;>
    (change i.val = _ at hx0; change j.val = _ at hx1; change u.val = _ at hx2; change v.val = _ at hx3
     refine congrArg₂ (fun p q => Q (ix2 p q)) (Fin.ext ?_) (Fin.ext hx3.symm)
     simp only
     omega)

variable (m : (ℓ : Loc nD τ sig) → Buf (Elt Ideal) ℓ) (c : Dev nD)

/-- The operand cast on the host is the argument. -/
theorem V_cast0 : (V m c main_v0 : Vec Ideal S2048x1024 .bf16) = m (c, Proc.devRef .tc main_arg0) := by
  unfold V hostOps0
  after_results <;> rfl

theorem blk0 (t : Fin cfg0.N) (i : Fin 2048) (j : Fin 1024) :
    (iblk m c 0 t : Vec Ideal S2048x1024 .bf16) (ix2 i j) = m (c, Proc.devRef .tc main_arg0) (ix2 i j) := by
  blk_simp [iblk, V_cast0]
  refine at_ix2 (a := 2048) (b := 1024) (m (c, Proc.devRef .tc main_arg0)) _ _ _ ?_ ?_ <;>
    ((blk_simp [idx0 t]) <;> (try simp [ix2]) <;> (try omega))

theorem blk1 (t : Fin cfg0.N) (i : Fin 2048) (j : Fin 512) (j' : Fin 1024) (h : j'.val = 512 * t.val + j.val) :
    (iblk m c 1 t : Vec Ideal S2048x512 .f32) (ix2 i j) = m (c, Proc.devRef .tc main_arg1) (ix2 i j') := by
  blk_simp [iblk, V_main_arg1]
  refine at_ix2 (a := 2048) (b := 1024) (m (c, Proc.devRef .tc main_arg1)) _ _ _ ?_ ?_ <;>
    ((blk_simp [idx1 t]) <;> (try simp [ix2]) <;> (try omega))

/-- The result is the transpose of `a` times `d`, in the layout it travels in. -/
theorem final : (dats m 0 c).arrAt 2 cfg0.N =
    arrR (r := 128) (n := 1024) (k := 2048) (by decide : 1024 = 8 * 128) (m (c, Proc.devRef .tc main_arg0)) (m (c, Proc.devRef .tc main_arg1)) := by
  refine (dats m 0 c).arrAt_eq_of_covers 2 _ (by decide +kernel) fun t _ y => ?_
  have hN : t.val < 2 := lt_of_lt_of_eq t.isLt (show cfg0.N = 2 from N_0)
  blk_simp
  rw [after0_2]
  idx_vars y
  rw [out_at]
  refine (tmul_congr (fun x => blk0 m c t x _) fun x => blk1 m c t x y3 ⟨512 * t.val + y3.val, by omega⟩ rfl).trans
    (arrR_at _ _ _ _ _ _ ?_ ?_).symm <;> ((blk_simp [idx2 t]) <;> (try simp [ix4]) <;> (try omega))

/-- What the kernel leaves. -/
theorem run_value (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v1) = arrR (r := 128) (n := 1024) (k := 2048) (by decide : 1024 = 8 * 128) (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (Value.run_blocks m ρ)

end Cert.Kernel7Ideal.Gen

namespace Cert.Reference7Ideal.Value
open Idealize.ShloMosaic Idealize.ShloMosaic.TcCoe Idealize.ShloMosaic.Tactic Idealize.SL.Sem Cert.Reference7Ideal Cert.Reference7Ideal.Gen Cert.Prod

/-- The reference's product in its travel layout, as one array. -/
theorem res (A : FVec Ideal S2048x1024 .f32) (B : FVec Ideal S2048x1024 .f32) :
    (transpose S2x4x128x1024 [1, 0, 2, 3] (shapeCast _ (transpose S1024x1024 [1, 0] (Host.dotGeneral (F := Ideal) dot_S2048x1024_S2048x1024_S1024x1024_0_0_1_1_n_n none B A) transposes_S1024x1024_S1024x1024_1_0) shapeCasts_S1024x1024_S4x2x128x1024) transposes_S4x2x128x1024_S2x4x128x1024_1_0_2_3 : FVec Ideal S2x4x128x1024 .f32)
      = arrR (r := 128) (n := 1024) (k := 2048) (by decide : 1024 = 8 * 128) A B := by
  have P : ∀ (p : Fin 1024) (q : Fin 1024), (Host.dotGeneral (F := Ideal) dot_S2048x1024_S2048x1024_S1024x1024_0_0_1_1_n_n none B A : FVec Ideal S1024x1024 .f32) (ix2 p q) = tmul (a := 1024) (b := 1024) (k := 2048) A B q p := by
    intro p q
    unfold tmul
    pointwise
    exact Finset.sum_congr rfl fun _ _ => mul_comm _ _
  generalize (Host.dotGeneral (F := Ideal) dot_S2048x1024_S2048x1024_S1024x1024_0_0_1_1_n_n none B A : FVec Ideal S1024x1024 .f32) = Q at P
  funext y
  idx_vars y
  refine Eq.trans ?_ (arrR_at _ A B _ (⟨(2 * y1.val + y0.val) * 128 + y2.val, by omega⟩ : Fin 1024) y3 rfl rfl).symm
  rw [← P]
  pointwise
  exact congrArg (fun q => Q (ix2 y3 q)) (Fin.ext (by simp only; omega))

/-- What the reference leaves. -/
theorem run_value (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v5) = arrR (r := 128) (n := 1024) (k := 2048) (by decide : 1024 = 8 * 128) (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (res _ _), (h c).2⟩) (run m ρ)

end Cert.Reference7Ideal.Value
end
-- ==== Proof.InDx.lean ====
module

public import proofs.«01_k».proof.Proof.Product
public import proofs.«01_k».proof.Proof.Gen.Kernel8Ideal.Value
public import proofs.«01_k».proof.Proof.Gen.Reference8Ideal.Run
@[expose] public section
set_option maxRecDepth 16384

/-! The gradient of the second mixer's input projection in its left factor. -/

noncomputable section
namespace Cert.Kernel8Ideal.Gen
open Idealize.ShloMosaic Idealize.ShloMosaic.TcCoe Idealize.ShloMosaic.Tactic Idealize.SL.Sem Cert.Kernel8Ideal Cert.Prod

theorem idx0 : ∀ t : Fin cfg0.N, win0_0.index t = ![0, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![0, t.val] := (by decide +kernel : ∀ t : Fin grid0.N, _)

/-- A block of the result is the product of the blocks. -/
theorem out_at (x0 : Vec Ideal S2048x2048 .bf16) (x1 : Vec Ideal S512x2048 .f32) (i : Fin 2048) (j : Fin 512) :
    out0_2 x0 x1 (ix2 i j) = mulT x0 x1 i j := by
  unfold out0_2 mulT
  rw [View.canon_cons_unit_lit _ _ _ (by decide), View.ld_unit_lit _ _ (by decide), View.ld_unit_lit _ _ (by decide)]
  pointwise [k0_pay1]

variable (m : (ℓ : Loc nD τ sig) → Buf (Elt Ideal) ℓ) (c : Dev nD)

/-- The operand cast on the host is the argument. -/
theorem V_cast0 : (V m c main_v0 : Vec Ideal S2048x2048 .bf16) = m (c, Proc.devRef .tc main_arg0) := by
  unfold V hostOps0
  after_results <;> rfl

theorem blk0 (t : Fin cfg0.N) (i : Fin 2048) (j : Fin 2048) :
    (iblk m c 0 t : Vec Ideal S2048x2048 .bf16) (ix2 i j) = m (c, Proc.devRef .tc main_arg0) (ix2 i j) := by
  blk_simp [iblk, V_cast0]
  refine at_ix2 (a := 2048) (b := 2048) (m (c, Proc.devRef .tc main_arg0)) _ _ _ ?_ ?_ <;>
    ((blk_simp [idx0 t]) <;> (try simp [ix2]) <;> (try omega))

theorem blk1 (t : Fin cfg0.N) (i : Fin 512) (j : Fin 2048) (i' : Fin 1024) (h : i'.val = 512 * t.val + i.val) :
    (iblk m c 1 t : Vec Ideal S512x2048 .f32) (ix2 i j) = m (c, Proc.devRef .tc main_arg1) (ix2 i' j) := by
  blk_simp [iblk, V_main_arg1]
  refine at_ix2 (a := 1024) (b := 2048) (m (c, Proc.devRef .tc main_arg1)) _ _ _ ?_ ?_ <;>
    ((blk_simp [idx1 t]) <;> (try simp [ix2]) <;> (try omega))

/-- The result is `d` times the transpose of `w`. -/
theorem final : (dats m 0 c).arrAt 2 cfg0.N =
    arrT (a := 2048) (b := 1024) (k := 2048) (m (c, Proc.devRef .tc main_arg0)) (m (c, Proc.devRef .tc main_arg1)) := by
  refine (dats m 0 c).arrAt_eq_of_covers 2 _ (by decide +kernel) fun t _ y => ?_
  have hN : t.val < 2 := lt_of_lt_of_eq t.isLt (show cfg0.N = 2 from N_0)
  blk_simp
  rw [after0_2]
  idx_vars y
  rw [out_at]
  refine (mulT_congr (fun x => blk0 m c t y0 x) fun x => blk1 m c t y1 x ⟨512 * t.val + y1.val, by omega⟩ rfl).trans
    (arrT_at _ _ _ _ _ ?_ ?_).symm <;> ((blk_simp [idx2 t]) <;> (try simp [ix2]) <;> (try omega))

/-- What the kernel leaves. -/
theorem run_value (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v1) = arrT (a := 2048) (b := 1024) (k := 2048) (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (Value.run_blocks m ρ)

end Cert.Kernel8Ideal.Gen

namespace Cert.Reference8Ideal.Value
open Idealize.ShloMosaic Idealize.ShloMosaic.TcCoe Idealize.ShloMosaic.Tactic Idealize.SL.Sem Cert.Reference8Ideal Cert.Reference8Ideal.Gen Cert.Prod

/-- The reference's product, as one array. -/
theorem res (A : FVec Ideal S2048x2048 .f32) (B : FVec Ideal S1024x2048 .f32) :
    (Host.dotGeneral (F := Ideal) dot_S2048x2048_S1024x2048_S2048x1024_1_1_0_0_n_n none A B : FVec Ideal S2048x1024 .f32) = arrT (a := 2048) (b := 1024) (k := 2048) A B := by
  funext y
  idx_vars y
  refine Eq.trans ?_ (arrT_at A B _ y0 y1 rfl rfl).symm
  unfold mulT
  pointwise

/-- What the reference leaves. -/
theorem run_value (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v2) = arrT (a := 2048) (b := 1024) (k := 2048) (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (res _ _), (h c).2⟩) (run m ρ)

end Cert.Reference8Ideal.Value
end
-- ==== Proof.InDw.lean ====
module

public import proofs.«01_k».proof.Proof.Product
public import proofs.«01_k».proof.Proof.Gen.Kernel9Ideal.Value
public import proofs.«01_k».proof.Proof.Gen.Reference9Ideal.Run
@[expose] public section
set_option maxRecDepth 16384

/-! The gradient of the second mixer's input projection in its weights. -/

noncomputable section
namespace Cert.Kernel9Ideal.Gen
open Idealize.ShloMosaic Idealize.ShloMosaic.TcCoe Idealize.ShloMosaic.Tactic Idealize.SL.Sem Cert.Kernel9Ideal Cert.Prod

theorem idx0 : ∀ t : Fin cfg0.N, win0_0.index t = ![0, 0] := (by decide +kernel : ∀ t : Fin grid0.N, _)
theorem idx1 : ∀ t : Fin cfg0.N, win0_1.index t = ![0, t.val] := (by decide +kernel : ∀ t : Fin grid0.N, _)
theorem idx2 : ∀ t : Fin cfg0.N, win0_2.index t = ![0, t.val, 0, 0] := (by decide +kernel : ∀ t : Fin grid0.N, _)

/-- A block of the result holds the product of the blocks, its rows in two halves. -/
theorem out_at (x0 : Vec Ideal S2048x1024 .bf16) (x1 : Vec Ideal S2048x512 .bf16) (i : Fin 2) (j : Fin 1) (u : Fin 512) (v : Fin 512) :
    out0_2 x0 x1 (ix4 i j u v) = tmul x0 x1 (⟨i.val * 512 + u.val, by omega⟩ : Fin 1024) v := by
  unfold out0_2 tmul
  rw [View.canon_cons_unit_lit _ _ _ (by decide), View.ld_unit_lit _ _ (by decide), View.ld_unit_lit _ _ (by decide)]
  pointwise [k0_pay1]

variable (m : (ℓ : Loc nD τ sig) → Buf (Elt Ideal) ℓ) (c : Dev nD)

/-- The operand cast on the host is the argument. -/
theorem V_cast0 : (V m c main_v0 : Vec Ideal S2048x1024 .bf16) = m (c, Proc.devRef .tc main_arg0) := by
  unfold V hostOps0
  after_results <;> rfl

/-- The operand cast on the host is the argument. -/
theorem V_cast1 : (V m c main_v1 : Vec Ideal S2048x2048 .bf16) = m (c, Proc.devRef .tc main_arg1) := by
  unfold V hostOps0
  after_results <;> rfl

theorem blk0 (t : Fin cfg0.N) (i : Fin 2048) (j : Fin 1024) :
    (iblk m c 0 t : Vec Ideal S2048x1024 .bf16) (ix2 i j) = m (c, Proc.devRef .tc main_arg0) (ix2 i j) := by
  blk_simp [iblk, V_cast0]
  refine at_ix2 (a := 2048) (b := 1024) (m (c, Proc.devRef .tc main_arg0)) _ _ _ ?_ ?_ <;>
    ((blk_simp [idx0 t]) <;> (try simp [ix2]) <;> (try omega))

theorem blk1 (t : Fin cfg0.N) (i : Fin 2048) (j : Fin 512) (j' : Fin 2048) (h : j'.val = 512 * t.val + j.val) :
    (iblk m c 1 t : Vec Ideal S2048x512 .bf16) (ix2 i j) = m (c, Proc.devRef .tc main_arg1) (ix2 i j') := by
  blk_simp [iblk, V_cast1]
  refine at_ix2 (a := 2048) (b := 2048) (m (c, Proc.devRef .tc main_arg1)) _ _ _ ?_ ?_ <;>
    ((blk_simp [idx1 t]) <;> (try simp [ix2]) <;> (try omega))

/-- The result is the transpose of `a` times `d`, in the layout it travels in. -/
theorem final : (dats m 0 c).arrAt 2 cfg0.N =
    arrC (r := 512) (n := 512) (k := 2048) (by decide : 1024 = 2 * 512) (by decide : 2048 = 4 * 512) (m (c, Proc.devRef .tc main_arg0)) (m (c, Proc.devRef .tc main_arg1)) := by
  refine (dats m 0 c).arrAt_eq_of_covers 2 _ (by decide +kernel) fun t _ y => ?_
  have hN : t.val < 4 := lt_of_lt_of_eq t.isLt (show cfg0.N = 4 from N_0)
  blk_simp
  rw [after0_2]
  idx_vars y
  rw [out_at]
  refine (tmul_congr (fun x => blk0 m c t x _) fun x => blk1 m c t x y3 ⟨512 * t.val + y3.val, by omega⟩ rfl).trans
    (arrC_at _ _ _ _ _ _ _ ?_ ?_).symm <;> ((blk_simp [idx2 t]) <;> (try simp [ix4]) <;> (try omega))

/-- What the kernel leaves. -/
theorem run_value (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v2) = arrC (r := 512) (n := 512) (k := 2048) (by decide : 1024 = 2 * 512) (by decide : 2048 = 4 * 512) (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (Value.run_blocks m ρ)

end Cert.Kernel9Ideal.Gen

namespace Cert.Reference9Ideal.Value
open Idealize.ShloMosaic Idealize.ShloMosaic.TcCoe Idealize.ShloMosaic.Tactic Idealize.SL.Sem Cert.Reference9Ideal Cert.Reference9Ideal.Gen Cert.Prod

/-- The reference's product in its travel layout, as one array. -/
theorem res (A : FVec Ideal S2048x1024 .f32) (B : FVec Ideal S2048x2048 .f32) :
    (transpose S2x4x512x512 [0, 2, 1, 3] (shapeCast _ (transpose S1024x2048 [1, 0] (Host.dotGeneral (F := Ideal) dot_S2048x2048_S2048x1024_S2048x1024_0_0_1_1_n_n none B A) transposes_S2048x1024_S1024x2048_1_0) shapeCasts_S1024x2048_S2x512x4x512) transposes_S2x512x4x512_S2x4x512x512_0_2_1_3 : FVec Ideal S2x4x512x512 .f32)
      = arrC (r := 512) (n := 512) (k := 2048) (by decide : 1024 = 2 * 512) (by decide : 2048 = 4 * 512) A B := by
  have P : ∀ (p : Fin 2048) (q : Fin 1024), (Host.dotGeneral (F := Ideal) dot_S2048x2048_S2048x1024_S2048x1024_0_0_1_1_n_n none B A : FVec Ideal S2048x1024 .f32) (ix2 p q) = tmul (a := 1024) (b := 2048) (k := 2048) A B q p := by
    intro p q
    unfold tmul
    pointwise
    exact Finset.sum_congr rfl fun _ _ => mul_comm _ _
  generalize (Host.dotGeneral (F := Ideal) dot_S2048x2048_S2048x1024_S2048x1024_0_0_1_1_n_n none B A : FVec Ideal S2048x1024 .f32) = Q at P
  funext y
  idx_vars y
  refine Eq.trans ?_ (arrC_at _ _ A B _ (⟨y0.val * 512 + y2.val, by omega⟩ : Fin 1024) (⟨y1.val * 512 + y3.val, by omega⟩ : Fin 2048) rfl rfl).symm
  rw [← P]
  pointwise

/-- What the reference leaves. -/
theorem run_value (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v5) = arrC (r := 512) (n := 512) (k := 2048) (by decide : 1024 = 2 * 512) (by decide : 2048 = 4 * 512) (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (res _ _), (h c).2⟩) (run m ρ)

end Cert.Reference9Ideal.Value
end
-- ==== Proof.In0Dx.lean ====
module

public import Idealize.ShloMosaic.Lib.KernelVsHost
public import proofs.«01_k».proof.Proof.Product
public import proofs.«01_k».proof.Proof.Gen.Kernel10Ideal.Value
public import proofs.«01_k».proof.Proof.Gen.Reference10Ideal.Run
@[expose] public section
set_option maxRecDepth 16384

/-! The gradient of the first mixer's input projection in its left factor. -/

noncomputable section
namespace Cert.Kernel10Ideal.Gen
open Idealize.ShloMosaic Idealize.ShloMosaic.TcCoe Idealize.ShloMosaic.Tactic Idealize.SL.Sem Cert.Kernel10Ideal Cert.Prod

theorem idx0 : ∀ t : Fin cfg0.N, win0_0.index t = ![t.val / 2, 0] := (by decide +kernel : ∀ t : Fin grid0.N, _)
theorem idx1 : ∀ t : Fin cfg0.N, win0_1.index t = ![0, t.val % 2] := (by decide +kernel : ∀ t : Fin grid0.N, _)
theorem idx2 : ∀ t : Fin cfg0.N, win0_2.index t = ![t.val / 2, 0] := (by decide +kernel : ∀ t : Fin grid0.N, _)
theorem idx3 : ∀ t : Fin cfg0.N, win0_3.index t = ![0, t.val % 2] := (by decide +kernel : ∀ t : Fin grid0.N, _)
theorem idx4 : ∀ t : Fin cfg0.N, win0_4.index t = ![t.val / 2, t.val % 2] := (by decide +kernel : ∀ t : Fin grid0.N, _)

/-- A block of the result is the sum of the two products of the blocks. -/
theorem out_at (x0 : Vec Ideal S1024x4096 .bf16) (x1 : Vec Ideal S4096x512 .f32) (x2 : Vec Ideal S1024x128 .f32) (x3 : Vec Ideal S128x512 .f32) (i : Fin 1024) (j : Fin 512) :
    out0_4 x0 x1 x2 x3 (ix2 i j) = mul x0 x1 i j + mul x2 x3 i j := by
  unfold out0_4 mul
  rw [View.canon_cons_unit_lit _ _ _ (by decide), View.ld_unit_lit _ _ (by decide), View.ld_unit_lit _ _ (by decide), View.ld_unit_lit _ _ (by decide), View.ld_unit_lit _ _ (by decide)]
  pointwise [k0_pay1]

variable (m : (ℓ : Loc nD τ sig) → Buf (Elt Ideal) ℓ) (c : Dev nD)

/-- The operand cast on the host is the argument. -/
theorem V_cast0 : (V m c main_v4 : Vec Ideal S2048x4096 .bf16) = m (c, Proc.devRef .tc main_arg0) := by
  unfold V hostOps0 hostOps0_1 hostOps0_2
  after_results <;> rfl

/-- The first rows of the transposed weights. -/
theorem V_head : (V m c main_v1 : Vec Ideal S4096x1024 .f32) =
    extractStridedSlice S4096x1024 ![0, 0] (transpose S4104x1024 [1, 0] (m (c, Proc.devRef .tc main_arg2) : Vec Ideal S1024x4104 .f32) transposes_S1024x4104_S4104x1024_1_0) slices_S4104x1024_S4096x1024_0_0 := by
  unfold V hostOps0 hostOps0_1 hostOps0_2
  after_results <;> rfl

/-- The last rows of the transposed weights, filled up with zeros. -/
theorem V_rest : (V m c main_v3 : Vec Ideal S128x1024 .f32) =
    pad S128x1024 ![0, 0] ![120, 0] ![0, 0] (extractStridedSlice S8x1024 ![4096, 0] (transpose S4104x1024 [1, 0] (m (c, Proc.devRef .tc main_arg2) : Vec Ideal S1024x4104 .f32) transposes_S1024x4104_S4104x1024_1_0) slices_S4104x1024_S8x1024_4096_0)
      (sitofp (F := Ideal) .f32 (constantI S_ 32 0#32)) pads_S8x1024_S128x1024_01200_000 h_S_ := by
  unfold V hostOps0 hostOps0_1 hostOps0_2
  after_results <;> rfl

theorem blk0 (t : Fin cfg0.N) (i : Fin 1024) (j : Fin 4096) (i' : Fin 2048) (hi : i'.val = 1024 * (t.val / 2) + i.val) :
    (iblk m c 0 t : Vec Ideal S1024x4096 .bf16) (ix2 i j) = m (c, Proc.devRef .tc main_arg0) (ix2 i' j) := by
  blk_simp [iblk, V_cast0]
  refine at_ix2 (a := 2048) (b := 4096) (m (c, Proc.devRef .tc main_arg0)) _ _ _ ?_ ?_ <;>
    ((blk_simp [idx0 t]) <;> (try simp [ix2]) <;> (try omega))

theorem blk2 (t : Fin cfg0.N) (i : Fin 1024) (j : Fin 128) (i' : Fin 2048) (hi : i'.val = 1024 * (t.val / 2) + i.val) :
    (iblk m c 2 t : Vec Ideal S1024x128 .f32) (ix2 i j) = m (c, Proc.devRef .tc main_arg1) (ix2 i' j) := by
  blk_simp [iblk, V_main_arg1]
  refine at_ix2 (a := 2048) (b := 128) (m (c, Proc.devRef .tc main_arg1)) _ _ _ ?_ ?_ <;>
    ((blk_simp [idx2 t]) <;> (try simp [ix2]) <;> (try omega))

theorem head_at (W : Vec Ideal S1024x4104 .f32) (x : Fin 4096) (j : Fin 1024) :
    extractStridedSlice S4096x1024 ![0, 0] (transpose S4104x1024 [1, 0] W transposes_S1024x4104_S4104x1024_1_0) slices_S4104x1024_S4096x1024_0_0 (ix2 x j)
      = W (ix2 j ⟨x.val, by omega⟩) := by
  pointwise

/-- Row `x` of the transposed weights' rest, zero past its end. -/
def fillW (W : Vec Ideal S1024x4104 .f32) (x : Fin 128) (j : Fin 1024) : EReal := if h : 4096 + x.val < 4104 then W (ix2 j ⟨4096 + x.val, h⟩) else 0

theorem rest_at (W : Vec Ideal S1024x4104 .f32) (x : Fin 128) (j : Fin 1024) :
    pad S128x1024 ![0, 0] ![120, 0] ![0, 0] (extractStridedSlice S8x1024 ![4096, 0] (transpose S4104x1024 [1, 0] W transposes_S1024x4104_S4104x1024_1_0) slices_S4104x1024_S8x1024_4096_0)
      (sitofp (F := Ideal) .f32 (constantI S_ 32 0#32)) pads_S8x1024_S128x1024_01200_000 h_S_ (ix2 x j)
      = fillW W x j := by
  unfold fillW
  pointwise
  by_cases h : x.val < 8
  · rw [dif_pos h, dif_pos (by omega)]
  · rw [dif_neg h, dif_neg (by omega)]
    exact sitofp_zero (φ := .f32)

theorem blk1 (t : Fin cfg0.N) (i : Fin 4096) (j : Fin 512) (j' : Fin 1024) (hj : j'.val = 512 * (t.val % 2) + j.val) :
    (iblk m c 1 t : Vec Ideal S4096x512 .f32) (ix2 i j) = m (c, Proc.devRef .tc main_arg2) (ix2 j' ⟨i.val, by omega⟩) := by
  refine Eq.trans ?_ (head_at (m (c, Proc.devRef .tc main_arg2)) i j')
  blk_simp [iblk, V_head]
  refine at_ix2 (a := 4096) (b := 1024) _ _ _ _ ?_ ?_ <;>
    ((blk_simp [idx1 t]) <;> (try simp [ix2]) <;> (try omega))

theorem blk3 (t : Fin cfg0.N) (i : Fin 128) (j : Fin 512) (j' : Fin 1024) (hj : j'.val = 512 * (t.val % 2) + j.val) :
    (iblk m c 3 t : Vec Ideal S128x512 .f32) (ix2 i j) = fillW (m (c, Proc.devRef .tc main_arg2)) i j' := by
  refine Eq.trans ?_ (rest_at (m (c, Proc.devRef .tc main_arg2)) i j')
  blk_simp [iblk, V_rest]
  refine at_ix2 (a := 128) (b := 1024) _ _ _ _ ?_ ?_ <;>
    ((blk_simp [idx3 t]) <;> (try simp [ix2]) <;> (try omega))

/-- The result is the product with the transposed weights. -/
theorem final : (dats m 0 c).arrAt 4 cfg0.N = arrK (a := 2048) (b := 1024) (K := 4096) (p := 128) (T := 4104) (by decide) (m (c, Proc.devRef .tc main_arg0)) (m (c, Proc.devRef .tc main_arg1)) (m (c, Proc.devRef .tc main_arg2)) := by
  refine (dats m 0 c).arrAt_eq_of_covers 4 _ (by decide +kernel) fun t _ y => ?_
  have hN : t.val < 4 := lt_of_lt_of_eq t.isLt (show cfg0.N = 4 from N_0)
  blk_simp
  rw [after0_4]
  idx_vars y
  rw [out_at]
  refine (catT_split (by decide) (by decide) _ _ _ (⟨1024 * (t.val / 2) + y0.val, by omega⟩ : Fin 2048) (⟨512 * (t.val % 2) + y1.val, by omega⟩ : Fin 1024) _ _ _ _ y0 y1 (fun x => blk0 m c t y0 x _ rfl) (fun x => blk2 m c t y0 x _ rfl)
    (fun x => blk1 m c t x y1 _ rfl) (fun x => blk3 m c t x y1 _ rfl)).trans
    (arrK_at _ _ _ _ _ _ _ ?_ ?_).symm <;> ((blk_simp [idx4 t]) <;> (try simp [ix2]) <;> (try omega))

/-- What the kernel leaves. -/
theorem run_value (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v5) = arrK (a := 2048) (b := 1024) (K := 4096) (p := 128) (T := 4104) (by decide) (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final m c), (h c).2⟩) (Value.run_blocks m ρ)

end Cert.Kernel10Ideal.Gen

namespace Cert.Reference10Ideal.Value
open Idealize.ShloMosaic Idealize.ShloMosaic.TcCoe Idealize.ShloMosaic.Tactic Idealize.SL.Sem Cert.Reference10Ideal Cert.Reference10Ideal.Gen Cert.Prod

/-- The reference's product, as one array. -/
theorem res (A : FVec Ideal S2048x4096 .f32) (S : FVec Ideal S2048x128 .f32) (W : FVec Ideal S1024x4104 .f32) :
    (Host.dotGeneral (F := Ideal) dot_S2048x4104_S1024x4104_S2048x1024_1_1_0_0_n_n none (concatenate S2048x4104 1 [⟨S2048x4096, A⟩, ⟨S2048x8, extractStridedSlice S2048x8 ![0,0] S slices_S2048x128_S2048x8_0_0⟩] concatenates_S2048x4096_S2048x8_S2048x4104_d1) W : FVec Ideal S2048x1024 .f32)
      = arrK (a := 2048) (b := 1024) (K := 4096) (p := 128) (T := 4104) (by decide) A S W := by
  have P : ∀ (p : Fin 2048) (q : Fin 4104), (concatenate S2048x4104 1 [⟨S2048x4096, A⟩, ⟨S2048x8, extractStridedSlice S2048x8 ![0,0] S slices_S2048x128_S2048x8_0_0⟩] concatenates_S2048x4096_S2048x8_S2048x4104_d1 : FVec Ideal S2048x4104 .f32) (ix2 p q)
      = if h : q.val < 4096 then A (ix2 p ⟨q.val, h⟩) else S (ix2 p ⟨q.val - 4096, by omega⟩) := by
    intro p q
    pointwise
  generalize (concatenate S2048x4104 1 [⟨S2048x4096, A⟩, ⟨S2048x8, extractStridedSlice S2048x8 ![0,0] S slices_S2048x128_S2048x8_0_0⟩] concatenates_S2048x4096_S2048x8_S2048x4104_d1 : FVec Ideal S2048x4104 .f32) = Q at P
  funext y
  idx_vars y
  refine Eq.trans ?_ (arrK_at _ A S W _ y0 y1 rfl rfl).symm
  unfold catT
  simp only [← P]
  pointwise

/-- What the reference leaves. -/
theorem run_value (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v4) = arrK (a := 2048) (b := 1024) (K := 4096) (p := 128) (T := 4104) (by decide) (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (res _ _ _), (h c).2⟩) (run m ρ)

end Cert.Reference10Ideal.Value
end
-- ==== Proof.In0Dw.lean ====
module

public import proofs.«01_k».proof.Proof.Product
public import proofs.«01_k».proof.Proof.Gen.Kernel11Ideal.Value
public import proofs.«01_k».proof.Proof.Gen.Reference11Ideal.Run
@[expose] public section
set_option maxRecDepth 16384

/-! The gradient of the first mixer's input projection in its weights. -/

noncomputable section
namespace Cert.Kernel11Ideal.Gen
open Idealize.ShloMosaic Idealize.ShloMosaic.TcCoe Idealize.ShloMosaic.Tactic Idealize.SL.Sem Cert.Kernel11Ideal Cert.Prod

theorem idx0 : ∀ t : Fin cfg0.N, win0_0.index t = ![0, t.val / 2] := (by decide +kernel : ∀ t : Fin grid0.N, _)
theorem idx1 : ∀ t : Fin cfg0.N, win0_1.index t = ![0, t.val % 2] := (by decide +kernel : ∀ t : Fin grid0.N, _)
theorem idx2 : ∀ t : Fin cfg0.N, win0_2.index t = ![t.val % 2, t.val / 2, 0] := (by decide +kernel : ∀ t : Fin grid0.N, _)

/-- A block of the result is the product of the blocks. -/
theorem out_at (x0 : Vec Ideal S2048x1024 .bf16) (x1 : Vec Ideal S2048x512 .bf16) (u : Fin 1) (i : Fin 1024) (j : Fin 512) :
    out0_2 x0 x1 (ix3 u i j) = tmul x0 x1 i j := by
  unfold out0_2 tmul
  rw [View.canon_cons_unit_lit _ _ _ (by decide), View.ld_unit_lit _ _ (by decide), View.ld_unit_lit _ _ (by decide)]
  pointwise [k0_pay1]

variable (m : (ℓ : Loc nD τ sig) → Buf (Elt Ideal) ℓ) (c : Dev nD)

/-- The operand cast on the host is the argument. -/
theorem V_cast0 : (V m c main_v0 : Vec Ideal S2048x4096 .bf16) = m (c, Proc.devRef .tc main_arg0) := by
  unfold V hostOps0
  after_results <;> rfl

/-- The operand cast on the host is the argument. -/
theorem V_cast1 : (V m c main_v1 : Vec Ideal S2048x1024 .bf16) = m (c, Proc.devRef .tc main_arg1) := by
  unfold V hostOps0
  after_results <;> rfl

theorem blk0 (t : Fin cfg0.N) (i : Fin 2048) (j : Fin 1024) (j' : Fin 4096) (hj : j'.val = 1024 * (t.val / 2) + j.val) :
    (iblk m c 0 t : Vec Ideal S2048x1024 .bf16) (ix2 i j) = m (c, Proc.devRef .tc main_arg0) (ix2 i j') := by
  blk_simp [iblk, V_cast0]
  refine at_ix2 (a := 2048) (b := 4096) (m (c, Proc.devRef .tc main_arg0)) _ _ _ ?_ ?_ <;>
    ((blk_simp [idx0 t]) <;> (try simp [ix2]) <;> (try omega))

theorem blk1 (t : Fin cfg0.N) (i : Fin 2048) (j : Fin 512) (j' : Fin 1024) (hj : j'.val = 512 * (t.val % 2) + j.val) :
    (iblk m c 1 t : Vec Ideal S2048x512 .bf16) (ix2 i j) = m (c, Proc.devRef .tc main_arg1) (ix2 i j') := by
  blk_simp [iblk, V_cast1]
  refine at_ix2 (a := 2048) (b := 1024) (m (c, Proc.devRef .tc main_arg1)) _ _ _ ?_ ?_ <;>
    ((blk_simp [idx1 t]) <;> (try simp [ix2]) <;> (try omega))

/-- The rows written of the result are those of the transpose of `d` times `a`, its columns in two halves. -/
theorem final (i : S2x4104x512.Idx) : (i 1).val < 4096 → (dats m 0 c).arrAt 2 cfg0.N i = arrH (K := 4096) (N := 1024) (T := 4104) (n := 512) (k := 2048) (by decide) (m (c, Proc.devRef .tc main_arg0)) (m (c, Proc.devRef .tc main_arg1)) i := by
  refine (dats m 0 c).arrAt_forall_of_coversWhere 2
    (fun i v => (i 1).val < 4096 → v = arrH (K := 4096) (N := 1024) (T := 4104) (n := 512) (k := 2048) (by decide) (m (c, Proc.devRef .tc main_arg0)) (m (c, Proc.devRef .tc main_arg1)) i)
    (fun β => β (1 : Fin 3) < 4) (by decide +kernel) (fun t _ y => ?_) (fun j hj h => absurd ?_ hj) i
  · have hN : t.val < 8 := lt_of_lt_of_eq t.isLt (show cfg0.N = 8 from N_0)
    intro _
    blk_simp
    rw [after0_2]
    have b0 : (y 0).val < 1 := lt_of_lt_of_le (y 0).isLt ((cfg0.win 2).xsize_le (cfg0.grid.coords t) 0)
    have b1 : (y 1).val < 1024 := lt_of_lt_of_le (y 1).isLt ((cfg0.win 2).xsize_le (cfg0.grid.coords t) 1)
    have b2 : (y 2).val < 512 := lt_of_lt_of_le (y 2).isLt ((cfg0.win 2).xsize_le (cfg0.grid.coords t) 2)
    have e : (cfg0.win 2).xinj (cfg0.grid.coords t) y = ix3 (⟨(y 0).val, b0⟩ : Fin 1) (⟨(y 1).val, b1⟩ : Fin 1024) (⟨(y 2).val, b2⟩ : Fin 512) :=
      funext fun a => match a with
        | 0 => rfl
        | 1 => rfl
        | 2 => rfl
    rw [e, out_at]
    refine (tmul_congr (fun x => blk0 m c t x ⟨(y 1).val, b1⟩ ⟨1024 * (t.val / 2) + (y 1).val, by omega⟩ rfl) fun x => blk1 m c t x ⟨(y 2).val, b2⟩ ⟨512 * (t.val % 2) + (y 2).val, by omega⟩ rfl).trans
      (arrH_at _ _ _ _ _ _ ?_ ?_).symm <;> ((blk_simp [idx2 t]) <;> (try simp [ix3]) <;> (try omega))
  · blk_simp [Pipeline.Window.cell_apply]
    blk_simp at h
    omega

/-- What the kernel leaves. -/
theorem run_value (m : (ℓ : Loc nD τ sig) → Buf (Elt Ideal) ℓ) (ρ : Dev nD → PrngReg) :
    θ_run defs (onTc (τ := τ) (main (F := Ideal))) ⟨m, fun _ => 0, ρ⟩ fun r => ∀ c : Dev nD,
      (∀ i : S2x4104x512.Idx, (i 1).val < 4096 → r.2.mem ((c : Thread nD τ).loc main_v2) i = arrH (K := 4096) (N := 1024) (T := 4104) (n := 512) (k := 2048) (by decide) (m ((c : Thread nD τ).loc main_arg0)) (m ((c : Thread nD τ).loc main_arg1)) i)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨fun i hi => (congrFun (h c).1 i).trans (final m c i hi), (h c).2⟩) (Value.run_blocks m ρ)

end Cert.Kernel11Ideal.Gen

namespace Cert.Reference11Ideal.Value
open Idealize.ShloMosaic Idealize.ShloMosaic.TcCoe Idealize.ShloMosaic.Tactic Idealize.SL.Sem Cert.Reference11Ideal Cert.Reference11Ideal.Gen Cert.Prod

/-- The reference's product, at a row written. -/
theorem res (A : FVec Ideal S2048x4096 .f32) (B : FVec Ideal S2048x1024 .f32) (y : S2x4104x512.Idx) (hy : (y 1).val < 4096) :
    (transpose S2x4104x512 [0, 2, 1] (shapeCast _ (transpose S1024x4104 [1, 0] (Host.dotGeneral (F := Ideal) dot_S2048x4104_S2048x1024_S4104x1024_0_0_1_1_n_n none (pad S2048x4104 ![0, 0] ![0, 8] ![0, 0] A (constant (F := Ideal) S_ .f32 0x00000000#32) pads_S2048x4096_S2048x4104_000_080 h_S_) B) transposes_S4104x1024_S1024x4104_1_0) shapeCasts_S1024x4104_S2x512x4104) transposes_S2x512x4104_S2x4104x512_0_2_1 : FVec Ideal S2x4104x512 .f32) y = arrH (K := 4096) (N := 1024) (T := 4104) (n := 512) (k := 2048) (by decide) A B y := by
  have Z : ∀ (p : Fin 2048) (q : Fin 4104) (h : q.val < 4096), (pad S2048x4104 ![0, 0] ![0, 8] ![0, 0] A (constant (F := Ideal) S_ .f32 0x00000000#32) pads_S2048x4096_S2048x4104_000_080 h_S_ : FVec Ideal S2048x4104 .f32) (ix2 p q) = A (ix2 p ⟨q.val, h⟩) := by
    intro p q h
    pointwise
    exact dif_pos h
  generalize (pad S2048x4104 ![0, 0] ![0, 8] ![0, 0] A (constant (F := Ideal) S_ .f32 0x00000000#32) pads_S2048x4096_S2048x4104_000_080 h_S_ : FVec Ideal S2048x4104 .f32) = D at Z
  have P : ∀ (p : Fin 4104) (q : Fin 1024) (h : p.val < 4096), (Host.dotGeneral (F := Ideal) dot_S2048x4104_S2048x1024_S4104x1024_0_0_1_1_n_n none D B : FVec Ideal S4104x1024 .f32) (ix2 p q) = tmul (a := 4096) (b := 1024) (k := 2048) A B ⟨p.val, h⟩ q := by
    intro p q h
    unfold tmul
    pointwise
    exact Finset.sum_congr rfl fun x _ => congrArg (· * _) (Z x p h)
  generalize (Host.dotGeneral (F := Ideal) dot_S2048x4104_S2048x1024_S4104x1024_0_0_1_1_n_n none D B : FVec Ideal S4104x1024 .f32) = Q at P
  idx_vars y
  refine Eq.trans ?_ (arrH_at _ A B _ (⟨y1.val, hy⟩ : Fin 4096) (⟨y0.val * 512 + y2.val, by omega⟩ : Fin 1024) rfl rfl).symm
  rw [← P ⟨y1.val, by omega⟩]
  pointwise

/-- What the reference leaves. -/
theorem run_value (m : (ℓ : Loc nD τ sig) → Buf (Elt Ideal) ℓ) (ρ : Dev nD → PrngReg) :
    θ_run defs (onTc (τ := τ) (main (F := Ideal))) ⟨m, fun _ => 0, ρ⟩ fun r => ∀ c : Dev nD,
      (∀ i : S2x4104x512.Idx, (i 1).val < 4096 → r.2.mem ((c : Thread nD τ).loc main_v7) i = arrH (K := 4096) (N := 1024) (T := 4104) (n := 512) (k := 2048) (by decide) (m ((c : Thread nD τ).loc main_arg0)) (m ((c : Thread nD τ).loc main_arg1)) i)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨fun i hi => (congrFun (h c).1 i).trans (res _ _ i hi), (h c).2⟩) (run m ρ)

end Cert.Reference11Ideal.Value
end
-- ==== Proof.DownFwd.lean ====
module

public import proofs.«01_k».proof.Proof.Product
public import proofs.«01_k».proof.Proof.Gen.Kernel12Ideal.Value
public import proofs.«01_k».proof.Proof.Gen.Reference12Ideal.Run
@[expose] public section
set_option maxRecDepth 16384

/-! The down projection added to its residual. -/

noncomputable section
namespace Cert.Kernel12Ideal.Gen
open Idealize.ShloMosaic Idealize.ShloMosaic.TcCoe Idealize.ShloMosaic.Tactic Idealize.SL.Sem Cert.Kernel12Ideal Cert.Prod

theorem idx0 : ∀ t : Fin cfg0.N, win0_0.index t = ![t.val / 2, 0] := (by decide +kernel : ∀ t : Fin grid0.N, _)
theorem idx1 : ∀ t : Fin cfg0.N, win0_1.index t = ![0, t.val % 2] := (by decide +kernel : ∀ t : Fin grid0.N, _)
theorem idx2 : ∀ t : Fin cfg0.N, win0_2.index t = ![t.val / 2, t.val % 2] := (by decide +kernel : ∀ t : Fin grid0.N, _)
theorem idx3 : ∀ t : Fin cfg0.N, win0_3.index t = ![t.val / 2, t.val % 2] := (by decide +kernel : ∀ t : Fin grid0.N, _)

/-- A block of the result is the product of the blocks plus the block added. -/
theorem out_at (x0 : Vec Ideal S1024x2816 .bf16) (x1 : Vec Ideal S2816x512 .f32) (x2 : Vec Ideal S1024x512 .f32) (i : Fin 1024) (j : Fin 512) :
    out0_3 x0 x1 x2 (ix2 i j) = mul x0 x1 i j + x2 (ix2 i j) := by
  unfold out0_3 mul
  rw [View.canon_cons_unit_lit _ _ _ (by decide), View.ld_unit_lit _ _ (by decide), View.ld_unit_lit _ _ (by decide), View.ld_unit_lit _ _ (by decide)]
  pointwise [k0_pay1]

variable (m : (ℓ : Loc nD τ sig) → Buf (Elt Ideal) ℓ) (c : Dev nD)

/-- The operand cast on the host is the argument. -/
theorem V_cast0 : (V m c main_v0 : Vec Ideal S2048x2816 .bf16) = m (c, Proc.devRef .tc main_arg0) := by
  unfold V hostOps0
  after_results <;> rfl

theorem blk0 (t : Fin cfg0.N) (i : Fin 1024) (j : Fin 2816) (i' : Fin 2048) (hi : i'.val = 1024 * (t.val / 2) + i.val) :
    (iblk m c 0 t : Vec Ideal S1024x2816 .bf16) (ix2 i j) = m (c, Proc.devRef .tc main_arg0) (ix2 i' j) := by
  blk_simp [iblk, V_cast0]
  refine at_ix2 (a := 2048) (b := 2816) (m (c, Proc.devRef .tc main_arg0)) _ _ _ ?_ ?_ <;>
    ((blk_simp [idx0 t]) <;> (try simp [ix2]) <;> (try omega))

theorem blk1 (t : Fin cfg0.N) (i : Fin 2816) (j : Fin 512) (j' : Fin 1024) (hj : j'.val = 512 * (t.val % 2) + j.val) :
    (iblk m c 1 t : Vec Ideal S2816x512 .f32) (ix2 i j) = m (c, Proc.devRef .tc main_arg1) (ix2 i j') := by
  blk_simp [iblk, V_main_arg1]
  refine at_ix2 (a := 2816) (b := 1024) (m (c, Proc.devRef .tc main_arg1)) _ _ _ ?_ ?_ <;>
    ((blk_simp [idx1 t]) <;> (try simp [ix2]) <;> (try omega))

theorem blk2 (t : Fin cfg0.N) (i : Fin 1024) (j : Fin 512) (i' : Fin 2048) (hi : i'.val = 1024 * (t.val / 2) + i.val) (j' : Fin 1024) (hj : j'.val = 512 * (t.val % 2) + j.val) :
    (iblk m c 2 t : Vec Ideal S1024x512 .f32) (ix2 i j) = m (c, Proc.devRef .tc main_arg2) (ix2 i' j') := by
  blk_simp [iblk, V_main_arg2]
  refine at_ix2 (a := 2048) (b := 1024) (m (c, Proc.devRef .tc main_arg2)) _ _ _ ?_ ?_ <;>
    ((blk_simp [idx2 t]) <;> (try simp [ix2]) <;> (try omega))

/-- The result is `a` times `w`, plus the array added. -/
theorem final : (dats m 0 c).arrAt 3 cfg0.N = arrA (a := 2048) (b := 1024) (k := 2816) (m (c, Proc.devRef .tc main_arg2)) (m (c, Proc.devRef .tc main_arg0)) (m (c, Proc.devRef .tc main_arg1)) := by
  refine (dats m 0 c).arrAt_eq_of_covers 3 _ (by decide +kernel) fun t _ y => ?_
  have hN : t.val < 4 := lt_of_lt_of_eq t.isLt (show cfg0.N = 4 from N_0)
  blk_simp
  rw [after0_3]
  idx_vars y
  rw [out_at]
  refine (congrArg₂ (· + ·) (mul_congr (fun x => blk0 m c t y0 x (⟨1024 * (t.val / 2) + y0.val, by omega⟩ : Fin 2048) (by rfl)) fun x => blk1 m c t x y1 (⟨512 * (t.val % 2) + y1.val, by omega⟩ : Fin 1024) (by rfl)) (blk2 m c t y0 y1 (⟨1024 * (t.val / 2) + y0.val, by omega⟩ : Fin 2048) (by rfl) (⟨512 * (t.val % 2) + y1.val, by omega⟩ : Fin 1024) (by rfl))).trans
    (arrA_at _ _ _ _ _ _ ?_ ?_).symm <;> ((blk_simp [idx3 t]) <;> (try simp [ix2]) <;> (try omega))

/-- What the kernel leaves. -/
theorem run_value (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v1) = arrA (a := 2048) (b := 1024) (k := 2816) (m ((c : Thread nD τ).loc main_arg2)) (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final m c), (h c).2⟩) (Value.run_blocks m ρ)

end Cert.Kernel12Ideal.Gen

namespace Cert.Reference12Ideal.Value
open Idealize.ShloMosaic Idealize.ShloMosaic.TcCoe Idealize.ShloMosaic.Tactic Idealize.SL.Sem Cert.Reference12Ideal Cert.Reference12Ideal.Gen Cert.Prod

/-- The reference's sum, as one array. -/
theorem res (A : FVec Ideal S2048x2816 .f32) (B : FVec Ideal S2816x1024 .f32) (C : FVec Ideal S2048x1024 .f32) :
    (addf C (Host.dotGeneral (F := Ideal) dot_S2048x2816_S2816x1024_S2048x1024_1_0_0_1_n_n none A B) : FVec Ideal S2048x1024 .f32) = arrA (a := 2048) (b := 1024) (k := 2816) C A B := by
  funext y
  idx_vars y
  refine Eq.trans ?_ (arrA_at C A B _ y0 y1 rfl rfl).symm
  unfold mul
  pointwise
  exact add_comm _ _

/-- What the reference leaves. -/
theorem run_value (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v1) = arrA (a := 2048) (b := 1024) (k := 2816) (m ((c : Thread nD τ).loc main_arg2)) (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (res _ _ _), (h c).2⟩) (run m ρ)

end Cert.Reference12Ideal.Value
end
-- ==== Proof.OutFwd.lean ====
module

public import proofs.«01_k».proof.Proof.Product
public import proofs.«01_k».proof.Proof.Gen.Kernel13Ideal.Value
public import proofs.«01_k».proof.Proof.Gen.Reference13Ideal.Run
@[expose] public section
set_option maxRecDepth 16384

/-! The output projection of the mixer added to its residual. -/

noncomputable section
namespace Cert.Kernel13Ideal.Gen
open Idealize.ShloMosaic Idealize.ShloMosaic.TcCoe Idealize.ShloMosaic.Tactic Idealize.SL.Sem Cert.Kernel13Ideal Cert.Prod

theorem idx0 : ∀ t : Fin cfg0.N, win0_0.index t = ![0, 0] := (by decide +kernel : ∀ t : Fin grid0.N, _)
theorem idx1 : ∀ t : Fin cfg0.N, win0_1.index t = ![0, t.val] := (by decide +kernel : ∀ t : Fin grid0.N, _)
theorem idx2 : ∀ t : Fin cfg0.N, win0_2.index t = ![0, t.val] := (by decide +kernel : ∀ t : Fin grid0.N, _)
theorem idx3 : ∀ t : Fin cfg0.N, win0_3.index t = ![0, t.val] := (by decide +kernel : ∀ t : Fin grid0.N, _)

/-- A block of the result is the product of the blocks plus the block added. -/
theorem out_at (x0 : Vec Ideal S2048x1024 .bf16) (x1 : Vec Ideal S1024x512 .f32) (x2 : Vec Ideal S2048x512 .f32) (i : Fin 2048) (j : Fin 512) :
    out0_3 x0 x1 x2 (ix2 i j) = mul x0 x1 i j + x2 (ix2 i j) := by
  unfold out0_3 mul
  rw [View.canon_cons_unit_lit _ _ _ (by decide), View.ld_unit_lit _ _ (by decide), View.ld_unit_lit _ _ (by decide), View.ld_unit_lit _ _ (by decide)]
  pointwise [k0_pay1]

variable (m : (ℓ : Loc nD τ sig) → Buf (Elt Ideal) ℓ) (c : Dev nD)

/-- The operand cast on the host is the argument. -/
theorem V_cast0 : (V m c main_v0 : Vec Ideal S2048x1024 .bf16) = m (c, Proc.devRef .tc main_arg0) := by
  unfold V hostOps0
  after_results <;> rfl

theorem blk0 (t : Fin cfg0.N) (i : Fin 2048) (j : Fin 1024) :
    (iblk m c 0 t : Vec Ideal S2048x1024 .bf16) (ix2 i j) = m (c, Proc.devRef .tc main_arg0) (ix2 i j) := by
  blk_simp [iblk, V_cast0]
  refine at_ix2 (a := 2048) (b := 1024) (m (c, Proc.devRef .tc main_arg0)) _ _ _ ?_ ?_ <;>
    ((blk_simp [idx0 t]) <;> (try simp [ix2]) <;> (try omega))

theorem blk1 (t : Fin cfg0.N) (i : Fin 1024) (j : Fin 512) (j' : Fin 1024) (hj : j'.val = 512 * (t.val) + j.val) :
    (iblk m c 1 t : Vec Ideal S1024x512 .f32) (ix2 i j) = m (c, Proc.devRef .tc main_arg1) (ix2 i j') := by
  blk_simp [iblk, V_main_arg1]
  refine at_ix2 (a := 1024) (b := 1024) (m (c, Proc.devRef .tc main_arg1)) _ _ _ ?_ ?_ <;>
    ((blk_simp [idx1 t]) <;> (try simp [ix2]) <;> (try omega))

theorem blk2 (t : Fin cfg0.N) (i : Fin 2048) (j : Fin 512) (j' : Fin 1024) (hj : j'.val = 512 * (t.val) + j.val) :
    (iblk m c 2 t : Vec Ideal S2048x512 .f32) (ix2 i j) = m (c, Proc.devRef .tc main_arg2) (ix2 i j') := by
  blk_simp [iblk, V_main_arg2]
  refine at_ix2 (a := 2048) (b := 1024) (m (c, Proc.devRef .tc main_arg2)) _ _ _ ?_ ?_ <;>
    ((blk_simp [idx2 t]) <;> (try simp [ix2]) <;> (try omega))

/-- The result is `a` times `w`, plus the array added. -/
theorem final : (dats m 0 c).arrAt 3 cfg0.N = arrA (a := 2048) (b := 1024) (k := 1024) (m (c, Proc.devRef .tc main_arg2)) (m (c, Proc.devRef .tc main_arg0)) (m (c, Proc.devRef .tc main_arg1)) := by
  refine (dats m 0 c).arrAt_eq_of_covers 3 _ (by decide +kernel) fun t _ y => ?_
  have hN : t.val < 2 := lt_of_lt_of_eq t.isLt (show cfg0.N = 2 from N_0)
  blk_simp
  rw [after0_3]
  idx_vars y
  rw [out_at]
  refine (congrArg₂ (· + ·) (mul_congr (fun x => blk0 m c t y0 x ) fun x => blk1 m c t x y1 (⟨512 * (t.val) + y1.val, by omega⟩ : Fin 1024) (by rfl)) (blk2 m c t y0 y1  (⟨512 * (t.val) + y1.val, by omega⟩ : Fin 1024) (by rfl))).trans
    (arrA_at _ _ _ _ _ _ ?_ ?_).symm <;> ((blk_simp [idx3 t]) <;> (try simp [ix2]) <;> (try omega))

/-- What the kernel leaves. -/
theorem run_value (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v1) = arrA (a := 2048) (b := 1024) (k := 1024) (m ((c : Thread nD τ).loc main_arg2)) (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final m c), (h c).2⟩) (Value.run_blocks m ρ)

end Cert.Kernel13Ideal.Gen

namespace Cert.Reference13Ideal.Value
open Idealize.ShloMosaic Idealize.ShloMosaic.TcCoe Idealize.ShloMosaic.Tactic Idealize.SL.Sem Cert.Reference13Ideal Cert.Reference13Ideal.Gen Cert.Prod

/-- The reference's sum, as one array. -/
theorem res (A : FVec Ideal S2048x1024 .f32) (B : FVec Ideal S1024x1024 .f32) (C : FVec Ideal S2048x1024 .f32) :
    (addf C (Host.dotGeneral (F := Ideal) dot_S2048x1024_S1024x1024_S2048x1024_1_0_0_1_n_n none A B) : FVec Ideal S2048x1024 .f32) = arrA (a := 2048) (b := 1024) (k := 1024) C A B := by
  funext y
  idx_vars y
  refine Eq.trans ?_ (arrA_at C A B _ y0 y1 rfl rfl).symm
  unfold mul
  pointwise
  exact add_comm _ _

/-- What the reference leaves. -/
theorem run_value (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v1) = arrA (a := 2048) (b := 1024) (k := 1024) (m ((c : Thread nD τ).loc main_arg2)) (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (res _ _ _), (h c).2⟩) (run m ρ)

end Cert.Reference13Ideal.Value
end
-- ==== Proof.Norm.lean ====
module

public import proofs.«01_k».proof.Proof.Product
@[expose] public section
set_option maxRecDepth 16384

/-! Rows divided by their root mean square and scaled, and products with them, at an index. -/

noncomputable section
namespace Cert.Prod
open Idealize.ShloMosaic Idealize.ShloMosaic.Tactic
open scoped BigOperators

/-- Entry `(i, j)` of the rows of `A`, each divided by its root mean square, times the scale `G`. -/
def nrm (A : Mat 2048 1024) (G : Mat 1 1024) (i : Fin 2048) (j : Fin 1024) : EReal :=
  A (ix2 i j) * Ideal.rsqrt (Ideal.div (∑ k, A (ix2 i k) * A (ix2 i k)) (Ideal.ofBits .f32 0x44800000#32) + Ideal.ofBits .f32 0x358637BD#32) * G (ix2 0 j)

/-- The normalised rows as one array. -/
def arrN (A : Mat 2048 1024) (G : Mat 1 1024) : Mat 2048 1024 := fun y => nrm A G (y 0) (y 1)

theorem arrN_at (A : Mat 2048 1024) (G : Mat 1 1024) (y : (⟨2, ![2048, 1024]⟩ : Shape).Idx) (i : Fin 2048) (j : Fin 1024)
    (h0 : (y 0).val = i.val) (h1 : (y 1).val = j.val) : arrN A G y = nrm A G i j :=
  at_ix2 (arrN A G) y i j h0 h1

/-- The whole product of `A` and `B`. -/
def arrM {a b k : ℕ} (A : Mat a k) (B : Mat k b) : Mat a b := fun y => mul A B (y 0) (y 1)

theorem arrM_at {a b k : ℕ} (A : Mat a k) (B : Mat k b) (y : (⟨2, ![a, b]⟩ : Shape).Idx) (i : Fin a) (j : Fin b)
    (h0 : (y 0).val = i.val) (h1 : (y 1).val = j.val) : arrM A B y = mul A B i j :=
  at_ix2 (arrM A B) y i j h0 h1

/-- The first `b` columns of the product of `A` and `B`. -/
def arrHead {a b B' k : ℕ} (h : b ≤ B') (A : Mat a k) (B : Mat k B') : Mat a b := fun y => mul A B (y 0) (Fin.castLE h (y 1))

theorem arrHead_at {a b B' k : ℕ} (h : b ≤ B') (A : Mat a k) (B : Mat k B') (y : (⟨2, ![a, b]⟩ : Shape).Idx) (i : Fin a) (j : Fin b)
    (h0 : (y 0).val = i.val) (h1 : (y 1).val = j.val) : arrHead h A B y = mul A B i (Fin.castLE h j) :=
  at_ix2 (arrHead h A B) y i j h0 h1

end Cert.Prod
end
-- ==== Proof.NormRunUpI.lean ====
module

public import proofs.«01_k».proof.Proof.Gen.Kernel14Ideal.Frame
public import proofs.«01_k».proof.Proof.Gen.Kernel14Ideal.Skeleton
public import Idealize.ShloMosaic.Lib.Pipeline.TableIdle
public import Idealize.ShloMosaic.Lib.Claim
@[expose] public section
set_option maxRecDepth 16384

/-! The run of a normalisation followed by a product: the first point normalises the rows into the second result, whose one
block stays in its buffer, and every point multiplies that buffer by its block of the weights. -/

noncomputable section
namespace Cert.Kernel14Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The point normalises. -/
abbrev first (i : grid0.Coords) : Prop := k0_cond1 i = 1#1

theorem first_iff : ∀ t : Fin cfg0.N, first (grid0.coords t) ↔ t.val = 0 :=
  (by decide +kernel : ∀ t : Fin grid0.N, first (grid0.coords t) ↔ t.val = 0)

theorem idle4 : ∀ t : Fin cfg0.N, cfg0.idle 4 (cfg0.grid.coords t) = !decide (t.val = 0) :=
  (by decide +kernel : ∀ t : Fin grid0.N, idle0 4 (grid0.coords t) = !decide (t.val = 0))

theorem fresh4 : ∀ t : Fin cfg0.N, t.val ≠ 0 → cfg0.fresh 4 t.val = false := fun t h => by
  have hN : t.val < 11 := lt_of_lt_of_eq t.isLt (show cfg0.N = 11 from N_0)
  rw [cfg0.fresh_tab 4 (fun n => decide (n = 0) || decide (n = 11)) (by decide) (by
    intro t
    rw [idle4 t, Window.flush_eq_flushF]
    revert t
    exact (by decide +kernel : ∀ t : Fin grid0.N, (decide (t.val + 1 = 0) || decide (t.val + 1 = 11)) = (win0_4.flushF t || ((!decide (t.val = 0)) && (decide (t.val = 0) || decide (t.val = 11))))) ) t.val (Nat.le_of_lt t.isLt)]
  simp [h, Nat.ne_of_lt hN]

abbrev st3 : View sig .tc .vmem S2048x512 .f32 := (Memref.whole cc0_stg3_0 : Memref sig .tc .vmem S2048x512 .f32).view
abbrev st4 : View sig .tc .vmem S2048x1024 .bf16 := (Memref.whole cc0_stg4_0 : Memref sig .tc .vmem S2048x1024 .bf16).view
abbrev ms0 (t : Fin cfg0.N) : Memref sig .tc .vmem S2048x1024 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x1024 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024x512 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S2048x512 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S2048x1024 .bf16 := win0_4.stage (cfg0.slots t 4)
abbrev hs4 (t : Fin cfg0.N) : (ms4 t).IsWhole := hstage0_4 ((cfg0.slots t 4).cast nbuf0_4)

set_option maxHeartbeats 1000000 in
/-- The body at the first point: what it stores into the two results, and that it does. -/
noncomputable def runFirst (c : Dev nD) (i : grid0.Coords) (arg1 : Memref sig .tc .vmem S2048x1024 .f32) (harg1 : arg1.IsWhole)
    (arg2 : Memref sig .tc .vmem S1x1024 .f32) (harg2 : arg2.IsWhole) (arg3 : Memref sig .tc .vmem S1024x512 .f32) (harg3 : arg3.IsWhole)
    (arg4 : Memref sig .tc .vmem S2048x512 .f32) (harg4 : arg4.IsWhole) (arg5 : Memref sig .tc .vmem S2048x1024 .bf16) (harg5 : arg5.IsWhole)
    (hc : first i) (x0 : Vec F S2048x1024 .f32) (x1 : Vec F S1x1024 .f32) (x2 : Vec F S1024x512 .f32) :
    Σ' (L3 : List (View.Piece (Elt F) S2048x512 .f32)), { L4 : List (View.Piece (Elt F) S2048x1024 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d)
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4)) -∗ K ⟨⟩))
          ⊢ wp frame (wpE (defs₀ (F := F)) Variants.none c none) E (cc0_ffn_up i arg1 harg1 arg2 harg2 arg3 harg3 arg4 harg4 arg5 harg5) K } := by
  refine ⟨?_, ?_, fun E K => ?run⟩
  case run =>
    simp only [cc0_ffn_up_eq_skeleton]; unfold cc0_ffn_up_skel
    unfold owns
    iintro ⟨⟨%f0, %hf0, H0⟩, ⟨%f1, %hf1, H1⟩, ⟨%f2, %hf2, H2⟩, ⟨%d3, %f3, -, H3⟩, ⟨%d4, %f4, -, H4⟩, Hk⟩
    obtain rfl := harg1.eq_unread hf0; obtain rfl := harg2.eq_unread hf1; obtain rfl := harg3.eq_unread hf2
    sl_exec (disch := first | sl_exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    iexists _; iexact H4

set_option maxHeartbeats 1000000 in
/-- The body at a later point: it reads the second result and stores the first. -/
noncomputable def runLater (c : Dev nD) (i : grid0.Coords) (arg1 : Memref sig .tc .vmem S2048x1024 .f32) (harg1 : arg1.IsWhole)
    (arg2 : Memref sig .tc .vmem S1x1024 .f32) (harg2 : arg2.IsWhole) (arg3 : Memref sig .tc .vmem S1024x512 .f32) (harg3 : arg3.IsWhole)
    (arg4 : Memref sig .tc .vmem S2048x512 .f32) (harg4 : arg4.IsWhole) (arg5 : Memref sig .tc .vmem S2048x1024 .bf16) (harg5 : arg5.IsWhole)
    (hc : ¬first i) (x0 : Vec F S2048x1024 .f32) (x1 : Vec F S1x1024 .f32) (x2 : Vec F S1024x512 .f32) (x4 : Vec F S2048x1024 .bf16) :
    { L3 : List (View.Piece (Elt F) S2048x512 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ owns (c : Thread nD τ) arg5 fullShare x4
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ owns (c : Thread nD τ) arg5 fullShare x4) -∗ K ⟨⟩))
          ⊢ wp frame (wpE (defs₀ (F := F)) Variants.none c none) E (cc0_ffn_up i arg1 harg1 arg2 harg2 arg3 harg3 arg4 harg4 arg5 harg5) K } := by
  refine ⟨?_, fun E K => ?run⟩
  case run =>
    simp only [cc0_ffn_up_eq_skeleton]; unfold cc0_ffn_up_skel
    unfold owns
    iintro ⟨⟨%f0, %hf0, H0⟩, ⟨%f1, %hf1, H1⟩, ⟨%f2, %hf2, H2⟩, ⟨%d3, %f3, -, H3⟩, ⟨%f4, %hf4, H4⟩, Hk⟩
    obtain rfl := harg1.eq_unread hf0; obtain rfl := harg2.eq_unread hf1; obtain rfl := harg3.eq_unread hf2; obtain rfl := harg5.eq_unread hf4
    sl_exec (disch := first | sl_exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    iexists _; isplitr; · ipureintro; exact harg5.read_unread _
    iexact H4

section
variable (c : Dev nD) (i : grid0.Coords) (arg1 : Memref sig .tc .vmem S2048x1024 .f32) (harg1 : arg1.IsWhole)
    (arg2 : Memref sig .tc .vmem S1x1024 .f32) (harg2 : arg2.IsWhole) (arg3 : Memref sig .tc .vmem S1024x512 .f32) (harg3 : arg3.IsWhole)
    (arg4 : Memref sig .tc .vmem S2048x512 .f32) (harg4 : arg4.IsWhole) (arg5 : Memref sig .tc .vmem S2048x1024 .bf16) (harg5 : arg5.IsWhole)
    (x0 : Vec F S2048x1024 .f32) (x1 : Vec F S1x1024 .f32) (x2 : Vec F S1024x512 .f32) (x4 : Vec F S2048x1024 .bf16)

theorem coverFirst3 (hc : first i) (y : S2048x512.Idx) :
    ∃ pc ∈ (runFirst c i arg1 harg1 arg2 harg2 arg3 harg3 arg4 harg4 arg5 harg5 hc x0 x1 x2).1, y ∈ pc.1.set :=
  View.cover_of_tiledL (runFirst c i arg1 harg1 arg2 harg2 arg3 harg3 arg4 harg4 arg5 harg5 hc x0 x1 x2).1 S2048x512.size (by sl_kernel_rfl) y

theorem coverFirst4 (hc : first i) (y : S2048x1024.Idx) :
    ∃ pc ∈ (runFirst c i arg1 harg1 arg2 harg2 arg3 harg3 arg4 harg4 arg5 harg5 hc x0 x1 x2).2.1, y ∈ pc.1.set :=
  View.cover_of_tiledL (runFirst c i arg1 harg1 arg2 harg2 arg3 harg3 arg4 harg4 arg5 harg5 hc x0 x1 x2).2.1 S2048x1024.size (by sl_kernel_rfl) y

theorem coverLater3 (hc : ¬first i) (y : S2048x512.Idx) :
    ∃ pc ∈ (runLater c i arg1 harg1 arg2 harg2 arg3 harg3 arg4 harg4 arg5 harg5 hc x0 x1 x2 x4).1, y ∈ pc.1.set :=
  View.cover_of_tiledL (runLater c i arg1 harg1 arg2 harg2 arg3 harg3 arg4 harg4 arg5 harg5 hc x0 x1 x2 x4).1 S2048x512.size (by sl_kernel_rfl) y

/-- The first result's block after the first point. -/
def outFirst3 (hc : first i) : Vec F S2048x512 .f32 :=
  st3.read (Elt F) (st3.writes (Elt F) st3.junk (runFirst c i arg1 harg1 arg2 harg2 arg3 harg3 arg4 harg4 arg5 harg5 hc x0 x1 x2).1)

/-- The second result after the first point. -/
def outFirst4 (hc : first i) : Vec F S2048x1024 .bf16 :=
  st4.read (Elt F) (st4.writes (Elt F) st4.junk (runFirst c i arg1 harg1 arg2 harg2 arg3 harg3 arg4 harg4 arg5 harg5 hc x0 x1 x2).2.1)

/-- The first result's block after a later point. -/
def outLater3 (hc : ¬first i) : Vec F S2048x512 .f32 :=
  st3.read (Elt F) (st3.writes (Elt F) st3.junk (runLater c i arg1 harg1 arg2 harg2 arg3 harg3 arg4 harg4 arg5 harg5 hc x0 x1 x2 x4).1)
end

/-- The first point. -/
abbrev p0 : Fin cfg0.N := ⟨0, lt_of_lt_of_eq (by decide : 0 < 11) (show cfg0.N = 11 from N_0).symm⟩

/-- The normalised rows, as the first point leaves them. -/
def normed (c : Dev nD) : Vec F S2048x1024 .bf16 :=
  outFirst4 c (grid0.coords p0) (ms0 p0) (hs0 p0) (ms1 p0) (hs1 p0) (ms2 p0) (hs2 p0) (ms3 p0) (hs3 p0) (ms4 p0) (hs4 p0) (iblk m c 0 p0) (iblk m c 1 p0) (iblk m c 2 p0) ((first_iff p0).mpr rfl)

/-- The first result's block after a point. -/
def product (c : Dev nD) (t : Fin cfg0.N) : Vec F S2048x512 .f32 :=
  if h : t.val = 0 then
    outFirst3 c (grid0.coords t) (ms0 t) (hs0 t) (ms1 t) (hs1 t) (ms2 t) (hs2 t) (ms3 t) (hs3 t) (ms4 t) (hs4 t) (iblk m c 0 t) (iblk m c 1 t) (iblk m c 2 t) ((first_iff t).mpr h)
  else
    outLater3 c (grid0.coords t) (ms0 t) (hs0 t) (ms1 t) (hs1 t) (ms2 t) (hs2 t) (ms3 t) (hs3 t) (ms4 t) (hs4 t) (iblk m c 0 t) (iblk m c 1 t) (iblk m c 2 t) (normed m c) (fun k => h ((first_iff t).mp k))

/-- What the buffers hold after each point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => product m c t
    | ⟨4, _⟩ => normed m c
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = product m c t := by dsimp only [dats]
theorem after4 (c : Dev nD) (t : Fin cfg0.N) : (dats m 0 c).after 4 t = normed m c := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d

/-- After the first point the second result's buffer keeps the normalised rows. -/
theorem before4 (c : Dev nD) (t : Fin cfg0.N) (h : t.val ≠ 0) (d) : (dats m 0 c).before 4 t d = normed m c := by
  rw [Dat.before_out_traj (dats m 0 c) 4 rfl (fun _ _ => rfl) (fun t _ _ _ => by rw [after4, after4]) t.val t rfl d, fresh4 t h,
    if_neg Bool.false_ne_true, after4]

/-- Handing it back as found is what is asked, written back or not. -/
theorem leaves4 (c : Dev nD) (t : Fin cfg0.N) (h : t.val ≠ 0) :
    owns (c : Thread nD τ) (ms4 t) fullShare (normed m c) ⊢ ((dats m 0 c).leavesExact 4 t : sProp 𝕄) := by
  have hi : cfg0.idle 4 (cfg0.grid.coords t) = true := by rw [idle4 t, decide_eq_false h]; rfl
  cases hf : (cfg0.win 4).flush t
  · rw [Dat.leavesExact_idle _ 4 t hi hf]
    iintro H
    iexists (normed m c)
    rw [before4 m c t h]
    iexact H
  · unfold Dat.leavesExact
    rw [hi, hf]
    show _ ⊢ owns (c : Thread nD τ) (ms4 t) fullShare ((dats m 0 c).after 4 t)
    rw [after4]

theorem leaves4_first (c : Dev nD) (t : Fin cfg0.N) (h : t.val = 0) :
    owns (c : Thread nD τ) (ms4 t) fullShare (normed m c) ⊢ ((dats m 0 c).leavesExact 4 t : sProp 𝕄) := by
  have hi : cfg0.idle 4 (cfg0.grid.coords t) = false := by rw [idle4 t, decide_eq_true h]; rfl
  unfold Dat.leavesExact
  rw [hi]
  show _ ⊢ owns (c : Thread nD τ) (ms4 t) fullShare ((dats m 0 c).after 4 t)
  rw [after4]

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ (dats m 0 c).leavesExact 4 t)

set_option maxHeartbeats 800000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).Φ t.succ = (dats m 0 c).Φ t.castSucc from rfl,
    show (dats m 0 c).owesAt () t.succ = (dats m 0 c).owesAt () t.castSucc from rfl,
    after0, after1, after2, after3]
  by_cases h : t.val = 0
  · obtain rfl : t = p0 := Fin.ext h
    rw [product, dif_pos rfl]
    unfold outFirst3
    iintro ⟨HΦ, Ho, ⟨%d0, H0⟩, ⟨%d1, H1⟩, ⟨%d2, H2⟩, ⟨%d3, H3⟩, ⟨%d4, H4⟩⟩
    iapply ((runFirst c (grid0.coords p0) _ _ _ _ _ _ _ _ _ _ ((first_iff p0).mpr rfl) (iblk m c 0 p0) (iblk m c 1 p0) (iblk m c 2 p0)).2.2 Set.univ _)
    isplitl [H0]; · iexact H0
    isplitl [H1]; · iexact H1
    isplitl [H2]; · iexact H2
    isplitl [H3]; · iexists _; iexact H3
    isplitl [H4]; · iexists _; iexact H4
    iintro ⟨H0, H1, H2, ⟨%e3, H3⟩, ⟨%e4, H4⟩⟩
    isplitl [HΦ]; · iexact HΦ
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (coverFirst3 c _ _ _ _ _ _ _ _ _ _ _ _ _ _ _)
    iapply (leaves4_first m c p0 rfl)
    unfold normed outFirst4 owns; iexists _; isplitr
    swap; · iexact H4
    ipureintro; exact View.read_writes_of_cover _ _ _ _ _ (coverFirst4 c _ _ _ _ _ _ _ _ _ _ _ _ _ _ _)
  · rw [product, dif_neg h]
    simp only [before4 m c t h]
    unfold outLater3
    iintro ⟨HΦ, Ho, ⟨%d0, H0⟩, ⟨%d1, H1⟩, ⟨%d2, H2⟩, ⟨%d3, H3⟩, ⟨%d4, H4⟩⟩
    iapply ((runLater c (grid0.coords t) _ _ _ _ _ _ _ _ _ _ (fun k => h ((first_iff t).mp k)) (iblk m c 0 t) (iblk m c 1 t) (iblk m c 2 t) (normed m c)).2 Set.univ _)
    isplitl [H0]; · iexact H0
    isplitl [H1]; · iexact H1
    isplitl [H2]; · iexact H2
    isplitl [H3]; · iexists _; iexact H3
    isplitl [H4]; · iexact H4
    iintro ⟨H0, H1, H2, ⟨%e3, H3⟩, H4⟩
    isplitl [HΦ]; · iexact HΦ
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (coverLater3 c _ _ _ _ _ _ _ _ _ _ _ _ _ _ _ _)
    iapply (leaves4 m c t h)
    iexact H4

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The run: the arrays end as the points write them. -/
theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- The arguments end as they were and no semaphore is held. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.Kernel14Ideal.Gen
end
-- ==== Proof.NormUp.lean ====
module

public import Idealize.ShloMosaic.Lib.KernelVsHost
public import proofs.«01_k».proof.Proof.Norm
public import proofs.«01_k».proof.Proof.NormRunUp
public import proofs.«01_k».proof.Proof.NormRunUpI
public import proofs.«01_k».proof.Proof.Gen.Reference14Ideal.Run
@[expose] public section
set_option maxRecDepth 16384

/-! The feed-forward network's normalised input and its up projection. -/

noncomputable section
namespace Cert.Kernel14Ideal.Gen
open Idealize.ShloMosaic Idealize.ShloMosaic.TcCoe Idealize.ShloMosaic.Tactic Idealize.SL.Sem Cert.Kernel14Ideal Cert.Prod

theorem idx0 : ∀ t : Fin cfg0.N, win0_0.index t = ![0, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, t.val] := (by decide +kernel : ∀ t : Fin grid0.N, _)
theorem idx3 : ∀ t : Fin cfg0.N, win0_3.index t = ![0, t.val] := (by decide +kernel : ∀ t : Fin grid0.N, _)
theorem idx4 : ∀ t : Fin cfg0.N, win0_4.index t = ![0, 0] := (by decide +kernel : ∀ t : Fin grid0.N, _)

/-- The normalising payload, at an index. -/
theorem pay1_at (x0 : Vec Ideal S2048x1024 .f32) (x1 : Vec Ideal S1x1024 .f32) (i : Fin 2048) (j : Fin 1024) :
    k0_pay1 x0 x1 (ix2 i j) = nrm x0 x1 i j := by
  unfold nrm
  pointwise [k0_pay1]

/-- The multiplying payload, at an index. -/
theorem pay2_at (h : Vec Ideal S2048x1024 .bf16) (w : Vec Ideal S1024x512 .f32) (i : Fin 2048) (j : Fin 512) :
    k0_pay2 h w (ix2 i j) = mul h w i j := by
  unfold mul
  pointwise [k0_pay2]

section
variable (c : Dev nD) (i : grid0.Coords) (arg1 : Memref sig .tc .vmem S2048x1024 .f32) (harg1 : arg1.IsWhole)
    (arg2 : Memref sig .tc .vmem S1x1024 .f32) (harg2 : arg2.IsWhole) (arg3 : Memref sig .tc .vmem S1024x512 .f32) (harg3 : arg3.IsWhole)
    (arg4 : Memref sig .tc .vmem S2048x512 .f32) (harg4 : arg4.IsWhole) (arg5 : Memref sig .tc .vmem S2048x1024 .bf16) (harg5 : arg5.IsWhole)
    (x0 : Vec Ideal S2048x1024 .f32) (x1 : Vec Ideal S1x1024 .f32) (x2 : Vec Ideal S1024x512 .f32) (x4 : Vec Ideal S2048x1024 .bf16)

theorem first4 (hc : first i) : outFirst4 c i arg1 harg1 arg2 harg2 arg3 harg3 arg4 harg4 arg5 harg5 x0 x1 x2 hc = k0_pay1 x0 x1 := by
  unfold outFirst4
  rw [View.read_writes_junk_eq_canon]
  unfold runFirst
  dsimp only
  unfold runFirst.sl.H4_1
  simp (disch := decide) only [View.canon_cons_unit_lit', View.ld_unit_lit', View.readCov_unit_lit', View.readCov_cons_unit_lit', View.readAt_eq_ld, Memref.IsWhole.read_unread]

theorem first3 (hc : first i) : outFirst3 c i arg1 harg1 arg2 harg2 arg3 harg3 arg4 harg4 arg5 harg5 x0 x1 x2 hc = k0_pay2 (k0_pay1 x0 x1) x2 := by
  unfold outFirst3
  rw [View.read_writes_junk_eq_canon]
  unfold runFirst
  dsimp only
  unfold runFirst.sl.v3
  unfold runFirst.sl.H4_1
  simp (disch := decide) only [View.canon_cons_unit_lit', View.ld_unit_lit', View.readCov_unit_lit', View.readCov_cons_unit_lit', View.readAt_eq_ld, Memref.IsWhole.read_unread]

theorem later3 (hc : ¬first i) : outLater3 c i arg1 harg1 arg2 harg2 arg3 harg3 arg4 harg4 arg5 harg5 x0 x1 x2 x4 hc = k0_pay2 x4 x2 := by
  unfold outLater3
  rw [View.read_writes_junk_eq_canon]
  unfold runLater
  simp (disch := decide) only [View.canon_cons_unit_lit', View.ld_unit_lit', View.readCov_unit_lit', View.readCov_cons_unit_lit', View.readAt_eq_ld, Memref.IsWhole.read_unread]
end

variable (m : (ℓ : Loc nD τ sig) → Buf (Elt Ideal) ℓ) (c : Dev nD)

theorem blk0 (t : Fin cfg0.N) (i : Fin 2048) (j : Fin 1024) :
    (iblk m c 0 t : Vec Ideal S2048x1024 .f32) (ix2 i j) = m (c, Proc.devRef .tc main_arg0) (ix2 i j) := by
  blk_simp [iblk, V_main_arg0]
  refine at_ix2 (a := 2048) (b := 1024) (m (c, Proc.devRef .tc main_arg0)) _ _ _ ?_ ?_ <;>
    ((blk_simp [idx0 t]) <;> (try simp [ix2]) <;> (try omega))

theorem blk1 (t : Fin cfg0.N) (i : Fin 1) (j : Fin 1024) :
    (iblk m c 1 t : Vec Ideal S1x1024 .f32) (ix2 i j) = m (c, Proc.devRef .tc main_arg1) (ix2 i j) := by
  blk_simp [iblk, V_main_arg1]
  refine at_ix2 (a := 1) (b := 1024) (m (c, Proc.devRef .tc main_arg1)) _ _ _ ?_ ?_ <;>
    ((blk_simp [idx1 t]) <;> (try simp [ix2]) <;> (try omega))

theorem blk2 (t : Fin cfg0.N) (i : Fin 1024) (j : Fin 512) (j' : Fin 5632) (hj : j'.val = 512 * t.val + j.val) :
    (iblk m c 2 t : Vec Ideal S1024x512 .f32) (ix2 i j) = m (c, Proc.devRef .tc main_arg2) (ix2 i j') := by
  blk_simp [iblk, V_main_arg2]
  refine at_ix2 (a := 1024) (b := 5632) (m (c, Proc.devRef .tc main_arg2)) _ _ _ ?_ ?_ <;>
    ((blk_simp [idx2 t]) <;> (try simp [ix2]) <;> (try omega))

/-- A block's rows normalised are the argument's. -/
theorem rows_at (t : Fin cfg0.N) (i : Fin 2048) (j : Fin 1024) :
    k0_pay1 (iblk m c 0 t : Vec Ideal S2048x1024 .f32) (iblk m c 1 t : Vec Ideal S1x1024 .f32) (ix2 i j)
      = arrN (m (c, Proc.devRef .tc main_arg0)) (m (c, Proc.devRef .tc main_arg1)) (ix2 i j) := by
  rw [pay1_at]
  refine Eq.trans ?_ (arrN_at _ _ _ i j rfl rfl).symm
  unfold nrm
  simp only [blk0, blk1]

theorem normed_at (i : Fin 2048) (j : Fin 1024) : normed m c (ix2 i j) = arrN (m (c, Proc.devRef .tc main_arg0)) (m (c, Proc.devRef .tc main_arg1)) (ix2 i j) := by
  unfold normed
  rw [first4]
  exact rows_at m c p0 i j

theorem product_at (t : Fin cfg0.N) (i : Fin 2048) (j : Fin 512) (j' : Fin 5632) (hj : j'.val = 512 * t.val + j.val) :
    product m c t (ix2 i j) = mul (arrN (m (c, Proc.devRef .tc main_arg0)) (m (c, Proc.devRef .tc main_arg1))) (m (c, Proc.devRef .tc main_arg2) : Vec Ideal S1024x5632 .f32) i j' := by
  unfold product
  by_cases h : t.val = 0
  · rw [dif_pos h, first3, pay2_at]
    exact mul_congr (fun x => rows_at m c t i x) (fun x => blk2 m c t x j j' hj)
  · rw [dif_neg h, later3, pay2_at]
    exact mul_congr (fun x => normed_at m c i x) (fun x => blk2 m c t x j j' hj)

/-- The first result is the product. -/
theorem final3 : (dats m 0 c).arrAt 3 cfg0.N = arrM (a := 2048) (b := 5632) (k := 1024) (arrN (m (c, Proc.devRef .tc main_arg0)) (m (c, Proc.devRef .tc main_arg1))) (m (c, Proc.devRef .tc main_arg2)) := by
  refine (dats m 0 c).arrAt_eq_of_covers 3 _ (by decide +kernel) fun t _ y => ?_
  have hN : t.val < 11 := lt_of_lt_of_eq t.isLt (show cfg0.N = 11 from N_0)
  blk_simp
  rw [after3]
  idx_vars y
  refine (product_at m c t y0 y1 (⟨512 * t.val + y1.val, by omega⟩ : Fin 5632) rfl).trans
    (arrM_at _ _ _ _ _ ?_ ?_).symm <;> ((blk_simp [idx3 t]) <;> (try simp [ix2]) <;> (try omega))

/-- The second result is the normalised rows. -/
theorem final4 : (dats m 0 c).arrAt 4 cfg0.N = arrN (m (c, Proc.devRef .tc main_arg0)) (m (c, Proc.devRef .tc main_arg1)) := by
  refine (dats m 0 c).arrAt_eq_of_covers 4 _ (by decide +kernel) fun t _ y => ?_
  blk_simp
  rw [after4]
  idx_vars y
  refine (normed_at m c y0 y1).trans ((arrN_at _ _ _ _ _ rfl rfl).trans (arrN_at _ _ _ _ _ ?_ ?_).symm) <;>
    ((blk_simp [idx4 t]) <;> (try simp [ix2]) <;> (try omega))

/-- What the kernel leaves. -/
theorem run_value (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v0_0) = arrM (a := 2048) (b := 5632) (k := 1024) (arrN (m ((c : Thread nD τ).loc main_arg0)) (m ((c : Thread nD τ).loc main_arg1))) (m ((c : Thread nD τ).loc main_arg2))
      ∧ r.2.mem ((c : Thread nD τ).loc main_v0_1) = arrN (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨((h.1 c).1 3).trans (final3 m c), ((h.1 c).1 4).trans (final4 m c), h.2 c⟩)
    (θ_run_and (run_main m ρ) (unchanged m ρ))

end Cert.Kernel14Ideal.Gen

namespace Cert.Reference14Ideal.Value
open Idealize.ShloMosaic Idealize.ShloMosaic.TcCoe Idealize.ShloMosaic.Tactic Idealize.SL.Sem Cert.Reference14Ideal Cert.Reference14Ideal.Gen Cert.Prod

/-- The reference's normalised rows, as one array. -/
theorem rows (A : FVec Ideal S2048x1024 .f32) (G : FVec Ideal S1x1024 .f32) :
    (mulf (mulf A (broadcastInDim S2048x1024 ![0, 1] bcast_S2048x1_S2048x1024_0_1 (Host.rsqrt (addf (Host.divf (broadcastInDim S2048x1 ![0] bcast_S2048_S2048x1_0 (Host.reduceAdd (mulf A A) (constant S_ .f32 0x00000000#32) reducesTo_S2048x1024_S2048_d1 h_S_)) (broadcastInDim S2048x1 ![] bcast_S_S2048x1 (constant S_ .f32 0x44800000#32))) (broadcastInDim S2048x1 ![] bcast_S_S2048x1 (constant S_ .f32 0x358637BD#32)))))) (broadcastInDim S2048x1024 ![0, 1] bcast_S1x1024_S2048x1024_0_1 G) : FVec Ideal S2048x1024 .f32)
      = arrN A G := by
  funext y
  idx_vars y
  refine Eq.trans ?_ (arrN_at A G _ y0 y1 rfl rfl).symm
  unfold nrm
  pointwise

/-- The reference's product, as one array. -/
theorem res (N : FVec Ideal S2048x1024 .f32) (W : FVec Ideal S1024x5632 .f32) :
    (Host.dotGeneral (F := Ideal) dot_S2048x1024_S1024x5632_S2048x5632_1_0_0_1_n_n none N W : FVec Ideal S2048x5632 .f32) = arrM (a := 2048) (b := 5632) (k := 1024) N W := by
  funext y
  idx_vars y
  refine Eq.trans ?_ (arrM_at N W _ y0 y1 rfl rfl).symm
  unfold mul
  pointwise

/-- What the reference leaves. -/
theorem run_value (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v12) = arrM (a := 2048) (b := 5632) (k := 1024) (arrN (m ((c : Thread nD τ).loc main_arg0)) (m ((c : Thread nD τ).loc main_arg1))) (m ((c : Thread nD τ).loc main_arg2))
      ∧ r.2.mem ((c : Thread nD τ).loc main_v13) = arrN (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans ((res _ _).trans (congrArg (fun N => arrM (a := 2048) (b := 5632) (k := 1024) N _) (rows _ _))), (h c).2.1.trans (rows _ _), (h c).2.2⟩) (run m ρ)

end Cert.Reference14Ideal.Value
end
-- ==== Proof.NormRunIn1I.lean ====
module

public import proofs.«01_k».proof.Proof.Gen.Kernel15Ideal.Frame
public import proofs.«01_k».proof.Proof.Gen.Kernel15Ideal.Skeleton
public import Idealize.ShloMosaic.Lib.Pipeline.TableIdle
public import Idealize.ShloMosaic.Lib.Claim
@[expose] public section
set_option maxRecDepth 16384

/-! The run of a normalisation followed by a product: the first point normalises the rows into the second result, whose one
block stays in its buffer, and every point multiplies that buffer by its block of the weights. -/

noncomputable section
namespace Cert.Kernel15Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The point normalises. -/
abbrev first (i : grid0.Coords) : Prop := k0_cond1 i = 1#1

theorem first_iff : ∀ t : Fin cfg0.N, first (grid0.coords t) ↔ t.val = 0 :=
  (by decide +kernel : ∀ t : Fin grid0.N, first (grid0.coords t) ↔ t.val = 0)

theorem idle4 : ∀ t : Fin cfg0.N, cfg0.idle 4 (cfg0.grid.coords t) = !decide (t.val = 0) :=
  (by decide +kernel : ∀ t : Fin grid0.N, idle0 4 (grid0.coords t) = !decide (t.val = 0))

theorem fresh4 : ∀ t : Fin cfg0.N, t.val ≠ 0 → cfg0.fresh 4 t.val = false := fun t h => by
  have hN : t.val < 4 := lt_of_lt_of_eq t.isLt (show cfg0.N = 4 from N_0)
  rw [cfg0.fresh_tab 4 (fun n => decide (n = 0) || decide (n = 4)) (by decide) (by
    intro t
    rw [idle4 t, Window.flush_eq_flushF]
    revert t
    exact (by decide +kernel : ∀ t : Fin grid0.N, (decide (t.val + 1 = 0) || decide (t.val + 1 = 4)) = (win0_4.flushF t || ((!decide (t.val = 0)) && (decide (t.val = 0) || decide (t.val = 4))))) ) t.val (Nat.le_of_lt t.isLt)]
  simp [h, Nat.ne_of_lt hN]

abbrev st3 : View sig .tc .vmem S2048x512 .f32 := (Memref.whole cc0_stg3_0 : Memref sig .tc .vmem S2048x512 .f32).view
abbrev st4 : View sig .tc .vmem S2048x1024 .bf16 := (Memref.whole cc0_stg4_0 : Memref sig .tc .vmem S2048x1024 .bf16).view
abbrev ms0 (t : Fin cfg0.N) : Memref sig .tc .vmem S2048x1024 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x1024 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024x512 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S2048x512 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S2048x1024 .bf16 := win0_4.stage (cfg0.slots t 4)
abbrev hs4 (t : Fin cfg0.N) : (ms4 t).IsWhole := hstage0_4 ((cfg0.slots t 4).cast nbuf0_4)

set_option maxHeartbeats 1000000 in
/-- The body at the first point: what it stores into the two results, and that it does. -/
noncomputable def runFirst (c : Dev nD) (i : grid0.Coords) (arg1 : Memref sig .tc .vmem S2048x1024 .f32) (harg1 : arg1.IsWhole)
    (arg2 : Memref sig .tc .vmem S1x1024 .f32) (harg2 : arg2.IsWhole) (arg3 : Memref sig .tc .vmem S1024x512 .f32) (harg3 : arg3.IsWhole)
    (arg4 : Memref sig .tc .vmem S2048x512 .f32) (harg4 : arg4.IsWhole) (arg5 : Memref sig .tc .vmem S2048x1024 .bf16) (harg5 : arg5.IsWhole)
    (hc : first i) (x0 : Vec F S2048x1024 .f32) (x1 : Vec F S1x1024 .f32) (x2 : Vec F S1024x512 .f32) :
    Σ' (L3 : List (View.Piece (Elt F) S2048x512 .f32)), { L4 : List (View.Piece (Elt F) S2048x1024 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d)
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4)) -∗ K ⟨⟩))
          ⊢ wp frame (wpE (defs₀ (F := F)) Variants.none c none) E (cc0_mix1_in i arg1 harg1 arg2 harg2 arg3 harg3 arg4 harg4 arg5 harg5) K } := by
  refine ⟨?_, ?_, fun E K => ?run⟩
  case run =>
    simp only [cc0_mix1_in_eq_skeleton]; unfold cc0_mix1_in_skel
    unfold owns
    iintro ⟨⟨%f0, %hf0, H0⟩, ⟨%f1, %hf1, H1⟩, ⟨%f2, %hf2, H2⟩, ⟨%d3, %f3, -, H3⟩, ⟨%d4, %f4, -, H4⟩, Hk⟩
    obtain rfl := harg1.eq_unread hf0; obtain rfl := harg2.eq_unread hf1; obtain rfl := harg3.eq_unread hf2
    sl_exec (disch := first | sl_exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    iexists _; iexact H4

set_option maxHeartbeats 1000000 in
/-- The body at a later point: it reads the second result and stores the first. -/
noncomputable def runLater (c : Dev nD) (i : grid0.Coords) (arg1 : Memref sig .tc .vmem S2048x1024 .f32) (harg1 : arg1.IsWhole)
    (arg2 : Memref sig .tc .vmem S1x1024 .f32) (harg2 : arg2.IsWhole) (arg3 : Memref sig .tc .vmem S1024x512 .f32) (harg3 : arg3.IsWhole)
    (arg4 : Memref sig .tc .vmem S2048x512 .f32) (harg4 : arg4.IsWhole) (arg5 : Memref sig .tc .vmem S2048x1024 .bf16) (harg5 : arg5.IsWhole)
    (hc : ¬first i) (x0 : Vec F S2048x1024 .f32) (x1 : Vec F S1x1024 .f32) (x2 : Vec F S1024x512 .f32) (x4 : Vec F S2048x1024 .bf16) :
    { L3 : List (View.Piece (Elt F) S2048x512 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ owns (c : Thread nD τ) arg5 fullShare x4
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ owns (c : Thread nD τ) arg5 fullShare x4) -∗ K ⟨⟩))
          ⊢ wp frame (wpE (defs₀ (F := F)) Variants.none c none) E (cc0_mix1_in i arg1 harg1 arg2 harg2 arg3 harg3 arg4 harg4 arg5 harg5) K } := by
  refine ⟨?_, fun E K => ?run⟩
  case run =>
    simp only [cc0_mix1_in_eq_skeleton]; unfold cc0_mix1_in_skel
    unfold owns
    iintro ⟨⟨%f0, %hf0, H0⟩, ⟨%f1, %hf1, H1⟩, ⟨%f2, %hf2, H2⟩, ⟨%d3, %f3, -, H3⟩, ⟨%f4, %hf4, H4⟩, Hk⟩
    obtain rfl := harg1.eq_unread hf0; obtain rfl := harg2.eq_unread hf1; obtain rfl := harg3.eq_unread hf2; obtain rfl := harg5.eq_unread hf4
    sl_exec (disch := first | sl_exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    iexists _; isplitr; · ipureintro; exact harg5.read_unread _
    iexact H4

section
variable (c : Dev nD) (i : grid0.Coords) (arg1 : Memref sig .tc .vmem S2048x1024 .f32) (harg1 : arg1.IsWhole)
    (arg2 : Memref sig .tc .vmem S1x1024 .f32) (harg2 : arg2.IsWhole) (arg3 : Memref sig .tc .vmem S1024x512 .f32) (harg3 : arg3.IsWhole)
    (arg4 : Memref sig .tc .vmem S2048x512 .f32) (harg4 : arg4.IsWhole) (arg5 : Memref sig .tc .vmem S2048x1024 .bf16) (harg5 : arg5.IsWhole)
    (x0 : Vec F S2048x1024 .f32) (x1 : Vec F S1x1024 .f32) (x2 : Vec F S1024x512 .f32) (x4 : Vec F S2048x1024 .bf16)

theorem coverFirst3 (hc : first i) (y : S2048x512.Idx) :
    ∃ pc ∈ (runFirst c i arg1 harg1 arg2 harg2 arg3 harg3 arg4 harg4 arg5 harg5 hc x0 x1 x2).1, y ∈ pc.1.set :=
  View.cover_of_tiledL (runFirst c i arg1 harg1 arg2 harg2 arg3 harg3 arg4 harg4 arg5 harg5 hc x0 x1 x2).1 S2048x512.size (by sl_kernel_rfl) y

theorem coverFirst4 (hc : first i) (y : S2048x1024.Idx) :
    ∃ pc ∈ (runFirst c i arg1 harg1 arg2 harg2 arg3 harg3 arg4 harg4 arg5 harg5 hc x0 x1 x2).2.1, y ∈ pc.1.set :=
  View.cover_of_tiledL (runFirst c i arg1 harg1 arg2 harg2 arg3 harg3 arg4 harg4 arg5 harg5 hc x0 x1 x2).2.1 S2048x1024.size (by sl_kernel_rfl) y

theorem coverLater3 (hc : ¬first i) (y : S2048x512.Idx) :
    ∃ pc ∈ (runLater c i arg1 harg1 arg2 harg2 arg3 harg3 arg4 harg4 arg5 harg5 hc x0 x1 x2 x4).1, y ∈ pc.1.set :=
  View.cover_of_tiledL (runLater c i arg1 harg1 arg2 harg2 arg3 harg3 arg4 harg4 arg5 harg5 hc x0 x1 x2 x4).1 S2048x512.size (by sl_kernel_rfl) y

/-- The first result's block after the first point. -/
def outFirst3 (hc : first i) : Vec F S2048x512 .f32 :=
  st3.read (Elt F) (st3.writes (Elt F) st3.junk (runFirst c i arg1 harg1 arg2 harg2 arg3 harg3 arg4 harg4 arg5 harg5 hc x0 x1 x2).1)

/-- The second result after the first point. -/
def outFirst4 (hc : first i) : Vec F S2048x1024 .bf16 :=
  st4.read (Elt F) (st4.writes (Elt F) st4.junk (runFirst c i arg1 harg1 arg2 harg2 arg3 harg3 arg4 harg4 arg5 harg5 hc x0 x1 x2).2.1)

/-- The first result's block after a later point. -/
def outLater3 (hc : ¬first i) : Vec F S2048x512 .f32 :=
  st3.read (Elt F) (st3.writes (Elt F) st3.junk (runLater c i arg1 harg1 arg2 harg2 arg3 harg3 arg4 harg4 arg5 harg5 hc x0 x1 x2 x4).1)
end

/-- The first point. -/
abbrev p0 : Fin cfg0.N := ⟨0, lt_of_lt_of_eq (by decide : 0 < 4) (show cfg0.N = 4 from N_0).symm⟩

/-- The normalised rows, as the first point leaves them. -/
def normed (c : Dev nD) : Vec F S2048x1024 .bf16 :=
  outFirst4 c (grid0.coords p0) (ms0 p0) (hs0 p0) (ms1 p0) (hs1 p0) (ms2 p0) (hs2 p0) (ms3 p0) (hs3 p0) (ms4 p0) (hs4 p0) (iblk m c 0 p0) (iblk m c 1 p0) (iblk m c 2 p0) ((first_iff p0).mpr rfl)

/-- The first result's block after a point. -/
def product (c : Dev nD) (t : Fin cfg0.N) : Vec F S2048x512 .f32 :=
  if h : t.val = 0 then
    outFirst3 c (grid0.coords t) (ms0 t) (hs0 t) (ms1 t) (hs1 t) (ms2 t) (hs2 t) (ms3 t) (hs3 t) (ms4 t) (hs4 t) (iblk m c 0 t) (iblk m c 1 t) (iblk m c 2 t) ((first_iff t).mpr h)
  else
    outLater3 c (grid0.coords t) (ms0 t) (hs0 t) (ms1 t) (hs1 t) (ms2 t) (hs2 t) (ms3 t) (hs3 t) (ms4 t) (hs4 t) (iblk m c 0 t) (iblk m c 1 t) (iblk m c 2 t) (normed m c) (fun k => h ((first_iff t).mp k))

/-- What the buffers hold after each point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => product m c t
    | ⟨4, _⟩ => normed m c
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = product m c t := by dsimp only [dats]
theorem after4 (c : Dev nD) (t : Fin cfg0.N) : (dats m 0 c).after 4 t = normed m c := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d

/-- After the first point the second result's buffer keeps the normalised rows. -/
theorem before4 (c : Dev nD) (t : Fin cfg0.N) (h : t.val ≠ 0) (d) : (dats m 0 c).before 4 t d = normed m c := by
  rw [Dat.before_out_traj (dats m 0 c) 4 rfl (fun _ _ => rfl) (fun t _ _ _ => by rw [after4, after4]) t.val t rfl d, fresh4 t h,
    if_neg Bool.false_ne_true, after4]

/-- Handing it back as found is what is asked, written back or not. -/
theorem leaves4 (c : Dev nD) (t : Fin cfg0.N) (h : t.val ≠ 0) :
    owns (c : Thread nD τ) (ms4 t) fullShare (normed m c) ⊢ ((dats m 0 c).leavesExact 4 t : sProp 𝕄) := by
  have hi : cfg0.idle 4 (cfg0.grid.coords t) = true := by rw [idle4 t, decide_eq_false h]; rfl
  cases hf : (cfg0.win 4).flush t
  · rw [Dat.leavesExact_idle _ 4 t hi hf]
    iintro H
    iexists (normed m c)
    rw [before4 m c t h]
    iexact H
  · unfold Dat.leavesExact
    rw [hi, hf]
    show _ ⊢ owns (c : Thread nD τ) (ms4 t) fullShare ((dats m 0 c).after 4 t)
    rw [after4]

theorem leaves4_first (c : Dev nD) (t : Fin cfg0.N) (h : t.val = 0) :
    owns (c : Thread nD τ) (ms4 t) fullShare (normed m c) ⊢ ((dats m 0 c).leavesExact 4 t : sProp 𝕄) := by
  have hi : cfg0.idle 4 (cfg0.grid.coords t) = false := by rw [idle4 t, decide_eq_true h]; rfl
  unfold Dat.leavesExact
  rw [hi]
  show _ ⊢ owns (c : Thread nD τ) (ms4 t) fullShare ((dats m 0 c).after 4 t)
  rw [after4]

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ (dats m 0 c).leavesExact 4 t)

set_option maxHeartbeats 800000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).Φ t.succ = (dats m 0 c).Φ t.castSucc from rfl,
    show (dats m 0 c).owesAt () t.succ = (dats m 0 c).owesAt () t.castSucc from rfl,
    after0, after1, after2, after3]
  by_cases h : t.val = 0
  · obtain rfl : t = p0 := Fin.ext h
    rw [product, dif_pos rfl]
    unfold outFirst3
    iintro ⟨HΦ, Ho, ⟨%d0, H0⟩, ⟨%d1, H1⟩, ⟨%d2, H2⟩, ⟨%d3, H3⟩, ⟨%d4, H4⟩⟩
    iapply ((runFirst c (grid0.coords p0) _ _ _ _ _ _ _ _ _ _ ((first_iff p0).mpr rfl) (iblk m c 0 p0) (iblk m c 1 p0) (iblk m c 2 p0)).2.2 Set.univ _)
    isplitl [H0]; · iexact H0
    isplitl [H1]; · iexact H1
    isplitl [H2]; · iexact H2
    isplitl [H3]; · iexists _; iexact H3
    isplitl [H4]; · iexists _; iexact H4
    iintro ⟨H0, H1, H2, ⟨%e3, H3⟩, ⟨%e4, H4⟩⟩
    isplitl [HΦ]; · iexact HΦ
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (coverFirst3 c _ _ _ _ _ _ _ _ _ _ _ _ _ _ _)
    iapply (leaves4_first m c p0 rfl)
    unfold normed outFirst4 owns; iexists _; isplitr
    swap; · iexact H4
    ipureintro; exact View.read_writes_of_cover _ _ _ _ _ (coverFirst4 c _ _ _ _ _ _ _ _ _ _ _ _ _ _ _)
  · rw [product, dif_neg h]
    simp only [before4 m c t h]
    unfold outLater3
    iintro ⟨HΦ, Ho, ⟨%d0, H0⟩, ⟨%d1, H1⟩, ⟨%d2, H2⟩, ⟨%d3, H3⟩, ⟨%d4, H4⟩⟩
    iapply ((runLater c (grid0.coords t) _ _ _ _ _ _ _ _ _ _ (fun k => h ((first_iff t).mp k)) (iblk m c 0 t) (iblk m c 1 t) (iblk m c 2 t) (normed m c)).2 Set.univ _)
    isplitl [H0]; · iexact H0
    isplitl [H1]; · iexact H1
    isplitl [H2]; · iexact H2
    isplitl [H3]; · iexists _; iexact H3
    isplitl [H4]; · iexact H4
    iintro ⟨H0, H1, H2, ⟨%e3, H3⟩, H4⟩
    isplitl [HΦ]; · iexact HΦ
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (coverLater3 c _ _ _ _ _ _ _ _ _ _ _ _ _ _ _ _)
    iapply (leaves4 m c t h)
    iexact H4

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The run: the arrays end as the points write them. -/
theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- The arguments end as they were and no semaphore is held. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.Kernel15Ideal.Gen
end
-- ==== Proof.NormIn1.lean ====
module

public import Idealize.ShloMosaic.Lib.KernelVsHost
public import proofs.«01_k».proof.Proof.Norm
public import proofs.«01_k».proof.Proof.NormRunIn1
public import proofs.«01_k».proof.Proof.NormRunIn1I
public import proofs.«01_k».proof.Proof.Gen.Reference15Ideal.Run
@[expose] public section
set_option maxRecDepth 16384

/-! The second mixer's normalised input and its projection. -/

noncomputable section
namespace Cert.Kernel15Ideal.Gen
open Idealize.ShloMosaic Idealize.ShloMosaic.TcCoe Idealize.ShloMosaic.Tactic Idealize.SL.Sem Cert.Kernel15Ideal Cert.Prod

theorem idx0 : ∀ t : Fin cfg0.N, win0_0.index t = ![0, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, t.val] := (by decide +kernel : ∀ t : Fin grid0.N, _)
theorem idx3 : ∀ t : Fin cfg0.N, win0_3.index t = ![0, t.val] := (by decide +kernel : ∀ t : Fin grid0.N, _)
theorem idx4 : ∀ t : Fin cfg0.N, win0_4.index t = ![0, 0] := (by decide +kernel : ∀ t : Fin grid0.N, _)

/-- The normalising payload, at an index. -/
theorem pay1_at (x0 : Vec Ideal S2048x1024 .f32) (x1 : Vec Ideal S1x1024 .f32) (i : Fin 2048) (j : Fin 1024) :
    k0_pay1 x0 x1 (ix2 i j) = nrm x0 x1 i j := by
  unfold nrm
  pointwise [k0_pay1]

/-- The multiplying payload, at an index. -/
theorem pay2_at (h : Vec Ideal S2048x1024 .bf16) (w : Vec Ideal S1024x512 .f32) (i : Fin 2048) (j : Fin 512) :
    k0_pay2 h w (ix2 i j) = mul h w i j := by
  unfold mul
  pointwise [k0_pay2]

section
variable (c : Dev nD) (i : grid0.Coords) (arg1 : Memref sig .tc .vmem S2048x1024 .f32) (harg1 : arg1.IsWhole)
    (arg2 : Memref sig .tc .vmem S1x1024 .f32) (harg2 : arg2.IsWhole) (arg3 : Memref sig .tc .vmem S1024x512 .f32) (harg3 : arg3.IsWhole)
    (arg4 : Memref sig .tc .vmem S2048x512 .f32) (harg4 : arg4.IsWhole) (arg5 : Memref sig .tc .vmem S2048x1024 .bf16) (harg5 : arg5.IsWhole)
    (x0 : Vec Ideal S2048x1024 .f32) (x1 : Vec Ideal S1x1024 .f32) (x2 : Vec Ideal S1024x512 .f32) (x4 : Vec Ideal S2048x1024 .bf16)

theorem first4 (hc : first i) : outFirst4 c i arg1 harg1 arg2 harg2 arg3 harg3 arg4 harg4 arg5 harg5 x0 x1 x2 hc = k0_pay1 x0 x1 := by
  unfold outFirst4
  rw [View.read_writes_junk_eq_canon]
  unfold runFirst
  dsimp only
  unfold runFirst.sl.H4_1
  simp (disch := decide) only [View.canon_cons_unit_lit', View.ld_unit_lit', View.readCov_unit_lit', View.readCov_cons_unit_lit', View.readAt_eq_ld, Memref.IsWhole.read_unread]

theorem first3 (hc : first i) : outFirst3 c i arg1 harg1 arg2 harg2 arg3 harg3 arg4 harg4 arg5 harg5 x0 x1 x2 hc = k0_pay2 (k0_pay1 x0 x1) x2 := by
  unfold outFirst3
  rw [View.read_writes_junk_eq_canon]
  unfold runFirst
  dsimp only
  unfold runFirst.sl.v3
  unfold runFirst.sl.H4_1
  simp (disch := decide) only [View.canon_cons_unit_lit', View.ld_unit_lit', View.readCov_unit_lit', View.readCov_cons_unit_lit', View.readAt_eq_ld, Memref.IsWhole.read_unread]

theorem later3 (hc : ¬first i) : outLater3 c i arg1 harg1 arg2 harg2 arg3 harg3 arg4 harg4 arg5 harg5 x0 x1 x2 x4 hc = k0_pay2 x4 x2 := by
  unfold outLater3
  rw [View.read_writes_junk_eq_canon]
  unfold runLater
  simp (disch := decide) only [View.canon_cons_unit_lit', View.ld_unit_lit', View.readCov_unit_lit', View.readCov_cons_unit_lit', View.readAt_eq_ld, Memref.IsWhole.read_unread]
end

variable (m : (ℓ : Loc nD τ sig) → Buf (Elt Ideal) ℓ) (c : Dev nD)

theorem blk0 (t : Fin cfg0.N) (i : Fin 2048) (j : Fin 1024) :
    (iblk m c 0 t : Vec Ideal S2048x1024 .f32) (ix2 i j) = m (c, Proc.devRef .tc main_arg0) (ix2 i j) := by
  blk_simp [iblk, V_main_arg0]
  refine at_ix2 (a := 2048) (b := 1024) (m (c, Proc.devRef .tc main_arg0)) _ _ _ ?_ ?_ <;>
    ((blk_simp [idx0 t]) <;> (try simp [ix2]) <;> (try omega))

theorem blk1 (t : Fin cfg0.N) (i : Fin 1) (j : Fin 1024) :
    (iblk m c 1 t : Vec Ideal S1x1024 .f32) (ix2 i j) = m (c, Proc.devRef .tc main_arg1) (ix2 i j) := by
  blk_simp [iblk, V_main_arg1]
  refine at_ix2 (a := 1) (b := 1024) (m (c, Proc.devRef .tc main_arg1)) _ _ _ ?_ ?_ <;>
    ((blk_simp [idx1 t]) <;> (try simp [ix2]) <;> (try omega))

theorem blk2 (t : Fin cfg0.N) (i : Fin 1024) (j : Fin 512) (j' : Fin 2048) (hj : j'.val = 512 * t.val + j.val) :
    (iblk m c 2 t : Vec Ideal S1024x512 .f32) (ix2 i j) = m (c, Proc.devRef .tc main_arg2) (ix2 i j') := by
  blk_simp [iblk, V_main_arg2]
  refine at_ix2 (a := 1024) (b := 2048) (m (c, Proc.devRef .tc main_arg2)) _ _ _ ?_ ?_ <;>
    ((blk_simp [idx2 t]) <;> (try simp [ix2]) <;> (try omega))

/-- A block's rows normalised are the argument's. -/
theorem rows_at (t : Fin cfg0.N) (i : Fin 2048) (j : Fin 1024) :
    k0_pay1 (iblk m c 0 t : Vec Ideal S2048x1024 .f32) (iblk m c 1 t : Vec Ideal S1x1024 .f32) (ix2 i j)
      = arrN (m (c, Proc.devRef .tc main_arg0)) (m (c, Proc.devRef .tc main_arg1)) (ix2 i j) := by
  rw [pay1_at]
  refine Eq.trans ?_ (arrN_at _ _ _ i j rfl rfl).symm
  unfold nrm
  simp only [blk0, blk1]

theorem normed_at (i : Fin 2048) (j : Fin 1024) : normed m c (ix2 i j) = arrN (m (c, Proc.devRef .tc main_arg0)) (m (c, Proc.devRef .tc main_arg1)) (ix2 i j) := by
  unfold normed
  rw [first4]
  exact rows_at m c p0 i j

theorem product_at (t : Fin cfg0.N) (i : Fin 2048) (j : Fin 512) (j' : Fin 2048) (hj : j'.val = 512 * t.val + j.val) :
    product m c t (ix2 i j) = mul (arrN (m (c, Proc.devRef .tc main_arg0)) (m (c, Proc.devRef .tc main_arg1))) (m (c, Proc.devRef .tc main_arg2) : Vec Ideal S1024x2048 .f32) i j' := by
  unfold product
  by_cases h : t.val = 0
  · rw [dif_pos h, first3, pay2_at]
    exact mul_congr (fun x => rows_at m c t i x) (fun x => blk2 m c t x j j' hj)
  · rw [dif_neg h, later3, pay2_at]
    exact mul_congr (fun x => normed_at m c i x) (fun x => blk2 m c t x j j' hj)

/-- The first result is the product. -/
theorem final3 : (dats m 0 c).arrAt 3 cfg0.N = arrM (a := 2048) (b := 2048) (k := 1024) (arrN (m (c, Proc.devRef .tc main_arg0)) (m (c, Proc.devRef .tc main_arg1))) (m (c, Proc.devRef .tc main_arg2)) := by
  refine (dats m 0 c).arrAt_eq_of_covers 3 _ (by decide +kernel) fun t _ y => ?_
  have hN : t.val < 4 := lt_of_lt_of_eq t.isLt (show cfg0.N = 4 from N_0)
  blk_simp
  rw [after3]
  idx_vars y
  refine (product_at m c t y0 y1 (⟨512 * t.val + y1.val, by omega⟩ : Fin 2048) rfl).trans
    (arrM_at _ _ _ _ _ ?_ ?_).symm <;> ((blk_simp [idx3 t]) <;> (try simp [ix2]) <;> (try omega))

/-- The second result is the normalised rows. -/
theorem final4 : (dats m 0 c).arrAt 4 cfg0.N = arrN (m (c, Proc.devRef .tc main_arg0)) (m (c, Proc.devRef .tc main_arg1)) := by
  refine (dats m 0 c).arrAt_eq_of_covers 4 _ (by decide +kernel) fun t _ y => ?_
  blk_simp
  rw [after4]
  idx_vars y
  refine (normed_at m c y0 y1).trans ((arrN_at _ _ _ _ _ rfl rfl).trans (arrN_at _ _ _ _ _ ?_ ?_).symm) <;>
    ((blk_simp [idx4 t]) <;> (try simp [ix2]) <;> (try omega))

/-- What the kernel leaves. -/
theorem run_value (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v0_0) = arrM (a := 2048) (b := 2048) (k := 1024) (arrN (m ((c : Thread nD τ).loc main_arg0)) (m ((c : Thread nD τ).loc main_arg1))) (m ((c : Thread nD τ).loc main_arg2))
      ∧ r.2.mem ((c : Thread nD τ).loc main_v0_1) = arrN (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨((h.1 c).1 3).trans (final3 m c), ((h.1 c).1 4).trans (final4 m c), h.2 c⟩)
    (θ_run_and (run_main m ρ) (unchanged m ρ))

end Cert.Kernel15Ideal.Gen

namespace Cert.Reference15Ideal.Value
open Idealize.ShloMosaic Idealize.ShloMosaic.TcCoe Idealize.ShloMosaic.Tactic Idealize.SL.Sem Cert.Reference15Ideal Cert.Reference15Ideal.Gen Cert.Prod

/-- The reference's normalised rows, as one array. -/
theorem rows (A : FVec Ideal S2048x1024 .f32) (G : FVec Ideal S1x1024 .f32) :
    (mulf (mulf A (broadcastInDim S2048x1024 ![0, 1] bcast_S2048x1_S2048x1024_0_1 (Host.rsqrt (addf (Host.divf (broadcastInDim S2048x1 ![0] bcast_S2048_S2048x1_0 (Host.reduceAdd (mulf A A) (constant S_ .f32 0x00000000#32) reducesTo_S2048x1024_S2048_d1 h_S_)) (broadcastInDim S2048x1 ![] bcast_S_S2048x1 (constant S_ .f32 0x44800000#32))) (broadcastInDim S2048x1 ![] bcast_S_S2048x1 (constant S_ .f32 0x358637BD#32)))))) (broadcastInDim S2048x1024 ![0, 1] bcast_S1x1024_S2048x1024_0_1 G) : FVec Ideal S2048x1024 .f32)
      = arrN A G := by
  funext y
  idx_vars y
  refine Eq.trans ?_ (arrN_at A G _ y0 y1 rfl rfl).symm
  unfold nrm
  pointwise

/-- The reference's product, as one array. -/
theorem res (N : FVec Ideal S2048x1024 .f32) (W : FVec Ideal S1024x2048 .f32) :
    (Host.dotGeneral (F := Ideal) dot_S2048x1024_S1024x2048_S2048x2048_1_0_0_1_n_n none N W : FVec Ideal S2048x2048 .f32) = arrM (a := 2048) (b := 2048) (k := 1024) N W := by
  funext y
  idx_vars y
  refine Eq.trans ?_ (arrM_at N W _ y0 y1 rfl rfl).symm
  unfold mul
  pointwise

/-- What the reference leaves. -/
theorem run_value (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v12) = arrM (a := 2048) (b := 2048) (k := 1024) (arrN (m ((c : Thread nD τ).loc main_arg0)) (m ((c : Thread nD τ).loc main_arg1))) (m ((c : Thread nD τ).loc main_arg2))
      ∧ r.2.mem ((c : Thread nD τ).loc main_v13) = arrN (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans ((res _ _).trans (congrArg (fun N => arrM (a := 2048) (b := 2048) (k := 1024) N _) (rows _ _))), (h c).2.1.trans (rows _ _), (h c).2.2⟩) (run m ρ)

end Cert.Reference15Ideal.Value
end
-- ==== Proof.NormRunIn0I.lean ====
module

public import proofs.«01_k».proof.Proof.Gen.Kernel16Ideal.Frame
public import proofs.«01_k».proof.Proof.Gen.Kernel16Ideal.Skeleton
public import Idealize.ShloMosaic.Lib.Pipeline.TableIdle
public import Idealize.ShloMosaic.Lib.Claim
@[expose] public section
set_option maxRecDepth 16384

/-! The run of a normalisation followed by a product: the first point normalises the rows into the second result, whose one
block stays in its buffer, and every point multiplies that buffer by its block of the weights. -/

noncomputable section
namespace Cert.Kernel16Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The point normalises. -/
abbrev first (i : grid0.Coords) : Prop := k0_cond1 i = 1#1

theorem first_iff : ∀ t : Fin cfg0.N, first (grid0.coords t) ↔ t.val = 0 :=
  (by decide +kernel : ∀ t : Fin grid0.N, first (grid0.coords t) ↔ t.val = 0)

theorem idle4 : ∀ t : Fin cfg0.N, cfg0.idle 4 (cfg0.grid.coords t) = !decide (t.val = 0) :=
  (by decide +kernel : ∀ t : Fin grid0.N, idle0 4 (grid0.coords t) = !decide (t.val = 0))

theorem fresh4 : ∀ t : Fin cfg0.N, t.val ≠ 0 → cfg0.fresh 4 t.val = false := fun t h => by
  have hN : t.val < 8 := lt_of_lt_of_eq t.isLt (show cfg0.N = 8 from N_0)
  rw [cfg0.fresh_tab 4 (fun n => decide (n = 0) || decide (n = 8)) (by decide) (by
    intro t
    rw [idle4 t, Window.flush_eq_flushF]
    revert t
    exact (by decide +kernel : ∀ t : Fin grid0.N, (decide (t.val + 1 = 0) || decide (t.val + 1 = 8)) = (win0_4.flushF t || ((!decide (t.val = 0)) && (decide (t.val = 0) || decide (t.val = 8))))) ) t.val (Nat.le_of_lt t.isLt)]
  simp [h, Nat.ne_of_lt hN]

abbrev st3 : View sig .tc .vmem S2048x512 .f32 := (Memref.whole cc0_stg3_0 : Memref sig .tc .vmem S2048x512 .f32).view
abbrev st4 : View sig .tc .vmem S2048x1024 .bf16 := (Memref.whole cc0_stg4_0 : Memref sig .tc .vmem S2048x1024 .bf16).view
abbrev ms0 (t : Fin cfg0.N) : Memref sig .tc .vmem S2048x1024 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x1024 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S512x1024 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S2048x512 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S2048x1024 .bf16 := win0_4.stage (cfg0.slots t 4)
abbrev hs4 (t : Fin cfg0.N) : (ms4 t).IsWhole := hstage0_4 ((cfg0.slots t 4).cast nbuf0_4)

set_option maxHeartbeats 1000000 in
/-- The body at the first point: what it stores into the two results, and that it does. -/
noncomputable def runFirst (c : Dev nD) (i : grid0.Coords) (arg1 : Memref sig .tc .vmem S2048x1024 .f32) (harg1 : arg1.IsWhole)
    (arg2 : Memref sig .tc .vmem S1x1024 .f32) (harg2 : arg2.IsWhole) (arg3 : Memref sig .tc .vmem S512x1024 .f32) (harg3 : arg3.IsWhole)
    (arg4 : Memref sig .tc .vmem S2048x512 .f32) (harg4 : arg4.IsWhole) (arg5 : Memref sig .tc .vmem S2048x1024 .bf16) (harg5 : arg5.IsWhole)
    (hc : first i) (x0 : Vec F S2048x1024 .f32) (x1 : Vec F S1x1024 .f32) (x2 : Vec F S512x1024 .f32) :
    Σ' (L3 : List (View.Piece (Elt F) S2048x512 .f32)), { L4 : List (View.Piece (Elt F) S2048x1024 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d)
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4)) -∗ K ⟨⟩))
          ⊢ wp frame (wpE (defs₀ (F := F)) Variants.none c none) E (cc0_mix0_in i arg1 harg1 arg2 harg2 arg3 harg3 arg4 harg4 arg5 harg5) K } := by
  refine ⟨?_, ?_, fun E K => ?run⟩
  case run =>
    simp only [cc0_mix0_in_eq_skeleton]; unfold cc0_mix0_in_skel
    unfold owns
    iintro ⟨⟨%f0, %hf0, H0⟩, ⟨%f1, %hf1, H1⟩, ⟨%f2, %hf2, H2⟩, ⟨%d3, %f3, -, H3⟩, ⟨%d4, %f4, -, H4⟩, Hk⟩
    obtain rfl := harg1.eq_unread hf0; obtain rfl := harg2.eq_unread hf1; obtain rfl := harg3.eq_unread hf2
    sl_exec (disch := first | sl_exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    iexists _; iexact H4

set_option maxHeartbeats 1000000 in
/-- The body at a later point: it reads the second result and stores the first. -/
noncomputable def runLater (c : Dev nD) (i : grid0.Coords) (arg1 : Memref sig .tc .vmem S2048x1024 .f32) (harg1 : arg1.IsWhole)
    (arg2 : Memref sig .tc .vmem S1x1024 .f32) (harg2 : arg2.IsWhole) (arg3 : Memref sig .tc .vmem S512x1024 .f32) (harg3 : arg3.IsWhole)
    (arg4 : Memref sig .tc .vmem S2048x512 .f32) (harg4 : arg4.IsWhole) (arg5 : Memref sig .tc .vmem S2048x1024 .bf16) (harg5 : arg5.IsWhole)
    (hc : ¬first i) (x0 : Vec F S2048x1024 .f32) (x1 : Vec F S1x1024 .f32) (x2 : Vec F S512x1024 .f32) (x4 : Vec F S2048x1024 .bf16) :
    { L3 : List (View.Piece (Elt F) S2048x512 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ owns (c : Thread nD τ) arg5 fullShare x4
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ owns (c : Thread nD τ) arg5 fullShare x4) -∗ K ⟨⟩))
          ⊢ wp frame (wpE (defs₀ (F := F)) Variants.none c none) E (cc0_mix0_in i arg1 harg1 arg2 harg2 arg3 harg3 arg4 harg4 arg5 harg5) K } := by
  refine ⟨?_, fun E K => ?run⟩
  case run =>
    simp only [cc0_mix0_in_eq_skeleton]; unfold cc0_mix0_in_skel
    unfold owns
    iintro ⟨⟨%f0, %hf0, H0⟩, ⟨%f1, %hf1, H1⟩, ⟨%f2, %hf2, H2⟩, ⟨%d3, %f3, -, H3⟩, ⟨%f4, %hf4, H4⟩, Hk⟩
    obtain rfl := harg1.eq_unread hf0; obtain rfl := harg2.eq_unread hf1; obtain rfl := harg3.eq_unread hf2; obtain rfl := harg5.eq_unread hf4
    sl_exec (disch := first | sl_exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    iexists _; isplitr; · ipureintro; exact harg5.read_unread _
    iexact H4

section
variable (c : Dev nD) (i : grid0.Coords) (arg1 : Memref sig .tc .vmem S2048x1024 .f32) (harg1 : arg1.IsWhole)
    (arg2 : Memref sig .tc .vmem S1x1024 .f32) (harg2 : arg2.IsWhole) (arg3 : Memref sig .tc .vmem S512x1024 .f32) (harg3 : arg3.IsWhole)
    (arg4 : Memref sig .tc .vmem S2048x512 .f32) (harg4 : arg4.IsWhole) (arg5 : Memref sig .tc .vmem S2048x1024 .bf16) (harg5 : arg5.IsWhole)
    (x0 : Vec F S2048x1024 .f32) (x1 : Vec F S1x1024 .f32) (x2 : Vec F S512x1024 .f32) (x4 : Vec F S2048x1024 .bf16)

theorem coverFirst3 (hc : first i) (y : S2048x512.Idx) :
    ∃ pc ∈ (runFirst c i arg1 harg1 arg2 harg2 arg3 harg3 arg4 harg4 arg5 harg5 hc x0 x1 x2).1, y ∈ pc.1.set :=
  View.cover_of_tiledL (runFirst c i arg1 harg1 arg2 harg2 arg3 harg3 arg4 harg4 arg5 harg5 hc x0 x1 x2).1 S2048x512.size (by sl_kernel_rfl) y

theorem coverFirst4 (hc : first i) (y : S2048x1024.Idx) :
    ∃ pc ∈ (runFirst c i arg1 harg1 arg2 harg2 arg3 harg3 arg4 harg4 arg5 harg5 hc x0 x1 x2).2.1, y ∈ pc.1.set :=
  View.cover_of_tiledL (runFirst c i arg1 harg1 arg2 harg2 arg3 harg3 arg4 harg4 arg5 harg5 hc x0 x1 x2).2.1 S2048x1024.size (by sl_kernel_rfl) y

theorem coverLater3 (hc : ¬first i) (y : S2048x512.Idx) :
    ∃ pc ∈ (runLater c i arg1 harg1 arg2 harg2 arg3 harg3 arg4 harg4 arg5 harg5 hc x0 x1 x2 x4).1, y ∈ pc.1.set :=
  View.cover_of_tiledL (runLater c i arg1 harg1 arg2 harg2 arg3 harg3 arg4 harg4 arg5 harg5 hc x0 x1 x2 x4).1 S2048x512.size (by sl_kernel_rfl) y

/-- The first result's block after the first point. -/
def outFirst3 (hc : first i) : Vec F S2048x512 .f32 :=
  st3.read (Elt F) (st3.writes (Elt F) st3.junk (runFirst c i arg1 harg1 arg2 harg2 arg3 harg3 arg4 harg4 arg5 harg5 hc x0 x1 x2).1)

/-- The second result after the first point. -/
def outFirst4 (hc : first i) : Vec F S2048x1024 .bf16 :=
  st4.read (Elt F) (st4.writes (Elt F) st4.junk (runFirst c i arg1 harg1 arg2 harg2 arg3 harg3 arg4 harg4 arg5 harg5 hc x0 x1 x2).2.1)

/-- The first result's block after a later point. -/
def outLater3 (hc : ¬first i) : Vec F S2048x512 .f32 :=
  st3.read (Elt F) (st3.writes (Elt F) st3.junk (runLater c i arg1 harg1 arg2 harg2 arg3 harg3 arg4 harg4 arg5 harg5 hc x0 x1 x2 x4).1)
end

/-- The first point. -/
abbrev p0 : Fin cfg0.N := ⟨0, lt_of_lt_of_eq (by decide : 0 < 8) (show cfg0.N = 8 from N_0).symm⟩

/-- The normalised rows, as the first point leaves them. -/
def normed (c : Dev nD) : Vec F S2048x1024 .bf16 :=
  outFirst4 c (grid0.coords p0) (ms0 p0) (hs0 p0) (ms1 p0) (hs1 p0) (ms2 p0) (hs2 p0) (ms3 p0) (hs3 p0) (ms4 p0) (hs4 p0) (iblk m c 0 p0) (iblk m c 1 p0) (iblk m c 2 p0) ((first_iff p0).mpr rfl)

/-- The first result's block after a point. -/
def product (c : Dev nD) (t : Fin cfg0.N) : Vec F S2048x512 .f32 :=
  if h : t.val = 0 then
    outFirst3 c (grid0.coords t) (ms0 t) (hs0 t) (ms1 t) (hs1 t) (ms2 t) (hs2 t) (ms3 t) (hs3 t) (ms4 t) (hs4 t) (iblk m c 0 t) (iblk m c 1 t) (iblk m c 2 t) ((first_iff t).mpr h)
  else
    outLater3 c (grid0.coords t) (ms0 t) (hs0 t) (ms1 t) (hs1 t) (ms2 t) (hs2 t) (ms3 t) (hs3 t) (ms4 t) (hs4 t) (iblk m c 0 t) (iblk m c 1 t) (iblk m c 2 t) (normed m c) (fun k => h ((first_iff t).mp k))

/-- What the buffers hold after each point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => product m c t
    | ⟨4, _⟩ => normed m c
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = product m c t := by dsimp only [dats]
theorem after4 (c : Dev nD) (t : Fin cfg0.N) : (dats m 0 c).after 4 t = normed m c := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d

/-- After the first point the second result's buffer keeps the normalised rows. -/
theorem before4 (c : Dev nD) (t : Fin cfg0.N) (h : t.val ≠ 0) (d) : (dats m 0 c).before 4 t d = normed m c := by
  rw [Dat.before_out_traj (dats m 0 c) 4 rfl (fun _ _ => rfl) (fun t _ _ _ => by rw [after4, after4]) t.val t rfl d, fresh4 t h,
    if_neg Bool.false_ne_true, after4]

/-- Handing it back as found is what is asked, written back or not. -/
theorem leaves4 (c : Dev nD) (t : Fin cfg0.N) (h : t.val ≠ 0) :
    owns (c : Thread nD τ) (ms4 t) fullShare (normed m c) ⊢ ((dats m 0 c).leavesExact 4 t : sProp 𝕄) := by
  have hi : cfg0.idle 4 (cfg0.grid.coords t) = true := by rw [idle4 t, decide_eq_false h]; rfl
  cases hf : (cfg0.win 4).flush t
  · rw [Dat.leavesExact_idle _ 4 t hi hf]
    iintro H
    iexists (normed m c)
    rw [before4 m c t h]
    iexact H
  · unfold Dat.leavesExact
    rw [hi, hf]
    show _ ⊢ owns (c : Thread nD τ) (ms4 t) fullShare ((dats m 0 c).after 4 t)
    rw [after4]

theorem leaves4_first (c : Dev nD) (t : Fin cfg0.N) (h : t.val = 0) :
    owns (c : Thread nD τ) (ms4 t) fullShare (normed m c) ⊢ ((dats m 0 c).leavesExact 4 t : sProp 𝕄) := by
  have hi : cfg0.idle 4 (cfg0.grid.coords t) = false := by rw [idle4 t, decide_eq_true h]; rfl
  unfold Dat.leavesExact
  rw [hi]
  show _ ⊢ owns (c : Thread nD τ) (ms4 t) fullShare ((dats m 0 c).after 4 t)
  rw [after4]

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ (dats m 0 c).leavesExact 4 t)

set_option maxHeartbeats 800000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).Φ t.succ = (dats m 0 c).Φ t.castSucc from rfl,
    show (dats m 0 c).owesAt () t.succ = (dats m 0 c).owesAt () t.castSucc from rfl,
    after0, after1, after2, after3]
  by_cases h : t.val = 0
  · obtain rfl : t = p0 := Fin.ext h
    rw [product, dif_pos rfl]
    unfold outFirst3
    iintro ⟨HΦ, Ho, ⟨%d0, H0⟩, ⟨%d1, H1⟩, ⟨%d2, H2⟩, ⟨%d3, H3⟩, ⟨%d4, H4⟩⟩
    iapply ((runFirst c (grid0.coords p0) _ _ _ _ _ _ _ _ _ _ ((first_iff p0).mpr rfl) (iblk m c 0 p0) (iblk m c 1 p0) (iblk m c 2 p0)).2.2 Set.univ _)
    isplitl [H0]; · iexact H0
    isplitl [H1]; · iexact H1
    isplitl [H2]; · iexact H2
    isplitl [H3]; · iexists _; iexact H3
    isplitl [H4]; · iexists _; iexact H4
    iintro ⟨H0, H1, H2, ⟨%e3, H3⟩, ⟨%e4, H4⟩⟩
    isplitl [HΦ]; · iexact HΦ
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (coverFirst3 c _ _ _ _ _ _ _ _ _ _ _ _ _ _ _)
    iapply (leaves4_first m c p0 rfl)
    unfold normed outFirst4 owns; iexists _; isplitr
    swap; · iexact H4
    ipureintro; exact View.read_writes_of_cover _ _ _ _ _ (coverFirst4 c _ _ _ _ _ _ _ _ _ _ _ _ _ _ _)
  · rw [product, dif_neg h]
    simp only [before4 m c t h]
    unfold outLater3
    iintro ⟨HΦ, Ho, ⟨%d0, H0⟩, ⟨%d1, H1⟩, ⟨%d2, H2⟩, ⟨%d3, H3⟩, ⟨%d4, H4⟩⟩
    iapply ((runLater c (grid0.coords t) _ _ _ _ _ _ _ _ _ _ (fun k => h ((first_iff t).mp k)) (iblk m c 0 t) (iblk m c 1 t) (iblk m c 2 t) (normed m c)).2 Set.univ _)
    isplitl [H0]; · iexact H0
    isplitl [H1]; · iexact H1
    isplitl [H2]; · iexact H2
    isplitl [H3]; · iexists _; iexact H3
    isplitl [H4]; · iexact H4
    iintro ⟨H0, H1, H2, ⟨%e3, H3⟩, H4⟩
    isplitl [HΦ]; · iexact HΦ
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (coverLater3 c _ _ _ _ _ _ _ _ _ _ _ _ _ _ _ _)
    iapply (leaves4 m c t h)
    iexact H4

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The run: the arrays end as the points write them. -/
theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- The arguments end as they were and no semaphore is held. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.Kernel16Ideal.Gen
end
-- ==== Proof.NormIn0.lean ====
module

public import Idealize.ShloMosaic.Lib.KernelVsHost
public import proofs.«01_k».proof.Proof.Norm
public import proofs.«01_k».proof.Proof.NormRunIn0
public import proofs.«01_k».proof.Proof.NormRunIn0I
public import proofs.«01_k».proof.Proof.Gen.Reference16Ideal.Run
@[expose] public section
set_option maxRecDepth 16384

/-! The first mixer's normalised input and its projection, less the last columns. -/

noncomputable section
namespace Cert.Kernel16Ideal.Gen
open Idealize.ShloMosaic Idealize.ShloMosaic.TcCoe Idealize.ShloMosaic.Tactic Idealize.SL.Sem Cert.Kernel16Ideal Cert.Prod

theorem idx0 : ∀ t : Fin cfg0.N, win0_0.index t = ![0, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![0, t.val] := (by decide +kernel : ∀ t : Fin grid0.N, _)
theorem idx4 : ∀ t : Fin cfg0.N, win0_4.index t = ![0, 0] := (by decide +kernel : ∀ t : Fin grid0.N, _)

/-- The normalising payload, at an index. -/
theorem pay1_at (x0 : Vec Ideal S2048x1024 .f32) (x1 : Vec Ideal S1x1024 .f32) (i : Fin 2048) (j : Fin 1024) :
    k0_pay1 x0 x1 (ix2 i j) = nrm x0 x1 i j := by
  unfold nrm
  pointwise [k0_pay1]

/-- The multiplying payload, at an index. -/
theorem pay2_at (h : Vec Ideal S2048x1024 .bf16) (w : Vec Ideal S512x1024 .f32) (i : Fin 2048) (j : Fin 512) :
    k0_pay2 h w (ix2 i j) = mulT h w i j := by
  unfold mulT
  pointwise [k0_pay2]

section
variable (c : Dev nD) (i : grid0.Coords) (arg1 : Memref sig .tc .vmem S2048x1024 .f32) (harg1 : arg1.IsWhole)
    (arg2 : Memref sig .tc .vmem S1x1024 .f32) (harg2 : arg2.IsWhole) (arg3 : Memref sig .tc .vmem S512x1024 .f32) (harg3 : arg3.IsWhole)
    (arg4 : Memref sig .tc .vmem S2048x512 .f32) (harg4 : arg4.IsWhole) (arg5 : Memref sig .tc .vmem S2048x1024 .bf16) (harg5 : arg5.IsWhole)
    (x0 : Vec Ideal S2048x1024 .f32) (x1 : Vec Ideal S1x1024 .f32) (x2 : Vec Ideal S512x1024 .f32) (x4 : Vec Ideal S2048x1024 .bf16)

theorem first4 (hc : first i) : outFirst4 c i arg1 harg1 arg2 harg2 arg3 harg3 arg4 harg4 arg5 harg5 x0 x1 x2 hc = k0_pay1 x0 x1 := by
  unfold outFirst4
  rw [View.read_writes_junk_eq_canon]
  unfold runFirst
  dsimp only
  unfold runFirst.sl.H4_1
  simp (disch := decide) only [View.canon_cons_unit_lit', View.ld_unit_lit', View.readCov_unit_lit', View.readCov_cons_unit_lit', View.readAt_eq_ld, Memref.IsWhole.read_unread]

theorem first3 (hc : first i) : outFirst3 c i arg1 harg1 arg2 harg2 arg3 harg3 arg4 harg4 arg5 harg5 x0 x1 x2 hc = k0_pay2 (k0_pay1 x0 x1) x2 := by
  unfold outFirst3
  rw [View.read_writes_junk_eq_canon]
  unfold runFirst
  dsimp only
  unfold runFirst.sl.v3
  unfold runFirst.sl.H4_1
  simp (disch := decide) only [View.canon_cons_unit_lit', View.ld_unit_lit', View.readCov_unit_lit', View.readCov_cons_unit_lit', View.readAt_eq_ld, Memref.IsWhole.read_unread]

theorem later3 (hc : ¬first i) : outLater3 c i arg1 harg1 arg2 harg2 arg3 harg3 arg4 harg4 arg5 harg5 x0 x1 x2 x4 hc = k0_pay2 x4 x2 := by
  unfold outLater3
  rw [View.read_writes_junk_eq_canon]
  unfold runLater
  simp (disch := decide) only [View.canon_cons_unit_lit', View.ld_unit_lit', View.readCov_unit_lit', View.readCov_cons_unit_lit', View.readAt_eq_ld, Memref.IsWhole.read_unread]
end

variable (m : (ℓ : Loc nD τ sig) → Buf (Elt Ideal) ℓ) (c : Dev nD)

theorem blk0 (t : Fin cfg0.N) (i : Fin 2048) (j : Fin 1024) :
    (iblk m c 0 t : Vec Ideal S2048x1024 .f32) (ix2 i j) = m (c, Proc.devRef .tc main_arg0) (ix2 i j) := by
  blk_simp [iblk, V_main_arg0]
  refine at_ix2 (a := 2048) (b := 1024) (m (c, Proc.devRef .tc main_arg0)) _ _ _ ?_ ?_ <;>
    ((blk_simp [idx0 t]) <;> (try simp [ix2]) <;> (try omega))

theorem blk1 (t : Fin cfg0.N) (i : Fin 1) (j : Fin 1024) :
    (iblk m c 1 t : Vec Ideal S1x1024 .f32) (ix2 i j) = m (c, Proc.devRef .tc main_arg1) (ix2 i j) := by
  blk_simp [iblk, V_main_arg1]
  refine at_ix2 (a := 1) (b := 1024) (m (c, Proc.devRef .tc main_arg1)) _ _ _ ?_ ?_ <;>
    ((blk_simp [idx1 t]) <;> (try simp [ix2]) <;> (try omega))

/-- The first rows of the transposed weights. -/
theorem V_head : (V m c main_v1 : Vec Ideal S4096x1024 .f32) =
    extractStridedSlice S4096x1024 ![0, 0] (transpose S4104x1024 [1, 0] (m (c, Proc.devRef .tc main_arg2) : Vec Ideal S1024x4104 .f32) transposes_S1024x4104_S4104x1024_1_0) slices_S4104x1024_S4096x1024_0_0 := by
  unfold V hostOps0
  after_results <;> rfl

theorem head_at (W : Vec Ideal S1024x4104 .f32) (x : Fin 4096) (j : Fin 1024) :
    extractStridedSlice S4096x1024 ![0, 0] (transpose S4104x1024 [1, 0] W transposes_S1024x4104_S4104x1024_1_0) slices_S4104x1024_S4096x1024_0_0 (ix2 x j)
      = W (ix2 j ⟨x.val, by omega⟩) := by
  pointwise

theorem blk2 (t : Fin cfg0.N) (j : Fin 512) (i : Fin 1024) (j' : Fin 4096) (hj : j'.val = 512 * t.val + j.val) :
    (iblk m c 2 t : Vec Ideal S512x1024 .f32) (ix2 j i) = m (c, Proc.devRef .tc main_arg2) (ix2 i (Fin.castLE (by decide : 4096 ≤ 4104) j')) := by
  refine Eq.trans ?_ (head_at (m (c, Proc.devRef .tc main_arg2)) j' i)
  blk_simp [iblk, V_head]
  refine at_ix2 (a := 4096) (b := 1024) _ _ _ _ ?_ ?_ <;>
    ((blk_simp [idx2 t]) <;> (try simp [ix2]) <;> (try omega))

/-- A block's rows normalised are the argument's. -/
theorem rows_at (t : Fin cfg0.N) (i : Fin 2048) (j : Fin 1024) :
    k0_pay1 (iblk m c 0 t : Vec Ideal S2048x1024 .f32) (iblk m c 1 t : Vec Ideal S1x1024 .f32) (ix2 i j)
      = arrN (m (c, Proc.devRef .tc main_arg0)) (m (c, Proc.devRef .tc main_arg1)) (ix2 i j) := by
  rw [pay1_at]
  refine Eq.trans ?_ (arrN_at _ _ _ i j rfl rfl).symm
  unfold nrm
  simp only [blk0, blk1]

theorem normed_at (i : Fin 2048) (j : Fin 1024) : normed m c (ix2 i j) = arrN (m (c, Proc.devRef .tc main_arg0)) (m (c, Proc.devRef .tc main_arg1)) (ix2 i j) := by
  unfold normed
  rw [first4]
  exact rows_at m c p0 i j

theorem product_at (t : Fin cfg0.N) (i : Fin 2048) (j : Fin 512) (j' : Fin 4096) (hj : j'.val = 512 * t.val + j.val) :
    product m c t (ix2 i j) = mul (arrN (m (c, Proc.devRef .tc main_arg0)) (m (c, Proc.devRef .tc main_arg1))) (m (c, Proc.devRef .tc main_arg2) : Vec Ideal S1024x4104 .f32) i (Fin.castLE (by decide : 4096 ≤ 4104) j') := by
  unfold product
  by_cases h : t.val = 0
  · rw [dif_pos h, first3, pay2_at]
    exact Finset.sum_congr rfl fun x _ => congrArg₂ (· * ·) (rows_at m c t i x) (blk2 m c t j x j' hj)
  · rw [dif_neg h, later3, pay2_at]
    exact Finset.sum_congr rfl fun x _ => congrArg₂ (· * ·) (normed_at m c i x) (blk2 m c t j x j' hj)

/-- The first result is the product. -/
theorem final3 : (dats m 0 c).arrAt 3 cfg0.N = arrHead (a := 2048) (b := 4096) (B' := 4104) (k := 1024) (by decide) (arrN (m (c, Proc.devRef .tc main_arg0)) (m (c, Proc.devRef .tc main_arg1))) (m (c, Proc.devRef .tc main_arg2)) := by
  refine (dats m 0 c).arrAt_eq_of_covers 3 _ (by decide +kernel) fun t _ y => ?_
  have hN : t.val < 8 := lt_of_lt_of_eq t.isLt (show cfg0.N = 8 from N_0)
  blk_simp
  rw [after3]
  idx_vars y
  refine (product_at m c t y0 y1 (⟨512 * t.val + y1.val, by omega⟩ : Fin 4096) rfl).trans
    (arrHead_at _ _ _ _ _ _ ?_ ?_).symm <;> ((blk_simp [idx3 t]) <;> (try simp [ix2]) <;> (try omega))

/-- The second result is the normalised rows. -/
theorem final4 : (dats m 0 c).arrAt 4 cfg0.N = arrN (m (c, Proc.devRef .tc main_arg0)) (m (c, Proc.devRef .tc main_arg1)) := by
  refine (dats m 0 c).arrAt_eq_of_covers 4 _ (by decide +kernel) fun t _ y => ?_
  blk_simp
  rw [after4]
  idx_vars y
  refine (normed_at m c y0 y1).trans ((arrN_at _ _ _ _ _ rfl rfl).trans (arrN_at _ _ _ _ _ ?_ ?_).symm) <;>
    ((blk_simp [idx4 t]) <;> (try simp [ix2]) <;> (try omega))

/-- What the kernel leaves. -/
theorem run_value (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v2_0) = arrHead (a := 2048) (b := 4096) (B' := 4104) (k := 1024) (by decide) (arrN (m ((c : Thread nD τ).loc main_arg0)) (m ((c : Thread nD τ).loc main_arg1))) (m ((c : Thread nD τ).loc main_arg2))
      ∧ r.2.mem ((c : Thread nD τ).loc main_v2_1) = arrN (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨((h.1 c).1 3).trans (final3 m c), ((h.1 c).1 4).trans (final4 m c), h.2 c⟩)
    (θ_run_and (run_main m ρ) (unchanged m ρ))

end Cert.Kernel16Ideal.Gen

namespace Cert.Reference16Ideal.Value
open Idealize.ShloMosaic Idealize.ShloMosaic.TcCoe Idealize.ShloMosaic.Tactic Idealize.SL.Sem Cert.Reference16Ideal Cert.Reference16Ideal.Gen Cert.Prod

/-- The reference's normalised rows, as one array. -/
theorem rows (A : FVec Ideal S2048x1024 .f32) (G : FVec Ideal S1x1024 .f32) :
    (mulf (mulf A (broadcastInDim S2048x1024 ![0, 1] bcast_S2048x1_S2048x1024_0_1 (Host.rsqrt (addf (Host.divf (broadcastInDim S2048x1 ![0] bcast_S2048_S2048x1_0 (Host.reduceAdd (mulf A A) (constant S_ .f32 0x00000000#32) reducesTo_S2048x1024_S2048_d1 h_S_)) (broadcastInDim S2048x1 ![] bcast_S_S2048x1 (constant S_ .f32 0x44800000#32))) (broadcastInDim S2048x1 ![] bcast_S_S2048x1 (constant S_ .f32 0x358637BD#32)))))) (broadcastInDim S2048x1024 ![0, 1] bcast_S1x1024_S2048x1024_0_1 G) : FVec Ideal S2048x1024 .f32)
      = arrN A G := by
  funext y
  idx_vars y
  refine Eq.trans ?_ (arrN_at A G _ y0 y1 rfl rfl).symm
  unfold nrm
  pointwise

/-- The reference's product, as one array. -/
theorem res (N : FVec Ideal S2048x1024 .f32) (W : FVec Ideal S1024x4104 .f32) :
    (extractStridedSlice S2048x4096 ![0, 0] (Host.dotGeneral (F := Ideal) dot_S2048x1024_S1024x4104_S2048x4104_1_0_0_1_n_n none N W : FVec Ideal S2048x4104 .f32) slices_S2048x4104_S2048x4096_0_0 : FVec Ideal S2048x4096 .f32) = arrHead (a := 2048) (b := 4096) (B' := 4104) (k := 1024) (by decide) N W := by
  funext y
  idx_vars y
  refine Eq.trans ?_ (arrHead_at _ N W _ y0 y1 rfl rfl).symm
  unfold mul
  pointwise
  rfl

/-- What the reference leaves. -/
theorem run_value (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v13) = arrHead (a := 2048) (b := 4096) (B' := 4104) (k := 1024) (by decide) (arrN (m ((c : Thread nD τ).loc main_arg0)) (m ((c : Thread nD τ).loc main_arg1))) (m ((c : Thread nD τ).loc main_arg2))
      ∧ r.2.mem ((c : Thread nD τ).loc main_v14) = arrN (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans ((res _ _).trans (congrArg (fun N => arrHead (a := 2048) (b := 4096) (B' := 4104) (k := 1024) (by decide) N _) (rows _ _))), (h c).2.1.trans (rows _ _), (h c).2.2⟩) (run m ρ)

end Cert.Reference16Ideal.Value
end
-- ==== Proof.Adam.lean ====
module

public import proofs.«01_k».proof.Proof.Product
@[expose] public section
set_option maxRecDepth 16384

/-! One step of the optimiser, entry by entry. -/

noncomputable section
namespace Cert.Opt
open Idealize.ShloMosaic

/-- The first moment after the step. -/
def mom1 (g m : EReal) : EReal := Ideal.ofBits .f32 0x3F666666#32 * m + Ideal.ofBits .f32 0x3DCCCCCD#32 * g

/-- The second moment after the step. -/
def mom2 (g v : EReal) : EReal := Ideal.ofBits .f32 0x3F7FBE77#32 * v + Ideal.ofBits .f32 0x3A83126F#32 * (g * g)

/-- The change of the weight. -/
def step (w g m v : EReal) : EReal :=
  Ideal.ofBits .f32 0xBA83126F#32 * (Ideal.div (Ideal.div (mom1 g m) (Ideal.ofBits .f32 0x3F26BD02#32))
    (Ideal.sqrt (Ideal.div (mom2 g v) (Ideal.ofBits .f32 0x3C231ACC#32)) + Ideal.ofBits .f32 0x322BCC77#32) + Ideal.ofBits .f32 0x3C23D70A#32 * w)

/-- The first moments as one array. -/
def arr1 {S : Shape} (G M : S.Idx → EReal) : S.Idx → EReal := fun y => mom1 (G y) (M y)

/-- The second moments as one array. -/
def arr2 {S : Shape} (G V : S.Idx → EReal) : S.Idx → EReal := fun y => mom2 (G y) (V y)

/-- The changes of the weights as one array. -/
def arrS {S : Shape} (W G M V : S.Idx → EReal) : S.Idx → EReal := fun y => step (W y) (G y) (M y) (V y)

end Cert.Opt
end
-- ==== Proof.AdamRows.lean ====
module

public import Idealize.ShloMosaic.Lib.KernelVsHost
public import proofs.«01_k».proof.Proof.Adam
public import proofs.«01_k».proof.Proof.Gen.Kernel23Ideal.Value
public import proofs.«01_k».proof.Proof.Gen.Reference23Ideal.Run
@[expose] public section
set_option maxRecDepth 16384

/-! The optimiser's step for the even layer's input projection. -/

noncomputable section
namespace Cert.Kernel23Ideal.Gen
open Idealize.ShloMosaic Idealize.ShloMosaic.TcCoe Idealize.ShloMosaic.Tactic Idealize.SL.Sem Cert.Kernel23Ideal Cert.Prod Cert.Opt

theorem idx0 : ∀ t : Fin cfg0.N, win0_0.index t = ![t.val, 0, 0] := (by decide +kernel : ∀ t : Fin grid0.N, _)
theorem idx1 : ∀ t : Fin cfg0.N, win0_1.index t = ![t.val, 0, 0] := (by decide +kernel : ∀ t : Fin grid0.N, _)
theorem idx2 : ∀ t : Fin cfg0.N, win0_2.index t = ![t.val, 0, 0] := (by decide +kernel : ∀ t : Fin grid0.N, _)
theorem idx3 : ∀ t : Fin cfg0.N, win0_3.index t = ![t.val, 0, 0] := (by decide +kernel : ∀ t : Fin grid0.N, _)
theorem idx4 : ∀ t : Fin cfg0.N, win0_4.index t = ![t.val, 0, 0] := (by decide +kernel : ∀ t : Fin grid0.N, _)
theorem idx5 : ∀ t : Fin cfg0.N, win0_5.index t = ![t.val, 0, 0] := (by decide +kernel : ∀ t : Fin grid0.N, _)
theorem idx6 : ∀ t : Fin cfg0.N, win0_6.index t = ![t.val, 0, 0] := (by decide +kernel : ∀ t : Fin grid0.N, _)
theorem idx7 : ∀ t : Fin cfg0.N, win0_7.index t = ![t.val, 0, 0] := (by decide +kernel : ∀ t : Fin grid0.N, _)

section
variable (x0 x1 x2 x3 : Vec Ideal S171x1x1024 .f32) (y : S171x1x1024.Idx)

theorem out4_at : out0_4 x0 x1 x2 x3 y = x1 y := by
  unfold out0_4
  rw [View.canon_cons_unit_lit _ _ _ (by decide), View.ld_unit_lit _ _ (by decide)]

theorem out5_at : out0_5 x0 x1 x2 x3 y = step (x0 y) (x1 y) (x2 y) (x3 y) := by
  unfold out0_5
  rw [View.canon_cons_unit_lit _ _ _ (by decide), View.ld_unit_lit _ _ (by decide), View.ld_unit_lit _ _ (by decide), View.ld_unit_lit _ _ (by decide), View.ld_unit_lit _ _ (by decide)]
  rfl

theorem out6_at : out0_6 x0 x1 x2 x3 y = mom1 (x1 y) (x2 y) := by
  unfold out0_6
  rw [View.canon_cons_unit_lit _ _ _ (by decide), View.ld_unit_lit _ _ (by decide), View.ld_unit_lit _ _ (by decide)]
  rfl

theorem out7_at : out0_7 x0 x1 x2 x3 y = mom2 (x1 y) (x3 y) := by
  unfold out0_7
  rw [View.canon_cons_unit_lit _ _ _ (by decide), View.ld_unit_lit _ _ (by decide), View.ld_unit_lit _ _ (by decide)]
  rfl
end

variable (m : (ℓ : Loc nD τ sig) → Buf (Elt Ideal) ℓ) (c : Dev nD)

/-- Where a block's entry lies in the array. -/
def place (t : Fin cfg0.N) (y : S171x1x1024.Idx) : S1026x1x1024.Idx := ix3 ⟨171 * t.val + (y 0).val, by
  have hN : t.val < 6 := lt_of_lt_of_eq t.isLt (show cfg0.N = 6 from N_0)
  have h : (y 0).val < 171 := (y 0).isLt
  omega⟩ (y 1) (y 2)

theorem place_eq (t : Fin cfg0.N) (y : S171x1x1024.Idx) (z : S1026x1x1024.Idx) (h0 : (z 0).val = 171 * t.val + (y 0).val) (h1 : (z 1).val = (y 1).val)
    (h2 : (z 2).val = (y 2).val) : z = place t y := by
  funext k
  refine Fin.ext ?_
  match k with
  | 0 => exact h0
  | 1 => exact h1
  | 2 => exact h2

theorem blk0 (t : Fin cfg0.N) (y : S171x1x1024.Idx) :
    (iblk m c 0 t : Vec Ideal S171x1x1024 .f32) y = m (c, Proc.devRef .tc main_arg0) (place t y) := by
  blk_simp [iblk, V_main_arg0]
  refine congrArg (m (c, Proc.devRef .tc main_arg0)) (place_eq t y _ ?_ ?_ ?_) <;> ((blk_simp [idx0 t]) <;> (try simp) <;> (try omega))

theorem blk1 (t : Fin cfg0.N) (y : S171x1x1024.Idx) :
    (iblk m c 1 t : Vec Ideal S171x1x1024 .f32) y = m (c, Proc.devRef .tc main_arg1) (place t y) := by
  blk_simp [iblk, V_main_arg1]
  refine congrArg (m (c, Proc.devRef .tc main_arg1)) (place_eq t y _ ?_ ?_ ?_) <;> ((blk_simp [idx1 t]) <;> (try simp) <;> (try omega))

theorem blk2 (t : Fin cfg0.N) (y : S171x1x1024.Idx) :
    (iblk m c 2 t : Vec Ideal S171x1x1024 .f32) y = m (c, Proc.devRef .tc main_arg2) (place t y) := by
  blk_simp [iblk, V_main_arg2]
  refine congrArg (m (c, Proc.devRef .tc main_arg2)) (place_eq t y _ ?_ ?_ ?_) <;> ((blk_simp [idx2 t]) <;> (try simp) <;> (try omega))

theorem blk3 (t : Fin cfg0.N) (y : S171x1x1024.Idx) :
    (iblk m c 3 t : Vec Ideal S171x1x1024 .f32) y = m (c, Proc.devRef .tc main_arg3) (place t y) := by
  blk_simp [iblk, V_main_arg3]
  refine congrArg (m (c, Proc.devRef .tc main_arg3)) (place_eq t y _ ?_ ?_ ?_) <;> ((blk_simp [idx3 t]) <;> (try simp) <;> (try omega))

/-- The gradient is handed on. -/
theorem final4 : (dats m 0 c).arrAt 4 cfg0.N = m (c, Proc.devRef .tc main_arg1) := by
  refine (dats m 0 c).arrAt_eq_of_covers 4 _ (by decide +kernel) fun t _ y => ?_
  blk_simp
  rw [after0_4]
  refine (out4_at _ _ _ _ y).trans ((blk1 m c t y).trans (congrArg (m (c, Proc.devRef .tc main_arg1)) ?_))
  exact (place_eq t y _ (by blk_simp [idx4 t]; omega) (by blk_simp [idx4 t]) (by blk_simp [idx4 t])).symm

theorem final5 : (dats m 0 c).arrAt 5 cfg0.N = arrS (m (c, Proc.devRef .tc main_arg0)) (m (c, Proc.devRef .tc main_arg1)) (m (c, Proc.devRef .tc main_arg2)) (m (c, Proc.devRef .tc main_arg3)) := by
  refine (dats m 0 c).arrAt_eq_of_covers 5 _ (by decide +kernel) fun t _ y => ?_
  blk_simp
  rw [after0_5]
  refine (out5_at _ _ _ _ y).trans ?_
  rw [blk0, blk1, blk2, blk3]
  refine congrArg (arrS (m (c, Proc.devRef .tc main_arg0)) (m (c, Proc.devRef .tc main_arg1)) (m (c, Proc.devRef .tc main_arg2)) (m (c, Proc.devRef .tc main_arg3))) ?_
  exact (place_eq t y _ (by blk_simp [idx5 t]; omega) (by blk_simp [idx5 t]) (by blk_simp [idx5 t])).symm

theorem final6 : (dats m 0 c).arrAt 6 cfg0.N = arr1 (m (c, Proc.devRef .tc main_arg1)) (m (c, Proc.devRef .tc main_arg2)) := by
  refine (dats m 0 c).arrAt_eq_of_covers 6 _ (by decide +kernel) fun t _ y => ?_
  blk_simp
  rw [after0_6]
  refine (out6_at _ _ _ _ y).trans ?_
  rw [blk1, blk2]
  refine congrArg (arr1 (m (c, Proc.devRef .tc main_arg1)) (m (c, Proc.devRef .tc main_arg2))) ?_
  exact (place_eq t y _ (by blk_simp [idx6 t]; omega) (by blk_simp [idx6 t]) (by blk_simp [idx6 t])).symm

theorem final7 : (dats m 0 c).arrAt 7 cfg0.N = arr2 (m (c, Proc.devRef .tc main_arg1)) (m (c, Proc.devRef .tc main_arg3)) := by
  refine (dats m 0 c).arrAt_eq_of_covers 7 _ (by decide +kernel) fun t _ y => ?_
  blk_simp
  rw [after0_7]
  refine (out7_at _ _ _ _ y).trans ?_
  rw [blk1, blk3]
  refine congrArg (arr2 (m (c, Proc.devRef .tc main_arg1)) (m (c, Proc.devRef .tc main_arg3))) ?_
  exact (place_eq t y _ (by blk_simp [idx7 t]; omega) (by blk_simp [idx7 t]) (by blk_simp [idx7 t])).symm

/-- What the run leaves. -/
theorem run_value (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v0_0) = m ((c : Thread nD τ).loc main_arg1)
      ∧ r.2.mem ((c : Thread nD τ).loc main_v0_1) = arrS (m ((c : Thread nD τ).loc main_arg0)) (m ((c : Thread nD τ).loc main_arg1)) (m ((c : Thread nD τ).loc main_arg2)) (m ((c : Thread nD τ).loc main_arg3))
      ∧ r.2.mem ((c : Thread nD τ).loc main_v0_2) = arr1 (m ((c : Thread nD τ).loc main_arg1)) (m ((c : Thread nD τ).loc main_arg2))
      ∧ r.2.mem ((c : Thread nD τ).loc main_v0_3) = arr2 (m ((c : Thread nD τ).loc main_arg1)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final4 m c), (h c).2.1.trans (final5 m c), (h c).2.2.1.trans (final6 m c), (h c).2.2.2.1.trans (final7 m c), (h c).2.2.2.2⟩)
    (Value.run_blocks m ρ)

end Cert.Kernel23Ideal.Gen

namespace Cert.Reference23Ideal.Value
open Idealize.ShloMosaic Idealize.ShloMosaic.TcCoe Idealize.ShloMosaic.Tactic Idealize.SL.Sem Cert.Reference23Ideal Cert.Reference23Ideal.Gen Cert.Opt

/-- What the run leaves. -/
theorem run_value (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_arg1) = m ((c : Thread nD τ).loc main_arg1)
      ∧ r.2.mem ((c : Thread nD τ).loc main_v23) = arrS (m ((c : Thread nD τ).loc main_arg0)) (m ((c : Thread nD τ).loc main_arg1)) (m ((c : Thread nD τ).loc main_arg2)) (m ((c : Thread nD τ).loc main_arg3))
      ∧ r.2.mem ((c : Thread nD τ).loc main_v4) = arr1 (m ((c : Thread nD τ).loc main_arg1)) (m ((c : Thread nD τ).loc main_arg2))
      ∧ r.2.mem ((c : Thread nD τ).loc main_v10) = arr2 (m ((c : Thread nD τ).loc main_arg1)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1, (h c).2.1.trans rfl, (h c).2.2.1.trans rfl, (h c).2.2.2.1.trans rfl, (h c).2.2.2.2⟩) (run m ρ)

end Cert.Reference23Ideal.Value
end
-- ==== Proof.Halves.lean ====
module

public import proofs.«01_k».proof.Proof.Adam
@[expose] public section
set_option maxRecDepth 16384

/-! A gradient that comes in two halves, a device's own and the other's. -/

noncomputable section
namespace Cert.Opt
open Idealize.ShloMosaic Cert.Prod

/-- The own half where the number is the device's, the other's elsewhere. -/
def pick (n : ℕ) (k : BitVec 32) (x y : EReal) : EReal := Scalar.select (Scalar.cmpi .eq (BitVec.ofNat 32 n) k) x y

theorem pick_of {n : ℕ} {k l : BitVec 32} {x y : EReal} (h : l = k) {z : BitVec 32} (hz : z = BitVec.ofNat 32 n) :
    Scalar.select (IntOp.cmpi .eq l z) x y = pick n k x y := by
  subst h hz
  unfold pick Scalar.cmpi IntOp.cmpi
  rw [show (l == BitVec.ofNat 32 n) = (BitVec.ofNat 32 n == l) from BEq.comm]

/-- The two halves under one another. -/
def cat {a b : ℕ} (k : BitVec 32) (x y : (⟨2, ![a, b]⟩ : Shape).Idx → EReal) (z : (⟨3, ![1, 2 * a, b]⟩ : Shape).Idx) : EReal :=
  have h : (z 1).val < 2 * a := (z 1).isLt
  let r : Fin a := ⟨(z 1).val % a, Nat.mod_lt _ (by omega)⟩
  pick ((z 1).val / a) k (x (ix2 r (z 2))) (y (ix2 r (z 2)))

theorem cat_of {a b : ℕ} (k : BitVec 32) (x y : (⟨2, ![a, b]⟩ : Shape).Idx → EReal) (z : (⟨3, ![1, 2 * a, b]⟩ : Shape).Idx) (n : ℕ) (p : Fin a) (q : Fin b)
    (h1 : (z 1).val = a * n + p.val) (h2 : (z 2).val = q.val) : cat k x y z = pick n k (x (ix2 p q)) (y (ix2 p q)) := by
  have hp := p.isLt
  have hd : (z 1).val / a = n := by rw [h1, Nat.mul_add_div (by omega), Nat.div_eq_of_lt hp, Nat.add_zero]
  have hm : (z 1).val % a = p.val := by rw [h1, Nat.mul_add_mod, Nat.mod_eq_of_lt hp]
  have hq : (z 2 : Fin b) = q := Fin.ext h2
  unfold cat
  dsimp only
  rw [hd, show (⟨(z 1).val % a, Nat.mod_lt _ (by omega)⟩ : Fin a) = p from Fin.ext hm]
  exact congrArg (fun q : Fin b => pick n k (x (ix2 p q)) (y (ix2 p q))) hq

theorem cat_at {a b : ℕ} (k : BitVec 32) (x y : (⟨2, ![a, b]⟩ : Shape).Idx → EReal) (n : ℕ) (hn : n < 2) (p : Fin a) (q : Fin b) (h : a * n + p.val < 2 * a) :
    cat k x y (ix3 0 ⟨a * n + p.val, h⟩ q) = pick n k (x (ix2 p q)) (y (ix2 p q)) := cat_of k x y _ n p q rfl rfl

theorem cat_low {a b : ℕ} (k : BitVec 32) (x y : (⟨2, ![a, b]⟩ : Shape).Idx → EReal) (z : Fin (2 * a)) (q : Fin b) (h : z.val < a) :
    cat k x y (ix3 0 z q) = pick 0 k (x (ix2 ⟨z.val, h⟩ q)) (y (ix2 ⟨z.val, h⟩ q)) :=
  cat_of k x y _ 0 ⟨z.val, h⟩ q (by show z.val = a * 0 + z.val; omega) rfl

theorem cat_high {a b : ℕ} (k : BitVec 32) (x y : (⟨2, ![a, b]⟩ : Shape).Idx → EReal) (z : Fin (2 * a)) (q : Fin b) (h : ¬z.val < a) (h' : z.val - a < a) :
    cat k x y (ix3 0 z q) = pick 1 k (x (ix2 ⟨z.val - a, h'⟩ q)) (y (ix2 ⟨z.val - a, h'⟩ q)) :=
  cat_of k x y _ 1 ⟨z.val - a, h'⟩ q (by show z.val = a * 1 + (z.val - a); omega) rfl

/-- The change of the weight from the moments. -/
def stepOf (w a b : EReal) : EReal :=
  Ideal.ofBits .f32 0xBA83126F#32 * (Ideal.div (Ideal.div a (Ideal.ofBits .f32 0x3F26BD02#32))
    (Ideal.sqrt (Ideal.div b (Ideal.ofBits .f32 0x3C231ACC#32)) + Ideal.ofBits .f32 0x322BCC77#32) + Ideal.ofBits .f32 0x3C23D70A#32 * w)

theorem stepOf_eq (w g m v : EReal) : stepOf w (mom1 g m) (mom2 g v) = step w g m v := rfl

end Cert.Opt
end
-- ==== Proof.Halves1.lean ====
module

public import Idealize.ShloMosaic.Lib.KernelVsHost
public import Idealize.ShloMosaic.Lib.ValueLayout
public import proofs.«01_k».proof.Proof.Halves
public import proofs.«01_k».proof.Proof.Gen.Kernel24Ideal.Frame
public import proofs.«01_k».proof.Proof.Gen.Reference24Ideal.Run
@[expose] public section
set_option maxRecDepth 16384

/-! The optimiser's step for a gate's square weight, its gradient in two halves. -/

noncomputable section
namespace Cert.Kernel24Ideal.Gen
open Idealize.ShloMosaic Idealize.ShloMosaic.TcCoe Idealize.ShloMosaic.Tactic Idealize.SL.Sem Cert.Kernel24Ideal Cert.Prod Cert.Opt
open Idealize.ShloMosaic.ValueIdx (shapeCast_1ab_ab_apply shapeCast_ab_1ab_apply)

theorem N0 : grid0.N = 2 := by decide +kernel
theorem co : ∀ t : Fin grid0.N, (grid0.coords t 0).val = t.val := by decide +kernel

theorem idx0 : ∀ t : Fin grid0.N, cc0_transform_0 (grid0.coords t) = ![0, t.val, 0] := by decide +kernel
theorem idx1 : ∀ t : Fin grid0.N, cc0_transform_1 (grid0.coords t) = ![0, t.val, 0] := by decide +kernel
theorem idx2 : ∀ t : Fin grid0.N, cc0_transform_2 (grid0.coords t) = ![0, t.val, 0] := by decide +kernel
theorem idx5 : ∀ t : Fin grid0.N, cc0_transform_5 (grid0.coords t) = ![0, t.val, 0] := by decide +kernel
theorem idx6 : ∀ t : Fin grid0.N, cc0_transform_6 (grid0.coords t) = ![0, t.val, 0] := by decide +kernel
theorem idx7 : ∀ t : Fin grid0.N, cc0_transform_7 (grid0.coords t) = ![0, t.val, 0] := by decide +kernel
theorem idx8 : ∀ t : Fin grid0.N, cc0_transform_8 (grid0.coords t) = ![0, t.val, 0] := by decide +kernel
theorem idx3 : ∀ t : Fin grid0.N, cc0_transform_3 (grid0.coords t) = ![0, 0] := by decide +kernel
theorem idx4 : ∀ t : Fin grid0.N, cc0_transform_4 (grid0.coords t) = ![0, 0] := by decide +kernel

section
variable (i : grid0.Coords) (k : BitVec 32) (a b : Vec Ideal S512x128 .f32) (x y z : Vec Ideal S1x512x128 .f32) (p : Fin 512) (q : Fin 128)

theorem pay4_at : k0_pay4 i k a b (ix2 p q) = pick (i 0).val k (a (ix2 p q)) (b (ix2 p q)) := by
  unfold k0_pay4 pick
  exact apply_ite (fun f : Vec Ideal S512x128 .f32 => f (ix2 p q)) _ _ _

theorem pay7_at : k0_pay7 i k a b (ix3 0 p q) = pick (i 0).val k (a (ix2 p q)) (b (ix2 p q)) :=
  (shapeCast_ab_1ab_apply _ _ 0 p q).trans (pay4_at i k a b p q)

theorem pay5_at : k0_pay5 i k a b x (ix2 p q) = mom1 (pick (i 0).val k (a (ix2 p q)) (b (ix2 p q))) (x (ix3 0 p q)) :=
  congrArg₂ mom1 (pay4_at i k a b p q) (shapeCast_1ab_ab_apply x _ p q)

theorem pay6_at : k0_pay6 i k a b x (ix2 p q) = mom2 (pick (i 0).val k (a (ix2 p q)) (b (ix2 p q))) (x (ix3 0 p q)) :=
  congrArg₂ mom2 (pay4_at i k a b p q) (shapeCast_1ab_ab_apply x _ p q)

theorem pay1_any (u v : FVec Ideal S512x128 .f32) : k0_pay1 u v (ix3 0 p q) = Ideal.ofBits .f32 0xBA83126F#32 * (u (ix2 p q) + Ideal.ofBits .f32 0x3C23D70A#32 * v (ix2 p q)) := by
  unfold k0_pay1
  exact (shapeCast_ab_1ab_apply (mulf (broadcast S512x128 (Scalar.ofBits (F := Ideal) .f32 0xBA83126F#32)) (addf u (mulf (broadcast S512x128 (Scalar.ofBits (F := Ideal) .f32 0x3C23D70A#32)) v))) _ 0 p q)

theorem pay9_at : k0_pay9 x (ix2 p q) = x (ix3 0 p q) := shapeCast_1ab_ab_apply x _ p q

theorem pay1_at : k0_pay1 (k0_pay8 i k a b y z) (k0_pay9 x) (ix3 0 p q) = step (x (ix3 0 p q)) (pick (i 0).val k (a (ix2 p q)) (b (ix2 p q))) (y (ix3 0 p q)) (z (ix3 0 p q)) := by
  refine (pay1_any p q _ _).trans ?_
  refine Eq.trans ?_ (stepOf_eq _ _ _ _)
  rw [← pay5_at, ← pay6_at, pay9_at]
  rfl
end

variable (m : (ℓ : Loc nD τ sig) → Buf (Elt Ideal) ℓ) (hO : Ok m) (c : Dev nD)

/-- Where a block's entry lies in the array. -/
def place (t : Fin grid0.N) (y : S1x512x128.Idx) : S1x1024x128.Idx := ix3 (y 0) ⟨512 * t.val + (y 1).val, by
  have hN : t.val < 2 := lt_of_lt_of_eq t.isLt N0
  have h : (y 1).val < 512 := (y 1).isLt
  omega⟩ (y 2)

theorem place_eq (t : Fin grid0.N) (y : S1x512x128.Idx) (z : S1x1024x128.Idx) (h0 : (z 0).val = (y 0).val) (h1 : (z 1).val = 512 * t.val + (y 1).val)
    (h2 : (z 2).val = (y 2).val) : z = place t y := by
  funext k
  refine Fin.ext ?_
  match k with
  | ⟨0, _⟩ => exact h0
  | ⟨1, _⟩ => exact h1
  | ⟨2, _⟩ => exact h2

theorem same_eq (y z : S512x128.Idx) (h0 : (z 0).val = (y 0).val) (h1 : (z 1).val = (y 1).val) : z = y := by
  funext k
  refine Fin.ext ?_
  match k with
  | ⟨0, _⟩ => exact h0
  | ⟨1, _⟩ => exact h1

theorem emb0 (t : Fin (cfgM m hO).N) (y : S1x512x128.Idx) : (((cfgM m hO).win 0).blk t).view.emb y = place t y := by
  refine place_eq t y _ ?_ ?_ ?_
  · show cc0_transform_0 (grid0.coords t) 0 * 1 + 1 * (y 0).val = (y 0).val; rw [idx0 t]; simp
  · show cc0_transform_0 (grid0.coords t) 1 * 512 + 1 * (y 1).val = 512 * t.val + (y 1).val; rw [idx0 t]; simp; omega
  · show cc0_transform_0 (grid0.coords t) 2 * 128 + 1 * (y 2).val = (y 2).val; rw [idx0 t]; simp

theorem emb1 (t : Fin (cfgM m hO).N) (y : S1x512x128.Idx) : (((cfgM m hO).win 1).blk t).view.emb y = place t y := by
  refine place_eq t y _ ?_ ?_ ?_
  · show cc0_transform_1 (grid0.coords t) 0 * 1 + 1 * (y 0).val = (y 0).val; rw [idx1 t]; simp
  · show cc0_transform_1 (grid0.coords t) 1 * 512 + 1 * (y 1).val = 512 * t.val + (y 1).val; rw [idx1 t]; simp; omega
  · show cc0_transform_1 (grid0.coords t) 2 * 128 + 1 * (y 2).val = (y 2).val; rw [idx1 t]; simp

theorem emb2 (t : Fin (cfgM m hO).N) (y : S1x512x128.Idx) : (((cfgM m hO).win 2).blk t).view.emb y = place t y := by
  refine place_eq t y _ ?_ ?_ ?_
  · show cc0_transform_2 (grid0.coords t) 0 * 1 + 1 * (y 0).val = (y 0).val; rw [idx2 t]; simp
  · show cc0_transform_2 (grid0.coords t) 1 * 512 + 1 * (y 1).val = 512 * t.val + (y 1).val; rw [idx2 t]; simp; omega
  · show cc0_transform_2 (grid0.coords t) 2 * 128 + 1 * (y 2).val = (y 2).val; rw [idx2 t]; simp

theorem emb5 (t : Fin (cfgM m hO).N) (y : S1x512x128.Idx) : (((cfgM m hO).win 5).blk t).view.emb y = place t y := by
  refine place_eq t y _ ?_ ?_ ?_
  · show cc0_transform_5 (grid0.coords t) 0 * 1 + 1 * (y 0).val = (y 0).val; rw [idx5 t]; simp
  · show cc0_transform_5 (grid0.coords t) 1 * 512 + 1 * (y 1).val = 512 * t.val + (y 1).val; rw [idx5 t]; simp; omega
  · show cc0_transform_5 (grid0.coords t) 2 * 128 + 1 * (y 2).val = (y 2).val; rw [idx5 t]; simp

theorem emb6 (t : Fin (cfgM m hO).N) (y : S1x512x128.Idx) : (((cfgM m hO).win 6).blk t).view.emb y = place t y := by
  refine place_eq t y _ ?_ ?_ ?_
  · show cc0_transform_6 (grid0.coords t) 0 * 1 + 1 * (y 0).val = (y 0).val; rw [idx6 t]; simp
  · show cc0_transform_6 (grid0.coords t) 1 * 512 + 1 * (y 1).val = 512 * t.val + (y 1).val; rw [idx6 t]; simp; omega
  · show cc0_transform_6 (grid0.coords t) 2 * 128 + 1 * (y 2).val = (y 2).val; rw [idx6 t]; simp

theorem emb7 (t : Fin (cfgM m hO).N) (y : S1x512x128.Idx) : (((cfgM m hO).win 7).blk t).view.emb y = place t y := by
  refine place_eq t y _ ?_ ?_ ?_
  · show cc0_transform_7 (grid0.coords t) 0 * 1 + 1 * (y 0).val = (y 0).val; rw [idx7 t]; simp
  · show cc0_transform_7 (grid0.coords t) 1 * 512 + 1 * (y 1).val = 512 * t.val + (y 1).val; rw [idx7 t]; simp; omega
  · show cc0_transform_7 (grid0.coords t) 2 * 128 + 1 * (y 2).val = (y 2).val; rw [idx7 t]; simp

theorem emb8 (t : Fin (cfgM m hO).N) (y : S1x512x128.Idx) : (((cfgM m hO).win 8).blk t).view.emb y = place t y := by
  refine place_eq t y _ ?_ ?_ ?_
  · show cc0_transform_8 (grid0.coords t) 0 * 1 + 1 * (y 0).val = (y 0).val; rw [idx8 t]; simp
  · show cc0_transform_8 (grid0.coords t) 1 * 512 + 1 * (y 1).val = 512 * t.val + (y 1).val; rw [idx8 t]; simp; omega
  · show cc0_transform_8 (grid0.coords t) 2 * 128 + 1 * (y 2).val = (y 2).val; rw [idx8 t]; simp

theorem emb3 (t : Fin (cfgM m hO).N) (y : S512x128.Idx) : (((cfgM m hO).win 3).blk t).view.emb y = y := by
  refine same_eq y _ ?_ ?_
  · show cc0_transform_3 (grid0.coords t) 0 * 512 + 1 * (y 0).val = (y 0).val; rw [idx3 t]; simp
  · show cc0_transform_3 (grid0.coords t) 1 * 128 + 1 * (y 1).val = (y 1).val; rw [idx3 t]; simp

theorem emb4 (t : Fin (cfgM m hO).N) (y : S512x128.Idx) : (((cfgM m hO).win 4).blk t).view.emb y = y := by
  refine same_eq y _ ?_ ?_
  · show cc0_transform_4 (grid0.coords t) 0 * 512 + 1 * (y 0).val = (y 0).val; rw [idx4 t]; simp
  · show cc0_transform_4 (grid0.coords t) 1 * 128 + 1 * (y 1).val = (y 1).val; rw [idx4 t]; simp

theorem blk0 (t : Fin (cfgM m hO).N) (y : S1x512x128.Idx) :
    (iblk m hO c 0 t : Vec Ideal S1x512x128 .f32) y = m (c, Proc.devRef .tc main_arg1) (place t y) :=
  congrArg (m (c, Proc.devRef .tc main_arg1)) (emb0 m hO t y)

theorem blk1 (t : Fin (cfgM m hO).N) (y : S1x512x128.Idx) :
    (iblk m hO c 1 t : Vec Ideal S1x512x128 .f32) y = m (c, Proc.devRef .tc main_arg2) (place t y) :=
  congrArg (m (c, Proc.devRef .tc main_arg2)) (emb1 m hO t y)

theorem blk2 (t : Fin (cfgM m hO).N) (y : S1x512x128.Idx) :
    (iblk m hO c 2 t : Vec Ideal S1x512x128 .f32) y = m (c, Proc.devRef .tc main_arg3) (place t y) :=
  congrArg (m (c, Proc.devRef .tc main_arg3)) (emb2 m hO t y)

theorem blk3 (t : Fin (cfgM m hO).N) (y : S512x128.Idx) :
    (iblk m hO c 3 t : Vec Ideal S512x128 .f32) y = m (c, Proc.devRef .tc main_arg4) y :=
  congrArg (m (c, Proc.devRef .tc main_arg4)) (emb3 m hO t y)

theorem blk4 (t : Fin (cfgM m hO).N) (y : S512x128.Idx) :
    (iblk m hO c 4 t : Vec Ideal S512x128 .f32) y = m (c, Proc.devRef .tc main_arg5) y :=
  congrArg (m (c, Proc.devRef .tc main_arg5)) (emb4 m hO t y)

theorem cover5 (i : S1x1024x128.Idx) : ∃ t : Fin (cfgM m hO).N, ((cfgM m hO).win 5).flush t = true ∧ i ∈ (((cfgM m hO).win 5).blk t).view.set := by
  have h : (i 1).val < 1024 := (i 1).isLt
  let t : Fin grid0.N := ⟨(i 1).val / 512, lt_of_lt_of_eq (by omega) N0.symm⟩
  let y : S1x512x128.Idx := ix3 (i 0) ⟨(i 1).val % 512, Nat.mod_lt _ (by decide)⟩ (i 2)
  have e : i = place t y := place_eq t y i rfl (by show (i 1).val = 512 * ((i 1).val / 512) + (i 1).val % 512; omega) rfl
  refine ⟨t, flush0_5 _ _, ?_⟩
  have hm := (((cfgM m hO).win 5).blk t).view.emb_mem_set y
  rw [emb5 m hO t y, ← e] at hm
  exact hm

theorem cover6 (i : S1x1024x128.Idx) : ∃ t : Fin (cfgM m hO).N, ((cfgM m hO).win 6).flush t = true ∧ i ∈ (((cfgM m hO).win 6).blk t).view.set := by
  have h : (i 1).val < 1024 := (i 1).isLt
  let t : Fin grid0.N := ⟨(i 1).val / 512, lt_of_lt_of_eq (by omega) N0.symm⟩
  let y : S1x512x128.Idx := ix3 (i 0) ⟨(i 1).val % 512, Nat.mod_lt _ (by decide)⟩ (i 2)
  have e : i = place t y := place_eq t y i rfl (by show (i 1).val = 512 * ((i 1).val / 512) + (i 1).val % 512; omega) rfl
  refine ⟨t, flush0_6 _ _, ?_⟩
  have hm := (((cfgM m hO).win 6).blk t).view.emb_mem_set y
  rw [emb6 m hO t y, ← e] at hm
  exact hm

theorem cover7 (i : S1x1024x128.Idx) : ∃ t : Fin (cfgM m hO).N, ((cfgM m hO).win 7).flush t = true ∧ i ∈ (((cfgM m hO).win 7).blk t).view.set := by
  have h : (i 1).val < 1024 := (i 1).isLt
  let t : Fin grid0.N := ⟨(i 1).val / 512, lt_of_lt_of_eq (by omega) N0.symm⟩
  let y : S1x512x128.Idx := ix3 (i 0) ⟨(i 1).val % 512, Nat.mod_lt _ (by decide)⟩ (i 2)
  have e : i = place t y := place_eq t y i rfl (by show (i 1).val = 512 * ((i 1).val / 512) + (i 1).val % 512; omega) rfl
  refine ⟨t, flush0_7 _ _, ?_⟩
  have hm := (((cfgM m hO).win 7).blk t).view.emb_mem_set y
  rw [emb7 m hO t y, ← e] at hm
  exact hm

theorem cover8 (i : S1x1024x128.Idx) : ∃ t : Fin (cfgM m hO).N, ((cfgM m hO).win 8).flush t = true ∧ i ∈ (((cfgM m hO).win 8).blk t).view.set := by
  have h : (i 1).val < 1024 := (i 1).isLt
  let t : Fin grid0.N := ⟨(i 1).val / 512, lt_of_lt_of_eq (by omega) N0.symm⟩
  let y : S1x512x128.Idx := ix3 (i 0) ⟨(i 1).val % 512, Nat.mod_lt _ (by decide)⟩ (i 2)
  have e : i = place t y := place_eq t y i rfl (by show (i 1).val = 512 * ((i 1).val / 512) + (i 1).val % 512; omega) rfl
  refine ⟨t, flush0_8 _ _, ?_⟩
  have hm := (((cfgM m hO).win 8).blk t).view.emb_mem_set y
  rw [emb8 m hO t y, ← e] at hm
  exact hm

theorem same5 {i : grid0.Coords} {k : BitVec 32} {a a' b b' : Vec Ideal S512x128 .f32} (ha : a = a') (hb : b = b') : k0_pay7 i k a b = k0_pay7 i k a' b' := by rw [ha, hb]

theorem same6 {i : grid0.Coords} {k : BitVec 32} {a a' b b' : Vec Ideal S512x128 .f32} {x x' y y' z z' : Vec Ideal S1x512x128 .f32} (ha : a = a') (hb : b = b') (hx : x = x') (hy : y = y') (hz : z = z') :
    k0_pay1 (k0_pay8 i k a b y z) (k0_pay9 x) = k0_pay1 (k0_pay8 i k a' b' y' z') (k0_pay9 x') := by rw [ha, hb, hx, hy, hz]

theorem same7 {i : grid0.Coords} {k : BitVec 32} {a a' b b' : Vec Ideal S512x128 .f32} {x x' : Vec Ideal S1x512x128 .f32} (ha : a = a') (hb : b = b') (hx : x = x') :
    k0_pay2 (k0_pay5 i k a b x) = k0_pay2 (k0_pay5 i k a' b' x') := by rw [ha, hb, hx]

theorem same8 {i : grid0.Coords} {k : BitVec 32} {a a' b b' : Vec Ideal S512x128 .f32} {x x' : Vec Ideal S1x512x128 .f32} (ha : a = a') (hb : b = b') (hx : x = x') :
    k0_pay3 (k0_pay6 i k a b x) = k0_pay3 (k0_pay6 i k a' b' x') := by rw [ha, hb, hx]

/-- The word that says which half is the device's own. -/
def half : BitVec 32 := (m ((c : Thread nD τ).loc main_arg0) : IVec S1 32) (ix1 0)

theorem half_eq : (kernelRun0_A.sl.r c (tbl m 0) : BitVec 32) = half m c := by
  obtain rfl : c = 0 := Subsingleton.elim _ _
  unfold kernelRun0_A.sl.r
  exact congrArg (m ((0 : Dev nD), Proc.devRef .tc main_arg0) : IVec S1 32) (funext fun a => match a with | ⟨0, _⟩ => (Subsingleton.elim (α := Fin 1) _ _))

theorem left5 (t : Fin (cfgM m hO).N) : ((dats m hO 0 c).after 5 t : Vec Ideal S1x512x128 .f32) = k0_pay7 (grid0.coords t) (half m c) (iblk m hO c 3 t) (iblk m hO c 4 t) := by
  rw [after0_5]
  unfold outsAt0
  dsimp only
  unfold out0_A_5
  rw [View.read_writes_junk_eq_canon]
  unfold kernelRun0_A
  dsimp only
  simp (disch := decide) only [View.canon_cons_unit_lit', View.ld_unit_lit', View.readCov_unit_lit', View.readCov_cons_unit_lit', View.readAt_eq_ld, half_eq]
  exact same5 ((hs0_3 m hO t).read_unread _) ((hs0_4 m hO t).read_unread _)

theorem final5 : (dats m hO 0 c).arrAt 5 (cfgM m hO).N = (cat (a := 512) (b := 128) (half m c) (m ((c : Thread nD τ).loc main_arg4)) (m ((c : Thread nD τ).loc main_arg5))) := by
  refine (dats m hO 0 c).arrAt_eq_of_emb 5 _ (fun t _ (y : S1x512x128.Idx) => ?_) (cover5 m hO)
  refine Eq.trans (b := ((dats m hO 0 c).after 5 t : Vec Ideal S1x512x128 .f32) y) rfl ?_
  rw [left5]
  refine Eq.trans ?_ (congrArg ((cat (a := 512) (b := 128) (half m c) (m ((c : Thread nD τ).loc main_arg4)) (m ((c : Thread nD τ).loc main_arg5)))) (emb5 m hO t y)).symm
  have hN : t.val < 2 := lt_of_lt_of_eq t.isLt N0
  have hg := cat_at (a := 512) (b := 128) (half m c) (m ((c : Thread nD τ).loc main_arg4)) (m ((c : Thread nD τ).loc main_arg5)) t.val hN
  have hr : ∀ p : Fin 512, 512 * t.val + p.val < 2 * 512 := fun p => by have := p.isLt; omega
  idx_vars y
  obtain rfl : y0 = 0 := Subsingleton.elim _ _
  refine (pay7_at _ _ _ _ y1 y2).trans ?_
  rw [blk3, blk4, co t]
  exact (hg y1 y2 (hr y1)).symm

theorem left6 (t : Fin (cfgM m hO).N) : ((dats m hO 0 c).after 6 t : Vec Ideal S1x512x128 .f32) = k0_pay1 (k0_pay8 (grid0.coords t) (half m c) (iblk m hO c 3 t) (iblk m hO c 4 t) (iblk m hO c 1 t) (iblk m hO c 2 t)) (k0_pay9 (iblk m hO c 0 t)) := by
  rw [after0_6]
  unfold outsAt0
  dsimp only
  unfold out0_A_6
  rw [View.read_writes_junk_eq_canon]
  unfold kernelRun0_A
  dsimp only
  unfold kernelRun0_A.sl.r_3 kernelRun0_A.sl.r_4
  simp (disch := decide) only [View.canon_cons_unit_lit', View.ld_unit_lit', View.readCov_unit_lit', View.readCov_cons_unit_lit', View.readAt_eq_ld, half_eq]
  exact same6 ((hs0_3 m hO t).read_unread _) ((hs0_4 m hO t).read_unread _) ((hs0_0 m hO t).read_unread _) ((hs0_1 m hO t).read_unread _) ((hs0_2 m hO t).read_unread _)

theorem final6 : (dats m hO 0 c).arrAt 6 (cfgM m hO).N = arrS (S := S1x1024x128) (m ((c : Thread nD τ).loc main_arg1)) (cat (a := 512) (b := 128) (half m c) (m ((c : Thread nD τ).loc main_arg4)) (m ((c : Thread nD τ).loc main_arg5))) (m ((c : Thread nD τ).loc main_arg2)) (m ((c : Thread nD τ).loc main_arg3)) := by
  refine (dats m hO 0 c).arrAt_eq_of_emb 6 _ (fun t _ (y : S1x512x128.Idx) => ?_) (cover6 m hO)
  refine Eq.trans (b := ((dats m hO 0 c).after 6 t : Vec Ideal S1x512x128 .f32) y) rfl ?_
  rw [left6]
  refine Eq.trans ?_ (congrArg (arrS (S := S1x1024x128) (m ((c : Thread nD τ).loc main_arg1)) (cat (a := 512) (b := 128) (half m c) (m ((c : Thread nD τ).loc main_arg4)) (m ((c : Thread nD τ).loc main_arg5))) (m ((c : Thread nD τ).loc main_arg2)) (m ((c : Thread nD τ).loc main_arg3))) (emb6 m hO t y)).symm
  have hN : t.val < 2 := lt_of_lt_of_eq t.isLt N0
  have hg := cat_at (a := 512) (b := 128) (half m c) (m ((c : Thread nD τ).loc main_arg4)) (m ((c : Thread nD τ).loc main_arg5)) t.val hN
  have hr : ∀ p : Fin 512, 512 * t.val + p.val < 2 * 512 := fun p => by have := p.isLt; omega
  idx_vars y
  obtain rfl : y0 = 0 := Subsingleton.elim _ _
  refine (pay1_at _ _ _ _ _ _ _ y1 y2).trans ?_
  rw [blk0, blk1, blk2, blk3, blk4, co t]
  exact congrArg (fun g => step _ g _ _) (hg y1 y2 (hr y1)).symm

theorem left7 (t : Fin (cfgM m hO).N) : ((dats m hO 0 c).after 7 t : Vec Ideal S1x512x128 .f32) = k0_pay2 (k0_pay5 (grid0.coords t) (half m c) (iblk m hO c 3 t) (iblk m hO c 4 t) (iblk m hO c 1 t)) := by
  rw [after0_7]
  unfold outsAt0
  dsimp only
  unfold out0_A_7
  rw [View.read_writes_junk_eq_canon]
  unfold kernelRun0_A
  dsimp only
  unfold kernelRun0_A.sl.r_1
  simp (disch := decide) only [View.canon_cons_unit_lit', View.ld_unit_lit', View.readCov_unit_lit', View.readCov_cons_unit_lit', View.readAt_eq_ld, half_eq]
  exact same7 ((hs0_3 m hO t).read_unread _) ((hs0_4 m hO t).read_unread _) ((hs0_1 m hO t).read_unread _)

theorem final7 : (dats m hO 0 c).arrAt 7 (cfgM m hO).N = arr1 (S := S1x1024x128) (cat (a := 512) (b := 128) (half m c) (m ((c : Thread nD τ).loc main_arg4)) (m ((c : Thread nD τ).loc main_arg5))) (m ((c : Thread nD τ).loc main_arg2)) := by
  refine (dats m hO 0 c).arrAt_eq_of_emb 7 _ (fun t _ (y : S1x512x128.Idx) => ?_) (cover7 m hO)
  refine Eq.trans (b := ((dats m hO 0 c).after 7 t : Vec Ideal S1x512x128 .f32) y) rfl ?_
  rw [left7]
  refine Eq.trans ?_ (congrArg (arr1 (S := S1x1024x128) (cat (a := 512) (b := 128) (half m c) (m ((c : Thread nD τ).loc main_arg4)) (m ((c : Thread nD τ).loc main_arg5))) (m ((c : Thread nD τ).loc main_arg2))) (emb7 m hO t y)).symm
  have hN : t.val < 2 := lt_of_lt_of_eq t.isLt N0
  have hg := cat_at (a := 512) (b := 128) (half m c) (m ((c : Thread nD τ).loc main_arg4)) (m ((c : Thread nD τ).loc main_arg5)) t.val hN
  have hr : ∀ p : Fin 512, 512 * t.val + p.val < 2 * 512 := fun p => by have := p.isLt; omega
  idx_vars y
  obtain rfl : y0 = 0 := Subsingleton.elim _ _
  refine ((shapeCast_ab_1ab_apply _ _ 0 y1 y2).trans (pay5_at _ _ _ _ _ y1 y2)).trans ?_
  rw [blk1, blk3, blk4, co t]
  exact congrArg (fun g => mom1 g _) (hg y1 y2 (hr y1)).symm

theorem left8 (t : Fin (cfgM m hO).N) : ((dats m hO 0 c).after 8 t : Vec Ideal S1x512x128 .f32) = k0_pay3 (k0_pay6 (grid0.coords t) (half m c) (iblk m hO c 3 t) (iblk m hO c 4 t) (iblk m hO c 2 t)) := by
  rw [after0_8]
  unfold outsAt0
  dsimp only
  unfold out0_A_8
  rw [View.read_writes_junk_eq_canon]
  unfold kernelRun0_A
  dsimp only
  unfold kernelRun0_A.sl.r_2
  simp (disch := decide) only [View.canon_cons_unit_lit', View.ld_unit_lit', View.readCov_unit_lit', View.readCov_cons_unit_lit', View.readAt_eq_ld, half_eq]
  exact same8 ((hs0_3 m hO t).read_unread _) ((hs0_4 m hO t).read_unread _) ((hs0_2 m hO t).read_unread _)

theorem final8 : (dats m hO 0 c).arrAt 8 (cfgM m hO).N = arr2 (S := S1x1024x128) (cat (a := 512) (b := 128) (half m c) (m ((c : Thread nD τ).loc main_arg4)) (m ((c : Thread nD τ).loc main_arg5))) (m ((c : Thread nD τ).loc main_arg3)) := by
  refine (dats m hO 0 c).arrAt_eq_of_emb 8 _ (fun t _ (y : S1x512x128.Idx) => ?_) (cover8 m hO)
  refine Eq.trans (b := ((dats m hO 0 c).after 8 t : Vec Ideal S1x512x128 .f32) y) rfl ?_
  rw [left8]
  refine Eq.trans ?_ (congrArg (arr2 (S := S1x1024x128) (cat (a := 512) (b := 128) (half m c) (m ((c : Thread nD τ).loc main_arg4)) (m ((c : Thread nD τ).loc main_arg5))) (m ((c : Thread nD τ).loc main_arg3))) (emb8 m hO t y)).symm
  have hN : t.val < 2 := lt_of_lt_of_eq t.isLt N0
  have hg := cat_at (a := 512) (b := 128) (half m c) (m ((c : Thread nD τ).loc main_arg4)) (m ((c : Thread nD τ).loc main_arg5)) t.val hN
  have hr : ∀ p : Fin 512, 512 * t.val + p.val < 2 * 512 := fun p => by have := p.isLt; omega
  idx_vars y
  obtain rfl : y0 = 0 := Subsingleton.elim _ _
  refine ((shapeCast_ab_1ab_apply _ _ 0 y1 y2).trans (pay6_at _ _ _ _ _ y1 y2)).trans ?_
  rw [blk2, blk3, blk4, co t]
  exact congrArg (fun g => mom2 g _) (hg y1 y2 (hr y1)).symm

/-- What the kernel leaves. -/
theorem run_value (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v0_0) = (cat (a := 512) (b := 128) (half m c) (m ((c : Thread nD τ).loc main_arg4)) (m ((c : Thread nD τ).loc main_arg5)))
      ∧ r.2.mem ((c : Thread nD τ).loc main_v0_1) = arrS (S := S1x1024x128) (m ((c : Thread nD τ).loc main_arg1)) (cat (a := 512) (b := 128) (half m c) (m ((c : Thread nD τ).loc main_arg4)) (m ((c : Thread nD τ).loc main_arg5))) (m ((c : Thread nD τ).loc main_arg2)) (m ((c : Thread nD τ).loc main_arg3))
      ∧ r.2.mem ((c : Thread nD τ).loc main_v0_2) = arr1 (S := S1x1024x128) (cat (a := 512) (b := 128) (half m c) (m ((c : Thread nD τ).loc main_arg4)) (m ((c : Thread nD τ).loc main_arg5))) (m ((c : Thread nD τ).loc main_arg2))
      ∧ r.2.mem ((c : Thread nD τ).loc main_v0_3) = arr2 (S := S1x1024x128) (cat (a := 512) (b := 128) (half m c) (m ((c : Thread nD τ).loc main_arg4)) (m ((c : Thread nD τ).loc main_arg5))) (m ((c : Thread nD τ).loc main_arg3))
      ∧ r.2.mem ((c : Thread nD τ).loc main_arg0) = m ((c : Thread nD τ).loc main_arg0) ∧ r.2.mem ((c : Thread nD τ).loc main_arg1) = m ((c : Thread nD τ).loc main_arg1) ∧ r.2.mem ((c : Thread nD τ).loc main_arg2) = m ((c : Thread nD τ).loc main_arg2) ∧ r.2.mem ((c : Thread nD τ).loc main_arg3) = m ((c : Thread nD τ).loc main_arg3) ∧ r.2.mem ((c : Thread nD τ).loc main_arg4) = m ((c : Thread nD τ).loc main_arg4) ∧ r.2.mem ((c : Thread nD τ).loc main_arg5) = m ((c : Thread nD τ).loc main_arg5) :=
  (θ_run defs _ _).mono (fun _ h c => ⟨((h.1 c).1 5).trans (final5 m trivial c), ((h.1 c).1 6).trans (final6 m trivial c), ((h.1 c).1 7).trans (final7 m trivial c), ((h.1 c).1 8).trans (final8 m trivial c), h.2 c⟩)
    (θ_run_and (run_main m ρ trivial) (unchanged m ρ trivial))

end Cert.Kernel24Ideal.Gen

namespace Cert.Reference24Ideal.Value
open Idealize.ShloMosaic Idealize.ShloMosaic.TcCoe Idealize.ShloMosaic.Tactic Idealize.SL.Sem Cert.Reference24Ideal Cert.Reference24Ideal.Gen Cert.Prod Cert.Opt

/-- The two halves in their order. -/
def both (k : IVec S1 32) (x y : FVec Ideal S512x128 .f32) : FVec Ideal S1x1024x128 .f32 :=
  broadcastInDim S1x1024x128 ![1, 2] bcast_S1024x128_S1x1024x128_1_2 (concatenate S1024x128 0 [⟨S512x128, (select (broadcastInDim S512x128 ![] bcast_S_S512x128 (cmpi .eq (shapeCast _ k shapeCasts_S1_S_) (constantI S_ 32 0#32))) x y)⟩, ⟨S512x128, (select (broadcastInDim S512x128 ![] bcast_S_S512x128 (cmpi .eq (shapeCast _ k shapeCasts_S1_S_) (constantI S_ 32 1#32))) x y)⟩] concatenates_S512x128_S512x128_S1024x128_d0)

theorem word (k : IVec S1 32) (i : S_.Idx) : shapeCast S_ k shapeCasts_S1_S_ i = k (ix1 0) :=
  congrArg k (funext fun a => match a with | ⟨0, _⟩ => (Subsingleton.elim (α := Fin 1) _ _))

theorem stack_at (X Y : FVec Ideal S512x128 .f32) (p : Fin 1024) (q : Fin 128) :
    (concatenate S1024x128 0 [⟨S512x128, X⟩, ⟨S512x128, Y⟩] concatenates_S512x128_S512x128_S1024x128_d0 : FVec Ideal S1024x128 .f32) (ix2 p q)
      = if h : p.val < 512 then X (ix2 ⟨p.val, h⟩ q) else Y (ix2 ⟨p.val - 512, by omega⟩ q) := by
  pointwise

theorem both_eq (k : IVec S1 32) (x y : FVec Ideal S512x128 .f32) : both k x y = cat (a := 512) (b := 128) (k (ix1 0)) x y := by
  funext z
  idx_vars z
  obtain rfl : z0 = 0 := Subsingleton.elim _ _
  have h1 := z1.isLt
  unfold both
  generalize hX : (select (broadcastInDim S512x128 ![] bcast_S_S512x128 (cmpi .eq (shapeCast _ k shapeCasts_S1_S_) (constantI S_ 32 0#32))) x y) = X
  generalize hY : (select (broadcastInDim S512x128 ![] bcast_S_S512x128 (cmpi .eq (shapeCast _ k shapeCasts_S1_S_) (constantI S_ 32 1#32))) x y) = Y
  refine Eq.trans (b := (concatenate S1024x128 0 [⟨S512x128, X⟩, ⟨S512x128, Y⟩] concatenates_S512x128_S512x128_S1024x128_d0 : FVec Ideal S1024x128 .f32) (ix2 z1 z2)) ?_ ?_
  · generalize (concatenate S1024x128 0 [⟨S512x128, X⟩, ⟨S512x128, Y⟩] concatenates_S512x128_S512x128_S1024x128_d0 : FVec Ideal S1024x128 .f32) = Q
    pointwise
  · rw [stack_at]
    by_cases h : z1.val < 512
    · rw [dif_pos h, ← hX]
      refine Eq.trans ?_ (cat_low (a := 512) (b := 128) _ x y z1 z2 h).symm
      exact pick_of (word k _) rfl
    · rw [dif_neg h, ← hY]
      refine Eq.trans ?_ (cat_high (a := 512) (b := 128) _ x y z1 z2 h (by omega)).symm
      exact pick_of (word k _) rfl

/-- What the reference leaves. -/
theorem run_value (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v7) = (cat (a := 512) (b := 128) ((m ((c : Thread nD τ).loc main_arg0) : IVec S1 32) (ix1 0)) (m ((c : Thread nD τ).loc main_arg4)) (m ((c : Thread nD τ).loc main_arg5)))
      ∧ r.2.mem ((c : Thread nD τ).loc main_v31) = arrS (S := S1x1024x128) (m ((c : Thread nD τ).loc main_arg1)) (cat (a := 512) (b := 128) ((m ((c : Thread nD τ).loc main_arg0) : IVec S1 32) (ix1 0)) (m ((c : Thread nD τ).loc main_arg4)) (m ((c : Thread nD τ).loc main_arg5))) (m ((c : Thread nD τ).loc main_arg2)) (m ((c : Thread nD τ).loc main_arg3))
      ∧ r.2.mem ((c : Thread nD τ).loc main_v12) = arr1 (S := S1x1024x128) (cat (a := 512) (b := 128) ((m ((c : Thread nD τ).loc main_arg0) : IVec S1 32) (ix1 0)) (m ((c : Thread nD τ).loc main_arg4)) (m ((c : Thread nD τ).loc main_arg5))) (m ((c : Thread nD τ).loc main_arg2))
      ∧ r.2.mem ((c : Thread nD τ).loc main_v18) = arr2 (S := S1x1024x128) (cat (a := 512) (b := 128) ((m ((c : Thread nD τ).loc main_arg0) : IVec S1 32) (ix1 0)) (m ((c : Thread nD τ).loc main_arg4)) (m ((c : Thread nD τ).loc main_arg5))) (m ((c : Thread nD τ).loc main_arg3))
      ∧ r.2.mem ((c : Thread nD τ).loc main_arg0) = m ((c : Thread nD τ).loc main_arg0) ∧ r.2.mem ((c : Thread nD τ).loc main_arg1) = m ((c : Thread nD τ).loc main_arg1) ∧ r.2.mem ((c : Thread nD τ).loc main_arg2) = m ((c : Thread nD τ).loc main_arg2) ∧ r.2.mem ((c : Thread nD τ).loc main_arg3) = m ((c : Thread nD τ).loc main_arg3) ∧ r.2.mem ((c : Thread nD τ).loc main_arg4) = m ((c : Thread nD τ).loc main_arg4) ∧ r.2.mem ((c : Thread nD τ).loc main_arg5) = m ((c : Thread nD τ).loc main_arg5) := by
  refine (θ_run defs _ _).mono (fun _ h c => ?_) (run m ρ)
  have e := both_eq (m ((c : Thread nD τ).loc main_arg0)) (m ((c : Thread nD τ).loc main_arg4)) (m ((c : Thread nD τ).loc main_arg5))
  refine ⟨(h c).1.trans e, (h c).2.1.trans ?_, (h c).2.2.1.trans ?_, (h c).2.2.2.1.trans ?_, (h c).2.2.2.2⟩
  · exact Eq.trans (b := arrS (S := S1x1024x128) (m ((c : Thread nD τ).loc main_arg1)) (both (m ((c : Thread nD τ).loc main_arg0)) (m ((c : Thread nD τ).loc main_arg4)) (m ((c : Thread nD τ).loc main_arg5))) (m ((c : Thread nD τ).loc main_arg2)) (m ((c : Thread nD τ).loc main_arg3))) rfl (congrArg (fun g => arrS (S := S1x1024x128) (m ((c : Thread nD τ).loc main_arg1)) g (m ((c : Thread nD τ).loc main_arg2)) (m ((c : Thread nD τ).loc main_arg3))) e)
  · exact Eq.trans (b := arr1 (S := S1x1024x128) (both (m ((c : Thread nD τ).loc main_arg0)) (m ((c : Thread nD τ).loc main_arg4)) (m ((c : Thread nD τ).loc main_arg5))) (m ((c : Thread nD τ).loc main_arg2))) rfl (congrArg (fun g => arr1 (S := S1x1024x128) g (m ((c : Thread nD τ).loc main_arg2))) e)
  · exact Eq.trans (b := arr2 (S := S1x1024x128) (both (m ((c : Thread nD τ).loc main_arg0)) (m ((c : Thread nD τ).loc main_arg4)) (m ((c : Thread nD τ).loc main_arg5))) (m ((c : Thread nD τ).loc main_arg3))) rfl (congrArg (fun g => arr2 (S := S1x1024x128) g (m ((c : Thread nD τ).loc main_arg3))) e)

end Cert.Reference24Ideal.Value
end
-- ==== Proof.Halves2.lean ====
module

public import Idealize.ShloMosaic.Lib.KernelVsHost
public import Idealize.ShloMosaic.Lib.ValueLayout
public import proofs.«01_k».proof.Proof.Halves
public import proofs.«01_k».proof.Proof.Gen.Kernel25Ideal.Frame
public import proofs.«01_k».proof.Proof.Gen.Reference25Ideal.Run
@[expose] public section
set_option maxRecDepth 16384

/-! The optimiser's step for the odd layer's input projection, its gradient in two halves. -/

noncomputable section
namespace Cert.Kernel25Ideal.Gen
open Idealize.ShloMosaic Idealize.ShloMosaic.TcCoe Idealize.ShloMosaic.Tactic Idealize.SL.Sem Cert.Kernel25Ideal Cert.Prod Cert.Opt
open Idealize.ShloMosaic.ValueIdx (shapeCast_1ab_ab_apply shapeCast_ab_1ab_apply)

theorem N0 : grid0.N = 2 := by decide +kernel
theorem co : ∀ t : Fin grid0.N, (grid0.coords t 0).val = t.val := by decide +kernel

theorem idx0 : ∀ t : Fin grid0.N, cc0_transform_0 (grid0.coords t) = ![0, t.val, 0] := by decide +kernel
theorem idx1 : ∀ t : Fin grid0.N, cc0_transform_1 (grid0.coords t) = ![0, t.val, 0] := by decide +kernel
theorem idx2 : ∀ t : Fin grid0.N, cc0_transform_2 (grid0.coords t) = ![0, t.val, 0] := by decide +kernel
theorem idx5 : ∀ t : Fin grid0.N, cc0_transform_5 (grid0.coords t) = ![0, t.val, 0] := by decide +kernel
theorem idx6 : ∀ t : Fin grid0.N, cc0_transform_6 (grid0.coords t) = ![0, t.val, 0] := by decide +kernel
theorem idx7 : ∀ t : Fin grid0.N, cc0_transform_7 (grid0.coords t) = ![0, t.val, 0] := by decide +kernel
theorem idx8 : ∀ t : Fin grid0.N, cc0_transform_8 (grid0.coords t) = ![0, t.val, 0] := by decide +kernel
theorem idx3 : ∀ t : Fin grid0.N, cc0_transform_3 (grid0.coords t) = ![0, 0] := by decide +kernel
theorem idx4 : ∀ t : Fin grid0.N, cc0_transform_4 (grid0.coords t) = ![0, 0] := by decide +kernel

section
variable (i : grid0.Coords) (k : BitVec 32) (a b : Vec Ideal S512x512 .f32) (x y z : Vec Ideal S1x512x512 .f32) (p : Fin 512) (q : Fin 512)

theorem pay4_at : k0_pay4 i k a b (ix2 p q) = pick (i 0).val k (a (ix2 p q)) (b (ix2 p q)) := by
  unfold k0_pay4 pick
  exact apply_ite (fun f : Vec Ideal S512x512 .f32 => f (ix2 p q)) _ _ _

theorem pay7_at : k0_pay7 i k a b (ix3 0 p q) = pick (i 0).val k (a (ix2 p q)) (b (ix2 p q)) :=
  (shapeCast_ab_1ab_apply _ _ 0 p q).trans (pay4_at i k a b p q)

theorem pay5_at : k0_pay5 i k a b x (ix2 p q) = mom1 (pick (i 0).val k (a (ix2 p q)) (b (ix2 p q))) (x (ix3 0 p q)) :=
  congrArg₂ mom1 (pay4_at i k a b p q) (shapeCast_1ab_ab_apply x _ p q)

theorem pay6_at : k0_pay6 i k a b x (ix2 p q) = mom2 (pick (i 0).val k (a (ix2 p q)) (b (ix2 p q))) (x (ix3 0 p q)) :=
  congrArg₂ mom2 (pay4_at i k a b p q) (shapeCast_1ab_ab_apply x _ p q)

theorem pay1_any (u v : FVec Ideal S512x512 .f32) : k0_pay1 u v (ix3 0 p q) = Ideal.ofBits .f32 0xBA83126F#32 * (u (ix2 p q) + Ideal.ofBits .f32 0x3C23D70A#32 * v (ix2 p q)) := by
  unfold k0_pay1
  exact (shapeCast_ab_1ab_apply (mulf (broadcast S512x512 (Scalar.ofBits (F := Ideal) .f32 0xBA83126F#32)) (addf u (mulf (broadcast S512x512 (Scalar.ofBits (F := Ideal) .f32 0x3C23D70A#32)) v))) _ 0 p q)

theorem pay9_at : k0_pay9 x (ix2 p q) = x (ix3 0 p q) := shapeCast_1ab_ab_apply x _ p q

theorem pay1_at : k0_pay1 (k0_pay8 i k a b y z) (k0_pay9 x) (ix3 0 p q) = step (x (ix3 0 p q)) (pick (i 0).val k (a (ix2 p q)) (b (ix2 p q))) (y (ix3 0 p q)) (z (ix3 0 p q)) := by
  refine (pay1_any p q _ _).trans ?_
  refine Eq.trans ?_ (stepOf_eq _ _ _ _)
  rw [← pay5_at, ← pay6_at, pay9_at]
  rfl
end

variable (m : (ℓ : Loc nD τ sig) → Buf (Elt Ideal) ℓ) (hO : Ok m) (c : Dev nD)

/-- Where a block's entry lies in the array. -/
def place (t : Fin grid0.N) (y : S1x512x512.Idx) : S1x1024x512.Idx := ix3 (y 0) ⟨512 * t.val + (y 1).val, by
  have hN : t.val < 2 := lt_of_lt_of_eq t.isLt N0
  have h : (y 1).val < 512 := (y 1).isLt
  omega⟩ (y 2)

theorem place_eq (t : Fin grid0.N) (y : S1x512x512.Idx) (z : S1x1024x512.Idx) (h0 : (z 0).val = (y 0).val) (h1 : (z 1).val = 512 * t.val + (y 1).val)
    (h2 : (z 2).val = (y 2).val) : z = place t y := by
  funext k
  refine Fin.ext ?_
  match k with
  | ⟨0, _⟩ => exact h0
  | ⟨1, _⟩ => exact h1
  | ⟨2, _⟩ => exact h2

theorem same_eq (y z : S512x512.Idx) (h0 : (z 0).val = (y 0).val) (h1 : (z 1).val = (y 1).val) : z = y := by
  funext k
  refine Fin.ext ?_
  match k with
  | ⟨0, _⟩ => exact h0
  | ⟨1, _⟩ => exact h1

theorem emb0 (t : Fin (cfgM m hO).N) (y : S1x512x512.Idx) : (((cfgM m hO).win 0).blk t).view.emb y = place t y := by
  refine place_eq t y _ ?_ ?_ ?_
  · show cc0_transform_0 (grid0.coords t) 0 * 1 + 1 * (y 0).val = (y 0).val; rw [idx0 t]; simp
  · show cc0_transform_0 (grid0.coords t) 1 * 512 + 1 * (y 1).val = 512 * t.val + (y 1).val; rw [idx0 t]; simp; omega
  · show cc0_transform_0 (grid0.coords t) 2 * 512 + 1 * (y 2).val = (y 2).val; rw [idx0 t]; simp

theorem emb1 (t : Fin (cfgM m hO).N) (y : S1x512x512.Idx) : (((cfgM m hO).win 1).blk t).view.emb y = place t y := by
  refine place_eq t y _ ?_ ?_ ?_
  · show cc0_transform_1 (grid0.coords t) 0 * 1 + 1 * (y 0).val = (y 0).val; rw [idx1 t]; simp
  · show cc0_transform_1 (grid0.coords t) 1 * 512 + 1 * (y 1).val = 512 * t.val + (y 1).val; rw [idx1 t]; simp; omega
  · show cc0_transform_1 (grid0.coords t) 2 * 512 + 1 * (y 2).val = (y 2).val; rw [idx1 t]; simp

theorem emb2 (t : Fin (cfgM m hO).N) (y : S1x512x512.Idx) : (((cfgM m hO).win 2).blk t).view.emb y = place t y := by
  refine place_eq t y _ ?_ ?_ ?_
  · show cc0_transform_2 (grid0.coords t) 0 * 1 + 1 * (y 0).val = (y 0).val; rw [idx2 t]; simp
  · show cc0_transform_2 (grid0.coords t) 1 * 512 + 1 * (y 1).val = 512 * t.val + (y 1).val; rw [idx2 t]; simp; omega
  · show cc0_transform_2 (grid0.coords t) 2 * 512 + 1 * (y 2).val = (y 2).val; rw [idx2 t]; simp

theorem emb5 (t : Fin (cfgM m hO).N) (y : S1x512x512.Idx) : (((cfgM m hO).win 5).blk t).view.emb y = place t y := by
  refine place_eq t y _ ?_ ?_ ?_
  · show cc0_transform_5 (grid0.coords t) 0 * 1 + 1 * (y 0).val = (y 0).val; rw [idx5 t]; simp
  · show cc0_transform_5 (grid0.coords t) 1 * 512 + 1 * (y 1).val = 512 * t.val + (y 1).val; rw [idx5 t]; simp; omega
  · show cc0_transform_5 (grid0.coords t) 2 * 512 + 1 * (y 2).val = (y 2).val; rw [idx5 t]; simp

theorem emb6 (t : Fin (cfgM m hO).N) (y : S1x512x512.Idx) : (((cfgM m hO).win 6).blk t).view.emb y = place t y := by
  refine place_eq t y _ ?_ ?_ ?_
  · show cc0_transform_6 (grid0.coords t) 0 * 1 + 1 * (y 0).val = (y 0).val; rw [idx6 t]; simp
  · show cc0_transform_6 (grid0.coords t) 1 * 512 + 1 * (y 1).val = 512 * t.val + (y 1).val; rw [idx6 t]; simp; omega
  · show cc0_transform_6 (grid0.coords t) 2 * 512 + 1 * (y 2).val = (y 2).val; rw [idx6 t]; simp

theorem emb7 (t : Fin (cfgM m hO).N) (y : S1x512x512.Idx) : (((cfgM m hO).win 7).blk t).view.emb y = place t y := by
  refine place_eq t y _ ?_ ?_ ?_
  · show cc0_transform_7 (grid0.coords t) 0 * 1 + 1 * (y 0).val = (y 0).val; rw [idx7 t]; simp
  · show cc0_transform_7 (grid0.coords t) 1 * 512 + 1 * (y 1).val = 512 * t.val + (y 1).val; rw [idx7 t]; simp; omega
  · show cc0_transform_7 (grid0.coords t) 2 * 512 + 1 * (y 2).val = (y 2).val; rw [idx7 t]; simp

theorem emb8 (t : Fin (cfgM m hO).N) (y : S1x512x512.Idx) : (((cfgM m hO).win 8).blk t).view.emb y = place t y := by
  refine place_eq t y _ ?_ ?_ ?_
  · show cc0_transform_8 (grid0.coords t) 0 * 1 + 1 * (y 0).val = (y 0).val; rw [idx8 t]; simp
  · show cc0_transform_8 (grid0.coords t) 1 * 512 + 1 * (y 1).val = 512 * t.val + (y 1).val; rw [idx8 t]; simp; omega
  · show cc0_transform_8 (grid0.coords t) 2 * 512 + 1 * (y 2).val = (y 2).val; rw [idx8 t]; simp

theorem emb3 (t : Fin (cfgM m hO).N) (y : S512x512.Idx) : (((cfgM m hO).win 3).blk t).view.emb y = y := by
  refine same_eq y _ ?_ ?_
  · show cc0_transform_3 (grid0.coords t) 0 * 512 + 1 * (y 0).val = (y 0).val; rw [idx3 t]; simp
  · show cc0_transform_3 (grid0.coords t) 1 * 512 + 1 * (y 1).val = (y 1).val; rw [idx3 t]; simp

theorem emb4 (t : Fin (cfgM m hO).N) (y : S512x512.Idx) : (((cfgM m hO).win 4).blk t).view.emb y = y := by
  refine same_eq y _ ?_ ?_
  · show cc0_transform_4 (grid0.coords t) 0 * 512 + 1 * (y 0).val = (y 0).val; rw [idx4 t]; simp
  · show cc0_transform_4 (grid0.coords t) 1 * 512 + 1 * (y 1).val = (y 1).val; rw [idx4 t]; simp

theorem blk0 (t : Fin (cfgM m hO).N) (y : S1x512x512.Idx) :
    (iblk m hO c 0 t : Vec Ideal S1x512x512 .f32) y = m (c, Proc.devRef .tc main_arg1) (place t y) :=
  congrArg (m (c, Proc.devRef .tc main_arg1)) (emb0 m hO t y)

theorem blk1 (t : Fin (cfgM m hO).N) (y : S1x512x512.Idx) :
    (iblk m hO c 1 t : Vec Ideal S1x512x512 .f32) y = m (c, Proc.devRef .tc main_arg2) (place t y) :=
  congrArg (m (c, Proc.devRef .tc main_arg2)) (emb1 m hO t y)

theorem blk2 (t : Fin (cfgM m hO).N) (y : S1x512x512.Idx) :
    (iblk m hO c 2 t : Vec Ideal S1x512x512 .f32) y = m (c, Proc.devRef .tc main_arg3) (place t y) :=
  congrArg (m (c, Proc.devRef .tc main_arg3)) (emb2 m hO t y)

theorem blk3 (t : Fin (cfgM m hO).N) (y : S512x512.Idx) :
    (iblk m hO c 3 t : Vec Ideal S512x512 .f32) y = m (c, Proc.devRef .tc main_arg4) y :=
  congrArg (m (c, Proc.devRef .tc main_arg4)) (emb3 m hO t y)

theorem blk4 (t : Fin (cfgM m hO).N) (y : S512x512.Idx) :
    (iblk m hO c 4 t : Vec Ideal S512x512 .f32) y = m (c, Proc.devRef .tc main_arg5) y :=
  congrArg (m (c, Proc.devRef .tc main_arg5)) (emb4 m hO t y)

theorem cover5 (i : S1x1024x512.Idx) : ∃ t : Fin (cfgM m hO).N, ((cfgM m hO).win 5).flush t = true ∧ i ∈ (((cfgM m hO).win 5).blk t).view.set := by
  have h : (i 1).val < 1024 := (i 1).isLt
  let t : Fin grid0.N := ⟨(i 1).val / 512, lt_of_lt_of_eq (by omega) N0.symm⟩
  let y : S1x512x512.Idx := ix3 (i 0) ⟨(i 1).val % 512, Nat.mod_lt _ (by decide)⟩ (i 2)
  have e : i = place t y := place_eq t y i rfl (by show (i 1).val = 512 * ((i 1).val / 512) + (i 1).val % 512; omega) rfl
  refine ⟨t, flush0_5 _ _, ?_⟩
  have hm := (((cfgM m hO).win 5).blk t).view.emb_mem_set y
  rw [emb5 m hO t y, ← e] at hm
  exact hm

theorem cover6 (i : S1x1024x512.Idx) : ∃ t : Fin (cfgM m hO).N, ((cfgM m hO).win 6).flush t = true ∧ i ∈ (((cfgM m hO).win 6).blk t).view.set := by
  have h : (i 1).val < 1024 := (i 1).isLt
  let t : Fin grid0.N := ⟨(i 1).val / 512, lt_of_lt_of_eq (by omega) N0.symm⟩
  let y : S1x512x512.Idx := ix3 (i 0) ⟨(i 1).val % 512, Nat.mod_lt _ (by decide)⟩ (i 2)
  have e : i = place t y := place_eq t y i rfl (by show (i 1).val = 512 * ((i 1).val / 512) + (i 1).val % 512; omega) rfl
  refine ⟨t, flush0_6 _ _, ?_⟩
  have hm := (((cfgM m hO).win 6).blk t).view.emb_mem_set y
  rw [emb6 m hO t y, ← e] at hm
  exact hm

theorem cover7 (i : S1x1024x512.Idx) : ∃ t : Fin (cfgM m hO).N, ((cfgM m hO).win 7).flush t = true ∧ i ∈ (((cfgM m hO).win 7).blk t).view.set := by
  have h : (i 1).val < 1024 := (i 1).isLt
  let t : Fin grid0.N := ⟨(i 1).val / 512, lt_of_lt_of_eq (by omega) N0.symm⟩
  let y : S1x512x512.Idx := ix3 (i 0) ⟨(i 1).val % 512, Nat.mod_lt _ (by decide)⟩ (i 2)
  have e : i = place t y := place_eq t y i rfl (by show (i 1).val = 512 * ((i 1).val / 512) + (i 1).val % 512; omega) rfl
  refine ⟨t, flush0_7 _ _, ?_⟩
  have hm := (((cfgM m hO).win 7).blk t).view.emb_mem_set y
  rw [emb7 m hO t y, ← e] at hm
  exact hm

theorem cover8 (i : S1x1024x512.Idx) : ∃ t : Fin (cfgM m hO).N, ((cfgM m hO).win 8).flush t = true ∧ i ∈ (((cfgM m hO).win 8).blk t).view.set := by
  have h : (i 1).val < 1024 := (i 1).isLt
  let t : Fin grid0.N := ⟨(i 1).val / 512, lt_of_lt_of_eq (by omega) N0.symm⟩
  let y : S1x512x512.Idx := ix3 (i 0) ⟨(i 1).val % 512, Nat.mod_lt _ (by decide)⟩ (i 2)
  have e : i = place t y := place_eq t y i rfl (by show (i 1).val = 512 * ((i 1).val / 512) + (i 1).val % 512; omega) rfl
  refine ⟨t, flush0_8 _ _, ?_⟩
  have hm := (((cfgM m hO).win 8).blk t).view.emb_mem_set y
  rw [emb8 m hO t y, ← e] at hm
  exact hm

theorem same5 {i : grid0.Coords} {k : BitVec 32} {a a' b b' : Vec Ideal S512x512 .f32} (ha : a = a') (hb : b = b') : k0_pay7 i k a b = k0_pay7 i k a' b' := by rw [ha, hb]

theorem same6 {i : grid0.Coords} {k : BitVec 32} {a a' b b' : Vec Ideal S512x512 .f32} {x x' y y' z z' : Vec Ideal S1x512x512 .f32} (ha : a = a') (hb : b = b') (hx : x = x') (hy : y = y') (hz : z = z') :
    k0_pay1 (k0_pay8 i k a b y z) (k0_pay9 x) = k0_pay1 (k0_pay8 i k a' b' y' z') (k0_pay9 x') := by rw [ha, hb, hx, hy, hz]

theorem same7 {i : grid0.Coords} {k : BitVec 32} {a a' b b' : Vec Ideal S512x512 .f32} {x x' : Vec Ideal S1x512x512 .f32} (ha : a = a') (hb : b = b') (hx : x = x') :
    k0_pay2 (k0_pay5 i k a b x) = k0_pay2 (k0_pay5 i k a' b' x') := by rw [ha, hb, hx]

theorem same8 {i : grid0.Coords} {k : BitVec 32} {a a' b b' : Vec Ideal S512x512 .f32} {x x' : Vec Ideal S1x512x512 .f32} (ha : a = a') (hb : b = b') (hx : x = x') :
    k0_pay3 (k0_pay6 i k a b x) = k0_pay3 (k0_pay6 i k a' b' x') := by rw [ha, hb, hx]

/-- The word that says which half is the device's own. -/
def half : BitVec 32 := (m ((c : Thread nD τ).loc main_arg0) : IVec S1 32) (ix1 0)

theorem half_eq : (kernelRun0_A.sl.r c (tbl m 0) : BitVec 32) = half m c := by
  obtain rfl : c = 0 := Subsingleton.elim _ _
  unfold kernelRun0_A.sl.r
  exact congrArg (m ((0 : Dev nD), Proc.devRef .tc main_arg0) : IVec S1 32) (funext fun a => match a with | ⟨0, _⟩ => (Subsingleton.elim (α := Fin 1) _ _))

theorem left5 (t : Fin (cfgM m hO).N) : ((dats m hO 0 c).after 5 t : Vec Ideal S1x512x512 .f32) = k0_pay7 (grid0.coords t) (half m c) (iblk m hO c 3 t) (iblk m hO c 4 t) := by
  rw [after0_5]
  unfold outsAt0
  dsimp only
  unfold out0_A_5
  rw [View.read_writes_junk_eq_canon]
  unfold kernelRun0_A
  dsimp only
  simp (disch := decide) only [View.canon_cons_unit_lit', View.ld_unit_lit', View.readCov_unit_lit', View.readCov_cons_unit_lit', View.readAt_eq_ld, half_eq]
  exact same5 ((hs0_3 m hO t).read_unread _) ((hs0_4 m hO t).read_unread _)

theorem final5 : (dats m hO 0 c).arrAt 5 (cfgM m hO).N = (cat (a := 512) (b := 512) (half m c) (m ((c : Thread nD τ).loc main_arg4)) (m ((c : Thread nD τ).loc main_arg5))) := by
  refine (dats m hO 0 c).arrAt_eq_of_emb 5 _ (fun t _ (y : S1x512x512.Idx) => ?_) (cover5 m hO)
  refine Eq.trans (b := ((dats m hO 0 c).after 5 t : Vec Ideal S1x512x512 .f32) y) rfl ?_
  rw [left5]
  refine Eq.trans ?_ (congrArg ((cat (a := 512) (b := 512) (half m c) (m ((c : Thread nD τ).loc main_arg4)) (m ((c : Thread nD τ).loc main_arg5)))) (emb5 m hO t y)).symm
  have hN : t.val < 2 := lt_of_lt_of_eq t.isLt N0
  have hg := cat_at (a := 512) (b := 512) (half m c) (m ((c : Thread nD τ).loc main_arg4)) (m ((c : Thread nD τ).loc main_arg5)) t.val hN
  have hr : ∀ p : Fin 512, 512 * t.val + p.val < 2 * 512 := fun p => by have := p.isLt; omega
  idx_vars y
  obtain rfl : y0 = 0 := Subsingleton.elim _ _
  refine (pay7_at _ _ _ _ y1 y2).trans ?_
  rw [blk3, blk4, co t]
  exact (hg y1 y2 (hr y1)).symm

theorem left6 (t : Fin (cfgM m hO).N) : ((dats m hO 0 c).after 6 t : Vec Ideal S1x512x512 .f32) = k0_pay1 (k0_pay8 (grid0.coords t) (half m c) (iblk m hO c 3 t) (iblk m hO c 4 t) (iblk m hO c 1 t) (iblk m hO c 2 t)) (k0_pay9 (iblk m hO c 0 t)) := by
  rw [after0_6]
  unfold outsAt0
  dsimp only
  unfold out0_A_6
  rw [View.read_writes_junk_eq_canon]
  unfold kernelRun0_A
  dsimp only
  unfold kernelRun0_A.sl.r_3 kernelRun0_A.sl.r_4
  simp (disch := decide) only [View.canon_cons_unit_lit', View.ld_unit_lit', View.readCov_unit_lit', View.readCov_cons_unit_lit', View.readAt_eq_ld, half_eq]
  exact same6 ((hs0_3 m hO t).read_unread _) ((hs0_4 m hO t).read_unread _) ((hs0_0 m hO t).read_unread _) ((hs0_1 m hO t).read_unread _) ((hs0_2 m hO t).read_unread _)

theorem final6 : (dats m hO 0 c).arrAt 6 (cfgM m hO).N = arrS (S := S1x1024x512) (m ((c : Thread nD τ).loc main_arg1)) (cat (a := 512) (b := 512) (half m c) (m ((c : Thread nD τ).loc main_arg4)) (m ((c : Thread nD τ).loc main_arg5))) (m ((c : Thread nD τ).loc main_arg2)) (m ((c : Thread nD τ).loc main_arg3)) := by
  refine (dats m hO 0 c).arrAt_eq_of_emb 6 _ (fun t _ (y : S1x512x512.Idx) => ?_) (cover6 m hO)
  refine Eq.trans (b := ((dats m hO 0 c).after 6 t : Vec Ideal S1x512x512 .f32) y) rfl ?_
  rw [left6]
  refine Eq.trans ?_ (congrArg (arrS (S := S1x1024x512) (m ((c : Thread nD τ).loc main_arg1)) (cat (a := 512) (b := 512) (half m c) (m ((c : Thread nD τ).loc main_arg4)) (m ((c : Thread nD τ).loc main_arg5))) (m ((c : Thread nD τ).loc main_arg2)) (m ((c : Thread nD τ).loc main_arg3))) (emb6 m hO t y)).symm
  have hN : t.val < 2 := lt_of_lt_of_eq t.isLt N0
  have hg := cat_at (a := 512) (b := 512) (half m c) (m ((c : Thread nD τ).loc main_arg4)) (m ((c : Thread nD τ).loc main_arg5)) t.val hN
  have hr : ∀ p : Fin 512, 512 * t.val + p.val < 2 * 512 := fun p => by have := p.isLt; omega
  idx_vars y
  obtain rfl : y0 = 0 := Subsingleton.elim _ _
  refine (pay1_at _ _ _ _ _ _ _ y1 y2).trans ?_
  rw [blk0, blk1, blk2, blk3, blk4, co t]
  exact congrArg (fun g => step _ g _ _) (hg y1 y2 (hr y1)).symm

theorem left7 (t : Fin (cfgM m hO).N) : ((dats m hO 0 c).after 7 t : Vec Ideal S1x512x512 .f32) = k0_pay2 (k0_pay5 (grid0.coords t) (half m c) (iblk m hO c 3 t) (iblk m hO c 4 t) (iblk m hO c 1 t)) := by
  rw [after0_7]
  unfold outsAt0
  dsimp only
  unfold out0_A_7
  rw [View.read_writes_junk_eq_canon]
  unfold kernelRun0_A
  dsimp only
  unfold kernelRun0_A.sl.r_1
  simp (disch := decide) only [View.canon_cons_unit_lit', View.ld_unit_lit', View.readCov_unit_lit', View.readCov_cons_unit_lit', View.readAt_eq_ld, half_eq]
  exact same7 ((hs0_3 m hO t).read_unread _) ((hs0_4 m hO t).read_unread _) ((hs0_1 m hO t).read_unread _)

theorem final7 : (dats m hO 0 c).arrAt 7 (cfgM m hO).N = arr1 (S := S1x1024x512) (cat (a := 512) (b := 512) (half m c) (m ((c : Thread nD τ).loc main_arg4)) (m ((c : Thread nD τ).loc main_arg5))) (m ((c : Thread nD τ).loc main_arg2)) := by
  refine (dats m hO 0 c).arrAt_eq_of_emb 7 _ (fun t _ (y : S1x512x512.Idx) => ?_) (cover7 m hO)
  refine Eq.trans (b := ((dats m hO 0 c).after 7 t : Vec Ideal S1x512x512 .f32) y) rfl ?_
  rw [left7]
  refine Eq.trans ?_ (congrArg (arr1 (S := S1x1024x512) (cat (a := 512) (b := 512) (half m c) (m ((c : Thread nD τ).loc main_arg4)) (m ((c : Thread nD τ).loc main_arg5))) (m ((c : Thread nD τ).loc main_arg2))) (emb7 m hO t y)).symm
  have hN : t.val < 2 := lt_of_lt_of_eq t.isLt N0
  have hg := cat_at (a := 512) (b := 512) (half m c) (m ((c : Thread nD τ).loc main_arg4)) (m ((c : Thread nD τ).loc main_arg5)) t.val hN
  have hr : ∀ p : Fin 512, 512 * t.val + p.val < 2 * 512 := fun p => by have := p.isLt; omega
  idx_vars y
  obtain rfl : y0 = 0 := Subsingleton.elim _ _
  refine ((shapeCast_ab_1ab_apply _ _ 0 y1 y2).trans (pay5_at _ _ _ _ _ y1 y2)).trans ?_
  rw [blk1, blk3, blk4, co t]
  exact congrArg (fun g => mom1 g _) (hg y1 y2 (hr y1)).symm

theorem left8 (t : Fin (cfgM m hO).N) : ((dats m hO 0 c).after 8 t : Vec Ideal S1x512x512 .f32) = k0_pay3 (k0_pay6 (grid0.coords t) (half m c) (iblk m hO c 3 t) (iblk m hO c 4 t) (iblk m hO c 2 t)) := by
  rw [after0_8]
  unfold outsAt0
  dsimp only
  unfold out0_A_8
  rw [View.read_writes_junk_eq_canon]
  unfold kernelRun0_A
  dsimp only
  unfold kernelRun0_A.sl.r_2
  simp (disch := decide) only [View.canon_cons_unit_lit', View.ld_unit_lit', View.readCov_unit_lit', View.readCov_cons_unit_lit', View.readAt_eq_ld, half_eq]
  exact same8 ((hs0_3 m hO t).read_unread _) ((hs0_4 m hO t).read_unread _) ((hs0_2 m hO t).read_unread _)

theorem final8 : (dats m hO 0 c).arrAt 8 (cfgM m hO).N = arr2 (S := S1x1024x512) (cat (a := 512) (b := 512) (half m c) (m ((c : Thread nD τ).loc main_arg4)) (m ((c : Thread nD τ).loc main_arg5))) (m ((c : Thread nD τ).loc main_arg3)) := by
  refine (dats m hO 0 c).arrAt_eq_of_emb 8 _ (fun t _ (y : S1x512x512.Idx) => ?_) (cover8 m hO)
  refine Eq.trans (b := ((dats m hO 0 c).after 8 t : Vec Ideal S1x512x512 .f32) y) rfl ?_
  rw [left8]
  refine Eq.trans ?_ (congrArg (arr2 (S := S1x1024x512) (cat (a := 512) (b := 512) (half m c) (m ((c : Thread nD τ).loc main_arg4)) (m ((c : Thread nD τ).loc main_arg5))) (m ((c : Thread nD τ).loc main_arg3))) (emb8 m hO t y)).symm
  have hN : t.val < 2 := lt_of_lt_of_eq t.isLt N0
  have hg := cat_at (a := 512) (b := 512) (half m c) (m ((c : Thread nD τ).loc main_arg4)) (m ((c : Thread nD τ).loc main_arg5)) t.val hN
  have hr : ∀ p : Fin 512, 512 * t.val + p.val < 2 * 512 := fun p => by have := p.isLt; omega
  idx_vars y
  obtain rfl : y0 = 0 := Subsingleton.elim _ _
  refine ((shapeCast_ab_1ab_apply _ _ 0 y1 y2).trans (pay6_at _ _ _ _ _ y1 y2)).trans ?_
  rw [blk2, blk3, blk4, co t]
  exact congrArg (fun g => mom2 g _) (hg y1 y2 (hr y1)).symm

/-- What the kernel leaves. -/
theorem run_value (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v0_0) = (cat (a := 512) (b := 512) (half m c) (m ((c : Thread nD τ).loc main_arg4)) (m ((c : Thread nD τ).loc main_arg5)))
      ∧ r.2.mem ((c : Thread nD τ).loc main_v0_1) = arrS (S := S1x1024x512) (m ((c : Thread nD τ).loc main_arg1)) (cat (a := 512) (b := 512) (half m c) (m ((c : Thread nD τ).loc main_arg4)) (m ((c : Thread nD τ).loc main_arg5))) (m ((c : Thread nD τ).loc main_arg2)) (m ((c : Thread nD τ).loc main_arg3))
      ∧ r.2.mem ((c : Thread nD τ).loc main_v0_2) = arr1 (S := S1x1024x512) (cat (a := 512) (b := 512) (half m c) (m ((c : Thread nD τ).loc main_arg4)) (m ((c : Thread nD τ).loc main_arg5))) (m ((c : Thread nD τ).loc main_arg2))
      ∧ r.2.mem ((c : Thread nD τ).loc main_v0_3) = arr2 (S := S1x1024x512) (cat (a := 512) (b := 512) (half m c) (m ((c : Thread nD τ).loc main_arg4)) (m ((c : Thread nD τ).loc main_arg5))) (m ((c : Thread nD τ).loc main_arg3))
      ∧ r.2.mem ((c : Thread nD τ).loc main_arg0) = m ((c : Thread nD τ).loc main_arg0) ∧ r.2.mem ((c : Thread nD τ).loc main_arg1) = m ((c : Thread nD τ).loc main_arg1) ∧ r.2.mem ((c : Thread nD τ).loc main_arg2) = m ((c : Thread nD τ).loc main_arg2) ∧ r.2.mem ((c : Thread nD τ).loc main_arg3) = m ((c : Thread nD τ).loc main_arg3) ∧ r.2.mem ((c : Thread nD τ).loc main_arg4) = m ((c : Thread nD τ).loc main_arg4) ∧ r.2.mem ((c : Thread nD τ).loc main_arg5) = m ((c : Thread nD τ).loc main_arg5) :=
  (θ_run defs _ _).mono (fun _ h c => ⟨((h.1 c).1 5).trans (final5 m trivial c), ((h.1 c).1 6).trans (final6 m trivial c), ((h.1 c).1 7).trans (final7 m trivial c), ((h.1 c).1 8).trans (final8 m trivial c), h.2 c⟩)
    (θ_run_and (run_main m ρ trivial) (unchanged m ρ trivial))

end Cert.Kernel25Ideal.Gen

namespace Cert.Reference25Ideal.Value
open Idealize.ShloMosaic Idealize.ShloMosaic.TcCoe Idealize.ShloMosaic.Tactic Idealize.SL.Sem Cert.Reference25Ideal Cert.Reference25Ideal.Gen Cert.Prod Cert.Opt

/-- The two halves in their order. -/
def both (k : IVec S1 32) (x y : FVec Ideal S512x512 .f32) : FVec Ideal S1x1024x512 .f32 :=
  broadcastInDim S1x1024x512 ![1, 2] bcast_S1024x512_S1x1024x512_1_2 (concatenate S1024x512 0 [⟨S512x512, (select (broadcastInDim S512x512 ![] bcast_S_S512x512 (cmpi .eq (shapeCast _ k shapeCasts_S1_S_) (constantI S_ 32 0#32))) x y)⟩, ⟨S512x512, (select (broadcastInDim S512x512 ![] bcast_S_S512x512 (cmpi .eq (shapeCast _ k shapeCasts_S1_S_) (constantI S_ 32 1#32))) x y)⟩] concatenates_S512x512_S512x512_S1024x512_d0)

theorem word (k : IVec S1 32) (i : S_.Idx) : shapeCast S_ k shapeCasts_S1_S_ i = k (ix1 0) :=
  congrArg k (funext fun a => match a with | ⟨0, _⟩ => (Subsingleton.elim (α := Fin 1) _ _))

theorem stack_at (X Y : FVec Ideal S512x512 .f32) (p : Fin 1024) (q : Fin 512) :
    (concatenate S1024x512 0 [⟨S512x512, X⟩, ⟨S512x512, Y⟩] concatenates_S512x512_S512x512_S1024x512_d0 : FVec Ideal S1024x512 .f32) (ix2 p q)
      = if h : p.val < 512 then X (ix2 ⟨p.val, h⟩ q) else Y (ix2 ⟨p.val - 512, by omega⟩ q) := by
  pointwise

theorem both_eq (k : IVec S1 32) (x y : FVec Ideal S512x512 .f32) : both k x y = cat (a := 512) (b := 512) (k (ix1 0)) x y := by
  funext z
  idx_vars z
  obtain rfl : z0 = 0 := Subsingleton.elim _ _
  have h1 := z1.isLt
  unfold both
  generalize hX : (select (broadcastInDim S512x512 ![] bcast_S_S512x512 (cmpi .eq (shapeCast _ k shapeCasts_S1_S_) (constantI S_ 32 0#32))) x y) = X
  generalize hY : (select (broadcastInDim S512x512 ![] bcast_S_S512x512 (cmpi .eq (shapeCast _ k shapeCasts_S1_S_) (constantI S_ 32 1#32))) x y) = Y
  refine Eq.trans (b := (concatenate S1024x512 0 [⟨S512x512, X⟩, ⟨S512x512, Y⟩] concatenates_S512x512_S512x512_S1024x512_d0 : FVec Ideal S1024x512 .f32) (ix2 z1 z2)) ?_ ?_
  · generalize (concatenate S1024x512 0 [⟨S512x512, X⟩, ⟨S512x512, Y⟩] concatenates_S512x512_S512x512_S1024x512_d0 : FVec Ideal S1024x512 .f32) = Q
    pointwise
  · rw [stack_at]
    by_cases h : z1.val < 512
    · rw [dif_pos h, ← hX]
      refine Eq.trans ?_ (cat_low (a := 512) (b := 512) _ x y z1 z2 h).symm
      exact pick_of (word k _) rfl
    · rw [dif_neg h, ← hY]
      refine Eq.trans ?_ (cat_high (a := 512) (b := 512) _ x y z1 z2 h (by omega)).symm
      exact pick_of (word k _) rfl

/-- What the reference leaves. -/
theorem run_value (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v7) = (cat (a := 512) (b := 512) ((m ((c : Thread nD τ).loc main_arg0) : IVec S1 32) (ix1 0)) (m ((c : Thread nD τ).loc main_arg4)) (m ((c : Thread nD τ).loc main_arg5)))
      ∧ r.2.mem ((c : Thread nD τ).loc main_v31) = arrS (S := S1x1024x512) (m ((c : Thread nD τ).loc main_arg1)) (cat (a := 512) (b := 512) ((m ((c : Thread nD τ).loc main_arg0) : IVec S1 32) (ix1 0)) (m ((c : Thread nD τ).loc main_arg4)) (m ((c : Thread nD τ).loc main_arg5))) (m ((c : Thread nD τ).loc main_arg2)) (m ((c : Thread nD τ).loc main_arg3))
      ∧ r.2.mem ((c : Thread nD τ).loc main_v12) = arr1 (S := S1x1024x512) (cat (a := 512) (b := 512) ((m ((c : Thread nD τ).loc main_arg0) : IVec S1 32) (ix1 0)) (m ((c : Thread nD τ).loc main_arg4)) (m ((c : Thread nD τ).loc main_arg5))) (m ((c : Thread nD τ).loc main_arg2))
      ∧ r.2.mem ((c : Thread nD τ).loc main_v18) = arr2 (S := S1x1024x512) (cat (a := 512) (b := 512) ((m ((c : Thread nD τ).loc main_arg0) : IVec S1 32) (ix1 0)) (m ((c : Thread nD τ).loc main_arg4)) (m ((c : Thread nD τ).loc main_arg5))) (m ((c : Thread nD τ).loc main_arg3))
      ∧ r.2.mem ((c : Thread nD τ).loc main_arg0) = m ((c : Thread nD τ).loc main_arg0) ∧ r.2.mem ((c : Thread nD τ).loc main_arg1) = m ((c : Thread nD τ).loc main_arg1) ∧ r.2.mem ((c : Thread nD τ).loc main_arg2) = m ((c : Thread nD τ).loc main_arg2) ∧ r.2.mem ((c : Thread nD τ).loc main_arg3) = m ((c : Thread nD τ).loc main_arg3) ∧ r.2.mem ((c : Thread nD τ).loc main_arg4) = m ((c : Thread nD τ).loc main_arg4) ∧ r.2.mem ((c : Thread nD τ).loc main_arg5) = m ((c : Thread nD τ).loc main_arg5) := by
  refine (θ_run defs _ _).mono (fun _ h c => ?_) (run m ρ)
  have e := both_eq (m ((c : Thread nD τ).loc main_arg0)) (m ((c : Thread nD τ).loc main_arg4)) (m ((c : Thread nD τ).loc main_arg5))
  refine ⟨(h c).1.trans e, (h c).2.1.trans ?_, (h c).2.2.1.trans ?_, (h c).2.2.2.1.trans ?_, (h c).2.2.2.2⟩
  · exact Eq.trans (b := arrS (S := S1x1024x512) (m ((c : Thread nD τ).loc main_arg1)) (both (m ((c : Thread nD τ).loc main_arg0)) (m ((c : Thread nD τ).loc main_arg4)) (m ((c : Thread nD τ).loc main_arg5))) (m ((c : Thread nD τ).loc main_arg2)) (m ((c : Thread nD τ).loc main_arg3))) rfl (congrArg (fun g => arrS (S := S1x1024x512) (m ((c : Thread nD τ).loc main_arg1)) g (m ((c : Thread nD τ).loc main_arg2)) (m ((c : Thread nD τ).loc main_arg3))) e)
  · exact Eq.trans (b := arr1 (S := S1x1024x512) (both (m ((c : Thread nD τ).loc main_arg0)) (m ((c : Thread nD τ).loc main_arg4)) (m ((c : Thread nD τ).loc main_arg5))) (m ((c : Thread nD τ).loc main_arg2))) rfl (congrArg (fun g => arr1 (S := S1x1024x512) g (m ((c : Thread nD τ).loc main_arg2))) e)
  · exact Eq.trans (b := arr2 (S := S1x1024x512) (both (m ((c : Thread nD τ).loc main_arg0)) (m ((c : Thread nD τ).loc main_arg4)) (m ((c : Thread nD τ).loc main_arg5))) (m ((c : Thread nD τ).loc main_arg3))) rfl (congrArg (fun g => arr2 (S := S1x1024x512) g (m ((c : Thread nD τ).loc main_arg3))) e)

end Cert.Reference25Ideal.Value
end
-- ==== Proof.Halves3.lean ====
module

public import Idealize.ShloMosaic.Lib.KernelVsHost
public import Idealize.ShloMosaic.Lib.ValueLayout
public import proofs.«01_k».proof.Proof.Halves
public import proofs.«01_k».proof.Proof.Gen.Kernel26Ideal.Frame
public import proofs.«01_k».proof.Proof.Gen.Reference26Ideal.Run
@[expose] public section
set_option maxRecDepth 16384

/-! The optimiser's step for an output projection, its gradient in two halves. -/

noncomputable section
namespace Cert.Kernel26Ideal.Gen
open Idealize.ShloMosaic Idealize.ShloMosaic.TcCoe Idealize.ShloMosaic.Tactic Idealize.SL.Sem Cert.Kernel26Ideal Cert.Prod Cert.Opt
open Idealize.ShloMosaic.ValueIdx (shapeCast_1ab_ab_apply shapeCast_ab_1ab_apply)

theorem N0 : grid0.N = 2 := by decide +kernel
theorem co : ∀ t : Fin grid0.N, (grid0.coords t 0).val = t.val := by decide +kernel

theorem idx0 : ∀ t : Fin grid0.N, cc0_transform_0 (grid0.coords t) = ![0, t.val, 0] := by decide +kernel
theorem idx1 : ∀ t : Fin grid0.N, cc0_transform_1 (grid0.coords t) = ![0, t.val, 0] := by decide +kernel
theorem idx2 : ∀ t : Fin grid0.N, cc0_transform_2 (grid0.coords t) = ![0, t.val, 0] := by decide +kernel
theorem idx5 : ∀ t : Fin grid0.N, cc0_transform_5 (grid0.coords t) = ![0, t.val, 0] := by decide +kernel
theorem idx6 : ∀ t : Fin grid0.N, cc0_transform_6 (grid0.coords t) = ![0, t.val, 0] := by decide +kernel
theorem idx7 : ∀ t : Fin grid0.N, cc0_transform_7 (grid0.coords t) = ![0, t.val, 0] := by decide +kernel
theorem idx8 : ∀ t : Fin grid0.N, cc0_transform_8 (grid0.coords t) = ![0, t.val, 0] := by decide +kernel
theorem idx3 : ∀ t : Fin grid0.N, cc0_transform_3 (grid0.coords t) = ![0, 0] := by decide +kernel
theorem idx4 : ∀ t : Fin grid0.N, cc0_transform_4 (grid0.coords t) = ![0, 0] := by decide +kernel

section
variable (i : grid0.Coords) (k : BitVec 32) (a b : Vec Ideal S128x1024 .f32) (x y z : Vec Ideal S1x128x1024 .f32) (p : Fin 128) (q : Fin 1024)

theorem pay4_at : k0_pay4 i k a b (ix2 p q) = pick (i 0).val k (a (ix2 p q)) (b (ix2 p q)) := by
  unfold k0_pay4 pick
  exact apply_ite (fun f : Vec Ideal S128x1024 .f32 => f (ix2 p q)) _ _ _

theorem pay7_at : k0_pay7 i k a b (ix3 0 p q) = pick (i 0).val k (a (ix2 p q)) (b (ix2 p q)) :=
  (shapeCast_ab_1ab_apply _ _ 0 p q).trans (pay4_at i k a b p q)

theorem pay5_at : k0_pay5 i k a b x (ix2 p q) = mom1 (pick (i 0).val k (a (ix2 p q)) (b (ix2 p q))) (x (ix3 0 p q)) :=
  congrArg₂ mom1 (pay4_at i k a b p q) (shapeCast_1ab_ab_apply x _ p q)

theorem pay6_at : k0_pay6 i k a b x (ix2 p q) = mom2 (pick (i 0).val k (a (ix2 p q)) (b (ix2 p q))) (x (ix3 0 p q)) :=
  congrArg₂ mom2 (pay4_at i k a b p q) (shapeCast_1ab_ab_apply x _ p q)

theorem pay1_any (u v : FVec Ideal S128x1024 .f32) : k0_pay1 u v (ix3 0 p q) = Ideal.ofBits .f32 0xBA83126F#32 * (u (ix2 p q) + Ideal.ofBits .f32 0x3C23D70A#32 * v (ix2 p q)) := by
  unfold k0_pay1
  exact (shapeCast_ab_1ab_apply (mulf (broadcast S128x1024 (Scalar.ofBits (F := Ideal) .f32 0xBA83126F#32)) (addf u (mulf (broadcast S128x1024 (Scalar.ofBits (F := Ideal) .f32 0x3C23D70A#32)) v))) _ 0 p q)

theorem pay9_at : k0_pay9 x (ix2 p q) = x (ix3 0 p q) := shapeCast_1ab_ab_apply x _ p q

theorem pay1_at : k0_pay1 (k0_pay8 i k a b y z) (k0_pay9 x) (ix3 0 p q) = step (x (ix3 0 p q)) (pick (i 0).val k (a (ix2 p q)) (b (ix2 p q))) (y (ix3 0 p q)) (z (ix3 0 p q)) := by
  refine (pay1_any p q _ _).trans ?_
  refine Eq.trans ?_ (stepOf_eq _ _ _ _)
  rw [← pay5_at, ← pay6_at, pay9_at]
  rfl
end

variable (m : (ℓ : Loc nD τ sig) → Buf (Elt Ideal) ℓ) (hO : Ok m) (c : Dev nD)

/-- Where a block's entry lies in the array. -/
def place (t : Fin grid0.N) (y : S1x128x1024.Idx) : S1x256x1024.Idx := ix3 (y 0) ⟨128 * t.val + (y 1).val, by
  have hN : t.val < 2 := lt_of_lt_of_eq t.isLt N0
  have h : (y 1).val < 128 := (y 1).isLt
  omega⟩ (y 2)

theorem place_eq (t : Fin grid0.N) (y : S1x128x1024.Idx) (z : S1x256x1024.Idx) (h0 : (z 0).val = (y 0).val) (h1 : (z 1).val = 128 * t.val + (y 1).val)
    (h2 : (z 2).val = (y 2).val) : z = place t y := by
  funext k
  refine Fin.ext ?_
  match k with
  | ⟨0, _⟩ => exact h0
  | ⟨1, _⟩ => exact h1
  | ⟨2, _⟩ => exact h2

theorem same_eq (y z : S128x1024.Idx) (h0 : (z 0).val = (y 0).val) (h1 : (z 1).val = (y 1).val) : z = y := by
  funext k
  refine Fin.ext ?_
  match k with
  | ⟨0, _⟩ => exact h0
  | ⟨1, _⟩ => exact h1

theorem emb0 (t : Fin (cfgM m hO).N) (y : S1x128x1024.Idx) : (((cfgM m hO).win 0).blk t).view.emb y = place t y := by
  refine place_eq t y _ ?_ ?_ ?_
  · show cc0_transform_0 (grid0.coords t) 0 * 1 + 1 * (y 0).val = (y 0).val; rw [idx0 t]; simp
  · show cc0_transform_0 (grid0.coords t) 1 * 128 + 1 * (y 1).val = 128 * t.val + (y 1).val; rw [idx0 t]; simp; omega
  · show cc0_transform_0 (grid0.coords t) 2 * 1024 + 1 * (y 2).val = (y 2).val; rw [idx0 t]; simp

theorem emb1 (t : Fin (cfgM m hO).N) (y : S1x128x1024.Idx) : (((cfgM m hO).win 1).blk t).view.emb y = place t y := by
  refine place_eq t y _ ?_ ?_ ?_
  · show cc0_transform_1 (grid0.coords t) 0 * 1 + 1 * (y 0).val = (y 0).val; rw [idx1 t]; simp
  · show cc0_transform_1 (grid0.coords t) 1 * 128 + 1 * (y 1).val = 128 * t.val + (y 1).val; rw [idx1 t]; simp; omega
  · show cc0_transform_1 (grid0.coords t) 2 * 1024 + 1 * (y 2).val = (y 2).val; rw [idx1 t]; simp

theorem emb2 (t : Fin (cfgM m hO).N) (y : S1x128x1024.Idx) : (((cfgM m hO).win 2).blk t).view.emb y = place t y := by
  refine place_eq t y _ ?_ ?_ ?_
  · show cc0_transform_2 (grid0.coords t) 0 * 1 + 1 * (y 0).val = (y 0).val; rw [idx2 t]; simp
  · show cc0_transform_2 (grid0.coords t) 1 * 128 + 1 * (y 1).val = 128 * t.val + (y 1).val; rw [idx2 t]; simp; omega
  · show cc0_transform_2 (grid0.coords t) 2 * 1024 + 1 * (y 2).val = (y 2).val; rw [idx2 t]; simp

theorem emb5 (t : Fin (cfgM m hO).N) (y : S1x128x1024.Idx) : (((cfgM m hO).win 5).blk t).view.emb y = place t y := by
  refine place_eq t y _ ?_ ?_ ?_
  · show cc0_transform_5 (grid0.coords t) 0 * 1 + 1 * (y 0).val = (y 0).val; rw [idx5 t]; simp
  · show cc0_transform_5 (grid0.coords t) 1 * 128 + 1 * (y 1).val = 128 * t.val + (y 1).val; rw [idx5 t]; simp; omega
  · show cc0_transform_5 (grid0.coords t) 2 * 1024 + 1 * (y 2).val = (y 2).val; rw [idx5 t]; simp

theorem emb6 (t : Fin (cfgM m hO).N) (y : S1x128x1024.Idx) : (((cfgM m hO).win 6).blk t).view.emb y = place t y := by
  refine place_eq t y _ ?_ ?_ ?_
  · show cc0_transform_6 (grid0.coords t) 0 * 1 + 1 * (y 0).val = (y 0).val; rw [idx6 t]; simp
  · show cc0_transform_6 (grid0.coords t) 1 * 128 + 1 * (y 1).val = 128 * t.val + (y 1).val; rw [idx6 t]; simp; omega
  · show cc0_transform_6 (grid0.coords t) 2 * 1024 + 1 * (y 2).val = (y 2).val; rw [idx6 t]; simp

theorem emb7 (t : Fin (cfgM m hO).N) (y : S1x128x1024.Idx) : (((cfgM m hO).win 7).blk t).view.emb y = place t y := by
  refine place_eq t y _ ?_ ?_ ?_
  · show cc0_transform_7 (grid0.coords t) 0 * 1 + 1 * (y 0).val = (y 0).val; rw [idx7 t]; simp
  · show cc0_transform_7 (grid0.coords t) 1 * 128 + 1 * (y 1).val = 128 * t.val + (y 1).val; rw [idx7 t]; simp; omega
  · show cc0_transform_7 (grid0.coords t) 2 * 1024 + 1 * (y 2).val = (y 2).val; rw [idx7 t]; simp

theorem emb8 (t : Fin (cfgM m hO).N) (y : S1x128x1024.Idx) : (((cfgM m hO).win 8).blk t).view.emb y = place t y := by
  refine place_eq t y _ ?_ ?_ ?_
  · show cc0_transform_8 (grid0.coords t) 0 * 1 + 1 * (y 0).val = (y 0).val; rw [idx8 t]; simp
  · show cc0_transform_8 (grid0.coords t) 1 * 128 + 1 * (y 1).val = 128 * t.val + (y 1).val; rw [idx8 t]; simp; omega
  · show cc0_transform_8 (grid0.coords t) 2 * 1024 + 1 * (y 2).val = (y 2).val; rw [idx8 t]; simp

theorem emb3 (t : Fin (cfgM m hO).N) (y : S128x1024.Idx) : (((cfgM m hO).win 3).blk t).view.emb y = y := by
  refine same_eq y _ ?_ ?_
  · show cc0_transform_3 (grid0.coords t) 0 * 128 + 1 * (y 0).val = (y 0).val; rw [idx3 t]; simp
  · show cc0_transform_3 (grid0.coords t) 1 * 1024 + 1 * (y 1).val = (y 1).val; rw [idx3 t]; simp

theorem emb4 (t : Fin (cfgM m hO).N) (y : S128x1024.Idx) : (((cfgM m hO).win 4).blk t).view.emb y = y := by
  refine same_eq y _ ?_ ?_
  · show cc0_transform_4 (grid0.coords t) 0 * 128 + 1 * (y 0).val = (y 0).val; rw [idx4 t]; simp
  · show cc0_transform_4 (grid0.coords t) 1 * 1024 + 1 * (y 1).val = (y 1).val; rw [idx4 t]; simp

theorem blk0 (t : Fin (cfgM m hO).N) (y : S1x128x1024.Idx) :
    (iblk m hO c 0 t : Vec Ideal S1x128x1024 .f32) y = m (c, Proc.devRef .tc main_arg1) (place t y) :=
  congrArg (m (c, Proc.devRef .tc main_arg1)) (emb0 m hO t y)

theorem blk1 (t : Fin (cfgM m hO).N) (y : S1x128x1024.Idx) :
    (iblk m hO c 1 t : Vec Ideal S1x128x1024 .f32) y = m (c, Proc.devRef .tc main_arg2) (place t y) :=
  congrArg (m (c, Proc.devRef .tc main_arg2)) (emb1 m hO t y)

theorem blk2 (t : Fin (cfgM m hO).N) (y : S1x128x1024.Idx) :
    (iblk m hO c 2 t : Vec Ideal S1x128x1024 .f32) y = m (c, Proc.devRef .tc main_arg3) (place t y) :=
  congrArg (m (c, Proc.devRef .tc main_arg3)) (emb2 m hO t y)

theorem blk3 (t : Fin (cfgM m hO).N) (y : S128x1024.Idx) :
    (iblk m hO c 3 t : Vec Ideal S128x1024 .f32) y = m (c, Proc.devRef .tc main_arg4) y :=
  congrArg (m (c, Proc.devRef .tc main_arg4)) (emb3 m hO t y)

theorem blk4 (t : Fin (cfgM m hO).N) (y : S128x1024.Idx) :
    (iblk m hO c 4 t : Vec Ideal S128x1024 .f32) y = m (c, Proc.devRef .tc main_arg5) y :=
  congrArg (m (c, Proc.devRef .tc main_arg5)) (emb4 m hO t y)

theorem cover5 (i : S1x256x1024.Idx) : ∃ t : Fin (cfgM m hO).N, ((cfgM m hO).win 5).flush t = true ∧ i ∈ (((cfgM m hO).win 5).blk t).view.set := by
  have h : (i 1).val < 256 := (i 1).isLt
  let t : Fin grid0.N := ⟨(i 1).val / 128, lt_of_lt_of_eq (by omega) N0.symm⟩
  let y : S1x128x1024.Idx := ix3 (i 0) ⟨(i 1).val % 128, Nat.mod_lt _ (by decide)⟩ (i 2)
  have e : i = place t y := place_eq t y i rfl (by show (i 1).val = 128 * ((i 1).val / 128) + (i 1).val % 128; omega) rfl
  refine ⟨t, flush0_5 _ _, ?_⟩
  have hm := (((cfgM m hO).win 5).blk t).view.emb_mem_set y
  rw [emb5 m hO t y, ← e] at hm
  exact hm

theorem cover6 (i : S1x256x1024.Idx) : ∃ t : Fin (cfgM m hO).N, ((cfgM m hO).win 6).flush t = true ∧ i ∈ (((cfgM m hO).win 6).blk t).view.set := by
  have h : (i 1).val < 256 := (i 1).isLt
  let t : Fin grid0.N := ⟨(i 1).val / 128, lt_of_lt_of_eq (by omega) N0.symm⟩
  let y : S1x128x1024.Idx := ix3 (i 0) ⟨(i 1).val % 128, Nat.mod_lt _ (by decide)⟩ (i 2)
  have e : i = place t y := place_eq t y i rfl (by show (i 1).val = 128 * ((i 1).val / 128) + (i 1).val % 128; omega) rfl
  refine ⟨t, flush0_6 _ _, ?_⟩
  have hm := (((cfgM m hO).win 6).blk t).view.emb_mem_set y
  rw [emb6 m hO t y, ← e] at hm
  exact hm

theorem cover7 (i : S1x256x1024.Idx) : ∃ t : Fin (cfgM m hO).N, ((cfgM m hO).win 7).flush t = true ∧ i ∈ (((cfgM m hO).win 7).blk t).view.set := by
  have h : (i 1).val < 256 := (i 1).isLt
  let t : Fin grid0.N := ⟨(i 1).val / 128, lt_of_lt_of_eq (by omega) N0.symm⟩
  let y : S1x128x1024.Idx := ix3 (i 0) ⟨(i 1).val % 128, Nat.mod_lt _ (by decide)⟩ (i 2)
  have e : i = place t y := place_eq t y i rfl (by show (i 1).val = 128 * ((i 1).val / 128) + (i 1).val % 128; omega) rfl
  refine ⟨t, flush0_7 _ _, ?_⟩
  have hm := (((cfgM m hO).win 7).blk t).view.emb_mem_set y
  rw [emb7 m hO t y, ← e] at hm
  exact hm

theorem cover8 (i : S1x256x1024.Idx) : ∃ t : Fin (cfgM m hO).N, ((cfgM m hO).win 8).flush t = true ∧ i ∈ (((cfgM m hO).win 8).blk t).view.set := by
  have h : (i 1).val < 256 := (i 1).isLt
  let t : Fin grid0.N := ⟨(i 1).val / 128, lt_of_lt_of_eq (by omega) N0.symm⟩
  let y : S1x128x1024.Idx := ix3 (i 0) ⟨(i 1).val % 128, Nat.mod_lt _ (by decide)⟩ (i 2)
  have e : i = place t y := place_eq t y i rfl (by show (i 1).val = 128 * ((i 1).val / 128) + (i 1).val % 128; omega) rfl
  refine ⟨t, flush0_8 _ _, ?_⟩
  have hm := (((cfgM m hO).win 8).blk t).view.emb_mem_set y
  rw [emb8 m hO t y, ← e] at hm
  exact hm

theorem same5 {i : grid0.Coords} {k : BitVec 32} {a a' b b' : Vec Ideal S128x1024 .f32} (ha : a = a') (hb : b = b') : k0_pay7 i k a b = k0_pay7 i k a' b' := by rw [ha, hb]

theorem same6 {i : grid0.Coords} {k : BitVec 32} {a a' b b' : Vec Ideal S128x1024 .f32} {x x' y y' z z' : Vec Ideal S1x128x1024 .f32} (ha : a = a') (hb : b = b') (hx : x = x') (hy : y = y') (hz : z = z') :
    k0_pay1 (k0_pay8 i k a b y z) (k0_pay9 x) = k0_pay1 (k0_pay8 i k a' b' y' z') (k0_pay9 x') := by rw [ha, hb, hx, hy, hz]

theorem same7 {i : grid0.Coords} {k : BitVec 32} {a a' b b' : Vec Ideal S128x1024 .f32} {x x' : Vec Ideal S1x128x1024 .f32} (ha : a = a') (hb : b = b') (hx : x = x') :
    k0_pay2 (k0_pay5 i k a b x) = k0_pay2 (k0_pay5 i k a' b' x') := by rw [ha, hb, hx]

theorem same8 {i : grid0.Coords} {k : BitVec 32} {a a' b b' : Vec Ideal S128x1024 .f32} {x x' : Vec Ideal S1x128x1024 .f32} (ha : a = a') (hb : b = b') (hx : x = x') :
    k0_pay3 (k0_pay6 i k a b x) = k0_pay3 (k0_pay6 i k a' b' x') := by rw [ha, hb, hx]

/-- The word that says which half is the device's own. -/
def half : BitVec 32 := (m ((c : Thread nD τ).loc main_arg0) : IVec S1 32) (ix1 0)

theorem half_eq : (kernelRun0_A.sl.r c (tbl m 0) : BitVec 32) = half m c := by
  obtain rfl : c = 0 := Subsingleton.elim _ _
  unfold kernelRun0_A.sl.r
  exact congrArg (m ((0 : Dev nD), Proc.devRef .tc main_arg0) : IVec S1 32) (funext fun a => match a with | ⟨0, _⟩ => (Subsingleton.elim (α := Fin 1) _ _))

theorem left5 (t : Fin (cfgM m hO).N) : ((dats m hO 0 c).after 5 t : Vec Ideal S1x128x1024 .f32) = k0_pay7 (grid0.coords t) (half m c) (iblk m hO c 3 t) (iblk m hO c 4 t) := by
  rw [after0_5]
  unfold outsAt0
  dsimp only
  unfold out0_A_5
  rw [View.read_writes_junk_eq_canon]
  unfold kernelRun0_A
  dsimp only
  simp (disch := decide) only [View.canon_cons_unit_lit', View.ld_unit_lit', View.readCov_unit_lit', View.readCov_cons_unit_lit', View.readAt_eq_ld, half_eq]
  exact same5 ((hs0_3 m hO t).read_unread _) ((hs0_4 m hO t).read_unread _)

theorem final5 : (dats m hO 0 c).arrAt 5 (cfgM m hO).N = (cat (a := 128) (b := 1024) (half m c) (m ((c : Thread nD τ).loc main_arg4)) (m ((c : Thread nD τ).loc main_arg5))) := by
  refine (dats m hO 0 c).arrAt_eq_of_emb 5 _ (fun t _ (y : S1x128x1024.Idx) => ?_) (cover5 m hO)
  refine Eq.trans (b := ((dats m hO 0 c).after 5 t : Vec Ideal S1x128x1024 .f32) y) rfl ?_
  rw [left5]
  refine Eq.trans ?_ (congrArg ((cat (a := 128) (b := 1024) (half m c) (m ((c : Thread nD τ).loc main_arg4)) (m ((c : Thread nD τ).loc main_arg5)))) (emb5 m hO t y)).symm
  have hN : t.val < 2 := lt_of_lt_of_eq t.isLt N0
  have hg := cat_at (a := 128) (b := 1024) (half m c) (m ((c : Thread nD τ).loc main_arg4)) (m ((c : Thread nD τ).loc main_arg5)) t.val hN
  have hr : ∀ p : Fin 128, 128 * t.val + p.val < 2 * 128 := fun p => by have := p.isLt; omega
  idx_vars y
  obtain rfl : y0 = 0 := Subsingleton.elim _ _
  refine (pay7_at _ _ _ _ y1 y2).trans ?_
  rw [blk3, blk4, co t]
  exact (hg y1 y2 (hr y1)).symm

theorem left6 (t : Fin (cfgM m hO).N) : ((dats m hO 0 c).after 6 t : Vec Ideal S1x128x1024 .f32) = k0_pay1 (k0_pay8 (grid0.coords t) (half m c) (iblk m hO c 3 t) (iblk m hO c 4 t) (iblk m hO c 1 t) (iblk m hO c 2 t)) (k0_pay9 (iblk m hO c 0 t)) := by
  rw [after0_6]
  unfold outsAt0
  dsimp only
  unfold out0_A_6
  rw [View.read_writes_junk_eq_canon]
  unfold kernelRun0_A
  dsimp only
  unfold kernelRun0_A.sl.r_3 kernelRun0_A.sl.r_4
  simp (disch := decide) only [View.canon_cons_unit_lit', View.ld_unit_lit', View.readCov_unit_lit', View.readCov_cons_unit_lit', View.readAt_eq_ld, half_eq]
  exact same6 ((hs0_3 m hO t).read_unread _) ((hs0_4 m hO t).read_unread _) ((hs0_0 m hO t).read_unread _) ((hs0_1 m hO t).read_unread _) ((hs0_2 m hO t).read_unread _)

theorem final6 : (dats m hO 0 c).arrAt 6 (cfgM m hO).N = arrS (S := S1x256x1024) (m ((c : Thread nD τ).loc main_arg1)) (cat (a := 128) (b := 1024) (half m c) (m ((c : Thread nD τ).loc main_arg4)) (m ((c : Thread nD τ).loc main_arg5))) (m ((c : Thread nD τ).loc main_arg2)) (m ((c : Thread nD τ).loc main_arg3)) := by
  refine (dats m hO 0 c).arrAt_eq_of_emb 6 _ (fun t _ (y : S1x128x1024.Idx) => ?_) (cover6 m hO)
  refine Eq.trans (b := ((dats m hO 0 c).after 6 t : Vec Ideal S1x128x1024 .f32) y) rfl ?_
  rw [left6]
  refine Eq.trans ?_ (congrArg (arrS (S := S1x256x1024) (m ((c : Thread nD τ).loc main_arg1)) (cat (a := 128) (b := 1024) (half m c) (m ((c : Thread nD τ).loc main_arg4)) (m ((c : Thread nD τ).loc main_arg5))) (m ((c : Thread nD τ).loc main_arg2)) (m ((c : Thread nD τ).loc main_arg3))) (emb6 m hO t y)).symm
  have hN : t.val < 2 := lt_of_lt_of_eq t.isLt N0
  have hg := cat_at (a := 128) (b := 1024) (half m c) (m ((c : Thread nD τ).loc main_arg4)) (m ((c : Thread nD τ).loc main_arg5)) t.val hN
  have hr : ∀ p : Fin 128, 128 * t.val + p.val < 2 * 128 := fun p => by have := p.isLt; omega
  idx_vars y
  obtain rfl : y0 = 0 := Subsingleton.elim _ _
  refine (pay1_at _ _ _ _ _ _ _ y1 y2).trans ?_
  rw [blk0, blk1, blk2, blk3, blk4, co t]
  exact congrArg (fun g => step _ g _ _) (hg y1 y2 (hr y1)).symm

theorem left7 (t : Fin (cfgM m hO).N) : ((dats m hO 0 c).after 7 t : Vec Ideal S1x128x1024 .f32) = k0_pay2 (k0_pay5 (grid0.coords t) (half m c) (iblk m hO c 3 t) (iblk m hO c 4 t) (iblk m hO c 1 t)) := by
  rw [after0_7]
  unfold outsAt0
  dsimp only
  unfold out0_A_7
  rw [View.read_writes_junk_eq_canon]
  unfold kernelRun0_A
  dsimp only
  unfold kernelRun0_A.sl.r_1
  simp (disch := decide) only [View.canon_cons_unit_lit', View.ld_unit_lit', View.readCov_unit_lit', View.readCov_cons_unit_lit', View.readAt_eq_ld, half_eq]
  exact same7 ((hs0_3 m hO t).read_unread _) ((hs0_4 m hO t).read_unread _) ((hs0_1 m hO t).read_unread _)

theorem final7 : (dats m hO 0 c).arrAt 7 (cfgM m hO).N = arr1 (S := S1x256x1024) (cat (a := 128) (b := 1024) (half m c) (m ((c : Thread nD τ).loc main_arg4)) (m ((c : Thread nD τ).loc main_arg5))) (m ((c : Thread nD τ).loc main_arg2)) := by
  refine (dats m hO 0 c).arrAt_eq_of_emb 7 _ (fun t _ (y : S1x128x1024.Idx) => ?_) (cover7 m hO)
  refine Eq.trans (b := ((dats m hO 0 c).after 7 t : Vec Ideal S1x128x1024 .f32) y) rfl ?_
  rw [left7]
  refine Eq.trans ?_ (congrArg (arr1 (S := S1x256x1024) (cat (a := 128) (b := 1024) (half m c) (m ((c : Thread nD τ).loc main_arg4)) (m ((c : Thread nD τ).loc main_arg5))) (m ((c : Thread nD τ).loc main_arg2))) (emb7 m hO t y)).symm
  have hN : t.val < 2 := lt_of_lt_of_eq t.isLt N0
  have hg := cat_at (a := 128) (b := 1024) (half m c) (m ((c : Thread nD τ).loc main_arg4)) (m ((c : Thread nD τ).loc main_arg5)) t.val hN
  have hr : ∀ p : Fin 128, 128 * t.val + p.val < 2 * 128 := fun p => by have := p.isLt; omega
  idx_vars y
  obtain rfl : y0 = 0 := Subsingleton.elim _ _
  refine ((shapeCast_ab_1ab_apply _ _ 0 y1 y2).trans (pay5_at _ _ _ _ _ y1 y2)).trans ?_
  rw [blk1, blk3, blk4, co t]
  exact congrArg (fun g => mom1 g _) (hg y1 y2 (hr y1)).symm

theorem left8 (t : Fin (cfgM m hO).N) : ((dats m hO 0 c).after 8 t : Vec Ideal S1x128x1024 .f32) = k0_pay3 (k0_pay6 (grid0.coords t) (half m c) (iblk m hO c 3 t) (iblk m hO c 4 t) (iblk m hO c 2 t)) := by
  rw [after0_8]
  unfold outsAt0
  dsimp only
  unfold out0_A_8
  rw [View.read_writes_junk_eq_canon]
  unfold kernelRun0_A
  dsimp only
  unfold kernelRun0_A.sl.r_2
  simp (disch := decide) only [View.canon_cons_unit_lit', View.ld_unit_lit', View.readCov_unit_lit', View.readCov_cons_unit_lit', View.readAt_eq_ld, half_eq]
  exact same8 ((hs0_3 m hO t).read_unread _) ((hs0_4 m hO t).read_unread _) ((hs0_2 m hO t).read_unread _)

theorem final8 : (dats m hO 0 c).arrAt 8 (cfgM m hO).N = arr2 (S := S1x256x1024) (cat (a := 128) (b := 1024) (half m c) (m ((c : Thread nD τ).loc main_arg4)) (m ((c : Thread nD τ).loc main_arg5))) (m ((c : Thread nD τ).loc main_arg3)) := by
  refine (dats m hO 0 c).arrAt_eq_of_emb 8 _ (fun t _ (y : S1x128x1024.Idx) => ?_) (cover8 m hO)
  refine Eq.trans (b := ((dats m hO 0 c).after 8 t : Vec Ideal S1x128x1024 .f32) y) rfl ?_
  rw [left8]
  refine Eq.trans ?_ (congrArg (arr2 (S := S1x256x1024) (cat (a := 128) (b := 1024) (half m c) (m ((c : Thread nD τ).loc main_arg4)) (m ((c : Thread nD τ).loc main_arg5))) (m ((c : Thread nD τ).loc main_arg3))) (emb8 m hO t y)).symm
  have hN : t.val < 2 := lt_of_lt_of_eq t.isLt N0
  have hg := cat_at (a := 128) (b := 1024) (half m c) (m ((c : Thread nD τ).loc main_arg4)) (m ((c : Thread nD τ).loc main_arg5)) t.val hN
  have hr : ∀ p : Fin 128, 128 * t.val + p.val < 2 * 128 := fun p => by have := p.isLt; omega
  idx_vars y
  obtain rfl : y0 = 0 := Subsingleton.elim _ _
  refine ((shapeCast_ab_1ab_apply _ _ 0 y1 y2).trans (pay6_at _ _ _ _ _ y1 y2)).trans ?_
  rw [blk2, blk3, blk4, co t]
  exact congrArg (fun g => mom2 g _) (hg y1 y2 (hr y1)).symm

/-- What the kernel leaves. -/
theorem run_value (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v0_0) = (cat (a := 128) (b := 1024) (half m c) (m ((c : Thread nD τ).loc main_arg4)) (m ((c : Thread nD τ).loc main_arg5)))
      ∧ r.2.mem ((c : Thread nD τ).loc main_v0_1) = arrS (S := S1x256x1024) (m ((c : Thread nD τ).loc main_arg1)) (cat (a := 128) (b := 1024) (half m c) (m ((c : Thread nD τ).loc main_arg4)) (m ((c : Thread nD τ).loc main_arg5))) (m ((c : Thread nD τ).loc main_arg2)) (m ((c : Thread nD τ).loc main_arg3))
      ∧ r.2.mem ((c : Thread nD τ).loc main_v0_2) = arr1 (S := S1x256x1024) (cat (a := 128) (b := 1024) (half m c) (m ((c : Thread nD τ).loc main_arg4)) (m ((c : Thread nD τ).loc main_arg5))) (m ((c : Thread nD τ).loc main_arg2))
      ∧ r.2.mem ((c : Thread nD τ).loc main_v0_3) = arr2 (S := S1x256x1024) (cat (a := 128) (b := 1024) (half m c) (m ((c : Thread nD τ).loc main_arg4)) (m ((c : Thread nD τ).loc main_arg5))) (m ((c : Thread nD τ).loc main_arg3))
      ∧ r.2.mem ((c : Thread nD τ).loc main_arg0) = m ((c : Thread nD τ).loc main_arg0) ∧ r.2.mem ((c : Thread nD τ).loc main_arg1) = m ((c : Thread nD τ).loc main_arg1) ∧ r.2.mem ((c : Thread nD τ).loc main_arg2) = m ((c : Thread nD τ).loc main_arg2) ∧ r.2.mem ((c : Thread nD τ).loc main_arg3) = m ((c : Thread nD τ).loc main_arg3) ∧ r.2.mem ((c : Thread nD τ).loc main_arg4) = m ((c : Thread nD τ).loc main_arg4) ∧ r.2.mem ((c : Thread nD τ).loc main_arg5) = m ((c : Thread nD τ).loc main_arg5) :=
  (θ_run defs _ _).mono (fun _ h c => ⟨((h.1 c).1 5).trans (final5 m trivial c), ((h.1 c).1 6).trans (final6 m trivial c), ((h.1 c).1 7).trans (final7 m trivial c), ((h.1 c).1 8).trans (final8 m trivial c), h.2 c⟩)
    (θ_run_and (run_main m ρ trivial) (unchanged m ρ trivial))

end Cert.Kernel26Ideal.Gen

namespace Cert.Reference26Ideal.Value
open Idealize.ShloMosaic Idealize.ShloMosaic.TcCoe Idealize.ShloMosaic.Tactic Idealize.SL.Sem Cert.Reference26Ideal Cert.Reference26Ideal.Gen Cert.Prod Cert.Opt

/-- The two halves in their order. -/
def both (k : IVec S1 32) (x y : FVec Ideal S128x1024 .f32) : FVec Ideal S1x256x1024 .f32 :=
  broadcastInDim S1x256x1024 ![1, 2] bcast_S256x1024_S1x256x1024_1_2 (concatenate S256x1024 0 [⟨S128x1024, (select (broadcastInDim S128x1024 ![] bcast_S_S128x1024 (cmpi .eq (shapeCast _ k shapeCasts_S1_S_) (constantI S_ 32 0#32))) x y)⟩, ⟨S128x1024, (select (broadcastInDim S128x1024 ![] bcast_S_S128x1024 (cmpi .eq (shapeCast _ k shapeCasts_S1_S_) (constantI S_ 32 1#32))) x y)⟩] concatenates_S128x1024_S128x1024_S256x1024_d0)

theorem word (k : IVec S1 32) (i : S_.Idx) : shapeCast S_ k shapeCasts_S1_S_ i = k (ix1 0) :=
  congrArg k (funext fun a => match a with | ⟨0, _⟩ => (Subsingleton.elim (α := Fin 1) _ _))

theorem stack_at (X Y : FVec Ideal S128x1024 .f32) (p : Fin 256) (q : Fin 1024) :
    (concatenate S256x1024 0 [⟨S128x1024, X⟩, ⟨S128x1024, Y⟩] concatenates_S128x1024_S128x1024_S256x1024_d0 : FVec Ideal S256x1024 .f32) (ix2 p q)
      = if h : p.val < 128 then X (ix2 ⟨p.val, h⟩ q) else Y (ix2 ⟨p.val - 128, by omega⟩ q) := by
  pointwise

theorem both_eq (k : IVec S1 32) (x y : FVec Ideal S128x1024 .f32) : both k x y = cat (a := 128) (b := 1024) (k (ix1 0)) x y := by
  funext z
  idx_vars z
  obtain rfl : z0 = 0 := Subsingleton.elim _ _
  have h1 := z1.isLt
  unfold both
  generalize hX : (select (broadcastInDim S128x1024 ![] bcast_S_S128x1024 (cmpi .eq (shapeCast _ k shapeCasts_S1_S_) (constantI S_ 32 0#32))) x y) = X
  generalize hY : (select (broadcastInDim S128x1024 ![] bcast_S_S128x1024 (cmpi .eq (shapeCast _ k shapeCasts_S1_S_) (constantI S_ 32 1#32))) x y) = Y
  refine Eq.trans (b := (concatenate S256x1024 0 [⟨S128x1024, X⟩, ⟨S128x1024, Y⟩] concatenates_S128x1024_S128x1024_S256x1024_d0 : FVec Ideal S256x1024 .f32) (ix2 z1 z2)) ?_ ?_
  · generalize (concatenate S256x1024 0 [⟨S128x1024, X⟩, ⟨S128x1024, Y⟩] concatenates_S128x1024_S128x1024_S256x1024_d0 : FVec Ideal S256x1024 .f32) = Q
    pointwise
  · rw [stack_at]
    by_cases h : z1.val < 128
    · rw [dif_pos h, ← hX]
      refine Eq.trans ?_ (cat_low (a := 128) (b := 1024) _ x y z1 z2 h).symm
      exact pick_of (word k _) rfl
    · rw [dif_neg h, ← hY]
      refine Eq.trans ?_ (cat_high (a := 128) (b := 1024) _ x y z1 z2 h (by omega)).symm
      exact pick_of (word k _) rfl

/-- What the reference leaves. -/
theorem run_value (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v7) = (cat (a := 128) (b := 1024) ((m ((c : Thread nD τ).loc main_arg0) : IVec S1 32) (ix1 0)) (m ((c : Thread nD τ).loc main_arg4)) (m ((c : Thread nD τ).loc main_arg5)))
      ∧ r.2.mem ((c : Thread nD τ).loc main_v31) = arrS (S := S1x256x1024) (m ((c : Thread nD τ).loc main_arg1)) (cat (a := 128) (b := 1024) ((m ((c : Thread nD τ).loc main_arg0) : IVec S1 32) (ix1 0)) (m ((c : Thread nD τ).loc main_arg4)) (m ((c : Thread nD τ).loc main_arg5))) (m ((c : Thread nD τ).loc main_arg2)) (m ((c : Thread nD τ).loc main_arg3))
      ∧ r.2.mem ((c : Thread nD τ).loc main_v12) = arr1 (S := S1x256x1024) (cat (a := 128) (b := 1024) ((m ((c : Thread nD τ).loc main_arg0) : IVec S1 32) (ix1 0)) (m ((c : Thread nD τ).loc main_arg4)) (m ((c : Thread nD τ).loc main_arg5))) (m ((c : Thread nD τ).loc main_arg2))
      ∧ r.2.mem ((c : Thread nD τ).loc main_v18) = arr2 (S := S1x256x1024) (cat (a := 128) (b := 1024) ((m ((c : Thread nD τ).loc main_arg0) : IVec S1 32) (ix1 0)) (m ((c : Thread nD τ).loc main_arg4)) (m ((c : Thread nD τ).loc main_arg5))) (m ((c : Thread nD τ).loc main_arg3))
      ∧ r.2.mem ((c : Thread nD τ).loc main_arg0) = m ((c : Thread nD τ).loc main_arg0) ∧ r.2.mem ((c : Thread nD τ).loc main_arg1) = m ((c : Thread nD τ).loc main_arg1) ∧ r.2.mem ((c : Thread nD τ).loc main_arg2) = m ((c : Thread nD τ).loc main_arg2) ∧ r.2.mem ((c : Thread nD τ).loc main_arg3) = m ((c : Thread nD τ).loc main_arg3) ∧ r.2.mem ((c : Thread nD τ).loc main_arg4) = m ((c : Thread nD τ).loc main_arg4) ∧ r.2.mem ((c : Thread nD τ).loc main_arg5) = m ((c : Thread nD τ).loc main_arg5) := by
  refine (θ_run defs _ _).mono (fun _ h c => ?_) (run m ρ)
  have e := both_eq (m ((c : Thread nD τ).loc main_arg0)) (m ((c : Thread nD τ).loc main_arg4)) (m ((c : Thread nD τ).loc main_arg5))
  refine ⟨(h c).1.trans e, (h c).2.1.trans ?_, (h c).2.2.1.trans ?_, (h c).2.2.2.1.trans ?_, (h c).2.2.2.2⟩
  · exact Eq.trans (b := arrS (S := S1x256x1024) (m ((c : Thread nD τ).loc main_arg1)) (both (m ((c : Thread nD τ).loc main_arg0)) (m ((c : Thread nD τ).loc main_arg4)) (m ((c : Thread nD τ).loc main_arg5))) (m ((c : Thread nD τ).loc main_arg2)) (m ((c : Thread nD τ).loc main_arg3))) rfl (congrArg (fun g => arrS (S := S1x256x1024) (m ((c : Thread nD τ).loc main_arg1)) g (m ((c : Thread nD τ).loc main_arg2)) (m ((c : Thread nD τ).loc main_arg3))) e)
  · exact Eq.trans (b := arr1 (S := S1x256x1024) (both (m ((c : Thread nD τ).loc main_arg0)) (m ((c : Thread nD τ).loc main_arg4)) (m ((c : Thread nD τ).loc main_arg5))) (m ((c : Thread nD τ).loc main_arg2))) rfl (congrArg (fun g => arr1 (S := S1x256x1024) g (m ((c : Thread nD τ).loc main_arg2))) e)
  · exact Eq.trans (b := arr2 (S := S1x256x1024) (both (m ((c : Thread nD τ).loc main_arg0)) (m ((c : Thread nD τ).loc main_arg4)) (m ((c : Thread nD τ).loc main_arg5))) (m ((c : Thread nD τ).loc main_arg3))) rfl (congrArg (fun g => arr2 (S := S1x256x1024) g (m ((c : Thread nD τ).loc main_arg3))) e)

end Cert.Reference26Ideal.Value
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.Kernel2
public import proofs.«01_k».proof.Proof.Gen.Kernel2Ideal
public import proofs.«01_k».proof.Proof.Gen.Kernel2.Skeleton
public import proofs.«01_k».proof.Proof.Gen.Kernel2Ideal.Skeleton
public import proofs.«01_k».proof.Proof.Gen.Kernel2.Launch
public import proofs.«01_k».proof.Proof.Gen.Kernel2Ideal.Launch
public import proofs.«01_k».proof.Proof.Gen.Kernel2.Points
public import proofs.«01_k».proof.Proof.Gen.Kernel2Ideal.Points
public import proofs.«01_k».proof.Proof.Gen.Kernel2.Frame
public import proofs.«01_k».proof.Proof.Gen.Kernel2Ideal.Frame
public import proofs.«01_k».proof.Proof.Gen.Reference2Ideal
public import proofs.«01_k».proof.Proof.Gen.Kernel2Ideal.Value
public import proofs.«01_k».proof.Proof.Gen.Reference2Ideal.Run
public import proofs.«01_k».proof.Proof.Gen.Kernel3
public import proofs.«01_k».proof.Proof.Gen.Kernel3Ideal
public import proofs.«01_k».proof.Proof.Gen.Kernel3.Skeleton
public import proofs.«01_k».proof.Proof.Gen.Kernel3Ideal.Skeleton
public import proofs.«01_k».proof.Proof.Gen.Kernel3.Launch
public import proofs.«01_k».proof.Proof.Gen.Kernel3Ideal.Launch
public import proofs.«01_k».proof.Proof.Gen.Kernel3.Points
public import proofs.«01_k».proof.Proof.Gen.Kernel3Ideal.Points
public import proofs.«01_k».proof.Proof.Gen.Kernel3.Frame
public import proofs.«01_k».proof.Proof.Gen.Kernel3Ideal.Frame
public import proofs.«01_k».proof.Proof.Gen.Reference3Ideal
public import proofs.«01_k».proof.Proof.Gen.Kernel3Ideal.Value
public import proofs.«01_k».proof.Proof.Gen.Reference3Ideal.Run
public import proofs.«01_k».proof.Proof.Gen.Kernel4
public import proofs.«01_k».proof.Proof.Gen.Kernel4Ideal
public import proofs.«01_k».proof.Proof.Gen.Kernel4.Skeleton
public import proofs.«01_k».proof.Proof.Gen.Kernel4Ideal.Skeleton
public import proofs.«01_k».proof.Proof.Gen.Kernel4.Launch
public import proofs.«01_k».proof.Proof.Gen.Kernel4Ideal.Launch
public import proofs.«01_k».proof.Proof.Gen.Kernel4.Points
public import proofs.«01_k».proof.Proof.Gen.Kernel4Ideal.Points
public import proofs.«01_k».proof.Proof.Gen.Kernel4.Frame
public import proofs.«01_k».proof.Proof.Gen.Kernel4Ideal.Frame
public import proofs.«01_k».proof.Proof.Gen.Reference4Ideal
public import proofs.«01_k».proof.Proof.Gen.Kernel4Ideal.Value
public import proofs.«01_k».proof.Proof.Gen.Reference4Ideal.Run
public import proofs.«01_k».proof.Proof.Gen.Kernel5
public import proofs.«01_k».proof.Proof.Gen.Kernel5Ideal
public import proofs.«01_k».proof.Proof.Gen.Kernel5.Skeleton
public import proofs.«01_k».proof.Proof.Gen.Kernel5Ideal.Skeleton
public import proofs.«01_k».proof.Proof.Gen.Kernel5.Launch
public import proofs.«01_k».proof.Proof.Gen.Kernel5Ideal.Launch
public import proofs.«01_k».proof.Proof.Gen.Kernel5.Points
public import proofs.«01_k».proof.Proof.Gen.Kernel5Ideal.Points
public import proofs.«01_k».proof.Proof.Gen.Kernel5.Frame
public import proofs.«01_k».proof.Proof.Gen.Kernel5Ideal.Frame
public import proofs.«01_k».proof.Proof.Gen.Reference5Ideal
public import proofs.«01_k».proof.Proof.Gen.Kernel5Ideal.Value
public import proofs.«01_k».proof.Proof.Gen.Reference5Ideal.Run
public import proofs.«01_k».proof.Proof.Gen.Kernel6
public import proofs.«01_k».proof.Proof.Gen.Kernel6Ideal
public import proofs.«01_k».proof.Proof.Gen.Kernel6.Skeleton
public import proofs.«01_k».proof.Proof.Gen.Kernel6Ideal.Skeleton
public import proofs.«01_k».proof.Proof.Gen.Kernel6.Launch
public import proofs.«01_k».proof.Proof.Gen.Kernel6Ideal.Launch
public import proofs.«01_k».proof.Proof.Gen.Kernel6.Points
public import proofs.«01_k».proof.Proof.Gen.Kernel6Ideal.Points
public import proofs.«01_k».proof.Proof.Gen.Kernel6.Frame
public import proofs.«01_k».proof.Proof.Gen.Kernel6Ideal.Frame
public import proofs.«01_k».proof.Proof.Gen.Reference6Ideal
public import proofs.«01_k».proof.Proof.Gen.Kernel6Ideal.Value
public import proofs.«01_k».proof.Proof.Gen.Reference6Ideal.Run
public import proofs.«01_k».proof.Proof.Gen.Kernel7
public import proofs.«01_k».proof.Proof.Gen.Kernel7Ideal
public import proofs.«01_k».proof.Proof.Gen.Kernel7.Skeleton
public import proofs.«01_k».proof.Proof.Gen.Kernel7Ideal.Skeleton
public import proofs.«01_k».proof.Proof.Gen.Kernel7.Launch
public import proofs.«01_k».proof.Proof.Gen.Kernel7Ideal.Launch
public import proofs.«01_k».proof.Proof.Gen.Kernel7.Points
public import proofs.«01_k».proof.Proof.Gen.Kernel7Ideal.Points
public import proofs.«01_k».proof.Proof.Gen.Kernel7.Frame
public import proofs.«01_k».proof.Proof.Gen.Kernel7Ideal.Frame
public import proofs.«01_k».proof.Proof.Gen.Reference7Ideal
public import proofs.«01_k».proof.Proof.Gen.Kernel7Ideal.Value
public import proofs.«01_k».proof.Proof.Gen.Reference7Ideal.Run
public import proofs.«01_k».proof.Proof.Gen.Kernel8
public import proofs.«01_k».proof.Proof.Gen.Kernel8Ideal
public import proofs.«01_k».proof.Proof.Gen.Kernel8.Skeleton
public import proofs.«01_k».proof.Proof.Gen.Kernel8Ideal.Skeleton
public import proofs.«01_k».proof.Proof.Gen.Kernel8.Launch
public import proofs.«01_k».proof.Proof.Gen.Kernel8Ideal.Launch
public import proofs.«01_k».proof.Proof.Gen.Kernel8.Points
public import proofs.«01_k».proof.Proof.Gen.Kernel8Ideal.Points
public import proofs.«01_k».proof.Proof.Gen.Kernel8.Frame
public import proofs.«01_k».proof.Proof.Gen.Kernel8Ideal.Frame
public import proofs.«01_k».proof.Proof.Gen.Reference8Ideal
public import proofs.«01_k».proof.Proof.Gen.Kernel8Ideal.Value
public import proofs.«01_k».proof.Proof.Gen.Reference8Ideal.Run
public import proofs.«01_k».proof.Proof.Gen.Kernel9
public import proofs.«01_k».proof.Proof.Gen.Kernel9Ideal
public import proofs.«01_k».proof.Proof.Gen.Kernel9.Skeleton
public import proofs.«01_k».proof.Proof.Gen.Kernel9Ideal.Skeleton
public import proofs.«01_k».proof.Proof.Gen.Kernel9.Launch
public import proofs.«01_k».proof.Proof.Gen.Kernel9Ideal.Launch
public import proofs.«01_k».proof.Proof.Gen.Kernel9.Points
public import proofs.«01_k».proof.Proof.Gen.Kernel9Ideal.Points
public import proofs.«01_k».proof.Proof.Gen.Kernel9.Frame
public import proofs.«01_k».proof.Proof.Gen.Kernel9Ideal.Frame
public import proofs.«01_k».proof.Proof.Gen.Reference9Ideal
public import proofs.«01_k».proof.Proof.Gen.Kernel9Ideal.Value
public import proofs.«01_k».proof.Proof.Gen.Reference9Ideal.Run
public import proofs.«01_k».proof.Proof.Gen.Kernel10
public import proofs.«01_k».proof.Proof.Gen.Kernel10Ideal
public import proofs.«01_k».proof.Proof.Gen.Kernel10.Skeleton
public import proofs.«01_k».proof.Proof.Gen.Kernel10Ideal.Skeleton
public import proofs.«01_k».proof.Proof.Gen.Kernel10.Launch
public import proofs.«01_k».proof.Proof.Gen.Kernel10Ideal.Launch
public import proofs.«01_k».proof.Proof.Gen.Kernel10.Points
public import proofs.«01_k».proof.Proof.Gen.Kernel10Ideal.Points
public import proofs.«01_k».proof.Proof.Gen.Kernel10.Frame
public import proofs.«01_k».proof.Proof.Gen.Kernel10Ideal.Frame
public import proofs.«01_k».proof.Proof.Gen.Reference10Ideal
public import proofs.«01_k».proof.Proof.Gen.Kernel10Ideal.Value
public import proofs.«01_k».proof.Proof.Gen.Reference10Ideal.Run
public import proofs.«01_k».proof.Proof.Gen.Kernel11
public import proofs.«01_k».proof.Proof.Gen.Kernel11Ideal
public import proofs.«01_k».proof.Proof.Gen.Kernel11.Skeleton
public import proofs.«01_k».proof.Proof.Gen.Kernel11Ideal.Skeleton
public import proofs.«01_k».proof.Proof.Gen.Kernel11.Launch
public import proofs.«01_k».proof.Proof.Gen.Kernel11Ideal.Launch
public import proofs.«01_k».proof.Proof.Gen.Kernel11.Points
public import proofs.«01_k».proof.Proof.Gen.Kernel11Ideal.Points
public import proofs.«01_k».proof.Proof.Gen.Kernel11.Frame
public import proofs.«01_k».proof.Proof.Gen.Kernel11Ideal.Frame
public import proofs.«01_k».proof.Proof.Gen.Reference11Ideal
public import proofs.«01_k».proof.Proof.Gen.Kernel11Ideal.Value
public import proofs.«01_k».proof.Proof.Gen.Reference11Ideal.Run
public import proofs.«01_k».proof.Proof.Gen.Kernel12
public import proofs.«01_k».proof.Proof.Gen.Kernel12Ideal
public import proofs.«01_k».proof.Proof.Gen.Kernel12.Skeleton
public import proofs.«01_k».proof.Proof.Gen.Kernel12Ideal.Skeleton
public import proofs.«01_k».proof.Proof.Gen.Kernel12.Launch
public import proofs.«01_k».proof.Proof.Gen.Kernel12Ideal.Launch
public import proofs.«01_k».proof.Proof.Gen.Kernel12.Points
public import proofs.«01_k».proof.Proof.Gen.Kernel12Ideal.Points
public import proofs.«01_k».proof.Proof.Gen.Kernel12.Frame
public import proofs.«01_k».proof.Proof.Gen.Kernel12Ideal.Frame
public import proofs.«01_k».proof.Proof.Gen.Reference12Ideal
public import proofs.«01_k».proof.Proof.Gen.Kernel12Ideal.Value
public import proofs.«01_k».proof.Proof.Gen.Reference12Ideal.Run
public import proofs.«01_k».proof.Proof.Gen.Kernel13
public import proofs.«01_k».proof.Proof.Gen.Kernel13Ideal
public import proofs.«01_k».proof.Proof.Gen.Kernel13.Skeleton
public import proofs.«01_k».proof.Proof.Gen.Kernel13Ideal.Skeleton
public import proofs.«01_k».proof.Proof.Gen.Kernel13.Launch
public import proofs.«01_k».proof.Proof.Gen.Kernel13Ideal.Launch
public import proofs.«01_k».proof.Proof.Gen.Kernel13.Points
public import proofs.«01_k».proof.Proof.Gen.Kernel13Ideal.Points
public import proofs.«01_k».proof.Proof.Gen.Kernel13.Frame
public import proofs.«01_k».proof.Proof.Gen.Kernel13Ideal.Frame
public import proofs.«01_k».proof.Proof.Gen.Reference13Ideal
public import proofs.«01_k».proof.Proof.Gen.Kernel13Ideal.Value
public import proofs.«01_k».proof.Proof.Gen.Reference13Ideal.Run
public import proofs.«01_k».proof.Proof.Gen.Kernel14
public import proofs.«01_k».proof.Proof.Gen.Kernel14Ideal
public import proofs.«01_k».proof.Proof.Gen.Kernel14.Skeleton
public import proofs.«01_k».proof.Proof.Gen.Kernel14Ideal.Skeleton
public import proofs.«01_k».proof.Proof.Gen.Kernel14.Launch
public import proofs.«01_k».proof.Proof.Gen.Kernel14Ideal.Launch
public import proofs.«01_k».proof.Proof.Gen.Kernel14.Points
public import proofs.«01_k».proof.Proof.Gen.Kernel14Ideal.Points
public import proofs.«01_k».proof.Proof.Gen.Kernel14.Frame
public import proofs.«01_k».proof.Proof.Gen.Kernel14Ideal.Frame
public import proofs.«01_k».proof.Proof.Gen.Reference14Ideal
public import proofs.«01_k».proof.Proof.Gen.Reference14Ideal.Run
public import proofs.«01_k».proof.Proof.Gen.Kernel15
public import proofs.«01_k».proof.Proof.Gen.Kernel15Ideal
public import proofs.«01_k».proof.Proof.Gen.Kernel15.Skeleton
public import proofs.«01_k».proof.Proof.Gen.Kernel15Ideal.Skeleton
public import proofs.«01_k».proof.Proof.Gen.Kernel15.Launch
public import proofs.«01_k».proof.Proof.Gen.Kernel15Ideal.Launch
public import proofs.«01_k».proof.Proof.Gen.Kernel15.Points
public import proofs.«01_k».proof.Proof.Gen.Kernel15Ideal.Points
public import proofs.«01_k».proof.Proof.Gen.Kernel15.Frame
public import proofs.«01_k».proof.Proof.Gen.Kernel15Ideal.Frame
public import proofs.«01_k».proof.Proof.Gen.Reference15Ideal
public import proofs.«01_k».proof.Proof.Gen.Reference15Ideal.Run
public import proofs.«01_k».proof.Proof.Gen.Kernel16
public import proofs.«01_k».proof.Proof.Gen.Kernel16Ideal
public import proofs.«01_k».proof.Proof.Gen.Kernel16.Skeleton
public import proofs.«01_k».proof.Proof.Gen.Kernel16Ideal.Skeleton
public import proofs.«01_k».proof.Proof.Gen.Kernel16.Launch
public import proofs.«01_k».proof.Proof.Gen.Kernel16Ideal.Launch
public import proofs.«01_k».proof.Proof.Gen.Kernel16.Points
public import proofs.«01_k».proof.Proof.Gen.Kernel16Ideal.Points
public import proofs.«01_k».proof.Proof.Gen.Kernel16.Frame
public import proofs.«01_k».proof.Proof.Gen.Kernel16Ideal.Frame
public import proofs.«01_k».proof.Proof.Gen.Reference16Ideal
public import proofs.«01_k».proof.Proof.Gen.Reference16Ideal.Run
public import proofs.«01_k».proof.Proof.Gen.Kernel23
public import proofs.«01_k».proof.Proof.Gen.Kernel23Ideal
public import proofs.«01_k».proof.Proof.Gen.Kernel23.Skeleton
public import proofs.«01_k».proof.Proof.Gen.Kernel23Ideal.Skeleton
public import proofs.«01_k».proof.Proof.Gen.Kernel23.Launch
public import proofs.«01_k».proof.Proof.Gen.Kernel23Ideal.Launch
public import proofs.«01_k».proof.Proof.Gen.Kernel23.Points
public import proofs.«01_k».proof.Proof.Gen.Kernel23Ideal.Points
public import proofs.«01_k».proof.Proof.Gen.Kernel23.Frame
public import proofs.«01_k».proof.Proof.Gen.Kernel23Ideal.Frame
public import proofs.«01_k».proof.Proof.Gen.Reference23Ideal
public import proofs.«01_k».proof.Proof.Gen.Kernel23Ideal.Value
public import proofs.«01_k».proof.Proof.Gen.Reference23Ideal.Run
public import proofs.«01_k».proof.Proof.Gen.Kernel24
public import proofs.«01_k».proof.Proof.Gen.Kernel24Ideal
public import proofs.«01_k».proof.Proof.Gen.Kernel24.Skeleton
public import proofs.«01_k».proof.Proof.Gen.Kernel24Ideal.Skeleton
public import proofs.«01_k».proof.Proof.Gen.Kernel24.Launch
public import proofs.«01_k».proof.Proof.Gen.Kernel24Ideal.Launch
public import proofs.«01_k».proof.Proof.Gen.Kernel24.Points
public import proofs.«01_k».proof.Proof.Gen.Kernel24Ideal.Points
public import proofs.«01_k».proof.Proof.Gen.Kernel24.Frame
public import proofs.«01_k».proof.Proof.Gen.Kernel24Ideal.Frame
public import proofs.«01_k».proof.Proof.Gen.Reference24Ideal
public import proofs.«01_k».proof.Proof.Gen.Reference24Ideal.Run
public import proofs.«01_k».proof.Proof.Gen.Kernel25
public import proofs.«01_k».proof.Proof.Gen.Kernel25Ideal
public import proofs.«01_k».proof.Proof.Gen.Kernel25.Skeleton
public import proofs.«01_k».proof.Proof.Gen.Kernel25Ideal.Skeleton
public import proofs.«01_k».proof.Proof.Gen.Kernel25.Launch
public import proofs.«01_k».proof.Proof.Gen.Kernel25Ideal.Launch
public import proofs.«01_k».proof.Proof.Gen.Kernel25.Points
public import proofs.«01_k».proof.Proof.Gen.Kernel25Ideal.Points
public import proofs.«01_k».proof.Proof.Gen.Kernel25.Frame
public import proofs.«01_k».proof.Proof.Gen.Kernel25Ideal.Frame
public import proofs.«01_k».proof.Proof.Gen.Reference25Ideal
public import proofs.«01_k».proof.Proof.Gen.Reference25Ideal.Run
public import proofs.«01_k».proof.Proof.Gen.Kernel26
public import proofs.«01_k».proof.Proof.Gen.Kernel26Ideal
public import proofs.«01_k».proof.Proof.Gen.Kernel26.Skeleton
public import proofs.«01_k».proof.Proof.Gen.Kernel26Ideal.Skeleton
public import proofs.«01_k».proof.Proof.Gen.Kernel26.Launch
public import proofs.«01_k».proof.Proof.Gen.Kernel26Ideal.Launch
public import proofs.«01_k».proof.Proof.Gen.Kernel26.Points
public import proofs.«01_k».proof.Proof.Gen.Kernel26Ideal.Points
public import proofs.«01_k».proof.Proof.Gen.Kernel26.Frame
public import proofs.«01_k».proof.Proof.Gen.Kernel26Ideal.Frame
public import proofs.«01_k».proof.Proof.Gen.Reference26Ideal
public import proofs.«01_k».proof.Proof.Gen.Reference26Ideal.Run
public import proofs.«01_k».proof.Proof.Values
public import proofs.«01_k».proof.Proof.RowsWritten
public import proofs.«01_k».proof.Proof.DownDx
public import proofs.«01_k».proof.Proof.DownDw
public import proofs.«01_k».proof.Proof.UpDx
public import proofs.«01_k».proof.Proof.UpDw
public import proofs.«01_k».proof.Proof.OutDx
public import proofs.«01_k».proof.Proof.OutDw
public import proofs.«01_k».proof.Proof.InDx
public import proofs.«01_k».proof.Proof.InDw
public import proofs.«01_k».proof.Proof.In0Dx
public import proofs.«01_k».proof.Proof.In0Dw
public import proofs.«01_k».proof.Proof.DownFwd
public import proofs.«01_k».proof.Proof.OutFwd
public import proofs.«01_k».proof.Proof.NormUp
public import proofs.«01_k».proof.Proof.NormIn1
public import proofs.«01_k».proof.Proof.NormIn0
public import proofs.«01_k».proof.Proof.AdamRows
public import proofs.«01_k».proof.Proof.Halves1
public import proofs.«01_k».proof.Proof.Halves2
public import proofs.«01_k».proof.Proof.Halves3
public import Idealize.ShloMosaic.Lib.Claim
public import Idealize.ShloMosaic.Adequacy
public import Idealize.ShloMosaic.Init

@[expose] public section

noncomputable section

namespace Cert.Proof

open Idealize.ShloMosaic Idealize.SL.Sem Cert.Kernel

/-- Over the reals the kernel's four results are the reference's: both are the cotangents of the arguments' data. -/
theorem algebraic : Cert.algebraic_KernelIdeal_ReferenceIdeal := by
  intro m g m' g' _ hagree
  refine ⟨_, _, _, _, Cert.KernelIdeal.Gen.run_value m g, ?_⟩
  refine (θ_run _ _ _).mono (fun r h c => ?_) (Cert.ReferenceIdeal.Value.run_value m' g')
  obtain ⟨h1, h2, h3, h4, h5⟩ := h c
  have e : Cert.ReferenceIdeal.Value.K m' c = Cert.KernelIdeal.Gen.J m c :=
    congrArg₂ Cert.Ret.data (hagree c).1 (hagree c).2
  rw [e] at h1 h2 h3 h4
  exact ⟨h1, h2, h3, h4, h5⟩

/-- The reference leaves its arguments unchanged; it declares no semaphore. -/
theorem quiet : Cert.quiescent_ReferenceIdeal := fun m ρ _ =>
  (θ_run Cert.ReferenceIdeal.defs _ _).mono (fun r h => ⟨fun c => (h c).2.2.2.2,
      Idealize.ShloMosaic.sem_eq_zero_of_no_sems (by decide) r.2⟩)
    (Cert.ReferenceIdeal.Value.run_value m ρ)

/-! The further programs: both sides of each leave one function of the arguments. -/

theorem algebraic2 : Cert.algebraic_Kernel2Ideal_Reference2Ideal := by
  intro m g m' g' _ hagree
  refine ⟨_, Cert.Kernel2Ideal.Gen.run_value m g, ?_⟩
  refine (θ_run _ _ _).mono (fun r h c => ?_) (Cert.Reference2Ideal.Value.run_value m' g')
  refine ⟨(h c).1.trans ?_, (h c).2⟩
  rw [(hagree c).1, (hagree c).2]

theorem quiet2 : Cert.quiescent_Reference2Ideal := fun m ρ _ =>
  (θ_run Cert.Reference2Ideal.defs _ _).mono (fun r h => ⟨fun c => (h c).2,
      Idealize.ShloMosaic.sem_eq_zero_of_no_sems (by decide) r.2⟩)
    (Cert.Reference2Ideal.Value.run_value m ρ)

theorem algebraic3 : Cert.algebraic_Kernel3Ideal_Reference3Ideal := by
  intro m g m' g' _ hagree
  refine ⟨_, Cert.Kernel3Ideal.Gen.run_value m g, ?_⟩
  refine (θ_run _ _ _).mono (fun r h c => ?_) (Cert.Reference3Ideal.Value.run_value m' g')
  refine ⟨(h c).1.trans ?_, (h c).2⟩
  rw [(hagree c).1, (hagree c).2]

theorem quiet3 : Cert.quiescent_Reference3Ideal := fun m ρ _ =>
  (θ_run Cert.Reference3Ideal.defs _ _).mono (fun r h => ⟨fun c => (h c).2,
      Idealize.ShloMosaic.sem_eq_zero_of_no_sems (by decide) r.2⟩)
    (Cert.Reference3Ideal.Value.run_value m ρ)

theorem algebraic4 : Cert.algebraic_Kernel4Ideal_Reference4Ideal := by
  intro m g m' g' _ hagree
  refine ⟨_, Cert.Kernel4Ideal.Gen.run_value m g, ?_⟩
  refine (θ_run _ _ _).mono (fun r h c => ?_) (Cert.Reference4Ideal.Value.run_value m' g')
  refine ⟨(h c).1.trans ?_, (h c).2⟩
  rw [(hagree c).1, (hagree c).2]

theorem quiet4 : Cert.quiescent_Reference4Ideal := fun m ρ _ =>
  (θ_run Cert.Reference4Ideal.defs _ _).mono (fun r h => ⟨fun c => (h c).2,
      Idealize.ShloMosaic.sem_eq_zero_of_no_sems (by decide) r.2⟩)
    (Cert.Reference4Ideal.Value.run_value m ρ)

theorem algebraic5 : Cert.algebraic_Kernel5Ideal_Reference5Ideal := by
  intro m g m' g' _ hagree
  refine ⟨_, Cert.Kernel5Ideal.Gen.run_value m g, ?_⟩
  refine (θ_run _ _ _).mono (fun r h c => ?_) (Cert.Reference5Ideal.Value.run_value m' g')
  refine ⟨(h c).1.trans ?_, (h c).2⟩
  rw [(hagree c).1, (hagree c).2]

theorem quiet5 : Cert.quiescent_Reference5Ideal := fun m ρ _ =>
  (θ_run Cert.Reference5Ideal.defs _ _).mono (fun r h => ⟨fun c => (h c).2,
      Idealize.ShloMosaic.sem_eq_zero_of_no_sems (by decide) r.2⟩)
    (Cert.Reference5Ideal.Value.run_value m ρ)

theorem algebraic6 : Cert.algebraic_Kernel6Ideal_Reference6Ideal := by
  intro m g m' g' _ hagree
  refine ⟨_, Cert.Kernel6Ideal.Gen.run_value m g, ?_⟩
  refine (θ_run _ _ _).mono (fun r h c => ?_) (Cert.Reference6Ideal.Value.run_value m' g')
  refine ⟨(h c).1.trans ?_, (h c).2⟩
  rw [(hagree c).1, (hagree c).2]

theorem quiet6 : Cert.quiescent_Reference6Ideal := fun m ρ _ =>
  (θ_run Cert.Reference6Ideal.defs _ _).mono (fun r h => ⟨fun c => (h c).2,
      Idealize.ShloMosaic.sem_eq_zero_of_no_sems (by decide) r.2⟩)
    (Cert.Reference6Ideal.Value.run_value m ρ)

theorem algebraic7 : Cert.algebraic_Kernel7Ideal_Reference7Ideal := by
  intro m g m' g' _ hagree
  refine ⟨_, Cert.Kernel7Ideal.Gen.run_value m g, ?_⟩
  refine (θ_run _ _ _).mono (fun r h c => ?_) (Cert.Reference7Ideal.Value.run_value m' g')
  refine ⟨(h c).1.trans ?_, (h c).2⟩
  rw [(hagree c).1, (hagree c).2]

theorem quiet7 : Cert.quiescent_Reference7Ideal := fun m ρ _ =>
  (θ_run Cert.Reference7Ideal.defs _ _).mono (fun r h => ⟨fun c => (h c).2,
      Idealize.ShloMosaic.sem_eq_zero_of_no_sems (by decide) r.2⟩)
    (Cert.Reference7Ideal.Value.run_value m ρ)

theorem algebraic8 : Cert.algebraic_Kernel8Ideal_Reference8Ideal := by
  intro m g m' g' _ hagree
  refine ⟨_, Cert.Kernel8Ideal.Gen.run_value m g, ?_⟩
  refine (θ_run _ _ _).mono (fun r h c => ?_) (Cert.Reference8Ideal.Value.run_value m' g')
  refine ⟨(h c).1.trans ?_, (h c).2⟩
  rw [(hagree c).1, (hagree c).2]

theorem quiet8 : Cert.quiescent_Reference8Ideal := fun m ρ _ =>
  (θ_run Cert.Reference8Ideal.defs _ _).mono (fun r h => ⟨fun c => (h c).2,
      Idealize.ShloMosaic.sem_eq_zero_of_no_sems (by decide) r.2⟩)
    (Cert.Reference8Ideal.Value.run_value m ρ)

theorem algebraic9 : Cert.algebraic_Kernel9Ideal_Reference9Ideal := by
  intro m g m' g' _ hagree
  refine ⟨_, Cert.Kernel9Ideal.Gen.run_value m g, ?_⟩
  refine (θ_run _ _ _).mono (fun r h c => ?_) (Cert.Reference9Ideal.Value.run_value m' g')
  refine ⟨(h c).1.trans ?_, (h c).2⟩
  rw [(hagree c).1, (hagree c).2]

theorem quiet9 : Cert.quiescent_Reference9Ideal := fun m ρ _ =>
  (θ_run Cert.Reference9Ideal.defs _ _).mono (fun r h => ⟨fun c => (h c).2,
      Idealize.ShloMosaic.sem_eq_zero_of_no_sems (by decide) r.2⟩)
    (Cert.Reference9Ideal.Value.run_value m ρ)

theorem algebraic10 : Cert.algebraic_Kernel10Ideal_Reference10Ideal := by
  intro m g m' g' _ hagree
  refine ⟨_, Cert.Kernel10Ideal.Gen.run_value m g, ?_⟩
  refine (θ_run _ _ _).mono (fun r h c => ?_) (Cert.Reference10Ideal.Value.run_value m' g')
  refine ⟨(h c).1.trans ?_, (h c).2⟩
  rw [(hagree c).1, (hagree c).2.1, (hagree c).2.2]

theorem quiet10 : Cert.quiescent_Reference10Ideal := fun m ρ _ =>
  (θ_run Cert.Reference10Ideal.defs _ _).mono (fun r h => ⟨fun c => (h c).2,
      Idealize.ShloMosaic.sem_eq_zero_of_no_sems (by decide) r.2⟩)
    (Cert.Reference10Ideal.Value.run_value m ρ)

theorem algebraic11 : Cert.algebraic_Kernel11Ideal_Reference11Ideal_on_rows_written := by
  intro m g m' g' _ hagree
  refine ⟨fun c => Cert.Prod.arrH (K := 4096) (N := 1024) (T := 4104) (n := 512) (k := 2048) (by decide) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)),
    (θ_run _ _ _).mono (fun r h c => ⟨fun i hi => (h c).1 i (Cert.On_rows_written.row_lt hi), (h c).2⟩) (Cert.Kernel11Ideal.Gen.run_value m g), ?_⟩
  refine (θ_run _ _ _).mono (fun r h c => ?_) (Cert.Reference11Ideal.Value.run_value m' g')
  refine ⟨fun i hi => ((h c).1 i (Cert.On_rows_written.row_lt hi)).trans ?_, (h c).2⟩
  rw [(hagree c).1, (hagree c).2]

theorem quiet11 : Cert.quiescent_Reference11Ideal := fun m ρ _ =>
  (θ_run Cert.Reference11Ideal.defs _ _).mono (fun r h => ⟨fun c => (h c).2,
      Idealize.ShloMosaic.sem_eq_zero_of_no_sems (by decide) r.2⟩)
    (Cert.Reference11Ideal.Value.run_value m ρ)

theorem algebraic12 : Cert.algebraic_Kernel12Ideal_Reference12Ideal := by
  intro m g m' g' _ hagree
  refine ⟨_, Cert.Kernel12Ideal.Gen.run_value m g, ?_⟩
  refine (θ_run _ _ _).mono (fun r h c => ?_) (Cert.Reference12Ideal.Value.run_value m' g')
  refine ⟨(h c).1.trans ?_, (h c).2⟩
  rw [(hagree c).1, (hagree c).2.1, (hagree c).2.2]

theorem quiet12 : Cert.quiescent_Reference12Ideal := fun m ρ _ =>
  (θ_run Cert.Reference12Ideal.defs _ _).mono (fun r h => ⟨fun c => (h c).2,
      Idealize.ShloMosaic.sem_eq_zero_of_no_sems (by decide) r.2⟩)
    (Cert.Reference12Ideal.Value.run_value m ρ)

theorem algebraic13 : Cert.algebraic_Kernel13Ideal_Reference13Ideal := by
  intro m g m' g' _ hagree
  refine ⟨_, Cert.Kernel13Ideal.Gen.run_value m g, ?_⟩
  refine (θ_run _ _ _).mono (fun r h c => ?_) (Cert.Reference13Ideal.Value.run_value m' g')
  refine ⟨(h c).1.trans ?_, (h c).2⟩
  rw [(hagree c).1, (hagree c).2.1, (hagree c).2.2]

theorem quiet13 : Cert.quiescent_Reference13Ideal := fun m ρ _ =>
  (θ_run Cert.Reference13Ideal.defs _ _).mono (fun r h => ⟨fun c => (h c).2,
      Idealize.ShloMosaic.sem_eq_zero_of_no_sems (by decide) r.2⟩)
    (Cert.Reference13Ideal.Value.run_value m ρ)

theorem algebraic14 : Cert.algebraic_Kernel14Ideal_Reference14Ideal := by
  intro m g m' g' _ hagree
  refine ⟨_, _, Cert.Kernel14Ideal.Gen.run_value m g, ?_⟩
  refine (θ_run _ _ _).mono (fun r h c => ?_) (Cert.Reference14Ideal.Value.run_value m' g')
  refine ⟨(h c).1.trans ?_, (h c).2.1.trans ?_, (h c).2.2⟩
  · rw [(hagree c).1, (hagree c).2.1, (hagree c).2.2]
  · rw [(hagree c).1, (hagree c).2.1]

theorem quiet14 : Cert.quiescent_Reference14Ideal := fun m ρ _ =>
  (θ_run Cert.Reference14Ideal.defs _ _).mono (fun r h => ⟨fun c => (h c).2.2,
      Idealize.ShloMosaic.sem_eq_zero_of_no_sems (by decide) r.2⟩)
    (Cert.Reference14Ideal.Value.run_value m ρ)

theorem algebraic15 : Cert.algebraic_Kernel15Ideal_Reference15Ideal := by
  intro m g m' g' _ hagree
  refine ⟨_, _, Cert.Kernel15Ideal.Gen.run_value m g, ?_⟩
  refine (θ_run _ _ _).mono (fun r h c => ?_) (Cert.Reference15Ideal.Value.run_value m' g')
  refine ⟨(h c).1.trans ?_, (h c).2.1.trans ?_, (h c).2.2⟩
  · rw [(hagree c).1, (hagree c).2.1, (hagree c).2.2]
  · rw [(hagree c).1, (hagree c).2.1]

theorem quiet15 : Cert.quiescent_Reference15Ideal := fun m ρ _ =>
  (θ_run Cert.Reference15Ideal.defs _ _).mono (fun r h => ⟨fun c => (h c).2.2,
      Idealize.ShloMosaic.sem_eq_zero_of_no_sems (by decide) r.2⟩)
    (Cert.Reference15Ideal.Value.run_value m ρ)

theorem algebraic16 : Cert.algebraic_Kernel16Ideal_Reference16Ideal := by
  intro m g m' g' _ hagree
  refine ⟨_, _, Cert.Kernel16Ideal.Gen.run_value m g, ?_⟩
  refine (θ_run _ _ _).mono (fun r h c => ?_) (Cert.Reference16Ideal.Value.run_value m' g')
  refine ⟨(h c).1.trans ?_, (h c).2.1.trans ?_, (h c).2.2⟩
  · rw [(hagree c).1, (hagree c).2.1, (hagree c).2.2]
  · rw [(hagree c).1, (hagree c).2.1]

theorem quiet16 : Cert.quiescent_Reference16Ideal := fun m ρ _ =>
  (θ_run Cert.Reference16Ideal.defs _ _).mono (fun r h => ⟨fun c => (h c).2.2,
      Idealize.ShloMosaic.sem_eq_zero_of_no_sems (by decide) r.2⟩)
    (Cert.Reference16Ideal.Value.run_value m ρ)

theorem algebraic23 : Cert.algebraic_Kernel23Ideal_Reference23Ideal := by
  intro m g m' g' _ hagree
  refine ⟨_, _, _, _, Cert.Kernel23Ideal.Gen.run_value m g, ?_⟩
  refine (θ_run _ _ _).mono (fun r h c => ?_) (Cert.Reference23Ideal.Value.run_value m' g')
  refine ⟨(h c).1.trans ?_, (h c).2.1.trans ?_, (h c).2.2.1.trans ?_, (h c).2.2.2.1.trans ?_, (h c).2.2.2.2⟩
  · rw [(hagree c).2.1]
  · rw [(hagree c).1, (hagree c).2.1, (hagree c).2.2.1, (hagree c).2.2.2]
  · rw [(hagree c).2.1, (hagree c).2.2.1]
  · rw [(hagree c).2.1, (hagree c).2.2.2]

theorem quiet23 : Cert.quiescent_Reference23Ideal := fun m ρ _ =>
  (θ_run Cert.Reference23Ideal.defs _ _).mono (fun r h => ⟨fun c => (h c).2.2.2.2,
      Idealize.ShloMosaic.sem_eq_zero_of_no_sems (by decide) r.2⟩)
    (Cert.Reference23Ideal.Value.run_value m ρ)

theorem algebraic24 : Cert.algebraic_Kernel24Ideal_Reference24Ideal := by
  intro m g m' g' _ hagree
  refine ⟨_, _, _, _, Cert.Kernel24Ideal.Gen.run_value m g, ?_⟩
  refine (θ_run _ _ _).mono (fun r h c => ?_) (Cert.Reference24Ideal.Value.run_value m' g')
  refine ⟨(h c).1.trans ?_, (h c).2.1.trans ?_, (h c).2.2.1.trans ?_, (h c).2.2.2.1.trans ?_, (h c).2.2.2.2⟩
  · rw [(hagree c).1, (hagree c).2.2.2.2.1, (hagree c).2.2.2.2.2]
    rfl
  · rw [(hagree c).1, (hagree c).2.1, (hagree c).2.2.1, (hagree c).2.2.2.1, (hagree c).2.2.2.2.1, (hagree c).2.2.2.2.2]
    rfl
  · rw [(hagree c).1, (hagree c).2.2.1, (hagree c).2.2.2.2.1, (hagree c).2.2.2.2.2]
    rfl
  · rw [(hagree c).1, (hagree c).2.2.2.1, (hagree c).2.2.2.2.1, (hagree c).2.2.2.2.2]
    rfl

theorem quiet24 : Cert.quiescent_Reference24Ideal := fun m ρ _ =>
  (θ_run Cert.Reference24Ideal.defs _ _).mono (fun r h => ⟨fun c => (h c).2.2.2.2,
      Idealize.ShloMosaic.sem_eq_zero_of_no_sems (by decide) r.2⟩)
    (Cert.Reference24Ideal.Value.run_value m ρ)

theorem algebraic25 : Cert.algebraic_Kernel25Ideal_Reference25Ideal := by
  intro m g m' g' _ hagree
  refine ⟨_, _, _, _, Cert.Kernel25Ideal.Gen.run_value m g, ?_⟩
  refine (θ_run _ _ _).mono (fun r h c => ?_) (Cert.Reference25Ideal.Value.run_value m' g')
  refine ⟨(h c).1.trans ?_, (h c).2.1.trans ?_, (h c).2.2.1.trans ?_, (h c).2.2.2.1.trans ?_, (h c).2.2.2.2⟩
  · rw [(hagree c).1, (hagree c).2.2.2.2.1, (hagree c).2.2.2.2.2]
    rfl
  · rw [(hagree c).1, (hagree c).2.1, (hagree c).2.2.1, (hagree c).2.2.2.1, (hagree c).2.2.2.2.1, (hagree c).2.2.2.2.2]
    rfl
  · rw [(hagree c).1, (hagree c).2.2.1, (hagree c).2.2.2.2.1, (hagree c).2.2.2.2.2]
    rfl
  · rw [(hagree c).1, (hagree c).2.2.2.1, (hagree c).2.2.2.2.1, (hagree c).2.2.2.2.2]
    rfl

theorem quiet25 : Cert.quiescent_Reference25Ideal := fun m ρ _ =>
  (θ_run Cert.Reference25Ideal.defs _ _).mono (fun r h => ⟨fun c => (h c).2.2.2.2,
      Idealize.ShloMosaic.sem_eq_zero_of_no_sems (by decide) r.2⟩)
    (Cert.Reference25Ideal.Value.run_value m ρ)

theorem algebraic26 : Cert.algebraic_Kernel26Ideal_Reference26Ideal := by
  intro m g m' g' _ hagree
  refine ⟨_, _, _, _, Cert.Kernel26Ideal.Gen.run_value m g, ?_⟩
  refine (θ_run _ _ _).mono (fun r h c => ?_) (Cert.Reference26Ideal.Value.run_value m' g')
  refine ⟨(h c).1.trans ?_, (h c).2.1.trans ?_, (h c).2.2.1.trans ?_, (h c).2.2.2.1.trans ?_, (h c).2.2.2.2⟩
  · rw [(hagree c).1, (hagree c).2.2.2.2.1, (hagree c).2.2.2.2.2]
    rfl
  · rw [(hagree c).1, (hagree c).2.1, (hagree c).2.2.1, (hagree c).2.2.2.1, (hagree c).2.2.2.2.1, (hagree c).2.2.2.2.2]
    rfl
  · rw [(hagree c).1, (hagree c).2.2.1, (hagree c).2.2.2.2.1, (hagree c).2.2.2.2.2]
    rfl
  · rw [(hagree c).1, (hagree c).2.2.2.1, (hagree c).2.2.2.2.1, (hagree c).2.2.2.2.2]
    rfl

theorem quiet26 : Cert.quiescent_Reference26Ideal := fun m ρ _ =>
  (θ_run Cert.Reference26Ideal.defs _ _).mono (fun r h => ⟨fun c => (h c).2.2.2.2,
      Idealize.ShloMosaic.sem_eq_zero_of_no_sems (by decide) r.2⟩)
    (Cert.Reference26Ideal.Value.run_value m ρ)

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts, Cert.Kernel12.Gen.facts, Cert.Kernel12Ideal.Gen.facts, Cert.Reference12Ideal.Gen.facts, Cert.Kernel13.Gen.facts, Cert.Kernel13Ideal.Gen.facts, Cert.Reference13Ideal.Gen.facts, Cert.Kernel14.Gen.facts, Cert.Kernel14Ideal.Gen.facts, Cert.Reference14Ideal.Gen.facts, Cert.Kernel15.Gen.facts, Cert.Kernel15Ideal.Gen.facts, Cert.Reference15Ideal.Gen.facts, Cert.Kernel16.Gen.facts, Cert.Kernel16Ideal.Gen.facts, Cert.Reference16Ideal.Gen.facts, Cert.Kernel23.Gen.facts, Cert.Kernel23Ideal.Gen.facts, Cert.Reference23Ideal.Gen.facts, Cert.Kernel24.Gen.facts, Cert.Kernel24Ideal.Gen.facts, Cert.Reference24Ideal.Gen.facts, Cert.Kernel25.Gen.facts, Cert.Kernel25Ideal.Gen.facts, Cert.Reference25Ideal.Gen.facts, Cert.Kernel26.Gen.facts, Cert.Kernel26Ideal.Gen.facts, Cert.Reference26Ideal.Gen.facts, Cert.On_rows_written.facts,
  fun m ρ _ => Cert.Kernel.Gen.frame m ρ, fun m ρ _ => Cert.KernelIdeal.Gen.frame m ρ, quiet,
  fun m ρ _ => Cert.Kernel2.Gen.frame m ρ, fun m ρ _ => Cert.Kernel2Ideal.Gen.frame m ρ, quiet2,
  fun m ρ _ => Cert.Kernel3.Gen.frame m ρ, fun m ρ _ => Cert.Kernel3Ideal.Gen.frame m ρ, quiet3,
  fun m ρ _ => Cert.Kernel4.Gen.frame m ρ, fun m ρ _ => Cert.Kernel4Ideal.Gen.frame m ρ, quiet4,
  fun m ρ _ => Cert.Kernel5.Gen.frame m ρ, fun m ρ _ => Cert.Kernel5Ideal.Gen.frame m ρ, quiet5,
  fun m ρ _ => Cert.Kernel6.Gen.frame m ρ, fun m ρ _ => Cert.Kernel6Ideal.Gen.frame m ρ, quiet6,
  fun m ρ _ => Cert.Kernel7.Gen.frame m ρ, fun m ρ _ => Cert.Kernel7Ideal.Gen.frame m ρ, quiet7,
  fun m ρ _ => Cert.Kernel8.Gen.frame m ρ, fun m ρ _ => Cert.Kernel8Ideal.Gen.frame m ρ, quiet8,
  fun m ρ _ => Cert.Kernel9.Gen.frame m ρ, fun m ρ _ => Cert.Kernel9Ideal.Gen.frame m ρ, quiet9,
  fun m ρ _ => Cert.Kernel10.Gen.frame m ρ, fun m ρ _ => Cert.Kernel10Ideal.Gen.frame m ρ, quiet10,
  fun m ρ _ => Cert.Kernel11.Gen.frame m ρ, fun m ρ _ => Cert.Kernel11Ideal.Gen.frame m ρ, quiet11,
  fun m ρ _ => Cert.Kernel12.Gen.frame m ρ, fun m ρ _ => Cert.Kernel12Ideal.Gen.frame m ρ, quiet12,
  fun m ρ _ => Cert.Kernel13.Gen.frame m ρ, fun m ρ _ => Cert.Kernel13Ideal.Gen.frame m ρ, quiet13,
  fun m ρ _ => Cert.Kernel14.Gen.frame m ρ, fun m ρ _ => Cert.Kernel14Ideal.Gen.frame m ρ, quiet14,
  fun m ρ _ => Cert.Kernel15.Gen.frame m ρ, fun m ρ _ => Cert.Kernel15Ideal.Gen.frame m ρ, quiet15,
  fun m ρ _ => Cert.Kernel16.Gen.frame m ρ, fun m ρ _ => Cert.Kernel16Ideal.Gen.frame m ρ, quiet16,
  fun m ρ _ => Cert.Kernel23.Gen.frame m ρ, fun m ρ _ => Cert.Kernel23Ideal.Gen.frame m ρ, quiet23,
  fun m ρ _ => Cert.Kernel24.Gen.frame m ρ trivial, fun m ρ _ => Cert.Kernel24Ideal.Gen.frame m ρ trivial, quiet24,
  fun m ρ _ => Cert.Kernel25.Gen.frame m ρ trivial, fun m ρ _ => Cert.Kernel25Ideal.Gen.frame m ρ trivial, quiet25,
  fun m ρ _ => Cert.Kernel26.Gen.frame m ρ trivial, fun m ρ _ => Cert.Kernel26Ideal.Gen.frame m ρ trivial, quiet26,
  trivial, algebraic,
  trivial, algebraic2,
  trivial, algebraic3,
  trivial, algebraic4,
  trivial, algebraic5,
  trivial, algebraic6,
  trivial, algebraic7,
  trivial, algebraic8,
  trivial, algebraic9,
  trivial, algebraic10,
  trivial, algebraic11,
  trivial, algebraic12,
  trivial, algebraic13,
  trivial, algebraic14,
  trivial, algebraic15,
  trivial, algebraic16,
  trivial, algebraic23,
  trivial, algebraic24,
  trivial, algebraic25,
  trivial, algebraic26⟩

end Cert.Proof

end
